-- ==== Defs.lean ====
def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_RLossIdeal (m : (ℓ : Loc Cert.RLossIdeal.nD Cert.RLossIdeal.τ Cert.RLossIdeal.sig) → Buf (Elt Ideal) ℓ) : Prop :=
  True

def Pre_KFfn (m : (ℓ : Loc Cert.KFfn.nD Cert.KFfn.τ Cert.KFfn.sig) → Buf (Elt Bits) ℓ) : Prop :=
  True

def Pre_KFfnIdeal (m : (ℓ : Loc Cert.KFfnIdeal.nD Cert.KFfnIdeal.τ Cert.KFfnIdeal.sig) → Buf (Elt Ideal) ℓ) : Prop :=
  True

def Pre_KFfnIdeal_finite_ffn [hPre_finite_ffn : Cert.Pre_finite_ffn.Facts] (m : (ℓ : Loc Cert.KFfnIdeal.nD Cert.KFfnIdeal.τ Cert.KFfnIdeal.sig) → Buf (Elt Ideal) ℓ) : Prop :=
  ∀ c : Dev Cert.KFfnIdeal.nD,
    (Cert.Pre_finite_ffn.fn (F := Ideal) (m ((c.tc : Thread Cert.KFfnIdeal.nD Cert.KFfnIdeal.τ).loc Cert.KFfnIdeal.main_arg0)) (m ((c.tc : Thread Cert.KFfnIdeal.nD Cert.KFfnIdeal.τ).loc Cert.KFfnIdeal.main_arg1)) (m ((c.tc : Thread Cert.KFfnIdeal.nD Cert.KFfnIdeal.τ).loc Cert.KFfnIdeal.main_arg2)) (m ((c.tc : Thread Cert.KFfnIdeal.nD Cert.KFfnIdeal.τ).loc Cert.KFfnIdeal.main_arg3)) (m ((c.tc : Thread Cert.KFfnIdeal.nD Cert.KFfnIdeal.τ).loc Cert.KFfnIdeal.main_arg4))) = (fun _ => 1#1)

def Pre_RFfnIdeal (m : (ℓ : Loc Cert.RFfnIdeal.nD Cert.RFfnIdeal.τ Cert.RFfnIdeal.sig) → Buf (Elt Ideal) ℓ) : Prop :=
  True

def Pre_RFfnIdeal_finite_ffn [hPre_finite_ffn : Cert.Pre_finite_ffn.Facts] (m : (ℓ : Loc Cert.RFfnIdeal.nD Cert.RFfnIdeal.τ Cert.RFfnIdeal.sig) → Buf (Elt Ideal) ℓ) : Prop :=
  ∀ c : Dev Cert.RFfnIdeal.nD,
    (Cert.Pre_finite_ffn.fn (F := Ideal) (m ((c.tc : Thread Cert.RFfnIdeal.nD Cert.RFfnIdeal.τ).loc Cert.RFfnIdeal.main_arg0)) (m ((c.tc : Thread Cert.RFfnIdeal.nD Cert.RFfnIdeal.τ).loc Cert.RFfnIdeal.main_arg1)) (m ((c.tc : Thread Cert.RFfnIdeal.nD Cert.RFfnIdeal.τ).loc Cert.RFfnIdeal.main_arg2)) (m ((c.tc : Thread Cert.RFfnIdeal.nD Cert.RFfnIdeal.τ).loc Cert.RFfnIdeal.main_arg3)) (m ((c.tc : Thread Cert.RFfnIdeal.nD Cert.RFfnIdeal.τ).loc Cert.RFfnIdeal.main_arg4))) = (fun _ => 1#1)

def Pre_KInNorm (m : (ℓ : Loc Cert.KInNorm.nD Cert.KInNorm.τ Cert.KInNorm.sig) → Buf (Elt Bits) ℓ) : Prop :=
  True

def Pre_KInNormIdeal (m : (ℓ : Loc Cert.KInNormIdeal.nD Cert.KInNormIdeal.τ Cert.KInNormIdeal.sig) → Buf (Elt Ideal) ℓ) : Prop :=
  True

def Pre_RInNormIdeal (m : (ℓ : Loc Cert.RInNormIdeal.nD Cert.RInNormIdeal.τ Cert.RInNormIdeal.sig) → Buf (Elt Ideal) ℓ) : Prop :=
  True

def Pre_KInNorm4 (m : (ℓ : Loc Cert.KInNorm4.nD Cert.KInNorm4.τ Cert.KInNorm4.sig) → Buf (Elt Bits) ℓ) : Prop :=
  True

def Pre_KInNorm4Ideal (m : (ℓ : Loc Cert.KInNorm4Ideal.nD Cert.KInNorm4Ideal.τ Cert.KInNorm4Ideal.sig) → Buf (Elt Ideal) ℓ) : Prop :=
  True

def Pre_RInNorm4Ideal (m : (ℓ : Loc Cert.RInNorm4Ideal.nD Cert.RInNorm4Ideal.τ Cert.RInNorm4Ideal.sig) → Buf (Elt Ideal) ℓ) : Prop :=
  True

def Pre_KMerge (m : (ℓ : Loc Cert.KMerge.nD Cert.KMerge.τ Cert.KMerge.sig) → Buf (Elt Bits) ℓ) : Prop :=
  True

def Pre_KMergeIdeal (m : (ℓ : Loc Cert.KMergeIdeal.nD Cert.KMergeIdeal.τ Cert.KMergeIdeal.sig) → Buf (Elt Ideal) ℓ) : Prop :=
  True

def Pre_RMergeIdeal (m : (ℓ : Loc Cert.RMergeIdeal.nD Cert.RMergeIdeal.τ Cert.RMergeIdeal.sig) → Buf (Elt Ideal) ℓ) : Prop :=
  True

def Pre_KConv (m : (ℓ : Loc Cert.KConv.nD Cert.KConv.τ Cert.KConv.sig) → Buf (Elt Bits) ℓ) : Prop :=
  True

def Pre_KConvIdeal (m : (ℓ : Loc Cert.KConvIdeal.nD Cert.KConvIdeal.τ Cert.KConvIdeal.sig) → Buf (Elt Ideal) ℓ) : Prop :=
  True

def Pre_RConvIdeal (m : (ℓ : Loc Cert.RConvIdeal.nD Cert.RConvIdeal.τ Cert.RConvIdeal.sig) → Buf (Elt Ideal) ℓ) : Prop :=
  True

def Pre_KBc (m : (ℓ : Loc Cert.KBc.nD Cert.KBc.τ Cert.KBc.sig) → Buf (Elt Bits) ℓ) : Prop :=
  True

def Pre_KBcIdeal (m : (ℓ : Loc Cert.KBcIdeal.nD Cert.KBcIdeal.τ Cert.KBcIdeal.sig) → Buf (Elt Ideal) ℓ) : Prop :=
  True

def Pre_KBcIdeal_finite_bc [hPre_finite_bc : Cert.Pre_finite_bc.Facts] (m : (ℓ : Loc Cert.KBcIdeal.nD Cert.KBcIdeal.τ Cert.KBcIdeal.sig) → Buf (Elt Ideal) ℓ) : Prop :=
  ∀ c : Dev Cert.KBcIdeal.nD,
    (Cert.Pre_finite_bc.fn (F := Ideal) (m ((c.tc : Thread Cert.KBcIdeal.nD Cert.KBcIdeal.τ).loc Cert.KBcIdeal.main_arg0)) (m ((c.tc : Thread Cert.KBcIdeal.nD Cert.KBcIdeal.τ).loc Cert.KBcIdeal.main_arg1)) (m ((c.tc : Thread Cert.KBcIdeal.nD Cert.KBcIdeal.τ).loc Cert.KBcIdeal.main_arg2)) (m ((c.tc : Thread Cert.KBcIdeal.nD Cert.KBcIdeal.τ).loc Cert.KBcIdeal.main_arg3)) (m ((c.tc : Thread Cert.KBcIdeal.nD Cert.KBcIdeal.τ).loc Cert.KBcIdeal.main_arg4)) (m ((c.tc : Thread Cert.KBcIdeal.nD Cert.KBcIdeal.τ).loc Cert.KBcIdeal.main_arg5)) (m ((c.tc : Thread Cert.KBcIdeal.nD Cert.KBcIdeal.τ).loc Cert.KBcIdeal.main_arg6)) (m ((c.tc : Thread Cert.KBcIdeal.nD Cert.KBcIdeal.τ).loc Cert.KBcIdeal.main_arg7))).1 = (fun _ => 1#1)
    ∧ (Cert.Pre_finite_bc.fn (F := Ideal) (m ((c.tc : Thread Cert.KBcIdeal.nD Cert.KBcIdeal.τ).loc Cert.KBcIdeal.main_arg0)) (m ((c.tc : Thread Cert.KBcIdeal.nD Cert.KBcIdeal.τ).loc Cert.KBcIdeal.main_arg1)) (m ((c.tc : Thread Cert.KBcIdeal.nD Cert.KBcIdeal.τ).loc Cert.KBcIdeal.main_arg2)) (m ((c.tc : Thread Cert.KBcIdeal.nD Cert.KBcIdeal.τ).loc Cert.KBcIdeal.main_arg3)) (m ((c.tc : Thread Cert.KBcIdeal.nD Cert.KBcIdeal.τ).loc Cert.KBcIdeal.main_arg4)) (m ((c.tc : Thread Cert.KBcIdeal.nD Cert.KBcIdeal.τ).loc Cert.KBcIdeal.main_arg5)) (m ((c.tc : Thread Cert.KBcIdeal.nD Cert.KBcIdeal.τ).loc Cert.KBcIdeal.main_arg6)) (m ((c.tc : Thread Cert.KBcIdeal.nD Cert.KBcIdeal.τ).loc Cert.KBcIdeal.main_arg7))).2.1 = (fun _ => 1#1)
    ∧ (Cert.Pre_finite_bc.fn (F := Ideal) (m ((c.tc : Thread Cert.KBcIdeal.nD Cert.KBcIdeal.τ).loc Cert.KBcIdeal.main_arg0)) (m ((c.tc : Thread Cert.KBcIdeal.nD Cert.KBcIdeal.τ).loc Cert.KBcIdeal.main_arg1)) (m ((c.tc : Thread Cert.KBcIdeal.nD Cert.KBcIdeal.τ).loc Cert.KBcIdeal.main_arg2)) (m ((c.tc : Thread Cert.KBcIdeal.nD Cert.KBcIdeal.τ).loc Cert.KBcIdeal.main_arg3)) (m ((c.tc : Thread Cert.KBcIdeal.nD Cert.KBcIdeal.τ).loc Cert.KBcIdeal.main_arg4)) (m ((c.tc : Thread Cert.KBcIdeal.nD Cert.KBcIdeal.τ).loc Cert.KBcIdeal.main_arg5)) (m ((c.tc : Thread Cert.KBcIdeal.nD Cert.KBcIdeal.τ).loc Cert.KBcIdeal.main_arg6)) (m ((c.tc : Thread Cert.KBcIdeal.nD Cert.KBcIdeal.τ).loc Cert.KBcIdeal.main_arg7))).2.2.1 = (fun _ => 1#1)
    ∧ (Cert.Pre_finite_bc.fn (F := Ideal) (m ((c.tc : Thread Cert.KBcIdeal.nD Cert.KBcIdeal.τ).loc Cert.KBcIdeal.main_arg0)) (m ((c.tc : Thread Cert.KBcIdeal.nD Cert.KBcIdeal.τ).loc Cert.KBcIdeal.main_arg1)) (m ((c.tc : Thread Cert.KBcIdeal.nD Cert.KBcIdeal.τ).loc Cert.KBcIdeal.main_arg2)) (m ((c.tc : Thread Cert.KBcIdeal.nD Cert.KBcIdeal.τ).loc Cert.KBcIdeal.main_arg3)) (m ((c.tc : Thread Cert.KBcIdeal.nD Cert.KBcIdeal.τ).loc Cert.KBcIdeal.main_arg4)) (m ((c.tc : Thread Cert.KBcIdeal.nD Cert.KBcIdeal.τ).loc Cert.KBcIdeal.main_arg5)) (m ((c.tc : Thread Cert.KBcIdeal.nD Cert.KBcIdeal.τ).loc Cert.KBcIdeal.main_arg6)) (m ((c.tc : Thread Cert.KBcIdeal.nD Cert.KBcIdeal.τ).loc Cert.KBcIdeal.main_arg7))).2.2.2.1 = (fun _ => 1#1)
    ∧ (Cert.Pre_finite_bc.fn (F := Ideal) (m ((c.tc : Thread Cert.KBcIdeal.nD Cert.KBcIdeal.τ).loc Cert.KBcIdeal.main_arg0)) (m ((c.tc : Thread Cert.KBcIdeal.nD Cert.KBcIdeal.τ).loc Cert.KBcIdeal.main_arg1)) (m ((c.tc : Thread Cert.KBcIdeal.nD Cert.KBcIdeal.τ).loc Cert.KBcIdeal.main_arg2)) (m ((c.tc : Thread Cert.KBcIdeal.nD Cert.KBcIdeal.τ).loc Cert.KBcIdeal.main_arg3)) (m ((c.tc : Thread Cert.KBcIdeal.nD Cert.KBcIdeal.τ).loc Cert.KBcIdeal.main_arg4)) (m ((c.tc : Thread Cert.KBcIdeal.nD Cert.KBcIdeal.τ).loc Cert.KBcIdeal.main_arg5)) (m ((c.tc : Thread Cert.KBcIdeal.nD Cert.KBcIdeal.τ).loc Cert.KBcIdeal.main_arg6)) (m ((c.tc : Thread Cert.KBcIdeal.nD Cert.KBcIdeal.τ).loc Cert.KBcIdeal.main_arg7))).2.2.2.2.1 = (fun _ => 1#1)
    ∧ (Cert.Pre_finite_bc.fn (F := Ideal) (m ((c.tc : Thread Cert.KBcIdeal.nD Cert.KBcIdeal.τ).loc Cert.KBcIdeal.main_arg0)) (m ((c.tc : Thread Cert.KBcIdeal.nD Cert.KBcIdeal.τ).loc Cert.KBcIdeal.main_arg1)) (m ((c.tc : Thread Cert.KBcIdeal.nD Cert.KBcIdeal.τ).loc Cert.KBcIdeal.main_arg2)) (m ((c.tc : Thread Cert.KBcIdeal.nD Cert.KBcIdeal.τ).loc Cert.KBcIdeal.main_arg3)) (m ((c.tc : Thread Cert.KBcIdeal.nD Cert.KBcIdeal.τ).loc Cert.KBcIdeal.main_arg4)) (m ((c.tc : Thread Cert.KBcIdeal.nD Cert.KBcIdeal.τ).loc Cert.KBcIdeal.main_arg5)) (m ((c.tc : Thread Cert.KBcIdeal.nD Cert.KBcIdeal.τ).loc Cert.KBcIdeal.main_arg6)) (m ((c.tc : Thread Cert.KBcIdeal.nD Cert.KBcIdeal.τ).loc Cert.KBcIdeal.main_arg7))).2.2.2.2.2 = (fun _ => 1#1)

def Pre_RBcIdeal (m : (ℓ : Loc Cert.RBcIdeal.nD Cert.RBcIdeal.τ Cert.RBcIdeal.sig) → Buf (Elt Ideal) ℓ) : Prop :=
  True

def Pre_RBcIdeal_finite_bc [hPre_finite_bc : Cert.Pre_finite_bc.Facts] (m : (ℓ : Loc Cert.RBcIdeal.nD Cert.RBcIdeal.τ Cert.RBcIdeal.sig) → Buf (Elt Ideal) ℓ) : Prop :=
  ∀ c : Dev Cert.RBcIdeal.nD,
    (Cert.Pre_finite_bc.fn (F := Ideal) (m ((c.tc : Thread Cert.RBcIdeal.nD Cert.RBcIdeal.τ).loc Cert.RBcIdeal.main_arg0)) (m ((c.tc : Thread Cert.RBcIdeal.nD Cert.RBcIdeal.τ).loc Cert.RBcIdeal.main_arg1)) (m ((c.tc : Thread Cert.RBcIdeal.nD Cert.RBcIdeal.τ).loc Cert.RBcIdeal.main_arg2)) (m ((c.tc : Thread Cert.RBcIdeal.nD Cert.RBcIdeal.τ).loc Cert.RBcIdeal.main_arg3)) (m ((c.tc : Thread Cert.RBcIdeal.nD Cert.RBcIdeal.τ).loc Cert.RBcIdeal.main_arg4)) (m ((c.tc : Thread Cert.RBcIdeal.nD Cert.RBcIdeal.τ).loc Cert.RBcIdeal.main_arg5)) (m ((c.tc : Thread Cert.RBcIdeal.nD Cert.RBcIdeal.τ).loc Cert.RBcIdeal.main_arg6)) (m ((c.tc : Thread Cert.RBcIdeal.nD Cert.RBcIdeal.τ).loc Cert.RBcIdeal.main_arg7))).1 = (fun _ => 1#1)
    ∧ (Cert.Pre_finite_bc.fn (F := Ideal) (m ((c.tc : Thread Cert.RBcIdeal.nD Cert.RBcIdeal.τ).loc Cert.RBcIdeal.main_arg0)) (m ((c.tc : Thread Cert.RBcIdeal.nD Cert.RBcIdeal.τ).loc Cert.RBcIdeal.main_arg1)) (m ((c.tc : Thread Cert.RBcIdeal.nD Cert.RBcIdeal.τ).loc Cert.RBcIdeal.main_arg2)) (m ((c.tc : Thread Cert.RBcIdeal.nD Cert.RBcIdeal.τ).loc Cert.RBcIdeal.main_arg3)) (m ((c.tc : Thread Cert.RBcIdeal.nD Cert.RBcIdeal.τ).loc Cert.RBcIdeal.main_arg4)) (m ((c.tc : Thread Cert.RBcIdeal.nD Cert.RBcIdeal.τ).loc Cert.RBcIdeal.main_arg5)) (m ((c.tc : Thread Cert.RBcIdeal.nD Cert.RBcIdeal.τ).loc Cert.RBcIdeal.main_arg6)) (m ((c.tc : Thread Cert.RBcIdeal.nD Cert.RBcIdeal.τ).loc Cert.RBcIdeal.main_arg7))).2.1 = (fun _ => 1#1)
    ∧ (Cert.Pre_finite_bc.fn (F := Ideal) (m ((c.tc : Thread Cert.RBcIdeal.nD Cert.RBcIdeal.τ).loc Cert.RBcIdeal.main_arg0)) (m ((c.tc : Thread Cert.RBcIdeal.nD Cert.RBcIdeal.τ).loc Cert.RBcIdeal.main_arg1)) (m ((c.tc : Thread Cert.RBcIdeal.nD Cert.RBcIdeal.τ).loc Cert.RBcIdeal.main_arg2)) (m ((c.tc : Thread Cert.RBcIdeal.nD Cert.RBcIdeal.τ).loc Cert.RBcIdeal.main_arg3)) (m ((c.tc : Thread Cert.RBcIdeal.nD Cert.RBcIdeal.τ).loc Cert.RBcIdeal.main_arg4)) (m ((c.tc : Thread Cert.RBcIdeal.nD Cert.RBcIdeal.τ).loc Cert.RBcIdeal.main_arg5)) (m ((c.tc : Thread Cert.RBcIdeal.nD Cert.RBcIdeal.τ).loc Cert.RBcIdeal.main_arg6)) (m ((c.tc : Thread Cert.RBcIdeal.nD Cert.RBcIdeal.τ).loc Cert.RBcIdeal.main_arg7))).2.2.1 = (fun _ => 1#1)
    ∧ (Cert.Pre_finite_bc.fn (F := Ideal) (m ((c.tc : Thread Cert.RBcIdeal.nD Cert.RBcIdeal.τ).loc Cert.RBcIdeal.main_arg0)) (m ((c.tc : Thread Cert.RBcIdeal.nD Cert.RBcIdeal.τ).loc Cert.RBcIdeal.main_arg1)) (m ((c.tc : Thread Cert.RBcIdeal.nD Cert.RBcIdeal.τ).loc Cert.RBcIdeal.main_arg2)) (m ((c.tc : Thread Cert.RBcIdeal.nD Cert.RBcIdeal.τ).loc Cert.RBcIdeal.main_arg3)) (m ((c.tc : Thread Cert.RBcIdeal.nD Cert.RBcIdeal.τ).loc Cert.RBcIdeal.main_arg4)) (m ((c.tc : Thread Cert.RBcIdeal.nD Cert.RBcIdeal.τ).loc Cert.RBcIdeal.main_arg5)) (m ((c.tc : Thread Cert.RBcIdeal.nD Cert.RBcIdeal.τ).loc Cert.RBcIdeal.main_arg6)) (m ((c.tc : Thread Cert.RBcIdeal.nD Cert.RBcIdeal.τ).loc Cert.RBcIdeal.main_arg7))).2.2.2.1 = (fun _ => 1#1)
    ∧ (Cert.Pre_finite_bc.fn (F := Ideal) (m ((c.tc : Thread Cert.RBcIdeal.nD Cert.RBcIdeal.τ).loc Cert.RBcIdeal.main_arg0)) (m ((c.tc : Thread Cert.RBcIdeal.nD Cert.RBcIdeal.τ).loc Cert.RBcIdeal.main_arg1)) (m ((c.tc : Thread Cert.RBcIdeal.nD Cert.RBcIdeal.τ).loc Cert.RBcIdeal.main_arg2)) (m ((c.tc : Thread Cert.RBcIdeal.nD Cert.RBcIdeal.τ).loc Cert.RBcIdeal.main_arg3)) (m ((c.tc : Thread Cert.RBcIdeal.nD Cert.RBcIdeal.τ).loc Cert.RBcIdeal.main_arg4)) (m ((c.tc : Thread Cert.RBcIdeal.nD Cert.RBcIdeal.τ).loc Cert.RBcIdeal.main_arg5)) (m ((c.tc : Thread Cert.RBcIdeal.nD Cert.RBcIdeal.τ).loc Cert.RBcIdeal.main_arg6)) (m ((c.tc : Thread Cert.RBcIdeal.nD Cert.RBcIdeal.τ).loc Cert.RBcIdeal.main_arg7))).2.2.2.2.1 = (fun _ => 1#1)
    ∧ (Cert.Pre_finite_bc.fn (F := Ideal) (m ((c.tc : Thread Cert.RBcIdeal.nD Cert.RBcIdeal.τ).loc Cert.RBcIdeal.main_arg0)) (m ((c.tc : Thread Cert.RBcIdeal.nD Cert.RBcIdeal.τ).loc Cert.RBcIdeal.main_arg1)) (m ((c.tc : Thread Cert.RBcIdeal.nD Cert.RBcIdeal.τ).loc Cert.RBcIdeal.main_arg2)) (m ((c.tc : Thread Cert.RBcIdeal.nD Cert.RBcIdeal.τ).loc Cert.RBcIdeal.main_arg3)) (m ((c.tc : Thread Cert.RBcIdeal.nD Cert.RBcIdeal.τ).loc Cert.RBcIdeal.main_arg4)) (m ((c.tc : Thread Cert.RBcIdeal.nD Cert.RBcIdeal.τ).loc Cert.RBcIdeal.main_arg5)) (m ((c.tc : Thread Cert.RBcIdeal.nD Cert.RBcIdeal.τ).loc Cert.RBcIdeal.main_arg6)) (m ((c.tc : Thread Cert.RBcIdeal.nD Cert.RBcIdeal.τ).loc Cert.RBcIdeal.main_arg7))).2.2.2.2.2 = (fun _ => 1#1)

def Pre_KMix (m : (ℓ : Loc Cert.KMix.nD Cert.KMix.τ Cert.KMix.sig) → Buf (Elt Bits) ℓ) : Prop :=
  True

def Pre_KMixIdeal (m : (ℓ : Loc Cert.KMixIdeal.nD Cert.KMixIdeal.τ Cert.KMixIdeal.sig) → Buf (Elt Ideal) ℓ) : Prop :=
  True

def Pre_RMixIdeal (m : (ℓ : Loc Cert.RMixIdeal.nD Cert.RMixIdeal.τ Cert.RMixIdeal.sig) → Buf (Elt Ideal) ℓ) : Prop :=
  True

def Pre_KUp (m : (ℓ : Loc Cert.KUp.nD Cert.KUp.τ Cert.KUp.sig) → Buf (Elt Bits) ℓ) : Prop :=
  True

def Pre_KUpIdeal (m : (ℓ : Loc Cert.KUpIdeal.nD Cert.KUpIdeal.τ Cert.KUpIdeal.sig) → Buf (Elt Ideal) ℓ) : Prop :=
  True

def Pre_RUpIdeal (m : (ℓ : Loc Cert.RUpIdeal.nD Cert.RUpIdeal.τ Cert.RUpIdeal.sig) → Buf (Elt Ideal) ℓ) : Prop :=
  True

def Pre_KDown (m : (ℓ : Loc Cert.KDown.nD Cert.KDown.τ Cert.KDown.sig) → Buf (Elt Bits) ℓ) : Prop :=
  True

def Pre_KDownIdeal (m : (ℓ : Loc Cert.KDownIdeal.nD Cert.KDownIdeal.τ Cert.KDownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def Pre_KIn (m : (ℓ : Loc Cert.KIn.nD Cert.KIn.τ Cert.KIn.sig) → Buf (Elt Bits) ℓ) : Prop :=
  True

def Pre_KInIdeal (m : (ℓ : Loc Cert.KInIdeal.nD Cert.KInIdeal.τ Cert.KInIdeal.sig) → Buf (Elt Ideal) ℓ) : Prop :=
  True

def Pre_RInIdeal (m : (ℓ : Loc Cert.RInIdeal.nD Cert.RInIdeal.τ Cert.RInIdeal.sig) → Buf (Elt Ideal) ℓ) : Prop :=
  True

def Pre_KProj (m : (ℓ : Loc Cert.KProj.nD Cert.KProj.τ Cert.KProj.sig) → Buf (Elt Bits) ℓ) : Prop :=
  True

def Pre_KProjIdeal (m : (ℓ : Loc Cert.KProjIdeal.nD Cert.KProjIdeal.τ Cert.KProjIdeal.sig) → Buf (Elt Ideal) ℓ) : Prop :=
  True

def Pre_RProjIdeal (m : (ℓ : Loc Cert.RProjIdeal.nD Cert.RProjIdeal.τ Cert.RProjIdeal.sig) → Buf (Elt Ideal) ℓ) : Prop :=
  True

def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_KLruA (m : (ℓ : Loc Cert.KLruA.nD Cert.KLruA.τ Cert.KLruA.sig) → Buf (Elt Bits) ℓ) : Prop :=
  True

def Pre_KLruAIdeal (m : (ℓ : Loc Cert.KLruAIdeal.nD Cert.KLruAIdeal.τ Cert.KLruAIdeal.sig) → Buf (Elt Ideal) ℓ) : Prop :=
  True

def Pre_KLruAIdeal_wide_lrua [hPre_wide_lrua : Cert.Pre_wide_lrua.Facts] (m : (ℓ : Loc Cert.KLruAIdeal.nD Cert.KLruAIdeal.τ Cert.KLruAIdeal.sig) → Buf (Elt Ideal) ℓ) : Prop :=
  ∀ c : Dev Cert.KLruAIdeal.nD,
    (Cert.Pre_wide_lrua.fn (F := Ideal) (m ((c.tc : Thread Cert.KLruAIdeal.nD Cert.KLruAIdeal.τ).loc Cert.KLruAIdeal.main_arg0)) (m ((c.tc : Thread Cert.KLruAIdeal.nD Cert.KLruAIdeal.τ).loc Cert.KLruAIdeal.main_arg1)) (m ((c.tc : Thread Cert.KLruAIdeal.nD Cert.KLruAIdeal.τ).loc Cert.KLruAIdeal.main_arg2)) (m ((c.tc : Thread Cert.KLruAIdeal.nD Cert.KLruAIdeal.τ).loc Cert.KLruAIdeal.main_arg3)) (m ((c.tc : Thread Cert.KLruAIdeal.nD Cert.KLruAIdeal.τ).loc Cert.KLruAIdeal.main_arg4)) (m ((c.tc : Thread Cert.KLruAIdeal.nD Cert.KLruAIdeal.τ).loc Cert.KLruAIdeal.main_arg5)) (m ((c.tc : Thread Cert.KLruAIdeal.nD Cert.KLruAIdeal.τ).loc Cert.KLruAIdeal.main_arg6)) (m ((c.tc : Thread Cert.KLruAIdeal.nD Cert.KLruAIdeal.τ).loc Cert.KLruAIdeal.main_arg7))) = (fun _ => 1#1)

def Pre_RLruAIdeal (m : (ℓ : Loc Cert.RLruAIdeal.nD Cert.RLruAIdeal.τ Cert.RLruAIdeal.sig) → Buf (Elt Ideal) ℓ) : Prop :=
  True

def Pre_RLruAIdeal_wide_lrua [hPre_wide_lrua : Cert.Pre_wide_lrua.Facts] (m : (ℓ : Loc Cert.RLruAIdeal.nD Cert.RLruAIdeal.τ Cert.RLruAIdeal.sig) → Buf (Elt Ideal) ℓ) : Prop :=
  ∀ c : Dev Cert.RLruAIdeal.nD,
    (Cert.Pre_wide_lrua.fn (F := Ideal) (m ((c.tc : Thread Cert.RLruAIdeal.nD Cert.RLruAIdeal.τ).loc Cert.RLruAIdeal.main_arg0)) (m ((c.tc : Thread Cert.RLruAIdeal.nD Cert.RLruAIdeal.τ).loc Cert.RLruAIdeal.main_arg1)) (m ((c.tc : Thread Cert.RLruAIdeal.nD Cert.RLruAIdeal.τ).loc Cert.RLruAIdeal.main_arg2)) (m ((c.tc : Thread Cert.RLruAIdeal.nD Cert.RLruAIdeal.τ).loc Cert.RLruAIdeal.main_arg3)) (m ((c.tc : Thread Cert.RLruAIdeal.nD Cert.RLruAIdeal.τ).loc Cert.RLruAIdeal.main_arg4)) (m ((c.tc : Thread Cert.RLruAIdeal.nD Cert.RLruAIdeal.τ).loc Cert.RLruAIdeal.main_arg5)) (m ((c.tc : Thread Cert.RLruAIdeal.nD Cert.RLruAIdeal.τ).loc Cert.RLruAIdeal.main_arg6)) (m ((c.tc : Thread Cert.RLruAIdeal.nD Cert.RLruAIdeal.τ).loc Cert.RLruAIdeal.main_arg7))) = (fun _ => 1#1)

def Pre_KLruD (m : (ℓ : Loc Cert.KLruD.nD Cert.KLruD.τ Cert.KLruD.sig) → Buf (Elt Bits) ℓ) : Prop :=
  True

def Pre_KLruDIdeal (m : (ℓ : Loc Cert.KLruDIdeal.nD Cert.KLruDIdeal.τ Cert.KLruDIdeal.sig) → Buf (Elt Ideal) ℓ) : Prop :=
  True

def Pre_KLruDIdeal_wide_lrud [hPre_wide_lrud : Cert.Pre_wide_lrud.Facts] (m : (ℓ : Loc Cert.KLruDIdeal.nD Cert.KLruDIdeal.τ Cert.KLruDIdeal.sig) → Buf (Elt Ideal) ℓ) : Prop :=
  ∀ c : Dev Cert.KLruDIdeal.nD,
    (Cert.Pre_wide_lrud.fn (F := Ideal) (m ((c.tc : Thread Cert.KLruDIdeal.nD Cert.KLruDIdeal.τ).loc Cert.KLruDIdeal.main_arg0)) (m ((c.tc : Thread Cert.KLruDIdeal.nD Cert.KLruDIdeal.τ).loc Cert.KLruDIdeal.main_arg1)) (m ((c.tc : Thread Cert.KLruDIdeal.nD Cert.KLruDIdeal.τ).loc Cert.KLruDIdeal.main_arg2)) (m ((c.tc : Thread Cert.KLruDIdeal.nD Cert.KLruDIdeal.τ).loc Cert.KLruDIdeal.main_arg3)) (m ((c.tc : Thread Cert.KLruDIdeal.nD Cert.KLruDIdeal.τ).loc Cert.KLruDIdeal.main_arg4)) (m ((c.tc : Thread Cert.KLruDIdeal.nD Cert.KLruDIdeal.τ).loc Cert.KLruDIdeal.main_arg5)) (m ((c.tc : Thread Cert.KLruDIdeal.nD Cert.KLruDIdeal.τ).loc Cert.KLruDIdeal.main_arg6)) (m ((c.tc : Thread Cert.KLruDIdeal.nD Cert.KLruDIdeal.τ).loc Cert.KLruDIdeal.main_arg7)) (m ((c.tc : Thread Cert.KLruDIdeal.nD Cert.KLruDIdeal.τ).loc Cert.KLruDIdeal.main_arg8)) (m ((c.tc : Thread Cert.KLruDIdeal.nD Cert.KLruDIdeal.τ).loc Cert.KLruDIdeal.main_arg9))) = (fun _ => 1#1)

def Pre_RLruDIdeal (m : (ℓ : Loc Cert.RLruDIdeal.nD Cert.RLruDIdeal.τ Cert.RLruDIdeal.sig) → Buf (Elt Ideal) ℓ) : Prop :=
  True

def Pre_RLruDIdeal_wide_lrud [hPre_wide_lrud : Cert.Pre_wide_lrud.Facts] (m : (ℓ : Loc Cert.RLruDIdeal.nD Cert.RLruDIdeal.τ Cert.RLruDIdeal.sig) → Buf (Elt Ideal) ℓ) : Prop :=
  ∀ c : Dev Cert.RLruDIdeal.nD,
    (Cert.Pre_wide_lrud.fn (F := Ideal) (m ((c.tc : Thread Cert.RLruDIdeal.nD Cert.RLruDIdeal.τ).loc Cert.RLruDIdeal.main_arg0)) (m ((c.tc : Thread Cert.RLruDIdeal.nD Cert.RLruDIdeal.τ).loc Cert.RLruDIdeal.main_arg1)) (m ((c.tc : Thread Cert.RLruDIdeal.nD Cert.RLruDIdeal.τ).loc Cert.RLruDIdeal.main_arg2)) (m ((c.tc : Thread Cert.RLruDIdeal.nD Cert.RLruDIdeal.τ).loc Cert.RLruDIdeal.main_arg3)) (m ((c.tc : Thread Cert.RLruDIdeal.nD Cert.RLruDIdeal.τ).loc Cert.RLruDIdeal.main_arg4)) (m ((c.tc : Thread Cert.RLruDIdeal.nD Cert.RLruDIdeal.τ).loc Cert.RLruDIdeal.main_arg5)) (m ((c.tc : Thread Cert.RLruDIdeal.nD Cert.RLruDIdeal.τ).loc Cert.RLruDIdeal.main_arg6)) (m ((c.tc : Thread Cert.RLruDIdeal.nD Cert.RLruDIdeal.τ).loc Cert.RLruDIdeal.main_arg7)) (m ((c.tc : Thread Cert.RLruDIdeal.nD Cert.RLruDIdeal.τ).loc Cert.RLruDIdeal.main_arg8)) (m ((c.tc : Thread Cert.RLruDIdeal.nD Cert.RLruDIdeal.τ).loc Cert.RLruDIdeal.main_arg9))) = (fun _ => 1#1)

def Pre_KLruC (m : (ℓ : Loc Cert.KLruC.nD Cert.KLruC.τ Cert.KLruC.sig) → Buf (Elt Bits) ℓ) : Prop :=
  True

def Pre_KLruCIdeal (m : (ℓ : Loc Cert.KLruCIdeal.nD Cert.KLruCIdeal.τ Cert.KLruCIdeal.sig) → Buf (Elt Ideal) ℓ) : Prop :=
  True

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1))
      ∧ r.2.sem = fun _ => 0)

def quiescent_KFfn [hKFfn : Cert.KFfn.Facts] : Prop :=
  ∀ (m : (ℓ : Loc Cert.KFfn.nD Cert.KFfn.τ Cert.KFfn.sig) → Buf (Elt Bits) ℓ) (g : Dev Cert.KFfn.nD → PrngReg), Pre_KFfn m →
    θ_run (Cert.KFfn.defs (F := Bits)) (onTc (τ := Cert.KFfn.τ) (Cert.KFfn.main (F := Bits))) ⟨m, fun _ => 0, g⟩ (fun r => (∀ c : Dev Cert.KFfn.nD,
      r.2.mem ((c.tc : Thread Cert.KFfn.nD Cert.KFfn.τ).loc Cert.KFfn.main_arg0) = m ((c.tc : Thread Cert.KFfn.nD Cert.KFfn.τ).loc Cert.KFfn.main_arg0)
      ∧ r.2.mem ((c.tc : Thread Cert.KFfn.nD Cert.KFfn.τ).loc Cert.KFfn.main_arg1) = m ((c.tc : Thread Cert.KFfn.nD Cert.KFfn.τ).loc Cert.KFfn.main_arg1)
      ∧ r.2.mem ((c.tc : Thread Cert.KFfn.nD Cert.KFfn.τ).loc Cert.KFfn.main_arg2) = m ((c.tc : Thread Cert.KFfn.nD Cert.KFfn.τ).loc Cert.KFfn.main_arg2)
      ∧ r.2.mem ((c.tc : Thread Cert.KFfn.nD Cert.KFfn.τ).loc Cert.KFfn.main_arg3) = m ((c.tc : Thread Cert.KFfn.nD Cert.KFfn.τ).loc Cert.KFfn.main_arg3)
      ∧ r.2.mem ((c.tc : Thread Cert.KFfn.nD Cert.KFfn.τ).loc Cert.KFfn.main_arg4) = m ((c.tc : Thread Cert.KFfn.nD Cert.KFfn.τ).loc Cert.KFfn.main_arg4))
      ∧ r.2.sem = fun _ => 0)

def quiescent_KFfnIdeal [hKFfnIdeal : Cert.KFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
      ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
      ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4))
      ∧ r.2.sem = fun _ => 0)

def quiescent_KFfnIdeal_pre_finite_ffn [hKFfnIdeal : Cert.KFfnIdeal.Facts] [hPre_finite_ffn : Cert.Pre_finite_ffn.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal_finite_ffn m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
      ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
      ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4))
      ∧ r.2.sem = fun _ => 0)

def quiescent_RFfnIdeal [hRFfnIdeal : Cert.RFfnIdeal.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3)
      ∧ r.2.mem ((c.tc : Thread Cert.RFfnIdeal.nD Cert.RFfnIdeal.τ).loc Cert.RFfnIdeal.main_arg4) = m ((c.tc : Thread Cert.RFfnIdeal.nD Cert.RFfnIdeal.τ).loc Cert.RFfnIdeal.main_arg4))
      ∧ r.2.sem = fun _ => 0)

def quiescent_RFfnIdeal_pre_finite_ffn [hRFfnIdeal : Cert.RFfnIdeal.Facts] [hPre_finite_ffn : Cert.Pre_finite_ffn.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal_finite_ffn m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2)
      ∧ r.2.mem ((c.tc : Thread Cert.RFfnIdeal.nD Cert.RFfnIdeal.τ).loc Cert.RFfnIdeal.main_arg3) = m ((c.tc : Thread Cert.RFfnIdeal.nD Cert.RFfnIdeal.τ).loc Cert.RFfnIdeal.main_arg3)
      ∧ r.2.mem ((c.tc : Thread Cert.RFfnIdeal.nD Cert.RFfnIdeal.τ).loc Cert.RFfnIdeal.main_arg4) = m ((c.tc : Thread Cert.RFfnIdeal.nD Cert.RFfnIdeal.τ).loc Cert.RFfnIdeal.main_arg4))
      ∧ r.2.sem = fun _ => 0)

def quiescent_KInNorm [hKInNorm : Cert.KInNorm.Facts] : Prop :=
  ∀ (m : (ℓ : Loc Cert.KInNorm.nD Cert.KInNorm.τ Cert.KInNorm.sig) → Buf (Elt Bits) ℓ) (g : Dev Cert.KInNorm.nD → PrngReg), Pre_KInNorm m →
    θ_run (Cert.KInNorm.defs (F := Bits)) (onTc (τ := Cert.KInNorm.τ) (Cert.KInNorm.main (F := Bits))) ⟨m, fun _ => 0, g⟩ (fun r => (∀ c : Dev Cert.KInNorm.nD,
      r.2.mem ((c.tc : Thread Cert.KInNorm.nD Cert.KInNorm.τ).loc Cert.KInNorm.main_arg0) = m ((c.tc : Thread Cert.KInNorm.nD Cert.KInNorm.τ).loc Cert.KInNorm.main_arg0)
      ∧ r.2.mem ((c.tc : Thread Cert.KInNorm.nD Cert.KInNorm.τ).loc Cert.KInNorm.main_arg1) = m ((c.tc : Thread Cert.KInNorm.nD Cert.KInNorm.τ).loc Cert.KInNorm.main_arg1)
      ∧ r.2.mem ((c.tc : Thread Cert.KInNorm.nD Cert.KInNorm.τ).loc Cert.KInNorm.main_arg2) = m ((c.tc : Thread Cert.KInNorm.nD Cert.KInNorm.τ).loc Cert.KInNorm.main_arg2)
      ∧ r.2.mem ((c.tc : Thread Cert.KInNorm.nD Cert.KInNorm.τ).loc Cert.KInNorm.main_arg3) = m ((c.tc : Thread Cert.KInNorm.nD Cert.KInNorm.τ).loc Cert.KInNorm.main_arg3)
      ∧ r.2.mem ((c.tc : Thread Cert.KInNorm.nD Cert.KInNorm.τ).loc Cert.KInNorm.main_arg4) = m ((c.tc : Thread Cert.KInNorm.nD Cert.KInNorm.τ).loc Cert.KInNorm.main_arg4)
      ∧ r.2.mem ((c.tc : Thread Cert.KInNorm.nD Cert.KInNorm.τ).loc Cert.KInNorm.main_arg5) = m ((c.tc : Thread Cert.KInNorm.nD Cert.KInNorm.τ).loc Cert.KInNorm.main_arg5)
      ∧ r.2.mem ((c.tc : Thread Cert.KInNorm.nD Cert.KInNorm.τ).loc Cert.KInNorm.main_arg6) = m ((c.tc : Thread Cert.KInNorm.nD Cert.KInNorm.τ).loc Cert.KInNorm.main_arg6))
      ∧ r.2.sem = fun _ => 0)

def quiescent_KInNormIdeal [hKInNormIdeal : Cert.KInNormIdeal.Facts] : Prop :=
  ∀ (m : (ℓ : Loc Cert.KInNormIdeal.nD Cert.KInNormIdeal.τ Cert.KInNormIdeal.sig) → Buf (Elt Ideal) ℓ) (g : Dev Cert.KInNormIdeal.nD → PrngReg), Pre_KInNormIdeal m →
    θ_run (Cert.KInNormIdeal.defs (F := Ideal)) (onTc (τ := Cert.KInNormIdeal.τ) (Cert.KInNormIdeal.main (F := Ideal))) ⟨m, fun _ => 0, g⟩ (fun r => (∀ c : Dev Cert.KInNormIdeal.nD,
      r.2.mem ((c.tc : Thread Cert.KInNormIdeal.nD Cert.KInNormIdeal.τ).loc Cert.KInNormIdeal.main_arg0) = m ((c.tc : Thread Cert.KInNormIdeal.nD Cert.KInNormIdeal.τ).loc Cert.KInNormIdeal.main_arg0)
      ∧ r.2.mem ((c.tc : Thread Cert.KInNormIdeal.nD Cert.KInNormIdeal.τ).loc Cert.KInNormIdeal.main_arg1) = m ((c.tc : Thread Cert.KInNormIdeal.nD Cert.KInNormIdeal.τ).loc Cert.KInNormIdeal.main_arg1)
      ∧ r.2.mem ((c.tc : Thread Cert.KInNormIdeal.nD Cert.KInNormIdeal.τ).loc Cert.KInNormIdeal.main_arg2) = m ((c.tc : Thread Cert.KInNormIdeal.nD Cert.KInNormIdeal.τ).loc Cert.KInNormIdeal.main_arg2)
      ∧ r.2.mem ((c.tc : Thread Cert.KInNormIdeal.nD Cert.KInNormIdeal.τ).loc Cert.KInNormIdeal.main_arg3) = m ((c.tc : Thread Cert.KInNormIdeal.nD Cert.KInNormIdeal.τ).loc Cert.KInNormIdeal.main_arg3)
      ∧ r.2.mem ((c.tc : Thread Cert.KInNormIdeal.nD Cert.KInNormIdeal.τ).loc Cert.KInNormIdeal.main_arg4) = m ((c.tc : Thread Cert.KInNormIdeal.nD Cert.KInNormIdeal.τ).loc Cert.KInNormIdeal.main_arg4)
      ∧ r.2.mem ((c.tc : Thread Cert.KInNormIdeal.nD Cert.KInNormIdeal.τ).loc Cert.KInNormIdeal.main_arg5) = m ((c.tc : Thread Cert.KInNormIdeal.nD Cert.KInNormIdeal.τ).loc Cert.KInNormIdeal.main_arg5)
      ∧ r.2.mem ((c.tc : Thread Cert.KInNormIdeal.nD Cert.KInNormIdeal.τ).loc Cert.KInNormIdeal.main_arg6) = m ((c.tc : Thread Cert.KInNormIdeal.nD Cert.KInNormIdeal.τ).loc Cert.KInNormIdeal.main_arg6))
      ∧ r.2.sem = fun _ => 0)

def quiescent_RInNormIdeal [hRInNormIdeal : Cert.RInNormIdeal.Facts] : Prop :=
  ∀ (m : (ℓ : Loc Cert.RInNormIdeal.nD Cert.RInNormIdeal.τ Cert.RInNormIdeal.sig) → Buf (Elt Ideal) ℓ) (g : Dev Cert.RInNormIdeal.nD → PrngReg), Pre_RInNormIdeal m →
    θ_run (Cert.RInNormIdeal.defs (F := Ideal)) (onTc (τ := Cert.RInNormIdeal.τ) (Cert.RInNormIdeal.main (F := Ideal))) ⟨m, fun _ => 0, g⟩ (fun r => (∀ c : Dev Cert.RInNormIdeal.nD,
      r.2.mem ((c.tc : Thread Cert.RInNormIdeal.nD Cert.RInNormIdeal.τ).loc Cert.RInNormIdeal.main_arg0) = m ((c.tc : Thread Cert.RInNormIdeal.nD Cert.RInNormIdeal.τ).loc Cert.RInNormIdeal.main_arg0)
      ∧ r.2.mem ((c.tc : Thread Cert.RInNormIdeal.nD Cert.RInNormIdeal.τ).loc Cert.RInNormIdeal.main_arg1) = m ((c.tc : Thread Cert.RInNormIdeal.nD Cert.RInNormIdeal.τ).loc Cert.RInNormIdeal.main_arg1)
      ∧ r.2.mem ((c.tc : Thread Cert.RInNormIdeal.nD Cert.RInNormIdeal.τ).loc Cert.RInNormIdeal.main_arg2) = m ((c.tc : Thread Cert.RInNormIdeal.nD Cert.RInNormIdeal.τ).loc Cert.RInNormIdeal.main_arg2)
      ∧ r.2.mem ((c.tc : Thread Cert.RInNormIdeal.nD Cert.RInNormIdeal.τ).loc Cert.RInNormIdeal.main_arg3) = m ((c.tc : Thread Cert.RInNormIdeal.nD Cert.RInNormIdeal.τ).loc Cert.RInNormIdeal.main_arg3)
      ∧ r.2.mem ((c.tc : Thread Cert.RInNormIdeal.nD Cert.RInNormIdeal.τ).loc Cert.RInNormIdeal.main_arg4) = m ((c.tc : Thread Cert.RInNormIdeal.nD Cert.RInNormIdeal.τ).loc Cert.RInNormIdeal.main_arg4)
      ∧ r.2.mem ((c.tc : Thread Cert.RInNormIdeal.nD Cert.RInNormIdeal.τ).loc Cert.RInNormIdeal.main_arg5) = m ((c.tc : Thread Cert.RInNormIdeal.nD Cert.RInNormIdeal.τ).loc Cert.RInNormIdeal.main_arg5)
      ∧ r.2.mem ((c.tc : Thread Cert.RInNormIdeal.nD Cert.RInNormIdeal.τ).loc Cert.RInNormIdeal.main_arg6) = m ((c.tc : Thread Cert.RInNormIdeal.nD Cert.RInNormIdeal.τ).loc Cert.RInNormIdeal.main_arg6))
      ∧ r.2.sem = fun _ => 0)

def quiescent_KInNorm4 [hKInNorm4 : Cert.KInNorm4.Facts] : Prop :=
  ∀ (m : (ℓ : Loc Cert.KInNorm4.nD Cert.KInNorm4.τ Cert.KInNorm4.sig) → Buf (Elt Bits) ℓ) (g : Dev Cert.KInNorm4.nD → PrngReg), Pre_KInNorm4 m →
    θ_run (Cert.KInNorm4.defs (F := Bits)) (onTc (τ := Cert.KInNorm4.τ) (Cert.KInNorm4.main (F := Bits))) ⟨m, fun _ => 0, g⟩ (fun r => (∀ c : Dev Cert.KInNorm4.nD,
      r.2.mem ((c.tc : Thread Cert.KInNorm4.nD Cert.KInNorm4.τ).loc Cert.KInNorm4.main_arg0) = m ((c.tc : Thread Cert.KInNorm4.nD Cert.KInNorm4.τ).loc Cert.KInNorm4.main_arg0)
      ∧ r.2.mem ((c.tc : Thread Cert.KInNorm4.nD Cert.KInNorm4.τ).loc Cert.KInNorm4.main_arg1) = m ((c.tc : Thread Cert.KInNorm4.nD Cert.KInNorm4.τ).loc Cert.KInNorm4.main_arg1)
      ∧ r.2.mem ((c.tc : Thread Cert.KInNorm4.nD Cert.KInNorm4.τ).loc Cert.KInNorm4.main_arg2) = m ((c.tc : Thread Cert.KInNorm4.nD Cert.KInNorm4.τ).loc Cert.KInNorm4.main_arg2)
      ∧ r.2.mem ((c.tc : Thread Cert.KInNorm4.nD Cert.KInNorm4.τ).loc Cert.KInNorm4.main_arg3) = m ((c.tc : Thread Cert.KInNorm4.nD Cert.KInNorm4.τ).loc Cert.KInNorm4.main_arg3)
      ∧ r.2.mem ((c.tc : Thread Cert.KInNorm4.nD Cert.KInNorm4.τ).loc Cert.KInNorm4.main_arg4) = m ((c.tc : Thread Cert.KInNorm4.nD Cert.KInNorm4.τ).loc Cert.KInNorm4.main_arg4)
      ∧ r.2.mem ((c.tc : Thread Cert.KInNorm4.nD Cert.KInNorm4.τ).loc Cert.KInNorm4.main_arg5) = m ((c.tc : Thread Cert.KInNorm4.nD Cert.KInNorm4.τ).loc Cert.KInNorm4.main_arg5)
      ∧ r.2.mem ((c.tc : Thread Cert.KInNorm4.nD Cert.KInNorm4.τ).loc Cert.KInNorm4.main_arg6) = m ((c.tc : Thread Cert.KInNorm4.nD Cert.KInNorm4.τ).loc Cert.KInNorm4.main_arg6)
      ∧ r.2.mem ((c.tc : Thread Cert.KInNorm4.nD Cert.KInNorm4.τ).loc Cert.KInNorm4.main_arg7) = m ((c.tc : Thread Cert.KInNorm4.nD Cert.KInNorm4.τ).loc Cert.KInNorm4.main_arg7))
      ∧ r.2.sem = fun _ => 0)

def quiescent_KInNorm4Ideal [hKInNorm4Ideal : Cert.KInNorm4Ideal.Facts] : Prop :=
  ∀ (m : (ℓ : Loc Cert.KInNorm4Ideal.nD Cert.KInNorm4Ideal.τ Cert.KInNorm4Ideal.sig) → Buf (Elt Ideal) ℓ) (g : Dev Cert.KInNorm4Ideal.nD → PrngReg), Pre_KInNorm4Ideal m →
    θ_run (Cert.KInNorm4Ideal.defs (F := Ideal)) (onTc (τ := Cert.KInNorm4Ideal.τ) (Cert.KInNorm4Ideal.main (F := Ideal))) ⟨m, fun _ => 0, g⟩ (fun r => (∀ c : Dev Cert.KInNorm4Ideal.nD,
      r.2.mem ((c.tc : Thread Cert.KInNorm4Ideal.nD Cert.KInNorm4Ideal.τ).loc Cert.KInNorm4Ideal.main_arg0) = m ((c.tc : Thread Cert.KInNorm4Ideal.nD Cert.KInNorm4Ideal.τ).loc Cert.KInNorm4Ideal.main_arg0)
      ∧ r.2.mem ((c.tc : Thread Cert.KInNorm4Ideal.nD Cert.KInNorm4Ideal.τ).loc Cert.KInNorm4Ideal.main_arg1) = m ((c.tc : Thread Cert.KInNorm4Ideal.nD Cert.KInNorm4Ideal.τ).loc Cert.KInNorm4Ideal.main_arg1)
      ∧ r.2.mem ((c.tc : Thread Cert.KInNorm4Ideal.nD Cert.KInNorm4Ideal.τ).loc Cert.KInNorm4Ideal.main_arg2) = m ((c.tc : Thread Cert.KInNorm4Ideal.nD Cert.KInNorm4Ideal.τ).loc Cert.KInNorm4Ideal.main_arg2)
      ∧ r.2.mem ((c.tc : Thread Cert.KInNorm4Ideal.nD Cert.KInNorm4Ideal.τ).loc Cert.KInNorm4Ideal.main_arg3) = m ((c.tc : Thread Cert.KInNorm4Ideal.nD Cert.KInNorm4Ideal.τ).loc Cert.KInNorm4Ideal.main_arg3)
      ∧ r.2.mem ((c.tc : Thread Cert.KInNorm4Ideal.nD Cert.KInNorm4Ideal.τ).loc Cert.KInNorm4Ideal.main_arg4) = m ((c.tc : Thread Cert.KInNorm4Ideal.nD Cert.KInNorm4Ideal.τ).loc Cert.KInNorm4Ideal.main_arg4)
      ∧ r.2.mem ((c.tc : Thread Cert.KInNorm4Ideal.nD Cert.KInNorm4Ideal.τ).loc Cert.KInNorm4Ideal.main_arg5) = m ((c.tc : Thread Cert.KInNorm4Ideal.nD Cert.KInNorm4Ideal.τ).loc Cert.KInNorm4Ideal.main_arg5)
      ∧ r.2.mem ((c.tc : Thread Cert.KInNorm4Ideal.nD Cert.KInNorm4Ideal.τ).loc Cert.KInNorm4Ideal.main_arg6) = m ((c.tc : Thread Cert.KInNorm4Ideal.nD Cert.KInNorm4Ideal.τ).loc Cert.KInNorm4Ideal.main_arg6)
      ∧ r.2.mem ((c.tc : Thread Cert.KInNorm4Ideal.nD Cert.KInNorm4Ideal.τ).loc Cert.KInNorm4Ideal.main_arg7) = m ((c.tc : Thread Cert.KInNorm4Ideal.nD Cert.KInNorm4Ideal.τ).loc Cert.KInNorm4Ideal.main_arg7))
      ∧ r.2.sem = fun _ => 0)

def quiescent_RInNorm4Ideal [hRInNorm4Ideal : Cert.RInNorm4Ideal.Facts] : Prop :=
  ∀ (m : (ℓ : Loc Cert.RInNorm4Ideal.nD Cert.RInNorm4Ideal.τ Cert.RInNorm4Ideal.sig) → Buf (Elt Ideal) ℓ) (g : Dev Cert.RInNorm4Ideal.nD → PrngReg), Pre_RInNorm4Ideal m →
    θ_run (Cert.RInNorm4Ideal.defs (F := Ideal)) (onTc (τ := Cert.RInNorm4Ideal.τ) (Cert.RInNorm4Ideal.main (F := Ideal))) ⟨m, fun _ => 0, g⟩ (fun r => (∀ c : Dev Cert.RInNorm4Ideal.nD,
      r.2.mem ((c.tc : Thread Cert.RInNorm4Ideal.nD Cert.RInNorm4Ideal.τ).loc Cert.RInNorm4Ideal.main_arg0) = m ((c.tc : Thread Cert.RInNorm4Ideal.nD Cert.RInNorm4Ideal.τ).loc Cert.RInNorm4Ideal.main_arg0)
      ∧ r.2.mem ((c.tc : Thread Cert.RInNorm4Ideal.nD Cert.RInNorm4Ideal.τ).loc Cert.RInNorm4Ideal.main_arg1) = m ((c.tc : Thread Cert.RInNorm4Ideal.nD Cert.RInNorm4Ideal.τ).loc Cert.RInNorm4Ideal.main_arg1)
      ∧ r.2.mem ((c.tc : Thread Cert.RInNorm4Ideal.nD Cert.RInNorm4Ideal.τ).loc Cert.RInNorm4Ideal.main_arg2) = m ((c.tc : Thread Cert.RInNorm4Ideal.nD Cert.RInNorm4Ideal.τ).loc Cert.RInNorm4Ideal.main_arg2)
      ∧ r.2.mem ((c.tc : Thread Cert.RInNorm4Ideal.nD Cert.RInNorm4Ideal.τ).loc Cert.RInNorm4Ideal.main_arg3) = m ((c.tc : Thread Cert.RInNorm4Ideal.nD Cert.RInNorm4Ideal.τ).loc Cert.RInNorm4Ideal.main_arg3)
      ∧ r.2.mem ((c.tc : Thread Cert.RInNorm4Ideal.nD Cert.RInNorm4Ideal.τ).loc Cert.RInNorm4Ideal.main_arg4) = m ((c.tc : Thread Cert.RInNorm4Ideal.nD Cert.RInNorm4Ideal.τ).loc Cert.RInNorm4Ideal.main_arg4)
      ∧ r.2.mem ((c.tc : Thread Cert.RInNorm4Ideal.nD Cert.RInNorm4Ideal.τ).loc Cert.RInNorm4Ideal.main_arg5) = m ((c.tc : Thread Cert.RInNorm4Ideal.nD Cert.RInNorm4Ideal.τ).loc Cert.RInNorm4Ideal.main_arg5)
      ∧ r.2.mem ((c.tc : Thread Cert.RInNorm4Ideal.nD Cert.RInNorm4Ideal.τ).loc Cert.RInNorm4Ideal.main_arg6) = m ((c.tc : Thread Cert.RInNorm4Ideal.nD Cert.RInNorm4Ideal.τ).loc Cert.RInNorm4Ideal.main_arg6)
      ∧ r.2.mem ((c.tc : Thread Cert.RInNorm4Ideal.nD Cert.RInNorm4Ideal.τ).loc Cert.RInNorm4Ideal.main_arg7) = m ((c.tc : Thread Cert.RInNorm4Ideal.nD Cert.RInNorm4Ideal.τ).loc Cert.RInNorm4Ideal.main_arg7))
      ∧ r.2.sem = fun _ => 0)

def quiescent_KMerge [hKMerge : Cert.KMerge.Facts] : Prop :=
  ∀ (m : (ℓ : Loc Cert.KMerge.nD Cert.KMerge.τ Cert.KMerge.sig) → Buf (Elt Bits) ℓ) (g : Dev Cert.KMerge.nD → PrngReg), Pre_KMerge m →
    θ_run (Cert.KMerge.defs (F := Bits)) (onTc (τ := Cert.KMerge.τ) (Cert.KMerge.main (F := Bits))) ⟨m, fun _ => 0, g⟩ (fun r => (∀ c : Dev Cert.KMerge.nD,
      r.2.mem ((c.tc : Thread Cert.KMerge.nD Cert.KMerge.τ).loc Cert.KMerge.main_arg0) = m ((c.tc : Thread Cert.KMerge.nD Cert.KMerge.τ).loc Cert.KMerge.main_arg0)
      ∧ r.2.mem ((c.tc : Thread Cert.KMerge.nD Cert.KMerge.τ).loc Cert.KMerge.main_arg1) = m ((c.tc : Thread Cert.KMerge.nD Cert.KMerge.τ).loc Cert.KMerge.main_arg1)
      ∧ r.2.mem ((c.tc : Thread Cert.KMerge.nD Cert.KMerge.τ).loc Cert.KMerge.main_arg2) = m ((c.tc : Thread Cert.KMerge.nD Cert.KMerge.τ).loc Cert.KMerge.main_arg2)
      ∧ r.2.mem ((c.tc : Thread Cert.KMerge.nD Cert.KMerge.τ).loc Cert.KMerge.main_arg3) = m ((c.tc : Thread Cert.KMerge.nD Cert.KMerge.τ).loc Cert.KMerge.main_arg3)
      ∧ r.2.mem ((c.tc : Thread Cert.KMerge.nD Cert.KMerge.τ).loc Cert.KMerge.main_arg4) = m ((c.tc : Thread Cert.KMerge.nD Cert.KMerge.τ).loc Cert.KMerge.main_arg4)
      ∧ r.2.mem ((c.tc : Thread Cert.KMerge.nD Cert.KMerge.τ).loc Cert.KMerge.main_arg5) = m ((c.tc : Thread Cert.KMerge.nD Cert.KMerge.τ).loc Cert.KMerge.main_arg5)
      ∧ r.2.mem ((c.tc : Thread Cert.KMerge.nD Cert.KMerge.τ).loc Cert.KMerge.main_arg6) = m ((c.tc : Thread Cert.KMerge.nD Cert.KMerge.τ).loc Cert.KMerge.main_arg6))
      ∧ r.2.sem = fun _ => 0)

def quiescent_KMergeIdeal [hKMergeIdeal : Cert.KMergeIdeal.Facts] : Prop :=
  ∀ (m : (ℓ : Loc Cert.KMergeIdeal.nD Cert.KMergeIdeal.τ Cert.KMergeIdeal.sig) → Buf (Elt Ideal) ℓ) (g : Dev Cert.KMergeIdeal.nD → PrngReg), Pre_KMergeIdeal m →
    θ_run (Cert.KMergeIdeal.defs (F := Ideal)) (onTc (τ := Cert.KMergeIdeal.τ) (Cert.KMergeIdeal.main (F := Ideal))) ⟨m, fun _ => 0, g⟩ (fun r => (∀ c : Dev Cert.KMergeIdeal.nD,
      r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
      ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
      ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2)
      ∧ r.2.mem ((c.tc : Thread Cert.KMergeIdeal.nD Cert.KMergeIdeal.τ).loc Cert.KMergeIdeal.main_arg3) = m ((c.tc : Thread Cert.KMergeIdeal.nD Cert.KMergeIdeal.τ).loc Cert.KMergeIdeal.main_arg3)
      ∧ r.2.mem ((c.tc : Thread Cert.KMergeIdeal.nD Cert.KMergeIdeal.τ).loc Cert.KMergeIdeal.main_arg4) = m ((c.tc : Thread Cert.KMergeIdeal.nD Cert.KMergeIdeal.τ).loc Cert.KMergeIdeal.main_arg4)
      ∧ r.2.mem ((c.tc : Thread Cert.KMergeIdeal.nD Cert.KMergeIdeal.τ).loc Cert.KMergeIdeal.main_arg5) = m ((c.tc : Thread Cert.KMergeIdeal.nD Cert.KMergeIdeal.τ).loc Cert.KMergeIdeal.main_arg5)
      ∧ r.2.mem ((c.tc : Thread Cert.KMergeIdeal.nD Cert.KMergeIdeal.τ).loc Cert.KMergeIdeal.main_arg6) = m ((c.tc : Thread Cert.KMergeIdeal.nD Cert.KMergeIdeal.τ).loc Cert.KMergeIdeal.main_arg6))
      ∧ r.2.sem = fun _ => 0)

def quiescent_RMergeIdeal [hRMergeIdeal : Cert.RMergeIdeal.Facts] : Prop :=
  ∀ (m : (ℓ : Loc Cert.RMergeIdeal.nD Cert.RMergeIdeal.τ Cert.RMergeIdeal.sig) → Buf (Elt Ideal) ℓ) (g : Dev Cert.RMergeIdeal.nD → PrngReg), Pre_RMergeIdeal m →
    θ_run (Cert.RMergeIdeal.defs (F := Ideal)) (onTc (τ := Cert.RMergeIdeal.τ) (Cert.RMergeIdeal.main (F := Ideal))) ⟨m, fun _ => 0, g⟩ (fun r => (∀ c : Dev Cert.RMergeIdeal.nD,
      r.2.mem ((c.tc : Thread Cert.RMergeIdeal.nD Cert.RMergeIdeal.τ).loc Cert.RMergeIdeal.main_arg0) = m ((c.tc : Thread Cert.RMergeIdeal.nD Cert.RMergeIdeal.τ).loc Cert.RMergeIdeal.main_arg0)
      ∧ r.2.mem ((c.tc : Thread Cert.RMergeIdeal.nD Cert.RMergeIdeal.τ).loc Cert.RMergeIdeal.main_arg1) = m ((c.tc : Thread Cert.RMergeIdeal.nD Cert.RMergeIdeal.τ).loc Cert.RMergeIdeal.main_arg1)
      ∧ r.2.mem ((c.tc : Thread Cert.RMergeIdeal.nD Cert.RMergeIdeal.τ).loc Cert.RMergeIdeal.main_arg2) = m ((c.tc : Thread Cert.RMergeIdeal.nD Cert.RMergeIdeal.τ).loc Cert.RMergeIdeal.main_arg2)
      ∧ r.2.mem ((c.tc : Thread Cert.RMergeIdeal.nD Cert.RMergeIdeal.τ).loc Cert.RMergeIdeal.main_arg3) = m ((c.tc : Thread Cert.RMergeIdeal.nD Cert.RMergeIdeal.τ).loc Cert.RMergeIdeal.main_arg3)
      ∧ r.2.mem ((c.tc : Thread Cert.RMergeIdeal.nD Cert.RMergeIdeal.τ).loc Cert.RMergeIdeal.main_arg4) = m ((c.tc : Thread Cert.RMergeIdeal.nD Cert.RMergeIdeal.τ).loc Cert.RMergeIdeal.main_arg4)
      ∧ r.2.mem ((c.tc : Thread Cert.RMergeIdeal.nD Cert.RMergeIdeal.τ).loc Cert.RMergeIdeal.main_arg5) = m ((c.tc : Thread Cert.RMergeIdeal.nD Cert.RMergeIdeal.τ).loc Cert.RMergeIdeal.main_arg5)
      ∧ r.2.mem ((c.tc : Thread Cert.RMergeIdeal.nD Cert.RMergeIdeal.τ).loc Cert.RMergeIdeal.main_arg6) = m ((c.tc : Thread Cert.RMergeIdeal.nD Cert.RMergeIdeal.τ).loc Cert.RMergeIdeal.main_arg6))
      ∧ r.2.sem = fun _ => 0)

def quiescent_KConv [hKConv : Cert.KConv.Facts] : Prop :=
  ∀ (m : (ℓ : Loc Cert.KConv.nD Cert.KConv.τ Cert.KConv.sig) → Buf (Elt Bits) ℓ) (g : Dev Cert.KConv.nD → PrngReg), Pre_KConv m →
    θ_run (Cert.KConv.defs (F := Bits)) (onTc (τ := Cert.KConv.τ) (Cert.KConv.main (F := Bits))) ⟨m, fun _ => 0, g⟩ (fun r => (∀ c : Dev Cert.KConv.nD,
      r.2.mem ((c.tc : Thread Cert.KConv.nD Cert.KConv.τ).loc Cert.KConv.main_arg0) = m ((c.tc : Thread Cert.KConv.nD Cert.KConv.τ).loc Cert.KConv.main_arg0)
      ∧ r.2.mem ((c.tc : Thread Cert.KConv.nD Cert.KConv.τ).loc Cert.KConv.main_arg1) = m ((c.tc : Thread Cert.KConv.nD Cert.KConv.τ).loc Cert.KConv.main_arg1)
      ∧ r.2.mem ((c.tc : Thread Cert.KConv.nD Cert.KConv.τ).loc Cert.KConv.main_arg2) = m ((c.tc : Thread Cert.KConv.nD Cert.KConv.τ).loc Cert.KConv.main_arg2))
      ∧ r.2.sem = fun _ => 0)

def quiescent_KConvIdeal [hKConvIdeal : Cert.KConvIdeal.Facts] : Prop :=
  ∀ (m : (ℓ : Loc Cert.KConvIdeal.nD Cert.KConvIdeal.τ Cert.KConvIdeal.sig) → Buf (Elt Ideal) ℓ) (g : Dev Cert.KConvIdeal.nD → PrngReg), Pre_KConvIdeal m →
    θ_run (Cert.KConvIdeal.defs (F := Ideal)) (onTc (τ := Cert.KConvIdeal.τ) (Cert.KConvIdeal.main (F := Ideal))) ⟨m, fun _ => 0, g⟩ (fun r => (∀ c : Dev Cert.KConvIdeal.nD,
      r.2.mem ((c.tc : Thread Cert.KConvIdeal.nD Cert.KConvIdeal.τ).loc Cert.KConvIdeal.main_arg0) = m ((c.tc : Thread Cert.KConvIdeal.nD Cert.KConvIdeal.τ).loc Cert.KConvIdeal.main_arg0)
      ∧ r.2.mem ((c.tc : Thread Cert.KConvIdeal.nD Cert.KConvIdeal.τ).loc Cert.KConvIdeal.main_arg1) = m ((c.tc : Thread Cert.KConvIdeal.nD Cert.KConvIdeal.τ).loc Cert.KConvIdeal.main_arg1)
      ∧ r.2.mem ((c.tc : Thread Cert.KConvIdeal.nD Cert.KConvIdeal.τ).loc Cert.KConvIdeal.main_arg2) = m ((c.tc : Thread Cert.KConvIdeal.nD Cert.KConvIdeal.τ).loc Cert.KConvIdeal.main_arg2))
      ∧ r.2.sem = fun _ => 0)

def quiescent_RConvIdeal [hRConvIdeal : Cert.RConvIdeal.Facts] : Prop :=
  ∀ (m : (ℓ : Loc Cert.RConvIdeal.nD Cert.RConvIdeal.τ Cert.RConvIdeal.sig) → Buf (Elt Ideal) ℓ) (g : Dev Cert.RConvIdeal.nD → PrngReg), Pre_RConvIdeal m →
    θ_run (Cert.RConvIdeal.defs (F := Ideal)) (onTc (τ := Cert.RConvIdeal.τ) (Cert.RConvIdeal.main (F := Ideal))) ⟨m, fun _ => 0, g⟩ (fun r => (∀ c : Dev Cert.RConvIdeal.nD,
      r.2.mem ((c.tc : Thread Cert.RConvIdeal.nD Cert.RConvIdeal.τ).loc Cert.RConvIdeal.main_arg0) = m ((c.tc : Thread Cert.RConvIdeal.nD Cert.RConvIdeal.τ).loc Cert.RConvIdeal.main_arg0)
      ∧ r.2.mem ((c.tc : Thread Cert.RConvIdeal.nD Cert.RConvIdeal.τ).loc Cert.RConvIdeal.main_arg1) = m ((c.tc : Thread Cert.RConvIdeal.nD Cert.RConvIdeal.τ).loc Cert.RConvIdeal.main_arg1)
      ∧ r.2.mem ((c.tc : Thread Cert.RConvIdeal.nD Cert.RConvIdeal.τ).loc Cert.RConvIdeal.main_arg2) = m ((c.tc : Thread Cert.RConvIdeal.nD Cert.RConvIdeal.τ).loc Cert.RConvIdeal.main_arg2))
      ∧ r.2.sem = fun _ => 0)

def quiescent_KBc [hKBc : Cert.KBc.Facts] : Prop :=
  ∀ (m : (ℓ : Loc Cert.KBc.nD Cert.KBc.τ Cert.KBc.sig) → Buf (Elt Bits) ℓ) (g : Dev Cert.KBc.nD → PrngReg), Pre_KBc m →
    θ_run (Cert.KBc.defs (F := Bits)) (onTc (τ := Cert.KBc.τ) (Cert.KBc.main (F := Bits))) ⟨m, fun _ => 0, g⟩ (fun r => (∀ c : Dev Cert.KBc.nD,
      r.2.mem ((c.tc : Thread Cert.KBc.nD Cert.KBc.τ).loc Cert.KBc.main_arg0) = m ((c.tc : Thread Cert.KBc.nD Cert.KBc.τ).loc Cert.KBc.main_arg0)
      ∧ r.2.mem ((c.tc : Thread Cert.KBc.nD Cert.KBc.τ).loc Cert.KBc.main_arg1) = m ((c.tc : Thread Cert.KBc.nD Cert.KBc.τ).loc Cert.KBc.main_arg1)
      ∧ r.2.mem ((c.tc : Thread Cert.KBc.nD Cert.KBc.τ).loc Cert.KBc.main_arg2) = m ((c.tc : Thread Cert.KBc.nD Cert.KBc.τ).loc Cert.KBc.main_arg2)
      ∧ r.2.mem ((c.tc : Thread Cert.KBc.nD Cert.KBc.τ).loc Cert.KBc.main_arg3) = m ((c.tc : Thread Cert.KBc.nD Cert.KBc.τ).loc Cert.KBc.main_arg3)
      ∧ r.2.mem ((c.tc : Thread Cert.KBc.nD Cert.KBc.τ).loc Cert.KBc.main_arg4) = m ((c.tc : Thread Cert.KBc.nD Cert.KBc.τ).loc Cert.KBc.main_arg4)
      ∧ r.2.mem ((c.tc : Thread Cert.KBc.nD Cert.KBc.τ).loc Cert.KBc.main_arg5) = m ((c.tc : Thread Cert.KBc.nD Cert.KBc.τ).loc Cert.KBc.main_arg5)
      ∧ r.2.mem ((c.tc : Thread Cert.KBc.nD Cert.KBc.τ).loc Cert.KBc.main_arg6) = m ((c.tc : Thread Cert.KBc.nD Cert.KBc.τ).loc Cert.KBc.main_arg6)
      ∧ r.2.mem ((c.tc : Thread Cert.KBc.nD Cert.KBc.τ).loc Cert.KBc.main_arg7) = m ((c.tc : Thread Cert.KBc.nD Cert.KBc.τ).loc Cert.KBc.main_arg7))
      ∧ r.2.sem = fun _ => 0)

def quiescent_KBcIdeal [hKBcIdeal : Cert.KBcIdeal.Facts] : Prop :=
  ∀ (m : (ℓ : Loc Cert.KBcIdeal.nD Cert.KBcIdeal.τ Cert.KBcIdeal.sig) → Buf (Elt Ideal) ℓ) (g : Dev Cert.KBcIdeal.nD → PrngReg), Pre_KBcIdeal m →
    θ_run (Cert.KBcIdeal.defs (F := Ideal)) (onTc (τ := Cert.KBcIdeal.τ) (Cert.KBcIdeal.main (F := Ideal))) ⟨m, fun _ => 0, g⟩ (fun r => (∀ c : Dev Cert.KBcIdeal.nD,
      r.2.mem ((c.tc : Thread Cert.KBcIdeal.nD Cert.KBcIdeal.τ).loc Cert.KBcIdeal.main_arg0) = m ((c.tc : Thread Cert.KBcIdeal.nD Cert.KBcIdeal.τ).loc Cert.KBcIdeal.main_arg0)
      ∧ r.2.mem ((c.tc : Thread Cert.KBcIdeal.nD Cert.KBcIdeal.τ).loc Cert.KBcIdeal.main_arg1) = m ((c.tc : Thread Cert.KBcIdeal.nD Cert.KBcIdeal.τ).loc Cert.KBcIdeal.main_arg1)
      ∧ r.2.mem ((c.tc : Thread Cert.KBcIdeal.nD Cert.KBcIdeal.τ).loc Cert.KBcIdeal.main_arg2) = m ((c.tc : Thread Cert.KBcIdeal.nD Cert.KBcIdeal.τ).loc Cert.KBcIdeal.main_arg2)
      ∧ r.2.mem ((c.tc : Thread Cert.KBcIdeal.nD Cert.KBcIdeal.τ).loc Cert.KBcIdeal.main_arg3) = m ((c.tc : Thread Cert.KBcIdeal.nD Cert.KBcIdeal.τ).loc Cert.KBcIdeal.main_arg3)
      ∧ r.2.mem ((c.tc : Thread Cert.KBcIdeal.nD Cert.KBcIdeal.τ).loc Cert.KBcIdeal.main_arg4) = m ((c.tc : Thread Cert.KBcIdeal.nD Cert.KBcIdeal.τ).loc Cert.KBcIdeal.main_arg4)
      ∧ r.2.mem ((c.tc : Thread Cert.KBcIdeal.nD Cert.KBcIdeal.τ).loc Cert.KBcIdeal.main_arg5) = m ((c.tc : Thread Cert.KBcIdeal.nD Cert.KBcIdeal.τ).loc Cert.KBcIdeal.main_arg5)
      ∧ r.2.mem ((c.tc : Thread Cert.KBcIdeal.nD Cert.KBcIdeal.τ).loc Cert.KBcIdeal.main_arg6) = m ((c.tc : Thread Cert.KBcIdeal.nD Cert.KBcIdeal.τ).loc Cert.KBcIdeal.main_arg6)
      ∧ r.2.mem ((c.tc : Thread Cert.KBcIdeal.nD Cert.KBcIdeal.τ).loc Cert.KBcIdeal.main_arg7) = m ((c.tc : Thread Cert.KBcIdeal.nD Cert.KBcIdeal.τ).loc Cert.KBcIdeal.main_arg7))
      ∧ r.2.sem = fun _ => 0)

def quiescent_KBcIdeal_pre_finite_bc [hKBcIdeal : Cert.KBcIdeal.Facts] [hPre_finite_bc : Cert.Pre_finite_bc.Facts] : Prop :=
  ∀ (m : (ℓ : Loc Cert.KBcIdeal.nD Cert.KBcIdeal.τ Cert.KBcIdeal.sig) → Buf (Elt Ideal) ℓ) (g : Dev Cert.KBcIdeal.nD → PrngReg), Pre_KBcIdeal_finite_bc m →
    θ_run (Cert.KBcIdeal.defs (F := Ideal)) (onTc (τ := Cert.KBcIdeal.τ) (Cert.KBcIdeal.main (F := Ideal))) ⟨m, fun _ => 0, g⟩ (fun r => (∀ c : Dev Cert.KBcIdeal.nD,
      r.2.mem ((c.tc : Thread Cert.KBcIdeal.nD Cert.KBcIdeal.τ).loc Cert.KBcIdeal.main_arg0) = m ((c.tc : Thread Cert.KBcIdeal.nD Cert.KBcIdeal.τ).loc Cert.KBcIdeal.main_arg0)
      ∧ r.2.mem ((c.tc : Thread Cert.KBcIdeal.nD Cert.KBcIdeal.τ).loc Cert.KBcIdeal.main_arg1) = m ((c.tc : Thread Cert.KBcIdeal.nD Cert.KBcIdeal.τ).loc Cert.KBcIdeal.main_arg1)
      ∧ r.2.mem ((c.tc : Thread Cert.KBcIdeal.nD Cert.KBcIdeal.τ).loc Cert.KBcIdeal.main_arg2) = m ((c.tc : Thread Cert.KBcIdeal.nD Cert.KBcIdeal.τ).loc Cert.KBcIdeal.main_arg2)
      ∧ r.2.mem ((c.tc : Thread Cert.KBcIdeal.nD Cert.KBcIdeal.τ).loc Cert.KBcIdeal.main_arg3) = m ((c.tc : Thread Cert.KBcIdeal.nD Cert.KBcIdeal.τ).loc Cert.KBcIdeal.main_arg3)
      ∧ r.2.mem ((c.tc : Thread Cert.KBcIdeal.nD Cert.KBcIdeal.τ).loc Cert.KBcIdeal.main_arg4) = m ((c.tc : Thread Cert.KBcIdeal.nD Cert.KBcIdeal.τ).loc Cert.KBcIdeal.main_arg4)
      ∧ r.2.mem ((c.tc : Thread Cert.KBcIdeal.nD Cert.KBcIdeal.τ).loc Cert.KBcIdeal.main_arg5) = m ((c.tc : Thread Cert.KBcIdeal.nD Cert.KBcIdeal.τ).loc Cert.KBcIdeal.main_arg5)
      ∧ r.2.mem ((c.tc : Thread Cert.KBcIdeal.nD Cert.KBcIdeal.τ).loc Cert.KBcIdeal.main_arg6) = m ((c.tc : Thread Cert.KBcIdeal.nD Cert.KBcIdeal.τ).loc Cert.KBcIdeal.main_arg6)
      ∧ r.2.mem ((c.tc : Thread Cert.KBcIdeal.nD Cert.KBcIdeal.τ).loc Cert.KBcIdeal.main_arg7) = m ((c.tc : Thread Cert.KBcIdeal.nD Cert.KBcIdeal.τ).loc Cert.KBcIdeal.main_arg7))
      ∧ r.2.sem = fun _ => 0)

def quiescent_RBcIdeal [hRBcIdeal : Cert.RBcIdeal.Facts] : Prop :=
  ∀ (m : (ℓ : Loc Cert.RBcIdeal.nD Cert.RBcIdeal.τ Cert.RBcIdeal.sig) → Buf (Elt Ideal) ℓ) (g : Dev Cert.RBcIdeal.nD → PrngReg), Pre_RBcIdeal m →
    θ_run (Cert.RBcIdeal.defs (F := Ideal)) (onTc (τ := Cert.RBcIdeal.τ) (Cert.RBcIdeal.main (F := Ideal))) ⟨m, fun _ => 0, g⟩ (fun r => (∀ c : Dev Cert.RBcIdeal.nD,
      r.2.mem ((c.tc : Thread Cert.RBcIdeal.nD Cert.RBcIdeal.τ).loc Cert.RBcIdeal.main_arg0) = m ((c.tc : Thread Cert.RBcIdeal.nD Cert.RBcIdeal.τ).loc Cert.RBcIdeal.main_arg0)
      ∧ r.2.mem ((c.tc : Thread Cert.RBcIdeal.nD Cert.RBcIdeal.τ).loc Cert.RBcIdeal.main_arg1) = m ((c.tc : Thread Cert.RBcIdeal.nD Cert.RBcIdeal.τ).loc Cert.RBcIdeal.main_arg1)
      ∧ r.2.mem ((c.tc : Thread Cert.RBcIdeal.nD Cert.RBcIdeal.τ).loc Cert.RBcIdeal.main_arg2) = m ((c.tc : Thread Cert.RBcIdeal.nD Cert.RBcIdeal.τ).loc Cert.RBcIdeal.main_arg2)
      ∧ r.2.mem ((c.tc : Thread Cert.RBcIdeal.nD Cert.RBcIdeal.τ).loc Cert.RBcIdeal.main_arg3) = m ((c.tc : Thread Cert.RBcIdeal.nD Cert.RBcIdeal.τ).loc Cert.RBcIdeal.main_arg3)
      ∧ r.2.mem ((c.tc : Thread Cert.RBcIdeal.nD Cert.RBcIdeal.τ).loc Cert.RBcIdeal.main_arg4) = m ((c.tc : Thread Cert.RBcIdeal.nD Cert.RBcIdeal.τ).loc Cert.RBcIdeal.main_arg4)
      ∧ r.2.mem ((c.tc : Thread Cert.RBcIdeal.nD Cert.RBcIdeal.τ).loc Cert.RBcIdeal.main_arg5) = m ((c.tc : Thread Cert.RBcIdeal.nD Cert.RBcIdeal.τ).loc Cert.RBcIdeal.main_arg5)
      ∧ r.2.mem ((c.tc : Thread Cert.RBcIdeal.nD Cert.RBcIdeal.τ).loc Cert.RBcIdeal.main_arg6) = m ((c.tc : Thread Cert.RBcIdeal.nD Cert.RBcIdeal.τ).loc Cert.RBcIdeal.main_arg6)
      ∧ r.2.mem ((c.tc : Thread Cert.RBcIdeal.nD Cert.RBcIdeal.τ).loc Cert.RBcIdeal.main_arg7) = m ((c.tc : Thread Cert.RBcIdeal.nD Cert.RBcIdeal.τ).loc Cert.RBcIdeal.main_arg7))
      ∧ r.2.sem = fun _ => 0)

def quiescent_RBcIdeal_pre_finite_bc [hRBcIdeal : Cert.RBcIdeal.Facts] [hPre_finite_bc : Cert.Pre_finite_bc.Facts] : Prop :=
  ∀ (m : (ℓ : Loc Cert.RBcIdeal.nD Cert.RBcIdeal.τ Cert.RBcIdeal.sig) → Buf (Elt Ideal) ℓ) (g : Dev Cert.RBcIdeal.nD → PrngReg), Pre_RBcIdeal_finite_bc m →
    θ_run (Cert.RBcIdeal.defs (F := Ideal)) (onTc (τ := Cert.RBcIdeal.τ) (Cert.RBcIdeal.main (F := Ideal))) ⟨m, fun _ => 0, g⟩ (fun r => (∀ c : Dev Cert.RBcIdeal.nD,
      r.2.mem ((c.tc : Thread Cert.RBcIdeal.nD Cert.RBcIdeal.τ).loc Cert.RBcIdeal.main_arg0) = m ((c.tc : Thread Cert.RBcIdeal.nD Cert.RBcIdeal.τ).loc Cert.RBcIdeal.main_arg0)
      ∧ r.2.mem ((c.tc : Thread Cert.RBcIdeal.nD Cert.RBcIdeal.τ).loc Cert.RBcIdeal.main_arg1) = m ((c.tc : Thread Cert.RBcIdeal.nD Cert.RBcIdeal.τ).loc Cert.RBcIdeal.main_arg1)
      ∧ r.2.mem ((c.tc : Thread Cert.RBcIdeal.nD Cert.RBcIdeal.τ).loc Cert.RBcIdeal.main_arg2) = m ((c.tc : Thread Cert.RBcIdeal.nD Cert.RBcIdeal.τ).loc Cert.RBcIdeal.main_arg2)
      ∧ r.2.mem ((c.tc : Thread Cert.RBcIdeal.nD Cert.RBcIdeal.τ).loc Cert.RBcIdeal.main_arg3) = m ((c.tc : Thread Cert.RBcIdeal.nD Cert.RBcIdeal.τ).loc Cert.RBcIdeal.main_arg3)
      ∧ r.2.mem ((c.tc : Thread Cert.RBcIdeal.nD Cert.RBcIdeal.τ).loc Cert.RBcIdeal.main_arg4) = m ((c.tc : Thread Cert.RBcIdeal.nD Cert.RBcIdeal.τ).loc Cert.RBcIdeal.main_arg4)
      ∧ r.2.mem ((c.tc : Thread Cert.RBcIdeal.nD Cert.RBcIdeal.τ).loc Cert.RBcIdeal.main_arg5) = m ((c.tc : Thread Cert.RBcIdeal.nD Cert.RBcIdeal.τ).loc Cert.RBcIdeal.main_arg5)
      ∧ r.2.mem ((c.tc : Thread Cert.RBcIdeal.nD Cert.RBcIdeal.τ).loc Cert.RBcIdeal.main_arg6) = m ((c.tc : Thread Cert.RBcIdeal.nD Cert.RBcIdeal.τ).loc Cert.RBcIdeal.main_arg6)
      ∧ r.2.mem ((c.tc : Thread Cert.RBcIdeal.nD Cert.RBcIdeal.τ).loc Cert.RBcIdeal.main_arg7) = m ((c.tc : Thread Cert.RBcIdeal.nD Cert.RBcIdeal.τ).loc Cert.RBcIdeal.main_arg7))
      ∧ r.2.sem = fun _ => 0)

def quiescent_KMix [hKMix : Cert.KMix.Facts] : Prop :=
  ∀ (m : (ℓ : Loc Cert.KMix.nD Cert.KMix.τ Cert.KMix.sig) → Buf (Elt Bits) ℓ) (g : Dev Cert.KMix.nD → PrngReg), Pre_KMix m →
    θ_run (Cert.KMix.defs (F := Bits)) (onTc (τ := Cert.KMix.τ) (Cert.KMix.main (F := Bits))) ⟨m, fun _ => 0, g⟩ (fun r => (∀ c : Dev Cert.KMix.nD,
      r.2.mem ((c.tc : Thread Cert.KMix.nD Cert.KMix.τ).loc Cert.KMix.main_arg0) = m ((c.tc : Thread Cert.KMix.nD Cert.KMix.τ).loc Cert.KMix.main_arg0)
      ∧ r.2.mem ((c.tc : Thread Cert.KMix.nD Cert.KMix.τ).loc Cert.KMix.main_arg1) = m ((c.tc : Thread Cert.KMix.nD Cert.KMix.τ).loc Cert.KMix.main_arg1)
      ∧ r.2.mem ((c.tc : Thread Cert.KMix.nD Cert.KMix.τ).loc Cert.KMix.main_arg2) = m ((c.tc : Thread Cert.KMix.nD Cert.KMix.τ).loc Cert.KMix.main_arg2)
      ∧ r.2.mem ((c.tc : Thread Cert.KMix.nD Cert.KMix.τ).loc Cert.KMix.main_arg3) = m ((c.tc : Thread Cert.KMix.nD Cert.KMix.τ).loc Cert.KMix.main_arg3)
      ∧ r.2.mem ((c.tc : Thread Cert.KMix.nD Cert.KMix.τ).loc Cert.KMix.main_arg4) = m ((c.tc : Thread Cert.KMix.nD Cert.KMix.τ).loc Cert.KMix.main_arg4)
      ∧ r.2.mem ((c.tc : Thread Cert.KMix.nD Cert.KMix.τ).loc Cert.KMix.main_arg5) = m ((c.tc : Thread Cert.KMix.nD Cert.KMix.τ).loc Cert.KMix.main_arg5))
      ∧ r.2.sem = fun _ => 0)

def quiescent_KMixIdeal [hKMixIdeal : Cert.KMixIdeal.Facts] : Prop :=
  ∀ (m : (ℓ : Loc Cert.KMixIdeal.nD Cert.KMixIdeal.τ Cert.KMixIdeal.sig) → Buf (Elt Ideal) ℓ) (g : Dev Cert.KMixIdeal.nD → PrngReg), Pre_KMixIdeal m →
    θ_run (Cert.KMixIdeal.defs (F := Ideal)) (onTc (τ := Cert.KMixIdeal.τ) (Cert.KMixIdeal.main (F := Ideal))) ⟨m, fun _ => 0, g⟩ (fun r => (∀ c : Dev Cert.KMixIdeal.nD,
      r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
      ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
      ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2)
      ∧ r.2.mem ((c.tc : Thread Cert.KMixIdeal.nD Cert.KMixIdeal.τ).loc Cert.KMixIdeal.main_arg3) = m ((c.tc : Thread Cert.KMixIdeal.nD Cert.KMixIdeal.τ).loc Cert.KMixIdeal.main_arg3)
      ∧ r.2.mem ((c.tc : Thread Cert.KMixIdeal.nD Cert.KMixIdeal.τ).loc Cert.KMixIdeal.main_arg4) = m ((c.tc : Thread Cert.KMixIdeal.nD Cert.KMixIdeal.τ).loc Cert.KMixIdeal.main_arg4)
      ∧ r.2.mem ((c.tc : Thread Cert.KMixIdeal.nD Cert.KMixIdeal.τ).loc Cert.KMixIdeal.main_arg5) = m ((c.tc : Thread Cert.KMixIdeal.nD Cert.KMixIdeal.τ).loc Cert.KMixIdeal.main_arg5))
      ∧ r.2.sem = fun _ => 0)

def quiescent_RMixIdeal [hRMixIdeal : Cert.RMixIdeal.Facts] : Prop :=
  ∀ (m : (ℓ : Loc Cert.RMixIdeal.nD Cert.RMixIdeal.τ Cert.RMixIdeal.sig) → Buf (Elt Ideal) ℓ) (g : Dev Cert.RMixIdeal.nD → PrngReg), Pre_RMixIdeal m →
    θ_run (Cert.RMixIdeal.defs (F := Ideal)) (onTc (τ := Cert.RMixIdeal.τ) (Cert.RMixIdeal.main (F := Ideal))) ⟨m, fun _ => 0, g⟩ (fun r => (∀ c : Dev Cert.RMixIdeal.nD,
      r.2.mem ((c.tc : Thread Cert.RMixIdeal.nD Cert.RMixIdeal.τ).loc Cert.RMixIdeal.main_arg0) = m ((c.tc : Thread Cert.RMixIdeal.nD Cert.RMixIdeal.τ).loc Cert.RMixIdeal.main_arg0)
      ∧ r.2.mem ((c.tc : Thread Cert.RMixIdeal.nD Cert.RMixIdeal.τ).loc Cert.RMixIdeal.main_arg1) = m ((c.tc : Thread Cert.RMixIdeal.nD Cert.RMixIdeal.τ).loc Cert.RMixIdeal.main_arg1)
      ∧ r.2.mem ((c.tc : Thread Cert.RMixIdeal.nD Cert.RMixIdeal.τ).loc Cert.RMixIdeal.main_arg2) = m ((c.tc : Thread Cert.RMixIdeal.nD Cert.RMixIdeal.τ).loc Cert.RMixIdeal.main_arg2)
      ∧ r.2.mem ((c.tc : Thread Cert.RMixIdeal.nD Cert.RMixIdeal.τ).loc Cert.RMixIdeal.main_arg3) = m ((c.tc : Thread Cert.RMixIdeal.nD Cert.RMixIdeal.τ).loc Cert.RMixIdeal.main_arg3)
      ∧ r.2.mem ((c.tc : Thread Cert.RMixIdeal.nD Cert.RMixIdeal.τ).loc Cert.RMixIdeal.main_arg4) = m ((c.tc : Thread Cert.RMixIdeal.nD Cert.RMixIdeal.τ).loc Cert.RMixIdeal.main_arg4)
      ∧ r.2.mem ((c.tc : Thread Cert.RMixIdeal.nD Cert.RMixIdeal.τ).loc Cert.RMixIdeal.main_arg5) = m ((c.tc : Thread Cert.RMixIdeal.nD Cert.RMixIdeal.τ).loc Cert.RMixIdeal.main_arg5))
      ∧ r.2.sem = fun _ => 0)

def quiescent_KUp [hKUp : Cert.KUp.Facts] : Prop :=
  ∀ (m : (ℓ : Loc Cert.KUp.nD Cert.KUp.τ Cert.KUp.sig) → Buf (Elt Bits) ℓ) (g : Dev Cert.KUp.nD → PrngReg), Pre_KUp m →
    θ_run (Cert.KUp.defs (F := Bits)) (onTc (τ := Cert.KUp.τ) (Cert.KUp.main (F := Bits))) ⟨m, fun _ => 0, g⟩ (fun r => (∀ c : Dev Cert.KUp.nD,
      r.2.mem ((c.tc : Thread Cert.KUp.nD Cert.KUp.τ).loc Cert.KUp.main_arg0) = m ((c.tc : Thread Cert.KUp.nD Cert.KUp.τ).loc Cert.KUp.main_arg0)
      ∧ r.2.mem ((c.tc : Thread Cert.KUp.nD Cert.KUp.τ).loc Cert.KUp.main_arg1) = m ((c.tc : Thread Cert.KUp.nD Cert.KUp.τ).loc Cert.KUp.main_arg1)
      ∧ r.2.mem ((c.tc : Thread Cert.KUp.nD Cert.KUp.τ).loc Cert.KUp.main_arg2) = m ((c.tc : Thread Cert.KUp.nD Cert.KUp.τ).loc Cert.KUp.main_arg2)
      ∧ r.2.mem ((c.tc : Thread Cert.KUp.nD Cert.KUp.τ).loc Cert.KUp.main_arg3) = m ((c.tc : Thread Cert.KUp.nD Cert.KUp.τ).loc Cert.KUp.main_arg3))
      ∧ r.2.sem = fun _ => 0)

def quiescent_KUpIdeal [hKUpIdeal : Cert.KUpIdeal.Facts] : Prop :=
  ∀ (m : (ℓ : Loc Cert.KUpIdeal.nD Cert.KUpIdeal.τ Cert.KUpIdeal.sig) → Buf (Elt Ideal) ℓ) (g : Dev Cert.KUpIdeal.nD → PrngReg), Pre_KUpIdeal m →
    θ_run (Cert.KUpIdeal.defs (F := Ideal)) (onTc (τ := Cert.KUpIdeal.τ) (Cert.KUpIdeal.main (F := Ideal))) ⟨m, fun _ => 0, g⟩ (fun r => (∀ c : Dev Cert.KUpIdeal.nD,
      r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
      ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
      ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
      ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3))
      ∧ r.2.sem = fun _ => 0)

def quiescent_RUpIdeal [hRUpIdeal : Cert.RUpIdeal.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1)
      ∧ r.2.mem ((c.tc : Thread Cert.RUpIdeal.nD Cert.RUpIdeal.τ).loc Cert.RUpIdeal.main_arg2) = m ((c.tc : Thread Cert.RUpIdeal.nD Cert.RUpIdeal.τ).loc Cert.RUpIdeal.main_arg2)
      ∧ r.2.mem ((c.tc : Thread Cert.RUpIdeal.nD Cert.RUpIdeal.τ).loc Cert.RUpIdeal.main_arg3) = m ((c.tc : Thread Cert.RUpIdeal.nD Cert.RUpIdeal.τ).loc Cert.RUpIdeal.main_arg3))
      ∧ r.2.sem = fun _ => 0)

def quiescent_KDown [hKDown : Cert.KDown.Facts] : Prop :=
  ∀ (m : (ℓ : Loc Cert.KDown.nD Cert.KDown.τ Cert.KDown.sig) → Buf (Elt Bits) ℓ) (g : Dev Cert.KDown.nD → PrngReg), Pre_KDown m →
    θ_run (Cert.KDown.defs (F := Bits)) (onTc (τ := Cert.KDown.τ) (Cert.KDown.main (F := Bits))) ⟨m, fun _ => 0, g⟩ (fun r => (∀ c : Dev Cert.KDown.nD,
      r.2.mem ((c.tc : Thread Cert.KDown.nD Cert.KDown.τ).loc Cert.KDown.main_arg0) = m ((c.tc : Thread Cert.KDown.nD Cert.KDown.τ).loc Cert.KDown.main_arg0)
      ∧ r.2.mem ((c.tc : Thread Cert.KDown.nD Cert.KDown.τ).loc Cert.KDown.main_arg1) = m ((c.tc : Thread Cert.KDown.nD Cert.KDown.τ).loc Cert.KDown.main_arg1)
      ∧ r.2.mem ((c.tc : Thread Cert.KDown.nD Cert.KDown.τ).loc Cert.KDown.main_arg2) = m ((c.tc : Thread Cert.KDown.nD Cert.KDown.τ).loc Cert.KDown.main_arg2)
      ∧ r.2.mem ((c.tc : Thread Cert.KDown.nD Cert.KDown.τ).loc Cert.KDown.main_arg3) = m ((c.tc : Thread Cert.KDown.nD Cert.KDown.τ).loc Cert.KDown.main_arg3))
      ∧ r.2.sem = fun _ => 0)

def quiescent_KDownIdeal [hKDownIdeal : Cert.KDownIdeal.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
      ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2)
      ∧ r.2.mem ((c.tc : Thread Cert.RDownIdeal.nD Cert.RDownIdeal.τ).loc Cert.RDownIdeal.main_arg3) = m ((c.tc : Thread Cert.RDownIdeal.nD Cert.RDownIdeal.τ).loc Cert.RDownIdeal.main_arg3))
      ∧ r.2.sem = fun _ => 0)

def quiescent_KIn [hKIn : Cert.KIn.Facts] : Prop :=
  ∀ (m : (ℓ : Loc Cert.KIn.nD Cert.KIn.τ Cert.KIn.sig) → Buf (Elt Bits) ℓ) (g : Dev Cert.KIn.nD → PrngReg), Pre_KIn m →
    θ_run (Cert.KIn.defs (F := Bits)) (onTc (τ := Cert.KIn.τ) (Cert.KIn.main (F := Bits))) ⟨m, fun _ => 0, g⟩ (fun r => (∀ c : Dev Cert.KIn.nD,
      r.2.mem ((c.tc : Thread Cert.KIn.nD Cert.KIn.τ).loc Cert.KIn.main_arg0) = m ((c.tc : Thread Cert.KIn.nD Cert.KIn.τ).loc Cert.KIn.main_arg0)
      ∧ r.2.mem ((c.tc : Thread Cert.KIn.nD Cert.KIn.τ).loc Cert.KIn.main_arg1) = m ((c.tc : Thread Cert.KIn.nD Cert.KIn.τ).loc Cert.KIn.main_arg1)
      ∧ r.2.mem ((c.tc : Thread Cert.KIn.nD Cert.KIn.τ).loc Cert.KIn.main_arg2) = m ((c.tc : Thread Cert.KIn.nD Cert.KIn.τ).loc Cert.KIn.main_arg2))
      ∧ r.2.sem = fun _ => 0)

def quiescent_KInIdeal [hKInIdeal : Cert.KInIdeal.Facts] : Prop :=
  ∀ (m : (ℓ : Loc Cert.KInIdeal.nD Cert.KInIdeal.τ Cert.KInIdeal.sig) → Buf (Elt Ideal) ℓ) (g : Dev Cert.KInIdeal.nD → PrngReg), Pre_KInIdeal m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
      ∧ r.2.mem ((c.tc : Thread Cert.KInIdeal.nD Cert.KInIdeal.τ).loc Cert.KInIdeal.main_arg2) = m ((c.tc : Thread Cert.KInIdeal.nD Cert.KInIdeal.τ).loc Cert.KInIdeal.main_arg2))
      ∧ r.2.sem = fun _ => 0)

def quiescent_RInIdeal [hRInIdeal : Cert.RInIdeal.Facts] : Prop :=
  ∀ (m : (ℓ : Loc Cert.RInIdeal.nD Cert.RInIdeal.τ Cert.RInIdeal.sig) → Buf (Elt Ideal) ℓ) (g : Dev Cert.RInIdeal.nD → PrngReg), Pre_RInIdeal m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1)
      ∧ r.2.mem ((c.tc : Thread Cert.RInIdeal.nD Cert.RInIdeal.τ).loc Cert.RInIdeal.main_arg2) = m ((c.tc : Thread Cert.RInIdeal.nD Cert.RInIdeal.τ).loc Cert.RInIdeal.main_arg2))
      ∧ r.2.sem = fun _ => 0)

def quiescent_KProj [hKProj : Cert.KProj.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1)
      ∧ r.2.mem ((c.tc : Thread Cert.KProj.nD Cert.KProj.τ).loc Cert.KProj.main_arg2) = m ((c.tc : Thread Cert.KProj.nD Cert.KProj.τ).loc Cert.KProj.main_arg2)
      ∧ r.2.mem ((c.tc : Thread Cert.KProj.nD Cert.KProj.τ).loc Cert.KProj.main_arg3) = m ((c.tc : Thread Cert.KProj.nD Cert.KProj.τ).loc Cert.KProj.main_arg3)
      ∧ r.2.mem ((c.tc : Thread Cert.KProj.nD Cert.KProj.τ).loc Cert.KProj.main_arg4) = m ((c.tc : Thread Cert.KProj.nD Cert.KProj.τ).loc Cert.KProj.main_arg4)
      ∧ r.2.mem ((c.tc : Thread Cert.KProj.nD Cert.KProj.τ).loc Cert.KProj.main_arg5) = m ((c.tc : Thread Cert.KProj.nD Cert.KProj.τ).loc Cert.KProj.main_arg5)
      ∧ r.2.mem ((c.tc : Thread Cert.KProj.nD Cert.KProj.τ).loc Cert.KProj.main_arg6) = m ((c.tc : Thread Cert.KProj.nD Cert.KProj.τ).loc Cert.KProj.main_arg6))
      ∧ r.2.sem = fun _ => 0)

def quiescent_KProjIdeal [hKProjIdeal : Cert.KProjIdeal.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
      ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2)
      ∧ r.2.mem ((c.tc : Thread Cert.KProjIdeal.nD Cert.KProjIdeal.τ).loc Cert.KProjIdeal.main_arg3) = m ((c.tc : Thread Cert.KProjIdeal.nD Cert.KProjIdeal.τ).loc Cert.KProjIdeal.main_arg3)
      ∧ r.2.mem ((c.tc : Thread Cert.KProjIdeal.nD Cert.KProjIdeal.τ).loc Cert.KProjIdeal.main_arg4) = m ((c.tc : Thread Cert.KProjIdeal.nD Cert.KProjIdeal.τ).loc Cert.KProjIdeal.main_arg4)
      ∧ r.2.mem ((c.tc : Thread Cert.KProjIdeal.nD Cert.KProjIdeal.τ).loc Cert.KProjIdeal.main_arg5) = m ((c.tc : Thread Cert.KProjIdeal.nD Cert.KProjIdeal.τ).loc Cert.KProjIdeal.main_arg5)
      ∧ r.2.mem ((c.tc : Thread Cert.KProjIdeal.nD Cert.KProjIdeal.τ).loc Cert.KProjIdeal.main_arg6) = m ((c.tc : Thread Cert.KProjIdeal.nD Cert.KProjIdeal.τ).loc Cert.KProjIdeal.main_arg6))
      ∧ r.2.sem = fun _ => 0)

def quiescent_RProjIdeal [hRProjIdeal : Cert.RProjIdeal.Facts] : Prop :=
  ∀ (m : (ℓ : Loc Cert.RProjIdeal.nD Cert.RProjIdeal.τ Cert.RProjIdeal.sig) → Buf (Elt Ideal) ℓ) (g : Dev Cert.RProjIdeal.nD → PrngReg), Pre_RProjIdeal m →
    θ_run (Cert.RProjIdeal.defs (F := Ideal)) (onTc (τ := Cert.RProjIdeal.τ) (Cert.RProjIdeal.main (F := Ideal))) ⟨m, fun _ => 0, g⟩ (fun r => (∀ c : Dev Cert.RProjIdeal.nD,
      r.2.mem ((c.tc : Thread Cert.RProjIdeal.nD Cert.RProjIdeal.τ).loc Cert.RProjIdeal.main_arg0) = m ((c.tc : Thread Cert.RProjIdeal.nD Cert.RProjIdeal.τ).loc Cert.RProjIdeal.main_arg0)
      ∧ r.2.mem ((c.tc : Thread Cert.RProjIdeal.nD Cert.RProjIdeal.τ).loc Cert.RProjIdeal.main_arg1) = m ((c.tc : Thread Cert.RProjIdeal.nD Cert.RProjIdeal.τ).loc Cert.RProjIdeal.main_arg1)
      ∧ r.2.mem ((c.tc : Thread Cert.RProjIdeal.nD Cert.RProjIdeal.τ).loc Cert.RProjIdeal.main_arg2) = m ((c.tc : Thread Cert.RProjIdeal.nD Cert.RProjIdeal.τ).loc Cert.RProjIdeal.main_arg2)
      ∧ r.2.mem ((c.tc : Thread Cert.RProjIdeal.nD Cert.RProjIdeal.τ).loc Cert.RProjIdeal.main_arg3) = m ((c.tc : Thread Cert.RProjIdeal.nD Cert.RProjIdeal.τ).loc Cert.RProjIdeal.main_arg3)
      ∧ r.2.mem ((c.tc : Thread Cert.RProjIdeal.nD Cert.RProjIdeal.τ).loc Cert.RProjIdeal.main_arg4) = m ((c.tc : Thread Cert.RProjIdeal.nD Cert.RProjIdeal.τ).loc Cert.RProjIdeal.main_arg4)
      ∧ r.2.mem ((c.tc : Thread Cert.RProjIdeal.nD Cert.RProjIdeal.τ).loc Cert.RProjIdeal.main_arg5) = m ((c.tc : Thread Cert.RProjIdeal.nD Cert.RProjIdeal.τ).loc Cert.RProjIdeal.main_arg5)
      ∧ r.2.mem ((c.tc : Thread Cert.RProjIdeal.nD Cert.RProjIdeal.τ).loc Cert.RProjIdeal.main_arg6) = m ((c.tc : Thread Cert.RProjIdeal.nD Cert.RProjIdeal.τ).loc Cert.RProjIdeal.main_arg6))
      ∧ r.2.sem = fun _ => 0)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1)
      ∧ r.2.mem ((c.tc : Thread Cert.KOut.nD Cert.KOut.τ).loc Cert.KOut.main_arg2) = m ((c.tc : Thread Cert.KOut.nD Cert.KOut.τ).loc Cert.KOut.main_arg2)
      ∧ r.2.mem ((c.tc : Thread Cert.KOut.nD Cert.KOut.τ).loc Cert.KOut.main_arg3) = m ((c.tc : Thread Cert.KOut.nD Cert.KOut.τ).loc Cert.KOut.main_arg3))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
      ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
      ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1)
      ∧ r.2.mem ((c.tc : Thread Cert.ROutIdeal.nD Cert.ROutIdeal.τ).loc Cert.ROutIdeal.main_arg2) = m ((c.tc : Thread Cert.ROutIdeal.nD Cert.ROutIdeal.τ).loc Cert.ROutIdeal.main_arg2)
      ∧ r.2.mem ((c.tc : Thread Cert.ROutIdeal.nD Cert.ROutIdeal.τ).loc Cert.ROutIdeal.main_arg3) = m ((c.tc : Thread Cert.ROutIdeal.nD Cert.ROutIdeal.τ).loc Cert.ROutIdeal.main_arg3))
      ∧ r.2.sem = fun _ => 0)

def quiescent_KLruA [hKLruA : Cert.KLruA.Facts] : Prop :=
  ∀ (m : (ℓ : Loc Cert.KLruA.nD Cert.KLruA.τ Cert.KLruA.sig) → Buf (Elt Bits) ℓ) (g : Dev Cert.KLruA.nD → PrngReg), Pre_KLruA m →
    θ_run (Cert.KLruA.defs (F := Bits)) (onTc (τ := Cert.KLruA.τ) (Cert.KLruA.main (F := Bits))) ⟨m, fun _ => 0, g⟩ (fun r => (∀ c : Dev Cert.KLruA.nD,
      r.2.mem ((c.tc : Thread Cert.KLruA.nD Cert.KLruA.τ).loc Cert.KLruA.main_arg0) = m ((c.tc : Thread Cert.KLruA.nD Cert.KLruA.τ).loc Cert.KLruA.main_arg0)
      ∧ r.2.mem ((c.tc : Thread Cert.KLruA.nD Cert.KLruA.τ).loc Cert.KLruA.main_arg1) = m ((c.tc : Thread Cert.KLruA.nD Cert.KLruA.τ).loc Cert.KLruA.main_arg1)
      ∧ r.2.mem ((c.tc : Thread Cert.KLruA.nD Cert.KLruA.τ).loc Cert.KLruA.main_arg2) = m ((c.tc : Thread Cert.KLruA.nD Cert.KLruA.τ).loc Cert.KLruA.main_arg2)
      ∧ r.2.mem ((c.tc : Thread Cert.KLruA.nD Cert.KLruA.τ).loc Cert.KLruA.main_arg3) = m ((c.tc : Thread Cert.KLruA.nD Cert.KLruA.τ).loc Cert.KLruA.main_arg3)
      ∧ r.2.mem ((c.tc : Thread Cert.KLruA.nD Cert.KLruA.τ).loc Cert.KLruA.main_arg4) = m ((c.tc : Thread Cert.KLruA.nD Cert.KLruA.τ).loc Cert.KLruA.main_arg4)
      ∧ r.2.mem ((c.tc : Thread Cert.KLruA.nD Cert.KLruA.τ).loc Cert.KLruA.main_arg5) = m ((c.tc : Thread Cert.KLruA.nD Cert.KLruA.τ).loc Cert.KLruA.main_arg5)
      ∧ r.2.mem ((c.tc : Thread Cert.KLruA.nD Cert.KLruA.τ).loc Cert.KLruA.main_arg6) = m ((c.tc : Thread Cert.KLruA.nD Cert.KLruA.τ).loc Cert.KLruA.main_arg6)
      ∧ r.2.mem ((c.tc : Thread Cert.KLruA.nD Cert.KLruA.τ).loc Cert.KLruA.main_arg7) = m ((c.tc : Thread Cert.KLruA.nD Cert.KLruA.τ).loc Cert.KLruA.main_arg7))
      ∧ r.2.sem = fun _ => 0)

def quiescent_KLruAIdeal [hKLruAIdeal : Cert.KLruAIdeal.Facts] : Prop :=
  ∀ (m : (ℓ : Loc Cert.KLruAIdeal.nD Cert.KLruAIdeal.τ Cert.KLruAIdeal.sig) → Buf (Elt Ideal) ℓ) (g : Dev Cert.KLruAIdeal.nD → PrngReg), Pre_KLruAIdeal m →
    θ_run (Cert.KLruAIdeal.defs (F := Ideal)) (onTc (τ := Cert.KLruAIdeal.τ) (Cert.KLruAIdeal.main (F := Ideal))) ⟨m, fun _ => 0, g⟩ (fun r => (∀ c : Dev Cert.KLruAIdeal.nD,
      r.2.mem ((c.tc : Thread Cert.KLruAIdeal.nD Cert.KLruAIdeal.τ).loc Cert.KLruAIdeal.main_arg0) = m ((c.tc : Thread Cert.KLruAIdeal.nD Cert.KLruAIdeal.τ).loc Cert.KLruAIdeal.main_arg0)
      ∧ r.2.mem ((c.tc : Thread Cert.KLruAIdeal.nD Cert.KLruAIdeal.τ).loc Cert.KLruAIdeal.main_arg1) = m ((c.tc : Thread Cert.KLruAIdeal.nD Cert.KLruAIdeal.τ).loc Cert.KLruAIdeal.main_arg1)
      ∧ r.2.mem ((c.tc : Thread Cert.KLruAIdeal.nD Cert.KLruAIdeal.τ).loc Cert.KLruAIdeal.main_arg2) = m ((c.tc : Thread Cert.KLruAIdeal.nD Cert.KLruAIdeal.τ).loc Cert.KLruAIdeal.main_arg2)
      ∧ r.2.mem ((c.tc : Thread Cert.KLruAIdeal.nD Cert.KLruAIdeal.τ).loc Cert.KLruAIdeal.main_arg3) = m ((c.tc : Thread Cert.KLruAIdeal.nD Cert.KLruAIdeal.τ).loc Cert.KLruAIdeal.main_arg3)
      ∧ r.2.mem ((c.tc : Thread Cert.KLruAIdeal.nD Cert.KLruAIdeal.τ).loc Cert.KLruAIdeal.main_arg4) = m ((c.tc : Thread Cert.KLruAIdeal.nD Cert.KLruAIdeal.τ).loc Cert.KLruAIdeal.main_arg4)
      ∧ r.2.mem ((c.tc : Thread Cert.KLruAIdeal.nD Cert.KLruAIdeal.τ).loc Cert.KLruAIdeal.main_arg5) = m ((c.tc : Thread Cert.KLruAIdeal.nD Cert.KLruAIdeal.τ).loc Cert.KLruAIdeal.main_arg5)
      ∧ r.2.mem ((c.tc : Thread Cert.KLruAIdeal.nD Cert.KLruAIdeal.τ).loc Cert.KLruAIdeal.main_arg6) = m ((c.tc : Thread Cert.KLruAIdeal.nD Cert.KLruAIdeal.τ).loc Cert.KLruAIdeal.main_arg6)
      ∧ r.2.mem ((c.tc : Thread Cert.KLruAIdeal.nD Cert.KLruAIdeal.τ).loc Cert.KLruAIdeal.main_arg7) = m ((c.tc : Thread Cert.KLruAIdeal.nD Cert.KLruAIdeal.τ).loc Cert.KLruAIdeal.main_arg7))
      ∧ r.2.sem = fun _ => 0)

def quiescent_KLruAIdeal_pre_wide_lrua [hKLruAIdeal : Cert.KLruAIdeal.Facts] [hPre_wide_lrua : Cert.Pre_wide_lrua.Facts] : Prop :=
  ∀ (m : (ℓ : Loc Cert.KLruAIdeal.nD Cert.KLruAIdeal.τ Cert.KLruAIdeal.sig) → Buf (Elt Ideal) ℓ) (g : Dev Cert.KLruAIdeal.nD → PrngReg), Pre_KLruAIdeal_wide_lrua m →
    θ_run (Cert.KLruAIdeal.defs (F := Ideal)) (onTc (τ := Cert.KLruAIdeal.τ) (Cert.KLruAIdeal.main (F := Ideal))) ⟨m, fun _ => 0, g⟩ (fun r => (∀ c : Dev Cert.KLruAIdeal.nD,
      r.2.mem ((c.tc : Thread Cert.KLruAIdeal.nD Cert.KLruAIdeal.τ).loc Cert.KLruAIdeal.main_arg0) = m ((c.tc : Thread Cert.KLruAIdeal.nD Cert.KLruAIdeal.τ).loc Cert.KLruAIdeal.main_arg0)
      ∧ r.2.mem ((c.tc : Thread Cert.KLruAIdeal.nD Cert.KLruAIdeal.τ).loc Cert.KLruAIdeal.main_arg1) = m ((c.tc : Thread Cert.KLruAIdeal.nD Cert.KLruAIdeal.τ).loc Cert.KLruAIdeal.main_arg1)
      ∧ r.2.mem ((c.tc : Thread Cert.KLruAIdeal.nD Cert.KLruAIdeal.τ).loc Cert.KLruAIdeal.main_arg2) = m ((c.tc : Thread Cert.KLruAIdeal.nD Cert.KLruAIdeal.τ).loc Cert.KLruAIdeal.main_arg2)
      ∧ r.2.mem ((c.tc : Thread Cert.KLruAIdeal.nD Cert.KLruAIdeal.τ).loc Cert.KLruAIdeal.main_arg3) = m ((c.tc : Thread Cert.KLruAIdeal.nD Cert.KLruAIdeal.τ).loc Cert.KLruAIdeal.main_arg3)
      ∧ r.2.mem ((c.tc : Thread Cert.KLruAIdeal.nD Cert.KLruAIdeal.τ).loc Cert.KLruAIdeal.main_arg4) = m ((c.tc : Thread Cert.KLruAIdeal.nD Cert.KLruAIdeal.τ).loc Cert.KLruAIdeal.main_arg4)
      ∧ r.2.mem ((c.tc : Thread Cert.KLruAIdeal.nD Cert.KLruAIdeal.τ).loc Cert.KLruAIdeal.main_arg5) = m ((c.tc : Thread Cert.KLruAIdeal.nD Cert.KLruAIdeal.τ).loc Cert.KLruAIdeal.main_arg5)
      ∧ r.2.mem ((c.tc : Thread Cert.KLruAIdeal.nD Cert.KLruAIdeal.τ).loc Cert.KLruAIdeal.main_arg6) = m ((c.tc : Thread Cert.KLruAIdeal.nD Cert.KLruAIdeal.τ).loc Cert.KLruAIdeal.main_arg6)
      ∧ r.2.mem ((c.tc : Thread Cert.KLruAIdeal.nD Cert.KLruAIdeal.τ).loc Cert.KLruAIdeal.main_arg7) = m ((c.tc : Thread Cert.KLruAIdeal.nD Cert.KLruAIdeal.τ).loc Cert.KLruAIdeal.main_arg7))
      ∧ r.2.sem = fun _ => 0)

def quiescent_RLruAIdeal [hRLruAIdeal : Cert.RLruAIdeal.Facts] : Prop :=
  ∀ (m : (ℓ : Loc Cert.RLruAIdeal.nD Cert.RLruAIdeal.τ Cert.RLruAIdeal.sig) → Buf (Elt Ideal) ℓ) (g : Dev Cert.RLruAIdeal.nD → PrngReg), Pre_RLruAIdeal m →
    θ_run (Cert.RLruAIdeal.defs (F := Ideal)) (onTc (τ := Cert.RLruAIdeal.τ) (Cert.RLruAIdeal.main (F := Ideal))) ⟨m, fun _ => 0, g⟩ (fun r => (∀ c : Dev Cert.RLruAIdeal.nD,
      r.2.mem ((c.tc : Thread Cert.RLruAIdeal.nD Cert.RLruAIdeal.τ).loc Cert.RLruAIdeal.main_arg0) = m ((c.tc : Thread Cert.RLruAIdeal.nD Cert.RLruAIdeal.τ).loc Cert.RLruAIdeal.main_arg0)
      ∧ r.2.mem ((c.tc : Thread Cert.RLruAIdeal.nD Cert.RLruAIdeal.τ).loc Cert.RLruAIdeal.main_arg1) = m ((c.tc : Thread Cert.RLruAIdeal.nD Cert.RLruAIdeal.τ).loc Cert.RLruAIdeal.main_arg1)
      ∧ r.2.mem ((c.tc : Thread Cert.RLruAIdeal.nD Cert.RLruAIdeal.τ).loc Cert.RLruAIdeal.main_arg2) = m ((c.tc : Thread Cert.RLruAIdeal.nD Cert.RLruAIdeal.τ).loc Cert.RLruAIdeal.main_arg2)
      ∧ r.2.mem ((c.tc : Thread Cert.RLruAIdeal.nD Cert.RLruAIdeal.τ).loc Cert.RLruAIdeal.main_arg3) = m ((c.tc : Thread Cert.RLruAIdeal.nD Cert.RLruAIdeal.τ).loc Cert.RLruAIdeal.main_arg3)
      ∧ r.2.mem ((c.tc : Thread Cert.RLruAIdeal.nD Cert.RLruAIdeal.τ).loc Cert.RLruAIdeal.main_arg4) = m ((c.tc : Thread Cert.RLruAIdeal.nD Cert.RLruAIdeal.τ).loc Cert.RLruAIdeal.main_arg4)
      ∧ r.2.mem ((c.tc : Thread Cert.RLruAIdeal.nD Cert.RLruAIdeal.τ).loc Cert.RLruAIdeal.main_arg5) = m ((c.tc : Thread Cert.RLruAIdeal.nD Cert.RLruAIdeal.τ).loc Cert.RLruAIdeal.main_arg5)
      ∧ r.2.mem ((c.tc : Thread Cert.RLruAIdeal.nD Cert.RLruAIdeal.τ).loc Cert.RLruAIdeal.main_arg6) = m ((c.tc : Thread Cert.RLruAIdeal.nD Cert.RLruAIdeal.τ).loc Cert.RLruAIdeal.main_arg6)
      ∧ r.2.mem ((c.tc : Thread Cert.RLruAIdeal.nD Cert.RLruAIdeal.τ).loc Cert.RLruAIdeal.main_arg7) = m ((c.tc : Thread Cert.RLruAIdeal.nD Cert.RLruAIdeal.τ).loc Cert.RLruAIdeal.main_arg7))
      ∧ r.2.sem = fun _ => 0)

def quiescent_RLruAIdeal_pre_wide_lrua [hRLruAIdeal : Cert.RLruAIdeal.Facts] [hPre_wide_lrua : Cert.Pre_wide_lrua.Facts] : Prop :=
  ∀ (m : (ℓ : Loc Cert.RLruAIdeal.nD Cert.RLruAIdeal.τ Cert.RLruAIdeal.sig) → Buf (Elt Ideal) ℓ) (g : Dev Cert.RLruAIdeal.nD → PrngReg), Pre_RLruAIdeal_wide_lrua m →
    θ_run (Cert.RLruAIdeal.defs (F := Ideal)) (onTc (τ := Cert.RLruAIdeal.τ) (Cert.RLruAIdeal.main (F := Ideal))) ⟨m, fun _ => 0, g⟩ (fun r => (∀ c : Dev Cert.RLruAIdeal.nD,
      r.2.mem ((c.tc : Thread Cert.RLruAIdeal.nD Cert.RLruAIdeal.τ).loc Cert.RLruAIdeal.main_arg0) = m ((c.tc : Thread Cert.RLruAIdeal.nD Cert.RLruAIdeal.τ).loc Cert.RLruAIdeal.main_arg0)
      ∧ r.2.mem ((c.tc : Thread Cert.RLruAIdeal.nD Cert.RLruAIdeal.τ).loc Cert.RLruAIdeal.main_arg1) = m ((c.tc : Thread Cert.RLruAIdeal.nD Cert.RLruAIdeal.τ).loc Cert.RLruAIdeal.main_arg1)
      ∧ r.2.mem ((c.tc : Thread Cert.RLruAIdeal.nD Cert.RLruAIdeal.τ).loc Cert.RLruAIdeal.main_arg2) = m ((c.tc : Thread Cert.RLruAIdeal.nD Cert.RLruAIdeal.τ).loc Cert.RLruAIdeal.main_arg2)
      ∧ r.2.mem ((c.tc : Thread Cert.RLruAIdeal.nD Cert.RLruAIdeal.τ).loc Cert.RLruAIdeal.main_arg3) = m ((c.tc : Thread Cert.RLruAIdeal.nD Cert.RLruAIdeal.τ).loc Cert.RLruAIdeal.main_arg3)
      ∧ r.2.mem ((c.tc : Thread Cert.RLruAIdeal.nD Cert.RLruAIdeal.τ).loc Cert.RLruAIdeal.main_arg4) = m ((c.tc : Thread Cert.RLruAIdeal.nD Cert.RLruAIdeal.τ).loc Cert.RLruAIdeal.main_arg4)
      ∧ r.2.mem ((c.tc : Thread Cert.RLruAIdeal.nD Cert.RLruAIdeal.τ).loc Cert.RLruAIdeal.main_arg5) = m ((c.tc : Thread Cert.RLruAIdeal.nD Cert.RLruAIdeal.τ).loc Cert.RLruAIdeal.main_arg5)
      ∧ r.2.mem ((c.tc : Thread Cert.RLruAIdeal.nD Cert.RLruAIdeal.τ).loc Cert.RLruAIdeal.main_arg6) = m ((c.tc : Thread Cert.RLruAIdeal.nD Cert.RLruAIdeal.τ).loc Cert.RLruAIdeal.main_arg6)
      ∧ r.2.mem ((c.tc : Thread Cert.RLruAIdeal.nD Cert.RLruAIdeal.τ).loc Cert.RLruAIdeal.main_arg7) = m ((c.tc : Thread Cert.RLruAIdeal.nD Cert.RLruAIdeal.τ).loc Cert.RLruAIdeal.main_arg7))
      ∧ r.2.sem = fun _ => 0)

def quiescent_KLruD [hKLruD : Cert.KLruD.Facts] : Prop :=
  ∀ (m : (ℓ : Loc Cert.KLruD.nD Cert.KLruD.τ Cert.KLruD.sig) → Buf (Elt Bits) ℓ) (g : Dev Cert.KLruD.nD → PrngReg), Pre_KLruD m →
    θ_run (Cert.KLruD.defs (F := Bits)) (onTc (τ := Cert.KLruD.τ) (Cert.KLruD.main (F := Bits))) ⟨m, fun _ => 0, g⟩ (fun r => (∀ c : Dev Cert.KLruD.nD,
      r.2.mem ((c.tc : Thread Cert.KLruD.nD Cert.KLruD.τ).loc Cert.KLruD.main_arg0) = m ((c.tc : Thread Cert.KLruD.nD Cert.KLruD.τ).loc Cert.KLruD.main_arg0)
      ∧ r.2.mem ((c.tc : Thread Cert.KLruD.nD Cert.KLruD.τ).loc Cert.KLruD.main_arg1) = m ((c.tc : Thread Cert.KLruD.nD Cert.KLruD.τ).loc Cert.KLruD.main_arg1)
      ∧ r.2.mem ((c.tc : Thread Cert.KLruD.nD Cert.KLruD.τ).loc Cert.KLruD.main_arg2) = m ((c.tc : Thread Cert.KLruD.nD Cert.KLruD.τ).loc Cert.KLruD.main_arg2)
      ∧ r.2.mem ((c.tc : Thread Cert.KLruD.nD Cert.KLruD.τ).loc Cert.KLruD.main_arg3) = m ((c.tc : Thread Cert.KLruD.nD Cert.KLruD.τ).loc Cert.KLruD.main_arg3)
      ∧ r.2.mem ((c.tc : Thread Cert.KLruD.nD Cert.KLruD.τ).loc Cert.KLruD.main_arg4) = m ((c.tc : Thread Cert.KLruD.nD Cert.KLruD.τ).loc Cert.KLruD.main_arg4)
      ∧ r.2.mem ((c.tc : Thread Cert.KLruD.nD Cert.KLruD.τ).loc Cert.KLruD.main_arg5) = m ((c.tc : Thread Cert.KLruD.nD Cert.KLruD.τ).loc Cert.KLruD.main_arg5)
      ∧ r.2.mem ((c.tc : Thread Cert.KLruD.nD Cert.KLruD.τ).loc Cert.KLruD.main_arg6) = m ((c.tc : Thread Cert.KLruD.nD Cert.KLruD.τ).loc Cert.KLruD.main_arg6)
      ∧ r.2.mem ((c.tc : Thread Cert.KLruD.nD Cert.KLruD.τ).loc Cert.KLruD.main_arg7) = m ((c.tc : Thread Cert.KLruD.nD Cert.KLruD.τ).loc Cert.KLruD.main_arg7)
      ∧ r.2.mem ((c.tc : Thread Cert.KLruD.nD Cert.KLruD.τ).loc Cert.KLruD.main_arg8) = m ((c.tc : Thread Cert.KLruD.nD Cert.KLruD.τ).loc Cert.KLruD.main_arg8)
      ∧ r.2.mem ((c.tc : Thread Cert.KLruD.nD Cert.KLruD.τ).loc Cert.KLruD.main_arg9) = m ((c.tc : Thread Cert.KLruD.nD Cert.KLruD.τ).loc Cert.KLruD.main_arg9))
      ∧ r.2.sem = fun _ => 0)

def quiescent_KLruDIdeal [hKLruDIdeal : Cert.KLruDIdeal.Facts] : Prop :=
  ∀ (m : (ℓ : Loc Cert.KLruDIdeal.nD Cert.KLruDIdeal.τ Cert.KLruDIdeal.sig) → Buf (Elt Ideal) ℓ) (g : Dev Cert.KLruDIdeal.nD → PrngReg), Pre_KLruDIdeal m →
    θ_run (Cert.KLruDIdeal.defs (F := Ideal)) (onTc (τ := Cert.KLruDIdeal.τ) (Cert.KLruDIdeal.main (F := Ideal))) ⟨m, fun _ => 0, g⟩ (fun r => (∀ c : Dev Cert.KLruDIdeal.nD,
      r.2.mem ((c.tc : Thread Cert.KLruDIdeal.nD Cert.KLruDIdeal.τ).loc Cert.KLruDIdeal.main_arg0) = m ((c.tc : Thread Cert.KLruDIdeal.nD Cert.KLruDIdeal.τ).loc Cert.KLruDIdeal.main_arg0)
      ∧ r.2.mem ((c.tc : Thread Cert.KLruDIdeal.nD Cert.KLruDIdeal.τ).loc Cert.KLruDIdeal.main_arg1) = m ((c.tc : Thread Cert.KLruDIdeal.nD Cert.KLruDIdeal.τ).loc Cert.KLruDIdeal.main_arg1)
      ∧ r.2.mem ((c.tc : Thread Cert.KLruDIdeal.nD Cert.KLruDIdeal.τ).loc Cert.KLruDIdeal.main_arg2) = m ((c.tc : Thread Cert.KLruDIdeal.nD Cert.KLruDIdeal.τ).loc Cert.KLruDIdeal.main_arg2)
      ∧ r.2.mem ((c.tc : Thread Cert.KLruDIdeal.nD Cert.KLruDIdeal.τ).loc Cert.KLruDIdeal.main_arg3) = m ((c.tc : Thread Cert.KLruDIdeal.nD Cert.KLruDIdeal.τ).loc Cert.KLruDIdeal.main_arg3)
      ∧ r.2.mem ((c.tc : Thread Cert.KLruDIdeal.nD Cert.KLruDIdeal.τ).loc Cert.KLruDIdeal.main_arg4) = m ((c.tc : Thread Cert.KLruDIdeal.nD Cert.KLruDIdeal.τ).loc Cert.KLruDIdeal.main_arg4)
      ∧ r.2.mem ((c.tc : Thread Cert.KLruDIdeal.nD Cert.KLruDIdeal.τ).loc Cert.KLruDIdeal.main_arg5) = m ((c.tc : Thread Cert.KLruDIdeal.nD Cert.KLruDIdeal.τ).loc Cert.KLruDIdeal.main_arg5)
      ∧ r.2.mem ((c.tc : Thread Cert.KLruDIdeal.nD Cert.KLruDIdeal.τ).loc Cert.KLruDIdeal.main_arg6) = m ((c.tc : Thread Cert.KLruDIdeal.nD Cert.KLruDIdeal.τ).loc Cert.KLruDIdeal.main_arg6)
      ∧ r.2.mem ((c.tc : Thread Cert.KLruDIdeal.nD Cert.KLruDIdeal.τ).loc Cert.KLruDIdeal.main_arg7) = m ((c.tc : Thread Cert.KLruDIdeal.nD Cert.KLruDIdeal.τ).loc Cert.KLruDIdeal.main_arg7)
      ∧ r.2.mem ((c.tc : Thread Cert.KLruDIdeal.nD Cert.KLruDIdeal.τ).loc Cert.KLruDIdeal.main_arg8) = m ((c.tc : Thread Cert.KLruDIdeal.nD Cert.KLruDIdeal.τ).loc Cert.KLruDIdeal.main_arg8)
      ∧ r.2.mem ((c.tc : Thread Cert.KLruDIdeal.nD Cert.KLruDIdeal.τ).loc Cert.KLruDIdeal.main_arg9) = m ((c.tc : Thread Cert.KLruDIdeal.nD Cert.KLruDIdeal.τ).loc Cert.KLruDIdeal.main_arg9))
      ∧ r.2.sem = fun _ => 0)

def quiescent_KLruDIdeal_pre_wide_lrud [hKLruDIdeal : Cert.KLruDIdeal.Facts] [hPre_wide_lrud : Cert.Pre_wide_lrud.Facts] : Prop :=
  ∀ (m : (ℓ : Loc Cert.KLruDIdeal.nD Cert.KLruDIdeal.τ Cert.KLruDIdeal.sig) → Buf (Elt Ideal) ℓ) (g : Dev Cert.KLruDIdeal.nD → PrngReg), Pre_KLruDIdeal_wide_lrud m →
    θ_run (Cert.KLruDIdeal.defs (F := Ideal)) (onTc (τ := Cert.KLruDIdeal.τ) (Cert.KLruDIdeal.main (F := Ideal))) ⟨m, fun _ => 0, g⟩ (fun r => (∀ c : Dev Cert.KLruDIdeal.nD,
      r.2.mem ((c.tc : Thread Cert.KLruDIdeal.nD Cert.KLruDIdeal.τ).loc Cert.KLruDIdeal.main_arg0) = m ((c.tc : Thread Cert.KLruDIdeal.nD Cert.KLruDIdeal.τ).loc Cert.KLruDIdeal.main_arg0)
      ∧ r.2.mem ((c.tc : Thread Cert.KLruDIdeal.nD Cert.KLruDIdeal.τ).loc Cert.KLruDIdeal.main_arg1) = m ((c.tc : Thread Cert.KLruDIdeal.nD Cert.KLruDIdeal.τ).loc Cert.KLruDIdeal.main_arg1)
      ∧ r.2.mem ((c.tc : Thread Cert.KLruDIdeal.nD Cert.KLruDIdeal.τ).loc Cert.KLruDIdeal.main_arg2) = m ((c.tc : Thread Cert.KLruDIdeal.nD Cert.KLruDIdeal.τ).loc Cert.KLruDIdeal.main_arg2)
      ∧ r.2.mem ((c.tc : Thread Cert.KLruDIdeal.nD Cert.KLruDIdeal.τ).loc Cert.KLruDIdeal.main_arg3) = m ((c.tc : Thread Cert.KLruDIdeal.nD Cert.KLruDIdeal.τ).loc Cert.KLruDIdeal.main_arg3)
      ∧ r.2.mem ((c.tc : Thread Cert.KLruDIdeal.nD Cert.KLruDIdeal.τ).loc Cert.KLruDIdeal.main_arg4) = m ((c.tc : Thread Cert.KLruDIdeal.nD Cert.KLruDIdeal.τ).loc Cert.KLruDIdeal.main_arg4)
      ∧ r.2.mem ((c.tc : Thread Cert.KLruDIdeal.nD Cert.KLruDIdeal.τ).loc Cert.KLruDIdeal.main_arg5) = m ((c.tc : Thread Cert.KLruDIdeal.nD Cert.KLruDIdeal.τ).loc Cert.KLruDIdeal.main_arg5)
      ∧ r.2.mem ((c.tc : Thread Cert.KLruDIdeal.nD Cert.KLruDIdeal.τ).loc Cert.KLruDIdeal.main_arg6) = m ((c.tc : Thread Cert.KLruDIdeal.nD Cert.KLruDIdeal.τ).loc Cert.KLruDIdeal.main_arg6)
      ∧ r.2.mem ((c.tc : Thread Cert.KLruDIdeal.nD Cert.KLruDIdeal.τ).loc Cert.KLruDIdeal.main_arg7) = m ((c.tc : Thread Cert.KLruDIdeal.nD Cert.KLruDIdeal.τ).loc Cert.KLruDIdeal.main_arg7)
      ∧ r.2.mem ((c.tc : Thread Cert.KLruDIdeal.nD Cert.KLruDIdeal.τ).loc Cert.KLruDIdeal.main_arg8) = m ((c.tc : Thread Cert.KLruDIdeal.nD Cert.KLruDIdeal.τ).loc Cert.KLruDIdeal.main_arg8)
      ∧ r.2.mem ((c.tc : Thread Cert.KLruDIdeal.nD Cert.KLruDIdeal.τ).loc Cert.KLruDIdeal.main_arg9) = m ((c.tc : Thread Cert.KLruDIdeal.nD Cert.KLruDIdeal.τ).loc Cert.KLruDIdeal.main_arg9))
      ∧ r.2.sem = fun _ => 0)

def quiescent_RLruDIdeal [hRLruDIdeal : Cert.RLruDIdeal.Facts] : Prop :=
  ∀ (m : (ℓ : Loc Cert.RLruDIdeal.nD Cert.RLruDIdeal.τ Cert.RLruDIdeal.sig) → Buf (Elt Ideal) ℓ) (g : Dev Cert.RLruDIdeal.nD → PrngReg), Pre_RLruDIdeal m →
    θ_run (Cert.RLruDIdeal.defs (F := Ideal)) (onTc (τ := Cert.RLruDIdeal.τ) (Cert.RLruDIdeal.main (F := Ideal))) ⟨m, fun _ => 0, g⟩ (fun r => (∀ c : Dev Cert.RLruDIdeal.nD,
      r.2.mem ((c.tc : Thread Cert.RLruDIdeal.nD Cert.RLruDIdeal.τ).loc Cert.RLruDIdeal.main_arg0) = m ((c.tc : Thread Cert.RLruDIdeal.nD Cert.RLruDIdeal.τ).loc Cert.RLruDIdeal.main_arg0)
      ∧ r.2.mem ((c.tc : Thread Cert.RLruDIdeal.nD Cert.RLruDIdeal.τ).loc Cert.RLruDIdeal.main_arg1) = m ((c.tc : Thread Cert.RLruDIdeal.nD Cert.RLruDIdeal.τ).loc Cert.RLruDIdeal.main_arg1)
      ∧ r.2.mem ((c.tc : Thread Cert.RLruDIdeal.nD Cert.RLruDIdeal.τ).loc Cert.RLruDIdeal.main_arg2) = m ((c.tc : Thread Cert.RLruDIdeal.nD Cert.RLruDIdeal.τ).loc Cert.RLruDIdeal.main_arg2)
      ∧ r.2.mem ((c.tc : Thread Cert.RLruDIdeal.nD Cert.RLruDIdeal.τ).loc Cert.RLruDIdeal.main_arg3) = m ((c.tc : Thread Cert.RLruDIdeal.nD Cert.RLruDIdeal.τ).loc Cert.RLruDIdeal.main_arg3)
      ∧ r.2.mem ((c.tc : Thread Cert.RLruDIdeal.nD Cert.RLruDIdeal.τ).loc Cert.RLruDIdeal.main_arg4) = m ((c.tc : Thread Cert.RLruDIdeal.nD Cert.RLruDIdeal.τ).loc Cert.RLruDIdeal.main_arg4)
      ∧ r.2.mem ((c.tc : Thread Cert.RLruDIdeal.nD Cert.RLruDIdeal.τ).loc Cert.RLruDIdeal.main_arg5) = m ((c.tc : Thread Cert.RLruDIdeal.nD Cert.RLruDIdeal.τ).loc Cert.RLruDIdeal.main_arg5)
      ∧ r.2.mem ((c.tc : Thread Cert.RLruDIdeal.nD Cert.RLruDIdeal.τ).loc Cert.RLruDIdeal.main_arg6) = m ((c.tc : Thread Cert.RLruDIdeal.nD Cert.RLruDIdeal.τ).loc Cert.RLruDIdeal.main_arg6)
      ∧ r.2.mem ((c.tc : Thread Cert.RLruDIdeal.nD Cert.RLruDIdeal.τ).loc Cert.RLruDIdeal.main_arg7) = m ((c.tc : Thread Cert.RLruDIdeal.nD Cert.RLruDIdeal.τ).loc Cert.RLruDIdeal.main_arg7)
      ∧ r.2.mem ((c.tc : Thread Cert.RLruDIdeal.nD Cert.RLruDIdeal.τ).loc Cert.RLruDIdeal.main_arg8) = m ((c.tc : Thread Cert.RLruDIdeal.nD Cert.RLruDIdeal.τ).loc Cert.RLruDIdeal.main_arg8)
      ∧ r.2.mem ((c.tc : Thread Cert.RLruDIdeal.nD Cert.RLruDIdeal.τ).loc Cert.RLruDIdeal.main_arg9) = m ((c.tc : Thread Cert.RLruDIdeal.nD Cert.RLruDIdeal.τ).loc Cert.RLruDIdeal.main_arg9))
      ∧ r.2.sem = fun _ => 0)

def quiescent_RLruDIdeal_pre_wide_lrud [hRLruDIdeal : Cert.RLruDIdeal.Facts] [hPre_wide_lrud : Cert.Pre_wide_lrud.Facts] : Prop :=
  ∀ (m : (ℓ : Loc Cert.RLruDIdeal.nD Cert.RLruDIdeal.τ Cert.RLruDIdeal.sig) → Buf (Elt Ideal) ℓ) (g : Dev Cert.RLruDIdeal.nD → PrngReg), Pre_RLruDIdeal_wide_lrud m →
    θ_run (Cert.RLruDIdeal.defs (F := Ideal)) (onTc (τ := Cert.RLruDIdeal.τ) (Cert.RLruDIdeal.main (F := Ideal))) ⟨m, fun _ => 0, g⟩ (fun r => (∀ c : Dev Cert.RLruDIdeal.nD,
      r.2.mem ((c.tc : Thread Cert.RLruDIdeal.nD Cert.RLruDIdeal.τ).loc Cert.RLruDIdeal.main_arg0) = m ((c.tc : Thread Cert.RLruDIdeal.nD Cert.RLruDIdeal.τ).loc Cert.RLruDIdeal.main_arg0)
      ∧ r.2.mem ((c.tc : Thread Cert.RLruDIdeal.nD Cert.RLruDIdeal.τ).loc Cert.RLruDIdeal.main_arg1) = m ((c.tc : Thread Cert.RLruDIdeal.nD Cert.RLruDIdeal.τ).loc Cert.RLruDIdeal.main_arg1)
      ∧ r.2.mem ((c.tc : Thread Cert.RLruDIdeal.nD Cert.RLruDIdeal.τ).loc Cert.RLruDIdeal.main_arg2) = m ((c.tc : Thread Cert.RLruDIdeal.nD Cert.RLruDIdeal.τ).loc Cert.RLruDIdeal.main_arg2)
      ∧ r.2.mem ((c.tc : Thread Cert.RLruDIdeal.nD Cert.RLruDIdeal.τ).loc Cert.RLruDIdeal.main_arg3) = m ((c.tc : Thread Cert.RLruDIdeal.nD Cert.RLruDIdeal.τ).loc Cert.RLruDIdeal.main_arg3)
      ∧ r.2.mem ((c.tc : Thread Cert.RLruDIdeal.nD Cert.RLruDIdeal.τ).loc Cert.RLruDIdeal.main_arg4) = m ((c.tc : Thread Cert.RLruDIdeal.nD Cert.RLruDIdeal.τ).loc Cert.RLruDIdeal.main_arg4)
      ∧ r.2.mem ((c.tc : Thread Cert.RLruDIdeal.nD Cert.RLruDIdeal.τ).loc Cert.RLruDIdeal.main_arg5) = m ((c.tc : Thread Cert.RLruDIdeal.nD Cert.RLruDIdeal.τ).loc Cert.RLruDIdeal.main_arg5)
      ∧ r.2.mem ((c.tc : Thread Cert.RLruDIdeal.nD Cert.RLruDIdeal.τ).loc Cert.RLruDIdeal.main_arg6) = m ((c.tc : Thread Cert.RLruDIdeal.nD Cert.RLruDIdeal.τ).loc Cert.RLruDIdeal.main_arg6)
      ∧ r.2.mem ((c.tc : Thread Cert.RLruDIdeal.nD Cert.RLruDIdeal.τ).loc Cert.RLruDIdeal.main_arg7) = m ((c.tc : Thread Cert.RLruDIdeal.nD Cert.RLruDIdeal.τ).loc Cert.RLruDIdeal.main_arg7)
      ∧ r.2.mem ((c.tc : Thread Cert.RLruDIdeal.nD Cert.RLruDIdeal.τ).loc Cert.RLruDIdeal.main_arg8) = m ((c.tc : Thread Cert.RLruDIdeal.nD Cert.RLruDIdeal.τ).loc Cert.RLruDIdeal.main_arg8)
      ∧ r.2.mem ((c.tc : Thread Cert.RLruDIdeal.nD Cert.RLruDIdeal.τ).loc Cert.RLruDIdeal.main_arg9) = m ((c.tc : Thread Cert.RLruDIdeal.nD Cert.RLruDIdeal.τ).loc Cert.RLruDIdeal.main_arg9))
      ∧ r.2.sem = fun _ => 0)

def quiescent_KLruC [hKLruC : Cert.KLruC.Facts] : Prop :=
  ∀ (m : (ℓ : Loc Cert.KLruC.nD Cert.KLruC.τ Cert.KLruC.sig) → Buf (Elt Bits) ℓ) (g : Dev Cert.KLruC.nD → PrngReg), Pre_KLruC m →
    θ_run (Cert.KLruC.defs (F := Bits)) (onTc (τ := Cert.KLruC.τ) (Cert.KLruC.main (F := Bits))) ⟨m, fun _ => 0, g⟩ (fun r => (∀ c : Dev Cert.KLruC.nD,
      r.2.mem ((c.tc : Thread Cert.KLruC.nD Cert.KLruC.τ).loc Cert.KLruC.main_arg0) = m ((c.tc : Thread Cert.KLruC.nD Cert.KLruC.τ).loc Cert.KLruC.main_arg0)
      ∧ r.2.mem ((c.tc : Thread Cert.KLruC.nD Cert.KLruC.τ).loc Cert.KLruC.main_arg1) = m ((c.tc : Thread Cert.KLruC.nD Cert.KLruC.τ).loc Cert.KLruC.main_arg1)
      ∧ r.2.mem ((c.tc : Thread Cert.KLruC.nD Cert.KLruC.τ).loc Cert.KLruC.main_arg2) = m ((c.tc : Thread Cert.KLruC.nD Cert.KLruC.τ).loc Cert.KLruC.main_arg2)
      ∧ r.2.mem ((c.tc : Thread Cert.KLruC.nD Cert.KLruC.τ).loc Cert.KLruC.main_arg3) = m ((c.tc : Thread Cert.KLruC.nD Cert.KLruC.τ).loc Cert.KLruC.main_arg3)
      ∧ r.2.mem ((c.tc : Thread Cert.KLruC.nD Cert.KLruC.τ).loc Cert.KLruC.main_arg4) = m ((c.tc : Thread Cert.KLruC.nD Cert.KLruC.τ).loc Cert.KLruC.main_arg4)
      ∧ r.2.mem ((c.tc : Thread Cert.KLruC.nD Cert.KLruC.τ).loc Cert.KLruC.main_arg5) = m ((c.tc : Thread Cert.KLruC.nD Cert.KLruC.τ).loc Cert.KLruC.main_arg5)
      ∧ r.2.mem ((c.tc : Thread Cert.KLruC.nD Cert.KLruC.τ).loc Cert.KLruC.main_arg6) = m ((c.tc : Thread Cert.KLruC.nD Cert.KLruC.τ).loc Cert.KLruC.main_arg6)
      ∧ r.2.mem ((c.tc : Thread Cert.KLruC.nD Cert.KLruC.τ).loc Cert.KLruC.main_arg7) = m ((c.tc : Thread Cert.KLruC.nD Cert.KLruC.τ).loc Cert.KLruC.main_arg7)
      ∧ r.2.mem ((c.tc : Thread Cert.KLruC.nD Cert.KLruC.τ).loc Cert.KLruC.main_arg8) = m ((c.tc : Thread Cert.KLruC.nD Cert.KLruC.τ).loc Cert.KLruC.main_arg8)
      ∧ r.2.mem ((c.tc : Thread Cert.KLruC.nD Cert.KLruC.τ).loc Cert.KLruC.main_arg9) = m ((c.tc : Thread Cert.KLruC.nD Cert.KLruC.τ).loc Cert.KLruC.main_arg9))
      ∧ r.2.sem = fun _ => 0)

def quiescent_KLruCIdeal [hKLruCIdeal : Cert.KLruCIdeal.Facts] : Prop :=
  ∀ (m : (ℓ : Loc Cert.KLruCIdeal.nD Cert.KLruCIdeal.τ Cert.KLruCIdeal.sig) → Buf (Elt Ideal) ℓ) (g : Dev Cert.KLruCIdeal.nD → PrngReg), Pre_KLruCIdeal m →
    θ_run (Cert.KLruCIdeal.defs (F := Ideal)) (onTc (τ := Cert.KLruCIdeal.τ) (Cert.KLruCIdeal.main (F := Ideal))) ⟨m, fun _ => 0, g⟩ (fun r => (∀ c : Dev Cert.KLruCIdeal.nD,
      r.2.mem ((c.tc : Thread Cert.KLruCIdeal.nD Cert.KLruCIdeal.τ).loc Cert.KLruCIdeal.main_arg0) = m ((c.tc : Thread Cert.KLruCIdeal.nD Cert.KLruCIdeal.τ).loc Cert.KLruCIdeal.main_arg0)
      ∧ r.2.mem ((c.tc : Thread Cert.KLruCIdeal.nD Cert.KLruCIdeal.τ).loc Cert.KLruCIdeal.main_arg1) = m ((c.tc : Thread Cert.KLruCIdeal.nD Cert.KLruCIdeal.τ).loc Cert.KLruCIdeal.main_arg1)
      ∧ r.2.mem ((c.tc : Thread Cert.KLruCIdeal.nD Cert.KLruCIdeal.τ).loc Cert.KLruCIdeal.main_arg2) = m ((c.tc : Thread Cert.KLruCIdeal.nD Cert.KLruCIdeal.τ).loc Cert.KLruCIdeal.main_arg2)
      ∧ r.2.mem ((c.tc : Thread Cert.KLruCIdeal.nD Cert.KLruCIdeal.τ).loc Cert.KLruCIdeal.main_arg3) = m ((c.tc : Thread Cert.KLruCIdeal.nD Cert.KLruCIdeal.τ).loc Cert.KLruCIdeal.main_arg3)
      ∧ r.2.mem ((c.tc : Thread Cert.KLruCIdeal.nD Cert.KLruCIdeal.τ).loc Cert.KLruCIdeal.main_arg4) = m ((c.tc : Thread Cert.KLruCIdeal.nD Cert.KLruCIdeal.τ).loc Cert.KLruCIdeal.main_arg4)
      ∧ r.2.mem ((c.tc : Thread Cert.KLruCIdeal.nD Cert.KLruCIdeal.τ).loc Cert.KLruCIdeal.main_arg5) = m ((c.tc : Thread Cert.KLruCIdeal.nD Cert.KLruCIdeal.τ).loc Cert.KLruCIdeal.main_arg5)
      ∧ r.2.mem ((c.tc : Thread Cert.KLruCIdeal.nD Cert.KLruCIdeal.τ).loc Cert.KLruCIdeal.main_arg6) = m ((c.tc : Thread Cert.KLruCIdeal.nD Cert.KLruCIdeal.τ).loc Cert.KLruCIdeal.main_arg6)
      ∧ r.2.mem ((c.tc : Thread Cert.KLruCIdeal.nD Cert.KLruCIdeal.τ).loc Cert.KLruCIdeal.main_arg7) = m ((c.tc : Thread Cert.KLruCIdeal.nD Cert.KLruCIdeal.τ).loc Cert.KLruCIdeal.main_arg7)
      ∧ r.2.mem ((c.tc : Thread Cert.KLruCIdeal.nD Cert.KLruCIdeal.τ).loc Cert.KLruCIdeal.main_arg8) = m ((c.tc : Thread Cert.KLruCIdeal.nD Cert.KLruCIdeal.τ).loc Cert.KLruCIdeal.main_arg8)
      ∧ r.2.mem ((c.tc : Thread Cert.KLruCIdeal.nD Cert.KLruCIdeal.τ).loc Cert.KLruCIdeal.main_arg9) = m ((c.tc : Thread Cert.KLruCIdeal.nD Cert.KLruCIdeal.τ).loc Cert.KLruCIdeal.main_arg9))
      ∧ r.2.sem = fun _ => 0)

def preserves_KLoss_KLossIdeal : Prop :=
  True

def algebraic_KLossIdeal_RLossIdeal [hKLossIdeal : Cert.KLossIdeal.Facts] [hRLossIdeal : Cert.RLossIdeal.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)) →
    ∃ (v0 : (c : Dev Cert.KLossIdeal.nD) → Buf (Elt Ideal) ((c.tc : Thread Cert.KLossIdeal.nD Cert.KLossIdeal.τ).loc Cert.KLossIdeal.main_v0_0)) (v1 : (c : Dev Cert.KLossIdeal.nD) → Buf (Elt Ideal) ((c.tc : Thread Cert.KLossIdeal.nD Cert.KLossIdeal.τ).loc Cert.KLossIdeal.main_v0_1)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v0_0) = v0 c
          ∧ r.2.mem ((c.tc : Thread Cert.KLossIdeal.nD Cert.KLossIdeal.τ).loc Cert.KLossIdeal.main_v0_1) = v1 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v14) = v0 c
          ∧ r.2.mem ((c.tc : Thread Cert.RLossIdeal.nD Cert.RLossIdeal.τ).loc Cert.RLossIdeal.main_v15) = v1 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1))

def preserves_KFfn_KFfnIdeal : Prop :=
  True

def algebraic_KFfnIdeal_RFfnIdeal_pre_finite_ffn [hKFfnIdeal : Cert.KFfnIdeal.Facts] [hRFfnIdeal : Cert.RFfnIdeal.Facts] [hPre_finite_ffn : Cert.Pre_finite_ffn.Facts] : Prop :=
  ∀ (m : (ℓ : Loc Cert.KFfnIdeal.nD Cert.KFfnIdeal.τ Cert.KFfnIdeal.sig) → Buf (Elt Ideal) ℓ) (g : Dev Cert.KFfnIdeal.nD → PrngReg)
    (m' : (ℓ : Loc Cert.RFfnIdeal.nD Cert.RFfnIdeal.τ Cert.RFfnIdeal.sig) → Buf (Elt Ideal) ℓ) (g' : Dev Cert.RFfnIdeal.nD → PrngReg), Pre_KFfnIdeal_finite_ffn m →
    (∀ c : Dev Cert.KFfnIdeal.nD,
      m' ((c.tc : Thread Cert.RFfnIdeal.nD Cert.RFfnIdeal.τ).loc Cert.RFfnIdeal.main_arg0) = m ((c.tc : Thread Cert.KFfnIdeal.nD Cert.KFfnIdeal.τ).loc Cert.KFfnIdeal.main_arg0)
      ∧ m' ((c.tc : Thread Cert.RFfnIdeal.nD Cert.RFfnIdeal.τ).loc Cert.RFfnIdeal.main_arg1) = m ((c.tc : Thread Cert.KFfnIdeal.nD Cert.KFfnIdeal.τ).loc Cert.KFfnIdeal.main_arg1)
      ∧ m' ((c.tc : Thread Cert.RFfnIdeal.nD Cert.RFfnIdeal.τ).loc Cert.RFfnIdeal.main_arg2) = m ((c.tc : Thread Cert.KFfnIdeal.nD Cert.KFfnIdeal.τ).loc Cert.KFfnIdeal.main_arg2)
      ∧ m' ((c.tc : Thread Cert.RFfnIdeal.nD Cert.RFfnIdeal.τ).loc Cert.RFfnIdeal.main_arg3) = m ((c.tc : Thread Cert.KFfnIdeal.nD Cert.KFfnIdeal.τ).loc Cert.KFfnIdeal.main_arg3)
      ∧ m' ((c.tc : Thread Cert.RFfnIdeal.nD Cert.RFfnIdeal.τ).loc Cert.RFfnIdeal.main_arg4) = m ((c.tc : Thread Cert.KFfnIdeal.nD Cert.KFfnIdeal.τ).loc Cert.KFfnIdeal.main_arg4)) →
    ∃ (v0 : (c : Dev Cert.KFfnIdeal.nD) → Buf (Elt Ideal) ((c.tc : Thread Cert.KFfnIdeal.nD Cert.KFfnIdeal.τ).loc Cert.KFfnIdeal.main_v13_0)) (v1 : (c : Dev Cert.KFfnIdeal.nD) → Buf (Elt Ideal) ((c.tc : Thread Cert.KFfnIdeal.nD Cert.KFfnIdeal.τ).loc Cert.KFfnIdeal.main_v13_1)) (v2 : (c : Dev Cert.KFfnIdeal.nD) → Buf (Elt Ideal) ((c.tc : Thread Cert.KFfnIdeal.nD Cert.KFfnIdeal.τ).loc Cert.KFfnIdeal.main_v13_2)) (v3 : (c : Dev Cert.KFfnIdeal.nD) → Buf (Elt Ideal) ((c.tc : Thread Cert.KFfnIdeal.nD Cert.KFfnIdeal.τ).loc Cert.KFfnIdeal.main_v13_3)),
      θ_run (Cert.KFfnIdeal.defs (F := Ideal)) (onTc (τ := Cert.KFfnIdeal.τ) (Cert.KFfnIdeal.main (F := Ideal))) ⟨m, fun _ => 0, g⟩ (fun r => ∀ c : Dev Cert.KFfnIdeal.nD,
          r.2.mem ((c.tc : Thread Cert.KFfnIdeal.nD Cert.KFfnIdeal.τ).loc Cert.KFfnIdeal.main_v13_0) = v0 c
          ∧ r.2.mem ((c.tc : Thread Cert.KFfnIdeal.nD Cert.KFfnIdeal.τ).loc Cert.KFfnIdeal.main_v13_1) = v1 c
          ∧ r.2.mem ((c.tc : Thread Cert.KFfnIdeal.nD Cert.KFfnIdeal.τ).loc Cert.KFfnIdeal.main_v13_2) = v2 c
          ∧ r.2.mem ((c.tc : Thread Cert.KFfnIdeal.nD Cert.KFfnIdeal.τ).loc Cert.KFfnIdeal.main_v13_3) = v3 c
          ∧ r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
          ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
          ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2)
          ∧ r.2.mem ((c.tc : Thread Cert.KFfnIdeal.nD Cert.KFfnIdeal.τ).loc Cert.KFfnIdeal.main_arg3) = m ((c.tc : Thread Cert.KFfnIdeal.nD Cert.KFfnIdeal.τ).loc Cert.KFfnIdeal.main_arg3)
          ∧ r.2.mem ((c.tc : Thread Cert.KFfnIdeal.nD Cert.KFfnIdeal.τ).loc Cert.KFfnIdeal.main_arg4) = m ((c.tc : Thread Cert.KFfnIdeal.nD Cert.KFfnIdeal.τ).loc Cert.KFfnIdeal.main_arg4))
      ∧ θ_run (Cert.RFfnIdeal.defs (F := Ideal)) (onTc (τ := Cert.RFfnIdeal.τ) (Cert.RFfnIdeal.main (F := Ideal))) ⟨m', fun _ => 0, g'⟩ (fun r => ∀ c : Dev Cert.RFfnIdeal.nD,
          r.2.mem ((c.tc : Thread Cert.RFfnIdeal.nD Cert.RFfnIdeal.τ).loc Cert.RFfnIdeal.main_v49) = v0 c
          ∧ r.2.mem ((c.tc : Thread Cert.RFfnIdeal.nD Cert.RFfnIdeal.τ).loc Cert.RFfnIdeal.main_v47) = v1 c
          ∧ r.2.mem ((c.tc : Thread Cert.RFfnIdeal.nD Cert.RFfnIdeal.τ).loc Cert.RFfnIdeal.main_v50) = v2 c
          ∧ r.2.mem ((c.tc : Thread Cert.RFfnIdeal.nD Cert.RFfnIdeal.τ).loc Cert.RFfnIdeal.main_v27) = v3 c
          ∧ r.2.mem ((c.tc : Thread Cert.RFfnIdeal.nD Cert.RFfnIdeal.τ).loc Cert.RFfnIdeal.main_arg0) = m' ((c.tc : Thread Cert.RFfnIdeal.nD Cert.RFfnIdeal.τ).loc Cert.RFfnIdeal.main_arg0)
          ∧ r.2.mem ((c.tc : Thread Cert.RFfnIdeal.nD Cert.RFfnIdeal.τ).loc Cert.RFfnIdeal.main_arg1) = m' ((c.tc : Thread Cert.RFfnIdeal.nD Cert.RFfnIdeal.τ).loc Cert.RFfnIdeal.main_arg1)
          ∧ r.2.mem ((c.tc : Thread Cert.RFfnIdeal.nD Cert.RFfnIdeal.τ).loc Cert.RFfnIdeal.main_arg2) = m' ((c.tc : Thread Cert.RFfnIdeal.nD Cert.RFfnIdeal.τ).loc Cert.RFfnIdeal.main_arg2)
          ∧ r.2.mem ((c.tc : Thread Cert.RFfnIdeal.nD Cert.RFfnIdeal.τ).loc Cert.RFfnIdeal.main_arg3) = m' ((c.tc : Thread Cert.RFfnIdeal.nD Cert.RFfnIdeal.τ).loc Cert.RFfnIdeal.main_arg3)
          ∧ r.2.mem ((c.tc : Thread Cert.RFfnIdeal.nD Cert.RFfnIdeal.τ).loc Cert.RFfnIdeal.main_arg4) = m' ((c.tc : Thread Cert.RFfnIdeal.nD Cert.RFfnIdeal.τ).loc Cert.RFfnIdeal.main_arg4))

def preserves_KInNorm_KInNormIdeal : Prop :=
  True

def algebraic_KInNormIdeal_RInNormIdeal [hKInNormIdeal : Cert.KInNormIdeal.Facts] [hRInNormIdeal : Cert.RInNormIdeal.Facts] : Prop :=
  ∀ (m : (ℓ : Loc Cert.KInNormIdeal.nD Cert.KInNormIdeal.τ Cert.KInNormIdeal.sig) → Buf (Elt Ideal) ℓ) (g : Dev Cert.KInNormIdeal.nD → PrngReg)
    (m' : (ℓ : Loc Cert.RInNormIdeal.nD Cert.RInNormIdeal.τ Cert.RInNormIdeal.sig) → Buf (Elt Ideal) ℓ) (g' : Dev Cert.RInNormIdeal.nD → PrngReg), Pre_KInNormIdeal m →
    (∀ c : Dev Cert.KInNormIdeal.nD,
      m' ((c.tc : Thread Cert.RInNormIdeal.nD Cert.RInNormIdeal.τ).loc Cert.RInNormIdeal.main_arg0) = m ((c.tc : Thread Cert.KInNormIdeal.nD Cert.KInNormIdeal.τ).loc Cert.KInNormIdeal.main_arg0)
      ∧ m' ((c.tc : Thread Cert.RInNormIdeal.nD Cert.RInNormIdeal.τ).loc Cert.RInNormIdeal.main_arg1) = m ((c.tc : Thread Cert.KInNormIdeal.nD Cert.KInNormIdeal.τ).loc Cert.KInNormIdeal.main_arg1)
      ∧ m' ((c.tc : Thread Cert.RInNormIdeal.nD Cert.RInNormIdeal.τ).loc Cert.RInNormIdeal.main_arg2) = m ((c.tc : Thread Cert.KInNormIdeal.nD Cert.KInNormIdeal.τ).loc Cert.KInNormIdeal.main_arg2)
      ∧ m' ((c.tc : Thread Cert.RInNormIdeal.nD Cert.RInNormIdeal.τ).loc Cert.RInNormIdeal.main_arg3) = m ((c.tc : Thread Cert.KInNormIdeal.nD Cert.KInNormIdeal.τ).loc Cert.KInNormIdeal.main_arg3)
      ∧ m' ((c.tc : Thread Cert.RInNormIdeal.nD Cert.RInNormIdeal.τ).loc Cert.RInNormIdeal.main_arg4) = m ((c.tc : Thread Cert.KInNormIdeal.nD Cert.KInNormIdeal.τ).loc Cert.KInNormIdeal.main_arg4)
      ∧ m' ((c.tc : Thread Cert.RInNormIdeal.nD Cert.RInNormIdeal.τ).loc Cert.RInNormIdeal.main_arg5) = m ((c.tc : Thread Cert.KInNormIdeal.nD Cert.KInNormIdeal.τ).loc Cert.KInNormIdeal.main_arg5)
      ∧ m' ((c.tc : Thread Cert.RInNormIdeal.nD Cert.RInNormIdeal.τ).loc Cert.RInNormIdeal.main_arg6) = m ((c.tc : Thread Cert.KInNormIdeal.nD Cert.KInNormIdeal.τ).loc Cert.KInNormIdeal.main_arg6)) →
    ∃ (v0 : (c : Dev Cert.KInNormIdeal.nD) → Buf (Elt Ideal) ((c.tc : Thread Cert.KInNormIdeal.nD Cert.KInNormIdeal.τ).loc Cert.KInNormIdeal.main_v0_0)) (v1 : (c : Dev Cert.KInNormIdeal.nD) → Buf (Elt Ideal) ((c.tc : Thread Cert.KInNormIdeal.nD Cert.KInNormIdeal.τ).loc Cert.KInNormIdeal.main_v0_1)),
      θ_run (Cert.KInNormIdeal.defs (F := Ideal)) (onTc (τ := Cert.KInNormIdeal.τ) (Cert.KInNormIdeal.main (F := Ideal))) ⟨m, fun _ => 0, g⟩ (fun r => ∀ c : Dev Cert.KInNormIdeal.nD,
          r.2.mem ((c.tc : Thread Cert.KInNormIdeal.nD Cert.KInNormIdeal.τ).loc Cert.KInNormIdeal.main_v0_0) = v0 c
          ∧ r.2.mem ((c.tc : Thread Cert.KInNormIdeal.nD Cert.KInNormIdeal.τ).loc Cert.KInNormIdeal.main_v0_1) = v1 c
          ∧ r.2.mem ((c.tc : Thread Cert.KInNormIdeal.nD Cert.KInNormIdeal.τ).loc Cert.KInNormIdeal.main_arg0) = m ((c.tc : Thread Cert.KInNormIdeal.nD Cert.KInNormIdeal.τ).loc Cert.KInNormIdeal.main_arg0)
          ∧ r.2.mem ((c.tc : Thread Cert.KInNormIdeal.nD Cert.KInNormIdeal.τ).loc Cert.KInNormIdeal.main_arg1) = m ((c.tc : Thread Cert.KInNormIdeal.nD Cert.KInNormIdeal.τ).loc Cert.KInNormIdeal.main_arg1)
          ∧ r.2.mem ((c.tc : Thread Cert.KInNormIdeal.nD Cert.KInNormIdeal.τ).loc Cert.KInNormIdeal.main_arg2) = m ((c.tc : Thread Cert.KInNormIdeal.nD Cert.KInNormIdeal.τ).loc Cert.KInNormIdeal.main_arg2)
          ∧ r.2.mem ((c.tc : Thread Cert.KInNormIdeal.nD Cert.KInNormIdeal.τ).loc Cert.KInNormIdeal.main_arg3) = m ((c.tc : Thread Cert.KInNormIdeal.nD Cert.KInNormIdeal.τ).loc Cert.KInNormIdeal.main_arg3)
          ∧ r.2.mem ((c.tc : Thread Cert.KInNormIdeal.nD Cert.KInNormIdeal.τ).loc Cert.KInNormIdeal.main_arg4) = m ((c.tc : Thread Cert.KInNormIdeal.nD Cert.KInNormIdeal.τ).loc Cert.KInNormIdeal.main_arg4)
          ∧ r.2.mem ((c.tc : Thread Cert.KInNormIdeal.nD Cert.KInNormIdeal.τ).loc Cert.KInNormIdeal.main_arg5) = m ((c.tc : Thread Cert.KInNormIdeal.nD Cert.KInNormIdeal.τ).loc Cert.KInNormIdeal.main_arg5)
          ∧ r.2.mem ((c.tc : Thread Cert.KInNormIdeal.nD Cert.KInNormIdeal.τ).loc Cert.KInNormIdeal.main_arg6) = m ((c.tc : Thread Cert.KInNormIdeal.nD Cert.KInNormIdeal.τ).loc Cert.KInNormIdeal.main_arg6))
      ∧ θ_run (Cert.RInNormIdeal.defs (F := Ideal)) (onTc (τ := Cert.RInNormIdeal.τ) (Cert.RInNormIdeal.main (F := Ideal))) ⟨m', fun _ => 0, g'⟩ (fun r => ∀ c : Dev Cert.RInNormIdeal.nD,
          r.2.mem ((c.tc : Thread Cert.RInNormIdeal.nD Cert.RInNormIdeal.τ).loc Cert.RInNormIdeal.main_v43) = v0 c
          ∧ r.2.mem ((c.tc : Thread Cert.RInNormIdeal.nD Cert.RInNormIdeal.τ).loc Cert.RInNormIdeal.main_v26) = v1 c
          ∧ r.2.mem ((c.tc : Thread Cert.RInNormIdeal.nD Cert.RInNormIdeal.τ).loc Cert.RInNormIdeal.main_arg0) = m' ((c.tc : Thread Cert.RInNormIdeal.nD Cert.RInNormIdeal.τ).loc Cert.RInNormIdeal.main_arg0)
          ∧ r.2.mem ((c.tc : Thread Cert.RInNormIdeal.nD Cert.RInNormIdeal.τ).loc Cert.RInNormIdeal.main_arg1) = m' ((c.tc : Thread Cert.RInNormIdeal.nD Cert.RInNormIdeal.τ).loc Cert.RInNormIdeal.main_arg1)
          ∧ r.2.mem ((c.tc : Thread Cert.RInNormIdeal.nD Cert.RInNormIdeal.τ).loc Cert.RInNormIdeal.main_arg2) = m' ((c.tc : Thread Cert.RInNormIdeal.nD Cert.RInNormIdeal.τ).loc Cert.RInNormIdeal.main_arg2)
          ∧ r.2.mem ((c.tc : Thread Cert.RInNormIdeal.nD Cert.RInNormIdeal.τ).loc Cert.RInNormIdeal.main_arg3) = m' ((c.tc : Thread Cert.RInNormIdeal.nD Cert.RInNormIdeal.τ).loc Cert.RInNormIdeal.main_arg3)
          ∧ r.2.mem ((c.tc : Thread Cert.RInNormIdeal.nD Cert.RInNormIdeal.τ).loc Cert.RInNormIdeal.main_arg4) = m' ((c.tc : Thread Cert.RInNormIdeal.nD Cert.RInNormIdeal.τ).loc Cert.RInNormIdeal.main_arg4)
          ∧ r.2.mem ((c.tc : Thread Cert.RInNormIdeal.nD Cert.RInNormIdeal.τ).loc Cert.RInNormIdeal.main_arg5) = m' ((c.tc : Thread Cert.RInNormIdeal.nD Cert.RInNormIdeal.τ).loc Cert.RInNormIdeal.main_arg5)
          ∧ r.2.mem ((c.tc : Thread Cert.RInNormIdeal.nD Cert.RInNormIdeal.τ).loc Cert.RInNormIdeal.main_arg6) = m' ((c.tc : Thread Cert.RInNormIdeal.nD Cert.RInNormIdeal.τ).loc Cert.RInNormIdeal.main_arg6))

def preserves_KInNorm4_KInNorm4Ideal : Prop :=
  True

def algebraic_KInNorm4Ideal_RInNorm4Ideal [hKInNorm4Ideal : Cert.KInNorm4Ideal.Facts] [hRInNorm4Ideal : Cert.RInNorm4Ideal.Facts] : Prop :=
  ∀ (m : (ℓ : Loc Cert.KInNorm4Ideal.nD Cert.KInNorm4Ideal.τ Cert.KInNorm4Ideal.sig) → Buf (Elt Ideal) ℓ) (g : Dev Cert.KInNorm4Ideal.nD → PrngReg)
    (m' : (ℓ : Loc Cert.RInNorm4Ideal.nD Cert.RInNorm4Ideal.τ Cert.RInNorm4Ideal.sig) → Buf (Elt Ideal) ℓ) (g' : Dev Cert.RInNorm4Ideal.nD → PrngReg), Pre_KInNorm4Ideal m →
    (∀ c : Dev Cert.KInNorm4Ideal.nD,
      m' ((c.tc : Thread Cert.RInNorm4Ideal.nD Cert.RInNorm4Ideal.τ).loc Cert.RInNorm4Ideal.main_arg0) = m ((c.tc : Thread Cert.KInNorm4Ideal.nD Cert.KInNorm4Ideal.τ).loc Cert.KInNorm4Ideal.main_arg0)
      ∧ m' ((c.tc : Thread Cert.RInNorm4Ideal.nD Cert.RInNorm4Ideal.τ).loc Cert.RInNorm4Ideal.main_arg1) = m ((c.tc : Thread Cert.KInNorm4Ideal.nD Cert.KInNorm4Ideal.τ).loc Cert.KInNorm4Ideal.main_arg1)
      ∧ m' ((c.tc : Thread Cert.RInNorm4Ideal.nD Cert.RInNorm4Ideal.τ).loc Cert.RInNorm4Ideal.main_arg2) = m ((c.tc : Thread Cert.KInNorm4Ideal.nD Cert.KInNorm4Ideal.τ).loc Cert.KInNorm4Ideal.main_arg2)
      ∧ m' ((c.tc : Thread Cert.RInNorm4Ideal.nD Cert.RInNorm4Ideal.τ).loc Cert.RInNorm4Ideal.main_arg3) = m ((c.tc : Thread Cert.KInNorm4Ideal.nD Cert.KInNorm4Ideal.τ).loc Cert.KInNorm4Ideal.main_arg3)
      ∧ m' ((c.tc : Thread Cert.RInNorm4Ideal.nD Cert.RInNorm4Ideal.τ).loc Cert.RInNorm4Ideal.main_arg4) = m ((c.tc : Thread Cert.KInNorm4Ideal.nD Cert.KInNorm4Ideal.τ).loc Cert.KInNorm4Ideal.main_arg4)
      ∧ m' ((c.tc : Thread Cert.RInNorm4Ideal.nD Cert.RInNorm4Ideal.τ).loc Cert.RInNorm4Ideal.main_arg5) = m ((c.tc : Thread Cert.KInNorm4Ideal.nD Cert.KInNorm4Ideal.τ).loc Cert.KInNorm4Ideal.main_arg5)
      ∧ m' ((c.tc : Thread Cert.RInNorm4Ideal.nD Cert.RInNorm4Ideal.τ).loc Cert.RInNorm4Ideal.main_arg6) = m ((c.tc : Thread Cert.KInNorm4Ideal.nD Cert.KInNorm4Ideal.τ).loc Cert.KInNorm4Ideal.main_arg6)
      ∧ m' ((c.tc : Thread Cert.RInNorm4Ideal.nD Cert.RInNorm4Ideal.τ).loc Cert.RInNorm4Ideal.main_arg7) = m ((c.tc : Thread Cert.KInNorm4Ideal.nD Cert.KInNorm4Ideal.τ).loc Cert.KInNorm4Ideal.main_arg7)) →
    ∃ (v0 : (c : Dev Cert.KInNorm4Ideal.nD) → Buf (Elt Ideal) ((c.tc : Thread Cert.KInNorm4Ideal.nD Cert.KInNorm4Ideal.τ).loc Cert.KInNorm4Ideal.main_v4_0)) (v1 : (c : Dev Cert.KInNorm4Ideal.nD) → Buf (Elt Ideal) ((c.tc : Thread Cert.KInNorm4Ideal.nD Cert.KInNorm4Ideal.τ).loc Cert.KInNorm4Ideal.main_v4_1)),
      θ_run (Cert.KInNorm4Ideal.defs (F := Ideal)) (onTc (τ := Cert.KInNorm4Ideal.τ) (Cert.KInNorm4Ideal.main (F := Ideal))) ⟨m, fun _ => 0, g⟩ (fun r => ∀ c : Dev Cert.KInNorm4Ideal.nD,
          r.2.mem ((c.tc : Thread Cert.KInNorm4Ideal.nD Cert.KInNorm4Ideal.τ).loc Cert.KInNorm4Ideal.main_v4_0) = v0 c
          ∧ r.2.mem ((c.tc : Thread Cert.KInNorm4Ideal.nD Cert.KInNorm4Ideal.τ).loc Cert.KInNorm4Ideal.main_v4_1) = v1 c
          ∧ r.2.mem ((c.tc : Thread Cert.KInNorm4Ideal.nD Cert.KInNorm4Ideal.τ).loc Cert.KInNorm4Ideal.main_arg0) = m ((c.tc : Thread Cert.KInNorm4Ideal.nD Cert.KInNorm4Ideal.τ).loc Cert.KInNorm4Ideal.main_arg0)
          ∧ r.2.mem ((c.tc : Thread Cert.KInNorm4Ideal.nD Cert.KInNorm4Ideal.τ).loc Cert.KInNorm4Ideal.main_arg1) = m ((c.tc : Thread Cert.KInNorm4Ideal.nD Cert.KInNorm4Ideal.τ).loc Cert.KInNorm4Ideal.main_arg1)
          ∧ r.2.mem ((c.tc : Thread Cert.KInNorm4Ideal.nD Cert.KInNorm4Ideal.τ).loc Cert.KInNorm4Ideal.main_arg2) = m ((c.tc : Thread Cert.KInNorm4Ideal.nD Cert.KInNorm4Ideal.τ).loc Cert.KInNorm4Ideal.main_arg2)
          ∧ r.2.mem ((c.tc : Thread Cert.KInNorm4Ideal.nD Cert.KInNorm4Ideal.τ).loc Cert.KInNorm4Ideal.main_arg3) = m ((c.tc : Thread Cert.KInNorm4Ideal.nD Cert.KInNorm4Ideal.τ).loc Cert.KInNorm4Ideal.main_arg3)
          ∧ r.2.mem ((c.tc : Thread Cert.KInNorm4Ideal.nD Cert.KInNorm4Ideal.τ).loc Cert.KInNorm4Ideal.main_arg4) = m ((c.tc : Thread Cert.KInNorm4Ideal.nD Cert.KInNorm4Ideal.τ).loc Cert.KInNorm4Ideal.main_arg4)
          ∧ r.2.mem ((c.tc : Thread Cert.KInNorm4Ideal.nD Cert.KInNorm4Ideal.τ).loc Cert.KInNorm4Ideal.main_arg5) = m ((c.tc : Thread Cert.KInNorm4Ideal.nD Cert.KInNorm4Ideal.τ).loc Cert.KInNorm4Ideal.main_arg5)
          ∧ r.2.mem ((c.tc : Thread Cert.KInNorm4Ideal.nD Cert.KInNorm4Ideal.τ).loc Cert.KInNorm4Ideal.main_arg6) = m ((c.tc : Thread Cert.KInNorm4Ideal.nD Cert.KInNorm4Ideal.τ).loc Cert.KInNorm4Ideal.main_arg6)
          ∧ r.2.mem ((c.tc : Thread Cert.KInNorm4Ideal.nD Cert.KInNorm4Ideal.τ).loc Cert.KInNorm4Ideal.main_arg7) = m ((c.tc : Thread Cert.KInNorm4Ideal.nD Cert.KInNorm4Ideal.τ).loc Cert.KInNorm4Ideal.main_arg7))
      ∧ θ_run (Cert.RInNorm4Ideal.defs (F := Ideal)) (onTc (τ := Cert.RInNorm4Ideal.τ) (Cert.RInNorm4Ideal.main (F := Ideal))) ⟨m', fun _ => 0, g'⟩ (fun r => ∀ c : Dev Cert.RInNorm4Ideal.nD,
          r.2.mem ((c.tc : Thread Cert.RInNorm4Ideal.nD Cert.RInNorm4Ideal.τ).loc Cert.RInNorm4Ideal.main_v39) = v0 c
          ∧ r.2.mem ((c.tc : Thread Cert.RInNorm4Ideal.nD Cert.RInNorm4Ideal.τ).loc Cert.RInNorm4Ideal.main_v22) = v1 c
          ∧ r.2.mem ((c.tc : Thread Cert.RInNorm4Ideal.nD Cert.RInNorm4Ideal.τ).loc Cert.RInNorm4Ideal.main_arg0) = m' ((c.tc : Thread Cert.RInNorm4Ideal.nD Cert.RInNorm4Ideal.τ).loc Cert.RInNorm4Ideal.main_arg0)
          ∧ r.2.mem ((c.tc : Thread Cert.RInNorm4Ideal.nD Cert.RInNorm4Ideal.τ).loc Cert.RInNorm4Ideal.main_arg1) = m' ((c.tc : Thread Cert.RInNorm4Ideal.nD Cert.RInNorm4Ideal.τ).loc Cert.RInNorm4Ideal.main_arg1)
          ∧ r.2.mem ((c.tc : Thread Cert.RInNorm4Ideal.nD Cert.RInNorm4Ideal.τ).loc Cert.RInNorm4Ideal.main_arg2) = m' ((c.tc : Thread Cert.RInNorm4Ideal.nD Cert.RInNorm4Ideal.τ).loc Cert.RInNorm4Ideal.main_arg2)
          ∧ r.2.mem ((c.tc : Thread Cert.RInNorm4Ideal.nD Cert.RInNorm4Ideal.τ).loc Cert.RInNorm4Ideal.main_arg3) = m' ((c.tc : Thread Cert.RInNorm4Ideal.nD Cert.RInNorm4Ideal.τ).loc Cert.RInNorm4Ideal.main_arg3)
          ∧ r.2.mem ((c.tc : Thread Cert.RInNorm4Ideal.nD Cert.RInNorm4Ideal.τ).loc Cert.RInNorm4Ideal.main_arg4) = m' ((c.tc : Thread Cert.RInNorm4Ideal.nD Cert.RInNorm4Ideal.τ).loc Cert.RInNorm4Ideal.main_arg4)
          ∧ r.2.mem ((c.tc : Thread Cert.RInNorm4Ideal.nD Cert.RInNorm4Ideal.τ).loc Cert.RInNorm4Ideal.main_arg5) = m' ((c.tc : Thread Cert.RInNorm4Ideal.nD Cert.RInNorm4Ideal.τ).loc Cert.RInNorm4Ideal.main_arg5)
          ∧ r.2.mem ((c.tc : Thread Cert.RInNorm4Ideal.nD Cert.RInNorm4Ideal.τ).loc Cert.RInNorm4Ideal.main_arg6) = m' ((c.tc : Thread Cert.RInNorm4Ideal.nD Cert.RInNorm4Ideal.τ).loc Cert.RInNorm4Ideal.main_arg6)
          ∧ r.2.mem ((c.tc : Thread Cert.RInNorm4Ideal.nD Cert.RInNorm4Ideal.τ).loc Cert.RInNorm4Ideal.main_arg7) = m' ((c.tc : Thread Cert.RInNorm4Ideal.nD Cert.RInNorm4Ideal.τ).loc Cert.RInNorm4Ideal.main_arg7))

def preserves_KMerge_KMergeIdeal : Prop :=
  True

def algebraic_KMergeIdeal_RMergeIdeal [hKMergeIdeal : Cert.KMergeIdeal.Facts] [hRMergeIdeal : Cert.RMergeIdeal.Facts] : Prop :=
  ∀ (m : (ℓ : Loc Cert.KMergeIdeal.nD Cert.KMergeIdeal.τ Cert.KMergeIdeal.sig) → Buf (Elt Ideal) ℓ) (g : Dev Cert.KMergeIdeal.nD → PrngReg)
    (m' : (ℓ : Loc Cert.RMergeIdeal.nD Cert.RMergeIdeal.τ Cert.RMergeIdeal.sig) → Buf (Elt Ideal) ℓ) (g' : Dev Cert.RMergeIdeal.nD → PrngReg), Pre_KMergeIdeal m →
    (∀ c : Dev Cert.KMergeIdeal.nD,
      m' ((c.tc : Thread Cert.RMergeIdeal.nD Cert.RMergeIdeal.τ).loc Cert.RMergeIdeal.main_arg0) = m ((c.tc : Thread Cert.KMergeIdeal.nD Cert.KMergeIdeal.τ).loc Cert.KMergeIdeal.main_arg0)
      ∧ m' ((c.tc : Thread Cert.RMergeIdeal.nD Cert.RMergeIdeal.τ).loc Cert.RMergeIdeal.main_arg1) = m ((c.tc : Thread Cert.KMergeIdeal.nD Cert.KMergeIdeal.τ).loc Cert.KMergeIdeal.main_arg1)
      ∧ m' ((c.tc : Thread Cert.RMergeIdeal.nD Cert.RMergeIdeal.τ).loc Cert.RMergeIdeal.main_arg2) = m ((c.tc : Thread Cert.KMergeIdeal.nD Cert.KMergeIdeal.τ).loc Cert.KMergeIdeal.main_arg2)
      ∧ m' ((c.tc : Thread Cert.RMergeIdeal.nD Cert.RMergeIdeal.τ).loc Cert.RMergeIdeal.main_arg3) = m ((c.tc : Thread Cert.KMergeIdeal.nD Cert.KMergeIdeal.τ).loc Cert.KMergeIdeal.main_arg3)
      ∧ m' ((c.tc : Thread Cert.RMergeIdeal.nD Cert.RMergeIdeal.τ).loc Cert.RMergeIdeal.main_arg4) = m ((c.tc : Thread Cert.KMergeIdeal.nD Cert.KMergeIdeal.τ).loc Cert.KMergeIdeal.main_arg4)
      ∧ m' ((c.tc : Thread Cert.RMergeIdeal.nD Cert.RMergeIdeal.τ).loc Cert.RMergeIdeal.main_arg5) = m ((c.tc : Thread Cert.KMergeIdeal.nD Cert.KMergeIdeal.τ).loc Cert.KMergeIdeal.main_arg5)
      ∧ m' ((c.tc : Thread Cert.RMergeIdeal.nD Cert.RMergeIdeal.τ).loc Cert.RMergeIdeal.main_arg6) = m ((c.tc : Thread Cert.KMergeIdeal.nD Cert.KMergeIdeal.τ).loc Cert.KMergeIdeal.main_arg6)) →
    ∃ (v0 : (c : Dev Cert.KMergeIdeal.nD) → Buf (Elt Ideal) ((c.tc : Thread Cert.KMergeIdeal.nD Cert.KMergeIdeal.τ).loc Cert.KMergeIdeal.main_v21_0)) (v1 : (c : Dev Cert.KMergeIdeal.nD) → Buf (Elt Ideal) ((c.tc : Thread Cert.KMergeIdeal.nD Cert.KMergeIdeal.τ).loc Cert.KMergeIdeal.main_v21_1)) (v2 : (c : Dev Cert.KMergeIdeal.nD) → Buf (Elt Ideal) ((c.tc : Thread Cert.KMergeIdeal.nD Cert.KMergeIdeal.τ).loc Cert.KMergeIdeal.main_v21_2)) (v3 : (c : Dev Cert.KMergeIdeal.nD) → Buf (Elt Ideal) ((c.tc : Thread Cert.KMergeIdeal.nD Cert.KMergeIdeal.τ).loc Cert.KMergeIdeal.main_v21_3)) (v4 : (c : Dev Cert.KMergeIdeal.nD) → Buf (Elt Ideal) ((c.tc : Thread Cert.KMergeIdeal.nD Cert.KMergeIdeal.τ).loc Cert.KMergeIdeal.main_v21_4)) (v5 : (c : Dev Cert.KMergeIdeal.nD) → Buf (Elt Ideal) ((c.tc : Thread Cert.KMergeIdeal.nD Cert.KMergeIdeal.τ).loc Cert.KMergeIdeal.main_v21_5)),
      θ_run (Cert.KMergeIdeal.defs (F := Ideal)) (onTc (τ := Cert.KMergeIdeal.τ) (Cert.KMergeIdeal.main (F := Ideal))) ⟨m, fun _ => 0, g⟩ (fun r => ∀ c : Dev Cert.KMergeIdeal.nD,
          r.2.mem ((c.tc : Thread Cert.KMergeIdeal.nD Cert.KMergeIdeal.τ).loc Cert.KMergeIdeal.main_v21_0) = v0 c
          ∧ r.2.mem ((c.tc : Thread Cert.KMergeIdeal.nD Cert.KMergeIdeal.τ).loc Cert.KMergeIdeal.main_v21_1) = v1 c
          ∧ r.2.mem ((c.tc : Thread Cert.KMergeIdeal.nD Cert.KMergeIdeal.τ).loc Cert.KMergeIdeal.main_v21_2) = v2 c
          ∧ r.2.mem ((c.tc : Thread Cert.KMergeIdeal.nD Cert.KMergeIdeal.τ).loc Cert.KMergeIdeal.main_v21_3) = v3 c
          ∧ r.2.mem ((c.tc : Thread Cert.KMergeIdeal.nD Cert.KMergeIdeal.τ).loc Cert.KMergeIdeal.main_v21_4) = v4 c
          ∧ r.2.mem ((c.tc : Thread Cert.KMergeIdeal.nD Cert.KMergeIdeal.τ).loc Cert.KMergeIdeal.main_v21_5) = v5 c
          ∧ r.2.mem ((c.tc : Thread Cert.KMergeIdeal.nD Cert.KMergeIdeal.τ).loc Cert.KMergeIdeal.main_arg0) = m ((c.tc : Thread Cert.KMergeIdeal.nD Cert.KMergeIdeal.τ).loc Cert.KMergeIdeal.main_arg0)
          ∧ r.2.mem ((c.tc : Thread Cert.KMergeIdeal.nD Cert.KMergeIdeal.τ).loc Cert.KMergeIdeal.main_arg1) = m ((c.tc : Thread Cert.KMergeIdeal.nD Cert.KMergeIdeal.τ).loc Cert.KMergeIdeal.main_arg1)
          ∧ r.2.mem ((c.tc : Thread Cert.KMergeIdeal.nD Cert.KMergeIdeal.τ).loc Cert.KMergeIdeal.main_arg2) = m ((c.tc : Thread Cert.KMergeIdeal.nD Cert.KMergeIdeal.τ).loc Cert.KMergeIdeal.main_arg2)
          ∧ r.2.mem ((c.tc : Thread Cert.KMergeIdeal.nD Cert.KMergeIdeal.τ).loc Cert.KMergeIdeal.main_arg3) = m ((c.tc : Thread Cert.KMergeIdeal.nD Cert.KMergeIdeal.τ).loc Cert.KMergeIdeal.main_arg3)
          ∧ r.2.mem ((c.tc : Thread Cert.KMergeIdeal.nD Cert.KMergeIdeal.τ).loc Cert.KMergeIdeal.main_arg4) = m ((c.tc : Thread Cert.KMergeIdeal.nD Cert.KMergeIdeal.τ).loc Cert.KMergeIdeal.main_arg4)
          ∧ r.2.mem ((c.tc : Thread Cert.KMergeIdeal.nD Cert.KMergeIdeal.τ).loc Cert.KMergeIdeal.main_arg5) = m ((c.tc : Thread Cert.KMergeIdeal.nD Cert.KMergeIdeal.τ).loc Cert.KMergeIdeal.main_arg5)
          ∧ r.2.mem ((c.tc : Thread Cert.KMergeIdeal.nD Cert.KMergeIdeal.τ).loc Cert.KMergeIdeal.main_arg6) = m ((c.tc : Thread Cert.KMergeIdeal.nD Cert.KMergeIdeal.τ).loc Cert.KMergeIdeal.main_arg6))
      ∧ θ_run (Cert.RMergeIdeal.defs (F := Ideal)) (onTc (τ := Cert.RMergeIdeal.τ) (Cert.RMergeIdeal.main (F := Ideal))) ⟨m', fun _ => 0, g'⟩ (fun r => ∀ c : Dev Cert.RMergeIdeal.nD,
          r.2.mem ((c.tc : Thread Cert.RMergeIdeal.nD Cert.RMergeIdeal.τ).loc Cert.RMergeIdeal.main_v82) = v0 c
          ∧ r.2.mem ((c.tc : Thread Cert.RMergeIdeal.nD Cert.RMergeIdeal.τ).loc Cert.RMergeIdeal.main_v75) = v1 c
          ∧ r.2.mem ((c.tc : Thread Cert.RMergeIdeal.nD Cert.RMergeIdeal.τ).loc Cert.RMergeIdeal.main_v69) = v2 c
          ∧ r.2.mem ((c.tc : Thread Cert.RMergeIdeal.nD Cert.RMergeIdeal.τ).loc Cert.RMergeIdeal.main_v64) = v3 c
          ∧ r.2.mem ((c.tc : Thread Cert.RMergeIdeal.nD Cert.RMergeIdeal.τ).loc Cert.RMergeIdeal.main_v81) = v4 c
          ∧ r.2.mem ((c.tc : Thread Cert.RMergeIdeal.nD Cert.RMergeIdeal.τ).loc Cert.RMergeIdeal.main_v44) = v5 c
          ∧ r.2.mem ((c.tc : Thread Cert.RMergeIdeal.nD Cert.RMergeIdeal.τ).loc Cert.RMergeIdeal.main_arg0) = m' ((c.tc : Thread Cert.RMergeIdeal.nD Cert.RMergeIdeal.τ).loc Cert.RMergeIdeal.main_arg0)
          ∧ r.2.mem ((c.tc : Thread Cert.RMergeIdeal.nD Cert.RMergeIdeal.τ).loc Cert.RMergeIdeal.main_arg1) = m' ((c.tc : Thread Cert.RMergeIdeal.nD Cert.RMergeIdeal.τ).loc Cert.RMergeIdeal.main_arg1)
          ∧ r.2.mem ((c.tc : Thread Cert.RMergeIdeal.nD Cert.RMergeIdeal.τ).loc Cert.RMergeIdeal.main_arg2) = m' ((c.tc : Thread Cert.RMergeIdeal.nD Cert.RMergeIdeal.τ).loc Cert.RMergeIdeal.main_arg2)
          ∧ r.2.mem ((c.tc : Thread Cert.RMergeIdeal.nD Cert.RMergeIdeal.τ).loc Cert.RMergeIdeal.main_arg3) = m' ((c.tc : Thread Cert.RMergeIdeal.nD Cert.RMergeIdeal.τ).loc Cert.RMergeIdeal.main_arg3)
          ∧ r.2.mem ((c.tc : Thread Cert.RMergeIdeal.nD Cert.RMergeIdeal.τ).loc Cert.RMergeIdeal.main_arg4) = m' ((c.tc : Thread Cert.RMergeIdeal.nD Cert.RMergeIdeal.τ).loc Cert.RMergeIdeal.main_arg4)
          ∧ r.2.mem ((c.tc : Thread Cert.RMergeIdeal.nD Cert.RMergeIdeal.τ).loc Cert.RMergeIdeal.main_arg5) = m' ((c.tc : Thread Cert.RMergeIdeal.nD Cert.RMergeIdeal.τ).loc Cert.RMergeIdeal.main_arg5)
          ∧ r.2.mem ((c.tc : Thread Cert.RMergeIdeal.nD Cert.RMergeIdeal.τ).loc Cert.RMergeIdeal.main_arg6) = m' ((c.tc : Thread Cert.RMergeIdeal.nD Cert.RMergeIdeal.τ).loc Cert.RMergeIdeal.main_arg6))

def preserves_KConv_KConvIdeal : Prop :=
  True

def algebraic_KConvIdeal_RConvIdeal [hKConvIdeal : Cert.KConvIdeal.Facts] [hRConvIdeal : Cert.RConvIdeal.Facts] : Prop :=
  ∀ (m : (ℓ : Loc Cert.KConvIdeal.nD Cert.KConvIdeal.τ Cert.KConvIdeal.sig) → Buf (Elt Ideal) ℓ) (g : Dev Cert.KConvIdeal.nD → PrngReg)
    (m' : (ℓ : Loc Cert.RConvIdeal.nD Cert.RConvIdeal.τ Cert.RConvIdeal.sig) → Buf (Elt Ideal) ℓ) (g' : Dev Cert.RConvIdeal.nD → PrngReg), Pre_KConvIdeal m →
    (∀ c : Dev Cert.KConvIdeal.nD,
      m' ((c.tc : Thread Cert.RConvIdeal.nD Cert.RConvIdeal.τ).loc Cert.RConvIdeal.main_arg0) = m ((c.tc : Thread Cert.KConvIdeal.nD Cert.KConvIdeal.τ).loc Cert.KConvIdeal.main_arg0)
      ∧ m' ((c.tc : Thread Cert.RConvIdeal.nD Cert.RConvIdeal.τ).loc Cert.RConvIdeal.main_arg1) = m ((c.tc : Thread Cert.KConvIdeal.nD Cert.KConvIdeal.τ).loc Cert.KConvIdeal.main_arg1)
      ∧ m' ((c.tc : Thread Cert.RConvIdeal.nD Cert.RConvIdeal.τ).loc Cert.RConvIdeal.main_arg2) = m ((c.tc : Thread Cert.KConvIdeal.nD Cert.KConvIdeal.τ).loc Cert.KConvIdeal.main_arg2)) →
    ∃ (v0 : (c : Dev Cert.KConvIdeal.nD) → Buf (Elt Ideal) ((c.tc : Thread Cert.KConvIdeal.nD Cert.KConvIdeal.τ).loc Cert.KConvIdeal.main_v0_0)) (v1 : (c : Dev Cert.KConvIdeal.nD) → Buf (Elt Ideal) ((c.tc : Thread Cert.KConvIdeal.nD Cert.KConvIdeal.τ).loc Cert.KConvIdeal.main_v0_1)) (v2 : (c : Dev Cert.KConvIdeal.nD) → Buf (Elt Ideal) ((c.tc : Thread Cert.KConvIdeal.nD Cert.KConvIdeal.τ).loc Cert.KConvIdeal.main_v0_2)),
      θ_run (Cert.KConvIdeal.defs (F := Ideal)) (onTc (τ := Cert.KConvIdeal.τ) (Cert.KConvIdeal.main (F := Ideal))) ⟨m, fun _ => 0, g⟩ (fun r => ∀ c : Dev Cert.KConvIdeal.nD,
          r.2.mem ((c.tc : Thread Cert.KConvIdeal.nD Cert.KConvIdeal.τ).loc Cert.KConvIdeal.main_v0_0) = v0 c
          ∧ r.2.mem ((c.tc : Thread Cert.KConvIdeal.nD Cert.KConvIdeal.τ).loc Cert.KConvIdeal.main_v0_1) = v1 c
          ∧ r.2.mem ((c.tc : Thread Cert.KConvIdeal.nD Cert.KConvIdeal.τ).loc Cert.KConvIdeal.main_v0_2) = v2 c
          ∧ r.2.mem ((c.tc : Thread Cert.KConvIdeal.nD Cert.KConvIdeal.τ).loc Cert.KConvIdeal.main_arg0) = m ((c.tc : Thread Cert.KConvIdeal.nD Cert.KConvIdeal.τ).loc Cert.KConvIdeal.main_arg0)
          ∧ r.2.mem ((c.tc : Thread Cert.KConvIdeal.nD Cert.KConvIdeal.τ).loc Cert.KConvIdeal.main_arg1) = m ((c.tc : Thread Cert.KConvIdeal.nD Cert.KConvIdeal.τ).loc Cert.KConvIdeal.main_arg1)
          ∧ r.2.mem ((c.tc : Thread Cert.KConvIdeal.nD Cert.KConvIdeal.τ).loc Cert.KConvIdeal.main_arg2) = m ((c.tc : Thread Cert.KConvIdeal.nD Cert.KConvIdeal.τ).loc Cert.KConvIdeal.main_arg2))
      ∧ θ_run (Cert.RConvIdeal.defs (F := Ideal)) (onTc (τ := Cert.RConvIdeal.τ) (Cert.RConvIdeal.main (F := Ideal))) ⟨m', fun _ => 0, g'⟩ (fun r => ∀ c : Dev Cert.RConvIdeal.nD,
          r.2.mem ((c.tc : Thread Cert.RConvIdeal.nD Cert.RConvIdeal.τ).loc Cert.RConvIdeal.main_v84) = v0 c
          ∧ r.2.mem ((c.tc : Thread Cert.RConvIdeal.nD Cert.RConvIdeal.τ).loc Cert.RConvIdeal.main_v78) = v1 c
          ∧ r.2.mem ((c.tc : Thread Cert.RConvIdeal.nD Cert.RConvIdeal.τ).loc Cert.RConvIdeal.main_v38) = v2 c
          ∧ r.2.mem ((c.tc : Thread Cert.RConvIdeal.nD Cert.RConvIdeal.τ).loc Cert.RConvIdeal.main_arg0) = m' ((c.tc : Thread Cert.RConvIdeal.nD Cert.RConvIdeal.τ).loc Cert.RConvIdeal.main_arg0)
          ∧ r.2.mem ((c.tc : Thread Cert.RConvIdeal.nD Cert.RConvIdeal.τ).loc Cert.RConvIdeal.main_arg1) = m' ((c.tc : Thread Cert.RConvIdeal.nD Cert.RConvIdeal.τ).loc Cert.RConvIdeal.main_arg1)
          ∧ r.2.mem ((c.tc : Thread Cert.RConvIdeal.nD Cert.RConvIdeal.τ).loc Cert.RConvIdeal.main_arg2) = m' ((c.tc : Thread Cert.RConvIdeal.nD Cert.RConvIdeal.τ).loc Cert.RConvIdeal.main_arg2))

def preserves_KBc_KBcIdeal : Prop :=
  IdealRules.named_const.Statement Cert.KBcIdeal.κ "gelu_kc" .f32 0x3D122279#32 ((80338380498831 / 2251799813685248 : ℝ) : EReal)
  ∧ IdealRules.named_const.Statement Cert.KBcIdeal.κ "gelu_3kc" .f32 0x3DDB33B6#32 ((241015141496493 / 2251799813685248 : ℝ) : EReal)

def algebraic_KBcIdeal_RBcIdeal_pre_finite_bc [hKBcIdeal : Cert.KBcIdeal.Facts] [hRBcIdeal : Cert.RBcIdeal.Facts] [hPre_finite_bc : Cert.Pre_finite_bc.Facts] : Prop :=
  ∀ (m : (ℓ : Loc Cert.KBcIdeal.nD Cert.KBcIdeal.τ Cert.KBcIdeal.sig) → Buf (Elt Ideal) ℓ) (g : Dev Cert.KBcIdeal.nD → PrngReg)
    (m' : (ℓ : Loc Cert.RBcIdeal.nD Cert.RBcIdeal.τ Cert.RBcIdeal.sig) → Buf (Elt Ideal) ℓ) (g' : Dev Cert.RBcIdeal.nD → PrngReg), Pre_KBcIdeal_finite_bc m →
    (∀ c : Dev Cert.KBcIdeal.nD,
      m' ((c.tc : Thread Cert.RBcIdeal.nD Cert.RBcIdeal.τ).loc Cert.RBcIdeal.main_arg0) = m ((c.tc : Thread Cert.KBcIdeal.nD Cert.KBcIdeal.τ).loc Cert.KBcIdeal.main_arg0)
      ∧ m' ((c.tc : Thread Cert.RBcIdeal.nD Cert.RBcIdeal.τ).loc Cert.RBcIdeal.main_arg1) = m ((c.tc : Thread Cert.KBcIdeal.nD Cert.KBcIdeal.τ).loc Cert.KBcIdeal.main_arg1)
      ∧ m' ((c.tc : Thread Cert.RBcIdeal.nD Cert.RBcIdeal.τ).loc Cert.RBcIdeal.main_arg2) = m ((c.tc : Thread Cert.KBcIdeal.nD Cert.KBcIdeal.τ).loc Cert.KBcIdeal.main_arg2)
      ∧ m' ((c.tc : Thread Cert.RBcIdeal.nD Cert.RBcIdeal.τ).loc Cert.RBcIdeal.main_arg3) = m ((c.tc : Thread Cert.KBcIdeal.nD Cert.KBcIdeal.τ).loc Cert.KBcIdeal.main_arg3)
      ∧ m' ((c.tc : Thread Cert.RBcIdeal.nD Cert.RBcIdeal.τ).loc Cert.RBcIdeal.main_arg4) = m ((c.tc : Thread Cert.KBcIdeal.nD Cert.KBcIdeal.τ).loc Cert.KBcIdeal.main_arg4)
      ∧ m' ((c.tc : Thread Cert.RBcIdeal.nD Cert.RBcIdeal.τ).loc Cert.RBcIdeal.main_arg5) = m ((c.tc : Thread Cert.KBcIdeal.nD Cert.KBcIdeal.τ).loc Cert.KBcIdeal.main_arg5)
      ∧ m' ((c.tc : Thread Cert.RBcIdeal.nD Cert.RBcIdeal.τ).loc Cert.RBcIdeal.main_arg6) = m ((c.tc : Thread Cert.KBcIdeal.nD Cert.KBcIdeal.τ).loc Cert.KBcIdeal.main_arg6)
      ∧ m' ((c.tc : Thread Cert.RBcIdeal.nD Cert.RBcIdeal.τ).loc Cert.RBcIdeal.main_arg7) = m ((c.tc : Thread Cert.KBcIdeal.nD Cert.KBcIdeal.τ).loc Cert.KBcIdeal.main_arg7)) →
    ∃ (v0 : (c : Dev Cert.KBcIdeal.nD) → Buf (Elt Ideal) ((c.tc : Thread Cert.KBcIdeal.nD Cert.KBcIdeal.τ).loc Cert.KBcIdeal.main_v6_0)) (v1 : (c : Dev Cert.KBcIdeal.nD) → Buf (Elt Ideal) ((c.tc : Thread Cert.KBcIdeal.nD Cert.KBcIdeal.τ).loc Cert.KBcIdeal.main_v6_1)) (v2 : (c : Dev Cert.KBcIdeal.nD) → Buf (Elt Ideal) ((c.tc : Thread Cert.KBcIdeal.nD Cert.KBcIdeal.τ).loc Cert.KBcIdeal.main_v6_2)) (v3 : (c : Dev Cert.KBcIdeal.nD) → Buf (Elt Ideal) ((c.tc : Thread Cert.KBcIdeal.nD Cert.KBcIdeal.τ).loc Cert.KBcIdeal.main_v6_3)) (v4 : (c : Dev Cert.KBcIdeal.nD) → Buf (Elt Ideal) ((c.tc : Thread Cert.KBcIdeal.nD Cert.KBcIdeal.τ).loc Cert.KBcIdeal.main_v6_4)) (v5 : (c : Dev Cert.KBcIdeal.nD) → Buf (Elt Ideal) ((c.tc : Thread Cert.KBcIdeal.nD Cert.KBcIdeal.τ).loc Cert.KBcIdeal.main_v6_5)),
      θ_run (Cert.KBcIdeal.defs (F := Ideal)) (onTc (τ := Cert.KBcIdeal.τ) (Cert.KBcIdeal.main (F := Ideal))) ⟨m, fun _ => 0, g⟩ (fun r => ∀ c : Dev Cert.KBcIdeal.nD,
          r.2.mem ((c.tc : Thread Cert.KBcIdeal.nD Cert.KBcIdeal.τ).loc Cert.KBcIdeal.main_v6_0) = v0 c
          ∧ r.2.mem ((c.tc : Thread Cert.KBcIdeal.nD Cert.KBcIdeal.τ).loc Cert.KBcIdeal.main_v6_1) = v1 c
          ∧ r.2.mem ((c.tc : Thread Cert.KBcIdeal.nD Cert.KBcIdeal.τ).loc Cert.KBcIdeal.main_v6_2) = v2 c
          ∧ r.2.mem ((c.tc : Thread Cert.KBcIdeal.nD Cert.KBcIdeal.τ).loc Cert.KBcIdeal.main_v6_3) = v3 c
          ∧ r.2.mem ((c.tc : Thread Cert.KBcIdeal.nD Cert.KBcIdeal.τ).loc Cert.KBcIdeal.main_v6_4) = v4 c
          ∧ r.2.mem ((c.tc : Thread Cert.KBcIdeal.nD Cert.KBcIdeal.τ).loc Cert.KBcIdeal.main_v6_5) = v5 c
          ∧ r.2.mem ((c.tc : Thread Cert.KBcIdeal.nD Cert.KBcIdeal.τ).loc Cert.KBcIdeal.main_arg0) = m ((c.tc : Thread Cert.KBcIdeal.nD Cert.KBcIdeal.τ).loc Cert.KBcIdeal.main_arg0)
          ∧ r.2.mem ((c.tc : Thread Cert.KBcIdeal.nD Cert.KBcIdeal.τ).loc Cert.KBcIdeal.main_arg1) = m ((c.tc : Thread Cert.KBcIdeal.nD Cert.KBcIdeal.τ).loc Cert.KBcIdeal.main_arg1)
          ∧ r.2.mem ((c.tc : Thread Cert.KBcIdeal.nD Cert.KBcIdeal.τ).loc Cert.KBcIdeal.main_arg2) = m ((c.tc : Thread Cert.KBcIdeal.nD Cert.KBcIdeal.τ).loc Cert.KBcIdeal.main_arg2)
          ∧ r.2.mem ((c.tc : Thread Cert.KBcIdeal.nD Cert.KBcIdeal.τ).loc Cert.KBcIdeal.main_arg3) = m ((c.tc : Thread Cert.KBcIdeal.nD Cert.KBcIdeal.τ).loc Cert.KBcIdeal.main_arg3)
          ∧ r.2.mem ((c.tc : Thread Cert.KBcIdeal.nD Cert.KBcIdeal.τ).loc Cert.KBcIdeal.main_arg4) = m ((c.tc : Thread Cert.KBcIdeal.nD Cert.KBcIdeal.τ).loc Cert.KBcIdeal.main_arg4)
          ∧ r.2.mem ((c.tc : Thread Cert.KBcIdeal.nD Cert.KBcIdeal.τ).loc Cert.KBcIdeal.main_arg5) = m ((c.tc : Thread Cert.KBcIdeal.nD Cert.KBcIdeal.τ).loc Cert.KBcIdeal.main_arg5)
          ∧ r.2.mem ((c.tc : Thread Cert.KBcIdeal.nD Cert.KBcIdeal.τ).loc Cert.KBcIdeal.main_arg6) = m ((c.tc : Thread Cert.KBcIdeal.nD Cert.KBcIdeal.τ).loc Cert.KBcIdeal.main_arg6)
          ∧ r.2.mem ((c.tc : Thread Cert.KBcIdeal.nD Cert.KBcIdeal.τ).loc Cert.KBcIdeal.main_arg7) = m ((c.tc : Thread Cert.KBcIdeal.nD Cert.KBcIdeal.τ).loc Cert.KBcIdeal.main_arg7))
      ∧ θ_run (Cert.RBcIdeal.defs (F := Ideal)) (onTc (τ := Cert.RBcIdeal.τ) (Cert.RBcIdeal.main (F := Ideal))) ⟨m', fun _ => 0, g'⟩ (fun r => ∀ c : Dev Cert.RBcIdeal.nD,
          r.2.mem ((c.tc : Thread Cert.RBcIdeal.nD Cert.RBcIdeal.τ).loc Cert.RBcIdeal.main_v220) = v0 c
          ∧ r.2.mem ((c.tc : Thread Cert.RBcIdeal.nD Cert.RBcIdeal.τ).loc Cert.RBcIdeal.main_v211) = v1 c
          ∧ r.2.mem ((c.tc : Thread Cert.RBcIdeal.nD Cert.RBcIdeal.τ).loc Cert.RBcIdeal.main_v130) = v2 c
          ∧ r.2.mem ((c.tc : Thread Cert.RBcIdeal.nD Cert.RBcIdeal.τ).loc Cert.RBcIdeal.main_v127) = v3 c
          ∧ r.2.mem ((c.tc : Thread Cert.RBcIdeal.nD Cert.RBcIdeal.τ).loc Cert.RBcIdeal.main_v122) = v4 c
          ∧ r.2.mem ((c.tc : Thread Cert.RBcIdeal.nD Cert.RBcIdeal.τ).loc Cert.RBcIdeal.main_v120) = v5 c
          ∧ r.2.mem ((c.tc : Thread Cert.RBcIdeal.nD Cert.RBcIdeal.τ).loc Cert.RBcIdeal.main_arg0) = m' ((c.tc : Thread Cert.RBcIdeal.nD Cert.RBcIdeal.τ).loc Cert.RBcIdeal.main_arg0)
          ∧ r.2.mem ((c.tc : Thread Cert.RBcIdeal.nD Cert.RBcIdeal.τ).loc Cert.RBcIdeal.main_arg1) = m' ((c.tc : Thread Cert.RBcIdeal.nD Cert.RBcIdeal.τ).loc Cert.RBcIdeal.main_arg1)
          ∧ r.2.mem ((c.tc : Thread Cert.RBcIdeal.nD Cert.RBcIdeal.τ).loc Cert.RBcIdeal.main_arg2) = m' ((c.tc : Thread Cert.RBcIdeal.nD Cert.RBcIdeal.τ).loc Cert.RBcIdeal.main_arg2)
          ∧ r.2.mem ((c.tc : Thread Cert.RBcIdeal.nD Cert.RBcIdeal.τ).loc Cert.RBcIdeal.main_arg3) = m' ((c.tc : Thread Cert.RBcIdeal.nD Cert.RBcIdeal.τ).loc Cert.RBcIdeal.main_arg3)
          ∧ r.2.mem ((c.tc : Thread Cert.RBcIdeal.nD Cert.RBcIdeal.τ).loc Cert.RBcIdeal.main_arg4) = m' ((c.tc : Thread Cert.RBcIdeal.nD Cert.RBcIdeal.τ).loc Cert.RBcIdeal.main_arg4)
          ∧ r.2.mem ((c.tc : Thread Cert.RBcIdeal.nD Cert.RBcIdeal.τ).loc Cert.RBcIdeal.main_arg5) = m' ((c.tc : Thread Cert.RBcIdeal.nD Cert.RBcIdeal.τ).loc Cert.RBcIdeal.main_arg5)
          ∧ r.2.mem ((c.tc : Thread Cert.RBcIdeal.nD Cert.RBcIdeal.τ).loc Cert.RBcIdeal.main_arg6) = m' ((c.tc : Thread Cert.RBcIdeal.nD Cert.RBcIdeal.τ).loc Cert.RBcIdeal.main_arg6)
          ∧ r.2.mem ((c.tc : Thread Cert.RBcIdeal.nD Cert.RBcIdeal.τ).loc Cert.RBcIdeal.main_arg7) = m' ((c.tc : Thread Cert.RBcIdeal.nD Cert.RBcIdeal.τ).loc Cert.RBcIdeal.main_arg7))

def preserves_KMix_KMixIdeal : Prop :=
  IdealRules.named_const.Statement Cert.KMixIdeal.κ "gelu_kc" .f32 0x3D122279#32 ((80338380498831 / 2251799813685248 : ℝ) : EReal)

def algebraic_KMixIdeal_RMixIdeal [hKMixIdeal : Cert.KMixIdeal.Facts] [hRMixIdeal : Cert.RMixIdeal.Facts] : Prop :=
  ∀ (m : (ℓ : Loc Cert.KMixIdeal.nD Cert.KMixIdeal.τ Cert.KMixIdeal.sig) → Buf (Elt Ideal) ℓ) (g : Dev Cert.KMixIdeal.nD → PrngReg)
    (m' : (ℓ : Loc Cert.RMixIdeal.nD Cert.RMixIdeal.τ Cert.RMixIdeal.sig) → Buf (Elt Ideal) ℓ) (g' : Dev Cert.RMixIdeal.nD → PrngReg), Pre_KMixIdeal m →
    (∀ c : Dev Cert.KMixIdeal.nD,
      m' ((c.tc : Thread Cert.RMixIdeal.nD Cert.RMixIdeal.τ).loc Cert.RMixIdeal.main_arg0) = m ((c.tc : Thread Cert.KMixIdeal.nD Cert.KMixIdeal.τ).loc Cert.KMixIdeal.main_arg0)
      ∧ m' ((c.tc : Thread Cert.RMixIdeal.nD Cert.RMixIdeal.τ).loc Cert.RMixIdeal.main_arg1) = m ((c.tc : Thread Cert.KMixIdeal.nD Cert.KMixIdeal.τ).loc Cert.KMixIdeal.main_arg1)
      ∧ m' ((c.tc : Thread Cert.RMixIdeal.nD Cert.RMixIdeal.τ).loc Cert.RMixIdeal.main_arg2) = m ((c.tc : Thread Cert.KMixIdeal.nD Cert.KMixIdeal.τ).loc Cert.KMixIdeal.main_arg2)
      ∧ m' ((c.tc : Thread Cert.RMixIdeal.nD Cert.RMixIdeal.τ).loc Cert.RMixIdeal.main_arg3) = m ((c.tc : Thread Cert.KMixIdeal.nD Cert.KMixIdeal.τ).loc Cert.KMixIdeal.main_arg3)
      ∧ m' ((c.tc : Thread Cert.RMixIdeal.nD Cert.RMixIdeal.τ).loc Cert.RMixIdeal.main_arg4) = m ((c.tc : Thread Cert.KMixIdeal.nD Cert.KMixIdeal.τ).loc Cert.KMixIdeal.main_arg4)
      ∧ m' ((c.tc : Thread Cert.RMixIdeal.nD Cert.RMixIdeal.τ).loc Cert.RMixIdeal.main_arg5) = m ((c.tc : Thread Cert.KMixIdeal.nD Cert.KMixIdeal.τ).loc Cert.KMixIdeal.main_arg5)) →
    ∃ (v0 : (c : Dev Cert.KMixIdeal.nD) → Buf (Elt Ideal) ((c.tc : Thread Cert.KMixIdeal.nD Cert.KMixIdeal.τ).loc Cert.KMixIdeal.main_v4_0)) (v1 : (c : Dev Cert.KMixIdeal.nD) → Buf (Elt Ideal) ((c.tc : Thread Cert.KMixIdeal.nD Cert.KMixIdeal.τ).loc Cert.KMixIdeal.main_v4_1)),
      θ_run (Cert.KMixIdeal.defs (F := Ideal)) (onTc (τ := Cert.KMixIdeal.τ) (Cert.KMixIdeal.main (F := Ideal))) ⟨m, fun _ => 0, g⟩ (fun r => ∀ c : Dev Cert.KMixIdeal.nD,
          r.2.mem ((c.tc : Thread Cert.KMixIdeal.nD Cert.KMixIdeal.τ).loc Cert.KMixIdeal.main_v4_0) = v0 c
          ∧ r.2.mem ((c.tc : Thread Cert.KMixIdeal.nD Cert.KMixIdeal.τ).loc Cert.KMixIdeal.main_v4_1) = v1 c
          ∧ r.2.mem ((c.tc : Thread Cert.KMixIdeal.nD Cert.KMixIdeal.τ).loc Cert.KMixIdeal.main_arg0) = m ((c.tc : Thread Cert.KMixIdeal.nD Cert.KMixIdeal.τ).loc Cert.KMixIdeal.main_arg0)
          ∧ r.2.mem ((c.tc : Thread Cert.KMixIdeal.nD Cert.KMixIdeal.τ).loc Cert.KMixIdeal.main_arg1) = m ((c.tc : Thread Cert.KMixIdeal.nD Cert.KMixIdeal.τ).loc Cert.KMixIdeal.main_arg1)
          ∧ r.2.mem ((c.tc : Thread Cert.KMixIdeal.nD Cert.KMixIdeal.τ).loc Cert.KMixIdeal.main_arg2) = m ((c.tc : Thread Cert.KMixIdeal.nD Cert.KMixIdeal.τ).loc Cert.KMixIdeal.main_arg2)
          ∧ r.2.mem ((c.tc : Thread Cert.KMixIdeal.nD Cert.KMixIdeal.τ).loc Cert.KMixIdeal.main_arg3) = m ((c.tc : Thread Cert.KMixIdeal.nD Cert.KMixIdeal.τ).loc Cert.KMixIdeal.main_arg3)
          ∧ r.2.mem ((c.tc : Thread Cert.KMixIdeal.nD Cert.KMixIdeal.τ).loc Cert.KMixIdeal.main_arg4) = m ((c.tc : Thread Cert.KMixIdeal.nD Cert.KMixIdeal.τ).loc Cert.KMixIdeal.main_arg4)
          ∧ r.2.mem ((c.tc : Thread Cert.KMixIdeal.nD Cert.KMixIdeal.τ).loc Cert.KMixIdeal.main_arg5) = m ((c.tc : Thread Cert.KMixIdeal.nD Cert.KMixIdeal.τ).loc Cert.KMixIdeal.main_arg5))
      ∧ θ_run (Cert.RMixIdeal.defs (F := Ideal)) (onTc (τ := Cert.RMixIdeal.τ) (Cert.RMixIdeal.main (F := Ideal))) ⟨m', fun _ => 0, g'⟩ (fun r => ∀ c : Dev Cert.RMixIdeal.nD,
          r.2.mem ((c.tc : Thread Cert.RMixIdeal.nD Cert.RMixIdeal.τ).loc Cert.RMixIdeal.main_v91) = v0 c
          ∧ r.2.mem ((c.tc : Thread Cert.RMixIdeal.nD Cert.RMixIdeal.τ).loc Cert.RMixIdeal.main_v92) = v1 c
          ∧ r.2.mem ((c.tc : Thread Cert.RMixIdeal.nD Cert.RMixIdeal.τ).loc Cert.RMixIdeal.main_arg0) = m' ((c.tc : Thread Cert.RMixIdeal.nD Cert.RMixIdeal.τ).loc Cert.RMixIdeal.main_arg0)
          ∧ r.2.mem ((c.tc : Thread Cert.RMixIdeal.nD Cert.RMixIdeal.τ).loc Cert.RMixIdeal.main_arg1) = m' ((c.tc : Thread Cert.RMixIdeal.nD Cert.RMixIdeal.τ).loc Cert.RMixIdeal.main_arg1)
          ∧ r.2.mem ((c.tc : Thread Cert.RMixIdeal.nD Cert.RMixIdeal.τ).loc Cert.RMixIdeal.main_arg2) = m' ((c.tc : Thread Cert.RMixIdeal.nD Cert.RMixIdeal.τ).loc Cert.RMixIdeal.main_arg2)
          ∧ r.2.mem ((c.tc : Thread Cert.RMixIdeal.nD Cert.RMixIdeal.τ).loc Cert.RMixIdeal.main_arg3) = m' ((c.tc : Thread Cert.RMixIdeal.nD Cert.RMixIdeal.τ).loc Cert.RMixIdeal.main_arg3)
          ∧ r.2.mem ((c.tc : Thread Cert.RMixIdeal.nD Cert.RMixIdeal.τ).loc Cert.RMixIdeal.main_arg4) = m' ((c.tc : Thread Cert.RMixIdeal.nD Cert.RMixIdeal.τ).loc Cert.RMixIdeal.main_arg4)
          ∧ r.2.mem ((c.tc : Thread Cert.RMixIdeal.nD Cert.RMixIdeal.τ).loc Cert.RMixIdeal.main_arg5) = m' ((c.tc : Thread Cert.RMixIdeal.nD Cert.RMixIdeal.τ).loc Cert.RMixIdeal.main_arg5))

def preserves_KUp_KUpIdeal : Prop :=
  True

def algebraic_KUpIdeal_RUpIdeal [hKUpIdeal : Cert.KUpIdeal.Facts] [hRUpIdeal : Cert.RUpIdeal.Facts] : Prop :=
  ∀ (m : (ℓ : Loc Cert.KUpIdeal.nD Cert.KUpIdeal.τ Cert.KUpIdeal.sig) → Buf (Elt Ideal) ℓ) (g : Dev Cert.KUpIdeal.nD → PrngReg)
    (m' : (ℓ : Loc Cert.RUpIdeal.nD Cert.RUpIdeal.τ Cert.RUpIdeal.sig) → Buf (Elt Ideal) ℓ) (g' : Dev Cert.RUpIdeal.nD → PrngReg), Pre_KUpIdeal m →
    (∀ c : Dev Cert.KUpIdeal.nD,
      m' ((c.tc : Thread Cert.RUpIdeal.nD Cert.RUpIdeal.τ).loc Cert.RUpIdeal.main_arg0) = m ((c.tc : Thread Cert.KUpIdeal.nD Cert.KUpIdeal.τ).loc Cert.KUpIdeal.main_arg0)
      ∧ m' ((c.tc : Thread Cert.RUpIdeal.nD Cert.RUpIdeal.τ).loc Cert.RUpIdeal.main_arg1) = m ((c.tc : Thread Cert.KUpIdeal.nD Cert.KUpIdeal.τ).loc Cert.KUpIdeal.main_arg1)
      ∧ m' ((c.tc : Thread Cert.RUpIdeal.nD Cert.RUpIdeal.τ).loc Cert.RUpIdeal.main_arg2) = m ((c.tc : Thread Cert.KUpIdeal.nD Cert.KUpIdeal.τ).loc Cert.KUpIdeal.main_arg2)
      ∧ m' ((c.tc : Thread Cert.RUpIdeal.nD Cert.RUpIdeal.τ).loc Cert.RUpIdeal.main_arg3) = m ((c.tc : Thread Cert.KUpIdeal.nD Cert.KUpIdeal.τ).loc Cert.KUpIdeal.main_arg3)) →
    ∃ (v0 : (c : Dev Cert.KUpIdeal.nD) → Buf (Elt Ideal) ((c.tc : Thread Cert.KUpIdeal.nD Cert.KUpIdeal.τ).loc Cert.KUpIdeal.main_v0_0)) (v1 : (c : Dev Cert.KUpIdeal.nD) → Buf (Elt Ideal) ((c.tc : Thread Cert.KUpIdeal.nD Cert.KUpIdeal.τ).loc Cert.KUpIdeal.main_v0_1)) (v2 : (c : Dev Cert.KUpIdeal.nD) → Buf (Elt Ideal) ((c.tc : Thread Cert.KUpIdeal.nD Cert.KUpIdeal.τ).loc Cert.KUpIdeal.main_v0_2)) (v3 : (c : Dev Cert.KUpIdeal.nD) → Buf (Elt Ideal) ((c.tc : Thread Cert.KUpIdeal.nD Cert.KUpIdeal.τ).loc Cert.KUpIdeal.main_v0_3)),
      θ_run (Cert.KUpIdeal.defs (F := Ideal)) (onTc (τ := Cert.KUpIdeal.τ) (Cert.KUpIdeal.main (F := Ideal))) ⟨m, fun _ => 0, g⟩ (fun r => ∀ c : Dev Cert.KUpIdeal.nD,
          r.2.mem ((c.tc : Thread Cert.KUpIdeal.nD Cert.KUpIdeal.τ).loc Cert.KUpIdeal.main_v0_0) = v0 c
          ∧ r.2.mem ((c.tc : Thread Cert.KUpIdeal.nD Cert.KUpIdeal.τ).loc Cert.KUpIdeal.main_v0_1) = v1 c
          ∧ r.2.mem ((c.tc : Thread Cert.KUpIdeal.nD Cert.KUpIdeal.τ).loc Cert.KUpIdeal.main_v0_2) = v2 c
          ∧ r.2.mem ((c.tc : Thread Cert.KUpIdeal.nD Cert.KUpIdeal.τ).loc Cert.KUpIdeal.main_v0_3) = v3 c
          ∧ r.2.mem ((c.tc : Thread Cert.KUpIdeal.nD Cert.KUpIdeal.τ).loc Cert.KUpIdeal.main_arg0) = m ((c.tc : Thread Cert.KUpIdeal.nD Cert.KUpIdeal.τ).loc Cert.KUpIdeal.main_arg0)
          ∧ r.2.mem ((c.tc : Thread Cert.KUpIdeal.nD Cert.KUpIdeal.τ).loc Cert.KUpIdeal.main_arg1) = m ((c.tc : Thread Cert.KUpIdeal.nD Cert.KUpIdeal.τ).loc Cert.KUpIdeal.main_arg1)
          ∧ r.2.mem ((c.tc : Thread Cert.KUpIdeal.nD Cert.KUpIdeal.τ).loc Cert.KUpIdeal.main_arg2) = m ((c.tc : Thread Cert.KUpIdeal.nD Cert.KUpIdeal.τ).loc Cert.KUpIdeal.main_arg2)
          ∧ r.2.mem ((c.tc : Thread Cert.KUpIdeal.nD Cert.KUpIdeal.τ).loc Cert.KUpIdeal.main_arg3) = m ((c.tc : Thread Cert.KUpIdeal.nD Cert.KUpIdeal.τ).loc Cert.KUpIdeal.main_arg3))
      ∧ θ_run (Cert.RUpIdeal.defs (F := Ideal)) (onTc (τ := Cert.RUpIdeal.τ) (Cert.RUpIdeal.main (F := Ideal))) ⟨m', fun _ => 0, g'⟩ (fun r => ∀ c : Dev Cert.RUpIdeal.nD,
          r.2.mem ((c.tc : Thread Cert.RUpIdeal.nD Cert.RUpIdeal.τ).loc Cert.RUpIdeal.main_v18) = v0 c
          ∧ r.2.mem ((c.tc : Thread Cert.RUpIdeal.nD Cert.RUpIdeal.τ).loc Cert.RUpIdeal.main_v19) = v1 c
          ∧ r.2.mem ((c.tc : Thread Cert.RUpIdeal.nD Cert.RUpIdeal.τ).loc Cert.RUpIdeal.main_v20) = v2 c
          ∧ r.2.mem ((c.tc : Thread Cert.RUpIdeal.nD Cert.RUpIdeal.τ).loc Cert.RUpIdeal.main_v21) = v3 c
          ∧ r.2.mem ((c.tc : Thread Cert.RUpIdeal.nD Cert.RUpIdeal.τ).loc Cert.RUpIdeal.main_arg0) = m' ((c.tc : Thread Cert.RUpIdeal.nD Cert.RUpIdeal.τ).loc Cert.RUpIdeal.main_arg0)
          ∧ r.2.mem ((c.tc : Thread Cert.RUpIdeal.nD Cert.RUpIdeal.τ).loc Cert.RUpIdeal.main_arg1) = m' ((c.tc : Thread Cert.RUpIdeal.nD Cert.RUpIdeal.τ).loc Cert.RUpIdeal.main_arg1)
          ∧ r.2.mem ((c.tc : Thread Cert.RUpIdeal.nD Cert.RUpIdeal.τ).loc Cert.RUpIdeal.main_arg2) = m' ((c.tc : Thread Cert.RUpIdeal.nD Cert.RUpIdeal.τ).loc Cert.RUpIdeal.main_arg2)
          ∧ r.2.mem ((c.tc : Thread Cert.RUpIdeal.nD Cert.RUpIdeal.τ).loc Cert.RUpIdeal.main_arg3) = m' ((c.tc : Thread Cert.RUpIdeal.nD Cert.RUpIdeal.τ).loc Cert.RUpIdeal.main_arg3))

def preserves_KDown_KDownIdeal : Prop :=
  True

def algebraic_KDownIdeal_RDownIdeal [hKDownIdeal : Cert.KDownIdeal.Facts] [hRDownIdeal : Cert.RDownIdeal.Facts] : Prop :=
  ∀ (m : (ℓ : Loc Cert.KDownIdeal.nD Cert.KDownIdeal.τ Cert.KDownIdeal.sig) → Buf (Elt Ideal) ℓ) (g : Dev Cert.KDownIdeal.nD → PrngReg)
    (m' : (ℓ : Loc Cert.RDownIdeal.nD Cert.RDownIdeal.τ Cert.RDownIdeal.sig) → Buf (Elt Ideal) ℓ) (g' : Dev Cert.RDownIdeal.nD → PrngReg), Pre_KDownIdeal m →
    (∀ c : Dev Cert.KDownIdeal.nD,
      m' ((c.tc : Thread Cert.RDownIdeal.nD Cert.RDownIdeal.τ).loc Cert.RDownIdeal.main_arg0) = m ((c.tc : Thread Cert.KDownIdeal.nD Cert.KDownIdeal.τ).loc Cert.KDownIdeal.main_arg0)
      ∧ m' ((c.tc : Thread Cert.RDownIdeal.nD Cert.RDownIdeal.τ).loc Cert.RDownIdeal.main_arg1) = m ((c.tc : Thread Cert.KDownIdeal.nD Cert.KDownIdeal.τ).loc Cert.KDownIdeal.main_arg1)
      ∧ m' ((c.tc : Thread Cert.RDownIdeal.nD Cert.RDownIdeal.τ).loc Cert.RDownIdeal.main_arg2) = m ((c.tc : Thread Cert.KDownIdeal.nD Cert.KDownIdeal.τ).loc Cert.KDownIdeal.main_arg2)
      ∧ m' ((c.tc : Thread Cert.RDownIdeal.nD Cert.RDownIdeal.τ).loc Cert.RDownIdeal.main_arg3) = m ((c.tc : Thread Cert.KDownIdeal.nD Cert.KDownIdeal.τ).loc Cert.KDownIdeal.main_arg3)) →
    ∃ (v0 : (c : Dev Cert.KDownIdeal.nD) → Buf (Elt Ideal) ((c.tc : Thread Cert.KDownIdeal.nD Cert.KDownIdeal.τ).loc Cert.KDownIdeal.main_v0_0)) (v1 : (c : Dev Cert.KDownIdeal.nD) → Buf (Elt Ideal) ((c.tc : Thread Cert.KDownIdeal.nD Cert.KDownIdeal.τ).loc Cert.KDownIdeal.main_v0_1)),
      θ_run (Cert.KDownIdeal.defs (F := Ideal)) (onTc (τ := Cert.KDownIdeal.τ) (Cert.KDownIdeal.main (F := Ideal))) ⟨m, fun _ => 0, g⟩ (fun r => ∀ c : Dev Cert.KDownIdeal.nD,
          r.2.mem ((c.tc : Thread Cert.KDownIdeal.nD Cert.KDownIdeal.τ).loc Cert.KDownIdeal.main_v0_0) = v0 c
          ∧ r.2.mem ((c.tc : Thread Cert.KDownIdeal.nD Cert.KDownIdeal.τ).loc Cert.KDownIdeal.main_v0_1) = v1 c
          ∧ r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
          ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
          ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
          ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v2) = v0 c
          ∧ r.2.mem ((c.tc : Thread Cert.RDownIdeal.nD Cert.RDownIdeal.τ).loc Cert.RDownIdeal.main_v17) = v1 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2)
          ∧ r.2.mem ((c.tc : Thread Cert.RDownIdeal.nD Cert.RDownIdeal.τ).loc Cert.RDownIdeal.main_arg3) = m' ((c.tc : Thread Cert.RDownIdeal.nD Cert.RDownIdeal.τ).loc Cert.RDownIdeal.main_arg3))

def preserves_KIn_KInIdeal : Prop :=
  True

def algebraic_KInIdeal_RInIdeal [hKInIdeal : Cert.KInIdeal.Facts] [hRInIdeal : Cert.RInIdeal.Facts] : Prop :=
  ∀ (m : (ℓ : Loc Cert.KInIdeal.nD Cert.KInIdeal.τ Cert.KInIdeal.sig) → Buf (Elt Ideal) ℓ) (g : Dev Cert.KInIdeal.nD → PrngReg)
    (m' : (ℓ : Loc Cert.RInIdeal.nD Cert.RInIdeal.τ Cert.RInIdeal.sig) → Buf (Elt Ideal) ℓ) (g' : Dev Cert.RInIdeal.nD → PrngReg), Pre_KInIdeal m →
    (∀ c : Dev Cert.KInIdeal.nD,
      m' ((c.tc : Thread Cert.RInIdeal.nD Cert.RInIdeal.τ).loc Cert.RInIdeal.main_arg0) = m ((c.tc : Thread Cert.KInIdeal.nD Cert.KInIdeal.τ).loc Cert.KInIdeal.main_arg0)
      ∧ m' ((c.tc : Thread Cert.RInIdeal.nD Cert.RInIdeal.τ).loc Cert.RInIdeal.main_arg1) = m ((c.tc : Thread Cert.KInIdeal.nD Cert.KInIdeal.τ).loc Cert.KInIdeal.main_arg1)
      ∧ m' ((c.tc : Thread Cert.RInIdeal.nD Cert.RInIdeal.τ).loc Cert.RInIdeal.main_arg2) = m ((c.tc : Thread Cert.KInIdeal.nD Cert.KInIdeal.τ).loc Cert.KInIdeal.main_arg2)) →
    ∃ (v0 : (c : Dev Cert.KInIdeal.nD) → Buf (Elt Ideal) ((c.tc : Thread Cert.KInIdeal.nD Cert.KInIdeal.τ).loc Cert.KInIdeal.main_v4_0)) (v1 : (c : Dev Cert.KInIdeal.nD) → Buf (Elt Ideal) ((c.tc : Thread Cert.KInIdeal.nD Cert.KInIdeal.τ).loc Cert.KInIdeal.main_v4_1)) (v2 : (c : Dev Cert.KInIdeal.nD) → Buf (Elt Ideal) ((c.tc : Thread Cert.KInIdeal.nD Cert.KInIdeal.τ).loc Cert.KInIdeal.main_v4_2)) (v3 : (c : Dev Cert.KInIdeal.nD) → Buf (Elt Ideal) ((c.tc : Thread Cert.KInIdeal.nD Cert.KInIdeal.τ).loc Cert.KInIdeal.main_v4_3)) (v4 : (c : Dev Cert.KInIdeal.nD) → Buf (Elt Ideal) ((c.tc : Thread Cert.KInIdeal.nD Cert.KInIdeal.τ).loc Cert.KInIdeal.main_v4_4)),
      θ_run (Cert.KInIdeal.defs (F := Ideal)) (onTc (τ := Cert.KInIdeal.τ) (Cert.KInIdeal.main (F := Ideal))) ⟨m, fun _ => 0, g⟩ (fun r => ∀ c : Dev Cert.KInIdeal.nD,
          r.2.mem ((c.tc : Thread Cert.KInIdeal.nD Cert.KInIdeal.τ).loc Cert.KInIdeal.main_v4_0) = v0 c
          ∧ r.2.mem ((c.tc : Thread Cert.KInIdeal.nD Cert.KInIdeal.τ).loc Cert.KInIdeal.main_v4_1) = v1 c
          ∧ r.2.mem ((c.tc : Thread Cert.KInIdeal.nD Cert.KInIdeal.τ).loc Cert.KInIdeal.main_v4_2) = v2 c
          ∧ r.2.mem ((c.tc : Thread Cert.KInIdeal.nD Cert.KInIdeal.τ).loc Cert.KInIdeal.main_v4_3) = v3 c
          ∧ r.2.mem ((c.tc : Thread Cert.KInIdeal.nD Cert.KInIdeal.τ).loc Cert.KInIdeal.main_v4_4) = v4 c
          ∧ r.2.mem ((c.tc : Thread Cert.KInIdeal.nD Cert.KInIdeal.τ).loc Cert.KInIdeal.main_arg0) = m ((c.tc : Thread Cert.KInIdeal.nD Cert.KInIdeal.τ).loc Cert.KInIdeal.main_arg0)
          ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
          ∧ r.2.mem ((c.tc : Thread Cert.KInIdeal.nD Cert.KInIdeal.τ).loc Cert.KInIdeal.main_arg2) = m ((c.tc : Thread Cert.KInIdeal.nD Cert.KInIdeal.τ).loc Cert.KInIdeal.main_arg2))
      ∧ θ_run (Cert.RInIdeal.defs (F := Ideal)) (onTc (τ := Cert.RInIdeal.τ) (Cert.RInIdeal.main (F := Ideal))) ⟨m', fun _ => 0, g'⟩ (fun r => ∀ c : Dev Cert.RInIdeal.nD,
          r.2.mem ((c.tc : Thread Cert.RInIdeal.nD Cert.RInIdeal.τ).loc Cert.RInIdeal.main_v12) = v0 c
          ∧ r.2.mem ((c.tc : Thread Cert.RInIdeal.nD Cert.RInIdeal.τ).loc Cert.RInIdeal.main_v16) = v1 c
          ∧ r.2.mem ((c.tc : Thread Cert.RInIdeal.nD Cert.RInIdeal.τ).loc Cert.RInIdeal.main_v17) = v2 c
          ∧ r.2.mem ((c.tc : Thread Cert.RInIdeal.nD Cert.RInIdeal.τ).loc Cert.RInIdeal.main_v18) = v3 c
          ∧ r.2.mem ((c.tc : Thread Cert.RInIdeal.nD Cert.RInIdeal.τ).loc Cert.RInIdeal.main_v19) = v4 c
          ∧ r.2.mem ((c.tc : Thread Cert.RInIdeal.nD Cert.RInIdeal.τ).loc Cert.RInIdeal.main_arg0) = m' ((c.tc : Thread Cert.RInIdeal.nD Cert.RInIdeal.τ).loc Cert.RInIdeal.main_arg0)
          ∧ r.2.mem ((c.tc : Thread Cert.RInIdeal.nD Cert.RInIdeal.τ).loc Cert.RInIdeal.main_arg1) = m' ((c.tc : Thread Cert.RInIdeal.nD Cert.RInIdeal.τ).loc Cert.RInIdeal.main_arg1)
          ∧ r.2.mem ((c.tc : Thread Cert.RInIdeal.nD Cert.RInIdeal.τ).loc Cert.RInIdeal.main_arg2) = m' ((c.tc : Thread Cert.RInIdeal.nD Cert.RInIdeal.τ).loc Cert.RInIdeal.main_arg2))

def preserves_KProj_KProjIdeal : Prop :=
  True

def algebraic_KProjIdeal_RProjIdeal [hKProjIdeal : Cert.KProjIdeal.Facts] [hRProjIdeal : Cert.RProjIdeal.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.RProjIdeal.nD Cert.RProjIdeal.τ Cert.RProjIdeal.sig) → Buf (Elt Ideal) ℓ) (g' : Dev Cert.RProjIdeal.nD → PrngReg), Pre_KProjIdeal m →
    (∀ c : Dev Cert.KProjIdeal.nD,
      m' ((c.tc : Thread Cert.RProjIdeal.nD Cert.RProjIdeal.τ).loc Cert.RProjIdeal.main_arg0) = m ((c.tc : Thread Cert.KProjIdeal.nD Cert.KProjIdeal.τ).loc Cert.KProjIdeal.main_arg0)
      ∧ m' ((c.tc : Thread Cert.RProjIdeal.nD Cert.RProjIdeal.τ).loc Cert.RProjIdeal.main_arg1) = m ((c.tc : Thread Cert.KProjIdeal.nD Cert.KProjIdeal.τ).loc Cert.KProjIdeal.main_arg1)
      ∧ m' ((c.tc : Thread Cert.RProjIdeal.nD Cert.RProjIdeal.τ).loc Cert.RProjIdeal.main_arg2) = m ((c.tc : Thread Cert.KProjIdeal.nD Cert.KProjIdeal.τ).loc Cert.KProjIdeal.main_arg2)
      ∧ m' ((c.tc : Thread Cert.RProjIdeal.nD Cert.RProjIdeal.τ).loc Cert.RProjIdeal.main_arg3) = m ((c.tc : Thread Cert.KProjIdeal.nD Cert.KProjIdeal.τ).loc Cert.KProjIdeal.main_arg3)
      ∧ m' ((c.tc : Thread Cert.RProjIdeal.nD Cert.RProjIdeal.τ).loc Cert.RProjIdeal.main_arg4) = m ((c.tc : Thread Cert.KProjIdeal.nD Cert.KProjIdeal.τ).loc Cert.KProjIdeal.main_arg4)
      ∧ m' ((c.tc : Thread Cert.RProjIdeal.nD Cert.RProjIdeal.τ).loc Cert.RProjIdeal.main_arg5) = m ((c.tc : Thread Cert.KProjIdeal.nD Cert.KProjIdeal.τ).loc Cert.KProjIdeal.main_arg5)
      ∧ m' ((c.tc : Thread Cert.RProjIdeal.nD Cert.RProjIdeal.τ).loc Cert.RProjIdeal.main_arg6) = m ((c.tc : Thread Cert.KProjIdeal.nD Cert.KProjIdeal.τ).loc Cert.KProjIdeal.main_arg6)) →
    ∃ (v0 : (c : Dev Cert.KProjIdeal.nD) → Buf (Elt Ideal) ((c.tc : Thread Cert.KProjIdeal.nD Cert.KProjIdeal.τ).loc Cert.KProjIdeal.main_v0_0)) (v1 : (c : Dev Cert.KProjIdeal.nD) → Buf (Elt Ideal) ((c.tc : Thread Cert.KProjIdeal.nD Cert.KProjIdeal.τ).loc Cert.KProjIdeal.main_v0_1)) (v2 : (c : Dev Cert.KProjIdeal.nD) → Buf (Elt Ideal) ((c.tc : Thread Cert.KProjIdeal.nD Cert.KProjIdeal.τ).loc Cert.KProjIdeal.main_v0_2)) (v3 : (c : Dev Cert.KProjIdeal.nD) → Buf (Elt Ideal) ((c.tc : Thread Cert.KProjIdeal.nD Cert.KProjIdeal.τ).loc Cert.KProjIdeal.main_v0_3)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v0_0) = v0 c
          ∧ r.2.mem ((c.tc : Thread Cert.KProjIdeal.nD Cert.KProjIdeal.τ).loc Cert.KProjIdeal.main_v0_1) = v1 c
          ∧ r.2.mem ((c.tc : Thread Cert.KProjIdeal.nD Cert.KProjIdeal.τ).loc Cert.KProjIdeal.main_v0_2) = v2 c
          ∧ r.2.mem ((c.tc : Thread Cert.KProjIdeal.nD Cert.KProjIdeal.τ).loc Cert.KProjIdeal.main_v0_3) = v3 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
          ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2)
          ∧ r.2.mem ((c.tc : Thread Cert.KProjIdeal.nD Cert.KProjIdeal.τ).loc Cert.KProjIdeal.main_arg3) = m ((c.tc : Thread Cert.KProjIdeal.nD Cert.KProjIdeal.τ).loc Cert.KProjIdeal.main_arg3)
          ∧ r.2.mem ((c.tc : Thread Cert.KProjIdeal.nD Cert.KProjIdeal.τ).loc Cert.KProjIdeal.main_arg4) = m ((c.tc : Thread Cert.KProjIdeal.nD Cert.KProjIdeal.τ).loc Cert.KProjIdeal.main_arg4)
          ∧ r.2.mem ((c.tc : Thread Cert.KProjIdeal.nD Cert.KProjIdeal.τ).loc Cert.KProjIdeal.main_arg5) = m ((c.tc : Thread Cert.KProjIdeal.nD Cert.KProjIdeal.τ).loc Cert.KProjIdeal.main_arg5)
          ∧ r.2.mem ((c.tc : Thread Cert.KProjIdeal.nD Cert.KProjIdeal.τ).loc Cert.KProjIdeal.main_arg6) = m ((c.tc : Thread Cert.KProjIdeal.nD Cert.KProjIdeal.τ).loc Cert.KProjIdeal.main_arg6))
      ∧ θ_run (Cert.RProjIdeal.defs (F := Ideal)) (onTc (τ := Cert.RProjIdeal.τ) (Cert.RProjIdeal.main (F := Ideal))) ⟨m', fun _ => 0, g'⟩ (fun r => ∀ c : Dev Cert.RProjIdeal.nD,
          r.2.mem ((c.tc : Thread Cert.RProjIdeal.nD Cert.RProjIdeal.τ).loc Cert.RProjIdeal.main_v28) = v0 c
          ∧ r.2.mem ((c.tc : Thread Cert.RProjIdeal.nD Cert.RProjIdeal.τ).loc Cert.RProjIdeal.main_v29) = v1 c
          ∧ r.2.mem ((c.tc : Thread Cert.RProjIdeal.nD Cert.RProjIdeal.τ).loc Cert.RProjIdeal.main_v30) = v2 c
          ∧ r.2.mem ((c.tc : Thread Cert.RProjIdeal.nD Cert.RProjIdeal.τ).loc Cert.RProjIdeal.main_v31) = v3 c
          ∧ r.2.mem ((c.tc : Thread Cert.RProjIdeal.nD Cert.RProjIdeal.τ).loc Cert.RProjIdeal.main_arg0) = m' ((c.tc : Thread Cert.RProjIdeal.nD Cert.RProjIdeal.τ).loc Cert.RProjIdeal.main_arg0)
          ∧ r.2.mem ((c.tc : Thread Cert.RProjIdeal.nD Cert.RProjIdeal.τ).loc Cert.RProjIdeal.main_arg1) = m' ((c.tc : Thread Cert.RProjIdeal.nD Cert.RProjIdeal.τ).loc Cert.RProjIdeal.main_arg1)
          ∧ r.2.mem ((c.tc : Thread Cert.RProjIdeal.nD Cert.RProjIdeal.τ).loc Cert.RProjIdeal.main_arg2) = m' ((c.tc : Thread Cert.RProjIdeal.nD Cert.RProjIdeal.τ).loc Cert.RProjIdeal.main_arg2)
          ∧ r.2.mem ((c.tc : Thread Cert.RProjIdeal.nD Cert.RProjIdeal.τ).loc Cert.RProjIdeal.main_arg3) = m' ((c.tc : Thread Cert.RProjIdeal.nD Cert.RProjIdeal.τ).loc Cert.RProjIdeal.main_arg3)
          ∧ r.2.mem ((c.tc : Thread Cert.RProjIdeal.nD Cert.RProjIdeal.τ).loc Cert.RProjIdeal.main_arg4) = m' ((c.tc : Thread Cert.RProjIdeal.nD Cert.RProjIdeal.τ).loc Cert.RProjIdeal.main_arg4)
          ∧ r.2.mem ((c.tc : Thread Cert.RProjIdeal.nD Cert.RProjIdeal.τ).loc Cert.RProjIdeal.main_arg5) = m' ((c.tc : Thread Cert.RProjIdeal.nD Cert.RProjIdeal.τ).loc Cert.RProjIdeal.main_arg5)
          ∧ r.2.mem ((c.tc : Thread Cert.RProjIdeal.nD Cert.RProjIdeal.τ).loc Cert.RProjIdeal.main_arg6) = m' ((c.tc : Thread Cert.RProjIdeal.nD Cert.RProjIdeal.τ).loc Cert.RProjIdeal.main_arg6))

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)
      ∧ m' ((c.tc : Thread Cert.ROutIdeal.nD Cert.ROutIdeal.τ).loc Cert.ROutIdeal.main_arg2) = m ((c.tc : Thread Cert.KOutIdeal.nD Cert.KOutIdeal.τ).loc Cert.KOutIdeal.main_arg2)
      ∧ m' ((c.tc : Thread Cert.ROutIdeal.nD Cert.ROutIdeal.τ).loc Cert.ROutIdeal.main_arg3) = m ((c.tc : Thread Cert.KOutIdeal.nD Cert.KOutIdeal.τ).loc Cert.KOutIdeal.main_arg3)) →
    ∃ (v0 : (c : Dev Cert.KOutIdeal.nD) → Buf (Elt Ideal) ((c.tc : Thread Cert.KOutIdeal.nD Cert.KOutIdeal.τ).loc Cert.KOutIdeal.main_v0_0)) (v1 : (c : Dev Cert.KOutIdeal.nD) → Buf (Elt Ideal) ((c.tc : Thread Cert.KOutIdeal.nD Cert.KOutIdeal.τ).loc Cert.KOutIdeal.main_v0_1)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v0_0) = v0 c
          ∧ r.2.mem ((c.tc : Thread Cert.KOutIdeal.nD Cert.KOutIdeal.τ).loc Cert.KOutIdeal.main_v0_1) = v1 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
          ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
          ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v2) = v0 c
          ∧ r.2.mem ((c.tc : Thread Cert.ROutIdeal.nD Cert.ROutIdeal.τ).loc Cert.ROutIdeal.main_v15) = v1 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1)
          ∧ r.2.mem ((c.tc : Thread Cert.ROutIdeal.nD Cert.ROutIdeal.τ).loc Cert.ROutIdeal.main_arg2) = m' ((c.tc : Thread Cert.ROutIdeal.nD Cert.ROutIdeal.τ).loc Cert.ROutIdeal.main_arg2)
          ∧ r.2.mem ((c.tc : Thread Cert.ROutIdeal.nD Cert.ROutIdeal.τ).loc Cert.ROutIdeal.main_arg3) = m' ((c.tc : Thread Cert.ROutIdeal.nD Cert.ROutIdeal.τ).loc Cert.ROutIdeal.main_arg3))

def preserves_KLruA_KLruAIdeal : Prop :=
  True

def algebraic_KLruAIdeal_RLruAIdeal_pre_wide_lrua [hKLruAIdeal : Cert.KLruAIdeal.Facts] [hRLruAIdeal : Cert.RLruAIdeal.Facts] [hPre_wide_lrua : Cert.Pre_wide_lrua.Facts] : Prop :=
  ∀ (m : (ℓ : Loc Cert.KLruAIdeal.nD Cert.KLruAIdeal.τ Cert.KLruAIdeal.sig) → Buf (Elt Ideal) ℓ) (g : Dev Cert.KLruAIdeal.nD → PrngReg)
    (m' : (ℓ : Loc Cert.RLruAIdeal.nD Cert.RLruAIdeal.τ Cert.RLruAIdeal.sig) → Buf (Elt Ideal) ℓ) (g' : Dev Cert.RLruAIdeal.nD → PrngReg), Pre_KLruAIdeal_wide_lrua m →
    (∀ c : Dev Cert.KLruAIdeal.nD,
      m' ((c.tc : Thread Cert.RLruAIdeal.nD Cert.RLruAIdeal.τ).loc Cert.RLruAIdeal.main_arg0) = m ((c.tc : Thread Cert.KLruAIdeal.nD Cert.KLruAIdeal.τ).loc Cert.KLruAIdeal.main_arg0)
      ∧ m' ((c.tc : Thread Cert.RLruAIdeal.nD Cert.RLruAIdeal.τ).loc Cert.RLruAIdeal.main_arg1) = m ((c.tc : Thread Cert.KLruAIdeal.nD Cert.KLruAIdeal.τ).loc Cert.KLruAIdeal.main_arg1)
      ∧ m' ((c.tc : Thread Cert.RLruAIdeal.nD Cert.RLruAIdeal.τ).loc Cert.RLruAIdeal.main_arg2) = m ((c.tc : Thread Cert.KLruAIdeal.nD Cert.KLruAIdeal.τ).loc Cert.KLruAIdeal.main_arg2)
      ∧ m' ((c.tc : Thread Cert.RLruAIdeal.nD Cert.RLruAIdeal.τ).loc Cert.RLruAIdeal.main_arg3) = m ((c.tc : Thread Cert.KLruAIdeal.nD Cert.KLruAIdeal.τ).loc Cert.KLruAIdeal.main_arg3)
      ∧ m' ((c.tc : Thread Cert.RLruAIdeal.nD Cert.RLruAIdeal.τ).loc Cert.RLruAIdeal.main_arg4) = m ((c.tc : Thread Cert.KLruAIdeal.nD Cert.KLruAIdeal.τ).loc Cert.KLruAIdeal.main_arg4)
      ∧ m' ((c.tc : Thread Cert.RLruAIdeal.nD Cert.RLruAIdeal.τ).loc Cert.RLruAIdeal.main_arg5) = m ((c.tc : Thread Cert.KLruAIdeal.nD Cert.KLruAIdeal.τ).loc Cert.KLruAIdeal.main_arg5)
      ∧ m' ((c.tc : Thread Cert.RLruAIdeal.nD Cert.RLruAIdeal.τ).loc Cert.RLruAIdeal.main_arg6) = m ((c.tc : Thread Cert.KLruAIdeal.nD Cert.KLruAIdeal.τ).loc Cert.KLruAIdeal.main_arg6)
      ∧ m' ((c.tc : Thread Cert.RLruAIdeal.nD Cert.RLruAIdeal.τ).loc Cert.RLruAIdeal.main_arg7) = m ((c.tc : Thread Cert.KLruAIdeal.nD Cert.KLruAIdeal.τ).loc Cert.KLruAIdeal.main_arg7)) →
    ∃ (v0 : (c : Dev Cert.KLruAIdeal.nD) → Buf (Elt Ideal) ((c.tc : Thread Cert.KLruAIdeal.nD Cert.KLruAIdeal.τ).loc Cert.KLruAIdeal.main_v0)),
      θ_run (Cert.KLruAIdeal.defs (F := Ideal)) (onTc (τ := Cert.KLruAIdeal.τ) (Cert.KLruAIdeal.main (F := Ideal))) ⟨m, fun _ => 0, g⟩ (fun r => ∀ c : Dev Cert.KLruAIdeal.nD,
          r.2.mem ((c.tc : Thread Cert.KLruAIdeal.nD Cert.KLruAIdeal.τ).loc Cert.KLruAIdeal.main_v0) = v0 c
          ∧ r.2.mem ((c.tc : Thread Cert.KLruAIdeal.nD Cert.KLruAIdeal.τ).loc Cert.KLruAIdeal.main_arg0) = m ((c.tc : Thread Cert.KLruAIdeal.nD Cert.KLruAIdeal.τ).loc Cert.KLruAIdeal.main_arg0)
          ∧ r.2.mem ((c.tc : Thread Cert.KLruAIdeal.nD Cert.KLruAIdeal.τ).loc Cert.KLruAIdeal.main_arg1) = m ((c.tc : Thread Cert.KLruAIdeal.nD Cert.KLruAIdeal.τ).loc Cert.KLruAIdeal.main_arg1)
          ∧ r.2.mem ((c.tc : Thread Cert.KLruAIdeal.nD Cert.KLruAIdeal.τ).loc Cert.KLruAIdeal.main_arg2) = m ((c.tc : Thread Cert.KLruAIdeal.nD Cert.KLruAIdeal.τ).loc Cert.KLruAIdeal.main_arg2)
          ∧ r.2.mem ((c.tc : Thread Cert.KLruAIdeal.nD Cert.KLruAIdeal.τ).loc Cert.KLruAIdeal.main_arg3) = m ((c.tc : Thread Cert.KLruAIdeal.nD Cert.KLruAIdeal.τ).loc Cert.KLruAIdeal.main_arg3)
          ∧ r.2.mem ((c.tc : Thread Cert.KLruAIdeal.nD Cert.KLruAIdeal.τ).loc Cert.KLruAIdeal.main_arg4) = m ((c.tc : Thread Cert.KLruAIdeal.nD Cert.KLruAIdeal.τ).loc Cert.KLruAIdeal.main_arg4)
          ∧ r.2.mem ((c.tc : Thread Cert.KLruAIdeal.nD Cert.KLruAIdeal.τ).loc Cert.KLruAIdeal.main_arg5) = m ((c.tc : Thread Cert.KLruAIdeal.nD Cert.KLruAIdeal.τ).loc Cert.KLruAIdeal.main_arg5)
          ∧ r.2.mem ((c.tc : Thread Cert.KLruAIdeal.nD Cert.KLruAIdeal.τ).loc Cert.KLruAIdeal.main_arg6) = m ((c.tc : Thread Cert.KLruAIdeal.nD Cert.KLruAIdeal.τ).loc Cert.KLruAIdeal.main_arg6)
          ∧ r.2.mem ((c.tc : Thread Cert.KLruAIdeal.nD Cert.KLruAIdeal.τ).loc Cert.KLruAIdeal.main_arg7) = m ((c.tc : Thread Cert.KLruAIdeal.nD Cert.KLruAIdeal.τ).loc Cert.KLruAIdeal.main_arg7))
      ∧ θ_run (Cert.RLruAIdeal.defs (F := Ideal)) (onTc (τ := Cert.RLruAIdeal.τ) (Cert.RLruAIdeal.main (F := Ideal))) ⟨m', fun _ => 0, g'⟩ (fun r => ∀ c : Dev Cert.RLruAIdeal.nD,
          r.2.mem ((c.tc : Thread Cert.RLruAIdeal.nD Cert.RLruAIdeal.τ).loc Cert.RLruAIdeal.main_v74_4) = v0 c
          ∧ r.2.mem ((c.tc : Thread Cert.RLruAIdeal.nD Cert.RLruAIdeal.τ).loc Cert.RLruAIdeal.main_arg0) = m' ((c.tc : Thread Cert.RLruAIdeal.nD Cert.RLruAIdeal.τ).loc Cert.RLruAIdeal.main_arg0)
          ∧ r.2.mem ((c.tc : Thread Cert.RLruAIdeal.nD Cert.RLruAIdeal.τ).loc Cert.RLruAIdeal.main_arg1) = m' ((c.tc : Thread Cert.RLruAIdeal.nD Cert.RLruAIdeal.τ).loc Cert.RLruAIdeal.main_arg1)
          ∧ r.2.mem ((c.tc : Thread Cert.RLruAIdeal.nD Cert.RLruAIdeal.τ).loc Cert.RLruAIdeal.main_arg2) = m' ((c.tc : Thread Cert.RLruAIdeal.nD Cert.RLruAIdeal.τ).loc Cert.RLruAIdeal.main_arg2)
          ∧ r.2.mem ((c.tc : Thread Cert.RLruAIdeal.nD Cert.RLruAIdeal.τ).loc Cert.RLruAIdeal.main_arg3) = m' ((c.tc : Thread Cert.RLruAIdeal.nD Cert.RLruAIdeal.τ).loc Cert.RLruAIdeal.main_arg3)
          ∧ r.2.mem ((c.tc : Thread Cert.RLruAIdeal.nD Cert.RLruAIdeal.τ).loc Cert.RLruAIdeal.main_arg4) = m' ((c.tc : Thread Cert.RLruAIdeal.nD Cert.RLruAIdeal.τ).loc Cert.RLruAIdeal.main_arg4)
          ∧ r.2.mem ((c.tc : Thread Cert.RLruAIdeal.nD Cert.RLruAIdeal.τ).loc Cert.RLruAIdeal.main_arg5) = m' ((c.tc : Thread Cert.RLruAIdeal.nD Cert.RLruAIdeal.τ).loc Cert.RLruAIdeal.main_arg5)
          ∧ r.2.mem ((c.tc : Thread Cert.RLruAIdeal.nD Cert.RLruAIdeal.τ).loc Cert.RLruAIdeal.main_arg6) = m' ((c.tc : Thread Cert.RLruAIdeal.nD Cert.RLruAIdeal.τ).loc Cert.RLruAIdeal.main_arg6)
          ∧ r.2.mem ((c.tc : Thread Cert.RLruAIdeal.nD Cert.RLruAIdeal.τ).loc Cert.RLruAIdeal.main_arg7) = m' ((c.tc : Thread Cert.RLruAIdeal.nD Cert.RLruAIdeal.τ).loc Cert.RLruAIdeal.main_arg7))

def preserves_KLruD_KLruDIdeal : Prop :=
  IdealRules.named_const.Statement Cert.KLruDIdeal.κ "gelu_kc" .f32 0x3D122279#32 ((80338380498831 / 2251799813685248 : ℝ) : EReal)

def algebraic_KLruDIdeal_RLruDIdeal_pre_wide_lrud [hKLruDIdeal : Cert.KLruDIdeal.Facts] [hRLruDIdeal : Cert.RLruDIdeal.Facts] [hPre_wide_lrud : Cert.Pre_wide_lrud.Facts] : Prop :=
  ∀ (m : (ℓ : Loc Cert.KLruDIdeal.nD Cert.KLruDIdeal.τ Cert.KLruDIdeal.sig) → Buf (Elt Ideal) ℓ) (g : Dev Cert.KLruDIdeal.nD → PrngReg)
    (m' : (ℓ : Loc Cert.RLruDIdeal.nD Cert.RLruDIdeal.τ Cert.RLruDIdeal.sig) → Buf (Elt Ideal) ℓ) (g' : Dev Cert.RLruDIdeal.nD → PrngReg), Pre_KLruDIdeal_wide_lrud m →
    (∀ c : Dev Cert.KLruDIdeal.nD,
      m' ((c.tc : Thread Cert.RLruDIdeal.nD Cert.RLruDIdeal.τ).loc Cert.RLruDIdeal.main_arg0) = m ((c.tc : Thread Cert.KLruDIdeal.nD Cert.KLruDIdeal.τ).loc Cert.KLruDIdeal.main_arg0)
      ∧ m' ((c.tc : Thread Cert.RLruDIdeal.nD Cert.RLruDIdeal.τ).loc Cert.RLruDIdeal.main_arg1) = m ((c.tc : Thread Cert.KLruDIdeal.nD Cert.KLruDIdeal.τ).loc Cert.KLruDIdeal.main_arg1)
      ∧ m' ((c.tc : Thread Cert.RLruDIdeal.nD Cert.RLruDIdeal.τ).loc Cert.RLruDIdeal.main_arg2) = m ((c.tc : Thread Cert.KLruDIdeal.nD Cert.KLruDIdeal.τ).loc Cert.KLruDIdeal.main_arg2)
      ∧ m' ((c.tc : Thread Cert.RLruDIdeal.nD Cert.RLruDIdeal.τ).loc Cert.RLruDIdeal.main_arg3) = m ((c.tc : Thread Cert.KLruDIdeal.nD Cert.KLruDIdeal.τ).loc Cert.KLruDIdeal.main_arg3)
      ∧ m' ((c.tc : Thread Cert.RLruDIdeal.nD Cert.RLruDIdeal.τ).loc Cert.RLruDIdeal.main_arg4) = m ((c.tc : Thread Cert.KLruDIdeal.nD Cert.KLruDIdeal.τ).loc Cert.KLruDIdeal.main_arg4)
      ∧ m' ((c.tc : Thread Cert.RLruDIdeal.nD Cert.RLruDIdeal.τ).loc Cert.RLruDIdeal.main_arg5) = m ((c.tc : Thread Cert.KLruDIdeal.nD Cert.KLruDIdeal.τ).loc Cert.KLruDIdeal.main_arg5)
      ∧ m' ((c.tc : Thread Cert.RLruDIdeal.nD Cert.RLruDIdeal.τ).loc Cert.RLruDIdeal.main_arg6) = m ((c.tc : Thread Cert.KLruDIdeal.nD Cert.KLruDIdeal.τ).loc Cert.KLruDIdeal.main_arg6)
      ∧ m' ((c.tc : Thread Cert.RLruDIdeal.nD Cert.RLruDIdeal.τ).loc Cert.RLruDIdeal.main_arg7) = m ((c.tc : Thread Cert.KLruDIdeal.nD Cert.KLruDIdeal.τ).loc Cert.KLruDIdeal.main_arg7)
      ∧ m' ((c.tc : Thread Cert.RLruDIdeal.nD Cert.RLruDIdeal.τ).loc Cert.RLruDIdeal.main_arg8) = m ((c.tc : Thread Cert.KLruDIdeal.nD Cert.KLruDIdeal.τ).loc Cert.KLruDIdeal.main_arg8)
      ∧ m' ((c.tc : Thread Cert.RLruDIdeal.nD Cert.RLruDIdeal.τ).loc Cert.RLruDIdeal.main_arg9) = m ((c.tc : Thread Cert.KLruDIdeal.nD Cert.KLruDIdeal.τ).loc Cert.KLruDIdeal.main_arg9)) →
    ∃ (v0 : (c : Dev Cert.KLruDIdeal.nD) → Buf (Elt Ideal) ((c.tc : Thread Cert.KLruDIdeal.nD Cert.KLruDIdeal.τ).loc Cert.KLruDIdeal.main_v0_0)) (v1 : (c : Dev Cert.KLruDIdeal.nD) → Buf (Elt Ideal) ((c.tc : Thread Cert.KLruDIdeal.nD Cert.KLruDIdeal.τ).loc Cert.KLruDIdeal.main_v0_1)),
      θ_run (Cert.KLruDIdeal.defs (F := Ideal)) (onTc (τ := Cert.KLruDIdeal.τ) (Cert.KLruDIdeal.main (F := Ideal))) ⟨m, fun _ => 0, g⟩ (fun r => ∀ c : Dev Cert.KLruDIdeal.nD,
          r.2.mem ((c.tc : Thread Cert.KLruDIdeal.nD Cert.KLruDIdeal.τ).loc Cert.KLruDIdeal.main_v0_0) = v0 c
          ∧ r.2.mem ((c.tc : Thread Cert.KLruDIdeal.nD Cert.KLruDIdeal.τ).loc Cert.KLruDIdeal.main_v0_1) = v1 c
          ∧ r.2.mem ((c.tc : Thread Cert.KLruDIdeal.nD Cert.KLruDIdeal.τ).loc Cert.KLruDIdeal.main_arg0) = m ((c.tc : Thread Cert.KLruDIdeal.nD Cert.KLruDIdeal.τ).loc Cert.KLruDIdeal.main_arg0)
          ∧ r.2.mem ((c.tc : Thread Cert.KLruDIdeal.nD Cert.KLruDIdeal.τ).loc Cert.KLruDIdeal.main_arg1) = m ((c.tc : Thread Cert.KLruDIdeal.nD Cert.KLruDIdeal.τ).loc Cert.KLruDIdeal.main_arg1)
          ∧ r.2.mem ((c.tc : Thread Cert.KLruDIdeal.nD Cert.KLruDIdeal.τ).loc Cert.KLruDIdeal.main_arg2) = m ((c.tc : Thread Cert.KLruDIdeal.nD Cert.KLruDIdeal.τ).loc Cert.KLruDIdeal.main_arg2)
          ∧ r.2.mem ((c.tc : Thread Cert.KLruDIdeal.nD Cert.KLruDIdeal.τ).loc Cert.KLruDIdeal.main_arg3) = m ((c.tc : Thread Cert.KLruDIdeal.nD Cert.KLruDIdeal.τ).loc Cert.KLruDIdeal.main_arg3)
          ∧ r.2.mem ((c.tc : Thread Cert.KLruDIdeal.nD Cert.KLruDIdeal.τ).loc Cert.KLruDIdeal.main_arg4) = m ((c.tc : Thread Cert.KLruDIdeal.nD Cert.KLruDIdeal.τ).loc Cert.KLruDIdeal.main_arg4)
          ∧ r.2.mem ((c.tc : Thread Cert.KLruDIdeal.nD Cert.KLruDIdeal.τ).loc Cert.KLruDIdeal.main_arg5) = m ((c.tc : Thread Cert.KLruDIdeal.nD Cert.KLruDIdeal.τ).loc Cert.KLruDIdeal.main_arg5)
          ∧ r.2.mem ((c.tc : Thread Cert.KLruDIdeal.nD Cert.KLruDIdeal.τ).loc Cert.KLruDIdeal.main_arg6) = m ((c.tc : Thread Cert.KLruDIdeal.nD Cert.KLruDIdeal.τ).loc Cert.KLruDIdeal.main_arg6)
          ∧ r.2.mem ((c.tc : Thread Cert.KLruDIdeal.nD Cert.KLruDIdeal.τ).loc Cert.KLruDIdeal.main_arg7) = m ((c.tc : Thread Cert.KLruDIdeal.nD Cert.KLruDIdeal.τ).loc Cert.KLruDIdeal.main_arg7)
          ∧ r.2.mem ((c.tc : Thread Cert.KLruDIdeal.nD Cert.KLruDIdeal.τ).loc Cert.KLruDIdeal.main_arg8) = m ((c.tc : Thread Cert.KLruDIdeal.nD Cert.KLruDIdeal.τ).loc Cert.KLruDIdeal.main_arg8)
          ∧ r.2.mem ((c.tc : Thread Cert.KLruDIdeal.nD Cert.KLruDIdeal.τ).loc Cert.KLruDIdeal.main_arg9) = m ((c.tc : Thread Cert.KLruDIdeal.nD Cert.KLruDIdeal.τ).loc Cert.KLruDIdeal.main_arg9))
      ∧ θ_run (Cert.RLruDIdeal.defs (F := Ideal)) (onTc (τ := Cert.RLruDIdeal.τ) (Cert.RLruDIdeal.main (F := Ideal))) ⟨m', fun _ => 0, g'⟩ (fun r => ∀ c : Dev Cert.RLruDIdeal.nD,
          r.2.mem ((c.tc : Thread Cert.RLruDIdeal.nD Cert.RLruDIdeal.τ).loc Cert.RLruDIdeal.main_v74_4) = v0 c
          ∧ r.2.mem ((c.tc : Thread Cert.RLruDIdeal.nD Cert.RLruDIdeal.τ).loc Cert.RLruDIdeal.main_v91) = v1 c
          ∧ r.2.mem ((c.tc : Thread Cert.RLruDIdeal.nD Cert.RLruDIdeal.τ).loc Cert.RLruDIdeal.main_arg0) = m' ((c.tc : Thread Cert.RLruDIdeal.nD Cert.RLruDIdeal.τ).loc Cert.RLruDIdeal.main_arg0)
          ∧ r.2.mem ((c.tc : Thread Cert.RLruDIdeal.nD Cert.RLruDIdeal.τ).loc Cert.RLruDIdeal.main_arg1) = m' ((c.tc : Thread Cert.RLruDIdeal.nD Cert.RLruDIdeal.τ).loc Cert.RLruDIdeal.main_arg1)
          ∧ r.2.mem ((c.tc : Thread Cert.RLruDIdeal.nD Cert.RLruDIdeal.τ).loc Cert.RLruDIdeal.main_arg2) = m' ((c.tc : Thread Cert.RLruDIdeal.nD Cert.RLruDIdeal.τ).loc Cert.RLruDIdeal.main_arg2)
          ∧ r.2.mem ((c.tc : Thread Cert.RLruDIdeal.nD Cert.RLruDIdeal.τ).loc Cert.RLruDIdeal.main_arg3) = m' ((c.tc : Thread Cert.RLruDIdeal.nD Cert.RLruDIdeal.τ).loc Cert.RLruDIdeal.main_arg3)
          ∧ r.2.mem ((c.tc : Thread Cert.RLruDIdeal.nD Cert.RLruDIdeal.τ).loc Cert.RLruDIdeal.main_arg4) = m' ((c.tc : Thread Cert.RLruDIdeal.nD Cert.RLruDIdeal.τ).loc Cert.RLruDIdeal.main_arg4)
          ∧ r.2.mem ((c.tc : Thread Cert.RLruDIdeal.nD Cert.RLruDIdeal.τ).loc Cert.RLruDIdeal.main_arg5) = m' ((c.tc : Thread Cert.RLruDIdeal.nD Cert.RLruDIdeal.τ).loc Cert.RLruDIdeal.main_arg5)
          ∧ r.2.mem ((c.tc : Thread Cert.RLruDIdeal.nD Cert.RLruDIdeal.τ).loc Cert.RLruDIdeal.main_arg6) = m' ((c.tc : Thread Cert.RLruDIdeal.nD Cert.RLruDIdeal.τ).loc Cert.RLruDIdeal.main_arg6)
          ∧ r.2.mem ((c.tc : Thread Cert.RLruDIdeal.nD Cert.RLruDIdeal.τ).loc Cert.RLruDIdeal.main_arg7) = m' ((c.tc : Thread Cert.RLruDIdeal.nD Cert.RLruDIdeal.τ).loc Cert.RLruDIdeal.main_arg7)
          ∧ r.2.mem ((c.tc : Thread Cert.RLruDIdeal.nD Cert.RLruDIdeal.τ).loc Cert.RLruDIdeal.main_arg8) = m' ((c.tc : Thread Cert.RLruDIdeal.nD Cert.RLruDIdeal.τ).loc Cert.RLruDIdeal.main_arg8)
          ∧ r.2.mem ((c.tc : Thread Cert.RLruDIdeal.nD Cert.RLruDIdeal.τ).loc Cert.RLruDIdeal.main_arg9) = m' ((c.tc : Thread Cert.RLruDIdeal.nD Cert.RLruDIdeal.τ).loc Cert.RLruDIdeal.main_arg9))

def preserves_KLruC_KLruCIdeal : Prop :=
  True

def Claim : Prop :=
  ∃ (hKLoss : Cert.KLoss.Facts) (hKLossIdeal : Cert.KLossIdeal.Facts) (hRLossIdeal : Cert.RLossIdeal.Facts) (hKFfn : Cert.KFfn.Facts) (hKFfnIdeal : Cert.KFfnIdeal.Facts) (hRFfnIdeal : Cert.RFfnIdeal.Facts) (hKInNorm : Cert.KInNorm.Facts) (hKInNormIdeal : Cert.KInNormIdeal.Facts) (hRInNormIdeal : Cert.RInNormIdeal.Facts) (hKInNorm4 : Cert.KInNorm4.Facts) (hKInNorm4Ideal : Cert.KInNorm4Ideal.Facts) (hRInNorm4Ideal : Cert.RInNorm4Ideal.Facts) (hKMerge : Cert.KMerge.Facts) (hKMergeIdeal : Cert.KMergeIdeal.Facts) (hRMergeIdeal : Cert.RMergeIdeal.Facts) (hKConv : Cert.KConv.Facts) (hKConvIdeal : Cert.KConvIdeal.Facts) (hRConvIdeal : Cert.RConvIdeal.Facts) (hKBc : Cert.KBc.Facts) (hKBcIdeal : Cert.KBcIdeal.Facts) (hRBcIdeal : Cert.RBcIdeal.Facts) (hKMix : Cert.KMix.Facts) (hKMixIdeal : Cert.KMixIdeal.Facts) (hRMixIdeal : Cert.RMixIdeal.Facts) (hKUp : Cert.KUp.Facts) (hKUpIdeal : Cert.KUpIdeal.Facts) (hRUpIdeal : Cert.RUpIdeal.Facts) (hKDown : Cert.KDown.Facts) (hKDownIdeal : Cert.KDownIdeal.Facts) (hRDownIdeal : Cert.RDownIdeal.Facts) (hKIn : Cert.KIn.Facts) (hKInIdeal : Cert.KInIdeal.Facts) (hRInIdeal : Cert.RInIdeal.Facts) (hKProj : Cert.KProj.Facts) (hKProjIdeal : Cert.KProjIdeal.Facts) (hRProjIdeal : Cert.RProjIdeal.Facts) (hKOut : Cert.KOut.Facts) (hKOutIdeal : Cert.KOutIdeal.Facts) (hROutIdeal : Cert.ROutIdeal.Facts) (hKLruA : Cert.KLruA.Facts) (hKLruAIdeal : Cert.KLruAIdeal.Facts) (hRLruAIdeal : Cert.RLruAIdeal.Facts) (hKLruD : Cert.KLruD.Facts) (hKLruDIdeal : Cert.KLruDIdeal.Facts) (hRLruDIdeal : Cert.RLruDIdeal.Facts) (hKLruC : Cert.KLruC.Facts) (hKLruCIdeal : Cert.KLruCIdeal.Facts) (hPre_finite_ffn : Cert.Pre_finite_ffn.Facts) (hPre_finite_bc : Cert.Pre_finite_bc.Facts) (hPre_wide_lrua : Cert.Pre_wide_lrua.Facts) (hPre_wide_lrud : Cert.Pre_wide_lrud.Facts),
    quiescent_KLoss (hKLoss := hKLoss)
    ∧ quiescent_KLossIdeal (hKLossIdeal := hKLossIdeal)
    ∧ quiescent_RLossIdeal (hRLossIdeal := hRLossIdeal)
    ∧ quiescent_KFfn (hKFfn := hKFfn)
    ∧ quiescent_KFfnIdeal (hKFfnIdeal := hKFfnIdeal)
    ∧ quiescent_KFfnIdeal_pre_finite_ffn (hKFfnIdeal := hKFfnIdeal) (hPre_finite_ffn := hPre_finite_ffn)
    ∧ quiescent_RFfnIdeal (hRFfnIdeal := hRFfnIdeal)
    ∧ quiescent_RFfnIdeal_pre_finite_ffn (hRFfnIdeal := hRFfnIdeal) (hPre_finite_ffn := hPre_finite_ffn)
    ∧ quiescent_KInNorm (hKInNorm := hKInNorm)
    ∧ quiescent_KInNormIdeal (hKInNormIdeal := hKInNormIdeal)
    ∧ quiescent_RInNormIdeal (hRInNormIdeal := hRInNormIdeal)
    ∧ quiescent_KInNorm4 (hKInNorm4 := hKInNorm4)
    ∧ quiescent_KInNorm4Ideal (hKInNorm4Ideal := hKInNorm4Ideal)
    ∧ quiescent_RInNorm4Ideal (hRInNorm4Ideal := hRInNorm4Ideal)
    ∧ quiescent_KMerge (hKMerge := hKMerge)
    ∧ quiescent_KMergeIdeal (hKMergeIdeal := hKMergeIdeal)
    ∧ quiescent_RMergeIdeal (hRMergeIdeal := hRMergeIdeal)
    ∧ quiescent_KConv (hKConv := hKConv)
    ∧ quiescent_KConvIdeal (hKConvIdeal := hKConvIdeal)
    ∧ quiescent_RConvIdeal (hRConvIdeal := hRConvIdeal)
    ∧ quiescent_KBc (hKBc := hKBc)
    ∧ quiescent_KBcIdeal (hKBcIdeal := hKBcIdeal)
    ∧ quiescent_KBcIdeal_pre_finite_bc (hKBcIdeal := hKBcIdeal) (hPre_finite_bc := hPre_finite_bc)
    ∧ quiescent_RBcIdeal (hRBcIdeal := hRBcIdeal)
    ∧ quiescent_RBcIdeal_pre_finite_bc (hRBcIdeal := hRBcIdeal) (hPre_finite_bc := hPre_finite_bc)
    ∧ quiescent_KMix (hKMix := hKMix)
    ∧ quiescent_KMixIdeal (hKMixIdeal := hKMixIdeal)
    ∧ quiescent_RMixIdeal (hRMixIdeal := hRMixIdeal)
    ∧ quiescent_KUp (hKUp := hKUp)
    ∧ quiescent_KUpIdeal (hKUpIdeal := hKUpIdeal)
    ∧ quiescent_RUpIdeal (hRUpIdeal := hRUpIdeal)
    ∧ quiescent_KDown (hKDown := hKDown)
    ∧ quiescent_KDownIdeal (hKDownIdeal := hKDownIdeal)
    ∧ quiescent_RDownIdeal (hRDownIdeal := hRDownIdeal)
    ∧ quiescent_KIn (hKIn := hKIn)
    ∧ quiescent_KInIdeal (hKInIdeal := hKInIdeal)
    ∧ quiescent_RInIdeal (hRInIdeal := hRInIdeal)
    ∧ quiescent_KProj (hKProj := hKProj)
    ∧ quiescent_KProjIdeal (hKProjIdeal := hKProjIdeal)
    ∧ quiescent_RProjIdeal (hRProjIdeal := hRProjIdeal)
    ∧ quiescent_KOut (hKOut := hKOut)
    ∧ quiescent_KOutIdeal (hKOutIdeal := hKOutIdeal)
    ∧ quiescent_ROutIdeal (hROutIdeal := hROutIdeal)
    ∧ quiescent_KLruA (hKLruA := hKLruA)
    ∧ quiescent_KLruAIdeal (hKLruAIdeal := hKLruAIdeal)
    ∧ quiescent_KLruAIdeal_pre_wide_lrua (hKLruAIdeal := hKLruAIdeal) (hPre_wide_lrua := hPre_wide_lrua)
    ∧ quiescent_RLruAIdeal (hRLruAIdeal := hRLruAIdeal)
    ∧ quiescent_RLruAIdeal_pre_wide_lrua (hRLruAIdeal := hRLruAIdeal) (hPre_wide_lrua := hPre_wide_lrua)
    ∧ quiescent_KLruD (hKLruD := hKLruD)
    ∧ quiescent_KLruDIdeal (hKLruDIdeal := hKLruDIdeal)
    ∧ quiescent_KLruDIdeal_pre_wide_lrud (hKLruDIdeal := hKLruDIdeal) (hPre_wide_lrud := hPre_wide_lrud)
    ∧ quiescent_RLruDIdeal (hRLruDIdeal := hRLruDIdeal)
    ∧ quiescent_RLruDIdeal_pre_wide_lrud (hRLruDIdeal := hRLruDIdeal) (hPre_wide_lrud := hPre_wide_lrud)
    ∧ quiescent_KLruC (hKLruC := hKLruC)
    ∧ quiescent_KLruCIdeal (hKLruCIdeal := hKLruCIdeal)
    ∧ preserves_KLoss_KLossIdeal
    ∧ algebraic_KLossIdeal_RLossIdeal (hKLossIdeal := hKLossIdeal) (hRLossIdeal := hRLossIdeal)
    ∧ preserves_KFfn_KFfnIdeal
    ∧ algebraic_KFfnIdeal_RFfnIdeal_pre_finite_ffn (hKFfnIdeal := hKFfnIdeal) (hRFfnIdeal := hRFfnIdeal) (hPre_finite_ffn := hPre_finite_ffn)
    ∧ preserves_KInNorm_KInNormIdeal
    ∧ algebraic_KInNormIdeal_RInNormIdeal (hKInNormIdeal := hKInNormIdeal) (hRInNormIdeal := hRInNormIdeal)
    ∧ preserves_KInNorm4_KInNorm4Ideal
    ∧ algebraic_KInNorm4Ideal_RInNorm4Ideal (hKInNorm4Ideal := hKInNorm4Ideal) (hRInNorm4Ideal := hRInNorm4Ideal)
    ∧ preserves_KMerge_KMergeIdeal
    ∧ algebraic_KMergeIdeal_RMergeIdeal (hKMergeIdeal := hKMergeIdeal) (hRMergeIdeal := hRMergeIdeal)
    ∧ preserves_KConv_KConvIdeal
    ∧ algebraic_KConvIdeal_RConvIdeal (hKConvIdeal := hKConvIdeal) (hRConvIdeal := hRConvIdeal)
    ∧ preserves_KBc_KBcIdeal
    ∧ algebraic_KBcIdeal_RBcIdeal_pre_finite_bc (hKBcIdeal := hKBcIdeal) (hRBcIdeal := hRBcIdeal) (hPre_finite_bc := hPre_finite_bc)
    ∧ preserves_KMix_KMixIdeal
    ∧ algebraic_KMixIdeal_RMixIdeal (hKMixIdeal := hKMixIdeal) (hRMixIdeal := hRMixIdeal)
    ∧ preserves_KUp_KUpIdeal
    ∧ algebraic_KUpIdeal_RUpIdeal (hKUpIdeal := hKUpIdeal) (hRUpIdeal := hRUpIdeal)
    ∧ preserves_KDown_KDownIdeal
    ∧ algebraic_KDownIdeal_RDownIdeal (hKDownIdeal := hKDownIdeal) (hRDownIdeal := hRDownIdeal)
    ∧ preserves_KIn_KInIdeal
    ∧ algebraic_KInIdeal_RInIdeal (hKInIdeal := hKInIdeal) (hRInIdeal := hRInIdeal)
    ∧ preserves_KProj_KProjIdeal
    ∧ algebraic_KProjIdeal_RProjIdeal (hKProjIdeal := hKProjIdeal) (hRProjIdeal := hRProjIdeal)
    ∧ preserves_KOut_KOutIdeal
    ∧ algebraic_KOutIdeal_ROutIdeal (hKOutIdeal := hKOutIdeal) (hROutIdeal := hROutIdeal)
    ∧ preserves_KLruA_KLruAIdeal
    ∧ algebraic_KLruAIdeal_RLruAIdeal_pre_wide_lrua (hKLruAIdeal := hKLruAIdeal) (hRLruAIdeal := hRLruAIdeal) (hPre_wide_lrua := hPre_wide_lrua)
    ∧ preserves_KLruD_KLruDIdeal
    ∧ algebraic_KLruDIdeal_RLruDIdeal_pre_wide_lrud (hKLruDIdeal := hKLruDIdeal) (hRLruDIdeal := hRLruDIdeal) (hPre_wide_lrud := hPre_wide_lrud)
    ∧ preserves_KLruC_KLruCIdeal
-- ==== Pre_finite_bc.lean ====
abbrev S16384x2560 : Shape := ⟨2, ![16384, 2560]⟩
abbrev S16384x512 : Shape := ⟨2, ![16384, 512]⟩
abbrev S3x512 : Shape := ⟨2, ![3, 512]⟩
abbrev S1x512 : Shape := ⟨2, ![1, 512]⟩
abbrev S4x128x128 : Shape := ⟨3, ![4, 128, 128]⟩
abbrev S4x128 : Shape := ⟨2, ![4, 128]⟩
abbrev S_ : Shape := ⟨0, ![]⟩

class Facts : Prop where
  bitsLt_bf16_f32 : FTy.bits .bf16 < FTy.bits .f32
  bcast_S_S16384x2560 : S_.BroadcastsInDim S16384x2560 (![] : Fin 0 → Fin S16384x2560.rank)
  bcast_S_S16384x512 : S_.BroadcastsInDim S16384x512 (![] : Fin 0 → Fin S16384x512.rank)
  bcast_S_S1x512 : S_.BroadcastsInDim S1x512 (![] : Fin 0 → Fin S1x512.rank)
  bcast_S_S4x128x128 : S_.BroadcastsInDim S4x128x128 (![] : Fin 0 → Fin S4x128x128.rank)
  bcast_S_S4x128 : S_.BroadcastsInDim S4x128 (![] : Fin 0 → Fin S4x128.rank)

variable [Facts]

def fn_part1 {F : FTy → Type} [FloatOps F] (main_v3 : IVec S16384x2560 1) (main_v6 : IVec S16384x512 1) (main_v9 : IVec S1x512 1) (main_v12 : IVec S1x512 1) (main_v15 : IVec S4x128x128 1) (main_v16 : FVec F S4x128 .f32) (main_v17 : FVec F S4x128 .f32) : IVec S16384x2560 1 × IVec S16384x512 1 × IVec S1x512 1 × IVec S1x512 1 × IVec S4x128x128 1 × IVec S4x128 1 :=
  let main_v18 : IVec S4x128 1 := cmpf .olt main_v16 main_v17
  (main_v3, main_v6, main_v9, main_v12, main_v15, main_v18)

def fn {F : FTy → Type} [FloatOps F] (main_arg0 : FVec F S16384x2560 .bf16) (main_arg1 : FVec F S16384x512 .f32) (main_arg2 : FVec F S16384x512 .f32) (main_arg3 : FVec F S3x512 .f32) (main_arg4 : FVec F S1x512 .f32) (main_arg5 : FVec F S1x512 .f32) (main_arg6 : FVec F S4x128x128 .f32) (main_arg7 : FVec F S4x128 .f32) : IVec S16384x2560 1 × IVec S16384x512 1 × IVec S1x512 1 × IVec S1x512 1 × IVec S4x128x128 1 × IVec S4x128 1 :=
  let main_v0 : FVec F S16384x2560 .f32 := (extf .f32 · bitsLt_bf16_f32) main_arg0
  let main_v1 : FVec F S16384x2560 .f32 := Host.absf main_v0
  let main_cst : FVec F S_ .f32 := constant S_ .f32 0x7F800000#32
  let main_v2 : FVec F S16384x2560 .f32 := broadcastInDim S16384x2560 ![] bcast_S_S16384x2560 main_cst
  let main_v3 : IVec S16384x2560 1 := cmpf .olt main_v1 main_v2
  let main_v4 : FVec F S16384x512 .f32 := Host.absf main_arg2
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_v7 : FVec F S1x512 .f32 := Host.absf main_arg4
  let main_cst_1 : FVec F S_ .f32 := constant S_ .f32 0x7F800000#32
  let main_v8 : FVec F S1x512 .f32 := broadcastInDim S1x512 ![] bcast_S_S1x512 main_cst_1
  let main_v9 : IVec S1x512 1 := cmpf .olt main_v7 main_v8
  let main_v10 : FVec F S1x512 .f32 := Host.absf main_arg5
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_v13 : FVec F S4x128x128 .f32 := Host.absf main_arg6
  let main_cst_3 : FVec F S_ .f32 := constant S_ .f32 0x7F800000#32
  let main_v14 : FVec F S4x128x128 .f32 := broadcastInDim S4x128x128 ![] bcast_S_S4x128x128 main_cst_3
  let main_v15 : IVec S4x128x128 1 := cmpf .olt main_v13 main_v14
  let main_v16 : FVec F S4x128 .f32 := Host.absf main_arg7
  let main_cst_4 : FVec F S_ .f32 := constant S_ .f32 0x7F800000#32
  let main_v17 : FVec F S4x128 .f32 := broadcastInDim S4x128 ![] bcast_S_S4x128 main_cst_4
  fn_part1 (F := F) main_v3 main_v6 main_v9 main_v12 main_v15 main_v16 main_v17
-- ==== Pre_finite_ffn.lean ====
abbrev S16384x1024 : Shape := ⟨2, ![16384, 1024]⟩
abbrev S16384x2816 : Shape := ⟨2, ![16384, 2816]⟩
abbrev S2816x1024 : Shape := ⟨2, ![2816, 1024]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)
  bcast_S1x1024_S16384x1024_0_1 : S1x1024.BroadcastsInDim S16384x1024 (![0, 1] : Fin 2 → Fin S16384x1024.rank)

variable [Facts]

def fn {F : FTy → Type} [FloatOps F] (main_arg0 : FVec F S16384x1024 .f32) (main_arg1 : FVec F S16384x2816 .bf16) (main_arg2 : FVec F S16384x2816 .bf16) (main_arg3 : FVec F S2816x1024 .bf16) (main_arg4 : FVec F S1x1024 .f32) : IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1x1024 .f32 := Host.absf main_arg4
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : IVec S16384x1024 1 := broadcastInDim S16384x1024 ![0, 1] bcast_S1x1024_S16384x1024_0_1 main_v5
  let main_v7 : IVec S16384x1024 1 := andi main_v2 main_v6
  main_v7
-- ==== Pre_wide_lrua.lean ====
abbrev S16384x1024 : Shape := ⟨2, ![16384, 1024]⟩
abbrev S4x1024 : Shape := ⟨2, ![4, 1024]⟩
abbrev S1x1024 : Shape := ⟨2, ![1, 1024]⟩
abbrev S4x256x256 : Shape := ⟨3, ![4, 256, 256]⟩
abbrev S_ : Shape := ⟨0, ![]⟩

class Facts : Prop where
  bcast_S_S1x1024 : S_.BroadcastsInDim S1x1024 (![] : Fin 0 → Fin S1x1024.rank)

variable [Facts]

def fn {F : FTy → Type} [FloatOps F] (main_arg0 : FVec F S16384x1024 .bf16) (main_arg1 : FVec F S4x1024 .f32) (main_arg2 : FVec F S1x1024 .f32) (main_arg3 : FVec F S4x256x256 .bf16) (main_arg4 : FVec F S4x256x256 .bf16) (main_arg5 : FVec F S1x1024 .f32) (main_arg6 : FVec F S1x1024 .f32) (main_arg7 : FVec F S1x1024 .f32) : IVec S1x1024 1 :=
  let main_v0 : FVec F S1x1024 .f32 := Host.absf main_arg7
  let main_v1 : FVec F S1x1024 .f32 := Host.negf main_v0
  let main_v2 : FVec F S1x1024 .f32 := Host.exp main_v1
  let main_cst : FVec F S_ .f32 := constant S_ .f32 0x3C23D70A#32
  let main_v3 : FVec F S1x1024 .f32 := broadcastInDim S1x1024 ![] bcast_S_S1x1024 main_cst
  let main_v4 : IVec S1x1024 1 := cmpf .oge main_v2 main_v3
  main_v4
-- ==== Pre_wide_lrud.lean ====
abbrev S16384x1024 : Shape := ⟨2, ![16384, 1024]⟩
abbrev S4x1024 : Shape := ⟨2, ![4, 1024]⟩
abbrev S1x1024 : Shape := ⟨2, ![1, 1024]⟩
abbrev S4x256x256 : Shape := ⟨3, ![4, 256, 256]⟩
abbrev S_ : Shape := ⟨0, ![]⟩

class Facts : Prop where
  bcast_S_S1x1024 : S_.BroadcastsInDim S1x1024 (![] : Fin 0 → Fin S1x1024.rank)

variable [Facts]

def fn {F : FTy → Type} [FloatOps F] (main_arg0 : FVec F S16384x1024 .bf16) (main_arg1 : FVec F S4x1024 .f32) (main_arg2 : FVec F S1x1024 .f32) (main_arg3 : FVec F S4x256x256 .bf16) (main_arg4 : FVec F S4x256x256 .bf16) (main_arg5 : FVec F S1x1024 .f32) (main_arg6 : FVec F S1x1024 .f32) (main_arg7 : FVec F S1x1024 .f32) (main_arg8 : FVec F S16384x1024 .f32) (main_arg9 : FVec F S16384x1024 .bf16) : IVec S1x1024 1 :=
  let main_v0 : FVec F S1x1024 .f32 := Host.absf main_arg7
  let main_v1 : FVec F S1x1024 .f32 := Host.negf main_v0
  let main_v2 : FVec F S1x1024 .f32 := Host.exp main_v1
  let main_cst : FVec F S_ .f32 := constant S_ .f32 0x3C23D70A#32
  let main_v3 : FVec F S1x1024 .f32 := broadcastInDim S1x1024 ![] bcast_S_S1x1024 main_cst
  let main_v4 : IVec S1x1024 1 := cmpf .oge main_v2 main_v3
  main_v4
-- ==== KLoss.lean ====
abbrev S16384x1024 : Shape := ⟨2, ![16384, 1024]⟩
abbrev S1x128 : Shape := ⟨2, ![1, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RLossIdeal.lean ====
abbrev S16384x1024 : Shape := ⟨2, ![16384, 1024]⟩
abbrev S_ : Shape := ⟨0, ![]⟩
abbrev S16384 : Shape := ⟨1, ![16384]⟩
abbrev S1x128 : Shape := ⟨2, ![1, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | .hbm, ⟨25, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== KFfn.lean ====
abbrev S16384x1024 : Shape := ⟨2, ![16384, 1024]⟩
abbrev S16384x2816 : Shape := ⟨2, ![16384, 2816]⟩
abbrev S2816x1024 : Shape := ⟨2, ![2816, 1024]⟩
abbrev S1x1024 : Shape := ⟨2, ![1, 1024]⟩
abbrev S_ : Shape := ⟨0, ![]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 25
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S16384x2816, .bf16⟩
  | .hbm, ⟨3, _⟩ => ⟨S2816x1024, .bf16⟩
  | .hbm, ⟨4, _⟩ => ⟨S1x1024, .f32⟩
  | .hbm, ⟨5, _⟩ => ⟨S16384x2816, .f32⟩
  | .hbm, ⟨6, _⟩ => ⟨S16384x2816, .f32⟩
  | .hbm, ⟨7, _⟩ => ⟨S_, .f32⟩
  | .hbm, ⟨8, _⟩ => ⟨S16384x2816, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .bf16⟩
  | .hbm, ⟨20, _⟩ => ⟨S16384x1024, .f32⟩
  | .hbm, ⟨21, _⟩ => ⟨S16384x2816, .bf16⟩
  | .hbm, ⟨22, _⟩ => ⟨S16384x2816, .bf16⟩
  | .hbm, ⟨23, _⟩ => ⟨S16384x1024, .bf16⟩
  | .hbm, ⟨24, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S1x1024, .f32⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S2816x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RFfnIdeal.lean ====
abbrev S16384x1024 : Shape := ⟨2, ![16384, 1024]⟩
abbrev S16384x2816 : Shape := ⟨2, ![16384, 2816]⟩
abbrev S2816x1024 : Shape := ⟨2, ![2816, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2816, .bf16⟩
  | .hbm, ⟨2, _⟩ => ⟨S16384x2816, .bf16⟩
  | .hbm, ⟨3, _⟩ => ⟨S2816x1024, .bf16⟩
  | .hbm, ⟨4, _⟩ => ⟨S1x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S_, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S2816x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x2816, .f32⟩
  | .hbm, ⟨72, _⟩ => ⟨S16384x2816, .f32⟩
  | .hbm, ⟨73, _⟩ => ⟨S16384x2816, .f32⟩
  | .hbm, ⟨74, _⟩ => ⟨S16384x2816, .bf16⟩
  | .hbm, ⟨75, _⟩ => ⟨S16384x2816, .f32⟩
  | .hbm, ⟨76, _⟩ => ⟨S16384x2816, .f32⟩
  | .hbm, ⟨77, _⟩ => ⟨S16384x2816, .f32⟩
  | .hbm, ⟨78, _⟩ => ⟨S16384x2816, .f32⟩
  | .hbm, ⟨79, _⟩ => ⟨S16384x2816, .bf16⟩
  | .hbm, ⟨80, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_7 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩

abbrev nD : Nat := 1
abbrev τ : Topo := Topo.v7x

variable {F : FTy → Type} [FloatOps F]
-- ==== KInNorm.lean ====
abbrev S16384x2816 : Shape := ⟨2, ![16384, 2816]⟩
abbrev S1024x2816 : Shape := ⟨2, ![1024, 2816]⟩
abbrev S16384x1024 : Shape := ⟨2, ![16384, 1024]⟩
abbrev S1x1024 : Shape := ⟨2, ![1, 1024]⟩
abbrev S512x2816 : Shape := ⟨2, ![512, 2816]⟩
abbrev S512x1024 : Shape := ⟨2, ![512, 1024]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x2816, .bf16⟩
  | .hbm, ⟨3, _⟩ => ⟨S1024x2816, .bf16⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RInNormIdeal.lean ====
abbrev S16384x2816 : Shape := ⟨2, ![16384, 2816]⟩
abbrev S1024x2816 : Shape := ⟨2, ![1024, 2816]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x2816, .bf16⟩
  | .hbm, ⟨2, _⟩ => ⟨S1024x2816, .bf16⟩
  | .hbm, ⟨3, _⟩ => ⟨S1024x2816, .bf16⟩
  | .hbm, ⟨4, _⟩ => ⟨S16384x1024, .f32⟩
  | .hbm, ⟨5, _⟩ => ⟨S16384x1024, .f32⟩
  | .hbm, ⟨6, _⟩ => ⟨S1x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1024x2816, .f32⟩
  | .hbm, ⟨27, _⟩ => ⟨S16384x2816, .f32⟩
  | .hbm, ⟨28, _⟩ => ⟨S1024x2816, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== KInNorm4.lean ====
abbrev S16384x1024 : Shape := ⟨2, ![16384, 1024]⟩
abbrev S16384x2560 : Shape := ⟨2, ![16384, 2560]⟩
abbrev S16384x3072 : Shape := ⟨2, ![16384, 3072]⟩
abbrev S1024x7680 : Shape := ⟨2, ![1024, 7680]⟩
abbrev S1x1024 : Shape := ⟨2, ![1, 1024]⟩
abbrev S1024x1024 : Shape := ⟨2, ![1024, 1024]⟩
abbrev S1024x2560 : Shape := ⟨2, ![1024, 2560]⟩
abbrev S1024x3072 : Shape := ⟨2, ![1024, 3072]⟩
abbrev S512x1024 : Shape := ⟨2, ![512, 1024]⟩
abbrev S512x2560 : Shape := ⟨2, ![512, 2560]⟩
abbrev S512x3072 : Shape := ⟨2, ![512, 3072]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 14
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2560, .bf16⟩
  | .hbm, ⟨3, _⟩ => ⟨S16384x3072, .bf16⟩
  | .hbm, ⟨4, _⟩ => ⟨S1024x7680, .bf16⟩
  | .hbm, ⟨5, _⟩ => ⟨S16384x1024, .f32⟩
  | .hbm, ⟨6, _⟩ => ⟨S16384x1024, .f32⟩
  | .hbm, ⟨7, _⟩ => ⟨S1x1024, .f32⟩
  | .hbm, ⟨8, _⟩ => ⟨S1024x1024, .bf16⟩
  | .hbm, ⟨9, _⟩ => ⟨S1024x1024, .bf16⟩
  | .hbm, ⟨10, _⟩ => ⟨S1024x2560, .bf16⟩
  | .hbm, ⟨11, _⟩ => ⟨S1024x3072, .bf16⟩
  | .hbm, ⟨12, _⟩ => ⟨S16384x1024, .f32⟩
  | .hbm, ⟨13, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2560, .bf16⟩
  | .local _ .vmem, ⟨5, _⟩ => ⟨S512x2560, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x2560, .bf16⟩
  | .local _ .vmem, ⟨19, _⟩ => ⟨S1024x3072, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RInNorm4Ideal.lean ====
abbrev S16384x1024 : Shape := ⟨2, ![16384, 1024]⟩
abbrev S16384x2560 : Shape := ⟨2, ![16384, 2560]⟩
abbrev S16384x3072 : Shape := ⟨2, ![16384, 3072]⟩
abbrev S1024x7680 : Shape := ⟨2, ![1024, 7680]⟩
abbrev S1x1024 : Shape := ⟨2, ![1, 1024]⟩
abbrev S16384x7680 : Shape := ⟨2, ![16384, 7680]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2560, .bf16⟩
  | .hbm, ⟨3, _⟩ => ⟨S16384x3072, .bf16⟩
  | .hbm, ⟨4, _⟩ => ⟨S1024x7680, .bf16⟩
  | .hbm, ⟨5, _⟩ => ⟨S16384x1024, .f32⟩
  | .hbm, ⟨6, _⟩ => ⟨S16384x1024, .f32⟩
  | .hbm, ⟨7, _⟩ => ⟨S1x1024, .f32⟩
  | .hbm, ⟨8, _⟩ => ⟨S16384x7680, .bf16⟩
  | .hbm, ⟨9, _⟩ => ⟨S16384x7680, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1024x7680, .f32⟩
  | .hbm, ⟨30, _⟩ => ⟨S16384x7680, .f32⟩
  | .hbm, ⟨31, _⟩ => ⟨S16384x1024, .f32⟩
  | .hbm, ⟨32, _⟩ => ⟨S16384x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== KMerge.lean ====
abbrev S16384x1024 : Shape := ⟨2, ![16384, 1024]⟩
abbrev S16384x3072 : Shape := ⟨2, ![16384, 3072]⟩
abbrev S1x1024 : Shape := ⟨2, ![1, 1024]⟩
abbrev S1024x1024 : Shape := ⟨2, ![1024, 1024]⟩
abbrev S_ : Shape := ⟨0, ![]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024 : Shape := ⟨1, ![1024]⟩

abbrev nBuf : Space → Nat
  | .hbm => 37
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x3072, .bf16⟩
  | .hbm, ⟨5, _⟩ => ⟨S1x1024, .f32⟩
  | .hbm, ⟨6, _⟩ => ⟨S1024x1024, .bf16⟩
  | .hbm, ⟨7, _⟩ => ⟨S16384x3072, .f32⟩
  | .hbm, ⟨8, _⟩ => ⟨S_, .f32⟩
  | .hbm, ⟨9, _⟩ => ⟨S16384x3072, .f32⟩
  | .hbm, ⟨10, _⟩ => ⟨S16384x3072, .f32⟩
  | .hbm, ⟨11, _⟩ => ⟨S16384x3072, .f32⟩
  | .hbm, ⟨12, _⟩ => ⟨S_, .f32⟩
  | .hbm, ⟨13, _⟩ => ⟨S16384x3072, .f32⟩
  | .hbm, ⟨14, _⟩ => ⟨S16384x3072, .f32⟩
  | .hbm, ⟨15, _⟩ => ⟨S_, .f32⟩
  | .hbm, ⟨16, _⟩ => ⟨S16384x3072, .f32⟩
  | .hbm, ⟨17, _⟩ => ⟨S16384x3072, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .bf16⟩
  | .hbm, ⟨30, _⟩ => ⟨S16384x1024, .f32⟩
  | .hbm, ⟨31, _⟩ => ⟨S16384x1024, .bf16⟩
  | .hbm, ⟨32, _⟩ => ⟨S16384x1024, .bf16⟩
  | .hbm, ⟨33, _⟩ => ⟨S16384x1024, .bf16⟩
  | .hbm, ⟨34, _⟩ => ⟨S16384x1024, .bf16⟩
  | .hbm, ⟨35, _⟩ => ⟨S16384x3072, .bf16⟩
  | .hbm, ⟨36, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x3072, .bf16⟩
  | .local _ .vmem, ⟨11, _⟩ => ⟨S512x3072, .bf16⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x3072, .bf16⟩
  | .local _ .vmem, ⟨22, _⟩ => ⟨S512x3072, .bf16⟩
  | .local _ .vmem, ⟨23, _⟩ => ⟨S1x1024, .f32⟩
  | .local _ .vmem, ⟨24, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev main_v21_5 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== RMergeIdeal.lean ====
abbrev S16384x1024 : Shape := ⟨2, ![16384, 1024]⟩
abbrev S16384x3072 : Shape := ⟨2, ![16384, 3072]⟩
abbrev S1x1024 : Shape := ⟨2, ![1, 1024]⟩
abbrev S1024x1024 : Shape := ⟨2, ![1024, 1024]⟩
abbrev S_ : Shape := ⟨0, ![]⟩
abbrev S16384x3x1024 : Shape := ⟨3, ![16384, 3, 1024]⟩
abbrev S16384x1x1024 : Shape := ⟨3, ![16384, 1, 1024]⟩
abbrev S16384 : Shape := ⟨1, ![16384]⟩
abbrev S16384x1 : Shape := ⟨2, ![16384, 1]⟩
abbrev S1024 : Shape := ⟨1, ![1024]⟩

abbrev nBuf : Space → Nat
  | .hbm => 104
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x3072, .bf16⟩
  | .hbm, ⟨5, _⟩ => ⟨S1x1024, .f32⟩
  | .hbm, ⟨6, _⟩ => ⟨S1024x1024, .bf16⟩
  | .hbm, ⟨7, _⟩ => ⟨S16384x3072, .f32⟩
  | .hbm, ⟨8, _⟩ => ⟨S16384x3072, .f32⟩
  | .hbm, ⟨9, _⟩ => ⟨S16384x3072, .f32⟩
  | .hbm, ⟨10, _⟩ => ⟨S_, .f32⟩
  | .hbm, ⟨11, _⟩ => ⟨S16384x3072, .f32⟩
  | .hbm, ⟨12, _⟩ => ⟨S16384x3072, .f32⟩
  | .hbm, ⟨13, _⟩ => ⟨S_, .f32⟩
  | .hbm, ⟨14, _⟩ => ⟨S16384x3072, .f32⟩
  | .hbm, ⟨15, _⟩ => ⟨S16384x3072, .f32⟩
  | .hbm, ⟨16, _⟩ => ⟨S_, .f32⟩
  | .hbm, ⟨17, _⟩ => ⟨S16384x3072, .f32⟩
  | .hbm, ⟨18, _⟩ => ⟨S16384x3072, .f32⟩
  | .hbm, ⟨19, _⟩ => ⟨S16384x3072, .f32⟩
  | .hbm, ⟨20, _⟩ => ⟨S16384x3x1024, .f32⟩
  | .hbm, ⟨21, _⟩ => ⟨S16384x1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S1024x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S_, .f32⟩
  | .hbm, ⟨64, _⟩ => ⟨S16384, .f32⟩
  | .hbm, ⟨65, _⟩ => ⟨S16384x1, .f32⟩
  | .hbm, ⟨66, _⟩ => ⟨S16384x1024, .f32⟩
  | .hbm, ⟨67, _⟩ => ⟨S16384x1024, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .bf16⟩
  | .hbm, ⟨83, _⟩ => ⟨S16384x1x1024, .f32⟩
  | .hbm, ⟨84, _⟩ => ⟨S_, .f32⟩
  | .hbm, ⟨85, _⟩ => ⟨S16384x3x1024, .f32⟩
  | .hbm, ⟨86, _⟩ => ⟨S16384x1024, .f32⟩
  | .hbm, ⟨87, _⟩ => ⟨S16384x1024, .f32⟩
  | .hbm, ⟨88, _⟩ => ⟨S16384x1024, .bf16⟩
  | .hbm, ⟨89, _⟩ => ⟨S16384x1x1024, .f32⟩
  | .hbm, ⟨90, _⟩ => ⟨S_, .f32⟩
  | .hbm, ⟨91, _⟩ => ⟨S16384x3x1024, .f32⟩
  | .hbm, ⟨92, _⟩ => ⟨S16384x3x1024, .f32⟩
  | .hbm, ⟨93, _⟩ => ⟨S16384x1024, .f32⟩
  | .hbm, ⟨94, _⟩ => ⟨S16384x1024, .f32⟩
  | .hbm, ⟨95, _⟩ => ⟨S16384x1024, .bf16⟩
  | .hbm, ⟨96, _⟩ => ⟨S16384x1x1024, .f32⟩
  | .hbm, ⟨97, _⟩ => ⟨S_, .f32⟩
  | .hbm, ⟨98, _⟩ => ⟨S16384x3x1024, .f32⟩
  | .hbm, ⟨99, _⟩ => ⟨S16384x3x1024, .f32⟩
  | .hbm, ⟨100, _⟩ => ⟨S16384x3072, .f32⟩
  | .hbm, ⟨101, _⟩ => ⟨S16384x3072, .f32⟩
  | .hbm, ⟨102, _⟩ => ⟨S16384x3072, .bf16⟩
  | .hbm, ⟨103, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_10 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_11 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_12 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩

abbrev nD : Nat := 1
abbrev τ : Topo := Topo.v7x

variable {F : FTy → Type} [FloatOps F]
-- ==== KConv.lean ====
abbrev S16384x1024 : Shape := ⟨2, ![16384, 1024]⟩
abbrev S4x1024 : Shape := ⟨2, ![4, 1024]⟩
abbrev S1x1024 : Shape := ⟨2, ![1, 1024]⟩
abbrev S512x1024 : Shape := ⟨2, ![512, 1024]⟩
abbrev S16x1024 : Shape := ⟨2, ![16, 1024]⟩
abbrev S544x1024 : Shape := ⟨2, ![544, 1024]⟩
abbrev S1024 : Shape := ⟨1, ![1024]⟩

abbrev nBuf : Space → Nat
  | .hbm => 6
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S4x1024, .f32⟩
  | .hbm, ⟨3, _⟩ => ⟨S16384x1024, .bf16⟩
  | .hbm, ⟨4, _⟩ => ⟨S4x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S4x1024, .f32⟩
  | .local _ .vmem, ⟨13, _⟩ => ⟨S512x1024, .bf16⟩
  | .local _ .vmem, ⟨14, _⟩ => ⟨S512x1024, .bf16⟩
  | .local _ .vmem, ⟨15, _⟩ => ⟨S4x1024, .f32⟩
  | .local _ .vmem, ⟨16, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RConvIdeal.lean ====
abbrev S16384x1024 : Shape := ⟨2, ![16384, 1024]⟩
abbrev S4x1024 : Shape := ⟨2, ![4, 1024]⟩
abbrev S_ : Shape := ⟨0, ![]⟩
abbrev S1x1024 : Shape := ⟨2, ![1, 1024]⟩
abbrev S2x1024 : Shape := ⟨2, ![2, 1024]⟩
abbrev S16387x1024 : Shape := ⟨2, ![16387, 1024]⟩
abbrev S1024 : Shape := ⟨1, ![1024]⟩

abbrev nBuf : Space → Nat
  | .hbm => 110
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S4x1024, .f32⟩
  | .hbm, ⟨3, _⟩ => ⟨S_, .f32⟩
  | .hbm, ⟨4, _⟩ => ⟨S1x1024, .f32⟩
  | .hbm, ⟨5, _⟩ => ⟨S16384x1024, .f32⟩
  | .hbm, ⟨6, _⟩ => ⟨S_, .f32⟩
  | .hbm, ⟨7, _⟩ => ⟨S2x1024, .f32⟩
  | .hbm, ⟨8, _⟩ => ⟨S_, .f32⟩
  | .hbm, ⟨9, _⟩ => ⟨S1x1024, .f32⟩
  | .hbm, ⟨10, _⟩ => ⟨S16387x1024, .f32⟩
  | .hbm, ⟨11, _⟩ => ⟨S_, .f32⟩
  | .hbm, ⟨12, _⟩ => ⟨S2x1024, .f32⟩
  | .hbm, ⟨13, _⟩ => ⟨S_, .f32⟩
  | .hbm, ⟨14, _⟩ => ⟨S1x1024, .f32⟩
  | .hbm, ⟨15, _⟩ => ⟨S16384x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S_, .f32⟩
  | .hbm, ⟨58, _⟩ => ⟨S4x1024, .f32⟩
  | .hbm, ⟨59, _⟩ => ⟨S_, .f32⟩
  | .hbm, ⟨60, _⟩ => ⟨S16387x1024, .f32⟩
  | .hbm, ⟨61, _⟩ => ⟨S16384x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S_, .f32⟩
  | .hbm, ⟨71, _⟩ => ⟨S4x1024, .f32⟩
  | .hbm, ⟨72, _⟩ => ⟨S4x1024, .f32⟩
  | .hbm, ⟨73, _⟩ => ⟨S_, .f32⟩
  | .hbm, ⟨74, _⟩ => ⟨S16387x1024, .f32⟩
  | .hbm, ⟨75, _⟩ => ⟨S16387x1024, .f32⟩
  | .hbm, ⟨76, _⟩ => ⟨S16384x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S16384x1024, .f32⟩
  | .hbm, ⟨81, _⟩ => ⟨S16384x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S_, .f32⟩
  | .hbm, ⟨86, _⟩ => ⟨S4x1024, .f32⟩
  | .hbm, ⟨87, _⟩ => ⟨S4x1024, .f32⟩
  | .hbm, ⟨88, _⟩ => ⟨S_, .f32⟩
  | .hbm, ⟨89, _⟩ => ⟨S16387x1024, .f32⟩
  | .hbm, ⟨90, _⟩ => ⟨S16387x1024, .f32⟩
  | .hbm, ⟨91, _⟩ => ⟨S16384x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S16384x1024, .f32⟩
  | .hbm, ⟨96, _⟩ => ⟨S16384x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S_, .f32⟩
  | .hbm, ⟨101, _⟩ => ⟨S4x1024, .f32⟩
  | .hbm, ⟨102, _⟩ => ⟨S4x1024, .f32⟩
  | .hbm, ⟨103, _⟩ => ⟨S_, .f32⟩
  | .hbm, ⟨104, _⟩ => ⟨S16387x1024, .f32⟩
  | .hbm, ⟨105, _⟩ => ⟨S16387x1024, .f32⟩
  | .hbm, ⟨106, _⟩ => ⟨S2x1024, .f32⟩
  | .hbm, ⟨107, _⟩ => ⟨S16384x1024, .f32⟩
  | .hbm, ⟨108, _⟩ => ⟨S1x1024, .f32⟩
  | .hbm, ⟨109, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_cst_12 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_13 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_14 : Ref sig .tc := ⟨.hbm, 82, rfl⟩
abbrev main_v64 : Ref sig .tc := ⟨.hbm, 83, rfl⟩
abbrev main_v65 : Ref sig .tc := ⟨.hbm, 84, rfl⟩
abbrev main_cst_15 : Ref sig .tc := ⟨.hbm, 85, rfl⟩
abbrev main_v66 : Ref sig .tc := ⟨.hbm, 86, rfl⟩
abbrev main_v67 : Ref sig .tc := ⟨.hbm, 87, rfl⟩
abbrev main_cst_16 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_17 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_18 : Ref sig .tc := ⟨.hbm, 97, rfl⟩
abbrev main_v75 : Ref sig .tc := ⟨.hbm, 98, rfl⟩
abbrev main_v76 : Ref sig .tc := ⟨.hbm, 99, rfl⟩
abbrev main_cst_19 : Ref sig .tc := ⟨.hbm, 100, rfl⟩
abbrev main_v77 : Ref sig .tc := ⟨.hbm, 101, rfl⟩
abbrev main_v78 : Ref sig .tc := ⟨.hbm, 102, rfl⟩
abbrev main_cst_20 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]
-- ==== KBc.lean ====
abbrev S16384x2560 : Shape := ⟨2, ![16384, 2560]⟩
abbrev S16384x512 : Shape := ⟨2, ![16384, 512]⟩
abbrev S3x512 : Shape := ⟨2, ![3, 512]⟩
abbrev S1x512 : Shape := ⟨2, ![1, 512]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S256x2560 : Shape := ⟨2, ![256, 2560]⟩
abbrev S16x2560 : Shape := ⟨2, ![16, 2560]⟩
abbrev S256x512 : Shape := ⟨2, ![256, 512]⟩
abbrev S16x512 : Shape := ⟨2, ![16, 512]⟩
abbrev S288x512 : Shape := ⟨2, ![288, 512]⟩
abbrev S512 : Shape := ⟨1, ![512]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩

abbrev nBuf : Space → Nat
  | .hbm => 20
  | .vmem => 29
  | .smem => 0
  | _ => 0

abbrev bufTy : (tb : Table) → Fin (tcTables nBuf tb) → BufTy
  | .hbm, ⟨0, _⟩ => ⟨S16384x2560, .bf16⟩
  | .hbm, ⟨1, _⟩ => ⟨S16384x512, .f32⟩
  | .hbm, ⟨2, _⟩ => ⟨S16384x512, .f32⟩
  | .hbm, ⟨3, _⟩ => ⟨S3x512, .f32⟩
  | .hbm, ⟨4, _⟩ => ⟨S1x512, .f32⟩
  | .hbm, ⟨5, _⟩ => ⟨S1x512, .f32⟩
  | .hbm, ⟨6, _⟩ => ⟨S4x128x128, .f32⟩
  | .hbm, ⟨7, _⟩ => ⟨S4x128, .f32⟩
  | .hbm, ⟨8, _⟩ => ⟨S4x128x128, .bf16⟩
  | .hbm, ⟨9, _⟩ => ⟨S4x128x128, .f32⟩
  | .hbm, ⟨10, _⟩ => ⟨S4x128x128, .bf16⟩
  | .hbm, ⟨11, _⟩ => ⟨S128x4, .f32⟩
  | .hbm, ⟨12, _⟩ => ⟨S128x4x128, .f32⟩
  | .hbm, ⟨13, _⟩ => ⟨S128x512, .f32⟩
  | .hbm, ⟨14, _⟩ => ⟨S16384x2560, .bf16⟩
  | .hbm, ⟨15, _⟩ => ⟨S3x512, .f32⟩
  | .hbm, ⟨16, _⟩ => ⟨S1x512, .f32⟩
  | .hbm, ⟨17, _⟩ => ⟨S1x512, .f32⟩
  | .hbm, ⟨18, _⟩ => ⟨S4x128x128, .f32⟩
  | .hbm, ⟨19, _⟩ => ⟨S128x512, .f32⟩
  | .local _ .vmem, ⟨0, _⟩ => ⟨S256x2560, .bf16⟩
  | .local _ .vmem, ⟨1, _⟩ => ⟨S256x2560, .bf16⟩
  | .local _ .vmem, ⟨2, _⟩ => ⟨S16x2560, .bf16⟩
  | .local _ .vmem, ⟨3, _⟩ => ⟨S16x2560, .bf16⟩
  | .local _ .vmem, ⟨4, _⟩ => ⟨S16x2560, .bf16⟩
  | .local _ .vmem, ⟨5, _⟩ => ⟨S16x2560, .bf16⟩
  | .local _ .vmem, ⟨6, _⟩ => ⟨S256x512, .f32⟩
  | .local _ .vmem, ⟨7, _⟩ => ⟨S256x512, .f32⟩
  | .local _ .vmem, ⟨8, _⟩ => ⟨S16x512, .f32⟩
  | .local _ .vmem, ⟨9, _⟩ => ⟨S16x512, .f32⟩
  | .local _ .vmem, ⟨10, _⟩ => ⟨S16x512, .f32⟩
  | .local _ .vmem, ⟨11, _⟩ => ⟨S16x512, .f32⟩
  | .local _ .vmem, ⟨12, _⟩ => ⟨S256x512, .f32⟩
  | .local _ .vmem, ⟨13, _⟩ => ⟨S256x512, .f32⟩
  | .local _ .vmem, ⟨14, _⟩ => ⟨S3x512, .f32⟩
  | .local _ .vmem, ⟨15, _⟩ => ⟨S1x512, .f32⟩
  | .local _ .vmem, ⟨16, _⟩ => ⟨S1x512, .f32⟩
  | .local _ .vmem, ⟨17, _⟩ => ⟨S4x128x128, .bf16⟩
  | .local _ .vmem, ⟨18, _⟩ => ⟨S4x128x128, .bf16⟩
  | .local _ .vmem, ⟨19, _⟩ => ⟨S128x512, .f32⟩
  | .local _ .vmem, ⟨20, _⟩ => ⟨S256x2560, .bf16⟩
  | .local _ .vmem, ⟨21, _⟩ => ⟨S256x2560, .bf16⟩
  | .local _ .vmem, ⟨22, _⟩ => ⟨S3x512, .f32⟩
  | .local _ .vmem, ⟨23, _⟩ => ⟨S1x512, .f32⟩
  | .local _ .vmem, ⟨24, _⟩ => ⟨S1x512, .f32⟩
  | .local _ .vmem, ⟨25, _⟩ => ⟨S4x128x128, .f32⟩
  | .local _ .vmem, ⟨26, _⟩ => ⟨S128x512, .f32⟩
  | .local _ .vmem, ⟨27, _⟩ => ⟨S256x512, .f32⟩
  | .local _ .vmem, ⟨28, _⟩ => ⟨S256x512, .f32⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x2560 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S3x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KBcIdeal.lean ====
variable {F : FTy → Type} [FloatOps F] [Named F]
def κ : String → Option EReal := fun
  | "gelu_3kc" => some ((241015141496493 / 2251799813685248 : ℝ) : EReal)
  | "gelu_kc" => some ((80338380498831 / 2251799813685248 : ℝ) : EReal)
  | _ => none
-- ==== RBcIdeal.lean ====
abbrev S16384x2560 : Shape := ⟨2, ![16384, 2560]⟩
abbrev S16384x512 : Shape := ⟨2, ![16384, 512]⟩
abbrev S3x512 : Shape := ⟨2, ![3, 512]⟩
abbrev S1x512 : Shape := ⟨2, ![1, 512]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S_ : Shape := ⟨0, ![]⟩
abbrev S16386x512 : Shape := ⟨2, ![16386, 512]⟩
abbrev S512 : Shape := ⟨1, ![512]⟩
abbrev S16384 : Shape := ⟨1, ![16384]⟩
abbrev S16384x1 : Shape := ⟨2, ![16384, 1]⟩
abbrev S128x128x4x128 : Shape := ⟨4, ![128, 128, 4, 128]⟩
abbrev S4x128x128x128 : Shape := ⟨4, ![4, 128, 128, 128]⟩
abbrev S1x128x4x128 : Shape := ⟨4, ![1, 128, 4, 128]⟩

abbrev nBuf : Space → Nat
  | .hbm => 283
  | .vmem => 0
  | .smem => 0
  | _ => 0

abbrev hbmTy0_0 (i : Nat) : BufTy := match i % 128 with
  | 0 => ⟨S16384x2560, .bf16⟩
  | 1 => ⟨S16384x512, .f32⟩
  | 2 => ⟨S16384x512, .f32⟩
  | 3 => ⟨S3x512, .f32⟩
  | 4 => ⟨S1x512, .f32⟩
  | 5 => ⟨S1x512, .f32⟩
  | 6 => ⟨S4x128x128, .f32⟩
  | 7 => ⟨S4x128, .f32⟩
  | 8 => ⟨S128x4, .f32⟩
  | 9 => ⟨S128x4x128, .f32⟩
  | 10 => ⟨S128x512, .f32⟩
  | 11 => ⟨S16384x2560, .f32⟩
  | 12 => ⟨S16384x512, .f32⟩
  | 13 => ⟨S16384x512, .f32⟩
  | 14 => ⟨S16384x512, .f32⟩
  | 15 => ⟨S16384x512, .f32⟩
  | 16 => ⟨S16384x512, .f32⟩
  | 17 => ⟨S16384x512, .f32⟩
  | 18 => ⟨S_, .f32⟩
  | 19 => ⟨S1x512, .f32⟩
  | 20 => ⟨S_, .f32⟩
  | 21 => ⟨S1x512, .f32⟩
  | 22 => ⟨S16386x512, .f32⟩
  | 23 => ⟨S_, .f32⟩
  | 24 => ⟨S1x512, .f32⟩
  | 25 => ⟨S_, .f32⟩
  | 26 => ⟨S1x512, .f32⟩
  | 27 => ⟨S16384x512, .f32⟩
  | 28 => ⟨S1x512, .f32⟩
  | 29 => ⟨S512, .f32⟩
  | 30 => ⟨S1x512, .f32⟩
  | 31 => ⟨S16384x512, .f32⟩
  | 32 => ⟨S16384x512, .f32⟩
  | 33 => ⟨S16384x512, .f32⟩
  | 34 => ⟨S1x512, .f32⟩
  | 35 => ⟨S512, .f32⟩
  | 36 => ⟨S1x512, .f32⟩
  | 37 => ⟨S16384x512, .f32⟩
  | 38 => ⟨S16384x512, .f32⟩
  | 39 => ⟨S16384x512, .f32⟩
  | 40 => ⟨S16384x512, .f32⟩
  | 41 => ⟨S1x512, .f32⟩
  | 42 => ⟨S512, .f32⟩
  | 43 => ⟨S1x512, .f32⟩
  | 44 => ⟨S16384x512, .f32⟩
  | 45 => ⟨S16384x512, .f32⟩
  | 46 => ⟨S16384x512, .f32⟩
  | 47 => ⟨S16384x512, .f32⟩
  | 48 => ⟨S16384x512, .f32⟩
  | 49 => ⟨S16384x512, .f32⟩
  | 50 => ⟨S16384x512, .f32⟩
  | 51 => ⟨S_, .f32⟩
  | 52 => ⟨S16384x512, .f32⟩
  | 53 => ⟨S16384x512, .f32⟩
  | 54 => ⟨S_, .f32⟩
  | 55 => ⟨S16384x512, .f32⟩
  | 56 => ⟨S16384x512, .f32⟩
  | 57 => ⟨S16384x512, .f32⟩
  | 58 => ⟨S_, .f32⟩
  | 59 => ⟨S16384x512, .f32⟩
  | 60 => ⟨S16384x512, .f32⟩
  | 61 => ⟨S16384x512, .f32⟩
  | 62 => ⟨S_, .f32⟩
  | 63 => ⟨S16384x512, .f32⟩
  | 64 => ⟨S16384x512, .f32⟩
  | 65 => ⟨S_, .f32⟩
  | 66 => ⟨S16384x512, .f32⟩
  | 67 => ⟨S16384x512, .f32⟩
  | 68 => ⟨S16384x512, .f32⟩
  | 69 => ⟨S_, .f32⟩
  | 70 => ⟨S16384x512, .f32⟩
  | 71 => ⟨S16384x512, .f32⟩
  | 72 => ⟨S_, .f32⟩
  | 73 => ⟨S16384x512, .f32⟩
  | 74 => ⟨S16384x512, .f32⟩
  | 75 => ⟨S16384x512, .f32⟩
  | 76 => ⟨S16384x512, .f32⟩
  | 77 => ⟨S16384x512, .f32⟩
  | 78 => ⟨S16384x512, .f32⟩
  | 79 => ⟨S_, .f32⟩
  | 80 => ⟨S16384x512, .f32⟩
  | 81 => ⟨S16384x512, .f32⟩
  | 82 => ⟨S_, .f32⟩
  | 83 => ⟨S16384x512, .f32⟩
  | 84 => ⟨S16384x512, .f32⟩
  | 85 => ⟨S16384x512, .f32⟩
  | 86 => ⟨S_, .f32⟩
  | 87 => ⟨S16384x512, .f32⟩
  | 88 => ⟨S16384x512, .f32⟩
  | 89 => ⟨S16384x512, .f32⟩
  | 90 => ⟨S_, .f32⟩
  | 91 => ⟨S16384x512, .f32⟩
  | 92 => ⟨S16384x512, .f32⟩
  | 93 => ⟨S_, .f32⟩
  | 94 => ⟨S16384x512, .f32⟩
  | 95 => ⟨S16384x512, .f32⟩
  | 96 => ⟨S16384x512, .f32⟩
  | 97 => ⟨S_, .f32⟩
  | 98 => ⟨S16384x512, .f32⟩
  | 99 => ⟨S16384x512, .f32⟩
  | 100 => ⟨S_, .f32⟩
  | 101 => ⟨S16384x512, .f32⟩
  | 102 => ⟨S16384x512, .f32⟩
  | 103 => ⟨S16384x512, .f32⟩
  | 104 => ⟨S_, .f32⟩
  | 105 => ⟨S16384, .f32⟩
  | 106 => ⟨S16384x1, .f32⟩
  | 107 => ⟨S_, .f32⟩
  | 108 => ⟨S16384x1, .f32⟩
  | 109 => ⟨S16384x1, .f32⟩
  | 110 => ⟨S16384x512, .f32⟩
  | 111 => ⟨S16384x512, .f32⟩
  | 112 => ⟨S16384x512, .f32⟩
  | 113 => ⟨S_, .f32⟩
  | 114 => ⟨S16384x512, .f32⟩
  | 115 => ⟨S16384x512, .f32⟩
  | 116 => ⟨S_, .f32⟩
  | 117 => ⟨S16384, .f32⟩
  | 118 => ⟨S16384x1, .f32⟩
  | 119 => ⟨S_, .f32⟩
  | 120 => ⟨S16384x1, .f32⟩
  | 121 => ⟨S16384x1, .f32⟩
  | 122 => ⟨S16384x512, .f32⟩
  | 123 => ⟨S16384x512, .f32⟩
  | 124 => ⟨S_, .f32⟩
  | 125 => ⟨S16384x1, .f32⟩
  | 126 => ⟨S16384x1, .f32⟩
  | 127 => ⟨S16384x1, .f32⟩
  | _ => ⟨S16384x2560, .bf16⟩

abbrev hbmTy0_1 (i : Nat) : BufTy := match i % 128 with
  | 0 => ⟨S16384x1, .f32⟩
  | 1 => ⟨S_, .f32⟩
  | 2 => ⟨S16384x1, .f32⟩
  | 3 => ⟨S16384x1, .f32⟩
  | 4 => ⟨S16384x512, .f32⟩
  | 5 => ⟨S16384x512, .f32⟩
  | 6 => ⟨S16384x512, .f32⟩
  | 7 => ⟨S16384x512, .f32⟩
  | 8 => ⟨S16384x512, .f32⟩
  | 9 => ⟨S16384x512, .f32⟩
  | 10 => ⟨S128x128x4x128, .f32⟩
  | 11 => ⟨S4x128x128x128, .f32⟩
  | 12 => ⟨S128x128x4x128, .f32⟩
  | 13 => ⟨S128x4x128, .f32⟩
  | 14 => ⟨S1x128x4x128, .f32⟩
  | 15 => ⟨S128x128x4x128, .f32⟩
  | 16 => ⟨S128x128x4x128, .f32⟩
  | 17 => ⟨S16384x512, .f32⟩
  | 18 => ⟨S16384x512, .f32⟩
  | 19 => ⟨S16384x512, .f32⟩
  | 20 => ⟨S16384x512, .f32⟩
  | 21 => ⟨S128x128x4x128, .f32⟩
  | 22 => ⟨S_, .f32⟩
  | 23 => ⟨S128x4x128, .f32⟩
  | 24 => ⟨S1x128x4x128, .f32⟩
  | 25 => ⟨S_, .f32⟩
  | 26 => ⟨S128x4x128, .f32⟩
  | 27 => ⟨S128x512, .f32⟩
  | 28 => ⟨S4x128x128x128, .f32⟩
  | 29 => ⟨S4x128x128, .f32⟩
  | 30 => ⟨S4x128x128x128, .f32⟩
  | 31 => ⟨S128x128x4x128, .f32⟩
  | 32 => ⟨S16384x512, .f32⟩
  | 33 => ⟨S_, .f32⟩
  | 34 => ⟨S512, .f32⟩
  | 35 => ⟨S1x512, .f32⟩
  | 36 => ⟨S16384x512, .f32⟩
  | 37 => ⟨S_, .f32⟩
  | 38 => ⟨S512, .f32⟩
  | 39 => ⟨S1x512, .f32⟩
  | 40 => ⟨S16384x512, .f32⟩
  | 41 => ⟨S16384x512, .f32⟩
  | 42 => ⟨S16384x512, .f32⟩
  | 43 => ⟨S_, .f32⟩
  | 44 => ⟨S16384, .f32⟩
  | 45 => ⟨S16384x1, .f32⟩
  | 46 => ⟨S16384x512, .f32⟩
  | 47 => ⟨S16384x512, .f32⟩
  | 48 => ⟨S16384x1, .f32⟩
  | 49 => ⟨S16384x512, .f32⟩
  | 50 => ⟨S_, .f32⟩
  | 51 => ⟨S16384, .f32⟩
  | 52 => ⟨S16384x1, .f32⟩
  | 53 => ⟨S_, .f32⟩
  | 54 => ⟨S16384x1, .f32⟩
  | 55 => ⟨S16384x1, .f32⟩
  | 56 => ⟨S_, .f32⟩
  | 57 => ⟨S16384, .f32⟩
  | 58 => ⟨S16384x512, .f32⟩
  | 59 => ⟨S16384x512, .f32⟩
  | 60 => ⟨S16384x512, .f32⟩
  | 61 => ⟨S_, .f32⟩
  | 62 => ⟨S16384, .f32⟩
  | 63 => ⟨S16384x1, .f32⟩
  | 64 => ⟨S16384x512, .f32⟩
  | 65 => ⟨S16384x1, .f32⟩
  | 66 => ⟨S_, .f32⟩
  | 67 => ⟨S16384x1, .f32⟩
  | 68 => ⟨S16384x1, .f32⟩
  | 69 => ⟨S_, .f32⟩
  | 70 => ⟨S16384, .f32⟩
  | 71 => ⟨S16384x512, .f32⟩
  | 72 => ⟨S16384x512, .f32⟩
  | 73 => ⟨S16384x512, .f32⟩
  | 74 => ⟨S16384x512, .f32⟩
  | 75 => ⟨S_, .f32⟩
  | 76 => ⟨S16384x512, .f32⟩
  | 77 => ⟨S16384x512, .f32⟩
  | 78 => ⟨S16384x512, .f32⟩
  | 79 => ⟨S_, .f32⟩
  | 80 => ⟨S16384x512, .f32⟩
  | 81 => ⟨S16384x512, .f32⟩
  | 82 => ⟨S16384x512, .f32⟩
  | 83 => ⟨S_, .f32⟩
  | 84 => ⟨S16384x512, .f32⟩
  | 85 => ⟨S16384x512, .f32⟩
  | 86 => ⟨S16384x512, .f32⟩
  | 87 => ⟨S16384x512, .f32⟩
  | 88 => ⟨S16384x512, .f32⟩
  | 89 => ⟨S16384x512, .f32⟩
  | 90 => ⟨S_, .f32⟩
  | 91 => ⟨S16384x512, .f32⟩
  | 92 => ⟨S16384x512, .f32⟩
  | 93 => ⟨S16384x512, .f32⟩
  | 94 => ⟨S_, .f32⟩
  | 95 => ⟨S16384x512, .f32⟩
  | 96 => ⟨S16384x512, .f32⟩
  | 97 => ⟨S16384x512, .f32⟩
  | 98 => ⟨S_, .f32⟩
  | 99 => ⟨S16384x512, .f32⟩
  | 100 => ⟨S16384x512, .f32⟩
  | 101 => ⟨S16384x512, .f32⟩
  | 102 => ⟨S16384x512, .f32⟩
  | 103 => ⟨S16384x512, .f32⟩
  | 104 => ⟨S16384x512, .f32⟩
  | 105 => ⟨S16384x512, .f32⟩
  | 106 => ⟨S_, .f32⟩
  | 107 => ⟨S512, .f32⟩
  | 108 => ⟨S1x512, .f32⟩
  | 109 => ⟨S16384x512, .f32⟩
  | 110 => ⟨S16384x512, .f32⟩
  | 111 => ⟨S_, .f32⟩
  | 112 => ⟨S512, .f32⟩
  | 113 => ⟨S1x512, .f32⟩
  | 114 => ⟨S_, .f32⟩
  | 115 => ⟨S3x512, .f32⟩
  | 116 => ⟨S_, .f32⟩
  | 117 => ⟨S16386x512, .f32⟩
  | 118 => ⟨S16384x512, .f32⟩
  | 119 => ⟨S_, .f32⟩
  | 120 => ⟨S512, .f32⟩
  | 121 => ⟨S1x512, .f32⟩
  | 122 => ⟨S16384x512, .f32⟩
  | 123 => ⟨S16384x512, .f32⟩
  | 124 => ⟨S_, .f32⟩
  | 125 => ⟨S512, .f32⟩
  | 126 => ⟨S1x512, .f32⟩
  | 127 => ⟨S_, .f32⟩
  | _ => ⟨S16384x2560, .bf16⟩

abbrev hbmTy0_2 (i : Nat) : BufTy := match i % 128 with
  | 0 => ⟨S3x512, .f32⟩
  | 1 => ⟨S3x512, .f32⟩
  | 2 => ⟨S_, .f32⟩
  | 3 => ⟨S16386x512, .f32⟩
  | 4 => ⟨S16386x512, .f32⟩
  | 5 => ⟨S16384x512, .f32⟩
  | 6 => ⟨S_, .f32⟩
  | 7 => ⟨S512, .f32⟩
  | 8 => ⟨S1x512, .f32⟩
  | 9 => ⟨S16384x512, .f32⟩
  | 10 => ⟨S16384x512, .f32⟩
  | 11 => ⟨S_, .f32⟩
  | 12 => ⟨S512, .f32⟩
  | 13 => ⟨S1x512, .f32⟩
  | 14 => ⟨S_, .f32⟩
  | 15 => ⟨S3x512, .f32⟩
  | 16 => ⟨S3x512, .f32⟩
  | 17 => ⟨S_, .f32⟩
  | 18 => ⟨S16386x512, .f32⟩
  | 19 => ⟨S16386x512, .f32⟩
  | 20 => ⟨S1x512, .f32⟩
  | 21 => ⟨S16384x512, .f32⟩
  | 22 => ⟨S1x512, .f32⟩
  | 23 => ⟨S16384x512, .f32⟩
  | 24 => ⟨S16384x512, .f32⟩
  | 25 => ⟨S16384x2560, .f32⟩
  | 26 => ⟨S16384x2560, .bf16⟩
  | _ => ⟨S16384x2560, .bf16⟩

abbrev hbmTy (i : Nat) : BufTy := match i / 128 with
  | 0 => hbmTy0_0 i
  | 1 => hbmTy0_1 i
  | 2 => hbmTy0_2 i
  | _ => ⟨S16384x2560, .bf16⟩

abbrev bufTy : (tb : Table) → Fin (tcTables nBuf tb) → BufTy
  | .hbm, ⟨i, _⟩ => hbmTy i
  | _, _ => ⟨S16384x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_6 : Ref sig .tc := ⟨.hbm, 62, rfl⟩
abbrev main_v47 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_13 : Ref sig .tc := ⟨.hbm, 90, rfl⟩
abbrev main_v68 : Ref sig .tc := ⟨.hbm, 91, rfl⟩
abbrev main_v69 : Ref sig .tc := ⟨.hbm, 92, rfl⟩
abbrev main_cst_14 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_15 : Ref sig .tc := ⟨.hbm, 97, rfl⟩
abbrev main_v73 : Ref sig .tc := ⟨.hbm, 98, rfl⟩
abbrev main_v74 : Ref sig .tc := ⟨.hbm, 99, rfl⟩
abbrev main_cst_16 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_17 : Ref sig .tc := ⟨.hbm, 104, rfl⟩
abbrev main_v78 : Ref sig .tc := ⟨.hbm, 105, rfl⟩
abbrev main_v79 : Ref sig .tc := ⟨.hbm, 106, rfl⟩
abbrev main_cst_18 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_19 : Ref sig .tc := ⟨.hbm, 113, rfl⟩
abbrev main_v85 : Ref sig .tc := ⟨.hbm, 114, rfl⟩
abbrev main_v86 : Ref sig .tc := ⟨.hbm, 115, rfl⟩
abbrev main_cst_20 : Ref sig .tc := ⟨.hbm, 116, rfl⟩
abbrev main_v87 : Ref sig .tc := ⟨.hbm, 117, rfl⟩
abbrev main_v88 : Ref sig .tc := ⟨.hbm, 118, rfl⟩
abbrev main_cst_21 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_22 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_23 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_24 : Ref sig .tc := ⟨.hbm, 150, rfl⟩
abbrev main_v117 : Ref sig .tc := ⟨.hbm, 151, rfl⟩
abbrev main_v118 : Ref sig .tc := ⟨.hbm, 152, rfl⟩
abbrev main_cst_25 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_26 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_27 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_28 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_cst_29 : Ref sig .tc := ⟨.hbm, 178, rfl⟩
abbrev main_v140 : Ref sig .tc := ⟨.hbm, 179, rfl⟩
abbrev main_v141 : Ref sig .tc := ⟨.hbm, 180, rfl⟩
abbrev main_cst_30 : Ref sig .tc := ⟨.hbm, 181, rfl⟩
abbrev main_v142 : Ref sig .tc := ⟨.hbm, 182, rfl⟩
abbrev main_v143 : Ref sig .tc := ⟨.hbm, 183, rfl⟩
abbrev main_cst_31 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_cst_32 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_33 : Ref sig .tc := ⟨.hbm, 194, rfl⟩
abbrev main_v152 : Ref sig .tc := ⟨.hbm, 195, rfl⟩
abbrev main_v153 : Ref sig .tc := ⟨.hbm, 196, rfl⟩
abbrev main_cst_34 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_cst_35 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_cst_36 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_cst_37 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_cst_38 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_cst_39 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_cst_40 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_cst_41 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_cst_42 : Ref sig .tc := ⟨.hbm, 239, rfl⟩
abbrev main_v188 : Ref sig .tc := ⟨.hbm, 240, rfl⟩
abbrev main_v189 : Ref sig .tc := ⟨.hbm, 241, rfl⟩
abbrev main_cst_43 : Ref sig .tc := ⟨.hbm, 242, rfl⟩
abbrev main_v190 : Ref sig .tc := ⟨.hbm, 243, rfl⟩
abbrev main_cst_44 : Ref sig .tc := ⟨.hbm, 244, rfl⟩
abbrev main_v191 : Ref sig .tc := ⟨.hbm, 245, rfl⟩
abbrev main_v192 : Ref sig .tc := ⟨.hbm, 246, rfl⟩
abbrev main_cst_45 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_cst_46 : Ref sig .tc := ⟨.hbm, 252, rfl⟩
abbrev main_v197 : Ref sig .tc := ⟨.hbm, 253, rfl⟩
abbrev main_v198 : Ref sig .tc := ⟨.hbm, 254, rfl⟩
abbrev main_cst_47 : Ref sig .tc := ⟨.hbm, 255, rfl⟩
abbrev main_v199 : Ref sig .tc := ⟨.hbm, 256, rfl⟩
abbrev main_v200 : Ref sig .tc := ⟨.hbm, 257, rfl⟩
abbrev main_cst_48 : Ref sig .tc := ⟨.hbm, 258, rfl⟩
abbrev main_v201 : Ref sig .tc := ⟨.hbm, 259, rfl⟩
abbrev main_v202 : Ref sig .tc := ⟨.hbm, 260, rfl⟩
abbrev main_v203 : Ref sig .tc := ⟨.hbm, 261, rfl⟩
abbrev main_cst_49 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_cst_50 : Ref sig .tc := ⟨.hbm, 267, rfl⟩
abbrev main_v208 : Ref sig .tc := ⟨.hbm, 268, rfl⟩
abbrev main_v209 : Ref sig .tc := ⟨.hbm, 269, rfl⟩
abbrev main_cst_51 : Ref sig .tc := ⟨.hbm, 270, rfl⟩
abbrev main_v210 : Ref sig .tc := ⟨.hbm, 271, rfl⟩
abbrev main_v211 : Ref sig .tc := ⟨.hbm, 272, rfl⟩
abbrev main_cst_52 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_v216 : Ref sig .tc := ⟨.hbm, 278, rfl⟩
abbrev main_v217 : Ref sig .tc := ⟨.hbm, 279, rfl⟩
abbrev main_v218 : Ref sig .tc := ⟨.hbm, 280, rfl⟩
abbrev main_v219 : Ref sig .tc := ⟨.hbm, 281, rfl⟩
abbrev main_v220 : Ref sig .tc := ⟨.hbm, 282, rfl⟩

abbrev nD : Nat := 1
abbrev τ : Topo := Topo.v7x

variable {F : FTy → Type} [FloatOps F]
-- ==== KMix.lean ====
abbrev S16384x2560 : Shape := ⟨2, ![16384, 2560]⟩
abbrev S3x512 : Shape := ⟨2, ![3, 512]⟩
abbrev S1x512 : Shape := ⟨2, ![1, 512]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S16384x512 : Shape := ⟨2, ![16384, 512]⟩
abbrev S256x2560 : Shape := ⟨2, ![256, 2560]⟩
abbrev S16x2560 : Shape := ⟨2, ![16, 2560]⟩
abbrev S256x512 : Shape := ⟨2, ![256, 512]⟩
abbrev S16x512 : Shape := ⟨2, ![16, 512]⟩
abbrev S288x512 : Shape := ⟨2, ![288, 512]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩

abbrev nBuf : Space → Nat
  | .hbm => 12
  | .vmem => 16
  | .smem => 0
  | _ => 0

abbrev bufTy : (tb : Table) → Fin (tcTables nBuf tb) → BufTy
  | .hbm, ⟨0, _⟩ => ⟨S16384x2560, .bf16⟩
  | .hbm, ⟨1, _⟩ => ⟨S3x512, .f32⟩
  | .hbm, ⟨2, _⟩ => ⟨S1x512, .f32⟩
  | .hbm, ⟨3, _⟩ => ⟨S1x512, .f32⟩
  | .hbm, ⟨4, _⟩ => ⟨S4x128x128, .f32⟩
  | .hbm, ⟨5, _⟩ => ⟨S4x128, .f32⟩
  | .hbm, ⟨6, _⟩ => ⟨S128x4, .f32⟩
  | .hbm, ⟨7, _⟩ => ⟨S128x4x128, .f32⟩
  | .hbm, ⟨8, _⟩ => ⟨S128x512, .f32⟩
  | .hbm, ⟨9, _⟩ => ⟨S4x128x128, .bf16⟩
  | .hbm, ⟨10, _⟩ => ⟨S16384x512, .bf16⟩
  | .hbm, ⟨11, _⟩ => ⟨S16384x512, .bf16⟩
  | .local _ .vmem, ⟨0, _⟩ => ⟨S256x2560, .bf16⟩
  | .local _ .vmem, ⟨1, _⟩ => ⟨S256x2560, .bf16⟩
  | .local _ .vmem, ⟨2, _⟩ => ⟨S16x2560, .bf16⟩
  | .local _ .vmem, ⟨3, _⟩ => ⟨S16x2560, .bf16⟩
  | .local _ .vmem, ⟨4, _⟩ => ⟨S16x2560, .bf16⟩
  | .local _ .vmem, ⟨5, _⟩ => ⟨S16x2560, .bf16⟩
  | .local _ .vmem, ⟨6, _⟩ => ⟨S3x512, .f32⟩
  | .local _ .vmem, ⟨7, _⟩ => ⟨S1x512, .f32⟩
  | .local _ .vmem, ⟨8, _⟩ => ⟨S1x512, .f32⟩
  | .local _ .vmem, ⟨9, _⟩ => ⟨S4x128x128, .bf16⟩
  | .local _ .vmem, ⟨10, _⟩ => ⟨S128x512, .f32⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .f32⟩
  | _, _ => ⟨S16384x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KMixIdeal.lean ====
variable {F : FTy → Type} [FloatOps F] [Named F]
def κ : String → Option EReal := fun
  | "gelu_kc" => some ((80338380498831 / 2251799813685248 : ℝ) : EReal)
  | _ => none
-- ==== RMixIdeal.lean ====
abbrev S16384x2560 : Shape := ⟨2, ![16384, 2560]⟩
abbrev S3x512 : Shape := ⟨2, ![3, 512]⟩
abbrev S1x512 : Shape := ⟨2, ![1, 512]⟩
abbrev S4x128x128 : Shape := ⟨3, ![4, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S16384x512 : Shape := ⟨2, ![16384, 512]⟩
abbrev S_ : Shape := ⟨0, ![]⟩
abbrev S16386x512 : Shape := ⟨2, ![16386, 512]⟩
abbrev S512 : Shape := ⟨1, ![512]⟩
abbrev S16384 : Shape := ⟨1, ![16384]⟩
abbrev S16384x1 : Shape := ⟨2, ![16384, 1]⟩
abbrev S128x128x4x128 : Shape := ⟨4, ![128, 128, 4, 128]⟩
abbrev S4x128x128x128 : Shape := ⟨4, ![4, 128, 128, 128]⟩
abbrev S1x128x4x128 : Shape := ⟨4, ![1, 128, 4, 128]⟩

abbrev nBuf : Space → Nat
  | .hbm => 114
  | .vmem => 0
  | .smem => 0
  | _ => 0

abbrev bufTy : (tb : Table) → Fin (tcTables nBuf tb) → BufTy
  | .hbm, ⟨0, _⟩ => ⟨S16384x2560, .bf16⟩
  | .hbm, ⟨1, _⟩ => ⟨S3x512, .f32⟩
  | .hbm, ⟨2, _⟩ => ⟨S1x512, .f32⟩
  | .hbm, ⟨3, _⟩ => ⟨S1x512, .f32⟩
  | .hbm, ⟨4, _⟩ => ⟨S4x128x128, .f32⟩
  | .hbm, ⟨5, _⟩ => ⟨S4x128, .f32⟩
  | .hbm, ⟨6, _⟩ => ⟨S128x4, .f32⟩
  | .hbm, ⟨7, _⟩ => ⟨S128x4x128, .f32⟩
  | .hbm, ⟨8, _⟩ => ⟨S128x512, .f32⟩
  | .hbm, ⟨9, _⟩ => ⟨S16384x2560, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S1x512, .f32⟩
  | .hbm, ⟨18, _⟩ => ⟨S_, .f32⟩
  | .hbm, ⟨19, _⟩ => ⟨S1x512, .f32⟩
  | .hbm, ⟨20, _⟩ => ⟨S16386x512, .f32⟩
  | .hbm, ⟨21, _⟩ => ⟨S16384x512, .f32⟩
  | .hbm, ⟨22, _⟩ => ⟨S1x512, .f32⟩
  | .hbm, ⟨23, _⟩ => ⟨S512, .f32⟩
  | .hbm, ⟨24, _⟩ => ⟨S1x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S1x512, .f32⟩
  | .hbm, ⟨29, _⟩ => ⟨S512, .f32⟩
  | .hbm, ⟨30, _⟩ => ⟨S1x512, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S1x512, .f32⟩
  | .hbm, ⟨36, _⟩ => ⟨S512, .f32⟩
  | .hbm, ⟨37, _⟩ => ⟨S1x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S_, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S_, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S16384x512, .f32⟩
  | .hbm, ⟨59, _⟩ => ⟨S16384x512, .f32⟩
  | .hbm, ⟨60, _⟩ => ⟨S16384x512, .f32⟩
  | .hbm, ⟨61, _⟩ => ⟨S_, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S_, .f32⟩
  | .hbm, ⟨66, _⟩ => ⟨S16384x512, .f32⟩
  | .hbm, ⟨67, _⟩ => ⟨S16384x512, .f32⟩
  | .hbm, ⟨68, _⟩ => ⟨S16384x512, .f32⟩
  | .hbm, ⟨69, _⟩ => ⟨S_, .f32⟩
  | .hbm, ⟨70, _⟩ => ⟨S16384x512, .f32⟩
  | .hbm, ⟨71, _⟩ => ⟨S16384x512, .f32⟩
  | .hbm, ⟨72, _⟩ => ⟨S_, .f32⟩
  | .hbm, ⟨73, _⟩ => ⟨S16384x512, .f32⟩
  | .hbm, ⟨74, _⟩ => ⟨S16384x512, .f32⟩
  | .hbm, ⟨75, _⟩ => ⟨S16384x512, .f32⟩
  | .hbm, ⟨76, _⟩ => ⟨S_, .f32⟩
  | .hbm, ⟨77, _⟩ => ⟨S16384, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x512, .f32⟩
  | .hbm, ⟨83, _⟩ => ⟨S16384x512, .f32⟩
  | .hbm, ⟨84, _⟩ => ⟨S16384x512, .f32⟩
  | .hbm, ⟨85, _⟩ => ⟨S_, .f32⟩
  | .hbm, ⟨86, _⟩ => ⟨S16384, .f32⟩
  | .hbm, ⟨87, _⟩ => ⟨S16384x1, .f32⟩
  | .hbm, ⟨88, _⟩ => ⟨S_, .f32⟩
  | .hbm, ⟨89, _⟩ => ⟨S16384x1, .f32⟩
  | .hbm, ⟨90, _⟩ => ⟨S16384x1, .f32⟩
  | .hbm, ⟨91, _⟩ => ⟨S16384x512, .f32⟩
  | .hbm, ⟨92, _⟩ => ⟨S16384x512, .f32⟩
  | .hbm, ⟨93, _⟩ => ⟨S_, .f32⟩
  | .hbm, ⟨94, _⟩ => ⟨S16384x1, .f32⟩
  | .hbm, ⟨95, _⟩ => ⟨S16384x1, .f32⟩
  | .hbm, ⟨96, _⟩ => ⟨S16384x1, .f32⟩
  | .hbm, ⟨97, _⟩ => ⟨S16384x512, .f32⟩
  | .hbm, ⟨98, _⟩ => ⟨S16384x512, .f32⟩
  | .hbm, ⟨99, _⟩ => ⟨S16384x512, .f32⟩
  | .hbm, ⟨100, _⟩ => ⟨S16384x512, .f32⟩
  | .hbm, ⟨101, _⟩ => ⟨S16384x512, .f32⟩
  | .hbm, ⟨102, _⟩ => ⟨S16384x512, .f32⟩
  | .hbm, ⟨103, _⟩ => ⟨S128x128x4x128, .f32⟩
  | .hbm, ⟨104, _⟩ => ⟨S4x128x128x128, .f32⟩
  | .hbm, ⟨105, _⟩ => ⟨S128x128x4x128, .f32⟩
  | .hbm, ⟨106, _⟩ => ⟨S128x4x128, .f32⟩
  | .hbm, ⟨107, _⟩ => ⟨S1x128x4x128, .f32⟩
  | .hbm, ⟨108, _⟩ => ⟨S128x128x4x128, .f32⟩
  | .hbm, ⟨109, _⟩ => ⟨S128x128x4x128, .f32⟩
  | .hbm, ⟨110, _⟩ => ⟨S16384x512, .f32⟩
  | .hbm, ⟨111, _⟩ => ⟨S16384x512, .f32⟩
  | .hbm, ⟨112, _⟩ => ⟨S16384x512, .bf16⟩
  | .hbm, ⟨113, _⟩ => ⟨S16384x512, .bf16⟩
  | _, _ => ⟨S16384x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_1 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_3 : Ref sig .tc := ⟨.hbm, 52, rfl⟩
abbrev main_v42 : Ref sig .tc := ⟨.hbm, 53, rfl⟩
abbrev main_v43 : Ref sig .tc := ⟨.hbm, 54, rfl⟩
abbrev main_cst_4 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_7 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_v61 : Ref sig .tc := ⟨.hbm, 78, rfl⟩
abbrev main_cst_10 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_v68 : Ref sig .tc := ⟨.hbm, 87, rfl⟩
abbrev main_cst_12 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_13 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩

abbrev nD : Nat := 1
abbrev τ : Topo := Topo.v7x

variable {F : FTy → Type} [FloatOps F]
-- ==== KUp.lean ====
abbrev S16384x1024 : Shape := ⟨2, ![16384, 1024]⟩
abbrev S1x1024 : Shape := ⟨2, ![1, 1024]⟩
abbrev S1024x2816 : Shape := ⟨2, ![1024, 2816]⟩
abbrev S16384x2816 : Shape := ⟨2, ![16384, 2816]⟩
abbrev S512x1024 : Shape := ⟨2, ![512, 1024]⟩
abbrev S512x2816 : Shape := ⟨2, ![512, 2816]⟩
abbrev S_ : Shape := ⟨0, ![]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S16384x1024, .bf16⟩
  | .hbm, ⟨5, _⟩ => ⟨S16384x2816, .bf16⟩
  | .hbm, ⟨6, _⟩ => ⟨S16384x2816, .bf16⟩
  | .hbm, ⟨7, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S1024x2816, .bf16⟩
  | .local _ .vmem, ⟨12, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RUpIdeal.lean ====
abbrev S16384x1024 : Shape := ⟨2, ![16384, 1024]⟩
abbrev S1x1024 : Shape := ⟨2, ![1, 1024]⟩
abbrev S1024x2816 : Shape := ⟨2, ![1024, 2816]⟩
abbrev S_ : Shape := ⟨0, ![]⟩
abbrev S16384 : Shape := ⟨1, ![16384]⟩
abbrev S16384x1 : Shape := ⟨2, ![16384, 1]⟩
abbrev S16384x2816 : Shape := ⟨2, ![16384, 2816]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2816, .bf16⟩
  | .hbm, ⟨3, _⟩ => ⟨S1024x2816, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S1024x2816, .f32⟩
  | .hbm, ⟨20, _⟩ => ⟨S16384x2816, .f32⟩
  | .hbm, ⟨21, _⟩ => ⟨S1024x2816, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x1024, .bf16⟩
  | .hbm, ⟨34, _⟩ => ⟨S16384x2816, .bf16⟩
  | .hbm, ⟨35, _⟩ => ⟨S16384x2816, .bf16⟩
  | .hbm, ⟨36, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]
-- ==== KDown.lean ====
abbrev S16384x2816 : Shape := ⟨2, ![16384, 2816]⟩
abbrev S16384x1024 : Shape := ⟨2, ![16384, 1024]⟩
abbrev S1x1024 : Shape := ⟨2, ![1, 1024]⟩
abbrev S2816x1024 : Shape := ⟨2, ![2816, 1024]⟩
abbrev S512x2816 : Shape := ⟨2, ![512, 2816]⟩
abbrev S512x1024 : Shape := ⟨2, ![512, 1024]⟩
abbrev S_ : Shape := ⟨0, ![]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S1x1024, .f32⟩
  | .hbm, ⟨3, _⟩ => ⟨S2816x1024, .bf16⟩
  | .hbm, ⟨4, _⟩ => ⟨S16384x1024, .f32⟩
  | .hbm, ⟨5, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S2816x1024, .bf16⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RDownIdeal.lean ====
abbrev S16384x2816 : Shape := ⟨2, ![16384, 2816]⟩
abbrev S16384x1024 : Shape := ⟨2, ![16384, 1024]⟩
abbrev S1x1024 : Shape := ⟨2, ![1, 1024]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .f32⟩
  | .hbm, ⟨2, _⟩ => ⟨S1x1024, .f32⟩
  | .hbm, ⟨3, _⟩ => ⟨S2816x1024, .bf16⟩
  | .hbm, ⟨4, _⟩ => ⟨S16384x2816, .f32⟩
  | .hbm, ⟨5, _⟩ => ⟨S2816x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== KIn.lean ====
abbrev S16384x1024 : Shape := ⟨2, ![16384, 1024]⟩
abbrev S1x1024 : Shape := ⟨2, ![1, 1024]⟩
abbrev S1024x7680 : Shape := ⟨2, ![1024, 7680]⟩
abbrev S1024x1024 : Shape := ⟨2, ![1024, 1024]⟩
abbrev S1024x2560 : Shape := ⟨2, ![1024, 2560]⟩
abbrev S1024x3072 : Shape := ⟨2, ![1024, 3072]⟩
abbrev S16384x2560 : Shape := ⟨2, ![16384, 2560]⟩
abbrev S16384x3072 : Shape := ⟨2, ![16384, 3072]⟩
abbrev S512x1024 : Shape := ⟨2, ![512, 1024]⟩
abbrev S512x2560 : Shape := ⟨2, ![512, 2560]⟩
abbrev S512x3072 : Shape := ⟨2, ![512, 3072]⟩
abbrev S_ : Shape := ⟨0, ![]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x7680, .bf16⟩
  | .hbm, ⟨3, _⟩ => ⟨S1024x1024, .bf16⟩
  | .hbm, ⟨4, _⟩ => ⟨S1024x1024, .bf16⟩
  | .hbm, ⟨5, _⟩ => ⟨S1024x2560, .bf16⟩
  | .hbm, ⟨6, _⟩ => ⟨S1024x3072, .bf16⟩
  | .hbm, ⟨7, _⟩ => ⟨S16384x1024, .bf16⟩
  | .hbm, ⟨8, _⟩ => ⟨S16384x1024, .bf16⟩
  | .hbm, ⟨9, _⟩ => ⟨S16384x1024, .bf16⟩
  | .hbm, ⟨10, _⟩ => ⟨S16384x2560, .bf16⟩
  | .hbm, ⟨11, _⟩ => ⟨S16384x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x2560, .bf16⟩
  | .local _ .vmem, ⟨10, _⟩ => ⟨S512x2560, .bf16⟩
  | .local _ .vmem, ⟨11, _⟩ => ⟨S512x3072, .bf16⟩
  | .local _ .vmem, ⟨12, _⟩ => ⟨S512x3072, .bf16⟩
  | .local _ .vmem, ⟨13, _⟩ => ⟨S1024x1024, .bf16⟩
  | .local _ .vmem, ⟨14, _⟩ => ⟨S1024x1024, .bf16⟩
  | .local _ .vmem, ⟨15, _⟩ => ⟨S1024x2560, .bf16⟩
  | .local _ .vmem, ⟨16, _⟩ => ⟨S1024x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RInIdeal.lean ====
abbrev S16384x1024 : Shape := ⟨2, ![16384, 1024]⟩
abbrev S1x1024 : Shape := ⟨2, ![1, 1024]⟩
abbrev S1024x7680 : Shape := ⟨2, ![1024, 7680]⟩
abbrev S_ : Shape := ⟨0, ![]⟩
abbrev S16384 : Shape := ⟨1, ![16384]⟩
abbrev S16384x1 : Shape := ⟨2, ![16384, 1]⟩
abbrev S16384x7680 : Shape := ⟨2, ![16384, 7680]⟩
abbrev S16384x2560 : Shape := ⟨2, ![16384, 2560]⟩
abbrev S16384x3072 : Shape := ⟨2, ![16384, 3072]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x7680, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | .hbm, ⟨19, _⟩ => ⟨S1024x7680, .f32⟩
  | .hbm, ⟨20, _⟩ => ⟨S16384x7680, .f32⟩
  | .hbm, ⟨21, _⟩ => ⟨S16384x7680, .bf16⟩
  | .hbm, ⟨22, _⟩ => ⟨S16384x1024, .bf16⟩
  | .hbm, ⟨23, _⟩ => ⟨S16384x1024, .bf16⟩
  | .hbm, ⟨24, _⟩ => ⟨S16384x2560, .bf16⟩
  | .hbm, ⟨25, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== KProj.lean ====
abbrev S16384x1024 : Shape := ⟨2, ![16384, 1024]⟩
abbrev S16384x512 : Shape := ⟨2, ![16384, 512]⟩
abbrev S16384x3072 : Shape := ⟨2, ![16384, 3072]⟩
abbrev S1024x1024 : Shape := ⟨2, ![1024, 1024]⟩
abbrev S512x1024 : Shape := ⟨2, ![512, 1024]⟩
abbrev S512x512 : Shape := ⟨2, ![512, 512]⟩
abbrev S512x3072 : Shape := ⟨2, ![512, 3072]⟩
abbrev S_ : Shape := ⟨0, ![]⟩

abbrev nBuf : Space → Nat
  | .hbm => 11
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x3072, .bf16⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S16384x1024, .bf16⟩
  | .hbm, ⟨8, _⟩ => ⟨S16384x1024, .bf16⟩
  | .hbm, ⟨9, _⟩ => ⟨S16384x1024, .bf16⟩
  | .hbm, ⟨10, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RProjIdeal.lean ====
abbrev S16384x1024 : Shape := ⟨2, ![16384, 1024]⟩
abbrev S16384x512 : Shape := ⟨2, ![16384, 512]⟩
abbrev S16384x3072 : Shape := ⟨2, ![16384, 3072]⟩
abbrev S1024x1024 : Shape := ⟨2, ![1024, 1024]⟩
abbrev S512x1024 : Shape := ⟨2, ![512, 1024]⟩
abbrev S_ : Shape := ⟨0, ![]⟩
abbrev S16384x3x1024 : Shape := ⟨3, ![16384, 3, 1024]⟩
abbrev S16384x1x1024 : Shape := ⟨3, ![16384, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S16384x512, .bf16⟩
  | .hbm, ⟨3, _⟩ => ⟨S16384x3072, .bf16⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S16384x1024, .f32⟩
  | .hbm, ⟨8, _⟩ => ⟨S1024x1024, .f32⟩
  | .hbm, ⟨9, _⟩ => ⟨S16384x1024, .f32⟩
  | .hbm, ⟨10, _⟩ => ⟨S16384x512, .f32⟩
  | .hbm, ⟨11, _⟩ => ⟨S512x1024, .f32⟩
  | .hbm, ⟨12, _⟩ => ⟨S16384x1024, .f32⟩
  | .hbm, ⟨13, _⟩ => ⟨S16384x512, .f32⟩
  | .hbm, ⟨14, _⟩ => ⟨S512x1024, .f32⟩
  | .hbm, ⟨15, _⟩ => ⟨S16384x1024, .f32⟩
  | .hbm, ⟨16, _⟩ => ⟨S16384x3072, .f32⟩
  | .hbm, ⟨17, _⟩ => ⟨S16384x3072, .f32⟩
  | .hbm, ⟨18, _⟩ => ⟨S16384x3072, .f32⟩
  | .hbm, ⟨19, _⟩ => ⟨S_, .f32⟩
  | .hbm, ⟨20, _⟩ => ⟨S16384x3072, .f32⟩
  | .hbm, ⟨21, _⟩ => ⟨S16384x3072, .f32⟩
  | .hbm, ⟨22, _⟩ => ⟨S_, .f32⟩
  | .hbm, ⟨23, _⟩ => ⟨S16384x3072, .f32⟩
  | .hbm, ⟨24, _⟩ => ⟨S16384x3072, .f32⟩
  | .hbm, ⟨25, _⟩ => ⟨S16384x3x1024, .f32⟩
  | .hbm, ⟨26, _⟩ => ⟨S16384x1x1024, .f32⟩
  | .hbm, ⟨27, _⟩ => ⟨S16384x1024, .f32⟩
  | .hbm, ⟨28, _⟩ => ⟨S16384x1024, .f32⟩
  | .hbm, ⟨29, _⟩ => ⟨S16384x1x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .bf16⟩
  | .hbm, ⟨38, _⟩ => ⟨S16384x1024, .bf16⟩
  | .hbm, ⟨39, _⟩ => ⟨S16384x1024, .bf16⟩
  | .hbm, ⟨40, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== KOut.lean ====
abbrev S16384x1024 : Shape := ⟨2, ![16384, 1024]⟩
abbrev S1x1024 : Shape := ⟨2, ![1, 1024]⟩
abbrev S1024x1024 : Shape := ⟨2, ![1024, 1024]⟩
abbrev S512x1024 : Shape := ⟨2, ![512, 1024]⟩
abbrev S_ : Shape := ⟨0, ![]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1x1024, .f32⟩
  | .hbm, ⟨3, _⟩ => ⟨S1024x1024, .bf16⟩
  | .hbm, ⟨4, _⟩ => ⟨S16384x1024, .f32⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ROutIdeal.lean ====
abbrev S16384x1024 : Shape := ⟨2, ![16384, 1024]⟩
abbrev S1x1024 : Shape := ⟨2, ![1, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1x1024, .f32⟩
  | .hbm, ⟨3, _⟩ => ⟨S1024x1024, .bf16⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KLruA.lean ====
abbrev S16384x1024 : Shape := ⟨2, ![16384, 1024]⟩
abbrev S4x1024 : Shape := ⟨2, ![4, 1024]⟩
abbrev S1x1024 : Shape := ⟨2, ![1, 1024]⟩
abbrev S4x256x256 : Shape := ⟨3, ![4, 256, 256]⟩
abbrev S512x1024 : Shape := ⟨2, ![512, 1024]⟩
abbrev S16x1024 : Shape := ⟨2, ![16, 1024]⟩
abbrev S544x1024 : Shape := ⟨2, ![544, 1024]⟩
abbrev S512x256 : Shape := ⟨2, ![512, 256]⟩
abbrev S1x256x256 : Shape := ⟨3, ![1, 256, 256]⟩
abbrev S256x256 : Shape := ⟨2, ![256, 256]⟩
abbrev S8x1024 : Shape := ⟨2, ![8, 1024]⟩

abbrev nBuf : Space → Nat
  | .hbm => 9
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S4x1024, .f32⟩
  | .hbm, ⟨2, _⟩ => ⟨S1x1024, .f32⟩
  | .hbm, ⟨3, _⟩ => ⟨S4x256x256, .bf16⟩
  | .hbm, ⟨4, _⟩ => ⟨S4x256x256, .bf16⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S4x1024, .f32⟩
  | .local _ .vmem, ⟨7, _⟩ => ⟨S1x1024, .f32⟩
  | .local _ .vmem, ⟨8, _⟩ => ⟨S4x256x256, .bf16⟩
  | .local _ .vmem, ⟨9, _⟩ => ⟨S4x256x256, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_71 : BitVec 32 := 0#32
  let c64_i32 : BitVec 32 := 64#32
  let v146 : BitVec 32 := Scalar.addi c0_i32_71 c64_i32
  let c1_i32_72 : BitVec 32 := 1#32
  ⟨c0_i32_71, v146, c1_i32_72⟩
def k0_mult1 (k0_t1 : Fin k0_t1_loop.trips) : BitVec 32 :=
  let c0_i32_71 : BitVec 32 := 0#32
  let c1_i32_72 : BitVec 32 := 1#32
  let arg15 : BitVec 32 := Scf.iv c0_i32_71 c1_i32_72 k0_t1
  let c8_i32 : BitVec 32 := 8#32
  let v151 : BitVec 32 := Scalar.muli arg15 c8_i32
  v151
def k0_off1 (k0_t1 : Fin k0_t1_loop.trips) : Fin 2 → Nat :=
  let c0_i32_71 : BitVec 32 := 0#32
  let c1_i32_72 : BitVec 32 := 1#32
  let arg15 : BitVec 32 := Scf.iv c0_i32_71 c1_i32_72 k0_t1
  let c8_i32 : BitVec 32 := 8#32
  let v151 : BitVec 32 := Scalar.muli arg15 c8_i32
  let v152 : BitVec 32 := v151
  let v153 : Index := Scalar.indexCast v152
  let c0_76 : Index := 0#32
  ![v153.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RLruAIdeal.lean ====
abbrev S16384x1024 : Shape := ⟨2, ![16384, 1024]⟩
abbrev S4x1024 : Shape := ⟨2, ![4, 1024]⟩
abbrev S1x1024 : Shape := ⟨2, ![1, 1024]⟩
abbrev S4x256x256 : Shape := ⟨3, ![4, 256, 256]⟩
abbrev S_ : Shape := ⟨0, ![]⟩
abbrev S2x1024 : Shape := ⟨2, ![2, 1024]⟩
abbrev S16387x1024 : Shape := ⟨2, ![16387, 1024]⟩
abbrev S1024 : Shape := ⟨1, ![1024]⟩
abbrev S16384x4x256 : Shape := ⟨3, ![16384, 4, 256]⟩
abbrev S4x256x16384 : Shape := ⟨3, ![4, 256, 16384]⟩

abbrev nBuf : Space → Nat
  | .hbm => 126
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4x1024, .f32⟩
  | .hbm, ⟨2, _⟩ => ⟨S1x1024, .f32⟩
  | .hbm, ⟨3, _⟩ => ⟨S4x256x256, .bf16⟩
  | .hbm, ⟨4, _⟩ => ⟨S4x256x256, .bf16⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S_, .f32⟩
  | .hbm, ⟨10, _⟩ => ⟨S2x1024, .f32⟩
  | .hbm, ⟨11, _⟩ => ⟨S_, .f32⟩
  | .hbm, ⟨12, _⟩ => ⟨S1x1024, .f32⟩
  | .hbm, ⟨13, _⟩ => ⟨S16387x1024, .f32⟩
  | .hbm, ⟨14, _⟩ => ⟨S16384x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x4x256, .f32⟩
  | .hbm, ⟨44, _⟩ => ⟨S4x256x256, .f32⟩
  | .hbm, ⟨45, _⟩ => ⟨S4x256x16384, .f32⟩
  | .hbm, ⟨46, _⟩ => ⟨S16384x4x256, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S16384x1024, .f32⟩
  | .hbm, ⟨57, _⟩ => ⟨S16384x1024, .f32⟩
  | .hbm, ⟨58, _⟩ => ⟨S4x256x256, .f32⟩
  | .hbm, ⟨59, _⟩ => ⟨S4x256x16384, .f32⟩
  | .hbm, ⟨60, _⟩ => ⟨S16384x4x256, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384x1024, .f32⟩
  | .hbm, ⟨71, _⟩ => ⟨S16384x1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S1x1024, .i1⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S_, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x1024, .f32⟩
  | .hbm, ⟨99, _⟩ => ⟨S16384x1024, .f32⟩
  | .hbm, ⟨100, _⟩ => ⟨S16384x1024, .f32⟩
  | .hbm, ⟨101, _⟩ => ⟨S_, .f32⟩
  | .hbm, ⟨102, _⟩ => ⟨S1024, .f32⟩
  | .hbm, ⟨103, _⟩ => ⟨S_, .f32⟩
  | .hbm, ⟨104, _⟩ => ⟨S16384x1024, .f32⟩
  | .hbm, ⟨105, _⟩ => ⟨S_, .i32⟩
  | .hbm, ⟨106, _⟩ => ⟨S16384x1024, .f32⟩
  | .hbm, ⟨107, _⟩ => ⟨S16384x1024, .f32⟩
  | .hbm, ⟨108, _⟩ => ⟨S_, .i32⟩
  | .hbm, ⟨109, _⟩ => ⟨S1024, .f32⟩
  | .hbm, ⟨110, _⟩ => ⟨S16384x1024, .f32⟩
  | .hbm, ⟨111, _⟩ => ⟨S_, .i32⟩
  | .hbm, ⟨112, _⟩ => ⟨S_, .i1⟩
  | .hbm, ⟨113, _⟩ => ⟨S_, .i32⟩
  | .hbm, ⟨114, _⟩ => ⟨S1x1024, .f32⟩
  | .hbm, ⟨115, _⟩ => ⟨S1024, .f32⟩
  | .hbm, ⟨116, _⟩ => ⟨S_, .i32⟩
  | .hbm, ⟨117, _⟩ => ⟨S1x1024, .f32⟩
  | .hbm, ⟨118, _⟩ => ⟨S1024, .f32⟩
  | .hbm, ⟨119, _⟩ => ⟨S1024, .f32⟩
  | .hbm, ⟨120, _⟩ => ⟨S1024, .f32⟩
  | .hbm, ⟨121, _⟩ => ⟨S1x1024, .f32⟩
  | .hbm, ⟨122, _⟩ => ⟨S_, .i32⟩
  | .hbm, ⟨123, _⟩ => ⟨S16384x1024, .f32⟩
  | .hbm, ⟨124, _⟩ => ⟨S_, .i32⟩
  | .hbm, ⟨125, _⟩ => ⟨S_, .i32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_1 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_3 : Ref sig .tc := ⟨.hbm, 66, rfl⟩
abbrev main_v54 : Ref sig .tc := ⟨.hbm, 67, rfl⟩
abbrev main_v55 : Ref sig .tc := ⟨.hbm, 68, rfl⟩
abbrev main_cst_4 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_call0_cst : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_v8 : Ref sig .tc := ⟨.hbm, 82, rfl⟩
abbrev main_call0_v9 : Ref sig .tc := ⟨.hbm, 83, rfl⟩
abbrev main_call0_v10 : Ref sig .tc := ⟨.hbm, 84, rfl⟩
abbrev main_call0_v11 : Ref sig .tc := ⟨.hbm, 85, rfl⟩
abbrev main_v59 : Ref sig .tc := ⟨.hbm, 86, rfl⟩
abbrev main_cst_5 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_6 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_7 : Ref sig .tc := ⟨.hbm, 101, rfl⟩
abbrev main_v72 : Ref sig .tc := ⟨.hbm, 102, rfl⟩
abbrev main_cst_8 : Ref sig .tc := ⟨.hbm, 103, rfl⟩
abbrev main_v73 : Ref sig .tc := ⟨.hbm, 104, rfl⟩
abbrev main_c : Ref sig .tc := ⟨.hbm, 105, rfl⟩
abbrev main_v74_0 : Ref sig .tc := ⟨.hbm, 106, rfl⟩
abbrev main_v74_1 : Ref sig .tc := ⟨.hbm, 107, rfl⟩
abbrev main_v74_2 : Ref sig .tc := ⟨.hbm, 108, rfl⟩
abbrev main_v74_3 : Ref sig .tc := ⟨.hbm, 109, rfl⟩
abbrev main_v74_4 : Ref sig .tc := ⟨.hbm, 110, rfl⟩
abbrev main_while0c_c_13 : Ref sig .tc := ⟨.hbm, 111, rfl⟩
abbrev main_while0c_v75 : Ref sig .tc := ⟨.hbm, 112, rfl⟩
abbrev main_while0b_call1_c : Ref sig .tc := ⟨.hbm, 113, rfl⟩
abbrev main_while0b_call1_v0 : Ref sig .tc := ⟨.hbm, 114, rfl⟩
abbrev main_while0b_v75 : Ref sig .tc := ⟨.hbm, 115, rfl⟩
abbrev main_while0b_call2_c : Ref sig .tc := ⟨.hbm, 116, rfl⟩
abbrev main_while0b_call2_v0 : Ref sig .tc := ⟨.hbm, 117, rfl⟩
abbrev main_while0b_v76 : Ref sig .tc := ⟨.hbm, 118, rfl⟩
abbrev main_while0b_v77 : Ref sig .tc := ⟨.hbm, 119, rfl⟩
abbrev main_while0b_v78 : Ref sig .tc := ⟨.hbm, 120, rfl⟩
abbrev main_while0b_call3_v0 : Ref sig .tc := ⟨.hbm, 121, rfl⟩
abbrev main_while0b_call3_c : Ref sig .tc := ⟨.hbm, 122, rfl⟩
abbrev main_while0b_v79 : Ref sig .tc := ⟨.hbm, 123, rfl⟩
abbrev main_while0b_c_13 : Ref sig .tc := ⟨.hbm, 124, rfl⟩
abbrev main_while0b_v80 : Ref sig .tc := ⟨.hbm, 125, rfl⟩

abbrev nD : Nat := 1
abbrev τ : Topo := Topo.v7x

variable {F : FTy → Type} [FloatOps F]

abbrev main_while0_count : Scf.Loop 32 := ⟨0#32, 16384#32, 1#32⟩
-- ==== KLruD.lean ====
abbrev S16384x1024 : Shape := ⟨2, ![16384, 1024]⟩
abbrev S4x1024 : Shape := ⟨2, ![4, 1024]⟩
abbrev S1x1024 : Shape := ⟨2, ![1, 1024]⟩
abbrev S4x256x256 : Shape := ⟨3, ![4, 256, 256]⟩
abbrev S512x1024 : Shape := ⟨2, ![512, 1024]⟩
abbrev S16x1024 : Shape := ⟨2, ![16, 1024]⟩
abbrev S544x1024 : Shape := ⟨2, ![544, 1024]⟩
abbrev S512x256 : Shape := ⟨2, ![512, 256]⟩
abbrev S1x256x256 : Shape := ⟨3, ![1, 256, 256]⟩
abbrev S256x256 : Shape := ⟨2, ![256, 256]⟩
abbrev S8x1024 : Shape := ⟨2, ![8, 1024]⟩

abbrev nBuf : Space → Nat
  | .hbm => 12
  | .vmem => 24
  | .smem => 0
  | _ => 0

abbrev bufTy : (tb : Table) → Fin (tcTables nBuf tb) → BufTy
  | .hbm, ⟨0, _⟩ => ⟨S16384x1024, .bf16⟩
  | .hbm, ⟨1, _⟩ => ⟨S4x1024, .f32⟩
  | .hbm, ⟨2, _⟩ => ⟨S1x1024, .f32⟩
  | .hbm, ⟨3, _⟩ => ⟨S4x256x256, .bf16⟩
  | .hbm, ⟨4, _⟩ => ⟨S4x256x256, .bf16⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S16384x1024, .bf16⟩
  | .hbm, ⟨10, _⟩ => ⟨S16384x1024, .f32⟩
  | .hbm, ⟨11, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S4x1024, .f32⟩
  | .local _ .vmem, ⟨7, _⟩ => ⟨S1x1024, .f32⟩
  | .local _ .vmem, ⟨8, _⟩ => ⟨S4x256x256, .bf16⟩
  | .local _ .vmem, ⟨9, _⟩ => ⟨S4x256x256, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_72 : BitVec 32 := 0#32
  let c64_i32 : BitVec 32 := 64#32
  let v147 : BitVec 32 := Scalar.addi c0_i32_72 c64_i32
  let c1_i32_73 : BitVec 32 := 1#32
  ⟨c0_i32_72, v147, c1_i32_73⟩
def k0_mult1 (k0_t1 : Fin k0_t1_loop.trips) : BitVec 32 :=
  let c63_i32 : BitVec 32 := 63#32
  let c0_i32_72 : BitVec 32 := 0#32
  let c1_i32_73 : BitVec 32 := 1#32
  let arg18 : BitVec 32 := Scf.iv c0_i32_72 c1_i32_73 k0_t1
  let v173 : BitVec 32 := Scalar.subi c63_i32 arg18
  let c8_i32 : BitVec 32 := 8#32
  let v174 : BitVec 32 := Scalar.muli v173 c8_i32
  v174
def k0_off1 (k0_t1 : Fin k0_t1_loop.trips) : Fin 2 → Nat :=
  let c63_i32 : BitVec 32 := 63#32
  let c0_i32_72 : BitVec 32 := 0#32
  let c1_i32_73 : BitVec 32 := 1#32
  let arg18 : BitVec 32 := Scf.iv c0_i32_72 c1_i32_73 k0_t1
  let v173 : BitVec 32 := Scalar.subi c63_i32 arg18
  let c8_i32 : BitVec 32 := 8#32
  let v174 : BitVec 32 := Scalar.muli v173 c8_i32
  let v175 : BitVec 32 := v174
  let v176 : Index := Scalar.indexCast v175
  let c0_89 : Index := 0#32
  ![v176.toNat, 0]
def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.addi v0 c1_i32
  let c32_i32 : BitVec 32 := 32#32
  let v2 : BitVec 32 := Scalar.muli v1 c32_i32
  let c1023_i32 : BitVec 32 := 1023#32
  let v3 : BitVec 32 := Scalar.minsi v2 c1023_i32
  let c0_i32 : BitVec 32 := 0#32
  let c0_i32_0 : BitVec 32 := 0#32
  ![v3.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KLruDIdeal.lean ====
variable {F : FTy → Type} [FloatOps F] [Named F]
def κ : String → Option EReal := fun
  | "gelu_kc" => some ((80338380498831 / 2251799813685248 : ℝ) : EReal)
  | _ => none
-- ==== RLruDIdeal.lean ====
abbrev S16384x1024 : Shape := ⟨2, ![16384, 1024]⟩
abbrev S4x1024 : Shape := ⟨2, ![4, 1024]⟩
abbrev S1x1024 : Shape := ⟨2, ![1, 1024]⟩
abbrev S4x256x256 : Shape := ⟨3, ![4, 256, 256]⟩
abbrev S_ : Shape := ⟨0, ![]⟩
abbrev S2x1024 : Shape := ⟨2, ![2, 1024]⟩
abbrev S16387x1024 : Shape := ⟨2, ![16387, 1024]⟩
abbrev S1024 : Shape := ⟨1, ![1024]⟩
abbrev S16384x4x256 : Shape := ⟨3, ![16384, 4, 256]⟩
abbrev S4x256x16384 : Shape := ⟨3, ![4, 256, 16384]⟩

abbrev nBuf : Space → Nat
  | .hbm => 153
  | .vmem => 0
  | .smem => 0
  | _ => 0

abbrev hbmTy0_0 (i : Nat) : BufTy := match i % 128 with
  | 0 => ⟨S16384x1024, .bf16⟩
  | 1 => ⟨S4x1024, .f32⟩
  | 2 => ⟨S1x1024, .f32⟩
  | 3 => ⟨S4x256x256, .bf16⟩
  | 4 => ⟨S4x256x256, .bf16⟩
  | 5 => ⟨S1x1024, .f32⟩
  | 6 => ⟨S1x1024, .f32⟩
  | 7 => ⟨S1x1024, .f32⟩
  | 8 => ⟨S16384x1024, .f32⟩
  | 9 => ⟨S16384x1024, .bf16⟩
  | 10 => ⟨S16384x1024, .f32⟩
  | 11 => ⟨S_, .f32⟩
  | 12 => ⟨S2x1024, .f32⟩
  | 13 => ⟨S_, .f32⟩
  | 14 => ⟨S1x1024, .f32⟩
  | 15 => ⟨S16387x1024, .f32⟩
  | 16 => ⟨S16384x1024, .f32⟩
  | 17 => ⟨S1x1024, .f32⟩
  | 18 => ⟨S1024, .f32⟩
  | 19 => ⟨S1x1024, .f32⟩
  | 20 => ⟨S16384x1024, .f32⟩
  | 21 => ⟨S16384x1024, .f32⟩
  | 22 => ⟨S16384x1024, .f32⟩
  | 23 => ⟨S1x1024, .f32⟩
  | 24 => ⟨S1024, .f32⟩
  | 25 => ⟨S1x1024, .f32⟩
  | 26 => ⟨S16384x1024, .f32⟩
  | 27 => ⟨S16384x1024, .f32⟩
  | 28 => ⟨S16384x1024, .f32⟩
  | 29 => ⟨S16384x1024, .f32⟩
  | 30 => ⟨S1x1024, .f32⟩
  | 31 => ⟨S1024, .f32⟩
  | 32 => ⟨S1x1024, .f32⟩
  | 33 => ⟨S16384x1024, .f32⟩
  | 34 => ⟨S16384x1024, .f32⟩
  | 35 => ⟨S16384x1024, .f32⟩
  | 36 => ⟨S16384x1024, .f32⟩
  | 37 => ⟨S1x1024, .f32⟩
  | 38 => ⟨S1024, .f32⟩
  | 39 => ⟨S1x1024, .f32⟩
  | 40 => ⟨S16384x1024, .f32⟩
  | 41 => ⟨S16384x1024, .f32⟩
  | 42 => ⟨S16384x1024, .f32⟩
  | 43 => ⟨S16384x1024, .f32⟩
  | 44 => ⟨S16384x1024, .f32⟩
  | 45 => ⟨S16384x4x256, .f32⟩
  | 46 => ⟨S4x256x256, .f32⟩
  | 47 => ⟨S4x256x16384, .f32⟩
  | 48 => ⟨S16384x4x256, .f32⟩
  | 49 => ⟨S16384x1024, .f32⟩
  | 50 => ⟨S16384x1024, .f32⟩
  | 51 => ⟨S16384x1024, .f32⟩
  | 52 => ⟨S16384x1024, .f32⟩
  | 53 => ⟨S16384x1024, .f32⟩
  | 54 => ⟨S_, .f32⟩
  | 55 => ⟨S16384x1024, .f32⟩
  | 56 => ⟨S16384x1024, .f32⟩
  | 57 => ⟨S_, .f32⟩
  | 58 => ⟨S16384x1024, .f32⟩
  | 59 => ⟨S16384x1024, .f32⟩
  | 60 => ⟨S4x256x256, .f32⟩
  | 61 => ⟨S4x256x16384, .f32⟩
  | 62 => ⟨S16384x4x256, .f32⟩
  | 63 => ⟨S16384x1024, .f32⟩
  | 64 => ⟨S16384x1024, .f32⟩
  | 65 => ⟨S16384x1024, .f32⟩
  | 66 => ⟨S16384x1024, .f32⟩
  | 67 => ⟨S16384x1024, .f32⟩
  | 68 => ⟨S_, .f32⟩
  | 69 => ⟨S16384x1024, .f32⟩
  | 70 => ⟨S16384x1024, .f32⟩
  | 71 => ⟨S_, .f32⟩
  | 72 => ⟨S16384x1024, .f32⟩
  | 73 => ⟨S16384x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S1x1024, .f32⟩
  | 80 => ⟨S1x1024, .i1⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S16384x1024, .f32⟩
  | 93 => ⟨S16384x1024, .f32⟩
  | 94 => ⟨S16384x1024, .f32⟩
  | 95 => ⟨S16384x1024, .f32⟩
  | 96 => ⟨S_, .f32⟩
  | 97 => ⟨S16384x1024, .f32⟩
  | 98 => ⟨S16384x1024, .f32⟩
  | 99 => ⟨S16384x1024, .f32⟩
  | 100 => ⟨S16384x1024, .f32⟩
  | 101 => ⟨S16384x1024, .f32⟩
  | 102 => ⟨S16384x1024, .f32⟩
  | 103 => ⟨S_, .f32⟩
  | 104 => ⟨S1024, .f32⟩
  | 105 => ⟨S_, .f32⟩
  | 106 => ⟨S16384x1024, .f32⟩
  | 107 => ⟨S_, .i32⟩
  | 108 => ⟨S16384x1024, .f32⟩
  | 109 => ⟨S16384x1024, .f32⟩
  | 110 => ⟨S_, .i32⟩
  | 111 => ⟨S1024, .f32⟩
  | 112 => ⟨S16384x1024, .f32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i32⟩
  | 120 => ⟨S1x1024, .f32⟩
  | 121 => ⟨S1024, .f32⟩
  | 122 => ⟨S_, .i32⟩
  | 123 => ⟨S1x1024, .f32⟩
  | 124 => ⟨S1024, .f32⟩
  | 125 => ⟨S1024, .f32⟩
  | 126 => ⟨S1024, .f32⟩
  | 127 => ⟨S1x1024, .f32⟩
  | _ => ⟨S16384x1024, .bf16⟩

abbrev hbmTy0_1 (i : Nat) : BufTy := match i % 128 with
  | 0 => ⟨S_, .i32⟩
  | 1 => ⟨S16384x1024, .f32⟩
  | 2 => ⟨S_, .i32⟩
  | 3 => ⟨S_, .i32⟩
  | 4 => ⟨S16384x1024, .f32⟩
  | 5 => ⟨S16384x1024, .f32⟩
  | 6 => ⟨S16384x1024, .f32⟩
  | 7 => ⟨S16384x1024, .f32⟩
  | 8 => ⟨S_, .f32⟩
  | 9 => ⟨S16384x1024, .f32⟩
  | 10 => ⟨S16384x1024, .f32⟩
  | 11 => ⟨S16384x1024, .f32⟩
  | 12 => ⟨S_, .f32⟩
  | 13 => ⟨S16384x1024, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S_, .f32⟩
  | 20 => ⟨S16384x1024, .f32⟩
  | 21 => ⟨S16384x1024, .f32⟩
  | 22 => ⟨S16384x1024, .f32⟩
  | 23 => ⟨S16384x1024, .f32⟩
  | 24 => ⟨S16384x1024, .bf16⟩
  | _ => ⟨S16384x1024, .bf16⟩

abbrev hbmTy (i : Nat) : BufTy := match i / 128 with
  | 0 => hbmTy0_0 i
  | 1 => hbmTy0_1 i
  | _ => ⟨S16384x1024, .bf16⟩

abbrev bufTy : (tb : Table) → Fin (tcTables nBuf tb) → BufTy
  | .hbm, ⟨i, _⟩ => hbmTy i
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_1 : Ref sig .tc := ⟨.hbm, 54, rfl⟩
abbrev main_v42 : Ref sig .tc := ⟨.hbm, 55, rfl⟩
abbrev main_v43 : Ref sig .tc := ⟨.hbm, 56, rfl⟩
abbrev main_cst_2 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_3 : Ref sig .tc := ⟨.hbm, 68, rfl⟩
abbrev main_v54 : Ref sig .tc := ⟨.hbm, 69, rfl⟩
abbrev main_v55 : Ref sig .tc := ⟨.hbm, 70, rfl⟩
abbrev main_cst_4 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_v59 : Ref sig .tc := ⟨.hbm, 88, rfl⟩
abbrev main_cst_5 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_6 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_7 : Ref sig .tc := ⟨.hbm, 103, rfl⟩
abbrev main_v72 : Ref sig .tc := ⟨.hbm, 104, rfl⟩
abbrev main_cst_8 : Ref sig .tc := ⟨.hbm, 105, rfl⟩
abbrev main_v73 : Ref sig .tc := ⟨.hbm, 106, rfl⟩
abbrev main_c : Ref sig .tc := ⟨.hbm, 107, rfl⟩
abbrev main_v74_0 : Ref sig .tc := ⟨.hbm, 108, rfl⟩
abbrev main_v74_1 : Ref sig .tc := ⟨.hbm, 109, rfl⟩
abbrev main_v74_2 : Ref sig .tc := ⟨.hbm, 110, rfl⟩
abbrev main_v74_3 : Ref sig .tc := ⟨.hbm, 111, rfl⟩
abbrev main_v74_4 : Ref sig .tc := ⟨.hbm, 112, rfl⟩
abbrev main_while0c_c_17 : Ref sig .tc := ⟨.hbm, 113, rfl⟩
abbrev main_while0c_v92 : Ref sig .tc := ⟨.hbm, 114, rfl⟩
abbrev main_while0b_c_17 : Ref sig .tc := ⟨.hbm, 115, rfl⟩
abbrev main_while0b_v92 : Ref sig .tc := ⟨.hbm, 116, rfl⟩
abbrev main_while0b_c_18 : Ref sig .tc := ⟨.hbm, 117, rfl⟩
abbrev main_while0b_v93 : Ref sig .tc := ⟨.hbm, 118, rfl⟩
abbrev main_while0b_call1_c : Ref sig .tc := ⟨.hbm, 119, rfl⟩
abbrev main_while0b_call1_v0 : Ref sig .tc := ⟨.hbm, 120, rfl⟩
abbrev main_while0b_v94 : Ref sig .tc := ⟨.hbm, 121, rfl⟩
abbrev main_while0b_call2_c : Ref sig .tc := ⟨.hbm, 122, rfl⟩
abbrev main_while0b_call2_v0 : Ref sig .tc := ⟨.hbm, 123, rfl⟩
abbrev main_while0b_v95 : Ref sig .tc := ⟨.hbm, 124, rfl⟩
abbrev main_while0b_v96 : Ref sig .tc := ⟨.hbm, 125, rfl⟩
abbrev main_while0b_v97 : Ref sig .tc := ⟨.hbm, 126, rfl⟩
abbrev main_while0b_call3_v0 : Ref sig .tc := ⟨.hbm, 127, rfl⟩
abbrev main_while0b_call3_c : Ref sig .tc := ⟨.hbm, 128, rfl⟩
abbrev main_while0b_v98 : Ref sig .tc := ⟨.hbm, 129, rfl⟩
abbrev main_while0b_c_19 : Ref sig .tc := ⟨.hbm, 130, rfl⟩
abbrev main_while0b_v99 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_cst_9 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_cst_10 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_cst_11 : Ref sig .tc := ⟨.hbm, 144, rfl⟩
abbrev main_v85 : Ref sig .tc := ⟨.hbm, 145, rfl⟩
abbrev main_v86 : Ref sig .tc := ⟨.hbm, 146, rfl⟩
abbrev main_cst_12 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩

abbrev nD : Nat := 1
abbrev τ : Topo := Topo.v7x

variable {F : FTy → Type} [FloatOps F]

abbrev main_while0_count : Scf.Loop 32 := ⟨0#32, 16384#32, 1#32⟩
-- ==== KLruC.lean ====
abbrev S16384x1024 : Shape := ⟨2, ![16384, 1024]⟩
abbrev S4x1024 : Shape := ⟨2, ![4, 1024]⟩
abbrev S1x1024 : Shape := ⟨2, ![1, 1024]⟩
abbrev S4x256x256 : Shape := ⟨3, ![4, 256, 256]⟩
abbrev S_ : Shape := ⟨0, ![]⟩
abbrev S2x1024 : Shape := ⟨2, ![2, 1024]⟩
abbrev S16387x1024 : Shape := ⟨2, ![16387, 1024]⟩
abbrev S1024 : Shape := ⟨1, ![1024]⟩
abbrev S16384x4x256 : Shape := ⟨3, ![16384, 4, 256]⟩
abbrev S4x256x16384 : Shape := ⟨3, ![4, 256, 16384]⟩
abbrev S16383x1024 : Shape := ⟨2, ![16383, 1024]⟩
abbrev S16382x1024 : Shape := ⟨2, ![16382, 1024]⟩
abbrev S16380x1024 : Shape := ⟨2, ![16380, 1024]⟩
abbrev S16376x1024 : Shape := ⟨2, ![16376, 1024]⟩
abbrev S8x1024 : Shape := ⟨2, ![8, 1024]⟩
abbrev S16368x1024 : Shape := ⟨2, ![16368, 1024]⟩
abbrev S16x1024 : Shape := ⟨2, ![16, 1024]⟩
abbrev S16352x1024 : Shape := ⟨2, ![16352, 1024]⟩
abbrev S32x1024 : Shape := ⟨2, ![32, 1024]⟩
abbrev S16320x1024 : Shape := ⟨2, ![16320, 1024]⟩
abbrev S64x1024 : Shape := ⟨2, ![64, 1024]⟩
abbrev S16256x1024 : Shape := ⟨2, ![16256, 1024]⟩
abbrev S128x1024 : Shape := ⟨2, ![128, 1024]⟩
abbrev S16128x1024 : Shape := ⟨2, ![16128, 1024]⟩
abbrev S256x1024 : Shape := ⟨2, ![256, 1024]⟩
abbrev S15872x1024 : Shape := ⟨2, ![15872, 1024]⟩
abbrev S512x1024 : Shape := ⟨2, ![512, 1024]⟩
abbrev S15360x1024 : Shape := ⟨2, ![15360, 1024]⟩
abbrev S1024x1024 : Shape := ⟨2, ![1024, 1024]⟩
abbrev S14336x1024 : Shape := ⟨2, ![14336, 1024]⟩
abbrev S2048x1024 : Shape := ⟨2, ![2048, 1024]⟩
abbrev S12288x1024 : Shape := ⟨2, ![12288, 1024]⟩
abbrev S4096x1024 : Shape := ⟨2, ![4096, 1024]⟩
abbrev S8192x1024 : Shape := ⟨2, ![8192, 1024]⟩
abbrev S288x1024 : Shape := ⟨2, ![288, 1024]⟩
abbrev S256x256 : Shape := ⟨2, ![256, 256]⟩
abbrev S1x256x256 : Shape := ⟨3, ![1, 256, 256]⟩

abbrev nBuf : Space → Nat
  | .hbm => 263
  | .vmem => 32
  | .smem => 0
  | _ => 0

abbrev hbmTy0_0 (i : Nat) : BufTy := match i % 128 with
  | 0 => ⟨S16384x1024, .bf16⟩
  | 1 => ⟨S16384x1024, .f32⟩
  | 2 => ⟨S16384x1024, .f32⟩
  | 3 => ⟨S4x1024, .f32⟩
  | 4 => ⟨S1x1024, .f32⟩
  | 5 => ⟨S4x256x256, .bf16⟩
  | 6 => ⟨S4x256x256, .bf16⟩
  | 7 => ⟨S1x1024, .f32⟩
  | 8 => ⟨S1x1024, .f32⟩
  | 9 => ⟨S1x1024, .f32⟩
  | 10 => ⟨S16384x1024, .f32⟩
  | 11 => ⟨S_, .f32⟩
  | 12 => ⟨S2x1024, .f32⟩
  | 13 => ⟨S_, .f32⟩
  | 14 => ⟨S1x1024, .f32⟩
  | 15 => ⟨S16387x1024, .f32⟩
  | 16 => ⟨S16384x1024, .f32⟩
  | 17 => ⟨S1x1024, .f32⟩
  | 18 => ⟨S1024, .f32⟩
  | 19 => ⟨S1x1024, .f32⟩
  | 20 => ⟨S16384x1024, .f32⟩
  | 21 => ⟨S16384x1024, .f32⟩
  | 22 => ⟨S16384x1024, .f32⟩
  | 23 => ⟨S1x1024, .f32⟩
  | 24 => ⟨S1024, .f32⟩
  | 25 => ⟨S1x1024, .f32⟩
  | 26 => ⟨S16384x1024, .f32⟩
  | 27 => ⟨S16384x1024, .f32⟩
  | 28 => ⟨S16384x1024, .f32⟩
  | 29 => ⟨S16384x1024, .f32⟩
  | 30 => ⟨S1x1024, .f32⟩
  | 31 => ⟨S1024, .f32⟩
  | 32 => ⟨S1x1024, .f32⟩
  | 33 => ⟨S16384x1024, .f32⟩
  | 34 => ⟨S16384x1024, .f32⟩
  | 35 => ⟨S16384x1024, .f32⟩
  | 36 => ⟨S16384x1024, .f32⟩
  | 37 => ⟨S1x1024, .f32⟩
  | 38 => ⟨S1024, .f32⟩
  | 39 => ⟨S1x1024, .f32⟩
  | 40 => ⟨S16384x1024, .f32⟩
  | 41 => ⟨S16384x1024, .f32⟩
  | 42 => ⟨S16384x1024, .f32⟩
  | 43 => ⟨S16384x1024, .f32⟩
  | 44 => ⟨S16384x1024, .f32⟩
  | 45 => ⟨S16384x4x256, .f32⟩
  | 46 => ⟨S4x256x256, .f32⟩
  | 47 => ⟨S4x256x16384, .f32⟩
  | 48 => ⟨S16384x4x256, .f32⟩
  | 49 => ⟨S16384x1024, .f32⟩
  | 50 => ⟨S16384x1024, .f32⟩
  | 51 => ⟨S16384x1024, .f32⟩
  | 52 => ⟨S16384x1024, .f32⟩
  | 53 => ⟨S16384x1024, .f32⟩
  | 54 => ⟨S_, .f32⟩
  | 55 => ⟨S16384x1024, .f32⟩
  | 56 => ⟨S16384x1024, .f32⟩
  | 57 => ⟨S_, .f32⟩
  | 58 => ⟨S16384x1024, .f32⟩
  | 59 => ⟨S16384x1024, .f32⟩
  | 60 => ⟨S4x256x256, .f32⟩
  | 61 => ⟨S4x256x16384, .f32⟩
  | 62 => ⟨S16384x4x256, .f32⟩
  | 63 => ⟨S16384x1024, .f32⟩
  | 64 => ⟨S16384x1024, .f32⟩
  | 65 => ⟨S16384x1024, .f32⟩
  | 66 => ⟨S16384x1024, .f32⟩
  | 67 => ⟨S16384x1024, .f32⟩
  | 68 => ⟨S_, .f32⟩
  | 69 => ⟨S16384x1024, .f32⟩
  | 70 => ⟨S16384x1024, .f32⟩
  | 71 => ⟨S_, .f32⟩
  | 72 => ⟨S16384x1024, .f32⟩
  | 73 => ⟨S16384x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S1x1024, .f32⟩
  | 80 => ⟨S1x1024, .i1⟩
  | 81 => ⟨S1x1024, .f32⟩
  | 82 => ⟨S1x1024, .f32⟩
  | 83 => ⟨S1x1024, .f32⟩
  | 84 => ⟨S1x1024, .f32⟩
  | 85 => ⟨S1x1024, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S16384x1024, .f32⟩
  | 93 => ⟨S16384x1024, .f32⟩
  | 94 => ⟨S16384x1024, .f32⟩
  | 95 => ⟨S16384x1024, .f32⟩
  | 96 => ⟨S_, .f32⟩
  | 97 => ⟨S16384x1024, .f32⟩
  | 98 => ⟨S16384x1024, .f32⟩
  | 99 => ⟨S16384x1024, .f32⟩
  | 100 => ⟨S16384x1024, .f32⟩
  | 101 => ⟨S16384x1024, .f32⟩
  | 102 => ⟨S16384x1024, .f32⟩
  | 103 => ⟨S16383x1024, .f32⟩
  | 104 => ⟨S_, .f32⟩
  | 105 => ⟨S1x1024, .f32⟩
  | 106 => ⟨S16384x1024, .f32⟩
  | 107 => ⟨S16384x1024, .f32⟩
  | 108 => ⟨S16384x1024, .f32⟩
  | 109 => ⟨S16383x1024, .f32⟩
  | 110 => ⟨S_, .f32⟩
  | 111 => ⟨S1x1024, .f32⟩
  | 112 => ⟨S16384x1024, .f32⟩
  | 113 => ⟨S16384x1024, .f32⟩
  | 114 => ⟨S16382x1024, .f32⟩
  | 115 => ⟨S_, .f32⟩
  | 116 => ⟨S2x1024, .f32⟩
  | 117 => ⟨S16384x1024, .f32⟩
  | 118 => ⟨S16384x1024, .f32⟩
  | 119 => ⟨S16384x1024, .f32⟩
  | 120 => ⟨S16382x1024, .f32⟩
  | 121 => ⟨S_, .f32⟩
  | 122 => ⟨S2x1024, .f32⟩
  | 123 => ⟨S16384x1024, .f32⟩
  | 124 => ⟨S16384x1024, .f32⟩
  | 125 => ⟨S16380x1024, .f32⟩
  | 126 => ⟨S_, .f32⟩
  | 127 => ⟨S4x1024, .f32⟩
  | _ => ⟨S16384x1024, .bf16⟩

abbrev hbmTy0_1 (i : Nat) : BufTy := match i % 128 with
  | 0 => ⟨S16384x1024, .f32⟩
  | 1 => ⟨S16384x1024, .f32⟩
  | 2 => ⟨S16384x1024, .f32⟩
  | 3 => ⟨S16380x1024, .f32⟩
  | 4 => ⟨S_, .f32⟩
  | 5 => ⟨S4x1024, .f32⟩
  | 6 => ⟨S16384x1024, .f32⟩
  | 7 => ⟨S16384x1024, .f32⟩
  | 8 => ⟨S16376x1024, .f32⟩
  | 9 => ⟨S_, .f32⟩
  | 10 => ⟨S8x1024, .f32⟩
  | 11 => ⟨S16384x1024, .f32⟩
  | 12 => ⟨S16384x1024, .f32⟩
  | 13 => ⟨S16384x1024, .f32⟩
  | 14 => ⟨S16376x1024, .f32⟩
  | 15 => ⟨S_, .f32⟩
  | 16 => ⟨S8x1024, .f32⟩
  | 17 => ⟨S16384x1024, .f32⟩
  | 18 => ⟨S16384x1024, .f32⟩
  | 19 => ⟨S16368x1024, .f32⟩
  | 20 => ⟨S_, .f32⟩
  | 21 => ⟨S16x1024, .f32⟩
  | 22 => ⟨S16384x1024, .f32⟩
  | 23 => ⟨S16384x1024, .f32⟩
  | 24 => ⟨S16384x1024, .f32⟩
  | 25 => ⟨S16368x1024, .f32⟩
  | 26 => ⟨S_, .f32⟩
  | 27 => ⟨S16x1024, .f32⟩
  | 28 => ⟨S16384x1024, .f32⟩
  | 29 => ⟨S16384x1024, .f32⟩
  | 30 => ⟨S16352x1024, .f32⟩
  | 31 => ⟨S_, .f32⟩
  | 32 => ⟨S32x1024, .f32⟩
  | 33 => ⟨S16384x1024, .f32⟩
  | 34 => ⟨S16384x1024, .f32⟩
  | 35 => ⟨S16384x1024, .f32⟩
  | 36 => ⟨S16352x1024, .f32⟩
  | 37 => ⟨S_, .f32⟩
  | 38 => ⟨S32x1024, .f32⟩
  | 39 => ⟨S16384x1024, .f32⟩
  | 40 => ⟨S16384x1024, .f32⟩
  | 41 => ⟨S16320x1024, .f32⟩
  | 42 => ⟨S_, .f32⟩
  | 43 => ⟨S64x1024, .f32⟩
  | 44 => ⟨S16384x1024, .f32⟩
  | 45 => ⟨S16384x1024, .f32⟩
  | 46 => ⟨S16384x1024, .f32⟩
  | 47 => ⟨S16320x1024, .f32⟩
  | 48 => ⟨S_, .f32⟩
  | 49 => ⟨S64x1024, .f32⟩
  | 50 => ⟨S16384x1024, .f32⟩
  | 51 => ⟨S16384x1024, .f32⟩
  | 52 => ⟨S16256x1024, .f32⟩
  | 53 => ⟨S_, .f32⟩
  | 54 => ⟨S128x1024, .f32⟩
  | 55 => ⟨S16384x1024, .f32⟩
  | 56 => ⟨S16384x1024, .f32⟩
  | 57 => ⟨S16384x1024, .f32⟩
  | 58 => ⟨S16256x1024, .f32⟩
  | 59 => ⟨S_, .f32⟩
  | 60 => ⟨S128x1024, .f32⟩
  | 61 => ⟨S16384x1024, .f32⟩
  | 62 => ⟨S16384x1024, .f32⟩
  | 63 => ⟨S16128x1024, .f32⟩
  | 64 => ⟨S_, .f32⟩
  | 65 => ⟨S256x1024, .f32⟩
  | 66 => ⟨S16384x1024, .f32⟩
  | 67 => ⟨S16384x1024, .f32⟩
  | 68 => ⟨S16384x1024, .f32⟩
  | 69 => ⟨S16128x1024, .f32⟩
  | 70 => ⟨S_, .f32⟩
  | 71 => ⟨S256x1024, .f32⟩
  | 72 => ⟨S16384x1024, .f32⟩
  | 73 => ⟨S16384x1024, .f32⟩
  | 74 => ⟨S15872x1024, .f32⟩
  | 75 => ⟨S_, .f32⟩
  | 76 => ⟨S512x1024, .f32⟩
  | 77 => ⟨S16384x1024, .f32⟩
  | 78 => ⟨S16384x1024, .f32⟩
  | 79 => ⟨S16384x1024, .f32⟩
  | 80 => ⟨S15872x1024, .f32⟩
  | 81 => ⟨S_, .f32⟩
  | 82 => ⟨S512x1024, .f32⟩
  | 83 => ⟨S16384x1024, .f32⟩
  | 84 => ⟨S16384x1024, .f32⟩
  | 85 => ⟨S15360x1024, .f32⟩
  | 86 => ⟨S_, .f32⟩
  | 87 => ⟨S1024x1024, .f32⟩
  | 88 => ⟨S16384x1024, .f32⟩
  | 89 => ⟨S16384x1024, .f32⟩
  | 90 => ⟨S16384x1024, .f32⟩
  | 91 => ⟨S15360x1024, .f32⟩
  | 92 => ⟨S_, .f32⟩
  | 93 => ⟨S1024x1024, .f32⟩
  | 94 => ⟨S16384x1024, .f32⟩
  | 95 => ⟨S16384x1024, .f32⟩
  | 96 => ⟨S14336x1024, .f32⟩
  | 97 => ⟨S_, .f32⟩
  | 98 => ⟨S2048x1024, .f32⟩
  | 99 => ⟨S16384x1024, .f32⟩
  | 100 => ⟨S16384x1024, .f32⟩
  | 101 => ⟨S16384x1024, .f32⟩
  | 102 => ⟨S14336x1024, .f32⟩
  | 103 => ⟨S_, .f32⟩
  | 104 => ⟨S2048x1024, .f32⟩
  | 105 => ⟨S16384x1024, .f32⟩
  | 106 => ⟨S16384x1024, .f32⟩
  | 107 => ⟨S12288x1024, .f32⟩
  | 108 => ⟨S_, .f32⟩
  | 109 => ⟨S4096x1024, .f32⟩
  | 110 => ⟨S16384x1024, .f32⟩
  | 111 => ⟨S16384x1024, .f32⟩
  | 112 => ⟨S16384x1024, .f32⟩
  | 113 => ⟨S12288x1024, .f32⟩
  | 114 => ⟨S_, .f32⟩
  | 115 => ⟨S4096x1024, .f32⟩
  | 116 => ⟨S16384x1024, .f32⟩
  | 117 => ⟨S16384x1024, .f32⟩
  | 118 => ⟨S8192x1024, .f32⟩
  | 119 => ⟨S_, .f32⟩
  | 120 => ⟨S8192x1024, .f32⟩
  | 121 => ⟨S16384x1024, .f32⟩
  | 122 => ⟨S16384x1024, .f32⟩
  | 123 => ⟨S16384x1024, .f32⟩
  | 124 => ⟨S8192x1024, .f32⟩
  | 125 => ⟨S_, .f32⟩
  | 126 => ⟨S8192x1024, .f32⟩
  | 127 => ⟨S16384x1024, .f32⟩
  | _ => ⟨S16384x1024, .bf16⟩

abbrev hbmTy0_2 (i : Nat) : BufTy := match i % 128 with
  | 0 => ⟨S16384x1024, .f32⟩
  | 1 => ⟨S16384x1024, .f32⟩
  | 2 => ⟨S4x256x256, .f32⟩
  | 3 => ⟨S4x256x256, .f32⟩
  | 4 => ⟨S1x1024, .f32⟩
  | 5 => ⟨S1x1024, .f32⟩
  | 6 => ⟨S1x1024, .f32⟩
  | _ => ⟨S16384x1024, .bf16⟩

abbrev hbmTy (i : Nat) : BufTy := match i / 128 with
  | 0 => hbmTy0_0 i
  | 1 => hbmTy0_1 i
  | 2 => hbmTy0_2 i
  | _ => ⟨S16384x1024, .bf16⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S16x1024, .f32⟩
  | .local _ .vmem, ⟨11, _⟩ => ⟨S16x1024, .f32⟩
  | .local _ .vmem, ⟨12, _⟩ => ⟨S4x1024, .f32⟩
  | .local _ .vmem, ⟨13, _⟩ => ⟨S1x1024, .f32⟩
  | .local _ .vmem, ⟨14, _⟩ => ⟨S4x256x256, .bf16⟩
  | .local _ .vmem, ⟨15, _⟩ => ⟨S4x256x256, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S4x256x256, .f32⟩
  | .local _ .vmem, ⟨24, _⟩ => ⟨S4x256x256, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S1x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_1 : Ref sig .tc := ⟨.hbm, 54, rfl⟩
abbrev main_v42 : Ref sig .tc := ⟨.hbm, 55, rfl⟩
abbrev main_v43 : Ref sig .tc := ⟨.hbm, 56, rfl⟩
abbrev main_cst_2 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_3 : Ref sig .tc := ⟨.hbm, 68, rfl⟩
abbrev main_v54 : Ref sig .tc := ⟨.hbm, 69, rfl⟩
abbrev main_v55 : Ref sig .tc := ⟨.hbm, 70, rfl⟩
abbrev main_cst_4 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_v59 : Ref sig .tc := ⟨.hbm, 88, rfl⟩
abbrev main_cst_5 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_6 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_7 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_8 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_9 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_10 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_11 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_12 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_13 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_14 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_15 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_cst_16 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_17 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_cst_18 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_cst_19 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_20 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_21 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_22 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_cst_23 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_cst_24 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_cst_25 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_cst_26 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_cst_27 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_cst_28 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_cst_29 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_cst_30 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_cst_31 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_v185 : Ref sig .tc := ⟨.hbm, 241, rfl⟩
abbrev main_cst_32 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_cst_33 : Ref sig .tc := ⟨.hbm, 247, rfl⟩
abbrev main_v190 : Ref sig .tc := ⟨.hbm, 248, rfl⟩
abbrev main_v191 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_cst_34 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198_0 : Ref sig .tc := ⟨.hbm, 257, rfl⟩
abbrev main_v198_1 : Ref sig .tc := ⟨.hbm, 258, rfl⟩
abbrev main_v198_2 : Ref sig .tc := ⟨.hbm, 259, rfl⟩
abbrev main_v198_3 : Ref sig .tc := ⟨.hbm, 260, rfl⟩
abbrev main_v198_4 : Ref sig .tc := ⟨.hbm, 261, rfl⟩
abbrev main_v198_5 : Ref sig .tc := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg19_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem19_0 : DmaSem sig := 27

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_75 : BitVec 32 := 0#32
  let c32_i32 : BitVec 32 := 32#32
  let v149 : BitVec 32 := Scalar.addi c0_i32_75 c32_i32
  let c1_i32_76 : BitVec 32 := 1#32
  ⟨c0_i32_75, v149, c1_i32_76⟩
def k0_mult1 (k0_t1 : Fin k0_t1_loop.trips) : BitVec 32 :=
  let c0_i32_75 : BitVec 32 := 0#32
  let c1_i32_76 : BitVec 32 := 1#32
  let arg25 : BitVec 32 := Scf.iv c0_i32_75 c1_i32_76 k0_t1
  let c8_i32 : BitVec 32 := 8#32
  let v332 : BitVec 32 := Scalar.muli arg25 c8_i32
  v332
def k0_off1 (k0_t1 : Fin k0_t1_loop.trips) : Fin 2 → Nat :=
  let c0_i32_75 : BitVec 32 := 0#32
  let c1_i32_76 : BitVec 32 := 1#32
  let arg25 : BitVec 32 := Scf.iv c0_i32_75 c1_i32_76 k0_t1
  let c8_i32 : BitVec 32 := 8#32
  let v332 : BitVec 32 := Scalar.muli arg25 c8_i32
  let v333 : BitVec 32 := v332
  let v334 : Index := Scalar.indexCast v333
  let c0_202 : Index := 0#32
  ![v334.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S4x256x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Proof.LruAFBase.lean ====
module

public import proofs.«01_k».proof.Proof.Gen.KLruAIdeal.Frame
public import proofs.«01_k».proof.Proof.Gen.KLruAIdeal.Skeleton
public import proofs.«01_k».proof.Proof.Gen.KLruAIdeal.Loops
public import proofs.«01_k».proof.Proof.Gen.KLruAIdeal.Points
public import Idealize.ShloMosaic.Lib.Pipeline.FrameBody
public import Idealize.ShloMosaic.Lib.Ring
public import Idealize.ShloMosaic.Lib.Tactic
public import Idealize.ShloMosaic.Lib.WordCmp

/-! The forward call of the recurrence: its buffers and its branches. -/

@[expose] public section

set_option maxRecDepth 16384

noncomputable section

namespace Cert.LruAFrame

open Cert.KLruAIdeal Cert.KLruAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A buffer on the core. -/
abbrev Stg (s : Shape) (e : EltTy) := Memref sig .tc .vmem s e

variable {F : FTy → Type} [FloatOps F]

local notation "𝕄" => MT nD τ sig Unit (Elt F) ℕ (UR sig nD τ) ℕ

/-! The first tile zeroes the carried state. -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! Names for the buffers. -/

abbrev VO0_10 : View sig .tc .vmem S512x1024 .f32 := (Memref.whole cc0_stg10_0 : Stg S512x1024 .f32).view
/-- The staging buffer of each window at a point. -/
abbrev ms0_0 (t : Fin cfg0.N) : Stg S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Stg S16x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Stg S16x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Stg S4x1024 .f32 := win0_3.stage (cfg0.slots t 3)
abbrev hs0_3 (t : Fin cfg0.N) : (ms0_3 t).IsWhole := hstage0_3 ((cfg0.slots t 3).cast nbuf0_3)
abbrev ms0_4 (t : Fin cfg0.N) : Stg S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Stg S4x256x256 .bf16 := win0_5.stage (cfg0.slots t 5)
abbrev hs0_5 (t : Fin cfg0.N) : (ms0_5 t).IsWhole := hstage0_5 ((cfg0.slots t 5).cast nbuf0_5)
abbrev ms0_6 (t : Fin cfg0.N) : Stg S4x256x256 .bf16 := win0_6.stage (cfg0.slots t 6)
abbrev hs0_6 (t : Fin cfg0.N) : (ms0_6 t).IsWhole := hstage0_6 ((cfg0.slots t 6).cast nbuf0_6)
abbrev ms0_7 (t : Fin cfg0.N) : Stg S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Stg S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Stg S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Stg S512x1024 .f32 := win0_10.stage (cfg0.slots t 10)
abbrev hs0_10 (t : Fin cfg0.N) : (ms0_10 t).IsWhole := hstage0_10 ((cfg0.slots t 10).cast nbuf0_10)
/-- The three scratch buffers: the decays, the loads, and the state carried from tile to tile. -/
abbrev scM0_0 : Stg S512x1024 .f32 := Memref.whole cc0_scratch0
abbrev scM0_1 : Stg S512x1024 .f32 := Memref.whole cc0_scratch1
abbrev scM0_2 : Stg S1x1024 .f32 := Memref.whole cc0_scratch2
abbrev VS0_2 : View sig .tc .vmem S1x1024 .f32 := scM0_2.view

/-- What the launch hands the region, scratch buffer by scratch buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- A buffer at these contents, -/
abbrev holds (c : Dev nD) {s : Shape} {e : EltTy} (M : Stg s e) (x : Vec F s e) : sProp 𝕄 :=
  owns (c : Thread nD τ) M fullShare x

/-- and after these stores. -/
abbrev stored (c : Dev nD) {s : Shape} {e : EltTy} (M : Stg s e) (L : List (View.Piece (Elt F) s e)) : sProp 𝕄 :=
  iprop(∃ f, M.view.loc (c : Thread nD τ) ↦[M.view.set]{fullShare} M.view.writes (Elt F) f L)

end Cert.LruAFrame

end
-- ==== Proof.Owned.lean ====
module

public import Idealize.ShloMosaic.Lib.Ring
public import Idealize.ShloMosaic.Lib.Pipeline.FrameBody

/-! A buffer whose cells a list of stores covers is owned at what the stores left. -/

@[expose] public section

namespace Cert.Owned

open Idealize.ShloMosaic Idealize.ShloMosaic.TcCoe
open Idealize.SL Idealize.SL.RA Idealize.SL.BI
open scoped Idealize.SL.BI
open Idealize.SL.BI.BIBase Idealize.SL.BI.Laws Idealize.SL.Sem Idealize.SL.ProofMode

/-- The stores leave no cell out. -/
abbrev Covers {Val : EltTy → Type} {s : Shape} {e : EltTy} (L : List (View.Piece Val s e)) : Prop :=
  ∀ y, ∃ p ∈ L, y ∈ p.1.set

variable {nD : Nat} {τ : Topo} {sig : RefSig} {Ix : Type} [DecidableEq Ix] {Val : EltTy → Type} {Name : Type} [DecidableEq Name]
variable {U : Type} [URA U] {Lvl : Type}

/-- After stores that cover it a buffer is owned at what they leave in any buffer of its shape. -/
theorem owns_of_cover [∀ e, Nonempty (Val e)] {c : Thread nD τ} {cs : Space} {s : Shape} {e : EltTy} {κ' : Kind} {sp' : Space}
    (v' : View sig κ' sp' s e) {M : Memref sig c.2.kind cs s e} {g : Buf Val (M.view.loc c)} {q : PosShare TreeShare}
    {L : List (View.Piece Val s e)} (h : Covers L) :
    (M.view.loc c ↦[M.view.set]{q} M.view.writes Val g L : sProp (MT nD τ sig Ix Val Name U Lvl))
      ⊢ owns c M q (v'.read Val (v'.writes Val v'.junk L)) := by
  iintro H; unfold owns; iexists M.view.writes Val g L; isplitr
  · ipureintro; exact View.read_writes_of_cover _ _ _ _ _ h
  · iexact H

/-- A whole buffer whose cells hold a table is owned at the table. -/
theorem owned {c : Thread nD τ} {cs : Space} {s : Shape} {e : EltTy} {M : Memref sig c.2.kind cs s e} {q : PosShare TreeShare}
    (h : M.IsWhole) {x : s.Idx → Val e} :
    (M.view.loc c ↦[M.view.set]{q} h.unread x : sProp (MT nD τ sig Ix Val Name U Lvl))
      ⊢ iprop(∃ f, ⌜M.view.read Val f = x⌝ ∗ (M.view.loc c ↦[M.view.set]{q} f)) := by
  iintro H; iexists _; isplitr
  · ipureintro; exact h.read_unread x
  · iexact H

end Cert.Owned

end
-- ==== Proof.LruARunA.lean ====
module

public import proofs.«01_k».proof.Proof.LruAFBase
public import proofs.«01_k».proof.Proof.Owned

/-! The forward call of the recurrence, the first tile. -/

@[expose] public section

set_option maxRecDepth 16384

noncomputable section

namespace Cert.LruAFrame

open Cert.KLruAIdeal Cert.KLruAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Owned
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first tile: the body, run on any staging buffers, and the pieces it leaves in its result and in the carried state. -/
noncomputable def tileA (c : Dev nD) (i : grid0.Coords) (arg1 : Stg S512x1024 .bf16) (harg1 : arg1.IsWhole) (arg2 : Stg S16x1024 .bf16) (harg2 : arg2.IsWhole) (arg3 : Stg S16x1024 .bf16) (harg3 : arg3.IsWhole) (arg4 : Stg S4x1024 .f32) (harg4 : arg4.IsWhole) (arg5 : Stg S1x1024 .f32) (harg5 : arg5.IsWhole) (arg6 : Stg S4x256x256 .bf16) (harg6 : arg6.IsWhole) (arg7 : Stg S4x256x256 .bf16) (harg7 : arg7.IsWhole) (arg8 : Stg S1x1024 .f32) (harg8 : arg8.IsWhole) (arg9 : Stg S1x1024 .f32) (harg9 : arg9.IsWhole) (arg10 : Stg S1x1024 .f32) (harg10 : arg10.IsWhole) (arg11 : Stg S512x1024 .f32) (harg11 : arg11.IsWhole) (arg12 : Stg S512x1024 .f32) (harg12 : arg12.IsWhole) (arg13 : Stg S512x1024 .f32) (harg13 : arg13.IsWhole) (arg14 : Stg S1x1024 .f32) (harg14 : arg14.IsWhole) (hc0 : cond0_0 i)
    (x0 : Vec F S512x1024 .bf16) (x1 : Vec F S16x1024 .bf16) (x2 : Vec F S16x1024 .bf16) (x3 : Vec F S4x1024 .f32) (x4 : Vec F S1x1024 .f32) (x5 : Vec F S4x256x256 .bf16) (x6 : Vec F S4x256x256 .bf16) (x7 : Vec F S1x1024 .f32) (x8 : Vec F S1x1024 .f32) (x9 : Vec F S1x1024 .f32) :
    Σ' (L10 : List (View.Piece (Elt F) S512x1024 .f32)), { LS2 : List (View.Piece (Elt F) S1x1024 .f32) //
      ∀ (E : Set ℕ) (K : PUnit → sProp 𝕄),
        iprop(holds c arg1 x0 ∗ holds c arg2 x1 ∗ holds c arg3 x2 ∗ holds c arg4 x3 ∗ holds c arg5 x4 ∗ holds c arg6 x5 ∗ holds c arg7 x6 ∗ holds c arg8 x7 ∗ holds c arg9 x8 ∗ holds c arg10 x9 ∗ (∃ d, holds c arg11 d) ∗ (∃ d, holds c arg12 d) ∗ (∃ d, holds c arg13 d) ∗ (∃ d, holds c arg14 d)
            ∗ (iprop(holds c arg1 x0 ∗ holds c arg2 x1 ∗ holds c arg3 x2 ∗ holds c arg4 x3 ∗ holds c arg5 x4 ∗ holds c arg6 x5 ∗ holds c arg7 x6 ∗ holds c arg8 x7 ∗ holds c arg9 x8 ∗ holds c arg10 x9 ∗ stored c arg11 L10 ∗ (∃ d, holds c arg12 d) ∗ (∃ d, holds c arg13 d) ∗ stored c arg14 LS2) -∗ K ⟨⟩))
          ⊢ wp frame (wpE (defs₀ (F := F)) Variants.none c none) E (cc0_lru_f i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_lru_f_eq_skeleton]; unfold cc0_lru_f_skel
    simp only [k0_part2_eq_skeleton, k0_part3_eq_skeleton, k0_part4_eq_skeleton, k0_part5_eq_skeleton]
    unfold holds stored owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0)
    sl_step
    iapply Hk
    isplitl [H0]; · iapply owned harg1; iexact H0
    isplitl [H1]; · iapply owned harg2; iexact H1
    isplitl [H2]; · iapply owned harg3; iexact H2
    isplitl [H3]; · iapply owned harg4; iexact H3
    isplitl [H4]; · iapply owned harg5; iexact H4
    isplitl [H5]; · iapply owned harg6; iexact H5
    isplitl [H6]; · iapply owned harg7; iexact H6
    isplitl [H7]; · iapply owned harg8; iexact H7
    isplitl [H8]; · iapply owned harg9; iexact H8
    isplitl [H9]; · iapply owned harg10; iexact H9
    isplitl [H10]; · iexists _; iexact H10
    isplitl [HS0]
    · iexists _, _; isplitr; swap; · iexact HS0
      ipureintro; rfl
    isplitl [HS1]
    · iexists _, _; isplitr; swap; · iexact HS1
      ipureintro; rfl
    iexists _; iexact HS2

end Cert.LruAFrame

end
-- ==== Proof.LruARunB.lean ====
module

public import proofs.«01_k».proof.Proof.LruARunA

/-! The forward call of the recurrence, any other tile. -/

@[expose] public section

set_option maxRecDepth 16384

noncomputable section

namespace Cert.LruAFrame

open Cert.KLruAIdeal Cert.KLruAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Owned
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Any other tile: the body, run on any staging buffers, and the pieces it leaves in its result and in the carried state. -/
noncomputable def tileB (c : Dev nD) (i : grid0.Coords) (arg1 : Stg S512x1024 .bf16) (harg1 : arg1.IsWhole) (arg2 : Stg S16x1024 .bf16) (harg2 : arg2.IsWhole) (arg3 : Stg S16x1024 .bf16) (harg3 : arg3.IsWhole) (arg4 : Stg S4x1024 .f32) (harg4 : arg4.IsWhole) (arg5 : Stg S1x1024 .f32) (harg5 : arg5.IsWhole) (arg6 : Stg S4x256x256 .bf16) (harg6 : arg6.IsWhole) (arg7 : Stg S4x256x256 .bf16) (harg7 : arg7.IsWhole) (arg8 : Stg S1x1024 .f32) (harg8 : arg8.IsWhole) (arg9 : Stg S1x1024 .f32) (harg9 : arg9.IsWhole) (arg10 : Stg S1x1024 .f32) (harg10 : arg10.IsWhole) (arg11 : Stg S512x1024 .f32) (harg11 : arg11.IsWhole) (arg12 : Stg S512x1024 .f32) (harg12 : arg12.IsWhole) (arg13 : Stg S512x1024 .f32) (harg13 : arg13.IsWhole) (arg14 : Stg S1x1024 .f32) (harg14 : arg14.IsWhole) (hc0 : ¬cond0_0 i)
    (x0 : Vec F S512x1024 .bf16) (x1 : Vec F S16x1024 .bf16) (x2 : Vec F S16x1024 .bf16) (x3 : Vec F S4x1024 .f32) (x4 : Vec F S1x1024 .f32) (x5 : Vec F S4x256x256 .bf16) (x6 : Vec F S4x256x256 .bf16) (x7 : Vec F S1x1024 .f32) (x8 : Vec F S1x1024 .f32) (x9 : Vec F S1x1024 .f32) (xs2 : Vec F S1x1024 .f32) :
    Σ' (L10 : List (View.Piece (Elt F) S512x1024 .f32)), { LS2 : List (View.Piece (Elt F) S1x1024 .f32) //
      ∀ (E : Set ℕ) (K : PUnit → sProp 𝕄),
        iprop(holds c arg1 x0 ∗ holds c arg2 x1 ∗ holds c arg3 x2 ∗ holds c arg4 x3 ∗ holds c arg5 x4 ∗ holds c arg6 x5 ∗ holds c arg7 x6 ∗ holds c arg8 x7 ∗ holds c arg9 x8 ∗ holds c arg10 x9 ∗ (∃ d, holds c arg11 d) ∗ (∃ d, holds c arg12 d) ∗ (∃ d, holds c arg13 d) ∗ holds c arg14 xs2
            ∗ (iprop(holds c arg1 x0 ∗ holds c arg2 x1 ∗ holds c arg3 x2 ∗ holds c arg4 x3 ∗ holds c arg5 x4 ∗ holds c arg6 x5 ∗ holds c arg7 x6 ∗ holds c arg8 x7 ∗ holds c arg9 x8 ∗ holds c arg10 x9 ∗ stored c arg11 L10 ∗ (∃ d, holds c arg12 d) ∗ (∃ d, holds c arg13 d) ∗ stored c arg14 LS2) -∗ K ⟨⟩))
          ⊢ wp frame (wpE (defs₀ (F := F)) Variants.none c none) E (cc0_lru_f i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_lru_f_eq_skeleton]; unfold cc0_lru_f_skel
    simp only [k0_part2_eq_skeleton, k0_part3_eq_skeleton, k0_part4_eq_skeleton, k0_part5_eq_skeleton]
    unfold holds stored owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hfs2
    sl_exec (disch := first | sl_exact hc0)
    sl_step
    iapply Hk
    isplitl [H0]; · iapply owned harg1; iexact H0
    isplitl [H1]; · iapply owned harg2; iexact H1
    isplitl [H2]; · iapply owned harg3; iexact H2
    isplitl [H3]; · iapply owned harg4; iexact H3
    isplitl [H4]; · iapply owned harg5; iexact H4
    isplitl [H5]; · iapply owned harg6; iexact H5
    isplitl [H6]; · iapply owned harg7; iexact H6
    isplitl [H7]; · iapply owned harg8; iexact H7
    isplitl [H8]; · iapply owned harg9; iexact H8
    isplitl [H9]; · iapply owned harg10; iexact H9
    isplitl [H10]; · iexists _; iexact H10
    isplitl [HS0]
    · iexists _, _; isplitr; swap; · iexact HS0
      ipureintro; rfl
    isplitl [HS1]
    · iexists _, _; isplitr; swap; · iexact HS1
      ipureintro; rfl
    iexists _; iexact HS2

end Cert.LruAFrame

end
-- ==== Proof.LruAFRun.lean ====
module

public import proofs.«01_k».proof.Proof.LruARunB
public import proofs.«01_k».proof.Proof.Owned
public import Idealize.ShloMosaic.Lib.Claim

/-! The forward call of the recurrence runs, leaves its arguments, and what its results hold after each tile. -/

@[expose] public section

set_option maxRecDepth 16384

noncomputable section

namespace Cert.LruAFrame

open Cert.KLruAIdeal Cert.KLruAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Owned
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result and the carried state. -/
abbrev Outs (F : FTy → Type) : Type := Vec F S512x1024 .f32 × Vec F S1x1024 .f32

/-- The first tile, at its own buffers and blocks. -/
abbrev atA (c : Dev nD) (t : Fin cfg0.N) (h0 : t.val % 32 = 0) :=
  tileA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)

theorem coverA (c : Dev nD) (t : Fin cfg0.N) (h0 : t.val % 32 = 0) :
    let T := atA m c t h0
    Covers T.1 ∧ Covers T.2.1 :=
  ⟨View.cover_of_tiledL _ S8x1024.size (by sl_kernel_rfl),
    View.cover_of_tiledL _ S1x1024.size (by sl_kernel_rfl)⟩

/-- The first tile: what it leaves. -/
def leaveA (c : Dev nD) (t : Fin cfg0.N) (h0 : t.val % 32 = 0) : Outs F :=
  (VO0_10.read (Elt F) (VO0_10.writes (Elt F) VO0_10.junk (atA m c t h0).1),
    VS0_2.read (Elt F) (VS0_2.writes (Elt F) VS0_2.junk (atA m c t h0).2.1))

/-- Any other tile, at its own buffers and blocks. -/
abbrev atB (c : Dev nD) (t : Fin cfg0.N) (h0 : ¬t.val % 32 = 0) (p : Outs F) :=
  tileB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) p.2

theorem coverB (c : Dev nD) (t : Fin cfg0.N) (h0 : ¬t.val % 32 = 0) (p : Outs F) :
    let T := atB m c t h0 p
    Covers T.1 ∧ Covers T.2.1 :=
  ⟨View.cover_of_tiledL _ S8x1024.size (by sl_kernel_rfl),
    View.cover_of_tiledL _ S1x1024.size (by sl_kernel_rfl)⟩

/-- Any other tile: what it leaves. -/
def leaveB (c : Dev nD) (t : Fin cfg0.N) (h0 : ¬t.val % 32 = 0) (p : Outs F) : Outs F :=
  (VO0_10.read (Elt F) (VO0_10.writes (Elt F) VO0_10.junk (atB m c t h0 p).1),
    VS0_2.read (Elt F) (VS0_2.writes (Elt F) VS0_2.junk (atB m c t h0 p).2.1))

/-- What the six results and the carried state hold after each tile. -/
def outsAt0 (c : Dev nD) : (n : ℕ) → n < cfg0.N → Outs F
  | 0, hn => leaveA m c ⟨0, hn⟩ (Nat.zero_mod _)
  | n + 1, hn =>
    if h0 : (n + 1) % 32 = 0 then leaveA m c ⟨n + 1, hn⟩ h0 else leaveB m c ⟨n + 1, hn⟩ h0 (outsAt0 c n (Nat.lt_of_succ_lt hn))

/-- What the tile before left. -/
abbrev before (c : Dev nD) (t : Fin cfg0.N) : Outs F := outsAt0 m c (t.val - 1) (Nat.lt_of_le_of_lt (Nat.sub_le _ _) t.isLt)

theorem outsAt0_A (c : Dev nD) (t : Fin cfg0.N) (h0 : t.val % 32 = 0) : outsAt0 m c t.val t.isLt = leaveA m c t h0 := by
  obtain ⟨n, hn⟩ := t
  cases n with
  | zero => exact rfl
  | succ n => exact dif_pos h0

theorem outsAt0_B (c : Dev nD) (t : Fin cfg0.N) (h0 : ¬t.val % 32 = 0) :
    outsAt0 m c t.val t.isLt = leaveB m c t h0 (before m c t) := by
  obtain ⟨n, hn⟩ := t
  cases n with
  | zero => exact absurd (Nat.zero_mod _) h0
  | succ n => exact dif_neg h0

/-- The scratch with the carried state at `x` and the rest at anything. -/
abbrev between (c : Dev nD) (x : Vec F S1x1024 .f32) : sProp 𝕄 :=
  iprop(iprop((∃ d, owns (c : Thread nD τ) scM0_0 fullShare d) ∗ (∃ d, owns (c : Thread nD τ) scM0_1 fullShare d) ∗ owns (c : Thread nD τ) scM0_2 fullShare x) ∗ (∃ r, prngReg c r))

/-- The scratch between two tiles: the carried state at what the tile before left. -/
def PhiS (c : Dev nD) : (n : ℕ) → n ≤ cfg0.N → sProp 𝕄
  | 0, _ => Pipeline.ΦA spec0 c
  | n + 1, hn => between c (outsAt0 m c n hn).2

theorem PhiS_zero (c : Dev nD) (n : ℕ) (h : n ≤ cfg0.N) (hz : n = 0) : PhiS m c n h = Pipeline.ΦA spec0 c := by
  subst hz; rfl

/-- Before a point that is not the first: the carried scratch at what the point before left. -/
theorem PhiS_pos (c : Dev nD) (n : ℕ) (h : n ≤ cfg0.N) (hz : n ≠ 0) :
    PhiS m c n h = between c (outsAt0 m c (n - 1) (by omega)).2 := by
  cases n with
  | zero => exact absurd rfl hz
  | succ n => rfl

/-! ## The pipeline's proof data -/

/-- The arrays as the region finds them, each input left at its block, the results as stated above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_10 (c : Dev nD) (t : Fin cfg0.N) : (dats m 0 c).after 10 t = (outsAt0 m c t.val t.isLt).1 := by dsimp only [dats]

/-! The body at any tile. -/

/-- What the body is called with at a point, -/
def bodyPre (c : Dev nD) (t : Fin cfg0.N) : sProp 𝕄 :=
  iprop((dats m 0 c).Φ t.castSucc ∗ (dats m 0 c).owesAt () t.castSucc
    ∗ (∃ d, holds c (ms0_0 t) ((dats m 0 c).before 0 t d))
    ∗ (∃ d, holds c (ms0_1 t) ((dats m 0 c).before 1 t d))
    ∗ (∃ d, holds c (ms0_2 t) ((dats m 0 c).before 2 t d))
    ∗ (∃ d, holds c (ms0_3 t) ((dats m 0 c).before 3 t d))
    ∗ (∃ d, holds c (ms0_4 t) ((dats m 0 c).before 4 t d))
    ∗ (∃ d, holds c (ms0_5 t) ((dats m 0 c).before 5 t d))
    ∗ (∃ d, holds c (ms0_6 t) ((dats m 0 c).before 6 t d))
    ∗ (∃ d, holds c (ms0_7 t) ((dats m 0 c).before 7 t d))
    ∗ (∃ d, holds c (ms0_8 t) ((dats m 0 c).before 8 t d))
    ∗ (∃ d, holds c (ms0_9 t) ((dats m 0 c).before 9 t d))
    ∗ (∃ d, holds c (ms0_10 t) ((dats m 0 c).before 10 t d)))

/-- and what it returns. -/
def bodyPost (c : Dev nD) (t : Fin cfg0.N) : sProp 𝕄 :=
  iprop((dats m 0 c).Φ t.succ ∗ (dats m 0 c).owesAt () t.succ
    ∗ holds c (ms0_0 t) (iblk m c 0 t)
    ∗ holds c (ms0_1 t) (iblk m c 1 t)
    ∗ holds c (ms0_2 t) (iblk m c 2 t)
    ∗ holds c (ms0_3 t) (iblk m c 3 t)
    ∗ holds c (ms0_4 t) (iblk m c 4 t)
    ∗ holds c (ms0_5 t) (iblk m c 5 t)
    ∗ holds c (ms0_6 t) (iblk m c 6 t)
    ∗ holds c (ms0_7 t) (iblk m c 7 t)
    ∗ holds c (ms0_8 t) (iblk m c 8 t)
    ∗ holds c (ms0_9 t) (iblk m c 9 t)
    ∗ holds c (ms0_10 t) ((dats m 0 c).after 10 t))

set_option maxHeartbeats 9600000 in
/-- The body at any tile takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl), before0_7_of m (dats m 0 c) (A_eq m c 7) (fun _ => rfl), before0_8_of m (dats m 0 c) (A_eq m c 8) (fun _ => rfl), before0_9_of m (dats m 0 c) (A_eq m c 9) (fun _ => rfl)]
  rw [show (dats m 0 c).owesAt () t.succ = (dats m 0 c).owesAt () t.castSucc from rfl,
    show (dats m 0 c).Φ t.succ = between c (outsAt0 m c t.val t.isLt).2 from rfl,
    after0_10]
  have hN : t.val < 32 := lt_of_lt_of_eq t.isLt (show cfg0.N = 32 from N_0)
  by_cases h0 : t.val % 32 = 0
  · rw [PhiS_castSucc m c t, PhiS_zero m c _ _ (by omega), PhiA0_eq, outsAt0_A m c t h0]
    unfold leaveA between; dsimp only
    obtain ⟨k0, k1⟩ := coverA m c t h0
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((atA m c t h0).2.2 Set.univ _)
    iframe H0 H1 H2 H3 H4 H5 H6 H7 H8 H9 HS0 HS1 HS2
    isplitl [H10]; · iexists _; iexact H10
    iintro ⟨H0, H1, H2, H3, H4, H5, H6, H7, H8, H9, ⟨%e10, H10⟩, HS0, HS1, ⟨%es, HS2⟩⟩
    ihave K10 := (owns_of_cover VO0_10 k0) $$ H10
    ihave KS := (owns_of_cover VS0_2 k1) $$ HS2
    iframe
  · rw [PhiS_castSucc m c t, PhiS_pos m c _ _ (by omega), outsAt0_B m c t h0]
    unfold leaveB between; dsimp only
    obtain ⟨k0, k1⟩ := coverB m c t h0 (before m c t)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((atB m c t h0 (before m c t)).2.2 Set.univ _)
    iframe H0 H1 H2 H3 H4 H5 H6 H7 H8 H9 HS0 HS1 HS2
    isplitl [H10]; · iexists _; iexact H10
    iintro ⟨H0, H1, H2, H3, H4, H5, H6, H7, H8, H9, ⟨%e10, H10⟩, HS0, HS1, ⟨%es, HS2⟩⟩
    ihave K10 := (owns_of_cover VO0_10 k0) $$ H10
    ihave KS := (owns_of_cover VS0_2 k1) $$ HS2
    iframe

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  iframe
  iexists _; iexact HS2

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- The whole program, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The arrays at the end. -/
theorem run_main : θ_run defs (onTc (τ := τ) (main (F := F))) (s₀ m ρ) (Pipeline.FramePost cfgs (dats m) 0 (V m)) :=
  (θ_run defs _ _).mono (fun _ h => h.1) (run_main_quiescent m ρ)

/-- A buffer is as it was. -/
abbrev Same (r : PUnit × MemSt nD τ sig (Elt F)) (c : Dev nD) (b : Ref sig .tc) : Prop :=
  r.2.mem ((c.tc : Thread nD τ).loc b) = m ((c.tc : Thread nD τ).loc b)

/-- The arguments are as they were. -/
abbrev Kept (r : PUnit × MemSt nD τ sig (Elt F)) (c : Dev nD) : Prop :=
  Same m r c main_arg0 ∧ Same m r c main_arg1 ∧ Same m r c main_arg2 ∧ Same m r c main_arg3 ∧ Same m r c main_arg4 ∧ Same m r c main_arg5 ∧ Same m r c main_arg6 ∧ Same m r c main_arg7

theorem unchanged : θ_run defs (onTc (τ := τ) (main (F := F))) ⟨m, fun _ => 0, ρ⟩ (fun r => ∀ c : Dev nD, Kept m r c) :=
  frame_of m ρ (dats m) (A_eq m) (run_main m ρ)

/-- The frame, over any numbers. -/
theorem frame_all : θ_run defs (onTc (τ := τ) (main (F := F))) ⟨m, fun _ => 0, ρ⟩
    (fun r => (∀ c : Dev nD, Kept m r c) ∧ r.2.sem = fun _ => 0) :=
  θ_run_and (unchanged m ρ) ((θ_run defs _ _).mono (fun _ h => h.2) (run_main_quiescent m ρ))

/-- The results are the arrays that the tiles leave, and the arguments are as they were. -/
theorem run_blocks : θ_run defs (onTc (τ := τ) (main (F := F))) ⟨m, fun _ => 0, ρ⟩ fun r => ∀ c : Dev nD,
      r.2.mem ((c : Thread nD τ).loc main_v0) = (dats m 0 c).arrAt 10 cfg0.N ∧ Kept m r c :=
  (θ_run defs _ _).mono (fun r h c => ⟨(h.1 c).1 10, h.2 c⟩) (θ_run_and (run_main m ρ) (unchanged m ρ))

end Cert.LruAFrame

end
-- ==== Proof.LruABits.lean ====
module

public import proofs.«01_k».proof.Proof.LruAFRun
public import proofs.«01_k».proof.Proof.Gen.KLruA.Frame
public import proofs.«01_k».proof.Defs

/-! The frame of the recurrence's forward call at the words: its text and the idealized one's are one. -/

@[expose] public section

set_option maxRecDepth 16384

namespace Cert.LruABits

open Cert.KLruAIdeal Cert.LruAFrame
open Idealize.ShloMosaic Idealize.ShloMosaic.TcCoe Idealize.ShloMosaic.Tactic Idealize.SL.Sem

/-- The frame's statement is the same of the two printed programs. -/
theorem one_text : Cert.quiescent_KLruA (hKLruA := Cert.KLruA.Gen.facts) = ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD, Kept m r c) ∧ r.2.sem = fun _ => 0) := by sl_kernel_rfl

/-- The frame of the program as it is. -/
theorem frame : Cert.quiescent_KLruA (hKLruA := Cert.KLruA.Gen.facts) :=
  one_text.mpr fun m ρ _ => frame_all m ρ

end Cert.LruABits

end
-- ==== Proof.LruDFBase.lean ====
module

public import proofs.«01_k».proof.Proof.Gen.KLruDIdeal.Frame
public import proofs.«01_k».proof.Proof.Gen.KLruDIdeal.Skeleton
public import proofs.«01_k».proof.Proof.Gen.KLruDIdeal.Loops
public import proofs.«01_k».proof.Proof.Gen.KLruDIdeal.Points
public import Idealize.ShloMosaic.Lib.Pipeline.FrameBody
public import Idealize.ShloMosaic.Lib.Ring
public import Idealize.ShloMosaic.Lib.Tactic
public import Idealize.ShloMosaic.Lib.WordCmp

/-! The descending forward call of the recurrence: its buffers and its branches. -/

@[expose] public section

set_option maxRecDepth 16384

noncomputable section

namespace Cert.LruDFrame

open Cert.KLruDIdeal Cert.KLruDIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A buffer on the core. -/
abbrev Stg (s : Shape) (e : EltTy) := Memref sig .tc .vmem s e

variable {F : FTy → Type} [FloatOps F] [Named F]

local notation "𝕄" => MT nD τ sig Unit (Elt F) ℕ (UR sig nD τ) ℕ

/-! The first point zeroes the carried state. -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! Names for the buffers. -/

abbrev VO0_12 : View sig .tc .vmem S512x1024 .f32 := (Memref.whole cc0_stg12_0 : Stg S512x1024 .f32).view
abbrev VO0_13 : View sig .tc .vmem S512x1024 .bf16 := (Memref.whole cc0_stg13_0 : Stg S512x1024 .bf16).view
/-- The staging buffer of each window at a point. -/
abbrev ms0_0 (t : Fin cfg0.N) : Stg S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Stg S16x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Stg S16x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Stg S4x1024 .f32 := win0_3.stage (cfg0.slots t 3)
abbrev hs0_3 (t : Fin cfg0.N) : (ms0_3 t).IsWhole := hstage0_3 ((cfg0.slots t 3).cast nbuf0_3)
abbrev ms0_4 (t : Fin cfg0.N) : Stg S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Stg S4x256x256 .bf16 := win0_5.stage (cfg0.slots t 5)
abbrev hs0_5 (t : Fin cfg0.N) : (ms0_5 t).IsWhole := hstage0_5 ((cfg0.slots t 5).cast nbuf0_5)
abbrev ms0_6 (t : Fin cfg0.N) : Stg S4x256x256 .bf16 := win0_6.stage (cfg0.slots t 6)
abbrev hs0_6 (t : Fin cfg0.N) : (ms0_6 t).IsWhole := hstage0_6 ((cfg0.slots t 6).cast nbuf0_6)
abbrev ms0_7 (t : Fin cfg0.N) : Stg S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Stg S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Stg S1x1024 .f32 := win0_9.stage (cfg0.slots t 9)
abbrev hs0_9 (t : Fin cfg0.N) : (ms0_9 t).IsWhole := hstage0_9 ((cfg0.slots t 9).cast nbuf0_9)
abbrev ms0_10 (t : Fin cfg0.N) : Stg S512x1024 .f32 := win0_10.stage (cfg0.slots t 10)
abbrev hs0_10 (t : Fin cfg0.N) : (ms0_10 t).IsWhole := hstage0_10 ((cfg0.slots t 10).cast nbuf0_10)
abbrev ms0_11 (t : Fin cfg0.N) : Stg S512x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Stg S512x1024 .f32 := win0_12.stage (cfg0.slots t 12)
abbrev hs0_12 (t : Fin cfg0.N) : (ms0_12 t).IsWhole := hstage0_12 ((cfg0.slots t 12).cast nbuf0_12)
abbrev ms0_13 (t : Fin cfg0.N) : Stg S512x1024 .bf16 := win0_13.stage (cfg0.slots t 13)
abbrev hs0_13 (t : Fin cfg0.N) : (ms0_13 t).IsWhole := hstage0_13 ((cfg0.slots t 13).cast nbuf0_13)
/-- The three scratch buffers: the decays, the loads, and the state carried from tile to tile. -/
abbrev scM0_0 : Stg S512x1024 .f32 := Memref.whole cc0_scratch0
abbrev scM0_1 : Stg S512x1024 .f32 := Memref.whole cc0_scratch1
abbrev scM0_2 : Stg S1x1024 .f32 := Memref.whole cc0_scratch2
abbrev VS0_2 : View sig .tc .vmem S1x1024 .f32 := scM0_2.view

/-- What the launch hands the region, scratch buffer by scratch buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- What is loaded of the states after the loop over the groups of rows does not depend on what the buffer held
    before: the 64 groups tile it. -/
theorem loop_read : ∀ (𝒱 : Variants) (c : Dev nD) (bd : Option 𝒱.V) (i : grid0.Coords) (arg1 : Stg S512x1024 .bf16) (harg1 : arg1.IsWhole) (arg2 : Stg S16x1024 .bf16) (harg2 : arg2.IsWhole) (arg3 : Stg S16x1024 .bf16) (harg3 : arg3.IsWhole) (arg4 : Stg S4x1024 .f32) (harg4 : arg4.IsWhole) (arg5 : Stg S1x1024 .f32) (harg5 : arg5.IsWhole) (arg6 : Stg S4x256x256 .bf16) (harg6 : arg6.IsWhole) (arg7 : Stg S4x256x256 .bf16) (harg7 : arg7.IsWhole) (arg8 : Stg S1x1024 .f32) (harg8 : arg8.IsWhole) (arg9 : Stg S1x1024 .f32) (harg9 : arg9.IsWhole) (arg10 : Stg S1x1024 .f32) (harg10 : arg10.IsWhole) (arg11 : Stg S512x1024 .f32) (harg11 : arg11.IsWhole) (arg12 : Stg S512x1024 .bf16) (harg12 : arg12.IsWhole) (arg13 : Stg S512x1024 .f32) (harg13 : arg13.IsWhole) (arg14 : Stg S512x1024 .bf16) (harg14 : arg14.IsWhole) (arg15 : Stg S512x1024 .f32) (harg15 : arg15.IsWhole) (arg16 : Stg S512x1024 .f32) (harg16 : arg16.IsWhole) (arg17 : Stg S1x1024 .f32) (harg17 : arg17.IsWhole) (arg0 : BitVec 32) (v39 : FVec F S512x1024 .f32) (v68 : FVec F S1x1024 .f32) (v70 : Vec F S1x1024 .f32) (v78 : FVec F S512x256 .f32) (v86 : FVec F S512x256 .f32) (v94 : FVec F S512x256 .f32) (v102 : FVec F S512x256 .f32) (v110 : FVec F S512x1024 .f32) (v146 : IVec S8x1024 32) (X_arg15 : BufTy.Contents (Elt F) arg15.view.ty) (X_arg16 : BufTy.Contents (Elt F) arg16.view.ty) (init : Vec F S1x1024 .f32) (hrdF : BufTy.Contents (Elt F) arg13.view.ty) (hrdB : LoadRect S512x1024), arg13.view.readAt (Elt F) hrdB (arg13.view.writes (Elt F) hrdF (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v39 v68 v70 v78 v86 v94 v102 v110 v146 X_arg15 X_arg16 init (Scf.trips k0_t1_loop.lb k0_t1_loop.ub k0_t1_loop.st)).2) = arg13.view.readCov (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v39 v68 v70 v78 v86 v94 v102 v110 v146 X_arg15 X_arg16 init (Scf.trips k0_t1_loop.lb k0_t1_loop.ub k0_t1_loop.st)).2 hrdB :=
  by intros; refine View.readAt_writes_of_cover _ _ _ _ fun _ => View.cover_of_tiledL (s := S512x1024) _ S8x1024.size ?_ _; sl_kernel_rfl

/-- A buffer at these contents, -/
abbrev holds (c : Dev nD) {s : Shape} {e : EltTy} (M : Stg s e) (x : Vec F s e) : sProp 𝕄 :=
  owns (c : Thread nD τ) M fullShare x

/-- and after these stores. -/
abbrev stored (c : Dev nD) {s : Shape} {e : EltTy} (M : Stg s e) (L : List (View.Piece (Elt F) s e)) : sProp 𝕄 :=
  iprop(∃ f, M.view.loc (c : Thread nD τ) ↦[M.view.set]{fullShare} M.view.writes (Elt F) f L)

end Cert.LruDFrame

end
-- ==== Proof.LruDRunA.lean ====
module

public import proofs.«01_k».proof.Proof.LruDFBase
public import proofs.«01_k».proof.Proof.Owned

/-! The descending forward call of the recurrence, the first point. -/

@[expose] public section

set_option maxRecDepth 16384

noncomputable section

namespace Cert.LruDFrame

open Cert.KLruDIdeal Cert.KLruDIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Owned
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The first point: the body, run on any staging buffers, and the pieces it leaves in its two results and in the carried state. -/
noncomputable def tileA (c : Dev nD) (i : grid0.Coords) (arg1 : Stg S512x1024 .bf16) (harg1 : arg1.IsWhole) (arg2 : Stg S16x1024 .bf16) (harg2 : arg2.IsWhole) (arg3 : Stg S16x1024 .bf16) (harg3 : arg3.IsWhole) (arg4 : Stg S4x1024 .f32) (harg4 : arg4.IsWhole) (arg5 : Stg S1x1024 .f32) (harg5 : arg5.IsWhole) (arg6 : Stg S4x256x256 .bf16) (harg6 : arg6.IsWhole) (arg7 : Stg S4x256x256 .bf16) (harg7 : arg7.IsWhole) (arg8 : Stg S1x1024 .f32) (harg8 : arg8.IsWhole) (arg9 : Stg S1x1024 .f32) (harg9 : arg9.IsWhole) (arg10 : Stg S1x1024 .f32) (harg10 : arg10.IsWhole) (arg11 : Stg S512x1024 .f32) (harg11 : arg11.IsWhole) (arg12 : Stg S512x1024 .bf16) (harg12 : arg12.IsWhole) (arg13 : Stg S512x1024 .f32) (harg13 : arg13.IsWhole) (arg14 : Stg S512x1024 .bf16) (harg14 : arg14.IsWhole) (arg15 : Stg S512x1024 .f32) (harg15 : arg15.IsWhole) (arg16 : Stg S512x1024 .f32) (harg16 : arg16.IsWhole) (arg17 : Stg S1x1024 .f32) (harg17 : arg17.IsWhole) (hc0 : cond0_0 i)
    (x0 : Vec F S512x1024 .bf16) (x1 : Vec F S16x1024 .bf16) (x2 : Vec F S16x1024 .bf16) (x3 : Vec F S4x1024 .f32) (x4 : Vec F S1x1024 .f32) (x5 : Vec F S4x256x256 .bf16) (x6 : Vec F S4x256x256 .bf16) (x7 : Vec F S1x1024 .f32) (x8 : Vec F S1x1024 .f32) (x9 : Vec F S1x1024 .f32) (x10 : Vec F S512x1024 .f32) (x11 : Vec F S512x1024 .bf16) :
    Σ' (L12 : List (View.Piece (Elt F) S512x1024 .f32)), Σ' (L13 : List (View.Piece (Elt F) S512x1024 .bf16)), { LS2 : List (View.Piece (Elt F) S1x1024 .f32) //
      ∀ (E : Set ℕ) (K : PUnit → sProp 𝕄),
        iprop(holds c arg1 x0 ∗ holds c arg2 x1 ∗ holds c arg3 x2 ∗ holds c arg4 x3 ∗ holds c arg5 x4 ∗ holds c arg6 x5 ∗ holds c arg7 x6 ∗ holds c arg8 x7 ∗ holds c arg9 x8 ∗ holds c arg10 x9 ∗ holds c arg11 x10 ∗ holds c arg12 x11 ∗ (∃ d, holds c arg13 d) ∗ (∃ d, holds c arg14 d) ∗ (∃ d, holds c arg15 d) ∗ (∃ d, holds c arg16 d) ∗ (∃ d, holds c arg17 d)
            ∗ (iprop(holds c arg1 x0 ∗ holds c arg2 x1 ∗ holds c arg3 x2 ∗ holds c arg4 x3 ∗ holds c arg5 x4 ∗ holds c arg6 x5 ∗ holds c arg7 x6 ∗ holds c arg8 x7 ∗ holds c arg9 x8 ∗ holds c arg10 x9 ∗ holds c arg11 x10 ∗ holds c arg12 x11 ∗ stored c arg13 L12 ∗ stored c arg14 L13 ∗ (∃ d, holds c arg15 d) ∗ (∃ d, holds c arg16 d) ∗ stored c arg17 LS2) -∗ K ⟨⟩))
          ⊢ wp frame (wpE (defs₀ (F := F)) Variants.none c none) E (cc0_lru_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_lru_b_eq_skeleton]; unfold cc0_lru_b_skel
    simp only [k0_part2_eq_skeleton, k0_part3_eq_skeleton, k0_part4_eq_skeleton, k0_part5_eq_skeleton]
    unfold holds stored owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    have hrd0 := loop_read (F := F)
    sl_exec (disch := first | sl_exact hc0)
    sl_step
    iapply Hk
    isplitl [H0]; · iapply owned harg1; iexact H0
    isplitl [H1]; · iapply owned harg2; iexact H1
    isplitl [H2]; · iapply owned harg3; iexact H2
    isplitl [H3]; · iapply owned harg4; iexact H3
    isplitl [H4]; · iapply owned harg5; iexact H4
    isplitl [H5]; · iapply owned harg6; iexact H5
    isplitl [H6]; · iapply owned harg7; iexact H6
    isplitl [H7]; · iapply owned harg8; iexact H7
    isplitl [H8]; · iapply owned harg9; iexact H8
    isplitl [H9]; · iapply owned harg10; iexact H9
    isplitl [H10]; · iapply owned harg11; iexact H10
    isplitl [H11]; · iapply owned harg12; iexact H11
    isplitl [H12]; · iexists _; iexact H12
    isplitl [H13]; · iexists _; iexact H13
    isplitl [HS0]
    · iexists _, _; isplitr; swap; · iexact HS0
      ipureintro; rfl
    isplitl [HS1]
    · iexists _, _; isplitr; swap; · iexact HS1
      ipureintro; rfl
    iexists _; iexact HS2

end Cert.LruDFrame

end
-- ==== Proof.LruDRunB.lean ====
module

public import proofs.«01_k».proof.Proof.LruDRunA

/-! The descending forward call of the recurrence, any other tile. -/

@[expose] public section

set_option maxRecDepth 16384

noncomputable section

namespace Cert.LruDFrame

open Cert.KLruDIdeal Cert.KLruDIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Owned
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- Any other point: the body, run on any staging buffers, and the pieces it leaves in its two results and in the carried state. -/
noncomputable def tileB (c : Dev nD) (i : grid0.Coords) (arg1 : Stg S512x1024 .bf16) (harg1 : arg1.IsWhole) (arg2 : Stg S16x1024 .bf16) (harg2 : arg2.IsWhole) (arg3 : Stg S16x1024 .bf16) (harg3 : arg3.IsWhole) (arg4 : Stg S4x1024 .f32) (harg4 : arg4.IsWhole) (arg5 : Stg S1x1024 .f32) (harg5 : arg5.IsWhole) (arg6 : Stg S4x256x256 .bf16) (harg6 : arg6.IsWhole) (arg7 : Stg S4x256x256 .bf16) (harg7 : arg7.IsWhole) (arg8 : Stg S1x1024 .f32) (harg8 : arg8.IsWhole) (arg9 : Stg S1x1024 .f32) (harg9 : arg9.IsWhole) (arg10 : Stg S1x1024 .f32) (harg10 : arg10.IsWhole) (arg11 : Stg S512x1024 .f32) (harg11 : arg11.IsWhole) (arg12 : Stg S512x1024 .bf16) (harg12 : arg12.IsWhole) (arg13 : Stg S512x1024 .f32) (harg13 : arg13.IsWhole) (arg14 : Stg S512x1024 .bf16) (harg14 : arg14.IsWhole) (arg15 : Stg S512x1024 .f32) (harg15 : arg15.IsWhole) (arg16 : Stg S512x1024 .f32) (harg16 : arg16.IsWhole) (arg17 : Stg S1x1024 .f32) (harg17 : arg17.IsWhole) (hc0 : ¬cond0_0 i)
    (x0 : Vec F S512x1024 .bf16) (x1 : Vec F S16x1024 .bf16) (x2 : Vec F S16x1024 .bf16) (x3 : Vec F S4x1024 .f32) (x4 : Vec F S1x1024 .f32) (x5 : Vec F S4x256x256 .bf16) (x6 : Vec F S4x256x256 .bf16) (x7 : Vec F S1x1024 .f32) (x8 : Vec F S1x1024 .f32) (x9 : Vec F S1x1024 .f32) (x10 : Vec F S512x1024 .f32) (x11 : Vec F S512x1024 .bf16) (xs2 : Vec F S1x1024 .f32) :
    Σ' (L12 : List (View.Piece (Elt F) S512x1024 .f32)), Σ' (L13 : List (View.Piece (Elt F) S512x1024 .bf16)), { LS2 : List (View.Piece (Elt F) S1x1024 .f32) //
      ∀ (E : Set ℕ) (K : PUnit → sProp 𝕄),
        iprop(holds c arg1 x0 ∗ holds c arg2 x1 ∗ holds c arg3 x2 ∗ holds c arg4 x3 ∗ holds c arg5 x4 ∗ holds c arg6 x5 ∗ holds c arg7 x6 ∗ holds c arg8 x7 ∗ holds c arg9 x8 ∗ holds c arg10 x9 ∗ holds c arg11 x10 ∗ holds c arg12 x11 ∗ (∃ d, holds c arg13 d) ∗ (∃ d, holds c arg14 d) ∗ (∃ d, holds c arg15 d) ∗ (∃ d, holds c arg16 d) ∗ holds c arg17 xs2
            ∗ (iprop(holds c arg1 x0 ∗ holds c arg2 x1 ∗ holds c arg3 x2 ∗ holds c arg4 x3 ∗ holds c arg5 x4 ∗ holds c arg6 x5 ∗ holds c arg7 x6 ∗ holds c arg8 x7 ∗ holds c arg9 x8 ∗ holds c arg10 x9 ∗ holds c arg11 x10 ∗ holds c arg12 x11 ∗ stored c arg13 L12 ∗ stored c arg14 L13 ∗ (∃ d, holds c arg15 d) ∗ (∃ d, holds c arg16 d) ∗ stored c arg17 LS2) -∗ K ⟨⟩))
          ⊢ wp frame (wpE (defs₀ (F := F)) Variants.none c none) E (cc0_lru_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_lru_b_eq_skeleton]; unfold cc0_lru_b_skel
    simp only [k0_part2_eq_skeleton, k0_part3_eq_skeleton, k0_part4_eq_skeleton, k0_part5_eq_skeleton]
    unfold holds stored owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%ds0, %fs0, -, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg17.eq_unread hfs2
    have hrd0 := loop_read (F := F)
    sl_exec (disch := first | sl_exact hc0)
    sl_step
    iapply Hk
    isplitl [H0]; · iapply owned harg1; iexact H0
    isplitl [H1]; · iapply owned harg2; iexact H1
    isplitl [H2]; · iapply owned harg3; iexact H2
    isplitl [H3]; · iapply owned harg4; iexact H3
    isplitl [H4]; · iapply owned harg5; iexact H4
    isplitl [H5]; · iapply owned harg6; iexact H5
    isplitl [H6]; · iapply owned harg7; iexact H6
    isplitl [H7]; · iapply owned harg8; iexact H7
    isplitl [H8]; · iapply owned harg9; iexact H8
    isplitl [H9]; · iapply owned harg10; iexact H9
    isplitl [H10]; · iapply owned harg11; iexact H10
    isplitl [H11]; · iapply owned harg12; iexact H11
    isplitl [H12]; · iexists _; iexact H12
    isplitl [H13]; · iexists _; iexact H13
    isplitl [HS0]
    · iexists _, _; isplitr; swap; · iexact HS0
      ipureintro; rfl
    isplitl [HS1]
    · iexists _, _; isplitr; swap; · iexact HS1
      ipureintro; rfl
    iexists _; iexact HS2

end Cert.LruDFrame

end
-- ==== Proof.LruDFRun.lean ====
module

public import proofs.«01_k».proof.Proof.LruDRunB
public import proofs.«01_k».proof.Proof.Owned
public import Idealize.ShloMosaic.Lib.Claim

/-! The descending forward call of the recurrence runs, leaves its arguments, and what its results hold after each tile. -/

@[expose] public section

set_option maxRecDepth 16384

noncomputable section

namespace Cert.LruDFrame

open Cert.KLruDIdeal Cert.KLruDIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Owned
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The two results and the carried state. -/
abbrev Outs (F : FTy → Type) : Type := Vec F S512x1024 .f32 × Vec F S512x1024 .bf16 × Vec F S1x1024 .f32

/-- The first point, at its own buffers and blocks. -/
abbrev atA (c : Dev nD) (t : Fin cfg0.N) (h0 : t.val % 32 = 0) :=
  tileA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem coverA (c : Dev nD) (t : Fin cfg0.N) (h0 : t.val % 32 = 0) :
    let T := atA m c t h0
    Covers T.1 ∧ Covers T.2.1 ∧ Covers T.2.2.1 :=
  ⟨View.cover_of_tiledL _ S8x1024.size (by sl_kernel_rfl),
    View.cover_of_tiledL _ S512x1024.size (by sl_kernel_rfl),
    View.cover_of_tiledL _ S1x1024.size (by sl_kernel_rfl)⟩

/-- The first point: what it leaves. -/
def leaveA (c : Dev nD) (t : Fin cfg0.N) (h0 : t.val % 32 = 0) : Outs F :=
  (VO0_12.read (Elt F) (VO0_12.writes (Elt F) VO0_12.junk (atA m c t h0).1),
    VO0_13.read (Elt F) (VO0_13.writes (Elt F) VO0_13.junk (atA m c t h0).2.1),
    VS0_2.read (Elt F) (VS0_2.writes (Elt F) VS0_2.junk (atA m c t h0).2.2.1))

/-- Any other point, at its own buffers and blocks. -/
abbrev atB (c : Dev nD) (t : Fin cfg0.N) (h0 : ¬t.val % 32 = 0) (p : Outs F) :=
  tileB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2

theorem coverB (c : Dev nD) (t : Fin cfg0.N) (h0 : ¬t.val % 32 = 0) (p : Outs F) :
    let T := atB m c t h0 p
    Covers T.1 ∧ Covers T.2.1 ∧ Covers T.2.2.1 :=
  ⟨View.cover_of_tiledL _ S8x1024.size (by sl_kernel_rfl),
    View.cover_of_tiledL _ S512x1024.size (by sl_kernel_rfl),
    View.cover_of_tiledL _ S1x1024.size (by sl_kernel_rfl)⟩

/-- Any other point: what it leaves. -/
def leaveB (c : Dev nD) (t : Fin cfg0.N) (h0 : ¬t.val % 32 = 0) (p : Outs F) : Outs F :=
  (VO0_12.read (Elt F) (VO0_12.writes (Elt F) VO0_12.junk (atB m c t h0 p).1),
    VO0_13.read (Elt F) (VO0_13.writes (Elt F) VO0_13.junk (atB m c t h0 p).2.1),
    VS0_2.read (Elt F) (VS0_2.writes (Elt F) VS0_2.junk (atB m c t h0 p).2.2.1))

/-- What the two results and the carried state hold after each tile. -/
def outsAt0 (c : Dev nD) : (n : ℕ) → n < cfg0.N → Outs F
  | 0, hn => leaveA m c ⟨0, hn⟩ (Nat.zero_mod _)
  | n + 1, hn =>
    if h0 : (n + 1) % 32 = 0 then leaveA m c ⟨n + 1, hn⟩ h0 else leaveB m c ⟨n + 1, hn⟩ h0 (outsAt0 c n (Nat.lt_of_succ_lt hn))

/-- What the tile before left. -/
abbrev before (c : Dev nD) (t : Fin cfg0.N) : Outs F := outsAt0 m c (t.val - 1) (Nat.lt_of_le_of_lt (Nat.sub_le _ _) t.isLt)

theorem outsAt0_A (c : Dev nD) (t : Fin cfg0.N) (h0 : t.val % 32 = 0) : outsAt0 m c t.val t.isLt = leaveA m c t h0 := by
  obtain ⟨n, hn⟩ := t
  cases n with
  | zero => exact rfl
  | succ n => exact dif_pos h0

theorem outsAt0_B (c : Dev nD) (t : Fin cfg0.N) (h0 : ¬t.val % 32 = 0) :
    outsAt0 m c t.val t.isLt = leaveB m c t h0 (before m c t) := by
  obtain ⟨n, hn⟩ := t
  cases n with
  | zero => exact absurd (Nat.zero_mod _) h0
  | succ n => exact dif_neg h0

/-- The scratch with the carried state at `x` and the rest at anything. -/
abbrev between (c : Dev nD) (x : Vec F S1x1024 .f32) : sProp 𝕄 :=
  iprop(iprop((∃ d, owns (c : Thread nD τ) scM0_0 fullShare d) ∗ (∃ d, owns (c : Thread nD τ) scM0_1 fullShare d) ∗ owns (c : Thread nD τ) scM0_2 fullShare x) ∗ (∃ r, prngReg c r))

/-- The scratch between two tiles: the carried state at what the tile before left. -/
def PhiS (c : Dev nD) : (n : ℕ) → n ≤ cfg0.N → sProp 𝕄
  | 0, _ => Pipeline.ΦA spec0 c
  | n + 1, hn => between c (outsAt0 m c n hn).2.2

theorem PhiS_zero (c : Dev nD) (n : ℕ) (h : n ≤ cfg0.N) (hz : n = 0) : PhiS m c n h = Pipeline.ΦA spec0 c := by
  subst hz; rfl

/-- Before a point that is not the first: the carried scratch at what the point before left. -/
theorem PhiS_pos (c : Dev nD) (n : ℕ) (h : n ≤ cfg0.N) (hz : n ≠ 0) :
    PhiS m c n h = between c (outsAt0 m c (n - 1) (by omega)).2.2 := by
  cases n with
  | zero => exact absurd rfl hz
  | succ n => rfl

/-! ## The pipeline's proof data -/

/-- The arrays as the region finds them, each input left at its block, the results as stated above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]

/-! The body at any tile. -/

/-- What the body is called with at a point, -/
def bodyPre (c : Dev nD) (t : Fin cfg0.N) : sProp 𝕄 :=
  iprop((dats m 0 c).Φ t.castSucc ∗ (dats m 0 c).owesAt () t.castSucc
    ∗ (∃ d, holds c (ms0_0 t) ((dats m 0 c).before 0 t d))
    ∗ (∃ d, holds c (ms0_1 t) ((dats m 0 c).before 1 t d))
    ∗ (∃ d, holds c (ms0_2 t) ((dats m 0 c).before 2 t d))
    ∗ (∃ d, holds c (ms0_3 t) ((dats m 0 c).before 3 t d))
    ∗ (∃ d, holds c (ms0_4 t) ((dats m 0 c).before 4 t d))
    ∗ (∃ d, holds c (ms0_5 t) ((dats m 0 c).before 5 t d))
    ∗ (∃ d, holds c (ms0_6 t) ((dats m 0 c).before 6 t d))
    ∗ (∃ d, holds c (ms0_7 t) ((dats m 0 c).before 7 t d))
    ∗ (∃ d, holds c (ms0_8 t) ((dats m 0 c).before 8 t d))
    ∗ (∃ d, holds c (ms0_9 t) ((dats m 0 c).before 9 t d))
    ∗ (∃ d, holds c (ms0_10 t) ((dats m 0 c).before 10 t d))
    ∗ (∃ d, holds c (ms0_11 t) ((dats m 0 c).before 11 t d))
    ∗ (∃ d, holds c (ms0_12 t) ((dats m 0 c).before 12 t d))
    ∗ (∃ d, holds c (ms0_13 t) ((dats m 0 c).before 13 t d)))

/-- and what it returns. -/
def bodyPost (c : Dev nD) (t : Fin cfg0.N) : sProp 𝕄 :=
  iprop((dats m 0 c).Φ t.succ ∗ (dats m 0 c).owesAt () t.succ
    ∗ holds c (ms0_0 t) (iblk m c 0 t)
    ∗ holds c (ms0_1 t) (iblk m c 1 t)
    ∗ holds c (ms0_2 t) (iblk m c 2 t)
    ∗ holds c (ms0_3 t) (iblk m c 3 t)
    ∗ holds c (ms0_4 t) (iblk m c 4 t)
    ∗ holds c (ms0_5 t) (iblk m c 5 t)
    ∗ holds c (ms0_6 t) (iblk m c 6 t)
    ∗ holds c (ms0_7 t) (iblk m c 7 t)
    ∗ holds c (ms0_8 t) (iblk m c 8 t)
    ∗ holds c (ms0_9 t) (iblk m c 9 t)
    ∗ holds c (ms0_10 t) (iblk m c 10 t)
    ∗ holds c (ms0_11 t) (iblk m c 11 t)
    ∗ holds c (ms0_12 t) ((dats m 0 c).after 12 t)
    ∗ holds c (ms0_13 t) ((dats m 0 c).after 13 t))

set_option maxHeartbeats 9600000 in
/-- The body at any tile takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl), before0_7_of m (dats m 0 c) (A_eq m c 7) (fun _ => rfl), before0_8_of m (dats m 0 c) (A_eq m c 8) (fun _ => rfl), before0_9_of m (dats m 0 c) (A_eq m c 9) (fun _ => rfl), before0_10_of m (dats m 0 c) (A_eq m c 10) (fun _ => rfl), before0_11_of m (dats m 0 c) (A_eq m c 11) (fun _ => rfl)]
  rw [show (dats m 0 c).owesAt () t.succ = (dats m 0 c).owesAt () t.castSucc from rfl,
    show (dats m 0 c).Φ t.succ = between c (outsAt0 m c t.val t.isLt).2.2 from rfl,
    after0_12, after0_13]
  have hN : t.val < 32 := lt_of_lt_of_eq t.isLt (show cfg0.N = 32 from N_0)
  by_cases h0 : t.val % 32 = 0
  · rw [PhiS_castSucc m c t, PhiS_zero m c _ _ (by omega), PhiA0_eq, outsAt0_A m c t h0]
    unfold leaveA between; dsimp only
    obtain ⟨k0, k1, k2⟩ := coverA m c t h0
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((atA m c t h0).2.2.2 Set.univ _)
    iframe H0 H1 H2 H3 H4 H5 H6 H7 H8 H9 H10 H11 HS0 HS1 HS2
    isplitl [H12]; · iexists _; iexact H12
    isplitl [H13]; · iexists _; iexact H13
    iintro ⟨H0, H1, H2, H3, H4, H5, H6, H7, H8, H9, H10, H11, ⟨%e12, H12⟩, ⟨%e13, H13⟩, HS0, HS1, ⟨%es, HS2⟩⟩
    ihave K12 := (owns_of_cover VO0_12 k0) $$ H12
    ihave K13 := (owns_of_cover VO0_13 k1) $$ H13
    ihave KS := (owns_of_cover VS0_2 k2) $$ HS2
    iframe
  · rw [PhiS_castSucc m c t, PhiS_pos m c _ _ (by omega), outsAt0_B m c t h0]
    unfold leaveB between; dsimp only
    obtain ⟨k0, k1, k2⟩ := coverB m c t h0 (before m c t)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((atB m c t h0 (before m c t)).2.2.2 Set.univ _)
    iframe H0 H1 H2 H3 H4 H5 H6 H7 H8 H9 H10 H11 HS0 HS1 HS2
    isplitl [H12]; · iexists _; iexact H12
    isplitl [H13]; · iexists _; iexact H13
    iintro ⟨H0, H1, H2, H3, H4, H5, H6, H7, H8, H9, H10, H11, ⟨%e12, H12⟩, ⟨%e13, H13⟩, HS0, HS1, ⟨%es, HS2⟩⟩
    ihave K12 := (owns_of_cover VO0_12 k0) $$ H12
    ihave K13 := (owns_of_cover VO0_13 k1) $$ H13
    ihave KS := (owns_of_cover VS0_2 k2) $$ HS2
    iframe

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  iframe
  iexists _; iexact HS2

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- The whole program, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The arrays at the end. -/
theorem run_main : θ_run defs (onTc (τ := τ) (main (F := F))) (s₀ m ρ) (Pipeline.FramePost cfgs (dats m) 0 (V m)) :=
  (θ_run defs _ _).mono (fun _ h => h.1) (run_main_quiescent m ρ)

/-- A buffer is as it was. -/
abbrev Same (r : PUnit × MemSt nD τ sig (Elt F)) (c : Dev nD) (b : Ref sig .tc) : Prop :=
  r.2.mem ((c.tc : Thread nD τ).loc b) = m ((c.tc : Thread nD τ).loc b)

/-- The arguments are as they were. -/
abbrev Kept (r : PUnit × MemSt nD τ sig (Elt F)) (c : Dev nD) : Prop :=
  Same m r c main_arg0 ∧ Same m r c main_arg1 ∧ Same m r c main_arg2 ∧ Same m r c main_arg3 ∧ Same m r c main_arg4 ∧ Same m r c main_arg5 ∧ Same m r c main_arg6 ∧ Same m r c main_arg7 ∧ Same m r c main_arg8 ∧ Same m r c main_arg9

theorem unchanged : θ_run defs (onTc (τ := τ) (main (F := F))) ⟨m, fun _ => 0, ρ⟩ (fun r => ∀ c : Dev nD, Kept m r c) :=
  frame_of m ρ (dats m) (A_eq m) (run_main m ρ)

/-- The frame, over any numbers. -/
theorem frame_all : θ_run defs (onTc (τ := τ) (main (F := F))) ⟨m, fun _ => 0, ρ⟩
    (fun r => (∀ c : Dev nD, Kept m r c) ∧ r.2.sem = fun _ => 0) :=
  θ_run_and (unchanged m ρ) ((θ_run defs _ _).mono (fun _ h => h.2) (run_main_quiescent m ρ))

/-- The results are the arrays that the tiles leave, and the arguments are as they were. -/
theorem run_blocks : θ_run defs (onTc (τ := τ) (main (F := F))) ⟨m, fun _ => 0, ρ⟩ fun r => ∀ c : Dev nD,
      r.2.mem ((c : Thread nD τ).loc main_v0_0) = (dats m 0 c).arrAt 12 cfg0.N
      ∧ r.2.mem ((c : Thread nD τ).loc main_v0_1) = (dats m 0 c).arrAt 13 cfg0.N ∧ Kept m r c :=
  (θ_run defs _ _).mono (fun r h c => ⟨(h.1 c).1 12, (h.1 c).1 13, h.2 c⟩) (θ_run_and (run_main m ρ) (unchanged m ρ))

end Cert.LruDFrame

end
-- ==== Proof.LruDBits.lean ====
module

public import proofs.«01_k».proof.Proof.LruDFRun
public import proofs.«01_k».proof.Proof.Gen.KLruD.Frame
public import proofs.«01_k».proof.Defs

/-! The frame of the recurrence's second forward call at the words: there the named constant is its word, and the two texts
are one. -/

@[expose] public section

set_option maxRecDepth 16384

namespace Cert.LruDBits

open Cert.KLruDIdeal Cert.LruDFrame
open Idealize.ShloMosaic Idealize.ShloMosaic.TcCoe Idealize.ShloMosaic.Tactic Idealize.SL.Sem

/-- At the words a named constant is its word. -/
@[reducible] def atWords : Named Bits := ⟨fun _ _ {φ} w => Scalar.ofBits φ w⟩

attribute [local instance] atWords

/-- The frame's statement is the same of the two printed programs. -/
theorem one_text : Cert.quiescent_KLruD (hKLruD := Cert.KLruD.Gen.facts) = ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD, Kept m r c) ∧ r.2.sem = fun _ => 0) := by sl_kernel_rfl

/-- The frame of the program as it is. -/
theorem frame : Cert.quiescent_KLruD (hKLruD := Cert.KLruD.Gen.facts) :=
  one_text.mpr fun m ρ _ => frame_all m ρ

end Cert.LruDBits

end
-- ==== Proof.LruCFBase.lean ====
module

public import proofs.«01_k».proof.Proof.Gen.KLruCIdeal.Frame
public import proofs.«01_k».proof.Proof.Gen.KLruCIdeal.Skeleton
public import proofs.«01_k».proof.Proof.Gen.KLruCIdeal.Loops
public import proofs.«01_k».proof.Proof.Gen.KLruCIdeal.Points
public import Idealize.ShloMosaic.Lib.Pipeline.FrameBody
public import Idealize.ShloMosaic.Lib.Ring
public import Idealize.ShloMosaic.Lib.Tactic
public import Idealize.ShloMosaic.Lib.WordCmp

/-! The backward call of the recurrence: its buffers, its branches, and what a load after its inner loop reads. -/

@[expose] public section

set_option maxRecDepth 16384

noncomputable section

namespace Cert.LruCFrame

open Cert.KLruCIdeal Cert.KLruCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A buffer on the core. -/
abbrev Stg (s : Shape) (e : EltTy) := Memref sig .tc .vmem s e

variable {F : FTy → Type} [FloatOps F]

local notation "𝕄" => MT nD τ sig Unit (Elt F) ℕ (UR sig nD τ) ℕ

/-! The first tile zeroes the carried state and the sums, the last one closes the gradient of the decay. -/

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

abbrev cond0_1 (i : grid0.Coords) : Prop := (Scalar.cmpi .ne (Scalar.extui (Scalar.cmpi .eq (BitVec.ofNat 32 (i 0).val) 0#32)) 0#32) = 1#1
theorem hcond0_1 : ∀ t : Fin cfg0.N, cond0_1 (grid0.coords t) ↔ t.val % 64 = 0 := hcond0_0

abbrev cond0_2 (i : grid0.Coords) : Prop := (Scalar.cmpi .ne (Scalar.extui (Scalar.cmpi .eq (BitVec.ofNat 32 (i 0).val) 63#32)) 0#32) = 1#1
theorem hcond0_2 : ∀ t : Fin cfg0.N, cond0_2 (grid0.coords t) ↔ t.val % 64 = 63 :=
  (fun t => by
    have ht : t.val < 64 := Nat.lt_of_lt_of_eq t.isLt N_0
    have e0 : (grid0.coords t 0).val = t.val / 1 % 64 := Pipeline.Grid.coords_val t 0 (by decide) rfl
    simp only [cond0_2, e0]
    word_cmp
   : ∀ t : Fin grid0.N, cond0_2 (grid0.coords t) ↔ t.val % 64 = 63)

/-! Names for the buffers. -/

abbrev VO0_14 : View sig .tc .vmem S256x1024 .f32 := (Memref.whole cc0_stg14_0 : Stg S256x1024 .f32).view
abbrev VO0_15 : View sig .tc .vmem S4x256x256 .f32 := (Memref.whole cc0_stg15_0 : Stg S4x256x256 .f32).view
abbrev VO0_16 : View sig .tc .vmem S4x256x256 .f32 := (Memref.whole cc0_stg16_0 : Stg S4x256x256 .f32).view
abbrev VO0_17 : View sig .tc .vmem S1x1024 .f32 := (Memref.whole cc0_stg17_0 : Stg S1x1024 .f32).view
abbrev VO0_18 : View sig .tc .vmem S1x1024 .f32 := (Memref.whole cc0_stg18_0 : Stg S1x1024 .f32).view
abbrev VO0_19 : View sig .tc .vmem S1x1024 .f32 := (Memref.whole cc0_stg19_0 : Stg S1x1024 .f32).view
/-- The staging buffer of each window at a point. -/
abbrev ms0_0 (t : Fin cfg0.N) : Stg S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Stg S16x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Stg S16x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Stg S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Stg S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Stg S16x1024 .f32 := win0_5.stage (cfg0.slots t 5)
abbrev hs0_5 (t : Fin cfg0.N) : (ms0_5 t).IsWhole := hstage0_5 ((cfg0.slots t 5).cast nbuf0_5)
abbrev ms0_6 (t : Fin cfg0.N) : Stg S4x1024 .f32 := win0_6.stage (cfg0.slots t 6)
abbrev hs0_6 (t : Fin cfg0.N) : (ms0_6 t).IsWhole := hstage0_6 ((cfg0.slots t 6).cast nbuf0_6)
abbrev ms0_7 (t : Fin cfg0.N) : Stg S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Stg S4x256x256 .bf16 := win0_8.stage (cfg0.slots t 8)
abbrev hs0_8 (t : Fin cfg0.N) : (ms0_8 t).IsWhole := hstage0_8 ((cfg0.slots t 8).cast nbuf0_8)
abbrev ms0_9 (t : Fin cfg0.N) : Stg S4x256x256 .bf16 := win0_9.stage (cfg0.slots t 9)
abbrev hs0_9 (t : Fin cfg0.N) : (ms0_9 t).IsWhole := hstage0_9 ((cfg0.slots t 9).cast nbuf0_9)
abbrev ms0_10 (t : Fin cfg0.N) : Stg S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Stg S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Stg S1x1024 .f32 := win0_12.stage (cfg0.slots t 12)
abbrev hs0_12 (t : Fin cfg0.N) : (ms0_12 t).IsWhole := hstage0_12 ((cfg0.slots t 12).cast nbuf0_12)
abbrev ms0_13 (t : Fin cfg0.N) : Stg S256x1024 .f32 := win0_13.stage (cfg0.slots t 13)
abbrev hs0_13 (t : Fin cfg0.N) : (ms0_13 t).IsWhole := hstage0_13 ((cfg0.slots t 13).cast nbuf0_13)
abbrev ms0_14 (t : Fin cfg0.N) : Stg S256x1024 .f32 := win0_14.stage (cfg0.slots t 14)
abbrev hs0_14 (t : Fin cfg0.N) : (ms0_14 t).IsWhole := hstage0_14 ((cfg0.slots t 14).cast nbuf0_14)
abbrev ms0_15 (t : Fin cfg0.N) : Stg S4x256x256 .f32 := win0_15.stage (cfg0.slots t 15)
abbrev hs0_15 (t : Fin cfg0.N) : (ms0_15 t).IsWhole := hstage0_15 ((cfg0.slots t 15).cast nbuf0_15)
abbrev ms0_16 (t : Fin cfg0.N) : Stg S4x256x256 .f32 := win0_16.stage (cfg0.slots t 16)
abbrev hs0_16 (t : Fin cfg0.N) : (ms0_16 t).IsWhole := hstage0_16 ((cfg0.slots t 16).cast nbuf0_16)
abbrev ms0_17 (t : Fin cfg0.N) : Stg S1x1024 .f32 := win0_17.stage (cfg0.slots t 17)
abbrev hs0_17 (t : Fin cfg0.N) : (ms0_17 t).IsWhole := hstage0_17 ((cfg0.slots t 17).cast nbuf0_17)
abbrev ms0_18 (t : Fin cfg0.N) : Stg S1x1024 .f32 := win0_18.stage (cfg0.slots t 18)
abbrev hs0_18 (t : Fin cfg0.N) : (ms0_18 t).IsWhole := hstage0_18 ((cfg0.slots t 18).cast nbuf0_18)
abbrev ms0_19 (t : Fin cfg0.N) : Stg S1x1024 .f32 := win0_19.stage (cfg0.slots t 19)
abbrev hs0_19 (t : Fin cfg0.N) : (ms0_19 t).IsWhole := hstage0_19 ((cfg0.slots t 19).cast nbuf0_19)
/-- The four scratch buffers: the decays, the loads, the adjoint states and the state carried from tile to tile. -/
abbrev scM0_0 : Stg S256x1024 .f32 := Memref.whole cc0_scratch0
abbrev scM0_1 : Stg S256x1024 .f32 := Memref.whole cc0_scratch1
abbrev scM0_2 : Stg S256x1024 .f32 := Memref.whole cc0_scratch2
abbrev scM0_3 : Stg S1x1024 .f32 := Memref.whole cc0_scratch3
abbrev VS0_3 : View sig .tc .vmem S1x1024 .f32 := scM0_3.view

/-- What the launch hands the region, scratch buffer by scratch buffer. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- What is loaded of the adjoint states after the loop over the groups of rows does not depend on what the buffer
    held before: the 32 groups tile it. -/
theorem loop_read : ∀ (𝒱 : Variants) (c : Dev nD) (bd : Option 𝒱.V) (i : grid0.Coords) (arg1 : Stg S256x1024 .bf16) (harg1 : arg1.IsWhole) (arg2 : Stg S16x1024 .bf16) (harg2 : arg2.IsWhole) (arg3 : Stg S16x1024 .bf16) (harg3 : arg3.IsWhole) (arg4 : Stg S256x1024 .f32) (harg4 : arg4.IsWhole) (arg5 : Stg S256x1024 .f32) (harg5 : arg5.IsWhole) (arg6 : Stg S16x1024 .f32) (harg6 : arg6.IsWhole) (arg7 : Stg S4x1024 .f32) (harg7 : arg7.IsWhole) (arg8 : Stg S1x1024 .f32) (harg8 : arg8.IsWhole) (arg9 : Stg S4x256x256 .bf16) (harg9 : arg9.IsWhole) (arg10 : Stg S4x256x256 .bf16) (harg10 : arg10.IsWhole) (arg11 : Stg S1x1024 .f32) (harg11 : arg11.IsWhole) (arg12 : Stg S1x1024 .f32) (harg12 : arg12.IsWhole) (arg13 : Stg S1x1024 .f32) (harg13 : arg13.IsWhole) (arg14 : Stg S256x1024 .f32) (harg14 : arg14.IsWhole) (arg15 : Stg S256x1024 .f32) (harg15 : arg15.IsWhole) (arg16 : Stg S4x256x256 .f32) (harg16 : arg16.IsWhole) (arg17 : Stg S4x256x256 .f32) (harg17 : arg17.IsWhole) (arg18 : Stg S1x1024 .f32) (harg18 : arg18.IsWhole) (arg19 : Stg S1x1024 .f32) (harg19 : arg19.IsWhole) (arg20 : Stg S1x1024 .f32) (harg20 : arg20.IsWhole) (arg21 : Stg S256x1024 .f32) (harg21 : arg21.IsWhole) (arg22 : Stg S256x1024 .f32) (harg22 : arg22.IsWhole) (arg23 : Stg S256x1024 .f32) (harg23 : arg23.IsWhole) (arg24 : Stg S1x1024 .f32) (harg24 : arg24.IsWhole) (v4 : BitVec 1) (v41 : FVec F S256x1024 .f32) (v124 : FVec F S256x1024 .f32) (v127 : FVec F S256x1024 .f32) (v134 : FVec F S256x1024 .f32) (v135 : FVec F S256x1024 .f32) (v136 : Vec F S256x1024 .f32) (v140 : Vec F S1x1024 .f32) (v148 : IVec S8x1024 32) (c0_i32_75 : BitVec 32) (X_arg21 : BufTy.Contents (Elt F) arg21.view.ty) (X_arg22 : BufTy.Contents (Elt F) arg22.view.ty) (init : Vec F S1x1024 .f32) (hrdF : BufTy.Contents (Elt F) arg23.view.ty) (hrdB : LoadRect S256x1024), arg23.view.readAt (Elt F) hrdB (arg23.view.writes (Elt F) hrdF (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v4 v41 v124 v127 v134 v135 v136 v140 v148 c0_i32_75 X_arg21 X_arg22 init (Scf.trips k0_t1_loop.lb k0_t1_loop.ub k0_t1_loop.st)).2) = arg23.view.readCov (st_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v4 v41 v124 v127 v134 v135 v136 v140 v148 c0_i32_75 X_arg21 X_arg22 init (Scf.trips k0_t1_loop.lb k0_t1_loop.ub k0_t1_loop.st)).2 hrdB :=
  by intros; refine View.readAt_writes_of_cover _ _ _ _ fun _ => View.cover_of_tiledL (s := S256x1024) _ S8x1024.size ?_ _; sl_kernel_rfl

/-- A buffer at these contents, -/
abbrev holds (c : Dev nD) {s : Shape} {e : EltTy} (M : Stg s e) (x : Vec F s e) : sProp 𝕄 :=
  owns (c : Thread nD τ) M fullShare x

/-- and after these stores. -/
abbrev stored (c : Dev nD) {s : Shape} {e : EltTy} (M : Stg s e) (L : List (View.Piece (Elt F) s e)) : sProp 𝕄 :=
  iprop(∃ f, M.view.loc (c : Thread nD τ) ↦[M.view.set]{fullShare} M.view.writes (Elt F) f L)

end Cert.LruCFrame

end
-- ==== Proof.LruCRunA.lean ====
module

public import proofs.«01_k».proof.Proof.LruCFBase
public import proofs.«01_k».proof.Proof.Owned

/-! The backward call of the recurrence, the first tile. -/

@[expose] public section

set_option maxRecDepth 16384

noncomputable section

namespace Cert.LruCFrame

open Cert.KLruCIdeal Cert.KLruCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Owned
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 1000000 in
/-- The first tile: the body, run on any staging buffers, and the pieces it leaves in its six results and in the carried state. -/
noncomputable def tileA (c : Dev nD) (i : grid0.Coords) (arg1 : Stg S256x1024 .bf16) (harg1 : arg1.IsWhole) (arg2 : Stg S16x1024 .bf16) (harg2 : arg2.IsWhole) (arg3 : Stg S16x1024 .bf16) (harg3 : arg3.IsWhole) (arg4 : Stg S256x1024 .f32) (harg4 : arg4.IsWhole) (arg5 : Stg S256x1024 .f32) (harg5 : arg5.IsWhole) (arg6 : Stg S16x1024 .f32) (harg6 : arg6.IsWhole) (arg7 : Stg S4x1024 .f32) (harg7 : arg7.IsWhole) (arg8 : Stg S1x1024 .f32) (harg8 : arg8.IsWhole) (arg9 : Stg S4x256x256 .bf16) (harg9 : arg9.IsWhole) (arg10 : Stg S4x256x256 .bf16) (harg10 : arg10.IsWhole) (arg11 : Stg S1x1024 .f32) (harg11 : arg11.IsWhole) (arg12 : Stg S1x1024 .f32) (harg12 : arg12.IsWhole) (arg13 : Stg S1x1024 .f32) (harg13 : arg13.IsWhole) (arg14 : Stg S256x1024 .f32) (harg14 : arg14.IsWhole) (arg15 : Stg S256x1024 .f32) (harg15 : arg15.IsWhole) (arg16 : Stg S4x256x256 .f32) (harg16 : arg16.IsWhole) (arg17 : Stg S4x256x256 .f32) (harg17 : arg17.IsWhole) (arg18 : Stg S1x1024 .f32) (harg18 : arg18.IsWhole) (arg19 : Stg S1x1024 .f32) (harg19 : arg19.IsWhole) (arg20 : Stg S1x1024 .f32) (harg20 : arg20.IsWhole) (arg21 : Stg S256x1024 .f32) (harg21 : arg21.IsWhole) (arg22 : Stg S256x1024 .f32) (harg22 : arg22.IsWhole) (arg23 : Stg S256x1024 .f32) (harg23 : arg23.IsWhole) (arg24 : Stg S1x1024 .f32) (harg24 : arg24.IsWhole) (hc0 : cond0_0 i) (hc1 : cond0_1 i) (hc2 : ¬cond0_2 i)
    (x0 : Vec F S256x1024 .bf16) (x1 : Vec F S16x1024 .bf16) (x2 : Vec F S16x1024 .bf16) (x3 : Vec F S256x1024 .f32) (x4 : Vec F S256x1024 .f32) (x5 : Vec F S16x1024 .f32) (x6 : Vec F S4x1024 .f32) (x7 : Vec F S1x1024 .f32) (x8 : Vec F S4x256x256 .bf16) (x9 : Vec F S4x256x256 .bf16) (x10 : Vec F S1x1024 .f32) (x11 : Vec F S1x1024 .f32) (x12 : Vec F S1x1024 .f32) (x13 : Vec F S256x1024 .f32) :
    Σ' (L14 : List (View.Piece (Elt F) S256x1024 .f32)), Σ' (L15 : List (View.Piece (Elt F) S4x256x256 .f32)), Σ' (L16 : List (View.Piece (Elt F) S4x256x256 .f32)), Σ' (L17 : List (View.Piece (Elt F) S1x1024 .f32)), Σ' (L18 : List (View.Piece (Elt F) S1x1024 .f32)), Σ' (L19 : List (View.Piece (Elt F) S1x1024 .f32)), { LS3 : List (View.Piece (Elt F) S1x1024 .f32) //
      ∀ (E : Set ℕ) (K : PUnit → sProp 𝕄),
        iprop(holds c arg1 x0 ∗ holds c arg2 x1 ∗ holds c arg3 x2 ∗ holds c arg4 x3 ∗ holds c arg5 x4 ∗ holds c arg6 x5 ∗ holds c arg7 x6 ∗ holds c arg8 x7 ∗ holds c arg9 x8 ∗ holds c arg10 x9 ∗ holds c arg11 x10 ∗ holds c arg12 x11 ∗ holds c arg13 x12 ∗ holds c arg14 x13 ∗ (∃ d, holds c arg15 d) ∗ (∃ d, holds c arg16 d) ∗ (∃ d, holds c arg17 d) ∗ (∃ d, holds c arg18 d) ∗ (∃ d, holds c arg19 d) ∗ (∃ d, holds c arg20 d) ∗ (∃ d, holds c arg21 d) ∗ (∃ d, holds c arg22 d) ∗ (∃ d, holds c arg23 d) ∗ (∃ d, holds c arg24 d)
            ∗ (iprop(holds c arg1 x0 ∗ holds c arg2 x1 ∗ holds c arg3 x2 ∗ holds c arg4 x3 ∗ holds c arg5 x4 ∗ holds c arg6 x5 ∗ holds c arg7 x6 ∗ holds c arg8 x7 ∗ holds c arg9 x8 ∗ holds c arg10 x9 ∗ holds c arg11 x10 ∗ holds c arg12 x11 ∗ holds c arg13 x12 ∗ holds c arg14 x13 ∗ stored c arg15 L14 ∗ stored c arg16 L15 ∗ stored c arg17 L16 ∗ stored c arg18 L17 ∗ stored c arg19 L18 ∗ stored c arg20 L19 ∗ (∃ d, holds c arg21 d) ∗ (∃ d, holds c arg22 d) ∗ (∃ d, holds c arg23 d) ∗ stored c arg24 LS3) -∗ K ⟨⟩))
          ⊢ wp frame (wpE (defs₀ (F := F)) Variants.none c none) E (cc0_lru_bwd_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, fun E K => ?run⟩
  case run =>
    simp only [cc0_lru_bwd_b_eq_skeleton]; unfold cc0_lru_bwd_b_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold holds stored owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    have hrd0 := loop_read (F := F)
    sl_exec (disch := first | sl_exact hc0 | sl_exact hc1 | sl_exact hc2)
    sl_step
    iapply Hk
    isplitl [H0]; · iapply owned harg1; iexact H0
    isplitl [H1]; · iapply owned harg2; iexact H1
    isplitl [H2]; · iapply owned harg3; iexact H2
    isplitl [H3]; · iapply owned harg4; iexact H3
    isplitl [H4]; · iapply owned harg5; iexact H4
    isplitl [H5]; · iapply owned harg6; iexact H5
    isplitl [H6]; · iapply owned harg7; iexact H6
    isplitl [H7]; · iapply owned harg8; iexact H7
    isplitl [H8]; · iapply owned harg9; iexact H8
    isplitl [H9]; · iapply owned harg10; iexact H9
    isplitl [H10]; · iapply owned harg11; iexact H10
    isplitl [H11]; · iapply owned harg12; iexact H11
    isplitl [H12]; · iapply owned harg13; iexact H12
    isplitl [H13]; · iapply owned harg14; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _; iexact HS3

end Cert.LruCFrame

end
-- ==== Proof.LruCRunB.lean ====
module

public import proofs.«01_k».proof.Proof.LruCRunA

/-! The backward call of the recurrence, a tile between the first and the last. -/

@[expose] public section

set_option maxRecDepth 16384

noncomputable section

namespace Cert.LruCFrame

open Cert.KLruCIdeal Cert.KLruCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Owned
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 1000000 in
/-- A tile between the first and the last: the body, run on any staging buffers, and the pieces it leaves in its six results and in the carried state. -/
noncomputable def tileB (c : Dev nD) (i : grid0.Coords) (arg1 : Stg S256x1024 .bf16) (harg1 : arg1.IsWhole) (arg2 : Stg S16x1024 .bf16) (harg2 : arg2.IsWhole) (arg3 : Stg S16x1024 .bf16) (harg3 : arg3.IsWhole) (arg4 : Stg S256x1024 .f32) (harg4 : arg4.IsWhole) (arg5 : Stg S256x1024 .f32) (harg5 : arg5.IsWhole) (arg6 : Stg S16x1024 .f32) (harg6 : arg6.IsWhole) (arg7 : Stg S4x1024 .f32) (harg7 : arg7.IsWhole) (arg8 : Stg S1x1024 .f32) (harg8 : arg8.IsWhole) (arg9 : Stg S4x256x256 .bf16) (harg9 : arg9.IsWhole) (arg10 : Stg S4x256x256 .bf16) (harg10 : arg10.IsWhole) (arg11 : Stg S1x1024 .f32) (harg11 : arg11.IsWhole) (arg12 : Stg S1x1024 .f32) (harg12 : arg12.IsWhole) (arg13 : Stg S1x1024 .f32) (harg13 : arg13.IsWhole) (arg14 : Stg S256x1024 .f32) (harg14 : arg14.IsWhole) (arg15 : Stg S256x1024 .f32) (harg15 : arg15.IsWhole) (arg16 : Stg S4x256x256 .f32) (harg16 : arg16.IsWhole) (arg17 : Stg S4x256x256 .f32) (harg17 : arg17.IsWhole) (arg18 : Stg S1x1024 .f32) (harg18 : arg18.IsWhole) (arg19 : Stg S1x1024 .f32) (harg19 : arg19.IsWhole) (arg20 : Stg S1x1024 .f32) (harg20 : arg20.IsWhole) (arg21 : Stg S256x1024 .f32) (harg21 : arg21.IsWhole) (arg22 : Stg S256x1024 .f32) (harg22 : arg22.IsWhole) (arg23 : Stg S256x1024 .f32) (harg23 : arg23.IsWhole) (arg24 : Stg S1x1024 .f32) (harg24 : arg24.IsWhole) (hc0 : ¬cond0_0 i) (hc1 : ¬cond0_1 i) (hc2 : ¬cond0_2 i)
    (x0 : Vec F S256x1024 .bf16) (x1 : Vec F S16x1024 .bf16) (x2 : Vec F S16x1024 .bf16) (x3 : Vec F S256x1024 .f32) (x4 : Vec F S256x1024 .f32) (x5 : Vec F S16x1024 .f32) (x6 : Vec F S4x1024 .f32) (x7 : Vec F S1x1024 .f32) (x8 : Vec F S4x256x256 .bf16) (x9 : Vec F S4x256x256 .bf16) (x10 : Vec F S1x1024 .f32) (x11 : Vec F S1x1024 .f32) (x12 : Vec F S1x1024 .f32) (x13 : Vec F S256x1024 .f32) (xo15 : Vec F S4x256x256 .f32) (xo16 : Vec F S4x256x256 .f32) (xo17 : Vec F S1x1024 .f32) (xo18 : Vec F S1x1024 .f32) (xo19 : Vec F S1x1024 .f32) (xs3 : Vec F S1x1024 .f32) :
    Σ' (L14 : List (View.Piece (Elt F) S256x1024 .f32)), Σ' (L15 : List (View.Piece (Elt F) S4x256x256 .f32)), Σ' (L16 : List (View.Piece (Elt F) S4x256x256 .f32)), Σ' (L17 : List (View.Piece (Elt F) S1x1024 .f32)), Σ' (L18 : List (View.Piece (Elt F) S1x1024 .f32)), Σ' (L19 : List (View.Piece (Elt F) S1x1024 .f32)), { LS3 : List (View.Piece (Elt F) S1x1024 .f32) //
      ∀ (E : Set ℕ) (K : PUnit → sProp 𝕄),
        iprop(holds c arg1 x0 ∗ holds c arg2 x1 ∗ holds c arg3 x2 ∗ holds c arg4 x3 ∗ holds c arg5 x4 ∗ holds c arg6 x5 ∗ holds c arg7 x6 ∗ holds c arg8 x7 ∗ holds c arg9 x8 ∗ holds c arg10 x9 ∗ holds c arg11 x10 ∗ holds c arg12 x11 ∗ holds c arg13 x12 ∗ holds c arg14 x13 ∗ (∃ d, holds c arg15 d) ∗ holds c arg16 xo15 ∗ holds c arg17 xo16 ∗ holds c arg18 xo17 ∗ holds c arg19 xo18 ∗ holds c arg20 xo19 ∗ (∃ d, holds c arg21 d) ∗ (∃ d, holds c arg22 d) ∗ (∃ d, holds c arg23 d) ∗ holds c arg24 xs3
            ∗ (iprop(holds c arg1 x0 ∗ holds c arg2 x1 ∗ holds c arg3 x2 ∗ holds c arg4 x3 ∗ holds c arg5 x4 ∗ holds c arg6 x5 ∗ holds c arg7 x6 ∗ holds c arg8 x7 ∗ holds c arg9 x8 ∗ holds c arg10 x9 ∗ holds c arg11 x10 ∗ holds c arg12 x11 ∗ holds c arg13 x12 ∗ holds c arg14 x13 ∗ stored c arg15 L14 ∗ stored c arg16 L15 ∗ stored c arg17 L16 ∗ stored c arg18 L17 ∗ stored c arg19 L18 ∗ stored c arg20 L19 ∗ (∃ d, holds c arg21 d) ∗ (∃ d, holds c arg22 d) ∗ (∃ d, holds c arg23 d) ∗ stored c arg24 LS3) -∗ K ⟨⟩))
          ⊢ wp frame (wpE (defs₀ (F := F)) Variants.none c none) E (cc0_lru_bwd_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, fun E K => ?run⟩
  case run =>
    simp only [cc0_lru_bwd_b_eq_skeleton]; unfold cc0_lru_bwd_b_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold holds stored owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%ds0, %fs0, -, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15; obtain rfl := harg17.eq_unread hf16; obtain rfl := harg18.eq_unread hf17; obtain rfl := harg19.eq_unread hf18; obtain rfl := harg20.eq_unread hf19; obtain rfl := harg24.eq_unread hfs3
    have hrd0 := loop_read (F := F)
    sl_exec (disch := first | sl_exact hc0 | sl_exact hc1 | sl_exact hc2)
    sl_step
    iapply Hk
    isplitl [H0]; · iapply owned harg1; iexact H0
    isplitl [H1]; · iapply owned harg2; iexact H1
    isplitl [H2]; · iapply owned harg3; iexact H2
    isplitl [H3]; · iapply owned harg4; iexact H3
    isplitl [H4]; · iapply owned harg5; iexact H4
    isplitl [H5]; · iapply owned harg6; iexact H5
    isplitl [H6]; · iapply owned harg7; iexact H6
    isplitl [H7]; · iapply owned harg8; iexact H7
    isplitl [H8]; · iapply owned harg9; iexact H8
    isplitl [H9]; · iapply owned harg10; iexact H9
    isplitl [H10]; · iapply owned harg11; iexact H10
    isplitl [H11]; · iapply owned harg12; iexact H11
    isplitl [H12]; · iapply owned harg13; iexact H12
    isplitl [H13]; · iapply owned harg14; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _; iexact HS3

end Cert.LruCFrame

end
-- ==== Proof.LruCRunC.lean ====
module

public import proofs.«01_k».proof.Proof.LruCRunB

/-! The backward call of the recurrence, the last tile. -/

@[expose] public section

set_option maxRecDepth 16384

noncomputable section

namespace Cert.LruCFrame

open Cert.KLruCIdeal Cert.KLruCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Owned
open Idealize.ShloMosaic.Pipeline (Dat Cfg Window BodyObligation cellOf)

variable {F : FTy → Type} [FloatOps F]

local notation "𝕄" => MT nD τ sig Unit (Elt F) ℕ (UR sig nD τ) ℕ

set_option backward.proofsInPublic true in
set_option maxHeartbeats 1000000 in
/-- The last tile: the body, run on any staging buffers, and the pieces it leaves in its six results and in the carried state. -/
noncomputable def tileC (c : Dev nD) (i : grid0.Coords) (arg1 : Stg S256x1024 .bf16) (harg1 : arg1.IsWhole) (arg2 : Stg S16x1024 .bf16) (harg2 : arg2.IsWhole) (arg3 : Stg S16x1024 .bf16) (harg3 : arg3.IsWhole) (arg4 : Stg S256x1024 .f32) (harg4 : arg4.IsWhole) (arg5 : Stg S256x1024 .f32) (harg5 : arg5.IsWhole) (arg6 : Stg S16x1024 .f32) (harg6 : arg6.IsWhole) (arg7 : Stg S4x1024 .f32) (harg7 : arg7.IsWhole) (arg8 : Stg S1x1024 .f32) (harg8 : arg8.IsWhole) (arg9 : Stg S4x256x256 .bf16) (harg9 : arg9.IsWhole) (arg10 : Stg S4x256x256 .bf16) (harg10 : arg10.IsWhole) (arg11 : Stg S1x1024 .f32) (harg11 : arg11.IsWhole) (arg12 : Stg S1x1024 .f32) (harg12 : arg12.IsWhole) (arg13 : Stg S1x1024 .f32) (harg13 : arg13.IsWhole) (arg14 : Stg S256x1024 .f32) (harg14 : arg14.IsWhole) (arg15 : Stg S256x1024 .f32) (harg15 : arg15.IsWhole) (arg16 : Stg S4x256x256 .f32) (harg16 : arg16.IsWhole) (arg17 : Stg S4x256x256 .f32) (harg17 : arg17.IsWhole) (arg18 : Stg S1x1024 .f32) (harg18 : arg18.IsWhole) (arg19 : Stg S1x1024 .f32) (harg19 : arg19.IsWhole) (arg20 : Stg S1x1024 .f32) (harg20 : arg20.IsWhole) (arg21 : Stg S256x1024 .f32) (harg21 : arg21.IsWhole) (arg22 : Stg S256x1024 .f32) (harg22 : arg22.IsWhole) (arg23 : Stg S256x1024 .f32) (harg23 : arg23.IsWhole) (arg24 : Stg S1x1024 .f32) (harg24 : arg24.IsWhole) (hc0 : ¬cond0_0 i) (hc1 : ¬cond0_1 i) (hc2 : cond0_2 i)
    (x0 : Vec F S256x1024 .bf16) (x1 : Vec F S16x1024 .bf16) (x2 : Vec F S16x1024 .bf16) (x3 : Vec F S256x1024 .f32) (x4 : Vec F S256x1024 .f32) (x5 : Vec F S16x1024 .f32) (x6 : Vec F S4x1024 .f32) (x7 : Vec F S1x1024 .f32) (x8 : Vec F S4x256x256 .bf16) (x9 : Vec F S4x256x256 .bf16) (x10 : Vec F S1x1024 .f32) (x11 : Vec F S1x1024 .f32) (x12 : Vec F S1x1024 .f32) (x13 : Vec F S256x1024 .f32) (xo15 : Vec F S4x256x256 .f32) (xo16 : Vec F S4x256x256 .f32) (xo17 : Vec F S1x1024 .f32) (xo18 : Vec F S1x1024 .f32) (xo19 : Vec F S1x1024 .f32) (xs3 : Vec F S1x1024 .f32) :
    Σ' (L14 : List (View.Piece (Elt F) S256x1024 .f32)), Σ' (L15 : List (View.Piece (Elt F) S4x256x256 .f32)), Σ' (L16 : List (View.Piece (Elt F) S4x256x256 .f32)), Σ' (L17 : List (View.Piece (Elt F) S1x1024 .f32)), Σ' (L18 : List (View.Piece (Elt F) S1x1024 .f32)), Σ' (L19 : List (View.Piece (Elt F) S1x1024 .f32)), { LS3 : List (View.Piece (Elt F) S1x1024 .f32) //
      ∀ (E : Set ℕ) (K : PUnit → sProp 𝕄),
        iprop(holds c arg1 x0 ∗ holds c arg2 x1 ∗ holds c arg3 x2 ∗ holds c arg4 x3 ∗ holds c arg5 x4 ∗ holds c arg6 x5 ∗ holds c arg7 x6 ∗ holds c arg8 x7 ∗ holds c arg9 x8 ∗ holds c arg10 x9 ∗ holds c arg11 x10 ∗ holds c arg12 x11 ∗ holds c arg13 x12 ∗ holds c arg14 x13 ∗ (∃ d, holds c arg15 d) ∗ holds c arg16 xo15 ∗ holds c arg17 xo16 ∗ holds c arg18 xo17 ∗ holds c arg19 xo18 ∗ holds c arg20 xo19 ∗ (∃ d, holds c arg21 d) ∗ (∃ d, holds c arg22 d) ∗ (∃ d, holds c arg23 d) ∗ holds c arg24 xs3
            ∗ (iprop(holds c arg1 x0 ∗ holds c arg2 x1 ∗ holds c arg3 x2 ∗ holds c arg4 x3 ∗ holds c arg5 x4 ∗ holds c arg6 x5 ∗ holds c arg7 x6 ∗ holds c arg8 x7 ∗ holds c arg9 x8 ∗ holds c arg10 x9 ∗ holds c arg11 x10 ∗ holds c arg12 x11 ∗ holds c arg13 x12 ∗ holds c arg14 x13 ∗ stored c arg15 L14 ∗ stored c arg16 L15 ∗ stored c arg17 L16 ∗ stored c arg18 L17 ∗ stored c arg19 L18 ∗ stored c arg20 L19 ∗ (∃ d, holds c arg21 d) ∗ (∃ d, holds c arg22 d) ∗ (∃ d, holds c arg23 d) ∗ stored c arg24 LS3) -∗ K ⟨⟩))
          ⊢ wp frame (wpE (defs₀ (F := F)) Variants.none c none) E (cc0_lru_bwd_b i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, fun E K => ?run⟩
  case run =>
    simp only [cc0_lru_bwd_b_eq_skeleton]; unfold cc0_lru_bwd_b_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
    unfold holds stored owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%f18, %hf18, H18⟩, ⟨%f19, %hf19, H19⟩, ⟨%ds0, %fs0, -, HS0⟩, ⟨%ds1, %fs1, -, HS1⟩, ⟨%ds2, %fs2, -, HS2⟩, ⟨%fs3, %hfs3, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15; obtain rfl := harg17.eq_unread hf16; obtain rfl := harg18.eq_unread hf17; obtain rfl := harg19.eq_unread hf18; obtain rfl := harg20.eq_unread hf19; obtain rfl := harg24.eq_unread hfs3
    have hrd0 := loop_read (F := F)
    sl_exec (disch := first | sl_exact hc0 | sl_exact hc1 | sl_exact hc2)
    sl_step
    iapply Hk
    isplitl [H0]; · iapply owned harg1; iexact H0
    isplitl [H1]; · iapply owned harg2; iexact H1
    isplitl [H2]; · iapply owned harg3; iexact H2
    isplitl [H3]; · iapply owned harg4; iexact H3
    isplitl [H4]; · iapply owned harg5; iexact H4
    isplitl [H5]; · iapply owned harg6; iexact H5
    isplitl [H6]; · iapply owned harg7; iexact H6
    isplitl [H7]; · iapply owned harg8; iexact H7
    isplitl [H8]; · iapply owned harg9; iexact H8
    isplitl [H9]; · iapply owned harg10; iexact H9
    isplitl [H10]; · iapply owned harg11; iexact H10
    isplitl [H11]; · iapply owned harg12; iexact H11
    isplitl [H12]; · iapply owned harg13; iexact H12
    isplitl [H13]; · iapply owned harg14; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _; iexact HS3

end Cert.LruCFrame

end
-- ==== Proof.LruCFRun.lean ====
module

public import proofs.«01_k».proof.Proof.LruCRunC
public import proofs.«01_k».proof.Proof.Owned
public import Idealize.ShloMosaic.Lib.Claim

/-! The backward call of the recurrence runs, leaves its arguments, and what its results hold after each tile. -/

@[expose] public section

set_option maxRecDepth 16384

noncomputable section

namespace Cert.LruCFrame

open Cert.KLruCIdeal Cert.KLruCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Owned
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The six results and the carried state. -/
abbrev Outs (F : FTy → Type) : Type := Vec F S256x1024 .f32 × Vec F S4x256x256 .f32 × Vec F S4x256x256 .f32 × Vec F S1x1024 .f32 × Vec F S1x1024 .f32 × Vec F S1x1024 .f32 × Vec F S1x1024 .f32

/-- The first tile, at its own buffers and blocks. -/
abbrev atA (c : Dev nD) (t : Fin cfg0.N) (h0 : t.val % 64 = 0) :=
  tileA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) ((hcond0_0 t).mpr h0) ((hcond0_1 t).mpr h0) (fun h => by have := (hcond0_2 t).mp h; omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

theorem coverA (c : Dev nD) (t : Fin cfg0.N) (h0 : t.val % 64 = 0) :
    let T := atA m c t h0
    Covers T.1 ∧ Covers T.2.1 ∧ Covers T.2.2.1 ∧ Covers T.2.2.2.1 ∧ Covers T.2.2.2.2.1 ∧ Covers T.2.2.2.2.2.1 ∧ Covers T.2.2.2.2.2.2.1 :=
  ⟨View.cover_of_tiledL _ S256x1024.size (by sl_kernel_rfl),
    View.cover_of_tiledBy _ ![1, 256, 256] (by sl_kernel_rfl),
    View.cover_of_tiledBy _ ![1, 256, 256] (by sl_kernel_rfl),
    View.cover_of_tiledL _ S1x1024.size (by sl_kernel_rfl),
    View.cover_of_tiledL _ S1x1024.size (by sl_kernel_rfl),
    View.cover_of_tiledL _ S1x1024.size (by sl_kernel_rfl),
    View.cover_of_tiledL _ S1x1024.size (by sl_kernel_rfl)⟩

/-- The first tile: what it leaves. -/
def leaveA (c : Dev nD) (t : Fin cfg0.N) (h0 : t.val % 64 = 0) : Outs F :=
  (VO0_14.read (Elt F) (VO0_14.writes (Elt F) VO0_14.junk (atA m c t h0).1),
    VO0_15.read (Elt F) (VO0_15.writes (Elt F) VO0_15.junk (atA m c t h0).2.1),
    VO0_16.read (Elt F) (VO0_16.writes (Elt F) VO0_16.junk (atA m c t h0).2.2.1),
    VO0_17.read (Elt F) (VO0_17.writes (Elt F) VO0_17.junk (atA m c t h0).2.2.2.1),
    VO0_18.read (Elt F) (VO0_18.writes (Elt F) VO0_18.junk (atA m c t h0).2.2.2.2.1),
    VO0_19.read (Elt F) (VO0_19.writes (Elt F) VO0_19.junk (atA m c t h0).2.2.2.2.2.1),
    VS0_3.read (Elt F) (VS0_3.writes (Elt F) VS0_3.junk (atA m c t h0).2.2.2.2.2.2.1))

/-- A tile between the first and the last, at its own buffers and blocks. -/
abbrev atB (c : Dev nD) (t : Fin cfg0.N) (h0 : ¬t.val % 64 = 0) (h2 : ¬t.val % 64 = 63) (p : Outs F) :=
  tileB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) (fun h => h0 ((hcond0_0 t).mp h)) (fun h => h0 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.1 p.2.2.1 p.2.2.2.1 p.2.2.2.2.1 p.2.2.2.2.2.1 p.2.2.2.2.2.2

theorem coverB (c : Dev nD) (t : Fin cfg0.N) (h0 : ¬t.val % 64 = 0) (h2 : ¬t.val % 64 = 63) (p : Outs F) :
    let T := atB m c t h0 h2 p
    Covers T.1 ∧ Covers T.2.1 ∧ Covers T.2.2.1 ∧ Covers T.2.2.2.1 ∧ Covers T.2.2.2.2.1 ∧ Covers T.2.2.2.2.2.1 ∧ Covers T.2.2.2.2.2.2.1 :=
  ⟨View.cover_of_tiledL _ S256x1024.size (by sl_kernel_rfl),
    View.cover_of_tiledL _ S1x256x256.size (by sl_kernel_rfl),
    View.cover_of_tiledL _ S1x256x256.size (by sl_kernel_rfl),
    View.cover_of_tiledL _ S1x1024.size (by sl_kernel_rfl),
    View.cover_of_tiledL _ S1x1024.size (by sl_kernel_rfl),
    View.cover_of_tiledL _ S1x1024.size (by sl_kernel_rfl),
    View.cover_of_tiledL _ S1x1024.size (by sl_kernel_rfl)⟩

/-- A tile between the first and the last: what it leaves. -/
def leaveB (c : Dev nD) (t : Fin cfg0.N) (h0 : ¬t.val % 64 = 0) (h2 : ¬t.val % 64 = 63) (p : Outs F) : Outs F :=
  (VO0_14.read (Elt F) (VO0_14.writes (Elt F) VO0_14.junk (atB m c t h0 h2 p).1),
    VO0_15.read (Elt F) (VO0_15.writes (Elt F) VO0_15.junk (atB m c t h0 h2 p).2.1),
    VO0_16.read (Elt F) (VO0_16.writes (Elt F) VO0_16.junk (atB m c t h0 h2 p).2.2.1),
    VO0_17.read (Elt F) (VO0_17.writes (Elt F) VO0_17.junk (atB m c t h0 h2 p).2.2.2.1),
    VO0_18.read (Elt F) (VO0_18.writes (Elt F) VO0_18.junk (atB m c t h0 h2 p).2.2.2.2.1),
    VO0_19.read (Elt F) (VO0_19.writes (Elt F) VO0_19.junk (atB m c t h0 h2 p).2.2.2.2.2.1),
    VS0_3.read (Elt F) (VS0_3.writes (Elt F) VS0_3.junk (atB m c t h0 h2 p).2.2.2.2.2.2.1))

/-- The last tile, at its own buffers and blocks. -/
abbrev atC (c : Dev nD) (t : Fin cfg0.N) (h2 : t.val % 64 = 63) (p : Outs F) :=
  tileC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) (fun h => by have := (hcond0_0 t).mp h; omega) (fun h => by have := (hcond0_1 t).mp h; omega) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) p.2.1 p.2.2.1 p.2.2.2.1 p.2.2.2.2.1 p.2.2.2.2.2.1 p.2.2.2.2.2.2

theorem coverC (c : Dev nD) (t : Fin cfg0.N) (h2 : t.val % 64 = 63) (p : Outs F) :
    let T := atC m c t h2 p
    Covers T.1 ∧ Covers T.2.1 ∧ Covers T.2.2.1 ∧ Covers T.2.2.2.1 ∧ Covers T.2.2.2.2.1 ∧ Covers T.2.2.2.2.2.1 ∧ Covers T.2.2.2.2.2.2.1 :=
  ⟨View.cover_of_tiledL _ S256x1024.size (by sl_kernel_rfl),
    View.cover_of_tiledL _ S1x256x256.size (by sl_kernel_rfl),
    View.cover_of_tiledL _ S1x256x256.size (by sl_kernel_rfl),
    View.cover_of_tiledL _ S1x1024.size (by sl_kernel_rfl),
    View.cover_of_tiledL _ S1x1024.size (by sl_kernel_rfl),
    View.cover_of_tiledL _ S1x1024.size (by sl_kernel_rfl),
    View.cover_of_tiledL _ S1x1024.size (by sl_kernel_rfl)⟩

/-- The last tile: what it leaves. -/
def leaveC (c : Dev nD) (t : Fin cfg0.N) (h2 : t.val % 64 = 63) (p : Outs F) : Outs F :=
  (VO0_14.read (Elt F) (VO0_14.writes (Elt F) VO0_14.junk (atC m c t h2 p).1),
    VO0_15.read (Elt F) (VO0_15.writes (Elt F) VO0_15.junk (atC m c t h2 p).2.1),
    VO0_16.read (Elt F) (VO0_16.writes (Elt F) VO0_16.junk (atC m c t h2 p).2.2.1),
    VO0_17.read (Elt F) (VO0_17.writes (Elt F) VO0_17.junk (atC m c t h2 p).2.2.2.1),
    VO0_18.read (Elt F) (VO0_18.writes (Elt F) VO0_18.junk (atC m c t h2 p).2.2.2.2.1),
    VO0_19.read (Elt F) (VO0_19.writes (Elt F) VO0_19.junk (atC m c t h2 p).2.2.2.2.2.1),
    VS0_3.read (Elt F) (VS0_3.writes (Elt F) VS0_3.junk (atC m c t h2 p).2.2.2.2.2.2.1))

/-- What the six results and the carried state hold after each tile. -/
def outsAt0 (c : Dev nD) : (n : ℕ) → n < cfg0.N → Outs F
  | 0, hn => leaveA m c ⟨0, hn⟩ (Nat.zero_mod _)
  | n + 1, hn =>
    if h0 : (n + 1) % 64 = 0 then leaveA m c ⟨n + 1, hn⟩ h0
    else if h2 : (n + 1) % 64 = 63 then leaveC m c ⟨n + 1, hn⟩ h2 (outsAt0 c n (Nat.lt_of_succ_lt hn))
    else leaveB m c ⟨n + 1, hn⟩ h0 h2 (outsAt0 c n (Nat.lt_of_succ_lt hn))

/-- What the tile before left. -/
abbrev before (c : Dev nD) (t : Fin cfg0.N) : Outs F := outsAt0 m c (t.val - 1) (Nat.lt_of_le_of_lt (Nat.sub_le _ _) t.isLt)

theorem outsAt0_A (c : Dev nD) (t : Fin cfg0.N) (h0 : t.val % 64 = 0) : outsAt0 m c t.val t.isLt = leaveA m c t h0 := by
  obtain ⟨n, hn⟩ := t
  cases n with
  | zero => exact rfl
  | succ n => exact dif_pos h0

theorem outsAt0_B (c : Dev nD) (t : Fin cfg0.N) (h0 : ¬t.val % 64 = 0) (h2 : ¬t.val % 64 = 63) :
    outsAt0 m c t.val t.isLt = leaveB m c t h0 h2 (before m c t) := by
  obtain ⟨n, hn⟩ := t
  cases n with
  | zero => exact absurd (Nat.zero_mod _) h0
  | succ n => exact (dif_neg h0).trans (dif_neg h2)

theorem outsAt0_C (c : Dev nD) (t : Fin cfg0.N) (h2 : t.val % 64 = 63) :
    outsAt0 m c t.val t.isLt = leaveC m c t h2 (before m c t) := by
  have h0 : ¬t.val % 64 = 0 := by omega
  obtain ⟨n, hn⟩ := t
  cases n with
  | zero => exact absurd (Nat.zero_mod _) h0
  | succ n => exact (dif_neg h0).trans (dif_pos h2)

/-- The scratch with the carried state at `x` and the rest at anything. -/
abbrev between (c : Dev nD) (x : Vec F S1x1024 .f32) : sProp 𝕄 :=
  iprop(iprop((∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare x) ∗ (∃ r, prngReg c r))

/-- The scratch between two tiles: the carried state at what the tile before left. -/
def PhiS (c : Dev nD) : (n : ℕ) → n ≤ cfg0.N → sProp 𝕄
  | 0, _ => Pipeline.ΦA spec0 c
  | n + 1, hn => between c (outsAt0 m c n hn).2.2.2.2.2.2

theorem PhiS_zero (c : Dev nD) (n : ℕ) (h : n ≤ cfg0.N) (hz : n = 0) : PhiS m c n h = Pipeline.ΦA spec0 c := by
  subst hz; rfl

/-- Before a point that is not the first: the carried scratch at what the point before left. -/
theorem PhiS_pos (c : Dev nD) (n : ℕ) (h : n ≤ cfg0.N) (hz : n ≠ 0) :
    PhiS m c n h = between c (outsAt0 m c (n - 1) (by omega)).2.2.2.2.2.2 := by
  cases n with
  | zero => exact absurd rfl hz
  | succ n => rfl

/-! ## The pipeline's proof data -/

/-- The arrays as the region finds them, each input left at its block, the results as stated above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, _⟩ => (outsAt0 m c t.val t.isLt).2.2.1
    | ⟨17, _⟩ => (outsAt0 m c t.val t.isLt).2.2.2.1
    | ⟨18, _⟩ => (outsAt0 m c t.val t.isLt).2.2.2.2.1
    | ⟨19, _⟩ => (outsAt0 m c t.val t.isLt).2.2.2.2.2.1
    | ⟨_ + 20, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]
theorem after0_16 (c : Dev nD) (t : Fin cfg0.N) : (dats m 0 c).after 16 t = (outsAt0 m c t.val t.isLt).2.2.1 := by dsimp only [dats]
theorem after0_17 (c : Dev nD) (t : Fin cfg0.N) : (dats m 0 c).after 17 t = (outsAt0 m c t.val t.isLt).2.2.2.1 := by dsimp only [dats]
theorem after0_18 (c : Dev nD) (t : Fin cfg0.N) : (dats m 0 c).after 18 t = (outsAt0 m c t.val t.isLt).2.2.2.2.1 := by dsimp only [dats]
theorem after0_19 (c : Dev nD) (t : Fin cfg0.N) : (dats m 0 c).after 19 t = (outsAt0 m c t.val t.isLt).2.2.2.2.2.1 := by dsimp only [dats]

/-- A sum's buffer is not fetched: before a tile it holds what the tile before left. -/
theorem kept (c : Dev nD) (t : Fin cfg0.N) (h0 : ¬t.val % 64 = 0) (w : Fin cfg0.W) (hw : (cfg0.win w).isOut = true)
    (hf : ∀ t, (cfg0.win w).flush t = true ↔ t.val % 64 = 63) (hl : ∀ i, cfg0.idle w i = false) (hc : ∀ i a, (cfg0.win w).clip i a = none) (d) :
    (dats m 0 c).before w t d = (dats m 0 c).after w ⟨t.val - 1, Nat.lt_of_le_of_lt (Nat.sub_le _ _) t.isLt⟩ := by
  have hN : t.val < 64 := lt_of_lt_of_eq t.isLt (show cfg0.N = 64 from N_0)
  exact Dat.before_out_kept _ w hw t (by omega) (Bool.eq_false_iff.mpr fun h => by have := (hf _).mp h; dsimp only at this; omega) hl hc d

/-! The body at any tile. -/

/-- What the body is called with at a point, -/
def bodyPre (c : Dev nD) (t : Fin cfg0.N) : sProp 𝕄 :=
  iprop((dats m 0 c).Φ t.castSucc ∗ (dats m 0 c).owesAt () t.castSucc
    ∗ (∃ d, holds c (ms0_0 t) ((dats m 0 c).before 0 t d))
    ∗ (∃ d, holds c (ms0_1 t) ((dats m 0 c).before 1 t d))
    ∗ (∃ d, holds c (ms0_2 t) ((dats m 0 c).before 2 t d))
    ∗ (∃ d, holds c (ms0_3 t) ((dats m 0 c).before 3 t d))
    ∗ (∃ d, holds c (ms0_4 t) ((dats m 0 c).before 4 t d))
    ∗ (∃ d, holds c (ms0_5 t) ((dats m 0 c).before 5 t d))
    ∗ (∃ d, holds c (ms0_6 t) ((dats m 0 c).before 6 t d))
    ∗ (∃ d, holds c (ms0_7 t) ((dats m 0 c).before 7 t d))
    ∗ (∃ d, holds c (ms0_8 t) ((dats m 0 c).before 8 t d))
    ∗ (∃ d, holds c (ms0_9 t) ((dats m 0 c).before 9 t d))
    ∗ (∃ d, holds c (ms0_10 t) ((dats m 0 c).before 10 t d))
    ∗ (∃ d, holds c (ms0_11 t) ((dats m 0 c).before 11 t d))
    ∗ (∃ d, holds c (ms0_12 t) ((dats m 0 c).before 12 t d))
    ∗ (∃ d, holds c (ms0_13 t) ((dats m 0 c).before 13 t d))
    ∗ (∃ d, holds c (ms0_14 t) ((dats m 0 c).before 14 t d))
    ∗ (∃ d, holds c (ms0_15 t) ((dats m 0 c).before 15 t d))
    ∗ (∃ d, holds c (ms0_16 t) ((dats m 0 c).before 16 t d))
    ∗ (∃ d, holds c (ms0_17 t) ((dats m 0 c).before 17 t d))
    ∗ (∃ d, holds c (ms0_18 t) ((dats m 0 c).before 18 t d))
    ∗ (∃ d, holds c (ms0_19 t) ((dats m 0 c).before 19 t d)))

/-- and what it returns. -/
def bodyPost (c : Dev nD) (t : Fin cfg0.N) : sProp 𝕄 :=
  iprop((dats m 0 c).Φ t.succ ∗ (dats m 0 c).owesAt () t.succ
    ∗ holds c (ms0_0 t) ((dats m 0 c).after 0 t)
    ∗ holds c (ms0_1 t) ((dats m 0 c).after 1 t)
    ∗ holds c (ms0_2 t) ((dats m 0 c).after 2 t)
    ∗ holds c (ms0_3 t) ((dats m 0 c).after 3 t)
    ∗ holds c (ms0_4 t) ((dats m 0 c).after 4 t)
    ∗ holds c (ms0_5 t) ((dats m 0 c).after 5 t)
    ∗ holds c (ms0_6 t) ((dats m 0 c).after 6 t)
    ∗ holds c (ms0_7 t) ((dats m 0 c).after 7 t)
    ∗ holds c (ms0_8 t) ((dats m 0 c).after 8 t)
    ∗ holds c (ms0_9 t) ((dats m 0 c).after 9 t)
    ∗ holds c (ms0_10 t) ((dats m 0 c).after 10 t)
    ∗ holds c (ms0_11 t) ((dats m 0 c).after 11 t)
    ∗ holds c (ms0_12 t) ((dats m 0 c).after 12 t)
    ∗ holds c (ms0_13 t) ((dats m 0 c).after 13 t)
    ∗ holds c (ms0_14 t) ((dats m 0 c).after 14 t)
    ∗ holds c (ms0_15 t) ((dats m 0 c).after 15 t)
    ∗ holds c (ms0_16 t) ((dats m 0 c).after 16 t)
    ∗ holds c (ms0_17 t) ((dats m 0 c).after 17 t)
    ∗ holds c (ms0_18 t) ((dats m 0 c).after 18 t)
    ∗ holds c (ms0_19 t) ((dats m 0 c).after 19 t))

set_option maxHeartbeats 28800000 in
/-- The body at any tile takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (fun _ => rfl), before0_1_of m (dats m 0 c) (A_eq m c 1) (fun _ => rfl), before0_2_of m (dats m 0 c) (A_eq m c 2) (fun _ => rfl), before0_3_of m (dats m 0 c) (A_eq m c 3) (fun _ => rfl), before0_4_of m (dats m 0 c) (A_eq m c 4) (fun _ => rfl), before0_5_of m (dats m 0 c) (A_eq m c 5) (fun _ => rfl), before0_6_of m (dats m 0 c) (A_eq m c 6) (fun _ => rfl), before0_7_of m (dats m 0 c) (A_eq m c 7) (fun _ => rfl), before0_8_of m (dats m 0 c) (A_eq m c 8) (fun _ => rfl), before0_9_of m (dats m 0 c) (A_eq m c 9) (fun _ => rfl), before0_10_of m (dats m 0 c) (A_eq m c 10) (fun _ => rfl), before0_11_of m (dats m 0 c) (A_eq m c 11) (fun _ => rfl), before0_12_of m (dats m 0 c) (A_eq m c 12) (fun _ => rfl), before0_13_of m (dats m 0 c) (A_eq m c 13) (fun _ => rfl)]
  rw [show (dats m 0 c).owesAt () t.succ = (dats m 0 c).owesAt () t.castSucc from rfl,
    show (dats m 0 c).Φ t.succ = between c (outsAt0 m c t.val t.isLt).2.2.2.2.2.2 from rfl,
    show (dats m 0 c).after 0 t = iblk m c 0 t from rfl, show (dats m 0 c).after 1 t = iblk m c 1 t from rfl, show (dats m 0 c).after 2 t = iblk m c 2 t from rfl, show (dats m 0 c).after 3 t = iblk m c 3 t from rfl, show (dats m 0 c).after 4 t = iblk m c 4 t from rfl, show (dats m 0 c).after 5 t = iblk m c 5 t from rfl, show (dats m 0 c).after 6 t = iblk m c 6 t from rfl, show (dats m 0 c).after 7 t = iblk m c 7 t from rfl, show (dats m 0 c).after 8 t = iblk m c 8 t from rfl, show (dats m 0 c).after 9 t = iblk m c 9 t from rfl, show (dats m 0 c).after 10 t = iblk m c 10 t from rfl, show (dats m 0 c).after 11 t = iblk m c 11 t from rfl, show (dats m 0 c).after 12 t = iblk m c 12 t from rfl, show (dats m 0 c).after 13 t = iblk m c 13 t from rfl, after0_14, after0_15, after0_16, after0_17, after0_18, after0_19]
  have hN : t.val < 64 := lt_of_lt_of_eq t.isLt (show cfg0.N = 64 from N_0)
  by_cases h0 : t.val % 64 = 0
  · rw [PhiS_castSucc m c t, PhiS_zero m c _ _ (by omega), PhiA0_eq, outsAt0_A m c t h0]
    unfold leaveA between; dsimp only
    obtain ⟨k0, k1, k2, k3, k4, k5, k6⟩ := coverA m c t h0
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((atA m c t h0).2.2.2.2.2.2.2 Set.univ _)
    iframe H0 H1 H2 H3 H4 H5 H6 H7 H8 H9 H10 H11 H12 H13 HS0 HS1 HS2 HS3
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, HS0, HS1, HS2, ⟨%es, HS3⟩⟩
    ihave K14 := (owns_of_cover VO0_14 k0) $$ H14
    ihave K15 := (owns_of_cover VO0_15 k1) $$ H15
    ihave K16 := (owns_of_cover VO0_16 k2) $$ H16
    ihave K17 := (owns_of_cover VO0_17 k3) $$ H17
    ihave K18 := (owns_of_cover VO0_18 k4) $$ H18
    ihave K19 := (owns_of_cover VO0_19 k5) $$ H19
    ihave KS := (owns_of_cover VS0_3 k6) $$ HS3
    iframe
  · rw [PhiS_castSucc m c t, PhiS_pos m c _ _ (by omega)]
    have b15 (d) : (dats m 0 c).before 15 t d = (before m c t).2.1 :=
      kept m c t h0 15 rfl flush0_15 (fun _ => rfl) (fun _ _ => rfl) d
    have b16 (d) : (dats m 0 c).before 16 t d = (before m c t).2.2.1 :=
      kept m c t h0 16 rfl flush0_16 (fun _ => rfl) (fun _ _ => rfl) d
    have b17 (d) : (dats m 0 c).before 17 t d = (before m c t).2.2.2.1 :=
      kept m c t h0 17 rfl flush0_17 (fun _ => rfl) (fun _ _ => rfl) d
    have b18 (d) : (dats m 0 c).before 18 t d = (before m c t).2.2.2.2.1 :=
      kept m c t h0 18 rfl flush0_18 (fun _ => rfl) (fun _ _ => rfl) d
    have b19 (d) : (dats m 0 c).before 19 t d = (before m c t).2.2.2.2.2.1 :=
      kept m c t h0 19 rfl flush0_19 (fun _ => rfl) (fun _ _ => rfl) d
    simp only [b15, b16, b17, b18, b19]
    by_cases h2 : t.val % 64 = 63
    · rw [outsAt0_C m c t h2]
      unfold leaveC between; dsimp only
      obtain ⟨k0, k1, k2, k3, k4, k5, k6⟩ := coverC m c t h2 (before m c t)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((atC m c t h2 (before m c t)).2.2.2.2.2.2.2 Set.univ _)
      iframe H0 H1 H2 H3 H4 H5 H6 H7 H8 H9 H10 H11 H12 H13 H15 H16 H17 H18 H19 HS0 HS1 HS2 HS3
      isplitl [H14]; · iexists _; iexact H14
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, HS0, HS1, HS2, ⟨%es, HS3⟩⟩
      ihave K14 := (owns_of_cover VO0_14 k0) $$ H14
      ihave K15 := (owns_of_cover VO0_15 k1) $$ H15
      ihave K16 := (owns_of_cover VO0_16 k2) $$ H16
      ihave K17 := (owns_of_cover VO0_17 k3) $$ H17
      ihave K18 := (owns_of_cover VO0_18 k4) $$ H18
      ihave K19 := (owns_of_cover VO0_19 k5) $$ H19
      ihave KS := (owns_of_cover VS0_3 k6) $$ HS3
      iframe
    · rw [outsAt0_B m c t h0 h2]
      unfold leaveB between; dsimp only
      obtain ⟨k0, k1, k2, k3, k4, k5, k6⟩ := coverB m c t h0 h2 (before m c t)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((atB m c t h0 h2 (before m c t)).2.2.2.2.2.2.2 Set.univ _)
      iframe H0 H1 H2 H3 H4 H5 H6 H7 H8 H9 H10 H11 H12 H13 H15 H16 H17 H18 H19 HS0 HS1 HS2 HS3
      isplitl [H14]; · iexists _; iexact H14
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, HS0, HS1, HS2, ⟨%es, HS3⟩⟩
      ihave K14 := (owns_of_cover VO0_14 k0) $$ H14
      ihave K15 := (owns_of_cover VO0_15 k1) $$ H15
      ihave K16 := (owns_of_cover VO0_16 k2) $$ H16
      ihave K17 := (owns_of_cover VO0_17 k3) $$ H17
      ihave K18 := (owns_of_cover VO0_18 k4) $$ H18
      ihave K19 := (owns_of_cover VO0_19 k5) $$ H19
      ihave KS := (owns_of_cover VS0_3 k6) $$ HS3
      iframe

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  iframe
  iexists _; iexact HS3

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- The whole program, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The arrays at the end. -/
theorem run_main : θ_run defs (onTc (τ := τ) (main (F := F))) (s₀ m ρ) (Pipeline.FramePost cfgs (dats m) 0 (V m)) :=
  (θ_run defs _ _).mono (fun _ h => h.1) (run_main_quiescent m ρ)

/-- A buffer is as it was. -/
abbrev Same (r : PUnit × MemSt nD τ sig (Elt F)) (c : Dev nD) (b : Ref sig .tc) : Prop :=
  r.2.mem ((c.tc : Thread nD τ).loc b) = m ((c.tc : Thread nD τ).loc b)

/-- The arguments are as they were. -/
abbrev Kept (r : PUnit × MemSt nD τ sig (Elt F)) (c : Dev nD) : Prop :=
  Same m r c main_arg0 ∧ Same m r c main_arg1 ∧ Same m r c main_arg2 ∧ Same m r c main_arg3 ∧ Same m r c main_arg4 ∧ Same m r c main_arg5 ∧ Same m r c main_arg6 ∧ Same m r c main_arg7 ∧ Same m r c main_arg8 ∧ Same m r c main_arg9

theorem unchanged : θ_run defs (onTc (τ := τ) (main (F := F))) ⟨m, fun _ => 0, ρ⟩ (fun r => ∀ c : Dev nD, Kept m r c) :=
  frame_of m ρ (dats m) (A_eq m) (run_main m ρ)

/-- The frame, over any numbers. -/
theorem frame_all : θ_run defs (onTc (τ := τ) (main (F := F))) ⟨m, fun _ => 0, ρ⟩
    (fun r => (∀ c : Dev nD, Kept m r c) ∧ r.2.sem = fun _ => 0) :=
  θ_run_and (unchanged m ρ) ((θ_run defs _ _).mono (fun _ h => h.2) (run_main_quiescent m ρ))

end Cert.LruCFrame

end
-- ==== Proof.LruCFrame.lean ====
module

public import proofs.«01_k».proof.Proof.LruCFRun
public import proofs.«01_k».proof.Proof.Gen.KLruC.Frame
public import proofs.«01_k».proof.Defs

/-! The two frames of the backward call of the recurrence: the two printed programs are one. -/

@[expose] public section

set_option maxRecDepth 16384

namespace Cert.LruCFrame

open Cert.KLruCIdeal
open Idealize.ShloMosaic Idealize.ShloMosaic.TcCoe Idealize.ShloMosaic.Tactic Idealize.SL.Sem

/-- The frame of the idealized program. -/
theorem frameIdeal : Cert.quiescent_KLruCIdeal (hKLruCIdeal := Cert.KLruCIdeal.Gen.facts) := fun m ρ _ => frame_all m ρ

/-- The frame's statement is the same of the two printed programs. -/
theorem one_text : Cert.quiescent_KLruC (hKLruC := Cert.KLruC.Gen.facts) = ∀ (m : (ℓ : Loc nD τ sig) → Buf (Elt Bits) ℓ) (ρ : Dev nD → PrngReg), True →
    θ_run defs (onTc (τ := τ) (main (F := Bits))) ⟨m, fun _ => 0, ρ⟩ (fun r => (∀ c : Dev nD, Kept m r c) ∧ r.2.sem = fun _ => 0) := by sl_kernel_rfl

/-- The frame of the program as it is. -/
theorem frame : Cert.quiescent_KLruC (hKLruC := Cert.KLruC.Gen.facts) :=
  one_text.mpr fun m ρ _ => frame_all m ρ

end Cert.LruCFrame

end
-- ==== Proof.Reals.lean ====
module

public import Idealize.ShloMosaic.Lib.Pipeline.ValueKit

@[expose] public section

noncomputable section

/-!
Facts of extended-real arithmetic that several of the value proofs share.
-/

namespace Cert

open Idealize.ShloMosaic

/-- A place of a table is a row and a lane; tables that agree at every row and lane are equal. -/
theorem at2 {n k : ℕ} (y : (⟨2, ![n, k]⟩ : Shape).Idx) : ∃ (r : Fin n) (l : Fin k), y = ix2 r l := ⟨y 0, y 1, eq_ix2 y⟩

theorem ext2 {n k : ℕ} {α : Type} {f g : (⟨2, ![n, k]⟩ : Shape).Idx → α} (h : ∀ (r : Fin n) (l : Fin k), f (ix2 r l) = g (ix2 r l)) :
    f = g := by
  funext y
  obtain ⟨r, l, rfl⟩ := at2 y
  exact h r l

namespace Reals

/-- A nonnegative real factor goes into a finite sum, whatever the terms are. -/
theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

end Reals

end Cert
end
-- ==== Proof.LossVal.lean ====
module

public import proofs.«01_k».proof.Proof.Gen.KLossIdeal.Value
public import proofs.«01_k».proof.Proof.Gen.RLossIdeal.Read
public import proofs.«01_k».proof.Proof.Reals
public import Idealize.ShloMosaic.Lib.Pipeline.ValueKit

@[expose] public section

set_option maxRecDepth 16384

noncomputable section

namespace Cert.LossValue

open Cert.KLossIdeal Cert.KLossIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0] := by
  show ∀ t : Fin grid0.N, _
  decide +kernel

/-- The word of `1 / 1024`, of `1 / 2048`. -/
theorem word_inv1024 : Ideal.ofBits .f32 0x3A800000#32 = ((1 / 1024 : ℝ) : EReal) := by
  simp [Ideal.ofBits, Ideal.ieee, -EReal.coe_mul]; norm_num
theorem word_inv2048 : Ideal.ofBits .f32 0x3A000000#32 = ((1 / 2048 : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_2 : Ideal.ofBits .f32 0x40000000#32 = ((2 : ℝ) : EReal) := by
  simp [Ideal.ofBits, Ideal.ieee, -EReal.coe_mul]; norm_num

/-- The two activations, as arrays of the launch. -/
abbrev A0 (c : Dev nD) : S16384x1024.Idx → EReal := m ((c : Thread nD τ).loc main_arg0)
abbrev A1 (c : Dev nD) : S16384x1024.Idx → EReal := m ((c : Thread nD τ).loc main_arg1)

theorem row_lt (t : Fin cfg0.N) (r : Fin 512) : t.val * 512 + r.val < 16384 := by
  have h : t.val < 32 := t.isLt
  omega

theorem blk0 (c : Dev nD) (t : Fin cfg0.N) (r : Fin 512) (l : Fin 1024) :
    iblk m c 0 t (ix2 r l) = A0 m c (ix2 ⟨t.val * 512 + r.val, row_lt t r⟩ l) := by
  blk_simp [iblk]
  refine congrArg (V m c main_arg0) ?_
  blk_ext [(idx t).1]

theorem blk1 (c : Dev nD) (t : Fin cfg0.N) (r : Fin 512) (l : Fin 1024) :
    iblk m c 1 t (ix2 r l) = A1 m c (ix2 ⟨t.val * 512 + r.val, row_lt t r⟩ l) := by
  blk_simp [iblk]
  refine congrArg (V m c main_arg1) ?_
  blk_ext [(idx t).2.1]

/-- The gradient array after the run. -/
theorem final2 (c : Dev nD) : (dats m 0 c).arrAt 2 cfg0.N = fun i : S16384x1024.Idx =>
    (A0 m c i - A1 m c i) * ((1 / 1024 : ℝ) : EReal) := by
  refine (dats m 0 c).arrAt_eq_of_covers 2 _ (by decide +kernel) fun t hf y => ?_
  blk_simp
  have key : k0_pay3 (F := Ideal) (iblk m c 0 t) (iblk m c 1 t) y =
     (A0 m c (((View.whole main_v0_0).slice (win0_2.rect t)).emb y) - A1 m c (((View.whole main_v0_0).slice (win0_2.rect t)).emb y)) * ((1 / 1024 : ℝ) : EReal) := by
    obtain ⟨r, l, rfl⟩ := at2 y
    have e : ((View.whole main_v0_0).slice (win0_2.rect t)).emb (ix2 r l) = ix2 ⟨t.val * 512 + r.val, row_lt t r⟩ l := by
      blk_ext [(idx t).2.2]
    rw [e]
    pointwise [k0_pay3, k0_pay2]
    rw [blk0, blk1, word_inv1024]
  rw [after0_2]
  by_cases h0 : t.val % 32 = 0
  · rw [outsAt0_A m c t h0]
    frame_out
    exact key
  · rw [outsAt0_B m c t h0]
    frame_out
    exact key

/-- The squared difference at one place. -/
def sq (c : Dev nD) (i : S16384x1024.Idx) : EReal := (A0 m c i - A1 m c i) * (A0 m c i - A1 m c i)

/-- What point `t` adds to the loss. -/
def term (c : Dev nD) (t : Fin cfg0.N) (_ : S1x128.Idx) : EReal :=
  ((1 / 2048 : ℝ) : EReal) * ∑ r : Fin 512, ∑ l : Fin 1024, sq m c (ix2 ⟨t.val * 512 + r.val, row_lt t r⟩ l)

theorem step3 (c : Dev nD) (t : Fin cfg0.N) (v : FVec Ideal S1x128 .f32) (j : S1x128.Idx) :
    k0_pay4 (F := Ideal) (iblk m c 0 t) (iblk m c 1 t) v j = v j + term m c t j := by
  pointwise [k0_pay4, k0_pay2]
  simp only [blk0, blk1, word_inv2048]
  rfl

/-- The last point. -/
def tlast : Fin cfg0.N := ⟨31, by decide⟩

/-- The loss row after the run: every point's term. -/
theorem final3 (c : Dev nD) : (dats m 0 c).arrAt 3 cfg0.N = fun i : S1x128.Idx =>
    ∑ k : Fin cfg0.N, term m c k i := by
  refine (dats m 0 c).arrAt_eq_of_after_last 3 tlast (by decide +kernel) _ fun j => ?_
  blk_simp
  rw [after0_3, Pipeline.eq_sum_fin_of_reset_step_apply_last (fun n h => (outsAt0 m c n h).2) 32 (fun _ => 0)
    (term m c) (fun t h j => ?_) (fun t h j => ?_) (le_of_eq N_0) tlast rfl, zero_add]
  · rw [outsAt0_A m c t h]
    frame_out
    rw [step3]
    congr 1
    pointwise [k0_pay1]
  · rw [outsAt0_B m c t h]
    frame_out
    rw [step3]

/-- Those terms are half the sum over all rows of the rows' mean squares. -/
theorem total (c : Dev nD) (i : S1x128.Idx) : ∑ k : Fin cfg0.N, term m c k i =
    ((1 / 2048 : ℝ) : EReal) * ∑ r : Fin 16384, ∑ l : Fin 1024, sq m c (ix2 r l) := by
  unfold term
  rw [← Reals.coe_mul_sum _ _ (by norm_num)]
  refine congrArg (((1 / 2048 : ℝ) : EReal) * ·) ?_
  exact Fin.sum_mul_add_congr (f := fun r : Fin 16384 => ∑ l : Fin 1024, sq m c (ix2 r l)) (fun s k hl => rfl) (by rw [show cfg0.N = 32 from N_0])

/-- The reference's gradient. -/
theorem ref14 (x0 x1 : (⟨S16384x1024, .f32⟩ : BufTy).Contents (Elt Ideal)) :
    Cert.RLossIdeal.Read.val_main_v14 (F := Ideal) x0 x1 = fun i => (x0 i - x1 i) * ((1 / 1024 : ℝ) : EReal) := by
  funext i
  rw [← Cert.RLossIdeal.Read.val_main_v14_eq]
  pointwise []
  rw [word_half, word_1024, word_2, Ideal.div_coe (by norm_num), ← mul_assoc, ← EReal.coe_mul, ← EReal.coe_mul, mul_comm]
  norm_num

/-- The reference's loss, read at any lane. -/
theorem ref15 (x0 x1 : (⟨S16384x1024, .f32⟩ : BufTy).Contents (Elt Ideal)) :
    Cert.RLossIdeal.Read.val_main_v15 (F := Ideal) x0 x1 = fun _ => ((1 / 2048 : ℝ) : EReal) * ∑ r : Fin 16384, ∑ l : Fin 1024,
      (x0 (ix2 r l) - x1 (ix2 r l)) * (x0 (ix2 r l) - x1 (ix2 r l)) := by
  funext i
  rw [← Cert.RLossIdeal.Read.val_main_v15_eq]
  pointwise []
  simp only [word_half, word_1024, Ideal.div_coe (by norm_num : (1024 : ℝ) ≠ 0)]
  rw [Reals.coe_mul_sum _ _ (by norm_num), Reals.coe_mul_sum _ _ (by norm_num)]
  refine Finset.sum_congr rfl fun r _ => ?_
  rw [mul_comm, mul_assoc, ← EReal.coe_mul, mul_comm]
  norm_num

end Cert.LossValue
end
-- ==== Proof.LossClaim.lean ====
module

public import proofs.«01_k».proof.Proof.LossVal
public import proofs.«01_k».proof.Proof.Gen.KLossIdeal
public import proofs.«01_k».proof.Proof.Gen.RLossIdeal
public import proofs.«01_k».proof.Proof.Gen.RLossIdeal.Run
public import proofs.«01_k».proof.Defs
public import Idealize.ShloMosaic.Lib.Quiescent

@[expose] public section

noncomputable section

/-!
The loss and its gradient: the two programs' runs put beside each other.
-/

namespace Cert.LossClaim

open Idealize.ShloMosaic Idealize.SL.Sem

/-- The reference runs and leaves its arguments. -/
theorem refFrame : Cert.quiescent_RLossIdeal (hRLossIdeal := Cert.RLossIdeal.Gen.facts) := fun m ρ _ =>
  (θ_run _ _ _).mono (fun r h => ⟨fun c => (h c).2.2, sem_eq_zero_of_no_sems (by decide) r.2⟩)
    (Cert.RLossIdeal.Value.run (F := Ideal) m ρ)

/-- Kernel and reference end with the same gradient and the same loss row. -/
theorem algebraic : Cert.algebraic_KLossIdeal_RLossIdeal (hKLossIdeal := Cert.KLossIdeal.Gen.facts)
    (hRLossIdeal := Cert.RLossIdeal.Gen.facts) := by
  intro m g m' g' _ hag
  refine ⟨fun c i => (LossValue.A0 m c i - LossValue.A1 m c i) * ((1 / 1024 : ℝ) : EReal),
    fun c _ => ((1 / 2048 : ℝ) : EReal) * ∑ r : Fin 16384, ∑ l : Fin 1024, LossValue.sq m c (ix2 r l), ?_, ?_⟩
  · refine (θ_run _ _ _).mono (fun r h c => ?_) (Cert.KLossIdeal.Value.run_blocks (F := Ideal) m g)
    obtain ⟨h0, h1, ha⟩ := h c
    exact ⟨h0.trans (LossValue.final2 m c),
      h1.trans ((LossValue.final3 m c).trans (funext fun i => LossValue.total m c i)), ha⟩
  · refine (θ_run _ _ _).mono (fun r h c => ?_) (Cert.RLossIdeal.Value.run (F := Ideal) m' g')
    obtain ⟨h0, h1, ha⟩ := h c
    obtain ⟨e0, e1⟩ := hag c
    refine ⟨h0.trans ?_, h1.trans ?_, ha⟩
    · rw [Cert.RLossIdeal.Read.val_main_v14_eq, LossValue.ref14, e0, e1]
      rfl
    · rw [Cert.RLossIdeal.Read.val_main_v15_eq, LossValue.ref15, e0, e1]
      rfl

end Cert.LossClaim
end
-- ==== Proof.Norm.lean ====
module

public import proofs.«01_k».proof.Proof.Reals

/-! The gradient of a row's root-mean-square normalisation and of the logistic gate, over the extended reals:
the two ways of writing them down agree. -/

@[expose] public section

noncomputable section

namespace Cert.Reals

open Idealize.ShloMosaic

theorem word_1024 : Ideal.ofBits .f32 1149239296#32 = ((1024 : ℝ) : EReal) := by
  simp [Ideal.ofBits, Ideal.ieee, -EReal.coe_mul]; norm_num

theorem word_half : Ideal.ofBits .f32 1056964608#32 = ((1 / 2 : ℝ) : EReal) := by
  simp [Ideal.ofBits, Ideal.ieee, -EReal.coe_mul]; norm_num

theorem word_neg_half : Ideal.ofBits .f32 3204448256#32 = ((-1 / 2 : ℝ) : EReal) := by
  simp [Ideal.ofBits, Ideal.ieee, -EReal.coe_mul]; norm_num

/-- The small number added under the root is a positive real. -/
theorem word_eps : ∃ e : ℝ, 0 < e ∧ Ideal.ofBits .f32 897988541#32 = (e : EReal) := by
  refine ⟨8796093 / 2 ^ 43, by norm_num, ?_⟩
  simp [Ideal.ofBits, Ideal.ieee, -EReal.coe_mul]; norm_num

/-! ### Sums and products -/

theorem add_self_eq (x : EReal) : x + x = ((2 : ℝ) : EReal) * x := by
  induction x with
  | bot => rw [EReal.coe_mul_bot_of_pos (by norm_num)]; rfl
  | coe r => norm_cast; ring
  | top => rw [EReal.coe_mul_top_of_pos (by norm_num)]; rfl

theorem mul_self_nonneg (x : EReal) : 0 ≤ x * x := by
  induction x with
  | bot => simp
  | coe r => rw [← EReal.coe_mul]; exact EReal.coe_nonneg.mpr (_root_.mul_self_nonneg r)
  | top => simp

/-- A nonnegative real distributes over a difference. -/
theorem coe_mul_sub {r : ℝ} (hr : 0 ≤ r) (x y : EReal) : (r : EReal) * (x - y) = r * x - r * y := by
  rw [sub_eq_add_neg, EReal.left_distrib_of_nonneg_of_ne_top (EReal.coe_nonneg.mpr hr) (EReal.coe_ne_top r), sub_eq_add_neg,
    mul_neg]

/-- A sum that is no infinity has no infinite term. -/
theorem real_of_sum {ι : Type} (s : Finset ι) (f : ι → EReal) (h : ∃ r : ℝ, ∑ i ∈ s, f i = r) : ∀ i ∈ s, ∃ r : ℝ, f i = r := by
  classical
  induction s using Finset.induction_on with
  | empty => simp
  | insert a s ha ih =>
    rw [Finset.sum_insert ha] at h
    have key : ∀ x y : EReal, (∃ r : ℝ, x + y = r) → (∃ r : ℝ, x = r) ∧ ∃ r : ℝ, y = r := by
      intro x y
      induction x <;> induction y <;> simp
    obtain ⟨h1, h2⟩ := key _ _ h
    intro i hi
    rcases Finset.mem_insert.mp hi with rfl | hi
    · exact h1
    · exact ih h2 i hi

/-- A finite sum of reals is a real. -/
theorem sum_real {ι : Type} (s : Finset ι) (f : ι → EReal) (h : ∀ i ∈ s, ∃ r : ℝ, f i = r) : ∃ r : ℝ, ∑ i ∈ s, f i = r := by
  classical
  induction s using Finset.induction_on with
  | empty => exact ⟨0, by simp⟩
  | insert a s ha ih =>
    obtain ⟨x, hx⟩ := h a (Finset.mem_insert_self a s)
    obtain ⟨y, hy⟩ := ih fun i hi => h i (Finset.mem_insert_of_mem hi)
    exact ⟨x + y, by rw [Finset.sum_insert ha, hx, hy, EReal.coe_add]⟩

/-! ### The normalisation -/

/-- A row's mean square, and the small number. -/
def meanSq (f : Fin 1024 → EReal) : EReal :=
  Ideal.div (∑ x, f x * f x) (Ideal.ofBits .f32 1149239296#32) + Ideal.ofBits .f32 897988541#32

theorem meanSq_eq (f : Fin 1024 → EReal) :
    (meanSq f = ⊤ ∨ ∃ v : ℝ, 0 < v ∧ meanSq f = v ∧ ∀ x, ∃ r : ℝ, f x = r) := by
  obtain ⟨e, he, hw⟩ := word_eps
  have h0 : (0 : EReal) ≤ ∑ x, f x * f x := Finset.sum_nonneg fun x _ => mul_self_nonneg (f x)
  unfold meanSq
  rw [word_1024, Ideal.div_coe (by norm_num), hw]
  generalize hs : ∑ x, f x * f x = s at h0
  induction s with
  | bot => simp at h0
  | top => left; rw [EReal.top_mul_coe_of_pos (by norm_num)]; rfl
  | coe s =>
    right
    refine ⟨s * (1 / 1024) + e, ?_, by push_cast; rfl, fun x => ?_⟩
    · have := EReal.coe_nonneg.mp h0; positivity
    · obtain ⟨r, hr⟩ := real_of_sum _ _ ⟨s, hs⟩ x (Finset.mem_univ x)
      generalize f x = y at hr
      induction y with
      | bot => simp at hr
      | top => simp at hr
      | coe y => exact ⟨y, rfl⟩

def invRms (f : Fin 1024 → EReal) : EReal := Ideal.rsqrt (meanSq f)

/-- The gradient as the kernel writes it: `r (d − f r · mean(d · f r))`. -/
def normBack (f d : Fin 1024 → EReal) (l : Fin 1024) : EReal :=
  invRms f * (d l - f l * invRms f * Ideal.div (∑ x, d x * (f x * invRms f)) (Ideal.ofBits .f32 1149239296#32))

/-- What differentiating the mean square brings to each of its two factors. -/
def meanBack (f d : Fin 1024 → EReal) : EReal :=
  Ideal.div ((∑ x, f x * d x) * (Ideal.ofBits .f32 3204448256#32 * Ideal.div (invRms f) (meanSq f))) (Ideal.ofBits .f32 1149239296#32)

theorem normBack_eq_zero {f : Fin 1024 → EReal} (h : meanSq f = ⊤) (d : Fin 1024 → EReal) (l : Fin 1024) : normBack f d l = 0 := by
  have hr : invRms f = 0 := by unfold invRms; rw [h]; rfl
  unfold normBack; rw [hr, zero_mul]

theorem invRms_real {f : Fin 1024 → EReal} {v : ℝ} (hv : 0 < v) (h : meanSq f = v) : invRms f = ((√v)⁻¹ : ℝ) := by
  unfold invRms
  rw [h]
  show (if v < 0 then (⊥ : EReal) else if v = 0 then ⊤ else ((√v)⁻¹ : ℝ)) = _
  rw [if_neg (not_lt.mpr hv.le), if_neg hv.ne']

/-- Both ways of writing the gradient agree, at all extended reals. -/
theorem normBack_eq (f d : Fin 1024 → EReal) (l : Fin 1024) :
    normBack f d l = d l * invRms f + f l * meanBack f d + meanBack f d * f l := by
  rcases meanSq_eq f with h | ⟨v, hv, h, -⟩
  · have hr : invRms f = 0 := by unfold invRms; rw [h]; rfl
    have hm : meanBack f d = 0 := by
      unfold meanBack
      rw [hr, h, word_1024, Ideal.div_coe (by norm_num)]
      simp [Ideal.div]
    rw [normBack_eq_zero h, hr, hm]; simp
  · have hr := invRms_real hv h
    have hr0 : 0 ≤ (√v)⁻¹ := by positivity
    have hv3 : (√v)⁻¹ * (1 / v) = (√v)⁻¹ * ((√v)⁻¹ * (√v)⁻¹) := by
      rw [← mul_inv, Real.mul_self_sqrt hv.le, one_div]
    have hsum : ∑ x, d x * (f x * ((√v)⁻¹ : ℝ)) = ((√v)⁻¹ : ℝ) * ∑ x, f x * d x := by
      rw [coe_mul_sum _ _ hr0]
      exact Finset.sum_congr rfl fun x _ => by ac_rfl
    unfold normBack meanBack
    rw [hr, h, word_1024, word_neg_half, Ideal.div_coe (by norm_num), Ideal.div_coe hv.ne', Ideal.div_coe (by norm_num), hsum,
      coe_mul_sub hr0, ← EReal.coe_mul, hv3, add_assoc, mul_comm (f l) (_ * ((1 / 1024 : ℝ) : EReal)), add_self_eq, sub_eq_add_neg]
    generalize (√v)⁻¹ = r
    generalize ∑ x, f x * d x = S
    refine congrArg₂ (· + ·) (mul_comm _ _) ?_
    have e1 : (r : EReal) * (f l * (r : EReal) * ((r : EReal) * S * ((1 / 1024 : ℝ) : EReal))) = ((r * r * r * (1 / 1024) : ℝ) : EReal) * (f l * S) := by
      push_cast; ac_rfl
    have e2 : ((2 : ℝ) : EReal) * (S * (((-1 / 2 : ℝ) : EReal) * ((r * (r * r) : ℝ) : EReal)) * ((1 / 1024 : ℝ) : EReal) * f l) = ((2 * (-1 / 2) * (r * (r * r)) * (1 / 1024) : ℝ) : EReal) * (f l * S) := by
      rw [EReal.coe_mul (2 * (-1 / 2) * (r * (r * r))), EReal.coe_mul (2 * (-1 / 2)), EReal.coe_mul 2]; ac_rfl
    rw [e1, e2, ← neg_mul, ← EReal.coe_neg]
    congr 2; ring

/-- Where the row and what comes back are reals, so is the gradient. -/
theorem normBack_real {f : Fin 1024 → EReal} {v : ℝ} (hv : 0 < v) (h : meanSq f = v) (hf : ∀ x, ∃ r : ℝ, f x = r)
    {d : Fin 1024 → EReal} (hd : ∀ x, ∃ r : ℝ, d x = r) (l : Fin 1024) : ∃ r : ℝ, normBack f d l = r := by
  have hr := invRms_real hv h
  choose f' hf' using hf
  choose d' hd' using hd
  unfold normBack
  obtain ⟨S, hS⟩ := sum_real Finset.univ (fun x => d x * (f x * invRms f)) fun x _ =>
    ⟨d' x * (f' x * (√v)⁻¹), by rw [hf', hd', hr]; push_cast; rfl⟩
  rw [hS, hr, word_1024, Ideal.div_coe (by norm_num), hf', hd']
  exact ⟨(√v)⁻¹ * (d' l - f' l * (√v)⁻¹ * (S * (1 / 1024))), by push_cast; rfl⟩

/-! ### The logistic gate -/

/-- The logistic function through the hyperbolic tangent. -/
def sig (x : EReal) : EReal :=
  Ideal.ofBits .f32 1056964608#32 * Ideal.tanh (Ideal.ofBits .f32 1056964608#32 * x) + Ideal.ofBits .f32 1056964608#32

theorem sig_real (x : ℝ) : sig x = ((1 + Real.exp (-x))⁻¹ : ℝ) := by
  unfold sig
  rw [word_half, ← EReal.coe_mul, Ideal.tanh_coe, ← EReal.coe_mul, ← EReal.coe_add]
  congr 1
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  rw [Real.tanh_eq_sinh_div_cosh, Real.sinh_eq, Real.cosh_eq, h1]
  have p1 := Real.exp_pos (1 / 2 * x)
  have p2 := Real.exp_pos (-(1 / 2 * x))
  generalize Real.exp (1 / 2 * x) = u at *
  generalize Real.exp (-(1 / 2 * x)) = w at *
  have : u + w ≠ 0 := by positivity
  have : 1 + w * w ≠ 0 := by positivity
  field_simp
  linear_combination (2 * w) * h2

theorem sig_top : sig ⊤ = 1 := by
  unfold sig
  rw [word_half, EReal.coe_mul_top_of_pos (by norm_num), Ideal.tanh_top, mul_one, ← EReal.coe_add]
  norm_num

theorem sig_bot : sig ⊥ = 0 := by
  unfold sig
  rw [word_half, EReal.coe_mul_bot_of_pos (by norm_num), Ideal.tanh_bot, mul_neg, mul_one, ← EReal.coe_neg, ← EReal.coe_add]
  norm_num

theorem sig_eq_logistic (x : EReal) : sig x = Ideal.logistic x := by
  induction x with
  | bot => rw [sig_bot, Ideal.logistic_bot]
  | coe x => rw [sig_real, Ideal.logistic_coe]
  | top => rw [sig_top, Ideal.logistic_top]

/-- The gate's gradient factored and as the product rule leaves it: they agree wherever what comes back is a real or the
gate's argument is no negative real. -/
theorem gate_eq (a c : EReal) (h : (∃ x : ℝ, a = x ∧ x ≠ 0) → ∃ r : ℝ, c = r) :
    c * (sig a * (1 + a * (1 - sig a))) = c * sig a + a * c * (sig a * (1 - sig a)) := by
  induction a with
  | bot => simp [sig_bot]
  | top =>
    have : (1 : EReal) - 1 = 0 := by rw [← EReal.coe_one, ← EReal.coe_sub]; norm_num
    simp [sig_top, this]
  | coe a =>
    by_cases ha : a = 0
    · subst ha; simp
    · obtain ⟨r, rfl⟩ := h ⟨a, rfl, ha⟩
      rw [sig_real]
      norm_cast
      ring

end Cert.Reals

end
-- ==== Proof.FfnVal.lean ====
module

public import proofs.«01_k».proof.Proof.Gen.KFfnIdeal.Value
public import proofs.«01_k».proof.Proof.Norm
public import Idealize.ShloMosaic.Lib.Pipeline.ValueKit
public import Idealize.ShloMosaic.Lib.Pipeline.ReadBack
public import Idealize.ShloMosaic.Lib.VecWindow
public import Idealize.ShloMosaic.Lib.StableHlo.Run

/-! What the feed-forward block's backward call leaves in its four results, place by place. -/

@[expose] public section

set_option maxRecDepth 16384

noncomputable section

namespace Cert.FfnValue

open Cert.KFfnIdeal Cert.KFfnIdeal.Gen Idealize.ShloMosaic Idealize.ShloMosaic.TcCoe Idealize.SL.Sem
open Idealize.ShloMosaic.Pipeline (Dat)
open Cert.Reals (sig meanSq invRms normBack)

variable (m : (ℓ : Loc nD τ sig) → Buf (Elt Ideal) ℓ)

/-! ### The blocks a point reads -/

/-- Where each window stands at a point. -/
theorem idx : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![t.val, 0] ∧ win0_6.index t = ![t.val, 0] ∧
    win0_7.index t = ![t.val, 0] := by
  show ∀ t : Fin grid0.N, _
  decide +kernel

/-- The five arguments, as arrays of the launch, and the block's output before its norm. -/
abbrev Dxo (c : Dev nD) : S16384x1024.Idx → EReal := m ((c : Thread nD τ).loc main_arg0)
abbrev A (c : Dev nD) : S16384x2816.Idx → EReal := m ((c : Thread nD τ).loc main_arg1)
abbrev B (c : Dev nD) : S16384x2816.Idx → EReal := m ((c : Thread nD τ).loc main_arg2)
abbrev Wd (c : Dev nD) : S2816x1024.Idx → EReal := m ((c : Thread nD τ).loc main_arg3)
abbrev G (c : Dev nD) : S1x1024.Idx → EReal := m ((c : Thread nD τ).loc main_arg4)

/-- The row the forward pass hands to the norm. -/
def down (c : Dev nD) (r : Fin 16384) (l : Fin 1024) : EReal :=
  ∑ j : Fin 2816, A m c (ix2 r j) * sig (A m c (ix2 r j)) * B m c (ix2 r j) * Wd m c (ix2 j l)

theorem V_down (c : Dev nD) (r : Fin 16384) (l : Fin 1024) : V m c main_v12 (ix2 r l) = down m c r l := by
  simp only [V, hostOps0]
  after_results_simp
  pointwise []
  rfl

theorem row_lt (t : Fin cfg0.N) (r : Fin 512) : t.val * 512 + r.val < 16384 := by
  have h : t.val < 32 := t.isLt
  omega

/-- Row `r` of point `t`'s block. -/
abbrev row (t : Fin cfg0.N) (r : Fin 512) : Fin 16384 := ⟨t.val * 512 + r.val, row_lt t r⟩

theorem blk0 (c : Dev nD) (t : Fin cfg0.N) (r : Fin 512) (l : Fin 1024) : iblk m c 0 t (ix2 r l) = Dxo m c (ix2 (row t r) l) := by
  blk_simp [iblk]
  rw [V_main_arg0]
  refine congrArg (Dxo m c) ?_
  blk_ext [(idx t).1]

theorem blk1 (c : Dev nD) (t : Fin cfg0.N) (r : Fin 512) (l : Fin 1024) : iblk m c 1 t (ix2 r l) = down m c (row t r) l := by
  rw [← V_down]
  blk_simp [iblk]
  refine congrArg (V m c main_v12) ?_
  blk_ext [(idx t).2.1]

theorem blk2 (c : Dev nD) (t : Fin cfg0.N) (r : Fin 512) (l : Fin 2816) : iblk m c 2 t (ix2 r l) = A m c (ix2 (row t r) l) := by
  blk_simp [iblk]
  rw [V_main_arg1]
  refine congrArg (A m c) ?_
  blk_ext [(idx t).2.2.1]

theorem blk3 (c : Dev nD) (t : Fin cfg0.N) (r : Fin 512) (l : Fin 2816) : iblk m c 3 t (ix2 r l) = B m c (ix2 (row t r) l) := by
  blk_simp [iblk]
  rw [V_main_arg2]
  refine congrArg (B m c) ?_
  blk_ext [(idx t).2.2.2.1]

theorem blk4 (c : Dev nD) (t : Fin cfg0.N) (r : Fin 1) (l : Fin 1024) : iblk m c 4 t (ix2 r l) = G m c (ix2 0 l) := by
  blk_simp [iblk]
  rw [V_main_arg4]
  refine congrArg (G m c) ?_
  blk_ext [(idx t).2.2.2.2.1]

/-! ### What a point leaves -/

/-- The weights' scratch holds the weights after every point: the first copies them, the others leave them. -/
theorem scr (c : Dev nD) (n : ℕ) : ∀ hn : n < cfg0.N, (outsAt0 m c n hn).2.2.2.2 = V m c main_arg3 := by
  induction n using Nat.strong_induction_on with
  | _ n ih =>
    intro hn
    by_cases h0 : n % 32 = 0
    · rw [outsAt0_A m c ⟨n, hn⟩ h0]
      frame_out
      exact View.canon_unit_zero rfl _ _
    · rw [outsAt0_B m c ⟨n, hn⟩ h0]
      simp only [sout0_B_0]
      exact ih (n - 1) (by omega) _

theorem out5 (c : Dev nD) (t : Fin cfg0.N) : (outsAt0 m c t.val t.isLt).1 =
    k0_pay5 (k0_pay12 (iblk m c 0 t) (iblk m c 1 t) (iblk m c 4 t)) (V m c main_arg3) (iblk m c 2 t) (iblk m c 3 t) := by
  by_cases h0 : t.val % 32 = 0
  · rw [outsAt0_A m c t h0]
    frame_open
    simp (disch := decide) only [↓ View.readCov_skip, ↓ View.readCov_cons_toLoadRect, ↓ View.readCov_fill]
    frame_out
    exact congrArg (fun w => k0_pay5 _ w _ _) (View.readCov_full _ _ _ _ _)
  · rw [outsAt0_B m c t h0]
    frame_out
    simp only [read_unread_whole, scr m c]

theorem out6 (c : Dev nD) (t : Fin cfg0.N) : (outsAt0 m c t.val t.isLt).2.1 =
    k0_pay6 (k0_pay12 (iblk m c 0 t) (iblk m c 1 t) (iblk m c 4 t)) (V m c main_arg3) (iblk m c 2 t) := by
  by_cases h0 : t.val % 32 = 0
  · rw [outsAt0_A m c t h0]
    frame_open
    simp (disch := decide) only [↓ View.readCov_skip, ↓ View.readCov_cons_toLoadRect, ↓ View.readCov_fill]
    frame_out
    exact congrArg (fun w => k0_pay6 _ w _) (View.readCov_full _ _ _ _ _)
  · rw [outsAt0_B m c t h0]
    frame_out
    simp only [read_unread_whole, scr m c]

theorem out7 (c : Dev nD) (t : Fin cfg0.N) : (outsAt0 m c t.val t.isLt).2.2.1 =
    k0_pay1 (k0_pay12 (iblk m c 0 t) (iblk m c 1 t) (iblk m c 4 t)) := by
  by_cases h0 : t.val % 32 = 0
  · rw [outsAt0_A m c t h0]
    frame_out
  · rw [outsAt0_B m c t h0]
    frame_out

/-! ### The values, place by place -/

/-- What comes back to the norm's result. -/
def cot (c : Dev nD) (r : Fin 16384) (l : Fin 1024) : EReal :=
  Ideal.ofBits .f32 1056964608#32 * Dxo m c (ix2 r l) * G m c (ix2 0 l)

/-- The gradient at the block's output before its norm. -/
def df (c : Dev nD) (r : Fin 16384) (l : Fin 1024) : EReal := normBack (down m c r) (cot m c r) l

/-- The gradient at the gated product. -/
def ds (c : Dev nD) (r : Fin 16384) (j : Fin 2816) : EReal := ∑ l : Fin 1024, df m c r l * Wd m c (ix2 j l)

theorem pay12 (c : Dev nD) (t : Fin cfg0.N) (r : Fin 512) (l : Fin 1024) :
    k0_pay12 (F := Ideal) (iblk m c 0 t) (iblk m c 1 t) (iblk m c 4 t) (ix2 r l) = df m c (row t r) l := by
  pointwise [k0_pay12, k0_pay8, k0_pay10, k0_pay11, k0_pay9]
  simp only [blk0, blk1, blk4]
  rfl

theorem pay5 (c : Dev nD) (t : Fin cfg0.N) (r : Fin 512) (j : Fin 2816) :
    k0_pay5 (F := Ideal) (k0_pay12 (iblk m c 0 t) (iblk m c 1 t) (iblk m c 4 t)) (V m c main_arg3) (iblk m c 2 t) (iblk m c 3 t) (ix2 r j) =
    ds m c (row t r) j * B m c (ix2 (row t r) j) * (sig (A m c (ix2 (row t r) j)) * (1 + A m c (ix2 (row t r) j) * (1 - sig (A m c (ix2 (row t r) j))))) := by
  pointwise [k0_pay5, k0_pay1, k0_pay2, k0_pay3, k0_pay4]
  simp only [pay12, blk2, blk3, V_main_arg3]
  rfl

theorem pay6 (c : Dev nD) (t : Fin cfg0.N) (r : Fin 512) (j : Fin 2816) :
    k0_pay6 (F := Ideal) (k0_pay12 (iblk m c 0 t) (iblk m c 1 t) (iblk m c 4 t)) (V m c main_arg3) (iblk m c 2 t) (ix2 r j) =
    ds m c (row t r) j * (A m c (ix2 (row t r) j) * sig (A m c (ix2 (row t r) j))) := by
  pointwise [k0_pay6, k0_pay1, k0_pay2, k0_pay3, k0_pay4]
  simp only [pay12, blk2, V_main_arg3]
  rfl

/-! ### The four arrays after the run -/

theorem final5 (c : Dev nD) : (dats m 0 c).arrAt 5 cfg0.N = fun i : S16384x2816.Idx =>
    ds m c (i 0) (i 1) * B m c i * (sig (A m c i) * (1 + A m c i * (1 - sig (A m c i)))) := by
  refine (dats m 0 c).arrAt_eq_of_covers 5 _ (by decide +kernel) fun t hf y => ?_
  blk_simp
  obtain ⟨r, l, rfl⟩ := at2 y
  have e : ((View.whole main_v13_0).slice (win0_5.rect t)).emb (ix2 r l) = ix2 (row t r) l := by
    blk_ext [(idx t).2.2.2.2.2.1]
  rw [after0_5, out5, e]
  exact pay5 m c t r l

theorem final6 (c : Dev nD) : (dats m 0 c).arrAt 6 cfg0.N = fun i : S16384x2816.Idx =>
    ds m c (i 0) (i 1) * (A m c i * sig (A m c i)) := by
  refine (dats m 0 c).arrAt_eq_of_covers 6 _ (by decide +kernel) fun t hf y => ?_
  blk_simp
  obtain ⟨r, l, rfl⟩ := at2 y
  have e : ((View.whole main_v13_1).slice (win0_6.rect t)).emb (ix2 r l) = ix2 (row t r) l := by
    blk_ext [(idx t).2.2.2.2.2.2.1]
  rw [after0_6, out6, e]
  exact pay6 m c t r l

theorem final7 (c : Dev nD) : (dats m 0 c).arrAt 7 cfg0.N = fun i : S16384x1024.Idx => df m c (i 0) (i 1) := by
  refine (dats m 0 c).arrAt_eq_of_covers 7 _ (by decide +kernel) fun t hf y => ?_
  blk_simp
  obtain ⟨r, l, rfl⟩ := at2 y
  have e : ((View.whole main_v13_2).slice (win0_7.rect t)).emb (ix2 r l) = ix2 (row t r) l := by
    blk_ext [(idx t).2.2.2.2.2.2.2]
  rw [after0_7, out7, e]
  pointwise [k0_pay1]
  exact pay12 m c t r l

/-- One row's share of the norm weight's gradient. -/
def dgRow (c : Dev nD) (l : Fin 1024) (r : Fin 16384) : EReal :=
  Ideal.ofBits .f32 1056964608#32 * Dxo m c (ix2 r l) * (down m c r l * invRms (down m c r))

/-- The norm weight's gradient. -/
def dg (c : Dev nD) (l : Fin 1024) : EReal := ∑ r : Fin 16384, dgRow m c l r

/-- What point `t` adds to the norm weight's gradient. -/
def term (c : Dev nD) (t : Fin cfg0.N) (j : S1x1024.Idx) : EReal := ∑ r : Fin 512, dgRow m c (j 1) (row t r)

theorem step8 (c : Dev nD) (t : Fin cfg0.N) (v : FVec Ideal S1x1024 .f32) (j : S1x1024.Idx) :
    k0_pay13 (F := Ideal) (iblk m c 0 t) (iblk m c 1 t) v j = v j + term m c t j := by
  obtain ⟨l, rfl⟩ : ∃ (l : Fin 1024), j = ix2 0 l := ⟨j 1, by rw [eq_ix2 j]; congr 1; exact Subsingleton.elim _ _⟩
  pointwise [k0_pay13, k0_pay8, k0_pay10, k0_pay11, k0_pay9]
  simp only [blk0, blk1]
  rfl

/-- The last point. -/
def tlast : Fin cfg0.N := ⟨31, by decide⟩

theorem final8 (c : Dev nD) : (dats m 0 c).arrAt 8 cfg0.N = fun i : S1x1024.Idx => dg m c (i 1) := by
  refine (dats m 0 c).arrAt_eq_of_after_last 8 tlast (by decide +kernel) _ fun j => ?_
  blk_simp
  rw [after0_8, Pipeline.eq_sum_fin_of_reset_step_apply_last (fun n h => (outsAt0 m c n h).2.2.2.1) 32 (fun _ => 0)
    (term m c) (fun t h j => ?_) (fun t h j => ?_) (le_of_eq N_0) tlast rfl, zero_add]
  · exact Fin.sum_mul_add_congr (f := fun r : Fin 16384 => dgRow m c (j 1) r) (fun s k hl => rfl) (by rw [show cfg0.N = 32 from N_0])
  · rw [outsAt0_A m c t h]
    frame_out
    rw [step8]
    congr 1
    pointwise [k0_pay7]
  · rw [outsAt0_B m c t h]
    frame_out
    rw [step8]

end Cert.FfnValue

end
-- ==== Proof.FfnRef.lean ====
module

public import proofs.«01_k».proof.Proof.Gen.RFfnIdeal.Read
public import proofs.«01_k».proof.Proof.Norm
public import Idealize.ShloMosaic.Lib.Pipeline.ValueKit

/-! What differentiating the feed-forward block's own lines leaves, place by place. -/

@[expose] public section

set_option maxRecDepth 16384

noncomputable section

namespace Cert.FfnReference

open Cert.RFfnIdeal Cert.RFfnIdeal.Read Idealize.ShloMosaic Idealize.ShloMosaic.TcCoe Idealize.SL.Sem
open Cert.Reals (sig meanSq invRms normBack)

variable (x0 : (⟨S16384x1024, .f32⟩ : BufTy).Contents (Elt Ideal)) (x1 x2 : (⟨S16384x2816, .bf16⟩ : BufTy).Contents (Elt Ideal))
  (x3 : (⟨S2816x1024, .bf16⟩ : BufTy).Contents (Elt Ideal)) (x4 : (⟨S1x1024, .f32⟩ : BufTy).Contents (Elt Ideal))

/-- The forward row, what comes back to the norm's result, the gradient before the norm, and at the gated product. -/
def down (r : Fin 16384) (l : Fin 1024) : EReal :=
  ∑ j : Fin 2816, x1 (ix2 r j) * sig (x1 (ix2 r j)) * x2 (ix2 r j) * x3 (ix2 j l)
def cot (r : Fin 16384) (l : Fin 1024) : EReal := Ideal.ofBits .f32 1056964608#32 * x0 (ix2 r l) * x4 (ix2 0 l)
def df (r : Fin 16384) (l : Fin 1024) : EReal := normBack (down x1 x2 x3 r) (cot x0 x4 r) l
def ds (r : Fin 16384) (j : Fin 2816) : EReal := ∑ l : Fin 1024, df x0 x1 x2 x3 x4 r l * x3 (ix2 j l)

theorem gate (r : Fin 16384) (j : Fin 2816) : val_main_v1_2 (F := Ideal) x1 (ix2 r j) = sig (x1 (ix2 r j)) := by
  rw [Cert.Reals.sig_eq_logistic]
  pointwise [val_main_v1_2, val_main_call0_v4, val_main_call0_v3, val_main_call0_v2, val_main_call0_v1, val_main_call0_v0,
    val_main_call0_cst, val_main_call0_cst_0, val_main_v0]
  rfl

theorem v0_eq (r : Fin 16384) (j : Fin 2816) : val_main_v0 (F := Ideal) x1 (ix2 r j) = x1 (ix2 r j) := by
  pointwise [val_main_v0]

theorem v4_eq (j : Fin 2816) (l : Fin 1024) : val_main_v4 (F := Ideal) x3 (ix2 j l) = x3 (ix2 j l) := by
  pointwise [val_main_v4]

theorem v1_0_eq (r : Fin 16384) (j : Fin 2816) : val_main_v1_0 (F := Ideal) x1 (ix2 r j) = x1 (ix2 r j) * sig (x1 (ix2 r j)) := by
  pointwise [val_main_v1_0]
  rw [gate, v0_eq]

theorem v1_1_eq (r : Fin 16384) (j : Fin 2816) :
    val_main_v1_1 (F := Ideal) x1 (ix2 r j) = sig (x1 (ix2 r j)) * (1 - sig (x1 (ix2 r j))) := by
  pointwise [val_main_v1_1, val_main_call0_v7, val_main_call0_v6, val_main_call0_cst_1]
  rw [gate]

theorem v5_eq (r : Fin 16384) (l : Fin 1024) : val_main_v5 (F := Ideal) x1 x2 x3 (ix2 r l) = down x1 x2 x3 r l := by
  pointwise [val_main_v5, val_main_v3, val_main_v2]
  simp only [v1_0_eq, v4_eq]
  rfl

theorem v43_eq (r : Fin 16384) (l : Fin 1024) :
    val_main_v43 (F := Ideal) x0 x1 x2 x3 x4 (ix2 r l) = df x0 x1 x2 x3 x4 r l := by
  unfold df
  rw [Cert.Reals.normBack_eq]
  pointwise [val_main_v43, val_main_v42, val_main_v41, val_main_v40, val_main_v39, val_main_v38, val_main_v37, val_main_v36,
    val_main_v35, val_main_v34, val_main_v33, val_main_v32, val_main_v31, val_main_v30, val_main_v29, val_main_v28, val_main_v24,
    val_main_v23, val_main_v16, val_main_v15, val_main_v14, val_main_v13, val_main_v12, val_main_v11, val_main_v10, val_main_v9,
    val_main_v8, val_main_v7, val_main_v6, val_main_cst, val_main_cst_0, val_main_cst_1, val_main_cst_2, val_main_cst_4,
    val_main_cst_6, val_main_cst_7, val_main_cst_8]
  simp only [v5_eq, Finset.univ_unique, Finset.sum_singleton]
  rfl

/-- The gradient before the norm, as the third result. -/
theorem ref50 : val_main_v50 (F := Ideal) x0 x1 x2 x3 x4 = fun i => df x0 x1 x2 x3 x4 (i 0) (i 1) := by
  refine ext2 fun r l => ?_
  pointwise [val_main_v50]
  exact v43_eq x0 x1 x2 x3 x4 r l

theorem v44_eq (r : Fin 16384) (j : Fin 2816) :
    val_main_v44 (F := Ideal) x0 x1 x2 x3 x4 (ix2 r j) = ds x0 x1 x2 x3 x4 r j := by
  pointwise [val_main_v44]
  simp only [v43_eq, v4_eq]
  rfl

/-- The gradient at the factor that is not gated. -/
theorem ref47 : val_main_v47 (F := Ideal) x0 x1 x2 x3 x4 = fun i =>
    ds x0 x1 x2 x3 x4 (i 0) (i 1) * (x1 i * sig (x1 i)) := by
  refine ext2 fun r j => ?_
  pointwise [val_main_v47, val_main_v45]
  rw [v44_eq, v1_0_eq, mul_comm]

/-- The gradient at the gate's argument, as the product rule leaves it. -/
theorem ref49 : val_main_v49 (F := Ideal) x0 x1 x2 x3 x4 = fun i =>
    ds x0 x1 x2 x3 x4 (i 0) (i 1) * x2 i * sig (x1 i) +
      x1 i * (ds x0 x1 x2 x3 x4 (i 0) (i 1) * x2 i) * (sig (x1 i) * (1 - sig (x1 i))) := by
  refine ext2 fun r j => ?_
  pointwise [val_main_v49, val_main_v48, val_main_call1_v0, val_main_call1_v1, val_main_call1_v2, val_main_v46, val_main_v2]
  rw [v44_eq, v0_eq, v1_1_eq, gate]

/-- The norm weight's gradient. -/
theorem ref27 : val_main_v27 (F := Ideal) x0 x1 x2 x3 = fun i =>
    ∑ r : Fin 16384, Ideal.ofBits .f32 1056964608#32 * x0 (ix2 r (i 1)) * (down x1 x2 x3 r (i 1) * invRms (down x1 x2 x3 r)) := by
  funext i
  obtain ⟨l, rfl⟩ : ∃ (l : Fin 1024), i = ix2 0 l := ⟨i 1, by rw [eq_ix2 i]; congr 1; exact Subsingleton.elim _ _⟩
  pointwise [val_main_v27, val_main_v26, val_main_v25, val_main_v24, val_main_v23, val_main_v18, val_main_v17, val_main_v13,
    val_main_v12, val_main_v11, val_main_v10, val_main_v9, val_main_v8, val_main_v7, val_main_v6, val_main_cst, val_main_cst_0,
    val_main_cst_1, val_main_cst_4, val_main_cst_5]
  simp only [v5_eq]
  exact Finset.sum_congr rfl fun r _ => mul_comm _ _

/-! ### Where the product rule's two halves may be drawn together -/

theorem real_of_mul {a b : EReal} (ha : ∃ r : ℝ, a = r ∧ r ≠ 0) (h : ∃ r : ℝ, a * b = r) : ∃ r : ℝ, b = r := by
  obtain ⟨a, rfl, ha⟩ := ha
  induction b with
  | coe b => exact ⟨b, rfl⟩
  | bot => rcases lt_or_gt_of_ne ha with h' | h' <;>
      simp [EReal.coe_mul_bot_of_neg, EReal.coe_mul_bot_of_pos, h'] at h
  | top => rcases lt_or_gt_of_ne ha with h' | h' <;>
      simp [EReal.coe_mul_top_of_neg, EReal.coe_mul_top_of_pos, h'] at h

theorem zero_of_mul {a b : EReal} (ha : ¬ ∃ r : ℝ, a = r) (h : ∃ r : ℝ, a * b = r) : b = 0 := by
  by_contra hb
  induction a with
  | coe a => exact ha ⟨a, rfl⟩
  | bot =>
    rcases lt_or_gt_of_ne hb with h' | h'
    · simp [EReal.bot_mul_of_neg h'] at h
    · simp [EReal.bot_mul_of_pos h'] at h
  | top =>
    rcases lt_or_gt_of_ne hb with h' | h'
    · simp [EReal.top_mul_of_neg h'] at h
    · simp [EReal.top_mul_of_pos h'] at h

theorem mul_real {a b : EReal} (ha : ∃ r : ℝ, a = r) (hb : ∃ r : ℝ, b = r) : ∃ r : ℝ, a * b = r := by
  obtain ⟨a, rfl⟩ := ha; obtain ⟨b, rfl⟩ := hb; exact ⟨a * b, by rw [EReal.coe_mul]⟩

/-- Where what comes back and the norm's weight are reals, what comes back to a gate with a real argument other than zero
is a real: either the row has an infinite mean square and nothing comes back, or the row is real, and then every weight this
factor meets is real, or the factor is infinite and all the weights it meets are zero. -/
theorem back_real (h0 : ∀ i, ∃ r : ℝ, x0 i = r) (h4 : ∀ i, ∃ r : ℝ, x4 i = r) (r : Fin 16384) (j : Fin 2816)
    (ha : ∃ a : ℝ, x1 (ix2 r j) = a ∧ a ≠ 0) : ∃ q : ℝ, ds x0 x1 x2 x3 x4 r j * x2 (ix2 r j) = q := by
  rcases Cert.Reals.meanSq_eq (down x1 x2 x3 r) with h | ⟨v, hv, h, hf⟩
  · refine ⟨0, ?_⟩
    simp [ds, df, Cert.Reals.normBack_eq_zero h]
  · have hd : ∀ l, ∃ q : ℝ, df x0 x1 x2 x3 x4 r l = q := fun l => Cert.Reals.normBack_real hv h hf (fun l => by
      unfold cot
      rw [Cert.Reals.word_half]
      exact mul_real (mul_real ⟨_, rfl⟩ (h0 _)) (h4 _)) l
    have hs : ∃ s : ℝ, x1 (ix2 r j) * sig (x1 (ix2 r j)) = s ∧ s ≠ 0 := by
      obtain ⟨a, ha, hz⟩ := ha
      rw [ha, Cert.Reals.sig_real, ← EReal.coe_mul]
      exact ⟨_, rfl, mul_ne_zero hz (inv_ne_zero (by positivity))⟩
    have ht : ∀ l, ∃ q : ℝ, x1 (ix2 r j) * sig (x1 (ix2 r j)) * x2 (ix2 r j) * x3 (ix2 j l) = q := fun l =>
      Cert.Reals.real_of_sum Finset.univ _ (hf l) j (Finset.mem_univ j)
    by_cases hb : ∃ b : ℝ, x2 (ix2 r j) = b
    · obtain ⟨b, hb⟩ := hb
      by_cases hz : b = 0
      · exact ⟨0, by rw [hb, hz]; simp⟩
      · refine mul_real (Cert.Reals.sum_real _ _ fun l _ => mul_real (hd l) (real_of_mul ?_ (ht l))) ⟨b, hb⟩
        obtain ⟨s, hs, hs0⟩ := hs
        rw [hs, hb, ← EReal.coe_mul]
        exact ⟨_, rfl, mul_ne_zero hs0 hz⟩
    · refine ⟨0, ?_⟩
      have hw : ∀ l, x3 (ix2 j l) = 0 := fun l => zero_of_mul (fun hc => hb (real_of_mul hs hc)) (ht l)
      simp [ds, hw]

end Cert.FfnReference

end
-- ==== Proof.Finite.lean ====
module

public import Idealize.ShloMosaic.Lib.Pipeline.ValueKit

/-! Reading a precondition that says an argument is a real number everywhere. -/

@[expose] public section

noncomputable section

namespace Cert.Finite

open Idealize.ShloMosaic

theorem and_of_bits {p q : Bool} : IntOp.andi (BitVec.ofBool p) (BitVec.ofBool q) = 1#1 ↔ p = true ∧ q = true := by
  cases p <;> cases q <;> decide

theorem of_bit {p : Bool} : BitVec.ofBool p = 1#1 ↔ p = true := by
  cases p <;> decide

theorem word_inf : Ideal.ofBits .f32 2139095040#32 = ⊤ := by
  simp [Ideal.ofBits, Ideal.ieee]

/-- A magnitude below infinity is a real number's. -/
theorem real_of_abs {x : EReal} (h : FloatOps.absf (F := Ideal) (φ := .f32) x < Ideal.ofBits .f32 2139095040#32) : ∃ r : ℝ, x = r := by
  rw [word_inf] at h
  induction x with
  | bot => exact absurd h (by change ¬ max _ _ < _; simp)
  | coe r => exact ⟨r, rfl⟩
  | top => exact absurd h (by change ¬ max _ _ < _; simp)

end Cert.Finite

end
-- ==== Proof.FfnClaim.lean ====
module

public import proofs.«01_k».proof.Proof.FfnVal
public import proofs.«01_k».proof.Proof.FfnRef
public import proofs.«01_k».proof.Proof.Finite
public import proofs.«01_k».proof.Proof.Gen.RFfnIdeal.Run
public import proofs.«01_k».proof.Defs
public import Idealize.ShloMosaic.Lib.Quiescent

/-! The feed-forward block's backward call and the derivative of its lines: the two runs put beside each other. -/

@[expose] public section

set_option maxRecDepth 16384

noncomputable section

namespace Cert.FfnClaim

open Idealize.ShloMosaic Idealize.SL.Sem
open Cert.Reals (sig)

/-- The precondition's shape relations. -/
instance preFacts : Cert.Pre_finite_ffn.Facts := ⟨by decide, by decide, by decide⟩

/-- The reference runs and leaves its arguments. -/
theorem refFrame : Cert.quiescent_RFfnIdeal (hRFfnIdeal := Cert.RFfnIdeal.Gen.facts) := fun m ρ _ =>
  (θ_run _ _ _).mono (fun r h => ⟨fun c => (h c).2.2.2.2, sem_eq_zero_of_no_sems (by decide) r.2⟩)
    (Cert.RFfnIdeal.Value.run (F := Ideal) m ρ)

/-- What the precondition says of the two arguments it names. -/
theorem real_of_pre (x0 x1 x2 x3 x4) (h : Cert.Pre_finite_ffn.fn (F := Ideal) x0 x1 x2 x3 x4 = fun _ => 1#1) :
    (∀ i, ∃ r : ℝ, x0 i = r) ∧ ∀ i, ∃ r : ℝ, x4 i = r := by
  have key : ∀ (r : Fin 16384) (l : Fin 1024), (∃ q : ℝ, x0 (ix2 r l) = q) ∧ ∃ q : ℝ, x4 (ix2 0 l) = q := by
    intro r l
    have := congrFun h (ix2 r l)
    revert this
    pointwise [Cert.Pre_finite_ffn.fn]
    intro h
    obtain ⟨h0, h4⟩ := Finite.and_of_bits.mp h
    exact ⟨Finite.real_of_abs (of_decide_eq_true h0), Finite.real_of_abs (of_decide_eq_true h4)⟩
  constructor
  · intro i
    rw [eq_ix2 i]
    exact (key _ _).1
  · intro i
    have : i = ix2 0 (i 1) := by rw [eq_ix2 i]; congr 1; exact Subsingleton.elim _ _
    rw [this]
    exact (key 0 _).2

/-- Kernel and reference end with the same four results. -/
theorem algebraic : Cert.algebraic_KFfnIdeal_RFfnIdeal_pre_finite_ffn (hKFfnIdeal := Cert.KFfnIdeal.Gen.facts)
    (hRFfnIdeal := Cert.RFfnIdeal.Gen.facts) (hPre_finite_ffn := preFacts) := by
  intro m g m' g' hp hag
  refine ⟨fun c i => FfnValue.ds m c (i 0) (i 1) * FfnValue.B m c i * (sig (FfnValue.A m c i) * (1 + FfnValue.A m c i * (1 - sig (FfnValue.A m c i)))),
    fun c i => FfnValue.ds m c (i 0) (i 1) * (FfnValue.A m c i * sig (FfnValue.A m c i)),
    fun c i => FfnValue.df m c (i 0) (i 1),
    fun c i => FfnValue.dg m c (i 1), ?_, ?_⟩
  · refine (θ_run _ _ _).mono (fun r h c => ?_) (Cert.KFfnIdeal.Value.run_blocks (F := Ideal) m g)
    obtain ⟨h0, h1, h2, h3, ha⟩ := h c
    exact ⟨h0.trans (FfnValue.final5 m c), h1.trans (FfnValue.final6 m c), h2.trans (FfnValue.final7 m c),
      h3.trans (FfnValue.final8 m c), ha⟩
  · refine (θ_run _ _ _).mono (fun r h c => ?_) (Cert.RFfnIdeal.Value.run (F := Ideal) m' g')
    obtain ⟨h0, h1, h2, h3, ha⟩ := h c
    obtain ⟨e0, e1, e2, e3, e4⟩ := hag c
    obtain ⟨r0, r4⟩ := real_of_pre _ _ _ _ _ (hp c)
    refine ⟨h0.trans ?_, h1.trans ?_, h2.trans ?_, h3.trans ?_, ha⟩
    · rw [Cert.RFfnIdeal.Read.val_main_v49_eq, FfnReference.ref49, e0, e1, e2, e3, e4]
      exact ext2 fun r j => (Cert.Reals.gate_eq _ _ fun hr => FfnReference.back_real _ _ _ _ _ r0 r4 r j hr).symm
    · rw [Cert.RFfnIdeal.Read.val_main_v47_eq, FfnReference.ref47, e0, e1, e2, e3, e4]
      rfl
    · rw [Cert.RFfnIdeal.Read.val_main_v50_eq, FfnReference.ref50, e0, e1, e2, e3, e4]
      rfl
    · rw [Cert.RFfnIdeal.Read.val_main_v27_eq, FfnReference.ref27, e0, e1, e2, e3]
      rfl

end Cert.FfnClaim

end
-- ==== Proof.InNormVal.lean ====
module

public import proofs.«01_k».proof.Proof.Gen.KInNormIdeal.Value
public import proofs.«01_k».proof.Proof.Norm
public import Idealize.ShloMosaic.Lib.Pipeline.ValueKit
public import Idealize.ShloMosaic.Lib.Pipeline.ReadBack
public import Idealize.ShloMosaic.Lib.VecWindow

/-! What the backward call of the norm before the feed-forward block leaves in its two results, place by place. -/

@[expose] public section

set_option maxRecDepth 16384

noncomputable section

namespace Cert.InNormValue

open Cert.KInNormIdeal Cert.KInNormIdeal.Gen Idealize.ShloMosaic Idealize.ShloMosaic.TcCoe Idealize.SL.Sem
open Idealize.ShloMosaic.Pipeline (Dat)
open Cert.Reals (meanSq invRms normBack)

variable (m : (ℓ : Loc nD τ sig) → Buf (Elt Ideal) ℓ)

/-! ### The blocks a point reads -/

/-- Where each window stands at a point. -/
theorem idx : ∀ t : Fin cfg0.N, win0_0.index t = ![t.val, 0] ∧ win0_1.index t = ![t.val, 0] ∧ win0_2.index t = ![t.val, 0] ∧
    win0_3.index t = ![t.val, 0] ∧ win0_4.index t = ![0, 0] ∧ win0_5.index t = ![t.val, 0] := by
  show ∀ t : Fin grid0.N, _
  decide +kernel

/-- The arguments, as arrays of the launch. -/
abbrev Za (c : Dev nD) : S16384x2816.Idx → EReal := m ((c : Thread nD τ).loc main_arg0)
abbrev Zb (c : Dev nD) : S16384x2816.Idx → EReal := m ((c : Thread nD τ).loc main_arg1)
abbrev Wa (c : Dev nD) : S1024x2816.Idx → EReal := m ((c : Thread nD τ).loc main_arg2)
abbrev Wb (c : Dev nD) : S1024x2816.Idx → EReal := m ((c : Thread nD τ).loc main_arg3)
abbrev X (c : Dev nD) : S16384x1024.Idx → EReal := m ((c : Thread nD τ).loc main_arg4)
abbrev Dxo (c : Dev nD) : S16384x1024.Idx → EReal := m ((c : Thread nD τ).loc main_arg5)
abbrev G (c : Dev nD) : S1x1024.Idx → EReal := m ((c : Thread nD τ).loc main_arg6)

theorem row_lt (t : Fin cfg0.N) (r : Fin 512) : t.val * 512 + r.val < 16384 := by
  have h : t.val < 32 := t.isLt
  omega

/-- Row `r` of point `t`'s block. -/
abbrev row (t : Fin cfg0.N) (r : Fin 512) : Fin 16384 := ⟨t.val * 512 + r.val, row_lt t r⟩

theorem blk0 (c : Dev nD) (t : Fin cfg0.N) (r : Fin 512) (l : Fin 2816) : iblk m c 0 t (ix2 r l) = Za m c (ix2 (row t r) l) := by
  blk_simp [iblk]
  refine congrArg (Za m c) ?_
  blk_ext [(idx t).1]

theorem blk1 (c : Dev nD) (t : Fin cfg0.N) (r : Fin 512) (l : Fin 2816) : iblk m c 1 t (ix2 r l) = Zb m c (ix2 (row t r) l) := by
  blk_simp [iblk]
  refine congrArg (Zb m c) ?_
  blk_ext [(idx t).2.1]

theorem blk2 (c : Dev nD) (t : Fin cfg0.N) (r : Fin 512) (l : Fin 1024) : iblk m c 2 t (ix2 r l) = X m c (ix2 (row t r) l) := by
  blk_simp [iblk]
  refine congrArg (X m c) ?_
  blk_ext [(idx t).2.2.1]

theorem blk3 (c : Dev nD) (t : Fin cfg0.N) (r : Fin 512) (l : Fin 1024) : iblk m c 3 t (ix2 r l) = Dxo m c (ix2 (row t r) l) := by
  blk_simp [iblk]
  refine congrArg (Dxo m c) ?_
  blk_ext [(idx t).2.2.2.1]

theorem blk4 (c : Dev nD) (t : Fin cfg0.N) (r : Fin 1) (l : Fin 1024) : iblk m c 4 t (ix2 r l) = G m c (ix2 0 l) := by
  blk_simp [iblk]
  refine congrArg (G m c) ?_
  blk_ext [(idx t).2.2.2.2.1]

/-! ### What a point leaves -/

/-- The two weight scratches hold the weights after every point: the first copies them, the others leave them. -/
theorem scr (c : Dev nD) (n : ℕ) : ∀ hn : n < cfg0.N,
    (outsAt0 m c n hn).2.2.1 = V m c main_arg2 ∧ (outsAt0 m c n hn).2.2.2 = V m c main_arg3 := by
  induction n using Nat.strong_induction_on with
  | _ n ih =>
    intro hn
    by_cases h0 : n % 32 = 0
    · rw [outsAt0_A m c ⟨n, hn⟩ h0]
      frame_out
      exact ⟨View.canon_unit_zero rfl _ _, View.canon_unit_zero rfl _ _⟩
    · rw [outsAt0_B m c ⟨n, hn⟩ h0]
      simp only [sout0_B_0, sout0_B_1]
      exact ih (n - 1) (by omega) _

theorem scr0 (c : Dev nD) (n : ℕ) (hn : n < cfg0.N) : (outsAt0 m c n hn).2.2.1 = V m c main_arg2 := (scr m c n hn).1
theorem scr1 (c : Dev nD) (n : ℕ) (hn : n < cfg0.N) : (outsAt0 m c n hn).2.2.2 = V m c main_arg3 := (scr m c n hn).2

theorem out5 (c : Dev nD) (t : Fin cfg0.N) : (outsAt0 m c t.val t.isLt).1 =
    k0_pay2 (k0_pay7 (iblk m c 0 t) (V m c main_arg2) (iblk m c 1 t) (V m c main_arg3) (iblk m c 2 t) (iblk m c 4 t)) (iblk m c 3 t) := by
  by_cases h0 : t.val % 32 = 0
  · rw [outsAt0_A m c t h0]
    frame_open
    simp (disch := decide) only [↓ View.readCov_skip, ↓ View.readCov_cons_toLoadRect, ↓ View.readCov_fill]
    frame_out
    exact congrArg₂ (fun w w' => k0_pay2 (k0_pay7 _ w _ w' _ _) _) (View.readCov_full _ _ _ _ _) (View.readCov_full _ _ _ _ _)
  · rw [outsAt0_B m c t h0]
    frame_out
    simp only [read_unread_whole, scr0 m c, scr1 m c]

/-! ### The values, place by place -/

/-- The gradient at the norm's result, and times the norm's weight. -/
def dh (c : Dev nD) (r : Fin 16384) (l : Fin 1024) : EReal :=
  ∑ j : Fin 2816, Za m c (ix2 r j) * Wa m c (ix2 l j) + ∑ j : Fin 2816, Zb m c (ix2 r j) * Wb m c (ix2 l j)
def cot (c : Dev nD) (r : Fin 16384) (l : Fin 1024) : EReal := dh m c r l * G m c (ix2 0 l)

/-- One row of what the norm reads. -/
def xr (c : Dev nD) (r : Fin 16384) (l : Fin 1024) : EReal := X m c (ix2 r l)

/-- The gradient at what the norm reads, past the block and through it. -/
def dx (c : Dev nD) (r : Fin 16384) (l : Fin 1024) : EReal := Dxo m c (ix2 r l) + normBack (xr m c r) (cot m c r) l

theorem pay7 (c : Dev nD) (t : Fin cfg0.N) (r : Fin 512) (l : Fin 1024) :
    k0_pay7 (F := Ideal) (iblk m c 0 t) (V m c main_arg2) (iblk m c 1 t) (V m c main_arg3) (iblk m c 2 t) (iblk m c 4 t) (ix2 r l) =
    normBack (xr m c (row t r)) (cot m c (row t r)) l := by
  pointwise [k0_pay7, k0_pay6, k0_pay5, k0_pay4]
  simp only [blk0, blk1, blk2, blk4]
  rfl

/-! ### The two arrays after the run -/

theorem final5 (c : Dev nD) : (dats m 0 c).arrAt 5 cfg0.N = fun i : S16384x1024.Idx => dx m c (i 0) (i 1) := by
  refine (dats m 0 c).arrAt_eq_of_covers 5 _ (by decide +kernel) fun t hf y => ?_
  blk_simp
  obtain ⟨r, l, rfl⟩ := at2 y
  have e : ((View.whole main_v0_0).slice (win0_5.rect t)).emb (ix2 r l) = ix2 (row t r) l := by
    blk_ext [(idx t).2.2.2.2.2]
  rw [after0_5, out5, e]
  pointwise [k0_pay2]
  rw [pay7, blk3]
  rfl

/-- One row's share of the norm weight's gradient. -/
def dgRow (c : Dev nD) (l : Fin 1024) (r : Fin 16384) : EReal := dh m c r l * (xr m c r l * invRms (xr m c r))

/-- The norm weight's gradient. -/
def dg (c : Dev nD) (l : Fin 1024) : EReal := ∑ r : Fin 16384, dgRow m c l r

/-- What point `t` adds to it. -/
def term (c : Dev nD) (t : Fin cfg0.N) (j : S1x1024.Idx) : EReal := ∑ r : Fin 512, dgRow m c (j 1) (row t r)

theorem step6 (c : Dev nD) (t : Fin cfg0.N) (v : FVec Ideal S1x1024 .f32) (j : S1x1024.Idx) :
    k0_pay1 (F := Ideal) (k0_pay8 (iblk m c 0 t) (V m c main_arg2) (iblk m c 1 t) (V m c main_arg3) (iblk m c 2 t)) v j = v j + term m c t j := by
  obtain ⟨l, rfl⟩ : ∃ (l : Fin 1024), j = ix2 0 l := ⟨j 1, by rw [eq_ix2 j]; congr 1; exact Subsingleton.elim _ _⟩
  pointwise [k0_pay1, k0_pay8, k0_pay6, k0_pay5, k0_pay4]
  simp only [blk0, blk1, blk2]
  rfl

/-- The last point. -/
def tlast : Fin cfg0.N := ⟨31, by decide⟩

theorem final6 (c : Dev nD) : (dats m 0 c).arrAt 6 cfg0.N = fun i : S1x1024.Idx => dg m c (i 1) := by
  refine (dats m 0 c).arrAt_eq_of_after_last 6 tlast (by decide +kernel) _ fun j => ?_
  blk_simp
  rw [after0_6, Pipeline.eq_sum_fin_of_reset_step_apply_last (fun n h => (outsAt0 m c n h).2.1) 32 (fun _ => 0)
    (term m c) (fun t h j => ?_) (fun t h j => ?_) (le_of_eq N_0) tlast rfl, zero_add]
  · exact Fin.sum_mul_add_congr (f := fun r : Fin 16384 => dgRow m c (j 1) r) (fun s k hl => rfl) (by rw [show cfg0.N = 32 from N_0])
  · rw [outsAt0_A m c t h]
    frame_open
    simp (disch := decide) only [↓ View.readCov_skip, ↓ View.readCov_cons_toLoadRect, ↓ View.readCov_fill]
    frame_out
    refine (congrFun (congrArg₂ (fun w w' => k0_pay1 (k0_pay8 _ w _ w' _) k0_pay3) (View.readCov_full _ _ _ _ _) (View.readCov_full _ _ _ _ _)) j).trans ?_
    refine (step6 m c t _ j).trans ?_
    congr 1
    pointwise [k0_pay3]
  · rw [outsAt0_B m c t h]
    frame_out
    simp only [read_unread_whole, scr0 m c, scr1 m c]
    exact step6 m c t _ j

end Cert.InNormValue

end
-- ==== Proof.InNormRef.lean ====
module

public import proofs.«01_k».proof.Proof.Gen.RInNormIdeal.Read
public import proofs.«01_k».proof.Proof.Norm
public import Idealize.ShloMosaic.Lib.Pipeline.ValueKit

/-! What differentiating the norm and the two products before the feed-forward block leaves, place by place. -/

@[expose] public section

set_option maxRecDepth 16384

noncomputable section

namespace Cert.InNormReference

open Cert.RInNormIdeal Cert.RInNormIdeal.Read Idealize.ShloMosaic Idealize.ShloMosaic.TcCoe Idealize.SL.Sem
open Cert.Reals (meanSq invRms normBack)

variable (x0 x1 : (⟨S16384x2816, .bf16⟩ : BufTy).Contents (Elt Ideal)) (x2 x3 : (⟨S1024x2816, .bf16⟩ : BufTy).Contents (Elt Ideal))
  (x4 x5 : (⟨S16384x1024, .f32⟩ : BufTy).Contents (Elt Ideal)) (x6 : (⟨S1x1024, .f32⟩ : BufTy).Contents (Elt Ideal))

/-- The gradient at the norm's result. -/
def dh (r : Fin 16384) (l : Fin 1024) : EReal :=
  ∑ j : Fin 2816, x0 (ix2 r j) * x2 (ix2 l j) + ∑ j : Fin 2816, x1 (ix2 r j) * x3 (ix2 l j)

theorem v23_eq (r : Fin 16384) (l : Fin 1024) : val_main_v23 (F := Ideal) x0 x1 x2 x3 (ix2 r l) = dh x0 x1 x2 x3 r l := by
  pointwise [val_main_v23, val_main_v22, val_main_v21, val_main_v20, val_main_v19, val_main_v17, val_main_v15]
  exact add_comm _ _

/-- The gradient at what the norm reads. -/
theorem ref43 : val_main_v43 (F := Ideal) x0 x1 x2 x3 x4 x5 x6 = fun i =>
    x5 i + normBack (fun l => x4 (ix2 (i 0) l)) (fun l => dh x0 x1 x2 x3 (i 0) l * x6 (ix2 0 l)) (i 1) := by
  refine ext2 fun r l => ?_
  change _ = x5 (ix2 r l) + normBack (fun k => x4 (ix2 r k)) (fun k => dh x0 x1 x2 x3 r k * x6 (ix2 0 k)) l
  rw [Cert.Reals.normBack_eq]
  pointwise [val_main_v43, val_main_v42, val_main_v41, val_main_v40, val_main_v39, val_main_v38, val_main_v37, val_main_v36,
    val_main_v35, val_main_v34, val_main_v33, val_main_v32, val_main_v31, val_main_v30, val_main_v29, val_main_v28, val_main_v27,
    val_main_v10, val_main_v9, val_main_v8, val_main_v7, val_main_v6, val_main_v5, val_main_v4, val_main_v3, val_main_v2,
    val_main_v1, val_main_v0, val_main_cst, val_main_cst_0, val_main_cst_1, val_main_cst_2, val_main_cst_4, val_main_cst_5,
    val_main_cst_6]
  simp only [v23_eq, Finset.univ_unique, Finset.sum_singleton]
  rw [add_assoc, add_assoc]
  exact congrArg (x5 (ix2 r l) + ·) (add_assoc _ _ _).symm

/-- The norm weight's gradient. -/
theorem ref26 : val_main_v26 (F := Ideal) x0 x1 x2 x3 x4 = fun i =>
    ∑ r : Fin 16384, dh x0 x1 x2 x3 r (i 1) * (x4 (ix2 r (i 1)) * invRms fun l => x4 (ix2 r l)) := by
  funext i
  obtain ⟨l, rfl⟩ : ∃ (l : Fin 1024), i = ix2 0 l := ⟨i 1, by rw [eq_ix2 i]; congr 1; exact Subsingleton.elim _ _⟩
  pointwise [val_main_v26, val_main_v25, val_main_v24, val_main_v12, val_main_v11, val_main_v7, val_main_v6, val_main_v5,
    val_main_v4, val_main_v3, val_main_v2, val_main_v1, val_main_v0, val_main_cst, val_main_cst_0, val_main_cst_1,
    val_main_cst_3]
  simp only [v23_eq]
  exact Finset.sum_congr rfl fun r _ => mul_comm _ _

end Cert.InNormReference

end
-- ==== Proof.InNormClaim.lean ====
module

public import proofs.«01_k».proof.Proof.InNormVal
public import proofs.«01_k».proof.Proof.InNormRef
public import proofs.«01_k».proof.Proof.Gen.RInNormIdeal.Run
public import proofs.«01_k».proof.Defs
public import Idealize.ShloMosaic.Lib.Quiescent

/-! The backward call of the norm before the feed-forward block and the derivative of its lines: the two runs beside each
other. -/

@[expose] public section

set_option maxRecDepth 16384

noncomputable section

namespace Cert.InNormClaim

open Idealize.ShloMosaic Idealize.SL.Sem

/-- The reference runs and leaves its arguments. -/
theorem refFrame : Cert.quiescent_RInNormIdeal (hRInNormIdeal := Cert.RInNormIdeal.Gen.facts) := fun m ρ _ =>
  (θ_run _ _ _).mono (fun r h => ⟨fun c => (h c).2.2, sem_eq_zero_of_no_sems (by decide) r.2⟩)
    (Cert.RInNormIdeal.Value.run (F := Ideal) m ρ)

/-- Kernel and reference end with the same two results. -/
theorem algebraic : Cert.algebraic_KInNormIdeal_RInNormIdeal (hKInNormIdeal := Cert.KInNormIdeal.Gen.facts)
    (hRInNormIdeal := Cert.RInNormIdeal.Gen.facts) := by
  intro m g m' g' _ hag
  refine ⟨fun c i => InNormValue.dx m c (i 0) (i 1), fun c i => InNormValue.dg m c (i 1), ?_, ?_⟩
  · refine (θ_run _ _ _).mono (fun r h c => ?_) (Cert.KInNormIdeal.Value.run_blocks (F := Ideal) m g)
    obtain ⟨h0, h1, ha⟩ := h c
    exact ⟨h0.trans (InNormValue.final5 m c), h1.trans (InNormValue.final6 m c), ha⟩
  · refine (θ_run _ _ _).mono (fun r h c => ?_) (Cert.RInNormIdeal.Value.run (F := Ideal) m' g')
    obtain ⟨h0, h1, ha⟩ := h c
    obtain ⟨e0, e1, e2, e3, e4, e5, e6⟩ := hag c
    refine ⟨h0.trans ?_, h1.trans ?_, ha⟩
    · rw [Cert.RInNormIdeal.Read.val_main_v43_eq, InNormReference.ref43, e0, e1, e2, e3, e4, e5, e6]
      refine ext2 fun r l => ?_
      rfl
    · rw [Cert.RInNormIdeal.Read.val_main_v26_eq, InNormReference.ref26, e0, e1, e2, e3, e4]
      rfl

end Cert.InNormClaim

end
-- ==== Proof.InNorm4Val.lean ====
module

public import proofs.«01_k».proof.Proof.Gen.KInNorm4Ideal.Value
public import proofs.«01_k».proof.Proof.Norm
public import Idealize.ShloMosaic.Lib.StableHlo.Run
public import Idealize.ShloMosaic.Lib.Pipeline.ValueKit
public import Idealize.ShloMosaic.Lib.Pipeline.ReadBack
public import Idealize.ShloMosaic.Lib.VecWindow

/-! What the backward call of the norm before the mixers leaves in its two results, place by place. -/

@[expose] public section

set_option maxRecDepth 16384

noncomputable section

namespace Cert.InNorm4Value

open Cert.KInNorm4Ideal Cert.KInNorm4Ideal.Gen Idealize.ShloMosaic Idealize.ShloMosaic.TcCoe Idealize.SL.Sem
open Idealize.ShloMosaic.Pipeline (Dat)
open Cert.Reals (meanSq invRms normBack)

variable (m : (ℓ : Loc nD τ sig) → Buf (Elt Ideal) ℓ)

/-! ### The blocks a point reads -/

/-- Where each window stands at a point. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![0, 0] ∧
    win0_7.index t = ![t.val, 0] := by
  show ∀ t : Fin grid0.N, _
  decide +kernel

/-- The arguments, as arrays of the launch. -/
abbrev Z0 (c : Dev nD) : S16384x1024.Idx → EReal := m ((c : Thread nD τ).loc main_arg0)
abbrev Z1 (c : Dev nD) : S16384x1024.Idx → EReal := m ((c : Thread nD τ).loc main_arg1)
abbrev Z2 (c : Dev nD) : S16384x2560.Idx → EReal := m ((c : Thread nD τ).loc main_arg2)
abbrev Z3 (c : Dev nD) : S16384x3072.Idx → EReal := m ((c : Thread nD τ).loc main_arg3)
abbrev W (c : Dev nD) : S1024x7680.Idx → EReal := m ((c : Thread nD τ).loc main_arg4)
abbrev X (c : Dev nD) : S16384x1024.Idx → EReal := m ((c : Thread nD τ).loc main_arg5)
abbrev Dxo (c : Dev nD) : S16384x1024.Idx → EReal := m ((c : Thread nD τ).loc main_arg6)
abbrev G (c : Dev nD) : S1x1024.Idx → EReal := m ((c : Thread nD τ).loc main_arg7)

/-- The four column blocks of the weight, cut on the host. -/
theorem V_w0 (c : Dev nD) (r : Fin 1024) (l : Fin 1024) : V m c main_v0 (ix2 r l) = W m c (ix2 r ⟨l.val, by omega⟩) := by
  simp only [V, hostOps0]
  after_results_simp
  pointwise []
theorem V_w1 (c : Dev nD) (r : Fin 1024) (l : Fin 1024) : V m c main_v1 (ix2 r l) = W m c (ix2 r ⟨1024 + l.val, by omega⟩) := by
  simp only [V, hostOps0]
  after_results_simp
  pointwise []
theorem V_w2 (c : Dev nD) (r : Fin 1024) (l : Fin 2560) : V m c main_v2 (ix2 r l) = W m c (ix2 r ⟨2048 + l.val, by omega⟩) := by
  simp only [V, hostOps0]
  after_results_simp
  pointwise []
theorem V_w3 (c : Dev nD) (r : Fin 1024) (l : Fin 3072) : V m c main_v3 (ix2 r l) = W m c (ix2 r ⟨4608 + l.val, by omega⟩) := by
  simp only [V, hostOps0]
  after_results_simp
  pointwise []

theorem row_lt (t : Fin cfg0.N) (r : Fin 512) : t.val * 512 + r.val < 16384 := by
  have h : t.val < 32 := t.isLt
  omega

/-- Row `r` of point `t`'s block. -/
abbrev row (t : Fin cfg0.N) (r : Fin 512) : Fin 16384 := ⟨t.val * 512 + r.val, row_lt t r⟩

theorem blk0 (c : Dev nD) (t : Fin cfg0.N) (r : Fin 512) (l : Fin 1024) : iblk m c 0 t (ix2 r l) = Z0 m c (ix2 (row t r) l) := by
  blk_simp [iblk]
  rw [V_main_arg0]
  refine congrArg (Z0 m c) ?_
  blk_ext [(idx t).1]

theorem blk1 (c : Dev nD) (t : Fin cfg0.N) (r : Fin 512) (l : Fin 1024) : iblk m c 1 t (ix2 r l) = Z1 m c (ix2 (row t r) l) := by
  blk_simp [iblk]
  rw [V_main_arg1]
  refine congrArg (Z1 m c) ?_
  blk_ext [(idx t).2.1]

theorem blk2 (c : Dev nD) (t : Fin cfg0.N) (r : Fin 512) (l : Fin 2560) : iblk m c 2 t (ix2 r l) = Z2 m c (ix2 (row t r) l) := by
  blk_simp [iblk]
  rw [V_main_arg2]
  refine congrArg (Z2 m c) ?_
  blk_ext [(idx t).2.2.1]

theorem blk3 (c : Dev nD) (t : Fin cfg0.N) (r : Fin 512) (l : Fin 3072) : iblk m c 3 t (ix2 r l) = Z3 m c (ix2 (row t r) l) := by
  blk_simp [iblk]
  rw [V_main_arg3]
  refine congrArg (Z3 m c) ?_
  blk_ext [(idx t).2.2.2.1]

theorem blk4 (c : Dev nD) (t : Fin cfg0.N) (r : Fin 512) (l : Fin 1024) : iblk m c 4 t (ix2 r l) = X m c (ix2 (row t r) l) := by
  blk_simp [iblk]
  rw [V_main_arg5]
  refine congrArg (X m c) ?_
  blk_ext [(idx t).2.2.2.2.1]

theorem blk5 (c : Dev nD) (t : Fin cfg0.N) (r : Fin 512) (l : Fin 1024) : iblk m c 5 t (ix2 r l) = Dxo m c (ix2 (row t r) l) := by
  blk_simp [iblk]
  rw [V_main_arg6]
  refine congrArg (Dxo m c) ?_
  blk_ext [(idx t).2.2.2.2.2.1]

theorem blk6 (c : Dev nD) (t : Fin cfg0.N) (r : Fin 1) (l : Fin 1024) : iblk m c 6 t (ix2 r l) = G m c (ix2 0 l) := by
  blk_simp [iblk]
  rw [V_main_arg7]
  refine congrArg (G m c) ?_
  blk_ext [(idx t).2.2.2.2.2.2.1]

/-! ### What a point leaves -/

/-- The four weight scratches hold the weights after every point: the first copies them, the others leave them. -/
theorem scr (c : Dev nD) (n : ℕ) : ∀ hn : n < cfg0.N, (outsAt0 m c n hn).2.2.1 = V m c main_v0 ∧
    (outsAt0 m c n hn).2.2.2.1 = V m c main_v1 ∧ (outsAt0 m c n hn).2.2.2.2.1 = V m c main_v2 ∧ (outsAt0 m c n hn).2.2.2.2.2 = V m c main_v3 := by
  induction n using Nat.strong_induction_on with
  | _ n ih =>
    intro hn
    by_cases h0 : n % 32 = 0
    · rw [outsAt0_A m c ⟨n, hn⟩ h0]
      frame_out
      exact ⟨View.canon_unit_zero rfl _ _, View.canon_unit_zero rfl _ _, View.canon_unit_zero rfl _ _, View.canon_unit_zero rfl _ _⟩
    · rw [outsAt0_B m c ⟨n, hn⟩ h0]
      simp only [sout0_B_0, sout0_B_1, sout0_B_2, sout0_B_3]
      exact ih (n - 1) (by omega) _

theorem scr0 (c : Dev nD) (n : ℕ) (hn : n < cfg0.N) : (outsAt0 m c n hn).2.2.1 = V m c main_v0 := (scr m c n hn).1
theorem scr1 (c : Dev nD) (n : ℕ) (hn : n < cfg0.N) : (outsAt0 m c n hn).2.2.2.1 = V m c main_v1 := (scr m c n hn).2.1
theorem scr2 (c : Dev nD) (n : ℕ) (hn : n < cfg0.N) : (outsAt0 m c n hn).2.2.2.2.1 = V m c main_v2 := (scr m c n hn).2.2.1
theorem scr3 (c : Dev nD) (n : ℕ) (hn : n < cfg0.N) : (outsAt0 m c n hn).2.2.2.2.2 = V m c main_v3 := (scr m c n hn).2.2.2

/-- Read back at the first point, the scratches hold the weights just copied. -/
theorem load0 (c : Dev nD) : (View.whole cc0_scratch0).readCov [⟨Rect.whole S1024x1024,
    ReadAs.same.apply (View.read (Elt Ideal) (View.whole main_v0) (V m c main_v0))⟩]
    (Rect.unit ![0, 0] ![1024, 1024] inb_S1024x1024_S1024x1024_0_0).toLoadRect = V m c main_v0 :=
  View.readCov_full _ _ _ _ _
theorem load1 (c : Dev nD) : (View.whole cc0_scratch1).readCov [⟨Rect.whole S1024x1024,
    ReadAs.same.apply (View.read (Elt Ideal) (View.whole main_v1) (V m c main_v1))⟩]
    (Rect.unit ![0, 0] ![1024, 1024] inb_S1024x1024_S1024x1024_0_0).toLoadRect = V m c main_v1 :=
  View.readCov_full _ _ _ _ _
theorem load2 (c : Dev nD) : (View.whole cc0_scratch2).readCov [⟨Rect.whole S1024x2560,
    ReadAs.same.apply (View.read (Elt Ideal) (View.whole main_v2) (V m c main_v2))⟩]
    (Rect.unit ![0, 0] ![1024, 2560] inb_S1024x2560_S1024x2560_0_0).toLoadRect = V m c main_v2 :=
  View.readCov_full _ _ _ _ _
theorem load3 (c : Dev nD) : (View.whole cc0_scratch3).readCov [⟨Rect.whole S1024x3072,
    ReadAs.same.apply (View.read (Elt Ideal) (View.whole main_v3) (V m c main_v3))⟩]
    (Rect.unit ![0, 0] ![1024, 3072] inb_S1024x3072_S1024x3072_0_0).toLoadRect = V m c main_v3 :=
  View.readCov_full _ _ _ _ _

/-- The gradient at the norm's result that point `t` adds up. -/
abbrev back (c : Dev nD) (t : Fin cfg0.N) : FVec Ideal S512x1024 .f32 :=
  k0_pay5 (iblk m c 0 t) (V m c main_v0) (iblk m c 1 t) (V m c main_v1) (iblk m c 2 t) (V m c main_v2) (iblk m c 3 t) (V m c main_v3)

theorem out7 (c : Dev nD) (t : Fin cfg0.N) : (outsAt0 m c t.val t.isLt).1 =
    k0_pay3 (back m c t) (iblk m c 4 t) (iblk m c 6 t) (k0_pay6 (iblk m c 4 t)) (k0_pay7 (iblk m c 4 t)) (iblk m c 5 t) := by
  by_cases h0 : t.val % 32 = 0
  · rw [outsAt0_A m c t h0]
    frame_open
    simp (disch := decide) only [↓ View.readCov_skip, ↓ View.readCov_cons_toLoadRect, ↓ View.readCov_fill]
    frame_out
    rw [load0, load1, load2, load3]
  · rw [outsAt0_B m c t h0]
    frame_out
    simp only [read_unread_whole, scr0 m c, scr1 m c, scr2 m c, scr3 m c]

/-! ### The values, place by place -/

/-- The gradient at the norm's result, and times the norm's weight. -/
def dh (c : Dev nD) (r : Fin 16384) (l : Fin 1024) : EReal :=
  ∑ j : Fin 1024, Z0 m c (ix2 r j) * W m c (ix2 l ⟨j.val, by omega⟩) + ∑ j : Fin 1024, Z1 m c (ix2 r j) * W m c (ix2 l ⟨1024 + j.val, by omega⟩) +
    ∑ j : Fin 2560, Z2 m c (ix2 r j) * W m c (ix2 l ⟨2048 + j.val, by omega⟩) +
    ∑ j : Fin 3072, Z3 m c (ix2 r j) * W m c (ix2 l ⟨4608 + j.val, by omega⟩)
def cot (c : Dev nD) (r : Fin 16384) (l : Fin 1024) : EReal := dh m c r l * G m c (ix2 0 l)

/-- One row of what the norm reads. -/
def xr (c : Dev nD) (r : Fin 16384) (l : Fin 1024) : EReal := X m c (ix2 r l)

/-- The gradient at what the norm reads, past the block and through it. -/
def dx (c : Dev nD) (r : Fin 16384) (l : Fin 1024) : EReal := Dxo m c (ix2 r l) + normBack (xr m c r) (cot m c r) l

theorem back_eq (c : Dev nD) (t : Fin cfg0.N) (r : Fin 512) (l : Fin 1024) : back m c t (ix2 r l) = dh m c (row t r) l := by
  pointwise [k0_pay5]
  simp only [blk0, blk1, blk2, blk3]
  exact congrArg₂ (· + ·) (congrArg₂ (· + ·) (congrArg₂ (· + ·) (Finset.sum_congr rfl fun j _ => congrArg (_ * ·) (V_w0 m c l j))
    (Finset.sum_congr rfl fun j _ => congrArg (_ * ·) (V_w1 m c l j))) (Finset.sum_congr rfl fun j _ => congrArg (_ * ·) (V_w2 m c l j)))
    (Finset.sum_congr rfl fun j _ => congrArg (_ * ·) (V_w3 m c l j))

/-- The stored gradient: `b` holds the gradient at the norm's result, `x` what the norm reads, `g` its weight. -/
theorem pay3_eq (b x e : FVec Ideal S512x1024 .f32) (g : FVec Ideal S1x1024 .f32) (r : Fin 512) (l : Fin 1024) :
    k0_pay3 b x g (k0_pay6 x) (k0_pay7 x) e (ix2 r l) =
      e (ix2 r l) + normBack (fun k => x (ix2 r k)) (fun k => b (ix2 r k) * g (ix2 0 k)) l := by
  pointwise [k0_pay3, k0_pay1, k0_pay7, k0_pay6]
  rfl

/-- What point `t` leaves in its block of the gradient. -/
theorem left7 (c : Dev nD) (t : Fin cfg0.N) (r : Fin 512) (l : Fin 1024) : (outsAt0 m c t.val t.isLt).1 (ix2 r l) = dx m c (row t r) l := by
  rw [out7, pay3_eq]
  refine congrArg₂ (· + ·) (blk5 m c t r l) (congrArg₂ (fun f d => normBack f d l) (funext fun k => blk4 m c t r k)
    (funext fun k => congrArg₂ (· * ·) (back_eq m c t r k) (blk6 m c t 0 k)))

/-! ### The two arrays after the run -/

theorem final7 (c : Dev nD) : (dats m 0 c).arrAt 7 cfg0.N = fun i : S16384x1024.Idx => dx m c (i 0) (i 1) := by
  refine (dats m 0 c).arrAt_eq_of_covers 7 _ (by decide +kernel) fun t hf y => ?_
  blk_simp
  obtain ⟨r, l, rfl⟩ := at2 y
  have e : ((View.whole main_v4_0).slice (win0_7.rect t)).emb (ix2 r l) = ix2 (row t r) l := by
    blk_ext [(idx t).2.2.2.2.2.2.2]
  rw [after0_7, e]
  exact left7 m c t r l

/-- One row's share of the norm weight's gradient. -/
def dgRow (c : Dev nD) (l : Fin 1024) (r : Fin 16384) : EReal := dh m c r l * (xr m c r l * invRms (xr m c r))

/-- The norm weight's gradient. -/
def dg (c : Dev nD) (l : Fin 1024) : EReal := ∑ r : Fin 16384, dgRow m c l r

/-- What point `t` adds to it. -/
def term (c : Dev nD) (t : Fin cfg0.N) (j : S1x1024.Idx) : EReal := ∑ r : Fin 512, dgRow m c (j 1) (row t r)

theorem step8 (c : Dev nD) (t : Fin cfg0.N) (b : FVec Ideal S512x1024 .f32) (hb : ∀ r l, b (ix2 r l) = dh m c (row t r) l)
    (v : FVec Ideal S1x1024 .f32) (j : S1x1024.Idx) : k0_pay2 (F := Ideal) b (iblk m c 4 t) (k0_pay7 (iblk m c 4 t)) v j = v j + term m c t j := by
  obtain ⟨l, rfl⟩ : ∃ (l : Fin 1024), j = ix2 0 l := ⟨j 1, by rw [eq_ix2 j]; congr 1; exact Subsingleton.elim _ _⟩
  pointwise [k0_pay2, k0_pay1, k0_pay7, k0_pay6]
  simp only [hb, blk4]
  rfl

/-- The last point. -/
def tlast : Fin cfg0.N := ⟨31, by decide⟩

theorem final8 (c : Dev nD) : (dats m 0 c).arrAt 8 cfg0.N = fun i : S1x1024.Idx => dg m c (i 1) := by
  refine (dats m 0 c).arrAt_eq_of_after_last 8 tlast (by decide +kernel) _ fun j => ?_
  blk_simp
  rw [after0_8, Pipeline.eq_sum_fin_of_reset_step_apply_last (fun n h => (outsAt0 m c n h).2.1) 32 (fun _ => 0)
    (term m c) (fun t h j => ?_) (fun t h j => ?_) (le_of_eq N_0) tlast rfl, zero_add]
  · exact Fin.sum_mul_add_congr (f := fun r : Fin 16384 => dgRow m c (j 1) r) (fun s k hl => rfl) (by rw [show cfg0.N = 32 from N_0])
  · rw [outsAt0_A m c t h]
    frame_open
    simp (disch := decide) only [↓ View.readCov_skip, ↓ View.readCov_cons_toLoadRect, ↓ View.readCov_fill]
    frame_out
    rw [load0, load1, load2, load3]
    refine (step8 m c t _ (back_eq m c t) _ j).trans ?_
    congr 1
    pointwise [k0_pay4]
  · rw [outsAt0_B m c t h]
    frame_out
    simp only [read_unread_whole, scr0 m c, scr1 m c, scr2 m c, scr3 m c]
    exact step8 m c t _ (back_eq m c t) _ j

end Cert.InNorm4Value

end
-- ==== Proof.InNorm4Ref.lean ====
module

public import proofs.«01_k».proof.Proof.Gen.RInNorm4Ideal.Read
public import proofs.«01_k».proof.Proof.Norm
public import Idealize.ShloMosaic.Lib.Pipeline.ValueKit

/-! What differentiating the norm and the product before the mixers leaves, place by place. -/

@[expose] public section

set_option maxRecDepth 16384

noncomputable section

namespace Cert.InNorm4Reference

open Cert.RInNorm4Ideal Cert.RInNorm4Ideal.Read Idealize.ShloMosaic Idealize.ShloMosaic.TcCoe Idealize.SL.Sem
open Cert.Reals (meanSq invRms normBack)

variable (x0 x1 : (⟨S16384x1024, .bf16⟩ : BufTy).Contents (Elt Ideal)) (x2 : (⟨S16384x2560, .bf16⟩ : BufTy).Contents (Elt Ideal))
  (x3 : (⟨S16384x3072, .bf16⟩ : BufTy).Contents (Elt Ideal)) (x4 : (⟨S1024x7680, .bf16⟩ : BufTy).Contents (Elt Ideal))
  (x5 x6 : (⟨S16384x1024, .f32⟩ : BufTy).Contents (Elt Ideal)) (x7 : (⟨S1x1024, .f32⟩ : BufTy).Contents (Elt Ideal))

/-- A sum over the 7680 lanes, split where the four mixers' lanes end. -/
theorem sum_lanes (f : Fin 7680 → EReal) : ∑ j, f j = ∑ j : Fin 1024, f ⟨j.val, by omega⟩ + ∑ j : Fin 1024, f ⟨1024 + j.val, by omega⟩ +
    ∑ j : Fin 2560, f ⟨2048 + j.val, by omega⟩ + ∑ j : Fin 3072, f ⟨4608 + j.val, by omega⟩ := by
  rw [Fin.sum_univ_add (a := 4608) (b := 3072) f, Fin.sum_univ_add (a := 2048) (b := 2560) (fun i => f (Fin.castAdd 3072 i)),
    Fin.sum_univ_add (a := 1024) (b := 1024) (fun i => f (Fin.castAdd 3072 (Fin.castAdd 2560 i)))]
  rfl

/-- The gradient at the norm's result. -/
def dh (r : Fin 16384) (l : Fin 1024) : EReal :=
  ∑ j : Fin 1024, x0 (ix2 r j) * x4 (ix2 l ⟨j.val, by omega⟩) + ∑ j : Fin 1024, x1 (ix2 r j) * x4 (ix2 l ⟨1024 + j.val, by omega⟩) +
    ∑ j : Fin 2560, x2 (ix2 r j) * x4 (ix2 l ⟨2048 + j.val, by omega⟩) + ∑ j : Fin 3072, x3 (ix2 r j) * x4 (ix2 l ⟨4608 + j.val, by omega⟩)

theorem v19_eq (r : Fin 16384) (l : Fin 1024) : val_main_v19 (F := Ideal) x0 x1 x2 x3 x4 (ix2 r l) = dh x0 x1 x2 x3 x4 r l := by
  pointwise [val_main_v19, val_main_v17, val_main_v1, val_main_v0]
  rw [sum_lanes]
  refine congrArg₂ (· + ·) (congrArg₂ (· + ·) (congrArg₂ (· + ·) ?_ ?_) ?_) ?_ <;> refine Finset.sum_congr rfl fun j _ => congrArg (· * _) ?_
  · rw [dif_pos j.isLt]
  · rw [dif_neg (by simp), dif_pos (by show 1024 + j.val - 1024 < 1024; omega)]
    exact congrArg (fun k => x1 (ix2 r k)) (Fin.ext (by show 1024 + j.val - 1024 = j.val; omega))
  · rw [dif_neg (by show ¬ 2048 + j.val < 1024; omega), dif_neg (by show ¬ 2048 + j.val - 1024 < 1024; omega),
      dif_pos (by show 2048 + j.val - 1024 - 1024 < 2560; omega)]
    exact congrArg (fun k => x2 (ix2 r k)) (Fin.ext (by show 2048 + j.val - 1024 - 1024 = j.val; omega))
  · rw [dif_neg (by show ¬ 4608 + j.val < 1024; omega), dif_neg (by show ¬ 4608 + j.val - 1024 < 1024; omega),
      dif_neg (by show ¬ 4608 + j.val - 1024 - 1024 < 2560; omega)]
    exact congrArg (fun k => x3 (ix2 r k)) (Fin.ext (by show 4608 + j.val - 1024 - 1024 - 2560 = j.val; omega))

/-- The gradient at what the norm reads. -/
theorem ref39 : val_main_v39 (F := Ideal) x0 x1 x2 x3 x4 x5 x6 x7 = fun i =>
    x6 i + normBack (fun l => x5 (ix2 (i 0) l)) (fun l => dh x0 x1 x2 x3 x4 (i 0) l * x7 (ix2 0 l)) (i 1) := by
  refine ext2 fun r l => ?_
  change _ = x6 (ix2 r l) + normBack (fun k => x5 (ix2 r k)) (fun k => dh x0 x1 x2 x3 x4 r k * x7 (ix2 0 k)) l
  rw [Cert.Reals.normBack_eq]
  pointwise [val_main_v39, val_main_v38, val_main_v37, val_main_v36, val_main_v35, val_main_v34, val_main_v33, val_main_v32,
    val_main_v31, val_main_v30, val_main_v29, val_main_v28, val_main_v27, val_main_v26, val_main_v25, val_main_v24, val_main_v23,
    val_main_v12, val_main_v11, val_main_v10, val_main_v9, val_main_v8, val_main_v7, val_main_v6, val_main_v5, val_main_v4,
    val_main_v3, val_main_v2, val_main_cst, val_main_cst_0, val_main_cst_1, val_main_cst_2, val_main_cst_4, val_main_cst_5,
    val_main_cst_6]
  simp only [v19_eq, Finset.univ_unique, Finset.sum_singleton]
  rw [add_assoc, add_assoc]
  exact congrArg (x6 (ix2 r l) + ·) (add_assoc _ _ _).symm

/-- The norm weight's gradient. -/
theorem ref22 : val_main_v22 (F := Ideal) x0 x1 x2 x3 x4 x5 = fun i =>
    ∑ r : Fin 16384, dh x0 x1 x2 x3 x4 r (i 1) * (x5 (ix2 r (i 1)) * invRms fun l => x5 (ix2 r l)) := by
  funext i
  obtain ⟨l, rfl⟩ : ∃ (l : Fin 1024), i = ix2 0 l := ⟨i 1, by rw [eq_ix2 i]; congr 1; exact Subsingleton.elim _ _⟩
  pointwise [val_main_v22, val_main_v21, val_main_v20, val_main_v14, val_main_v13, val_main_v9, val_main_v8, val_main_v7,
    val_main_v6, val_main_v5, val_main_v4, val_main_v3, val_main_v2, val_main_cst, val_main_cst_0, val_main_cst_1, val_main_cst_3]
  simp only [v19_eq]
  exact Finset.sum_congr rfl fun r _ => mul_comm _ _

end Cert.InNorm4Reference

end
-- ==== Proof.InNorm4Claim.lean ====
module

public import proofs.«01_k».proof.Proof.InNorm4Val
public import proofs.«01_k».proof.Proof.InNorm4Ref
public import proofs.«01_k».proof.Proof.Gen.RInNorm4Ideal.Run
public import proofs.«01_k».proof.Defs
public import Idealize.ShloMosaic.Lib.Quiescent

/-! The backward call of the norm before the mixers and the derivative of its lines: the two runs beside each
other. -/

@[expose] public section

set_option maxRecDepth 16384

noncomputable section

namespace Cert.InNorm4Claim

open Idealize.ShloMosaic Idealize.SL.Sem

/-- The reference runs and leaves its arguments. -/
theorem refFrame : Cert.quiescent_RInNorm4Ideal (hRInNorm4Ideal := Cert.RInNorm4Ideal.Gen.facts) := fun m ρ _ =>
  (θ_run _ _ _).mono (fun r h => ⟨fun c => (h c).2.2, sem_eq_zero_of_no_sems (by decide) r.2⟩)
    (Cert.RInNorm4Ideal.Value.run (F := Ideal) m ρ)

/-- Kernel and reference end with the same two results. -/
theorem algebraic : Cert.algebraic_KInNorm4Ideal_RInNorm4Ideal (hKInNorm4Ideal := Cert.KInNorm4Ideal.Gen.facts)
    (hRInNorm4Ideal := Cert.RInNorm4Ideal.Gen.facts) := by
  intro m g m' g' _ hag
  refine ⟨fun c i => InNorm4Value.dx m c (i 0) (i 1), fun c i => InNorm4Value.dg m c (i 1), ?_, ?_⟩
  · refine (θ_run _ _ _).mono (fun r h c => ?_) (Cert.KInNorm4Ideal.Value.run_blocks (F := Ideal) m g)
    obtain ⟨h0, h1, ha⟩ := h c
    exact ⟨h0.trans (InNorm4Value.final7 m c), h1.trans (InNorm4Value.final8 m c), ha⟩
  · refine (θ_run _ _ _).mono (fun r h c => ?_) (Cert.RInNorm4Ideal.Value.run (F := Ideal) m' g')
    obtain ⟨h0, h1, ha⟩ := h c
    obtain ⟨e0, e1, e2, e3, e4, e5, e6, e7⟩ := hag c
    refine ⟨h0.trans ?_, h1.trans ?_, ha⟩
    · rw [Cert.RInNorm4Ideal.Read.val_main_v39_eq, InNorm4Reference.ref39, e0, e1, e2, e3, e4, e5, e6, e7]
      refine ext2 fun r l => ?_
      rfl
    · rw [Cert.RInNorm4Ideal.Read.val_main_v22_eq, InNorm4Reference.ref22, e0, e1, e2, e3, e4, e5]
      rfl

end Cert.InNorm4Claim

end
-- ==== Proof.MergeVal.lean ====
module

public import proofs.«01_k».proof.Proof.Gen.KMergeIdeal.Value
public import proofs.«01_k».proof.Proof.Norm
public import Idealize.ShloMosaic.Lib.StableHlo.Run
public import Idealize.ShloMosaic.Lib.Pipeline.ValueKit
public import Idealize.ShloMosaic.Lib.Pipeline.ReadBack
public import Idealize.ShloMosaic.Lib.VecWindow

/-! What the backward call of the merge of the three mixers leaves in its six results, place by place. -/

@[expose] public section

set_option maxRecDepth 16384

noncomputable section

namespace Cert.MergeValue

open Cert.KMergeIdeal Cert.KMergeIdeal.Gen Idealize.ShloMosaic Idealize.ShloMosaic.TcCoe Idealize.SL.Sem
open Idealize.ShloMosaic.Pipeline (Dat)
open Cert.Reals (meanSq invRms normBack sig)

variable (m : (ℓ : Loc nD τ sig) → Buf (Elt Ideal) ℓ)

/-! ### The blocks a point reads -/

theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![0, 0] ∧
    win0_7.index t = ![t.val, 0] ∧ win0_8.index t = ![t.val, 0] ∧ win0_9.index t = ![t.val, 0] ∧ win0_10.index t = ![t.val, 0] ∧
    win0_11.index t = ![t.val, 0] := by
  show ∀ t : Fin grid0.N, _
  decide +kernel

/-- The arguments, as arrays of the launch. -/
abbrev Dxo (c : Dev nD) : S16384x1024.Idx → EReal := m ((c : Thread nD τ).loc main_arg0)
abbrev Ya (c : Dev nD) : S16384x1024.Idx → EReal := m ((c : Thread nD τ).loc main_arg1)
abbrev Yb (c : Dev nD) : S16384x1024.Idx → EReal := m ((c : Thread nD τ).loc main_arg2)
abbrev Yc (c : Dev nD) : S16384x1024.Idx → EReal := m ((c : Thread nD τ).loc main_arg3)
abbrev Z (c : Dev nD) : S16384x3072.Idx → EReal := m ((c : Thread nD τ).loc main_arg4)
abbrev G (c : Dev nD) : S1x1024.Idx → EReal := m ((c : Thread nD τ).loc main_arg5)
abbrev Wo (c : Dev nD) : S1024x1024.Idx → EReal := m ((c : Thread nD τ).loc main_arg6)

/-- The gate of mixer 0, 1 and 2 at row `r`, lane `l`. -/
def ga (c : Dev nD) (r : Fin 16384) (l : Fin 1024) : EReal := sig (Z m c (ix2 r ⟨l.val, by omega⟩))
def gb (c : Dev nD) (r : Fin 16384) (l : Fin 1024) : EReal := sig (Z m c (ix2 r ⟨1024 + l.val, by omega⟩))
def gc (c : Dev nD) (r : Fin 16384) (l : Fin 1024) : EReal := sig (Z m c (ix2 r ⟨2048 + l.val, by omega⟩))

/-- The row the forward pass hands to the norm. -/
def mo (c : Dev nD) (r : Fin 16384) (l : Fin 1024) : EReal :=
  ∑ j : Fin 1024, (ga m c r j * Ya m c (ix2 r j) + gb m c r j * Yb m c (ix2 r j) + gc m c r j * Yc m c (ix2 r j)) * Wo m c (ix2 j l)

theorem V_mo (c : Dev nD) (r : Fin 16384) (l : Fin 1024) : V m c main_v20 (ix2 r l) = mo m c r l := by
  simp only [V, hostOps0]
  after_results_simp
  pointwise []
  rfl

theorem row_lt (t : Fin cfg0.N) (r : Fin 512) : t.val * 512 + r.val < 16384 := by
  have h : t.val < 32 := t.isLt
  omega

/-- Row `r` of point `t`'s block. -/
abbrev row (t : Fin cfg0.N) (r : Fin 512) : Fin 16384 := ⟨t.val * 512 + r.val, row_lt t r⟩

theorem blk0 (c : Dev nD) (t : Fin cfg0.N) (r : Fin 512) (l : Fin 1024) : iblk m c 0 t (ix2 r l) = Dxo m c (ix2 (row t r) l) := by
  blk_simp [iblk]
  rw [V_main_arg0]
  refine congrArg (Dxo m c) ?_
  blk_ext [(idx t).1]

theorem blk1 (c : Dev nD) (t : Fin cfg0.N) (r : Fin 512) (l : Fin 1024) : iblk m c 1 t (ix2 r l) = mo m c (row t r) l := by
  rw [← V_mo]
  blk_simp [iblk]
  refine congrArg (V m c main_v20) ?_
  blk_ext [(idx t).2.1]

theorem blk2 (c : Dev nD) (t : Fin cfg0.N) (r : Fin 512) (l : Fin 1024) : iblk m c 2 t (ix2 r l) = Ya m c (ix2 (row t r) l) := by
  blk_simp [iblk]
  rw [V_main_arg1]
  refine congrArg (Ya m c) ?_
  blk_ext [(idx t).2.2.1]

theorem blk3 (c : Dev nD) (t : Fin cfg0.N) (r : Fin 512) (l : Fin 1024) : iblk m c 3 t (ix2 r l) = Yb m c (ix2 (row t r) l) := by
  blk_simp [iblk]
  rw [V_main_arg2]
  refine congrArg (Yb m c) ?_
  blk_ext [(idx t).2.2.2.1]

theorem blk4 (c : Dev nD) (t : Fin cfg0.N) (r : Fin 512) (l : Fin 1024) : iblk m c 4 t (ix2 r l) = Yc m c (ix2 (row t r) l) := by
  blk_simp [iblk]
  rw [V_main_arg3]
  refine congrArg (Yc m c) ?_
  blk_ext [(idx t).2.2.2.2.1]

theorem blk5 (c : Dev nD) (t : Fin cfg0.N) (r : Fin 512) (l : Fin 3072) : iblk m c 5 t (ix2 r l) = Z m c (ix2 (row t r) l) := by
  blk_simp [iblk]
  rw [V_main_arg4]
  refine congrArg (Z m c) ?_
  blk_ext [(idx t).2.2.2.2.2.1]

theorem blk6 (c : Dev nD) (t : Fin cfg0.N) (r : Fin 1) (l : Fin 1024) : iblk m c 6 t (ix2 r l) = G m c (ix2 0 l) := by
  blk_simp [iblk]
  rw [V_main_arg5]
  refine congrArg (G m c) ?_
  blk_ext [(idx t).2.2.2.2.2.2.1]

/-! ### What a point leaves -/

/-- The weight scratch holds the weight after every point: the first copies it, the others leave it. -/
theorem scr (c : Dev nD) (n : ℕ) : ∀ hn : n < cfg0.N, (outsAt0 m c n hn).2.2.2.2.2.2 = V m c main_arg6 := by
  induction n using Nat.strong_induction_on with
  | _ n ih =>
    intro hn
    by_cases h0 : n % 32 = 0
    · rw [outsAt0_A m c ⟨n, hn⟩ h0]
      frame_out
      exact View.canon_unit_zero rfl _ _
    · rw [outsAt0_B m c ⟨n, hn⟩ h0]
      simp only [sout0_B_0]
      exact ih (n - 1) (by omega) _

/-- Read back at the first point, the scratch holds the weight just copied. -/
theorem loaded (c : Dev nD) : (View.whole cc0_scratch0).readCov [⟨Rect.whole S1024x1024,
    ReadAs.same.apply (View.read (Elt Ideal) (View.whole main_arg6) (V m c main_arg6))⟩]
    (Rect.unit ![0, 0] ![1024, 1024] inb_S1024x1024_S1024x1024_0_0).toLoadRect = V m c main_arg6 :=
  View.readCov_full _ _ _ _ _

/-- The norm's backward value at point `t`, and the gradient at the merged row. -/
abbrev back (c : Dev nD) (t : Fin cfg0.N) : FVec Ideal S512x1024 .bf16 := k0_pay10 (iblk m c 0 t) (iblk m c 1 t) (iblk m c 6 t)
abbrev down (c : Dev nD) (t : Fin cfg0.N) : FVec Ideal S512x1024 .f32 := k0_pay11 (back m c t) (V m c main_arg6)

/-- The three column blocks of the gate gradient that point `t` stores. -/
abbrev za (c : Dev nD) (t : Fin cfg0.N) : FVec Ideal S512x1024 .bf16 := k0_pay15 (back m c t) (V m c main_arg6) (iblk m c 5 t) (iblk m c 2 t)
abbrev zb (c : Dev nD) (t : Fin cfg0.N) : FVec Ideal S512x1024 .bf16 := k0_pay1 (k0_pay18 (back m c t) (V m c main_arg6) (iblk m c 5 t) (iblk m c 3 t))
abbrev zc (c : Dev nD) (t : Fin cfg0.N) : FVec Ideal S512x1024 .bf16 := k0_pay4 (down m c t) (k0_pay12 (iblk m c 5 t)) (iblk m c 4 t)

theorem out7 (c : Dev nD) (t : Fin cfg0.N) : (outsAt0 m c t.val t.isLt).1 = back m c t := by
  by_cases h0 : t.val % 32 = 0
  · rw [outsAt0_A m c t h0]
    frame_out
  · rw [outsAt0_B m c t h0]
    frame_out

theorem outs (c : Dev nD) (t : Fin cfg0.N) :
    let o := outsAt0 m c t.val t.isLt
    o.2.1 = k0_pay14 (back m c t) (V m c main_arg6) (iblk m c 5 t) ∧ o.2.2.1 = k0_pay17 (back m c t) (V m c main_arg6) (iblk m c 5 t) ∧
    o.2.2.2.1 = k0_pay3 (down m c t) (k0_pay12 (iblk m c 5 t)) ∧
    o.2.2.2.2.1 = View.canon [⟨Rect.unit ![0, 2048] ![512, 1024] inb_S512x3072_S512x1024_0_2048, zc m c t⟩,
      ⟨Rect.unit ![0, 1024] ![512, 1024] inb_S512x3072_S512x1024_0_1024, zb m c t⟩,
      ⟨Rect.unit ![0, 0] ![512, 1024] inb_S512x3072_S512x1024_0_0, za m c t⟩] := by
  by_cases h0 : t.val % 32 = 0
  · rw [outsAt0_A m c t h0]
    refine ⟨?_, ?_, ?_, ?_⟩ <;>
    · frame_open
      simp (disch := decide) only [↓ View.readCov_skip, ↓ View.readCov_cons_toLoadRect, ↓ View.readCov_fill]
      frame_out
      rw [loaded]
  · rw [outsAt0_B m c t h0]
    refine ⟨?_, ?_, ?_, ?_⟩ <;>
    · frame_out
      simp only [read_unread_whole, scr m c]

/-! ### The values, place by place -/

/-- The gradient at the norm's result. -/
def cot (c : Dev nD) (r : Fin 16384) (l : Fin 1024) : EReal := Dxo m c (ix2 r l) * G m c (ix2 0 l)

/-- The gradient at what the norm reads, and at the merged row. -/
def dmo (c : Dev nD) (r : Fin 16384) (l : Fin 1024) : EReal := normBack (mo m c r) (cot m c r) l
def dm (c : Dev nD) (r : Fin 16384) (l : Fin 1024) : EReal := ∑ j : Fin 1024, dmo m c r j * Wo m c (ix2 l j)

theorem back_eq (c : Dev nD) (t : Fin cfg0.N) (r : Fin 512) (l : Fin 1024) : back m c t (ix2 r l) = dmo m c (row t r) l := by
  pointwise [k0_pay10, k0_pay8, k0_pay7, k0_pay6]
  simp only [blk0, blk1, blk6]
  rfl

theorem down_eq (c : Dev nD) (t : Fin cfg0.N) (r : Fin 512) (l : Fin 1024) : down m c t (ix2 r l) = dm m c (row t r) l := by
  pointwise [k0_pay11]
  simp only [back_eq]
  rw [V_main_arg6]
  rfl

/-- The gradients at the three mixers' results. -/
def dya (c : Dev nD) (r : Fin 16384) (l : Fin 1024) : EReal := dm m c r l * ga m c r l
def dyb (c : Dev nD) (r : Fin 16384) (l : Fin 1024) : EReal := dm m c r l * gb m c r l
def dyc (c : Dev nD) (r : Fin 16384) (l : Fin 1024) : EReal := dm m c r l * gc m c r l

/-- The gradient at the gate of lane `l` of the 3072, reading mixer `k`'s row `y` at lane `l'`. -/
def gateBack (d y g : EReal) : EReal := d * y * g * (1 - g)

/-- The gradient at the gates: lane `l` belongs to the mixer whose thousand and twenty-four lanes hold it. -/
def dz (c : Dev nD) (r : Fin 16384) (l : Fin 3072) : EReal :=
  if h : l.val < 1024 then gateBack (dm m c r ⟨l.val, h⟩) (Ya m c (ix2 r ⟨l.val, h⟩)) (sig (Z m c (ix2 r l)))
  else if h' : l.val < 2048 then
    gateBack (dm m c r ⟨l.val - 1024, by omega⟩) (Yb m c (ix2 r ⟨l.val - 1024, by omega⟩)) (sig (Z m c (ix2 r l)))
  else gateBack (dm m c r ⟨l.val - 2048, by omega⟩) (Yc m c (ix2 r ⟨l.val - 2048, by omega⟩)) (sig (Z m c (ix2 r l)))

theorem za_eq (c : Dev nD) (t : Fin cfg0.N) (r : Fin 512) (l : Fin 1024) :
    za m c t (ix2 r l) = dz m c (row t r) ⟨l.val, by omega⟩ := by
  rw [dz, dif_pos l.isLt, ← down_eq]
  pointwise [k0_pay15, k0_pay13, k0_pay12]
  simp only [blk2, blk5]
  rfl

theorem zb_eq (c : Dev nD) (t : Fin cfg0.N) (r : Fin 512) (l : Fin 1024) :
    zb m c t (ix2 r l) = dz m c (row t r) ⟨1024 + l.val, by omega⟩ := by
  rw [dz, dif_neg (by simp), dif_pos (by show 1024 + l.val < 2048; omega)]
  simp only [Nat.add_sub_cancel_left]
  rw [← down_eq]
  pointwise [k0_pay1, k0_pay18, k0_pay16, k0_pay12]
  simp only [blk3, blk5]
  rfl

theorem zc_eq (c : Dev nD) (t : Fin cfg0.N) (r : Fin 512) (l : Fin 1024) :
    zc m c t (ix2 r l) = dz m c (row t r) ⟨2048 + l.val, by omega⟩ := by
  rw [dz, dif_neg (by show ¬ 2048 + l.val < 1024; omega), dif_neg (by simp)]
  simp only [Nat.add_sub_cancel_left]
  rw [← down_eq]
  pointwise [k0_pay4, k0_pay2, k0_pay12]
  simp only [blk4, blk5]
  rfl

/-! ### The six arrays after the run -/

theorem final7 (c : Dev nD) : (dats m 0 c).arrAt 7 cfg0.N = fun i : S16384x1024.Idx => dmo m c (i 0) (i 1) := by
  refine (dats m 0 c).arrAt_eq_of_covers 7 _ (by decide +kernel) fun t hf y => ?_
  blk_simp
  obtain ⟨r, l, rfl⟩ := at2 y
  have e : ((View.whole main_v21_0).slice (win0_7.rect t)).emb (ix2 r l) = ix2 (row t r) l := by
    blk_ext [(idx t).2.2.2.2.2.2.2.1]
  rw [after0_7, out7, e]
  exact back_eq m c t r l

theorem final8 (c : Dev nD) : (dats m 0 c).arrAt 8 cfg0.N = fun i : S16384x1024.Idx => dya m c (i 0) (i 1) := by
  refine (dats m 0 c).arrAt_eq_of_covers 8 _ (by decide +kernel) fun t hf y => ?_
  blk_simp
  obtain ⟨r, l, rfl⟩ := at2 y
  have e : ((View.whole main_v21_1).slice (win0_8.rect t)).emb (ix2 r l) = ix2 (row t r) l := by
    blk_ext [(idx t).2.2.2.2.2.2.2.2.1]
  rw [after0_8, (outs m c t).1, e]
  pointwise [k0_pay14, k0_pay13, k0_pay12]
  simp only [blk5]
  exact congrArg (· * ga m c (row t r) l) (down_eq m c t r l)

theorem final9 (c : Dev nD) : (dats m 0 c).arrAt 9 cfg0.N = fun i : S16384x1024.Idx => dyb m c (i 0) (i 1) := by
  refine (dats m 0 c).arrAt_eq_of_covers 9 _ (by decide +kernel) fun t hf y => ?_
  blk_simp
  obtain ⟨r, l, rfl⟩ := at2 y
  have e : ((View.whole main_v21_2).slice (win0_9.rect t)).emb (ix2 r l) = ix2 (row t r) l := by
    blk_ext [(idx t).2.2.2.2.2.2.2.2.2.1]
  rw [after0_9, (outs m c t).2.1, e]
  pointwise [k0_pay17, k0_pay16, k0_pay12]
  simp only [blk5]
  exact congrArg (· * gb m c (row t r) l) (down_eq m c t r l)

theorem final10 (c : Dev nD) : (dats m 0 c).arrAt 10 cfg0.N = fun i : S16384x1024.Idx => dyc m c (i 0) (i 1) := by
  refine (dats m 0 c).arrAt_eq_of_covers 10 _ (by decide +kernel) fun t hf y => ?_
  blk_simp
  obtain ⟨r, l, rfl⟩ := at2 y
  have e : ((View.whole main_v21_3).slice (win0_10.rect t)).emb (ix2 r l) = ix2 (row t r) l := by
    blk_ext [(idx t).2.2.2.2.2.2.2.2.2.2.1]
  rw [after0_10, (outs m c t).2.2.1, e]
  pointwise [k0_pay3, k0_pay2, k0_pay12]
  simp only [blk5]
  exact congrArg (· * gc m c (row t r) l) (down_eq m c t r l)

/-- Three stored column blocks, read at a place of the 3072 lanes. -/
theorem gates (c : Dev nD) (t : Fin cfg0.N) (r : Fin 512) (l : Fin 3072) :
    View.canon (Val := Elt Ideal) (s := S512x3072) (e := .bf16)
      [⟨Rect.unit ![0, 2048] ![512, 1024] inb_S512x3072_S512x1024_0_2048, zc m c t⟩,
      ⟨Rect.unit ![0, 1024] ![512, 1024] inb_S512x3072_S512x1024_0_1024, zb m c t⟩,
      ⟨Rect.unit ![0, 0] ![512, 1024] inb_S512x3072_S512x1024_0_0, za m c t⟩] (ix2 r l) = dz m c (row t r) l := by
  refine View.canon_apply_of_pieces (Val := Elt Ideal) (S := S512x3072) (e := .bf16)
    (fun y : S512x3072.Idx => dz m c (row t (y 0)) (y 1)) _ ?_ (ix2 r l) ?_
  · intro p hp x
    simp only [List.mem_cons, List.not_mem_nil, or_false] at hp
    rcases hp with rfl | rfl | rfl
    · obtain ⟨r, l, rfl⟩ := at2 x
      rw [show (Rect.unit ![0, 2048] ![512, 1024] inb_S512x3072_S512x1024_0_2048).emb (ix2 r l) =
        (ix2 r ⟨2048 + l.val, by omega⟩ : S512x3072.Idx) by blk_ext []]
      exact zc_eq m c t r l
    · obtain ⟨r, l, rfl⟩ := at2 x
      rw [show (Rect.unit ![0, 1024] ![512, 1024] inb_S512x3072_S512x1024_0_1024).emb (ix2 r l) =
        (ix2 r ⟨1024 + l.val, by omega⟩ : S512x3072.Idx) by blk_ext []]
      exact zb_eq m c t r l
    · obtain ⟨r, l, rfl⟩ := at2 x
      rw [show (Rect.unit ![0, 0] ![512, 1024] inb_S512x3072_S512x1024_0_0).emb (ix2 r l) =
        (ix2 r ⟨l.val, by omega⟩ : S512x3072.Idx) by blk_ext []]
      exact za_eq m c t r l
  · simp only [List.mem_cons, List.not_mem_nil, or_false, exists_eq_or_imp, exists_eq_left, Rect.mem_set_unit, Fin.forall_fin_two]
    have hr := r.isLt
    have hl := l.isLt
    change ((0 ≤ r.val ∧ r.val < 0 + 512) ∧ 2048 ≤ l.val ∧ l.val < 2048 + 1024) ∨
      ((0 ≤ r.val ∧ r.val < 0 + 512) ∧ 1024 ≤ l.val ∧ l.val < 1024 + 1024) ∨ (0 ≤ r.val ∧ r.val < 0 + 512) ∧ 0 ≤ l.val ∧ l.val < 0 + 1024
    omega

theorem final11 (c : Dev nD) : (dats m 0 c).arrAt 11 cfg0.N = fun i : S16384x3072.Idx => dz m c (i 0) (i 1) := by
  refine (dats m 0 c).arrAt_eq_of_covers 11 _ (by decide +kernel) fun t hf y => ?_
  blk_simp
  obtain ⟨r, l, rfl⟩ := at2 y
  have e : ((View.whole main_v21_4).slice (win0_11.rect t)).emb (ix2 r l) = ix2 (row t r) l := by
    blk_ext [(idx t).2.2.2.2.2.2.2.2.2.2.2]
  rw [after0_11, (outs m c t).2.2.2, e]
  exact gates m c t r l

/-- One row's share of the norm weight's gradient. -/
def dgRow (c : Dev nD) (l : Fin 1024) (r : Fin 16384) : EReal := Dxo m c (ix2 r l) * (mo m c r l * invRms (mo m c r))

/-- The norm weight's gradient. -/
def dg (c : Dev nD) (l : Fin 1024) : EReal := ∑ r : Fin 16384, dgRow m c l r

/-- What point `t` adds to it. -/
def term (c : Dev nD) (t : Fin cfg0.N) (j : S1x1024.Idx) : EReal := ∑ r : Fin 512, dgRow m c (j 1) (row t r)

theorem step12 (c : Dev nD) (t : Fin cfg0.N) (v : FVec Ideal S1x1024 .f32) (j : S1x1024.Idx) :
    k0_pay9 (F := Ideal) (iblk m c 0 t) (iblk m c 1 t) v j = v j + term m c t j := by
  obtain ⟨l, rfl⟩ : ∃ (l : Fin 1024), j = ix2 0 l := ⟨j 1, by rw [eq_ix2 j]; congr 1; exact Subsingleton.elim _ _⟩
  pointwise [k0_pay9, k0_pay8, k0_pay7, k0_pay6]
  simp only [blk0, blk1]
  rfl

/-- The last point. -/
def tlast : Fin cfg0.N := ⟨31, by decide⟩

theorem final12 (c : Dev nD) : (dats m 0 c).arrAt 12 cfg0.N = fun i : S1x1024.Idx => dg m c (i 1) := by
  refine (dats m 0 c).arrAt_eq_of_after_last 12 tlast (by decide +kernel) _ fun j => ?_
  blk_simp
  rw [after0_12, Pipeline.eq_sum_fin_of_reset_step_apply_last (fun n h => (outsAt0 m c n h).2.2.2.2.2.1) 32 (fun _ => 0)
    (term m c) (fun t h j => ?_) (fun t h j => ?_) (le_of_eq N_0) tlast rfl, zero_add]
  · exact Fin.sum_mul_add_congr (f := fun r : Fin 16384 => dgRow m c (j 1) r) (fun s k hl => rfl) (by rw [show cfg0.N = 32 from N_0])
  · rw [outsAt0_A m c t h]
    frame_open
    simp (disch := decide) only [↓ View.readCov_skip, ↓ View.readCov_cons_toLoadRect, ↓ View.readCov_fill]
    frame_out
    refine (step12 m c t _ j).trans ?_
    congr 1
    pointwise [k0_pay5]
  · rw [outsAt0_B m c t h]
    frame_out
    exact step12 m c t _ j

end Cert.MergeValue

end
-- ==== Proof.MergeRef.lean ====
module

public import proofs.«01_k».proof.Proof.Gen.RMergeIdeal.Read
public import proofs.«01_k».proof.Proof.Norm
public import Idealize.ShloMosaic.Lib.Pipeline.ValueKit

/-! What differentiating the merge of the three mixers, its product and its norm leaves, place by place. -/

@[expose] public section

set_option maxRecDepth 16384

noncomputable section

namespace Cert.MergeReference

open Cert.RMergeIdeal Cert.RMergeIdeal.Read Idealize.ShloMosaic Idealize.ShloMosaic.TcCoe Idealize.SL.Sem
open Cert.Reals (meanSq invRms normBack sig)

variable (x0 : (⟨S16384x1024, .f32⟩ : BufTy).Contents (Elt Ideal)) (x1 x2 x3 : (⟨S16384x1024, .bf16⟩ : BufTy).Contents (Elt Ideal))
  (x4 : (⟨S16384x3072, .bf16⟩ : BufTy).Contents (Elt Ideal)) (x5 : (⟨S1x1024, .f32⟩ : BufTy).Contents (Elt Ideal))
  (x6 : (⟨S1024x1024, .bf16⟩ : BufTy).Contents (Elt Ideal))

/-- A gate of the reference is a gate of the kernel. -/
theorem v6_eq (r : Fin 16384) (l : Fin 3072) : val_main_v6 (F := Ideal) x4 (ix2 r l) = sig (x4 (ix2 r l)) := by
  rw [Cert.Reals.sig_eq_logistic]
  pointwise [val_main_v6, val_main_v5, val_main_v4, val_main_v3, val_main_v2, val_main_v1, val_main_v0, val_main_cst, val_main_cst_0]
  rfl

def ga (r : Fin 16384) (l : Fin 1024) : EReal := sig (x4 (ix2 r ⟨l.val, by omega⟩))
def gb (r : Fin 16384) (l : Fin 1024) : EReal := sig (x4 (ix2 r ⟨1024 + l.val, by omega⟩))
def gc (r : Fin 16384) (l : Fin 1024) : EReal := sig (x4 (ix2 r ⟨2048 + l.val, by omega⟩))

/-- The row the forward lines hand to the norm. -/
def mo (r : Fin 16384) (l : Fin 1024) : EReal :=
  ∑ j : Fin 1024, (ga x4 r j * x1 (ix2 r j) + gb x4 r j * x2 (ix2 r j) + gc x4 r j * x3 (ix2 r j)) * x6 (ix2 j l)

theorem v26_eq (r : Fin 16384) (l : Fin 1024) : val_main_v26 (F := Ideal) x1 x2 x3 x4 x6 (ix2 r l) = mo x1 x2 x3 x4 x6 r l := by
  pointwise [val_main_v26, val_main_v25, val_main_v24, val_main_v23, val_main_v22, val_main_v21, val_main_v20, val_main_v19,
    val_main_v18, val_main_v17, val_main_v16, val_main_v15, val_main_v14, val_main_v13, val_main_v12, val_main_v11, val_main_v10]
  simp only [v6_eq]
  rfl

/-- The gradient at what the norm reads. -/
def dmo (r : Fin 16384) (l : Fin 1024) : EReal :=
  normBack (mo x1 x2 x3 x4 x6 r) (fun k => x0 (ix2 r k) * x5 (ix2 0 k)) l

theorem v60_eq (r : Fin 16384) (l : Fin 1024) : val_main_v60 (F := Ideal) x0 x1 x2 x3 x4 x5 x6 (ix2 r l) = dmo x0 x1 x2 x3 x4 x5 x6 r l := by
  rw [dmo, Cert.Reals.normBack_eq]
  pointwise [val_main_v60, val_main_v59, val_main_v58, val_main_v57, val_main_v56, val_main_v55, val_main_v54, val_main_v53,
    val_main_v52, val_main_v51, val_main_v50, val_main_v49, val_main_v48, val_main_v47, val_main_v46, val_main_v45, val_main_v37,
    val_main_v36, val_main_v35, val_main_v34, val_main_v33, val_main_v32, val_main_v31, val_main_v30, val_main_v29, val_main_v28,
    val_main_v27, val_main_cst_2, val_main_cst_3, val_main_cst_4, val_main_cst_5, val_main_cst_7, val_main_cst_8, val_main_cst_9]
  simp only [v26_eq, Finset.univ_unique, Finset.sum_singleton]
  rfl

/-- The gradient at the merged row. -/
def dm (r : Fin 16384) (l : Fin 1024) : EReal := ∑ j : Fin 1024, dmo x0 x1 x2 x3 x4 x5 x6 r j * x6 (ix2 l j)

theorem v61_eq (r : Fin 16384) (l : Fin 1024) : val_main_v61 (F := Ideal) x0 x1 x2 x3 x4 x5 x6 (ix2 r l) = dm x0 x1 x2 x3 x4 x5 x6 r l := by
  pointwise [val_main_v61, val_main_v25]
  simp only [v60_eq]
  rfl

theorem ref82 : val_main_v82 (F := Ideal) x0 x1 x2 x3 x4 x5 x6 = fun i => dmo x0 x1 x2 x3 x4 x5 x6 (i 0) (i 1) := by
  refine ext2 fun r l => ?_
  pointwise [val_main_v82]
  exact v60_eq x0 x1 x2 x3 x4 x5 x6 r l

theorem ref75 : val_main_v75 (F := Ideal) x0 x1 x2 x3 x4 x5 x6 = fun i => dm x0 x1 x2 x3 x4 x5 x6 (i 0) (i 1) * ga x4 (i 0) (i 1) := by
  refine ext2 fun r l => ?_
  pointwise [val_main_v75, val_main_v73, val_main_v12, val_main_v11, val_main_v10]
  simp only [v6_eq, v61_eq]
  exact mul_comm _ _

theorem ref69 : val_main_v69 (F := Ideal) x0 x1 x2 x3 x4 x5 x6 = fun i => dm x0 x1 x2 x3 x4 x5 x6 (i 0) (i 1) * gb x4 (i 0) (i 1) := by
  refine ext2 fun r l => ?_
  pointwise [val_main_v69, val_main_v67, val_main_v16, val_main_v15, val_main_v10]
  simp only [v6_eq, v61_eq]
  exact mul_comm _ _

theorem ref64 : val_main_v64 (F := Ideal) x0 x1 x2 x3 x4 x5 x6 = fun i => dm x0 x1 x2 x3 x4 x5 x6 (i 0) (i 1) * gc x4 (i 0) (i 1) := by
  refine ext2 fun r l => ?_
  pointwise [val_main_v64, val_main_v62, val_main_v21, val_main_v20, val_main_v10]
  simp only [v6_eq, v61_eq]
  exact mul_comm _ _

/-- Three shares laid beside each other, each padded with zeros over the other two's lanes, then added. -/
theorem blocks (n : ℕ) (hn : n < 3072) (f g h : Fin 1024 → EReal) :
    ((if p : (2 ≤ n / 1024 ∧ n / 1024 - 2 < 1) ∧ n % 1024 < 1024 then h ⟨n % 1024, p.2⟩ else 0) +
      (if p : (1 ≤ n / 1024 ∧ n / 1024 - 1 < 1) ∧ n % 1024 < 1024 then g ⟨n % 1024, p.2⟩ else 0) +
      if p : n / 1024 < 1 ∧ n % 1024 < 1024 then f ⟨n % 1024, p.2⟩ else 0) =
    if p : n < 1024 then f ⟨n, p⟩ else if p' : n < 2048 then g ⟨n - 1024, by omega⟩ else h ⟨n - 2048, by omega⟩ := by
  rcases lt_or_ge n 1024 with p | p
  · rw [dif_neg (by omega), dif_neg (by omega), dif_pos (by omega), dif_pos p, zero_add, zero_add]
    exact congrArg f (Fin.ext (Nat.mod_eq_of_lt p))
  rcases lt_or_ge n 2048 with p' | p'
  · rw [dif_neg (by omega), dif_pos (by omega), dif_neg (by omega), dif_neg (by omega), dif_pos p', zero_add, add_zero]
    exact congrArg g (Fin.ext (by show n % 1024 = n - 1024; omega))
  · rw [dif_pos (by omega), dif_neg (by omega), dif_neg (by omega), dif_neg (by omega), dif_neg (by omega), add_zero, add_zero]
    exact congrArg h (Fin.ext (by show n % 1024 = n - 2048; omega))

/-- What comes back to the gates before their own derivative: one mixer's share for each block of lanes. -/
def dg3 (r : Fin 16384) (l : Fin 3072) : EReal :=
  if h : l.val < 1024 then dm x0 x1 x2 x3 x4 x5 x6 r ⟨l.val, h⟩ * x1 (ix2 r ⟨l.val, h⟩)
  else if h' : l.val < 2048 then dm x0 x1 x2 x3 x4 x5 x6 r ⟨l.val - 1024, by omega⟩ * x2 (ix2 r ⟨l.val - 1024, by omega⟩)
  else dm x0 x1 x2 x3 x4 x5 x6 r ⟨l.val - 2048, by omega⟩ * x3 (ix2 r ⟨l.val - 2048, by omega⟩)

theorem v79_eq (r : Fin 16384) (l : Fin 3072) : val_main_v79 (F := Ideal) x0 x1 x2 x3 x4 x5 x6 (ix2 r l) = dg3 x0 x1 x2 x3 x4 x5 x6 r l := by
  pointwise [val_main_v79, val_main_v78, val_main_v77, val_main_v76, val_main_v74, val_main_v72, val_main_v71, val_main_v70,
    val_main_v68, val_main_v66, val_main_v65, val_main_v63, val_main_cst_10, val_main_cst_11, val_main_cst_12, val_main_v13,
    val_main_v17, val_main_v22]
  simp only [v61_eq]
  exact blocks l.val l.isLt (fun k => dm x0 x1 x2 x3 x4 x5 x6 r k * x1 (ix2 r k)) (fun k => dm x0 x1 x2 x3 x4 x5 x6 r k * x2 (ix2 r k))
    (fun k => dm x0 x1 x2 x3 x4 x5 x6 r k * x3 (ix2 r k))

theorem ref81 : val_main_v81 (F := Ideal) x0 x1 x2 x3 x4 x5 x6 = fun i =>
    dg3 x0 x1 x2 x3 x4 x5 x6 (i 0) (i 1) * sig (x4 i) * (1 - sig (x4 i)) := by
  refine ext2 fun r l => ?_
  pointwise [val_main_v81, val_main_v80, val_main_v9, val_main_v8, val_main_v7, val_main_cst_1]
  rw [v79_eq, v6_eq]
  exact (mul_assoc _ _ _).symm

theorem ref44 : val_main_v44 (F := Ideal) x0 x1 x2 x3 x4 x6 = fun i =>
    ∑ r : Fin 16384, x0 (ix2 r (i 1)) * (mo x1 x2 x3 x4 x6 r (i 1) * invRms (mo x1 x2 x3 x4 x6 r)) := by
  funext i
  obtain ⟨l, rfl⟩ : ∃ (l : Fin 1024), i = ix2 0 l := ⟨i 1, by rw [eq_ix2 i]; congr 1; exact Subsingleton.elim _ _⟩
  pointwise [val_main_v44, val_main_v43, val_main_v42, val_main_v39, val_main_v38, val_main_v34, val_main_v33, val_main_v32,
    val_main_v31, val_main_v30, val_main_v29, val_main_v28, val_main_v27, val_main_cst_2, val_main_cst_3, val_main_cst_4,
    val_main_cst_6]
  simp only [v26_eq]
  exact Finset.sum_congr rfl fun r _ => mul_comm _ _

end Cert.MergeReference

end
-- ==== Proof.MergeClaim.lean ====
module

public import proofs.«01_k».proof.Proof.MergeVal
public import proofs.«01_k».proof.Proof.MergeRef
public import proofs.«01_k».proof.Proof.Gen.RMergeIdeal.Run
public import proofs.«01_k».proof.Defs
public import Idealize.ShloMosaic.Lib.Quiescent

/-! The backward call of the merge of the three mixers and the derivative of its lines: the two runs beside each other. -/

@[expose] public section

set_option maxRecDepth 16384

noncomputable section

namespace Cert.MergeClaim

open Idealize.ShloMosaic Idealize.SL.Sem

/-- The reference runs and leaves its arguments. -/
theorem refFrame : Cert.quiescent_RMergeIdeal (hRMergeIdeal := Cert.RMergeIdeal.Gen.facts) := fun m ρ _ =>
  (θ_run _ _ _).mono (fun r h => ⟨fun c => (h c).2.2.2.2.2.2, sem_eq_zero_of_no_sems (by decide) r.2⟩)
    (Cert.RMergeIdeal.Value.run (F := Ideal) m ρ)

set_option maxHeartbeats 1600000 in
/-- Kernel and reference end with the same six results. -/
theorem algebraic : Cert.algebraic_KMergeIdeal_RMergeIdeal (hKMergeIdeal := Cert.KMergeIdeal.Gen.facts)
    (hRMergeIdeal := Cert.RMergeIdeal.Gen.facts) := by
  intro m g m' g' _ hag
  refine ⟨fun c i => MergeValue.dmo m c (i 0) (i 1), fun c i => MergeValue.dya m c (i 0) (i 1), fun c i => MergeValue.dyb m c (i 0) (i 1),
    fun c i => MergeValue.dyc m c (i 0) (i 1), fun c i => MergeValue.dz m c (i 0) (i 1), fun c i => MergeValue.dg m c (i 1), ?_, ?_⟩
  · refine (θ_run _ _ _).mono (fun r h c => ?_) (Cert.KMergeIdeal.Value.run_blocks (F := Ideal) m g)
    obtain ⟨h0, h1, h2, h3, h4, h5, ha⟩ := h c
    exact ⟨h0.trans (MergeValue.final7 m c), h1.trans (MergeValue.final8 m c), h2.trans (MergeValue.final9 m c),
      h3.trans (MergeValue.final10 m c), h4.trans (MergeValue.final11 m c), h5.trans (MergeValue.final12 m c), ha⟩
  · refine (θ_run _ _ _).mono (fun r h c => ?_) (Cert.RMergeIdeal.Value.run (F := Ideal) m' g')
    obtain ⟨h0, h1, h2, h3, h4, h5, ha⟩ := h c
    obtain ⟨e0, e1, e2, e3, e4, e5, e6⟩ := hag c
    refine ⟨h0.trans ?_, h1.trans ?_, h2.trans ?_, h3.trans ?_, h4.trans ?_, h5.trans ?_, ha⟩
    · rw [Cert.RMergeIdeal.Read.val_main_v82_eq, MergeReference.ref82, e0, e1, e2, e3, e4, e5, e6]
      rfl
    · rw [Cert.RMergeIdeal.Read.val_main_v75_eq, MergeReference.ref75, e0, e1, e2, e3, e4, e5, e6]
      rfl
    · rw [Cert.RMergeIdeal.Read.val_main_v69_eq, MergeReference.ref69, e0, e1, e2, e3, e4, e5, e6]
      rfl
    · rw [Cert.RMergeIdeal.Read.val_main_v64_eq, MergeReference.ref64, e0, e1, e2, e3, e4, e5, e6]
      rfl
    · rw [Cert.RMergeIdeal.Read.val_main_v81_eq, MergeReference.ref81, e0, e1, e2, e3, e4, e5, e6]
      refine ext2 fun r l => ?_
      show MergeReference.dg3 _ _ _ _ _ _ _ r l * _ * _ = MergeValue.dz m c r l
      rw [MergeReference.dg3, MergeValue.dz]
      split_ifs <;> rfl
    · rw [Cert.RMergeIdeal.Read.val_main_v44_eq, MergeReference.ref44, e0, e1, e2, e3, e4, e6]
      rfl

end Cert.MergeClaim

end
-- ==== Proof.Halo.lean ====
module

public import Idealize.ShloMosaic.Lib.Pipeline.ValueKit
public import Idealize.ShloMosaic.Lib.VecWindow

/-! Rows of an array read past its two ends, where there are zeros. -/

@[expose] public section

noncomputable section

namespace Cert.Halo

open Idealize.ShloMosaic

/-- The array's index type. -/
abbrev Rows : Type := (⟨2, ![16384, 1024]⟩ : Shape).Idx → EReal

/-- Row `n - 2` of the array, zero outside it. -/
def past (Z : Rows) (n : ℕ) (l : Fin 1024) : EReal := if h : 2 ≤ n ∧ n < 16386 then Z (ix2 ⟨n - 2, by omega⟩ l) else 0

theorem past_inside (Z : Rows) (n : ℕ) (l : Fin 1024) (r : Fin 16384) (h : r.val + 2 = n) : past Z n l = Z (ix2 r l) := by
  have hr : r.val < 16384 := r.isLt
  rw [past, dif_pos ⟨by omega, by omega⟩]
  congr 2
  exact Fin.ext (by show n - 2 = r.val; omega)

theorem past_outside (Z : Rows) (n : ℕ) (l : Fin 1024) (h : ¬(2 ≤ n ∧ n < 16386)) : past Z n l = 0 := dif_neg h

end Cert.Halo

end
-- ==== Proof.ConvVal.lean ====
module

public import proofs.«01_k».proof.Proof.Reals
public import proofs.«01_k».proof.Proof.Gen.KConvIdeal.Value
public import proofs.«01_k».proof.Proof.Halo
public import Idealize.ShloMosaic.Lib.Pipeline.ValueKit
public import Idealize.ShloMosaic.Lib.Pipeline.ReadBack
public import Idealize.ShloMosaic.Lib.VecWindow

/-! What the backward call of the short convolution leaves in its three results, place by place. -/

@[expose] public section

set_option maxRecDepth 16384

noncomputable section

namespace Cert.ConvValue

open Cert.KConvIdeal Cert.KConvIdeal.Gen Idealize.ShloMosaic Idealize.ShloMosaic.TcCoe Idealize.SL.Sem
open Idealize.ShloMosaic.Pipeline (Dat)
open Cert.Halo (past past_inside past_outside)

variable (m : (ℓ : Loc nD τ sig) → Buf (Elt Ideal) ℓ)

/-! ### The blocks a point reads -/

/-- Where each window stands at a point. -/
theorem idx : ∀ t : Fin cfg0.N, win0_0.index t = ![t.val, 0] ∧ win0_1.index t = ![t.val * 32 - 1, 0] ∧
    win0_2.index t = ![min (t.val * 32 + 32) 1023, 0] ∧ win0_3.index t = ![t.val, 0] ∧ win0_4.index t = ![t.val * 32 - 1, 0] ∧
    win0_5.index t = ![min (t.val * 32 + 32) 1023, 0] ∧ win0_6.index t = ![0, 0] ∧ win0_7.index t = ![t.val, 0] := by
  show ∀ t : Fin grid0.N, _
  decide +kernel

/-- Is the point the first one? -/
theorem first : ∀ t : Fin cfg0.N, Scalar.cmpi .eq (BitVec.ofNat 32 ((grid0.coords t) 0).val) 0#32 = if t.val = 0 then 1#1 else 0#1 :=
  (by decide +kernel : ∀ t : Fin grid0.N, Scalar.cmpi .eq (BitVec.ofNat 32 ((grid0.coords t) 0).val) 0#32 = if t.val = 0 then 1#1 else 0#1)
/-- Is it the last one? -/
theorem last : ∀ t : Fin cfg0.N, Scalar.cmpi .eq (BitVec.ofNat 32 ((grid0.coords t) 0).val) 31#32 = if t.val = 31 then 1#1 else 0#1 :=
  (by decide +kernel : ∀ t : Fin grid0.N, Scalar.cmpi .eq (BitVec.ofNat 32 ((grid0.coords t) 0).val) 31#32 = if t.val = 31 then 1#1 else 0#1)

/-- The arguments, as arrays of the launch. -/
abbrev D (c : Dev nD) : S16384x1024.Idx → EReal := m ((c : Thread nD τ).loc main_arg0)
abbrev Z (c : Dev nD) : S16384x1024.Idx → EReal := m ((c : Thread nD τ).loc main_arg1)
abbrev W (c : Dev nD) : S4x1024.Idx → EReal := m ((c : Thread nD τ).loc main_arg2)

theorem row_lt (t : Fin cfg0.N) (r : Fin 512) : t.val * 512 + r.val < 16384 := by
  have h : t.val < 32 := t.isLt
  omega

/-- Row `r` of point `t`'s block. -/
abbrev row (t : Fin cfg0.N) (r : Fin 512) : Fin 16384 := ⟨t.val * 512 + r.val, row_lt t r⟩

theorem blk0 (c : Dev nD) (t : Fin cfg0.N) (r : Fin 512) (l : Fin 1024) : iblk m c 0 t (ix2 r l) = D m c (ix2 (row t r) l) := by
  blk_simp [iblk]
  refine congrArg (D m c) ?_
  blk_ext [(idx t).1]

theorem blk3 (c : Dev nD) (t : Fin cfg0.N) (r : Fin 512) (l : Fin 1024) : iblk m c 3 t (ix2 r l) = Z m c (ix2 (row t r) l) := by
  blk_simp [iblk]
  refine congrArg (Z m c) ?_
  blk_ext [(idx t).2.2.2.1]

theorem blk6 (c : Dev nD) (t : Fin cfg0.N) (r : Fin 4) (l : Fin 1024) : iblk m c 6 t (ix2 r l) = W m c (ix2 r l) := by
  blk_simp [iblk]
  refine congrArg (W m c) ?_
  blk_ext [(idx t).2.2.2.2.2.2.1]

theorem before_lt (t : Fin cfg0.N) (r : Fin 16) : (t.val * 32 - 1) * 16 + r.val < 16384 := by
  have h : t.val < 32 := t.isLt
  omega
theorem after_lt (t : Fin cfg0.N) (r : Fin 16) : min (t.val * 32 + 32) 1023 * 16 + r.val < 16384 := by
  omega

theorem blk1 (c : Dev nD) (t : Fin cfg0.N) (r : Fin 16) (l : Fin 1024) : iblk m c 1 t (ix2 r l) = D m c (ix2 ⟨_, before_lt t r⟩ l) := by
  blk_simp [iblk]
  refine congrArg (D m c) ?_
  blk_ext [(idx t).2.1]
theorem blk2 (c : Dev nD) (t : Fin cfg0.N) (r : Fin 16) (l : Fin 1024) : iblk m c 2 t (ix2 r l) = D m c (ix2 ⟨_, after_lt t r⟩ l) := by
  blk_simp [iblk]
  refine congrArg (D m c) ?_
  blk_ext [(idx t).2.2.1]
theorem blk4 (c : Dev nD) (t : Fin cfg0.N) (r : Fin 16) (l : Fin 1024) : iblk m c 4 t (ix2 r l) = Z m c (ix2 ⟨_, before_lt t r⟩ l) := by
  blk_simp [iblk]
  refine congrArg (Z m c) ?_
  blk_ext [(idx t).2.2.2.2.1]
theorem blk5 (c : Dev nD) (t : Fin cfg0.N) (r : Fin 16) (l : Fin 1024) : iblk m c 5 t (ix2 r l) = Z m c (ix2 ⟨_, after_lt t r⟩ l) := by
  blk_simp [iblk]
  refine congrArg (Z m c) ?_
  blk_ext [(idx t).2.2.2.2.2.1]

/-! ### The block with its neighbouring rows -/

/-- A block `a` with the rows `b` before it and `d` behind it, all cut from one array. -/
theorem around (A : Cert.Halo.Rows) (t : Fin cfg0.N) (a : S512x1024.Idx → EReal) (b d : S16x1024.Idx → EReal)
    (ha : ∀ r l, a (ix2 r l) = A (ix2 (row t r) l)) (hb : ∀ r l, b (ix2 r l) = A (ix2 ⟨_, before_lt t r⟩ l))
    (hd : ∀ r l, d (ix2 r l) = A (ix2 ⟨_, after_lt t r⟩ l)) (q : ℕ) (hq : q < 516) (l : Fin 1024) :
    (if h : 14 + q < 16 then Scalar.select (Scalar.cmpi .eq (BitVec.ofNat 32 ((grid0.coords t) 0).val) 0#32) 0 (b (ix2 ⟨14 + q, h⟩ l))
      else if h' : 14 + q - 16 < 512 then a (ix2 ⟨14 + q - 16, h'⟩ l)
      else Scalar.select (Scalar.cmpi .eq (BitVec.ofNat 32 ((grid0.coords t) 0).val) 31#32) 0 (d (ix2 ⟨14 + q - 16 - 512, by omega⟩ l))) =
    past A (t.val * 512 + q) l := by
  have ht : t.val < 32 := t.isLt
  rw [first t, last t]
  by_cases h : 14 + q < 16
  · rw [dif_pos h]
    by_cases h0 : t.val = 0
    · rw [if_pos h0, past_outside _ _ _ (by omega)]
      rfl
    · rw [if_neg h0, past_inside A _ l ⟨_, before_lt t ⟨14 + q, h⟩⟩ (by show (t.val * 32 - 1) * 16 + (14 + q) + 2 = _; omega)]
      exact hb _ _
  · rw [dif_neg h]
    by_cases h' : 14 + q - 16 < 512
    · rw [dif_pos h', ha, past_inside A _ l (row t ⟨14 + q - 16, h'⟩) (by show t.val * 512 + (14 + q - 16) + 2 = _; omega)]
    · rw [dif_neg h']
      by_cases h0 : t.val = 31
      · rw [if_pos h0, past_outside _ _ _ (by omega)]
        rfl
      · rw [if_neg h0, past_inside A _ l ⟨_, after_lt t ⟨14 + q - 16 - 512, by omega⟩⟩
          (by show min (t.val * 32 + 32) 1023 * 16 + (14 + q - 16 - 512) + 2 = _; omega)]
        exact hd _ _

theorem pay6_eq (i : grid0.Coords) (a : FVec Ideal S512x1024 .f32) (b d : FVec Ideal S16x1024 .f32) (p : Fin 544) (l : Fin 1024) :
    k0_pay6 (F := Ideal) i a b d (ix2 p l) =
      if h : p.val < 16 then Scalar.select (Scalar.cmpi .eq (BitVec.ofNat 32 (i 0).val) 0#32) 0 (b (ix2 ⟨p.val, h⟩ l))
      else if h' : p.val - 16 < 512 then a (ix2 ⟨p.val - 16, h'⟩ l)
      else Scalar.select (Scalar.cmpi .eq (BitVec.ofNat 32 (i 0).val) 31#32) 0 (d (ix2 ⟨p.val - 16 - 512, by omega⟩ l)) := by
  pointwise [k0_pay6]
theorem pay7_eq (i : grid0.Coords) (a : FVec Ideal S512x1024 .bf16) (b d : FVec Ideal S16x1024 .bf16) (p : Fin 544) (l : Fin 1024) :
    k0_pay7 (F := Ideal) i a b d (ix2 p l) =
      if h : p.val < 16 then Scalar.select (Scalar.cmpi .eq (BitVec.ofNat 32 (i 0).val) 0#32) 0 (b (ix2 ⟨p.val, h⟩ l))
      else if h' : p.val - 16 < 512 then a (ix2 ⟨p.val - 16, h'⟩ l)
      else Scalar.select (Scalar.cmpi .eq (BitVec.ofNat 32 (i 0).val) 31#32) 0 (d (ix2 ⟨p.val - 16 - 512, by omega⟩ l)) := by
  pointwise [k0_pay7]

/-- The cotangent's rows around point `t`'s block. -/
abbrev dRows (c : Dev nD) (t : Fin cfg0.N) : FVec Ideal S544x1024 .f32 := k0_pay6 (grid0.coords t) (iblk m c 0 t) (iblk m c 1 t) (iblk m c 2 t)
/-- The convolved array's rows around point `t`'s block. -/
abbrev zRows (c : Dev nD) (t : Fin cfg0.N) : FVec Ideal S544x1024 .f32 := k0_pay7 (grid0.coords t) (iblk m c 3 t) (iblk m c 4 t) (iblk m c 5 t)

theorem dRows_eq (c : Dev nD) (t : Fin cfg0.N) (q : ℕ) (hq : q < 516) (p : Fin 544) (hp : p.val = 14 + q) (l : Fin 1024) :
    dRows m c t (ix2 p l) = past (D m c) (t.val * 512 + q) l := by
  have hlt : 14 + q < 544 := by omega
  have e : p = ⟨14 + q, hlt⟩ := Fin.ext hp
  rw [e]
  exact (pay6_eq _ _ _ _ _ l).trans (around (D m c) t _ _ _ (blk0 m c t) (blk1 m c t) (blk2 m c t) q hq l)
theorem zRows_eq (c : Dev nD) (t : Fin cfg0.N) (q : ℕ) (hq : q < 516) (p : Fin 544) (hp : p.val = 14 + q) (l : Fin 1024) :
    zRows m c t (ix2 p l) = past (Z m c) (t.val * 512 + q) l := by
  have hlt : 14 + q < 544 := by omega
  have e : p = ⟨14 + q, hlt⟩ := Fin.ext hp
  rw [e]
  exact (pay7_eq _ _ _ _ _ l).trans (around (Z m c) t _ _ _ (blk3 m c t) (blk4 m c t) (blk5 m c t) q hq l)

/-! ### The gradient at the convolved array -/

/-- The gradient at the convolved array: the cotangent's rows, shifted against the taps. -/
def dz (c : Dev nD) (r : Fin 16384) (l : Fin 1024) : EReal :=
  past (D m c) (r.val + 4) l * W m c (ix2 0 l) + past (D m c) (r.val + 3) l * W m c (ix2 1 l) +
    past (D m c) (r.val + 2) l * W m c (ix2 2 l) + past (D m c) (r.val + 1) l * W m c (ix2 3 l)

theorem out7 (c : Dev nD) (t : Fin cfg0.N) : (outsAt0 m c t.val t.isLt).1 =
    k0_pay3 (k0_pay11 (dRows m c t) (iblk m c 6 t) (k0_pay8 (grid0.coords t) (iblk m c 0 t) (iblk m c 1 t) (iblk m c 2 t) (iblk m c 6 t)))
      (k0_pay13 (dRows m c t)) (k0_pay14 (iblk m c 6 t)) := by
  by_cases h0 : t.val % 32 = 0
  · rw [outsAt0_A m c t h0]
    frame_out
  · rw [outsAt0_B m c t h0]
    frame_out

theorem pay3_eq (e : S544x1024.Idx → EReal) (i : grid0.Coords) (a : FVec Ideal S512x1024 .f32) (b d : FVec Ideal S16x1024 .f32)
    (w : S4x1024.Idx → EReal) (he : k0_pay6 (F := Ideal) i a b d = e) (r : Fin 512) (l : Fin 1024) :
    k0_pay3 (F := Ideal) (k0_pay11 e w (k0_pay8 i a b d w)) (k0_pay13 e) (k0_pay14 w) (ix2 r l) =
      e (ix2 ⟨(16 + r.val + 544 - 542) % 544, by omega⟩ l) * w (ix2 0 l) +
        e (ix2 ⟨(16 + r.val + 544 - 543) % 544, by omega⟩ l) * w (ix2 1 l) +
        e (ix2 ⟨16 + r.val, by omega⟩ l) * w (ix2 2 l) +
        e (ix2 ⟨(16 + r.val + 544 - 1) % 544, by omega⟩ l) * w (ix2 3 l) := by
  subst he
  pointwise [k0_pay3, k0_pay11, k0_pay8, k0_pay13, k0_pay14]

/-- What point `t` leaves in its block of the gradient. -/
theorem left7 (c : Dev nD) (t : Fin cfg0.N) (r : Fin 512) (l : Fin 1024) : (outsAt0 m c t.val t.isLt).1 (ix2 r l) = dz m c (row t r) l := by
  rw [out7]
  refine (pay3_eq (dRows m c t) _ _ _ _ _ rfl r l).trans ?_
  exact congrArg₂ (· + ·) (congrArg₂ (· + ·) (congrArg₂ (· + ·)
    (congrArg₂ (· * ·) (dRows_eq m c t (r.val + 4) (by omega) _ (by show (16 + r.val + 544 - 542) % 544 = _; omega) l) (blk6 m c t 0 l))
    (congrArg₂ (· * ·) (dRows_eq m c t (r.val + 3) (by omega) _ (by show (16 + r.val + 544 - 543) % 544 = _; omega) l) (blk6 m c t 1 l)))
    (congrArg₂ (· * ·) (dRows_eq m c t (r.val + 2) (by omega) _ (by show 16 + r.val = _; omega) l) (blk6 m c t 2 l)))
    (congrArg₂ (· * ·) (dRows_eq m c t (r.val + 1) (by omega) _ (by show (16 + r.val + 544 - 1) % 544 = _; omega) l) (blk6 m c t 3 l))

theorem final7 (c : Dev nD) : (dats m 0 c).arrAt 7 cfg0.N = fun i : S16384x1024.Idx => dz m c (i 0) (i 1) := by
  refine (dats m 0 c).arrAt_eq_of_covers 7 _ (by decide +kernel) fun t hf y => ?_
  blk_simp
  obtain ⟨r, l, rfl⟩ := at2 y
  have e : ((View.whole main_v0_0).slice (win0_7.rect t)).emb (ix2 r l) = ix2 (row t r) l := by
    blk_ext [(idx t).2.2.2.2.2.2.2]
  rw [after0_7, e]
  exact left7 m c t r l

/-! ### The gradients at the taps and at the bias -/

/-- One row's share of the gradient at tap `k`, and of the gradient at the bias. -/
def dwRow (c : Dev nD) (k : Fin 4) (l : Fin 1024) (r : Fin 16384) : EReal := D m c (ix2 r l) * past (Z m c) (r.val + k.val) l
def dbRow (c : Dev nD) (l : Fin 1024) (r : Fin 16384) : EReal := D m c (ix2 r l)

def dw (c : Dev nD) (k : Fin 4) (l : Fin 1024) : EReal := ∑ r : Fin 16384, dwRow m c k l r
def db (c : Dev nD) (l : Fin 1024) : EReal := ∑ r : Fin 16384, dbRow m c l r

/-- What point `t` adds to them. -/
def termW (c : Dev nD) (t : Fin cfg0.N) (j : S4x1024.Idx) : EReal := ∑ r : Fin 512, dwRow m c (j 0) (j 1) (row t r)
def termB (c : Dev nD) (t : Fin cfg0.N) (j : S1x1024.Idx) : EReal := ∑ r : Fin 512, dbRow m c (j 1) (row t r)

/-- A stored row is found where it was stored, and nowhere else. -/
theorem row_on (k : ℕ) (hk : k < 4) (inb) (p : FVec Ideal S1x1024 .f32) (L : List (View.Piece (Elt Ideal) S4x1024 .f32)) (l : Fin 1024) :
    View.canon ((⟨Rect.unit ![k, 0] ![1, 1024] inb, p⟩ : View.Piece (Elt Ideal) S4x1024 .f32) :: L) (ix2 ⟨k, hk⟩ l) = p (ix2 0 l) := by
  have e : (ix2 ⟨k, hk⟩ l : S4x1024.Idx) = (Rect.unit (s := S4x1024) ![k, 0] ![1, 1024] inb).emb (ix2 0 l) := by
    blk_ext []
  rw [e]
  exact View.canon_cons_emb (Val := Elt Ideal) (e := .f32) (Rect.unit (s := S4x1024) ![k, 0] ![1, 1024] inb) p L (ix2 0 l)
theorem row_off (k k' : ℕ) (hk : k < 4) (h : k ≠ k') (inb) (p : FVec Ideal S1x1024 .f32) (L : List (View.Piece (Elt Ideal) S4x1024 .f32))
    (l : Fin 1024) : View.canon ((⟨Rect.unit ![k', 0] ![1, 1024] inb, p⟩ : View.Piece (Elt Ideal) S4x1024 .f32) :: L) (ix2 ⟨k, hk⟩ l) =
      View.canon L (ix2 ⟨k, hk⟩ l) := by
  refine View.canon_cons_of_not_mem _ _ fun hm => h ?_
  have h0 := Rect.mem_set_unit (inb := inb).mp hm 0
  change k' ≤ k ∧ k < k' + 1 at h0
  omega

/-- Four rows stored one by one: each is found where it was stored. -/
theorem rows4 (p0 p1 p2 p3 : FVec Ideal S1x1024 .f32) (L : List (View.Piece (Elt Ideal) S4x1024 .f32)) (k : Fin 4) (l : Fin 1024) :
    View.canon ((⟨Rect.unit ![3, 0] ![1, 1024] inb_S4x1024_S1x1024_3_0, p3⟩ : View.Piece (Elt Ideal) S4x1024 .f32) ::
      ⟨Rect.unit ![2, 0] ![1, 1024] inb_S4x1024_S1x1024_2_0, p2⟩ :: ⟨Rect.unit ![1, 0] ![1, 1024] inb_S4x1024_S1x1024_1_0, p1⟩ ::
      ⟨Rect.unit ![0, 0] ![1, 1024] inb_S4x1024_S1x1024_0_0, p0⟩ :: L) (ix2 k l) = (![p0, p1, p2, p3] k) (ix2 0 l) := by
  obtain ⟨k, hk⟩ := k
  match k, hk with
  | 0, hk =>
    rw [row_off 0 3 hk (by decide), row_off 0 2 hk (by decide), row_off 0 1 hk (by decide), row_on 0 hk]
    rfl
  | 1, hk =>
    rw [row_off 1 3 hk (by decide), row_off 1 2 hk (by decide), row_on 1 hk]
    rfl
  | 2, hk =>
    rw [row_off 2 3 hk (by decide), row_on 2 hk]
    rfl
  | 3, hk =>
    rw [row_on 3 hk]
    rfl

/-- The row that point `t` adds at each tap. -/
theorem stepW0 (c : Dev nD) (t : Fin cfg0.N) (v : FVec Ideal S1x1024 .f32) (l : Fin 1024) :
    k0_pay9 (zRows m c t) (iblk m c 0 t) v (ix2 0 l) = (v (ix2 0 l) + termW m c t (ix2 0 l) : EReal) := by
  pointwise [k0_pay9]
  refine congrArg (_ + ·) (Finset.sum_congr rfl fun r _ => congrArg₂ (· * ·) (blk0 m c t r l)
    (zRows_eq m c t r.val (by omega) _ (by show (16 + r.val + 544 - 2) % 544 = _; omega) l))
theorem stepW1 (c : Dev nD) (t : Fin cfg0.N) (v : FVec Ideal S1x1024 .f32) (l : Fin 1024) :
    k0_pay10 (zRows m c t) (iblk m c 0 t) v (ix2 0 l) = (v (ix2 0 l) + termW m c t (ix2 1 l) : EReal) := by
  pointwise [k0_pay10]
  refine congrArg (_ + ·) (Finset.sum_congr rfl fun r _ => congrArg₂ (· * ·) (blk0 m c t r l)
    (zRows_eq m c t (r.val + 1) (by omega) _ (by show (16 + r.val + 544 - 1) % 544 = _; omega) l))
theorem stepW2 (c : Dev nD) (t : Fin cfg0.N) (v : FVec Ideal S1x1024 .f32) (l : Fin 1024) :
    k0_pay12 (zRows m c t) (iblk m c 0 t) v (ix2 0 l) = (v (ix2 0 l) + termW m c t (ix2 2 l) : EReal) := by
  pointwise [k0_pay12]
  refine congrArg (_ + ·) (Finset.sum_congr rfl fun r _ => congrArg₂ (· * ·) (blk0 m c t r l)
    (zRows_eq m c t (r.val + 2) (by omega) _ (by show 16 + r.val = _; omega) l))
theorem stepW3 (c : Dev nD) (t : Fin cfg0.N) (v : FVec Ideal S1x1024 .f32) (l : Fin 1024) :
    k0_pay1 (zRows m c t) (iblk m c 0 t) v (ix2 0 l) = (v (ix2 0 l) + termW m c t (ix2 3 l) : EReal) := by
  pointwise [k0_pay1]
  refine congrArg (_ + ·) (Finset.sum_congr rfl fun r _ => congrArg₂ (· * ·) (blk0 m c t r l)
    (zRows_eq m c t (r.val + 3) (by omega) _ (by show (16 + r.val + 544 - 543) % 544 = _; omega) l))

/-- All four together. -/
theorem stepW (c : Dev nD) (t : Fin cfg0.N) (v0 v1 v2 v3 : FVec Ideal S1x1024 .f32) (k : Fin 4) (l : Fin 1024) :
    (![k0_pay9 (zRows m c t) (iblk m c 0 t) v0, k0_pay10 (zRows m c t) (iblk m c 0 t) v1, k0_pay12 (zRows m c t) (iblk m c 0 t) v2,
      k0_pay1 (zRows m c t) (iblk m c 0 t) v3] k) (ix2 0 l) = ((![v0, v1, v2, v3] k) (ix2 0 l) + termW m c t (ix2 k l) : EReal) := by
  fin_cases k
  · exact stepW0 m c t v0 l
  · exact stepW1 m c t v1 l
  · exact stepW2 m c t v2 l
  · exact stepW3 m c t v3 l

theorem ld_row (X : S4x1024.Idx → EReal) (k : ℕ) (hk : k < 4) (inb) (l : Fin 1024) :
    View.ld (Val := Elt Ideal) (e' := .f32) X (Rect.unit (s := S4x1024) ![k, 0] ![1, 1024] inb) (ix2 0 l) = X (ix2 ⟨k, hk⟩ l) :=
  View.ld_unit_apply_of (S := S4x1024) (Val := Elt Ideal) (e := .f32) X ![k, 0] ![1, 1024] inb (ix2 0 l) (ix2 ⟨k, hk⟩ l)
    (Fin.forall_fin_two.mpr ⟨rfl, (Nat.zero_add _).symm⟩)
theorem load4 (X : S4x1024.Idx → EReal) (k : Fin 4) (l : Fin 1024) :
    (![View.ld (Val := Elt Ideal) (e' := .f32) X (Rect.unit ![0, 0] ![1, 1024] inb_S4x1024_S1x1024_0_0),
      View.ld (Val := Elt Ideal) (e' := .f32) X (Rect.unit ![1, 0] ![1, 1024] inb_S4x1024_S1x1024_1_0),
      View.ld (Val := Elt Ideal) (e' := .f32) X (Rect.unit ![2, 0] ![1, 1024] inb_S4x1024_S1x1024_2_0),
      View.ld (Val := Elt Ideal) (e' := .f32) X (Rect.unit ![3, 0] ![1, 1024] inb_S4x1024_S1x1024_3_0)] k) (ix2 0 l) = X (ix2 k l) := by
  obtain ⟨k, hk⟩ := k
  match k, hk with
  | 0, hk => exact ld_row X 0 hk _ l
  | 1, hk => exact ld_row X 1 hk _ l
  | 2, hk => exact ld_row X 2 hk _ l
  | 3, hk => exact ld_row X 3 hk _ l

/-- The last point. -/
def tlast : Fin cfg0.N := ⟨31, by decide⟩

theorem final8 (c : Dev nD) : (dats m 0 c).arrAt 8 cfg0.N = fun i : S4x1024.Idx => dw m c (i 0) (i 1) := by
  refine (dats m 0 c).arrAt_eq_of_after_last 8 tlast (by decide +kernel) _ fun j => ?_
  blk_simp
  rw [after0_8, Pipeline.eq_sum_fin_of_reset_step_apply_last (fun n h => (outsAt0 m c n h).2.1) 32 (fun _ => 0)
    (termW m c) (fun t h j => ?_) (fun t h j => ?_) (le_of_eq N_0) tlast rfl, zero_add]
  · exact Fin.sum_mul_add_congr (f := fun r : Fin 16384 => dwRow m c (j 0) (j 1) r) (fun s k hl => rfl) (by rw [show cfg0.N = 32 from N_0])
  · obtain ⟨k, l, rfl⟩ := at2 j
    rw [outsAt0_A m c t h]
    frame_open
    simp (disch := decide) only [↓ View.readCov_skip, ↓ View.readCov_cons_toLoadRect, ↓ View.readCov_fill]
    frame_out
    refine (rows4 _ _ _ _ _ k l).trans ((stepW m c t _ _ _ _ k l).trans ?_)
    rw [load4]
    congr 1
    pointwise [k0_pay4]
  · obtain ⟨k, l, rfl⟩ := at2 j
    rw [outsAt0_B m c t h]
    frame_out
    refine (rows4 _ _ _ _ _ k l).trans ((stepW m c t _ _ _ _ k l).trans ?_)
    rw [load4]

theorem stepB (c : Dev nD) (t : Fin cfg0.N) (v : FVec Ideal S1x1024 .f32) (j : S1x1024.Idx) :
    k0_pay2 (F := Ideal) (iblk m c 0 t) v j = v j + termB m c t j := by
  obtain ⟨l, rfl⟩ : ∃ (l : Fin 1024), j = ix2 0 l := ⟨j 1, by rw [eq_ix2 j]; congr 1; exact Subsingleton.elim _ _⟩
  pointwise [k0_pay2]
  simp only [blk0]
  rfl

theorem final9 (c : Dev nD) : (dats m 0 c).arrAt 9 cfg0.N = fun i : S1x1024.Idx => db m c (i 1) := by
  refine (dats m 0 c).arrAt_eq_of_after_last 9 tlast (by decide +kernel) _ fun j => ?_
  blk_simp
  rw [after0_9, Pipeline.eq_sum_fin_of_reset_step_apply_last (fun n h => (outsAt0 m c n h).2.2) 32 (fun _ => 0)
    (termB m c) (fun t h j => ?_) (fun t h j => ?_) (le_of_eq N_0) tlast rfl, zero_add]
  · exact Fin.sum_mul_add_congr (f := fun r : Fin 16384 => dbRow m c (j 1) r) (fun s k hl => rfl) (by rw [show cfg0.N = 32 from N_0])
  · rw [outsAt0_A m c t h]
    frame_open
    simp (disch := decide) only [↓ View.readCov_skip, ↓ View.readCov_cons_toLoadRect, ↓ View.readCov_fill]
    frame_out
    refine (stepB m c t _ j).trans ?_
    congr 1
    pointwise [k0_pay5]
  · rw [outsAt0_B m c t h]
    frame_out
    exact stepB m c t _ j

end Cert.ConvValue

end
-- ==== Proof.ConvRef.lean ====
module

public import proofs.«01_k».proof.Proof.Reals
public import proofs.«01_k».proof.Proof.Gen.RConvIdeal.Read
public import proofs.«01_k».proof.Proof.Halo
public import Idealize.ShloMosaic.Lib.Pipeline.ValueKit

/-! What differentiating the short convolution's lines leaves, place by place. -/

@[expose] public section

set_option maxRecDepth 16384

noncomputable section

namespace Cert.ConvReference

open Cert.RConvIdeal Cert.RConvIdeal.Read Idealize.ShloMosaic Idealize.ShloMosaic.TcCoe Idealize.SL.Sem
open Cert.Halo (past past_inside past_outside)

variable (x0 : (⟨S16384x1024, .f32⟩ : BufTy).Contents (Elt Ideal)) (x1 : (⟨S16384x1024, .bf16⟩ : BufTy).Contents (Elt Ideal))
  (x2 : (⟨S4x1024, .f32⟩ : BufTy).Contents (Elt Ideal))

/-- The forward lines' padded array. -/
theorem v4_eq (p : Fin 16387) (l : Fin 1024) : val_main_v4 (F := Ideal) x1 (ix2 p l) = past x1 p.val l := by
  pointwise [val_main_v4, val_main_v3, val_main_v2, val_main_v1, val_main_cst_0, val_main_cst_1]
  rw [past]
  by_cases h : p.val < 2
  · rw [dif_pos h, dif_neg (by omega)]
  · by_cases h' : p.val - 2 < 16384
    · rw [dif_neg h, dif_pos h', dif_pos ⟨by omega, by omega⟩]
    · rw [dif_neg h, dif_neg h', dif_neg (by omega)]

/-- One tap's share of the padded gradient. -/
theorem tap (X : Cert.Halo.Rows) (w : EReal) (k p n : ℕ) (hn : n + k = p + 2) (l : Fin 1024) (y : EReal) (P : Prop) [Decidable P]
    (hP : P ↔ k ≤ p ∧ p - k < 16384) (f : P → EReal) (hf : ∀ h (hb : p - k < 16384), f h = X (ix2 ⟨p - k, hb⟩ l) * w) :
    (if h : P then f h else 0) = past X n l * w := by
  by_cases h : P
  · obtain ⟨h1, h2⟩ := hP.mp h
    rw [dif_pos h, hf h h2, past_inside X n l ⟨p - k, h2⟩ (by show p - k + 2 = n; omega)]
  · rw [dif_neg h, past_outside X n l (fun hh => h (hP.mpr ⟨by omega, by omega⟩)), zero_mul]

/-- The gradient at the convolved array. -/
def dz (r : Fin 16384) (l : Fin 1024) : EReal :=
  past x0 (r.val + 1) l * x2 (ix2 3 l) + past x0 (r.val + 2) l * x2 (ix2 2 l) + past x0 (r.val + 3) l * x2 (ix2 1 l) +
    past x0 (r.val + 4) l * x2 (ix2 0 l)

theorem v80_eq (r : Fin 16384) (p : Fin 16387) (hp : p.val = 2 + r.val) (l : Fin 1024) :
    val_main_v80 (F := Ideal) x0 x2 (ix2 p l) = dz x0 x2 r l := by
  pointwise [val_main_v80, val_main_v79, val_main_cst_20, val_main_v74, val_main_v69, val_main_v68, val_main_cst_16, val_main_v63,
    val_main_v58, val_main_v57, val_main_cst_12, val_main_v52, val_main_v47, val_main_cst_8, val_main_v43, val_main_v36,
    val_main_v42, val_main_v51, val_main_v62, val_main_v73, val_main_v30, val_main_v29, val_main_v28, val_main_v23, val_main_v22,
    val_main_v21, val_main_v16, val_main_v15, val_main_v14, val_main_v10, val_main_v9, val_main_v8]
  exact congrArg₂ (· + ·) (congrArg₂ (· + ·) (congrArg₂ (· + ·)
    (tap x0 _ 3 p.val (r.val + 1) (by omega) l 0 _ Iff.rfl _ (fun _ _ => rfl)) (tap x0 _ 2 p.val (r.val + 2) (by omega) l 0 _ Iff.rfl _ (fun _ _ => rfl)))
    (tap x0 _ 1 p.val (r.val + 3) (by omega) l 0 _ Iff.rfl _ (fun _ _ => rfl)))
    (tap x0 _ 0 p.val (r.val + 4) (by omega) l 0 _ (by omega) _ (fun _ _ => rfl))

theorem ref84 : val_main_v84 (F := Ideal) x0 x2 = fun i => dz x0 x2 (i 0) (i 1) := by
  refine ext2 fun r l => ?_
  pointwise [val_main_v84, val_main_v82]
  exact v80_eq x0 x2 r _ rfl l

/-- The gradients at the taps and at the bias. -/
def dw (k : Fin 4) (l : Fin 1024) : EReal := ∑ r : Fin 16384, past x1 (k.val + r.val) l * x0 (ix2 r l)

theorem ref78 : val_main_v78 (F := Ideal) x0 x1 = fun i => dw x0 x1 (i 0) (i 1) := by
  refine ext2 fun p l => ?_
  change _ = dw x0 x1 p l
  pointwise [val_main_v78, val_main_v77, val_main_cst_19, val_main_v76, val_main_v75, val_main_cst_18, val_main_v72, val_main_v71,
    val_main_cst_17, val_main_v70, val_main_v67, val_main_v66, val_main_cst_15, val_main_v65, val_main_v64, val_main_cst_14,
    val_main_v61, val_main_v60, val_main_cst_13, val_main_v59, val_main_v56, val_main_v55, val_main_cst_11, val_main_v54,
    val_main_v53, val_main_cst_10, val_main_v50, val_main_v49, val_main_cst_9, val_main_v48, val_main_v46, val_main_cst_7,
    val_main_v45, val_main_v44, val_main_cst_6, val_main_v41, val_main_v40, val_main_cst_5, val_main_v39, val_main_v36,
    val_main_v27, val_main_v20, val_main_v13, val_main_v7]
  simp only [v4_eq, Finset.univ_unique, Finset.sum_singleton]
  obtain ⟨k, hk⟩ := p
  match k, hk with
  | 0, hk => simp [dw]
  | 1, hk => simp [dw]
  | 2, hk => simp [dw]
  | 3, hk => simp [dw]

def db (l : Fin 1024) : EReal := ∑ r : Fin 16384, x0 (ix2 r l)

theorem ref38 : val_main_v38 (F := Ideal) x0 = fun i => db x0 (i 1) := by
  funext i
  obtain ⟨l, rfl⟩ : ∃ (l : Fin 1024), i = ix2 0 l := ⟨i 1, by rw [eq_ix2 i]; congr 1; exact Subsingleton.elim _ _⟩
  pointwise [val_main_v38, val_main_v37, val_main_cst_4]
  rfl

end Cert.ConvReference

end
-- ==== Proof.ConvClaim.lean ====
module

public import proofs.«01_k».proof.Proof.ConvVal
public import proofs.«01_k».proof.Proof.ConvRef
public import proofs.«01_k».proof.Proof.Gen.RConvIdeal.Run
public import proofs.«01_k».proof.Defs
public import Idealize.ShloMosaic.Lib.Quiescent

/-! The backward call of the short convolution and the derivative of its lines: the two runs beside each other. -/

@[expose] public section

set_option maxRecDepth 16384

noncomputable section

namespace Cert.ConvClaim

open Idealize.ShloMosaic Idealize.SL.Sem

/-- The reference runs and leaves its arguments. -/
theorem refFrame : Cert.quiescent_RConvIdeal (hRConvIdeal := Cert.RConvIdeal.Gen.facts) := fun m ρ _ =>
  (θ_run _ _ _).mono (fun r h => ⟨fun c => (h c).2.2.2, sem_eq_zero_of_no_sems (by decide) r.2⟩)
    (Cert.RConvIdeal.Value.run (F := Ideal) m ρ)

/-- The taps are summed in opposite orders. -/
theorem swap (a b c d : EReal) : a + b + c + d = d + c + b + a := by
  rw [add_comm, add_comm (a + b), add_comm a]
  simp only [add_assoc]

/-- Kernel and reference end with the same three results. -/
theorem algebraic : Cert.algebraic_KConvIdeal_RConvIdeal (hKConvIdeal := Cert.KConvIdeal.Gen.facts)
    (hRConvIdeal := Cert.RConvIdeal.Gen.facts) := by
  intro m g m' g' _ hag
  refine ⟨fun c i => ConvValue.dz m c (i 0) (i 1), fun c i => ConvValue.dw m c (i 0) (i 1), fun c i => ConvValue.db m c (i 1), ?_, ?_⟩
  · refine (θ_run _ _ _).mono (fun r h c => ?_) (Cert.KConvIdeal.Value.run_blocks (F := Ideal) m g)
    obtain ⟨h0, h1, h2, ha⟩ := h c
    exact ⟨h0.trans (ConvValue.final7 m c), h1.trans (ConvValue.final8 m c), h2.trans (ConvValue.final9 m c), ha⟩
  · refine (θ_run _ _ _).mono (fun r h c => ?_) (Cert.RConvIdeal.Value.run (F := Ideal) m' g')
    obtain ⟨h0, h1, h2, ha⟩ := h c
    obtain ⟨e0, e1, e2⟩ := hag c
    refine ⟨h0.trans ?_, h1.trans ?_, h2.trans ?_, ha⟩
    · rw [Cert.RConvIdeal.Read.val_main_v84_eq, ConvReference.ref84, e0, e2]
      funext i
      exact swap _ _ _ _
    · rw [Cert.RConvIdeal.Read.val_main_v78_eq, ConvReference.ref78, e0, e1]
      funext i
      exact Finset.sum_congr rfl fun r _ => by rw [mul_comm, add_comm (i 0).val]; rfl
    · rw [Cert.RConvIdeal.Read.val_main_v38_eq, ConvReference.ref38, e0]
      rfl

end Cert.ConvClaim

end
-- ==== Proof.BcGrad.lean ====
module

public import proofs.«01_k».proof.Proof.Norm

/-! The smooth gate and the row's centred normalisation, with their gradients, over the extended reals: what the kernel
writes and what the chain rule leaves agree where the arguments are reals. -/

@[expose] public section

noncomputable section

namespace Cert.BcGrad

open Idealize.ShloMosaic
open Cert.Reals (word_half word_neg_half word_eps)

/-! ### The constants -/

theorem word_k : Ideal.ofBits .f32 1061962282#32 = ((6693141 / 8388608 : ℝ) : EReal) := by
  simp [Ideal.ofBits, Ideal.ieee, -EReal.coe_mul]; norm_num
theorem word_c : Ideal.ofBits .f32 1027024659#32 = ((12003091 / 268435456 : ℝ) : EReal) := by
  simp [Ideal.ofBits, Ideal.ieee, -EReal.coe_mul]; norm_num
theorem word_512 : Ideal.ofBits .f32 1140850688#32 = ((512 : ℝ) : EReal) := by
  simp [Ideal.ofBits, Ideal.ieee, -EReal.coe_mul]; norm_num
theorem word_3 : Ideal.ofBits .f32 1077936128#32 = ((3 : ℝ) : EReal) := by
  simp [Ideal.ofBits, Ideal.ieee, -EReal.coe_mul]; norm_num
theorem word_2 : Ideal.ofBits .f32 1073741824#32 = ((2 : ℝ) : EReal) := by
  simp [Ideal.ofBits, Ideal.ieee, -EReal.coe_mul]; norm_num

/-- The kernel's two products of constants. -/
abbrev kc : EReal := ((80338380498831 / 2251799813685248 : ℝ) : EReal)
abbrev kc3 : EReal := ((241015141496493 / 2251799813685248 : ℝ) : EReal)

/-! ### The smooth gate -/

/-- The gate's hyperbolic tangent, as the kernel writes it. -/
def th (u : EReal) : EReal := Ideal.tanh (u * (Ideal.ofBits .f32 1061962282#32 + kc * (u * u)))
/-- The gate and its derivative, as the kernel writes them. -/
def gelu (u : EReal) : EReal := Ideal.ofBits .f32 1056964608#32 * u * (1 + th u)
def geluD (u : EReal) : EReal :=
  Ideal.ofBits .f32 1056964608#32 * (1 + th u) +
    Ideal.ofBits .f32 1056964608#32 * u * (1 - th u * th u) * (Ideal.ofBits .f32 1061962282#32 + kc3 * (u * u))

/-- The tangent, the gate and what comes back through it, as differentiating the plain formula leaves them. -/
def th' (u : EReal) : EReal := Ideal.tanh (Ideal.ofBits .f32 1061962282#32 * (u + Ideal.ofBits .f32 1027024659#32 * (u * u * u)))
def gelu' (u : EReal) : EReal := u * (Ideal.ofBits .f32 1056964608#32 * (1 + th' u))
def geluBack (u d : EReal) : EReal :=
  d * (Ideal.ofBits .f32 1056964608#32 * (1 + th' u)) +
      Ideal.ofBits .f32 1061962282#32 * (Ideal.ofBits .f32 1056964608#32 * (u * d) * ((1 + th' u) * (1 - th' u))) +
    Ideal.ofBits .f32 1027024659#32 *
        (Ideal.ofBits .f32 1061962282#32 * (Ideal.ofBits .f32 1056964608#32 * (u * d) * ((1 + th' u) * (1 - th' u)))) *
      (Ideal.ofBits .f32 1077936128#32 * (u * u))

/-- The tangent of a real is a real, and the same either way. -/
theorem th_real (u : ℝ) : ∃ t : ℝ, th u = t ∧ th' u = t := by
  refine ⟨Real.tanh (u * (6693141 / 8388608 + 80338380498831 / 2251799813685248 * (u * u))), ?_, ?_⟩
  · unfold th
    rw [word_k, ← Ideal.tanh_coe]
    push_cast
    rfl
  · unfold th'
    rw [word_k, word_c, ← Ideal.tanh_coe]
    norm_cast
    congr 2
    ring

theorem gelu_real (u : ℝ) : ∃ g : ℝ, gelu u = g := by
  obtain ⟨t, ht, -⟩ := th_real u
  refine ⟨1 / 2 * u * (1 + t), ?_⟩
  unfold gelu
  rw [ht, word_half]
  push_cast
  rfl

theorem gelu_eq (u : ℝ) : gelu' u = gelu u := by
  obtain ⟨t, ht, ht'⟩ := th_real u
  unfold gelu gelu'
  rw [ht, ht', word_half]
  norm_cast
  ring

/-- A real cotangent comes back through the gate multiplied by its derivative. -/
theorem geluBack_eq (u d : ℝ) : geluBack u d = d * geluD u := by
  obtain ⟨t, ht, ht'⟩ := th_real u
  unfold geluBack geluD
  rw [ht, ht', word_half, word_k, word_c, word_3]
  norm_cast
  ring

theorem geluD_real (u : ℝ) : ∃ g : ℝ, geluD u = g := by
  obtain ⟨t, ht, -⟩ := th_real u
  refine ⟨1 / 2 * (1 + t) + 1 / 2 * u * (1 - t * t) * (6693141 / 8388608 + 241015141496493 / 2251799813685248 * (u * u)), ?_⟩
  unfold geluD
  rw [ht, word_half, word_k]
  push_cast
  rfl

/-! ### The row's normalisation -/

def mean (f : Fin 512 → EReal) : EReal := Ideal.div (∑ x, f x) (Ideal.ofBits .f32 1140850688#32)
def cen (f : Fin 512 → EReal) (l : Fin 512) : EReal := f l - mean f
def var (f : Fin 512 → EReal) : EReal :=
  Ideal.div (∑ x, cen f x * cen f x) (Ideal.ofBits .f32 1140850688#32) + Ideal.ofBits .f32 897988541#32
def rs (f : Fin 512 → EReal) : EReal := Ideal.rsqrt (var f)
def nor (f : Fin 512 → EReal) (l : Fin 512) : EReal := cen f l * rs f

/-- What comes back to the row, as the kernel writes it. -/
def lnBack (f d : Fin 512 → EReal) (l : Fin 512) : EReal :=
  rs f * (d l - mean d - nor f l * mean fun x => d x * nor f x)

/-- What differentiating the variance brings to it, and the whole as the chain rule leaves it. -/
def varBack (f d : Fin 512 → EReal) : EReal :=
  Ideal.div ((∑ x, cen f x * d x) * (Ideal.ofBits .f32 3204448256#32 * Ideal.div (rs f) (var f))) (Ideal.ofBits .f32 1140850688#32)
def lnBack' (f d : Fin 512 → EReal) (l : Fin 512) : EReal :=
  d l * rs f + varBack f d * (Ideal.ofBits .f32 1073741824#32 * cen f l) +
    Ideal.div ((∑ x, -(d x * rs f)) + ∑ x, -(varBack f d * (Ideal.ofBits .f32 1073741824#32 * cen f x)))
      (Ideal.ofBits .f32 1140850688#32)

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

section

variable (f : Fin 512 → ℝ)

theorem mean_coe : mean (fun x => (f x : EReal)) = ((∑ x, f x) * (1 / 512) : ℝ) := by
  unfold mean
  rw [word_512, Ideal.div_coe (by norm_num), coe_sum]
  push_cast
  rfl

theorem cen_coe (l : Fin 512) : cen (fun x => (f x : EReal)) l = (f l - (∑ x, f x) * (1 / 512) : ℝ) := by
  unfold cen
  rw [mean_coe]
  push_cast
  rfl

theorem rs_coe : ∃ v : ℝ, 0 < v ∧ var (fun x => (f x : EReal)) = v ∧ rs (fun x => (f x : EReal)) = ((√v)⁻¹ : ℝ) := by
  obtain ⟨e, he, hw⟩ := word_eps
  have hv : var (fun x => (f x : EReal)) = ((∑ x, (f x - (∑ x, f x) * (1 / 512)) * (f x - (∑ x, f x) * (1 / 512))) * (1 / 512) + e : ℝ) := by
    unfold var
    rw [word_512, Ideal.div_coe (by norm_num), hw]
    simp only [cen_coe, ← EReal.coe_mul]
    rw [coe_sum]
    push_cast
    rfl
  have hp : (0 : ℝ) < (∑ x, (f x - (∑ x, f x) * (1 / 512)) * (f x - (∑ x, f x) * (1 / 512))) * (1 / 512) + e := by
    have : (0 : ℝ) ≤ ∑ x, (f x - (∑ x, f x) * (1 / 512)) * (f x - (∑ x, f x) * (1 / 512)) :=
      Finset.sum_nonneg fun x _ => _root_.mul_self_nonneg _
    positivity
  refine ⟨_, hp, hv, ?_⟩
  unfold rs
  rw [hv, Ideal.rsqrt_coe, if_neg (not_lt.mpr hp.le), if_neg hp.ne']

/-- The two ways of writing what comes back to a real row agree. -/
theorem lnBack_coe (d : Fin 512 → ℝ) (l : Fin 512) :
    ∃ q : ℝ, lnBack (fun x => (f x : EReal)) (fun x => (d x : EReal)) l = q ∧
      lnBack' (fun x => (f x : EReal)) (fun x => (d x : EReal)) l = q := by
  obtain ⟨v, hv, ev, er⟩ := rs_coe f
  have hr : (√v)⁻¹ * (√v)⁻¹ = 1 / v := by rw [← mul_inv, Real.mul_self_sqrt hv.le, one_div]
  set r : ℝ := (√v)⁻¹
  set g : Fin 512 → ℝ := fun x => f x - (∑ x, f x) * (1 / 512) with hg
  have ec : ∀ x, cen (fun x => (f x : EReal)) x = (g x : EReal) := cen_coe f
  have hg0 : ∑ x, g x = 0 := by
    rw [hg, Finset.sum_sub_distrib]
    simp
    ring
  refine ⟨r * (d l - (∑ x, d x) * (1 / 512) - g l * r * ((∑ x, d x * (g x * r)) * (1 / 512))), ?_, ?_⟩
  · unfold lnBack nor
    simp only [ec, er, ← EReal.coe_mul, mean_coe]
    push_cast
    rfl
  · have hs : ∑ x, d x * (g x * r) = r * ∑ x, g x * d x := by
      rw [Finset.mul_sum]
      exact Finset.sum_congr rfl fun x _ => by ring
    unfold lnBack' varBack
    rw [er, ev, word_512, word_2, word_neg_half]
    simp only [Ideal.div_coe (by norm_num : (512 : ℝ) ≠ 0), Ideal.div_coe hv.ne', ec, ← EReal.coe_mul, coe_sum, ← EReal.coe_neg,
      ← EReal.coe_add]
    congr 1
    rw [← hr, hs, Finset.sum_neg_distrib, Finset.sum_neg_distrib, ← Finset.sum_mul, ← Finset.mul_sum, ← Finset.mul_sum, hg0]
    ring

end

/-- The same, for a row and a cotangent of which only this is known, that they are real. -/
theorem lnBack_eq {f d : Fin 512 → EReal} (hf : ∀ x, ∃ r : ℝ, f x = r) (hd : ∀ x, ∃ r : ℝ, d x = r) (l : Fin 512) :
    ∃ q : ℝ, lnBack f d l = q ∧ lnBack' f d l = q := by
  choose f' hf' using hf
  choose d' hd' using hd
  obtain rfl : f = fun x => (f' x : EReal) := funext hf'
  obtain rfl : d = fun x => (d' x : EReal) := funext hd'
  exact lnBack_coe f' d' l

end Cert.BcGrad

end
-- ==== Proof.BcCore.lean ====
module

public import proofs.«01_k».proof.Proof.BcGrad

/-! The backward step of the two short mixers, written once over plain functions: the convolved gate of the first three
lane groups and the normalised, chunk-mixed gate of the last two. -/

@[expose] public section

noncomputable section

namespace Cert.BcCore

open Idealize.ShloMosaic
open Cert.BcGrad (gelu geluD nor lnBack)

/-- Row `n - 1` of an array of rows, zero outside it. -/
def edge (f : Fin 16384 → Fin 512 → EReal) (n : ℕ) (l : Fin 512) : EReal := if h : 1 ≤ n ∧ n < 16385 then f ⟨n - 1, by omega⟩ l else 0

theorem edge_inside (f : Fin 16384 → Fin 512 → EReal) (n : ℕ) (l : Fin 512) (r : Fin 16384) (h : r.val + 1 = n) : edge f n l = f r l := by
  have hr : r.val < 16384 := r.isLt
  rw [edge, dif_pos ⟨by omega, by omega⟩]
  congr 1
  exact Fin.ext (by show n - 1 = r.val; omega)

theorem edge_outside (f : Fin 16384 → Fin 512 → EReal) (n : ℕ) (l : Fin 512) (h : ¬(1 ≤ n ∧ n < 16385)) : edge f n l = 0 := dif_neg h

/-- Row `p` of chunk `n`, row `p` of the chunk row `r` lies in, and the place of `r` in its chunk. -/
abbrev at' (n p : Fin 128) : Fin 16384 := ⟨n.val * 128 + p.val, by omega⟩
abbrev mate (r : Fin 16384) (p : Fin 128) : Fin 16384 := ⟨r.val / 128 * 128 + p.val, by omega⟩
abbrev place (r : Fin 16384) : Fin 128 := ⟨r.val % 128, by omega⟩
/-- The head a lane belongs to, and lane `c` of head `h`. -/
abbrev head (l : Fin 512) : Fin 4 := ⟨l.val / 128, by omega⟩
abbrev lane (h : Fin 4) (c : Fin 128) : Fin 512 := ⟨h.val * 128 + c.val, by omega⟩

variable (Z : Fin 16384 → Fin 2560 → EReal) (P Q : Fin 16384 → Fin 512 → EReal) (W : Fin 3 → Fin 512 → EReal) (lg lb : Fin 512 → EReal)
  (ws : Fin 4 → Fin 128 → Fin 128 → EReal) (bs : Fin 4 → Fin 128 → EReal)

/-! ### The convolved gate -/

def q (r : Fin 16384) (l : Fin 512) : EReal := Z r ⟨512 + l.val, by omega⟩ * Z r ⟨1024 + l.val, by omega⟩
def dcq (r : Fin 16384) (l : Fin 512) : EReal := P r l * Z r ⟨l.val, by omega⟩
def cq (r : Fin 16384) (l : Fin 512) : EReal :=
  edge (q Z) r.val l * W 0 l + edge (q Z) (r.val + 1) l * W 1 l + edge (q Z) (r.val + 2) l * W 2 l
def dq (r : Fin 16384) (l : Fin 512) : EReal :=
  edge (dcq Z P) (r.val + 2) l * W 0 l + edge (dcq Z P) (r.val + 1) l * W 1 l + edge (dcq Z P) r.val l * W 2 l
/-- The gradient at tap `k`. -/
def dsc (k : Fin 3) (l : Fin 512) : EReal := ∑ r : Fin 16384, dcq Z P r l * edge (q Z) (r.val + k.val) l

/-! ### The mixed gate -/

def gu (r : Fin 16384) (l : Fin 512) : EReal := gelu (Z r ⟨1536 + l.val, by omega⟩)
def gv (r : Fin 16384) (l : Fin 512) : EReal := gelu (Z r ⟨2048 + l.val, by omega⟩)
def v2 (r : Fin 16384) (l : Fin 512) : EReal := nor (gv Z r) l * lg l + lb l
def mixed (r : Fin 16384) (l : Fin 512) : EReal :=
  ∑ x : Fin 128, ws (head l) (place r) x * v2 Z lg lb (mate r x) l + bs (head l) (place r)
def dmix (r : Fin 16384) (l : Fin 512) : EReal := Q r l * gu Z r l
def dv2 (r : Fin 16384) (l : Fin 512) : EReal := ∑ x : Fin 128, ws (head l) x (place r) * dmix Z Q (mate r x) l

/-- The gradients at the mixing weights, at their bias, and at the normalisation's weight and bias. -/
def dwsAt (h : Fin 4) (p x n : Fin 128) : EReal :=
  ∑ c : Fin 128, dmix Z Q (at' n p) (lane h c) * v2 Z lg lb (at' n x) (lane h c)
def dws (h : Fin 4) (p x : Fin 128) : EReal := ∑ n : Fin 128, dwsAt Z Q lg lb h p x n
def dbias (p : Fin 128) (l : Fin 512) : EReal := ∑ n : Fin 128, dmix Z Q (at' n p) l
def dlg (l : Fin 512) : EReal := ∑ r : Fin 16384, dv2 Z Q ws r l * nor (gv Z r) l
def dlb (l : Fin 512) : EReal := ∑ r : Fin 16384, dv2 Z Q ws r l

/-! ### The gradient at the five lane groups -/

def dz0 (r : Fin 16384) (l : Fin 512) : EReal := P r l * cq Z W r l
def dz1 (r : Fin 16384) (l : Fin 512) : EReal := dq Z P W r l * Z r ⟨1024 + l.val, by omega⟩
def dz2 (r : Fin 16384) (l : Fin 512) : EReal := dq Z P W r l * Z r ⟨512 + l.val, by omega⟩
def dz3 (r : Fin 16384) (l : Fin 512) : EReal := Q r l * mixed Z lg lb ws bs r l * geluD (Z r ⟨1536 + l.val, by omega⟩)
def dz4 (r : Fin 16384) (l : Fin 512) : EReal :=
  lnBack (gv Z r) (fun x => dv2 Z Q ws r x * lg x) l * geluD (Z r ⟨2048 + l.val, by omega⟩)

def dz (r : Fin 16384) (l : Fin 2560) : EReal :=
  if h : l.val < 512 then dz0 Z P W r ⟨l.val, h⟩
  else if h : l.val < 1024 then dz1 Z P W r ⟨l.val - 512, by omega⟩
  else if h : l.val < 1536 then dz2 Z P W r ⟨l.val - 1024, by omega⟩
  else if h : l.val < 2048 then dz3 Z Q lg lb ws bs r ⟨l.val - 1536, by omega⟩
  else dz4 Z Q lg ws r ⟨l.val - 2048, by omega⟩

end Cert.BcCore

end
-- ==== Proof.BcValBlk.lean ====
module

public import proofs.«01_k».proof.Proof.Gen.KBcIdeal.Value
public import proofs.«01_k».proof.Proof.BcCore
public import Idealize.ShloMosaic.Lib.StableHlo.Run
public import Idealize.ShloMosaic.Lib.Pipeline.ValueKit
public import Idealize.ShloMosaic.Lib.Pipeline.ReadBack
public import Idealize.ShloMosaic.Lib.VecWindow

/-! What a point of the two short mixers' backward call reads, and what its intermediate values are, place by place. -/

@[expose] public section

set_option maxRecDepth 16384

noncomputable section

namespace Cert.BcValue

open Cert.KBcIdeal Cert.KBcIdeal.Gen Idealize.ShloMosaic Idealize.ShloMosaic.TcCoe Idealize.SL.Sem
open Idealize.ShloMosaic.Pipeline (Dat)
open Cert.BcGrad (gelu geluD nor rs kc kc3 lnBack)
open Cert.BcCore (edge edge_inside edge_outside)

variable (m : (ℓ : Loc nD τ sig) → Buf (Elt Ideal) ℓ)

/-! ### The blocks a point reads -/

/-- Where each window stands at a point. -/
theorem idx : ∀ t : Fin cfg0.N, win0_0.index t = ![t.val, 0] ∧ win0_1.index t = ![t.val * 16 - 1, 0] ∧
    win0_2.index t = ![min (t.val * 16 + 16) 1023, 0] ∧ win0_3.index t = ![t.val, 0] ∧ win0_4.index t = ![t.val * 16 - 1, 0] ∧
    win0_5.index t = ![min (t.val * 16 + 16) 1023, 0] ∧ win0_6.index t = ![t.val, 0] ∧ win0_7.index t = ![0, 0] ∧
    win0_8.index t = ![0, 0] ∧ win0_9.index t = ![0, 0] ∧ win0_10.index t = ![0, 0, 0] ∧ win0_11.index t = ![0, 0, 0] ∧
    win0_12.index t = ![0, 0] ∧ win0_13.index t = ![t.val, 0] := by
  show ∀ t : Fin grid0.N, _
  decide +kernel

/-- Is the point the first one? -/
theorem first : ∀ t : Fin cfg0.N, Scalar.cmpi .eq (BitVec.ofNat 32 ((grid0.coords t) 0).val) 0#32 = if t.val = 0 then 1#1 else 0#1 :=
  (by decide +kernel : ∀ t : Fin grid0.N, Scalar.cmpi .eq (BitVec.ofNat 32 ((grid0.coords t) 0).val) 0#32 = if t.val = 0 then 1#1 else 0#1)
/-- Is it the last one? -/
theorem last : ∀ t : Fin cfg0.N, Scalar.cmpi .eq (BitVec.ofNat 32 ((grid0.coords t) 0).val) 63#32 = if t.val = 63 then 1#1 else 0#1 :=
  (by decide +kernel : ∀ t : Fin grid0.N, Scalar.cmpi .eq (BitVec.ofNat 32 ((grid0.coords t) 0).val) 63#32 = if t.val = 63 then 1#1 else 0#1)

/-- The arguments, as functions of their places. -/
abbrev A0 (c : Dev nD) : S16384x2560.Idx → EReal := m ((c : Thread nD τ).loc main_arg0)
abbrev A1 (c : Dev nD) : S16384x512.Idx → EReal := m ((c : Thread nD τ).loc main_arg1)
abbrev A2 (c : Dev nD) : S16384x512.Idx → EReal := m ((c : Thread nD τ).loc main_arg2)
abbrev A3 (c : Dev nD) : S3x512.Idx → EReal := m ((c : Thread nD τ).loc main_arg3)
abbrev A4 (c : Dev nD) : S1x512.Idx → EReal := m ((c : Thread nD τ).loc main_arg4)
abbrev A5 (c : Dev nD) : S1x512.Idx → EReal := m ((c : Thread nD τ).loc main_arg5)
abbrev A6 (c : Dev nD) : S4x128x128.Idx → EReal := m ((c : Thread nD τ).loc main_arg6)
abbrev A7 (c : Dev nD) : S4x128.Idx → EReal := m ((c : Thread nD τ).loc main_arg7)
abbrev Z (c : Dev nD) (r : Fin 16384) (l : Fin 2560) : EReal := A0 m c (ix2 r l)
abbrev P (c : Dev nD) (r : Fin 16384) (l : Fin 512) : EReal := A1 m c (ix2 r l)
abbrev Q (c : Dev nD) (r : Fin 16384) (l : Fin 512) : EReal := A2 m c (ix2 r l)
abbrev W (c : Dev nD) (k : Fin 3) (l : Fin 512) : EReal := A3 m c (ix2 k l)
abbrev lg (c : Dev nD) (l : Fin 512) : EReal := A4 m c (ix2 0 l)
abbrev lb (c : Dev nD) (l : Fin 512) : EReal := A5 m c (ix2 0 l)
abbrev ws (c : Dev nD) (h : Fin 4) (p x : Fin 128) : EReal := A6 m c (ix3 h p x)
abbrev bs (c : Dev nD) (h : Fin 4) (p : Fin 128) : EReal := A7 m c (ix2 h p)

theorem t_lt (t : Fin cfg0.N) : t.val < 64 := t.isLt
/-- Row `r` of point `t`'s block. -/
abbrev row (t : Fin cfg0.N) (r : Fin 256) : Fin 16384 := ⟨t.val * 256 + r.val, by have := t_lt t; omega⟩
theorem before_lt (t : Fin cfg0.N) (r : Fin 16) : (t.val * 16 - 1) * 16 + r.val < 16384 := by
  have h := t_lt t
  omega
theorem after_lt (t : Fin cfg0.N) (r : Fin 16) : min (t.val * 16 + 16) 1023 * 16 + r.val < 16384 := by
  omega

/-- The mixing weights, as they are and transposed, and the bias, repeated: prepared on the host. -/
theorem V_ws (c : Dev nD) (h : Fin 4) (p x : Fin 128) : V m c main_v0 (ix3 h p x) = ws m c h p x := by
  simp only [V, hostOps0]
  after_results_simp
  pointwise []
theorem V_wst (c : Dev nD) (h : Fin 4) (p x : Fin 128) : V m c main_v2 (ix3 h p x) = ws m c h x p := by
  simp only [V, hostOps0]
  after_results_simp
  pointwise []
theorem V_bias (c : Dev nD) (p : Fin 128) (l : Fin 512) : V m c main_v5 (ix2 p l) = bs m c (Cert.BcCore.head l) p := by
  simp only [V, hostOps0]
  after_results_simp
  pointwise []

theorem blk0 (c : Dev nD) (t : Fin cfg0.N) (r : Fin 256) (l : Fin 2560) : iblk m c 0 t (ix2 r l) = Z m c (row t r) l := by
  blk_simp [iblk]
  rw [V_main_arg0]
  refine congrArg (A0 m c) ?_
  blk_ext [(idx t).1]
theorem blk1 (c : Dev nD) (t : Fin cfg0.N) (r : Fin 16) (l : Fin 2560) : iblk m c 1 t (ix2 r l) = Z m c ⟨_, before_lt t r⟩ l := by
  blk_simp [iblk]
  rw [V_main_arg0]
  refine congrArg (A0 m c) ?_
  blk_ext [(idx t).2.1]
theorem blk2 (c : Dev nD) (t : Fin cfg0.N) (r : Fin 16) (l : Fin 2560) : iblk m c 2 t (ix2 r l) = Z m c ⟨_, after_lt t r⟩ l := by
  blk_simp [iblk]
  rw [V_main_arg0]
  refine congrArg (A0 m c) ?_
  blk_ext [(idx t).2.2.1]
theorem blk3 (c : Dev nD) (t : Fin cfg0.N) (r : Fin 256) (l : Fin 512) : iblk m c 3 t (ix2 r l) = P m c (row t r) l := by
  blk_simp [iblk]
  rw [V_main_arg1]
  refine congrArg (A1 m c) ?_
  blk_ext [(idx t).2.2.2.1]
theorem blk4 (c : Dev nD) (t : Fin cfg0.N) (r : Fin 16) (l : Fin 512) : iblk m c 4 t (ix2 r l) = P m c ⟨_, before_lt t r⟩ l := by
  blk_simp [iblk]
  rw [V_main_arg1]
  refine congrArg (A1 m c) ?_
  blk_ext [(idx t).2.2.2.2.1]
theorem blk5 (c : Dev nD) (t : Fin cfg0.N) (r : Fin 16) (l : Fin 512) : iblk m c 5 t (ix2 r l) = P m c ⟨_, after_lt t r⟩ l := by
  blk_simp [iblk]
  rw [V_main_arg1]
  refine congrArg (A1 m c) ?_
  blk_ext [(idx t).2.2.2.2.2.1]
theorem blk6 (c : Dev nD) (t : Fin cfg0.N) (r : Fin 256) (l : Fin 512) : iblk m c 6 t (ix2 r l) = Q m c (row t r) l := by
  blk_simp [iblk]
  rw [V_main_arg2]
  refine congrArg (A2 m c) ?_
  blk_ext [(idx t).2.2.2.2.2.2.1]
theorem blk7 (c : Dev nD) (t : Fin cfg0.N) (r : Fin 3) (l : Fin 512) : iblk m c 7 t (ix2 r l) = W m c r l := by
  blk_simp [iblk]
  rw [V_main_arg3]
  refine congrArg (A3 m c) ?_
  blk_ext [(idx t).2.2.2.2.2.2.2.1]
theorem blk8 (c : Dev nD) (t : Fin cfg0.N) (l : Fin 512) : iblk m c 8 t (ix2 0 l) = lg m c l := by
  blk_simp [iblk]
  rw [V_main_arg4]
  refine congrArg (A4 m c) ?_
  blk_ext [(idx t).2.2.2.2.2.2.2.2.1]
theorem blk9 (c : Dev nD) (t : Fin cfg0.N) (l : Fin 512) : iblk m c 9 t (ix2 0 l) = lb m c l := by
  blk_simp [iblk]
  rw [V_main_arg5]
  refine congrArg (A5 m c) ?_
  blk_ext [(idx t).2.2.2.2.2.2.2.2.2.1]
theorem blk10 (c : Dev nD) (t : Fin cfg0.N) (h : Fin 4) (p x : Fin 128) : iblk m c 10 t (ix3 h p x) = ws m c h p x := by
  blk_simp [iblk]
  refine Eq.trans (congrArg (V m c main_v0) ?_) (V_ws m c h p x)
  blk_ext [(idx t).2.2.2.2.2.2.2.2.2.2.1]
theorem blk11 (c : Dev nD) (t : Fin cfg0.N) (h : Fin 4) (p x : Fin 128) : iblk m c 11 t (ix3 h p x) = ws m c h x p := by
  blk_simp [iblk]
  refine Eq.trans (congrArg (V m c main_v2) ?_) (V_wst m c h p x)
  blk_ext [(idx t).2.2.2.2.2.2.2.2.2.2.2.1]
theorem blk12 (c : Dev nD) (t : Fin cfg0.N) (p : Fin 128) (l : Fin 512) : iblk m c 12 t (ix2 p l) = bs m c (Cert.BcCore.head l) p := by
  blk_simp [iblk]
  refine Eq.trans (congrArg (V m c main_v5) ?_) (V_bias m c p l)
  blk_ext [(idx t).2.2.2.2.2.2.2.2.2.2.2.2.1]

end Cert.BcValue

end
-- ==== Proof.BcValPay.lean ====
module

public import proofs.«01_k».proof.Proof.Reals
public import proofs.«01_k».proof.Proof.BcValBlk

/-! The values a point of the two short mixers' backward call computes, over arbitrary operands. -/

@[expose] public section

set_option maxRecDepth 16384

noncomputable section

namespace Cert.BcValue

open Cert.KBcIdeal Cert.KBcIdeal.Gen Idealize.ShloMosaic Idealize.ShloMosaic.TcCoe Idealize.SL.Sem
open Cert.BcGrad (gelu geluD nor rs kc kc3 lnBack)
open Cert.BcCore (edge edge_inside edge_outside)

theorem name_kc : Named.named (F := Ideal) Cert.KBcIdeal.κ "gelu_kc" (φ := .f32) 0x3D122279#32 = kc :=
  IdealRules.named_const.ideal_named_scalar _ _ _ _ rfl
theorem name_kc3 : Named.named (F := Ideal) Cert.KBcIdeal.κ "gelu_3kc" (φ := .f32) 0x3DDB33B6#32 = kc3 :=
  IdealRules.named_const.ideal_named_scalar _ _ _ _ rfl

/-! ### The block with its neighbouring rows -/

/-- A block `a` with the rows `b` before it and `d` behind it, all cut from one array. -/
theorem around (A : Fin 16384 → Fin 512 → EReal) (t : Fin cfg0.N) (a : Fin 256 → Fin 512 → EReal) (b d : Fin 16 → Fin 512 → EReal)
    (ha : ∀ r l, a r l = A (row t r) l) (hb : ∀ r l, b r l = A ⟨_, before_lt t r⟩ l)
    (hd : ∀ r l, d r l = A ⟨_, after_lt t r⟩ l) (q : ℕ) (hq : q < 258) (l : Fin 512) :
    (if h : 15 + q < 16 then Scalar.select (Scalar.cmpi .eq (BitVec.ofNat 32 ((grid0.coords t) 0).val) 0#32) 0 (b ⟨15 + q, h⟩ l)
      else if h' : 15 + q - 16 < 256 then a ⟨15 + q - 16, h'⟩ l
      else Scalar.select (Scalar.cmpi .eq (BitVec.ofNat 32 ((grid0.coords t) 0).val) 63#32) 0 (d ⟨15 + q - 16 - 256, by omega⟩ l)) =
    edge A (t.val * 256 + q) l := by
  have ht : t.val < 64 := t.isLt
  rw [first t, last t]
  by_cases h : 15 + q < 16
  · rw [dif_pos h]
    by_cases h0 : t.val = 0
    · rw [if_pos h0, edge_outside _ _ _ (by omega)]
      rfl
    · rw [if_neg h0, edge_inside A _ l ⟨_, before_lt t ⟨15 + q, h⟩⟩ (by show (t.val * 16 - 1) * 16 + (15 + q) + 1 = _; omega)]
      exact hb _ _
  · rw [dif_neg h]
    by_cases h' : 15 + q - 16 < 256
    · rw [dif_pos h', ha, edge_inside A _ l (row t ⟨15 + q - 16, h'⟩) (by show t.val * 256 + (15 + q - 16) + 1 = _; omega)]
    · rw [dif_neg h']
      by_cases h0 : t.val = 63
      · rw [if_pos h0, edge_outside _ _ _ (by omega)]
        rfl
      · rw [if_neg h0, edge_inside A _ l ⟨_, after_lt t ⟨15 + q - 16 - 256, by omega⟩⟩
          (by show min (t.val * 16 + 16) 1023 * 16 + (15 + q - 16 - 256) + 1 = _; omega)]
        exact hd _ _

theorem pay13_eq (i : grid0.Coords) (z : S256x2560.Idx → EReal) (b d : S16x2560.Idx → EReal) (p : Fin 288) (l : Fin 512) :
    k0_pay13 (F := Ideal) i z b d (ix2 p l) =
      if h : p.val < 16 then Scalar.select (Scalar.cmpi .eq (BitVec.ofNat 32 (i 0).val) 0#32) 0
        (b (ix2 ⟨p.val, h⟩ ⟨512 + l.val, by omega⟩) * b (ix2 ⟨p.val, h⟩ ⟨1024 + l.val, by omega⟩))
      else if h' : p.val - 16 < 256 then z (ix2 ⟨p.val - 16, h'⟩ ⟨512 + l.val, by omega⟩) * z (ix2 ⟨p.val - 16, h'⟩ ⟨1024 + l.val, by omega⟩)
      else Scalar.select (Scalar.cmpi .eq (BitVec.ofNat 32 (i 0).val) 63#32) 0
        (d (ix2 ⟨p.val - 16 - 256, by omega⟩ ⟨512 + l.val, by omega⟩) * d (ix2 ⟨p.val - 16 - 256, by omega⟩ ⟨1024 + l.val, by omega⟩)) := by
  pointwise [k0_pay13, k0_pay12, k0_pay11, k0_pay8, k0_pay7, k0_pay6]

theorem pay17_eq (i : grid0.Coords) (z : S256x2560.Idx → EReal) (zb zd : S16x2560.Idx → EReal) (x : S256x512.Idx → EReal)
    (xb xd : S16x512.Idx → EReal) (p : Fin 288) (l : Fin 512) :
    k0_pay17 (F := Ideal) (Scalar.cmpi .eq (BitVec.ofNat 32 (i 0).val) 63#32) (k0_pay14 z x) (k0_pay15 zd xd) (k0_pay16 i zb xb)
        (Scalar.ofBits (F := Ideal) .f32 0x00000000#32) (ix2 p l) =
      if h : p.val < 16 then Scalar.select (Scalar.cmpi .eq (BitVec.ofNat 32 (i 0).val) 0#32) 0
        (xb (ix2 ⟨p.val, h⟩ l) * zb (ix2 ⟨p.val, h⟩ ⟨l.val, by omega⟩))
      else if h' : p.val - 16 < 256 then x (ix2 ⟨p.val - 16, h'⟩ l) * z (ix2 ⟨p.val - 16, h'⟩ ⟨l.val, by omega⟩)
      else Scalar.select (Scalar.cmpi .eq (BitVec.ofNat 32 (i 0).val) 63#32) 0
        (xd (ix2 ⟨p.val - 16 - 256, by omega⟩ l) * zd (ix2 ⟨p.val - 16 - 256, by omega⟩ ⟨l.val, by omega⟩)) := by
  pointwise [k0_pay17, k0_pay16, k0_pay15, k0_pay14, k0_pay12, k0_pay11, k0_pay6]

/-! ### The convolved gate's values -/

theorem pay28_eq (x : S256x512.Idx → EReal) (e : S288x512.Idx → EReal) (w : S3x512.Idx → EReal) (r : Fin 256) (l : Fin 512) :
    k0_pay28 (F := Ideal) x (k0_pay21 e w) (k0_pay25 e w) (ix2 r l) =
      x (ix2 r l) * (e (ix2 ⟨(16 + r.val + 288 - 1) % 288, by omega⟩ l) * w (ix2 0 l) + e (ix2 ⟨16 + r.val, by omega⟩ l) * w (ix2 1 l) +
        e (ix2 ⟨(16 + r.val + 288 - 287) % 288, by omega⟩ l) * w (ix2 2 l)) := by
  pointwise [k0_pay28, k0_pay25, k0_pay24, k0_pay21, k0_pay20, k0_pay18]

/-- The rows that come back through the taps. -/
abbrev back (e : S288x512.Idx → EReal) (w : S3x512.Idx → EReal) (r : Fin 256) (l : Fin 512) : EReal :=
  e (ix2 ⟨(16 + r.val + 288 - 287) % 288, by omega⟩ l) * w (ix2 0 l) + e (ix2 ⟨16 + r.val, by omega⟩ l) * w (ix2 1 l) +
    e (ix2 ⟨(16 + r.val + 288 - 1) % 288, by omega⟩ l) * w (ix2 2 l)

theorem pay29_eq (e : S288x512.Idx → EReal) (v4 : BitVec 1) (a : S256x512.Idx → EReal) (d b : S16x512.Idx → EReal) (o : EReal)
    (he : k0_pay17 (F := Ideal) v4 a d b o = e) (w : S3x512.Idx → EReal) (x : S256x512.Idx → EReal) (r : Fin 256) (l : Fin 512) :
    k0_pay29 (F := Ideal) x e w (k0_pay22 v4 a d b o w) (ix2 r l) = back e w r l * x (ix2 r l) := by
  subst he
  pointwise [k0_pay29, k0_pay26, k0_pay22]
theorem pay30_eq (e : S288x512.Idx → EReal) (v4 : BitVec 1) (a : S256x512.Idx → EReal) (d b : S16x512.Idx → EReal) (o : EReal)
    (he : k0_pay17 (F := Ideal) v4 a d b o = e) (w : S3x512.Idx → EReal) (x : S256x512.Idx → EReal) (r : Fin 256) (l : Fin 512) :
    k0_pay30 (F := Ideal) x e w (k0_pay22 v4 a d b o w) (ix2 r l) = back e w r l * x (ix2 r l) := by
  subst he
  pointwise [k0_pay30, k0_pay26, k0_pay22]

theorem pay19_eq (e : S288x512.Idx → EReal) (a : S256x512.Idx → EReal) (v : S1x512.Idx → EReal) (l : Fin 512) :
    k0_pay19 (F := Ideal) e a v (ix2 0 l) = v (ix2 0 l) + ∑ r : Fin 256, a (ix2 r l) * e (ix2 ⟨(16 + r.val + 288 - 1) % 288, by omega⟩ l) := by
  pointwise [k0_pay19, k0_pay18]
theorem pay23_eq (e : S288x512.Idx → EReal) (a : S256x512.Idx → EReal) (v : S1x512.Idx → EReal) (l : Fin 512) :
    k0_pay23 (F := Ideal) e a v (ix2 0 l) = v (ix2 0 l) + ∑ r : Fin 256, a (ix2 r l) * e (ix2 ⟨16 + r.val, by omega⟩ l) := by
  pointwise [k0_pay23, k0_pay20]
theorem pay27_eq (e : S288x512.Idx → EReal) (a : S256x512.Idx → EReal) (v : S1x512.Idx → EReal) (l : Fin 512) :
    k0_pay27 (F := Ideal) a (k0_pay24 e) v (ix2 0 l) =
      v (ix2 0 l) + ∑ r : Fin 256, a (ix2 r l) * e (ix2 ⟨(16 + r.val + 288 - 287) % 288, by omega⟩ l) := by
  pointwise [k0_pay27, k0_pay24]

/-! ### The smooth gates and the normalisation -/

theorem pay31_eq (x : S256x512.Idx → EReal) (r : Fin 256) (l : Fin 512) : k0_pay31 (F := Ideal) x (ix2 r l) = gelu (x (ix2 r l)) := by
  pointwise [k0_pay31]
  simp only [name_kc]
  rfl
theorem pay51_eq (x y : S256x512.Idx → EReal) (r : Fin 256) (l : Fin 512) :
    k0_pay51 (F := Ideal) x y (ix2 r l) = y (ix2 r l) * gelu (x (ix2 r l)) := by
  pointwise [k0_pay51]
  simp only [name_kc]
  rfl
theorem pay34_eq (x : S256x512.Idx → EReal) (r : Fin 256) (l : Fin 512) :
    k0_pay34 (F := Ideal) x (ix2 r l) = nor (fun y => x (ix2 r y)) l := by
  pointwise [k0_pay34, k0_pay33, k0_pay32]
  rfl
theorem pay33_eq (x : S256x512.Idx → EReal) (r : Fin 256) :
    k0_pay33 (F := Ideal) x (ix2 r 0) = rs (fun y => x (ix2 r y)) := by
  pointwise [k0_pay33, k0_pay32]
  rfl
theorem pay35_eq (g b : S1x512.Idx → EReal) (x : S256x512.Idx → EReal) (r : Fin 256) (l : Fin 512) :
    k0_pay35 (F := Ideal) g x b (ix2 r l) = nor (fun y => x (ix2 r y)) l * g (ix2 0 l) + b (ix2 0 l) := by
  rw [← pay34_eq]
  pointwise [k0_pay35]
theorem pay50_eq (x y z : S256x512.Idx → EReal) (r : Fin 256) (l : Fin 512) :
    k0_pay50 (F := Ideal) x (k0_pay47 z y) (k0_pay48 x) (k0_pay49 x) (ix2 r l) = y (ix2 r l) * z (ix2 r l) * geluD (x (ix2 r l)) := by
  pointwise [k0_pay50, k0_pay49, k0_pay48, k0_pay47]
  simp only [name_kc, name_kc3]
  rfl
theorem pay86_eq (x d f : S256x512.Idx → EReal) (g : S1x512.Idx → EReal) (r : Fin 256) (l : Fin 512) :
    k0_pay86 (F := Ideal) x (k0_pay33 f) (k0_pay34 f) (k0_pay84 g d) (k0_pay85 g d) (ix2 r l) =
      lnBack (fun y => f (ix2 r y)) (fun y => d (ix2 r y) * g (ix2 0 y)) l * geluD (x (ix2 r l)) := by
  pointwise [k0_pay86, k0_pay85, k0_pay84]
  simp only [pay33_eq, pay34_eq, name_kc, name_kc3]
  rfl

/-! ### Two chunks of four heads, stored one by one -/

/-- What a scratch holds once its eight blocks are stored. -/
def eight {σ : RefSig} (v : View σ .tc .vmem S256x512 .f32) (p0 p1 p2 p3 p4 p5 p6 p7 : S128x128.Idx → EReal) : S256x512.Idx → EReal :=
  v.readCov (Val := Elt Ideal)
    [⟨Rect.unit ![128, 384] ![128, 128] inb_S256x512_S128x128_128_384, p7⟩, ⟨Rect.unit ![128, 256] ![128, 128] inb_S256x512_S128x128_128_256, p6⟩,
      ⟨Rect.unit ![128, 128] ![128, 128] inb_S256x512_S128x128_128_128, p5⟩, ⟨Rect.unit ![128, 0] ![128, 128] inb_S256x512_S128x128_128_0, p4⟩,
      ⟨Rect.unit ![0, 384] ![128, 128] inb_S256x512_S128x128_0_384, p3⟩, ⟨Rect.unit ![0, 256] ![128, 128] inb_S256x512_S128x128_0_256, p2⟩,
      ⟨Rect.unit ![0, 128] ![128, 128] inb_S256x512_S128x128_0_128, p1⟩, ⟨Rect.unit ![0, 0] ![128, 128] inb_S256x512_S128x128_0_0, p0⟩]
    (Rect.unit (s := S256x512) ![0, 0] ![256, 512] inb_S256x512_S256x512_0_0).toLoadRect

/-- The block of chunk `k` and head `h` of an array of 256 rows of 512 lanes. -/
abbrev IsBlock (G : Fin 256 → Fin 512 → EReal) (k : Fin 2) (h : Fin 4) (p : S128x128.Idx → EReal) : Prop :=
  ∀ a b : Fin 128, p (ix2 a b) = G ⟨k.val * 128 + a.val, by omega⟩ ⟨h.val * 128 + b.val, by omega⟩

theorem eight_eq {σ : RefSig} (v : View σ .tc .vmem S256x512 .f32) (p0 p1 p2 p3 p4 p5 p6 p7 : S128x128.Idx → EReal) (G : Fin 256 → Fin 512 → EReal)
    (h0 : IsBlock G 0 0 p0) (h1 : IsBlock G 0 1 p1) (h2 : IsBlock G 0 2 p2) (h3 : IsBlock G 0 3 p3)
    (h4 : IsBlock G 1 0 p4) (h5 : IsBlock G 1 1 p5) (h6 : IsBlock G 1 2 p6) (h7 : IsBlock G 1 3 p7) (r : Fin 256) (l : Fin 512) :
    eight v p0 p1 p2 p3 p4 p5 p6 p7 (ix2 r l) = G r l := by
  rw [eight, View.readCov_eq_canon']
  have piece (k : Fin 2) (h : Fin 4) (p : S128x128.Idx → EReal) (hp : IsBlock G k h p) (i j : ℕ) (hi : i = k.val * 128) (hj : j = h.val * 128)
      (inb) (x : S128x128.Idx) :
      p x = (fun y : S256x512.Idx => G (y 0) (y 1)) ((Rect.unit (s := S256x512) ![i, j] ![128, 128] inb).emb x) := by
    subst hi hj
    obtain ⟨a, b, rfl⟩ := at2 x
    have e : (Rect.unit (s := S256x512) ![k.val * 128, h.val * 128] ![128, 128] inb).emb (ix2 a b) =
        (ix2 ⟨k.val * 128 + a.val, by omega⟩ ⟨h.val * 128 + b.val, by omega⟩ : S256x512.Idx) := by
      blk_ext []
    rw [e]
    exact hp a b
  have e : (Rect.unit (s := S256x512) ![0, 0] ![256, 512] inb_S256x512_S256x512_0_0).toLoadRect.idx (ix2 r l) = (ix2 r l : S256x512.Idx) := by
    change (Rect.unit (s := S256x512) ![0, 0] ![256, 512] inb_S256x512_S256x512_0_0).emb (ix2 r l) = _
    blk_ext []
  show View.canon _ _ = _
  rw [e]
  refine View.canon_apply_of_pieces (Val := Elt Ideal) (S := S256x512) (e := .f32) (fun y : S256x512.Idx => G (y 0) (y 1)) _ ?_ (ix2 r l) ?_
  · intro p hp x
    simp only [List.mem_cons, List.not_mem_nil, or_false] at hp
    rcases hp with rfl | rfl | rfl | rfl | rfl | rfl | rfl | rfl
    · exact piece 1 3 _ h7 128 384 rfl rfl inb_S256x512_S128x128_128_384 x
    · exact piece 1 2 _ h6 128 256 rfl rfl inb_S256x512_S128x128_128_256 x
    · exact piece 1 1 _ h5 128 128 rfl rfl inb_S256x512_S128x128_128_128 x
    · exact piece 1 0 _ h4 128 0 rfl rfl inb_S256x512_S128x128_128_0 x
    · exact piece 0 3 _ h3 0 384 rfl rfl inb_S256x512_S128x128_0_384 x
    · exact piece 0 2 _ h2 0 256 rfl rfl inb_S256x512_S128x128_0_256 x
    · exact piece 0 1 _ h1 0 128 rfl rfl inb_S256x512_S128x128_0_128 x
    · exact piece 0 0 _ h0 0 0 rfl rfl inb_S256x512_S128x128_0_0 x
  · simp only [List.mem_cons, List.not_mem_nil, or_false, exists_eq_or_imp, exists_eq_left, Rect.mem_set_unit, Fin.forall_fin_two]
    have hr := r.isLt
    have hl := l.isLt
    change ((128 ≤ r.val ∧ r.val < 128 + 128) ∧ 384 ≤ l.val ∧ l.val < 384 + 128) ∨ ((128 ≤ r.val ∧ r.val < 128 + 128) ∧ 256 ≤ l.val ∧ l.val < 256 + 128) ∨
      ((128 ≤ r.val ∧ r.val < 128 + 128) ∧ 128 ≤ l.val ∧ l.val < 128 + 128) ∨ ((128 ≤ r.val ∧ r.val < 128 + 128) ∧ 0 ≤ l.val ∧ l.val < 0 + 128) ∨
      ((0 ≤ r.val ∧ r.val < 0 + 128) ∧ 384 ≤ l.val ∧ l.val < 384 + 128) ∨ ((0 ≤ r.val ∧ r.val < 0 + 128) ∧ 256 ≤ l.val ∧ l.val < 256 + 128) ∨
      ((0 ≤ r.val ∧ r.val < 0 + 128) ∧ 128 ≤ l.val ∧ l.val < 128 + 128) ∨ (0 ≤ r.val ∧ r.val < 0 + 128) ∧ 0 ≤ l.val ∧ l.val < 0 + 128
    omega

end Cert.BcValue

end
-- ==== Proof.BcVal.lean ====
module

public import proofs.«01_k».proof.Proof.BcValPay

/-! What a point of the two short mixers' backward call leaves in its six results. -/

@[expose] public section

set_option maxRecDepth 16384

noncomputable section

namespace Cert.BcValue

open Cert.KBcIdeal Cert.KBcIdeal.Gen Idealize.ShloMosaic Idealize.ShloMosaic.TcCoe Idealize.SL.Sem
open Idealize.ShloMosaic.Pipeline (Dat)
open Cert.BcGrad (gelu geluD nor rs lnBack)
open Cert.BcCore (edge)

variable (m : (ℓ : Loc nD τ sig) → Buf (Elt Ideal) ℓ)

/-! ### A point's intermediate values -/

/-- The convolved gate's rows with their neighbours, the same of what comes back to it, and the latter's own block. -/
abbrev qe (c : Dev nD) (t : Fin cfg0.N) : FVec Ideal S288x512 .f32 := k0_pay13 (grid0.coords t) (iblk m c 0 t) (iblk m c 1 t) (iblk m c 2 t)
abbrev own (c : Dev nD) (t : Fin cfg0.N) : FVec Ideal S256x512 .f32 := k0_pay14 (iblk m c 0 t) (iblk m c 3 t)
abbrev isLast (t : Fin cfg0.N) : BitVec 1 := Scalar.cmpi .eq (BitVec.ofNat 32 ((grid0.coords t) 0).val) 63#32
abbrev dAft (c : Dev nD) (t : Fin cfg0.N) : FVec Ideal S16x512 .f32 := k0_pay15 (iblk m c 2 t) (iblk m c 5 t)
abbrev dBef (c : Dev nD) (t : Fin cfg0.N) : FVec Ideal S16x512 .f32 := k0_pay16 (grid0.coords t) (iblk m c 1 t) (iblk m c 4 t)
abbrev zero0 : Ideal .f32 := Scalar.ofBits (F := Ideal) .f32 0x00000000#32
abbrev de (c : Dev nD) (t : Fin cfg0.N) : FVec Ideal S288x512 .f32 := k0_pay17 (isLast t) (own m c t) (dAft m c t) (dBef m c t) zero0
/-- The second gate, its normalised rows, and the bias. -/
abbrev ge (c : Dev nD) (t : Fin cfg0.N) : FVec Ideal S256x512 .f32 := k0_pay31 (k0_pay10 (iblk m c 0 t))
abbrev vv (c : Dev nD) (t : Fin cfg0.N) : FVec Ideal S256x512 .f32 := k0_pay35 (iblk m c 8 t) (ge m c t) (iblk m c 9 t)
abbrev bia (c : Dev nD) (t : Fin cfg0.N) : FVec Ideal S128x512 .f32 := k0_pay36 (iblk m c 12 t)
/-- A head's mixing weights. -/
abbrev ws0 (X : S4x128x128.Idx → EReal) : S1x128x128.Idx → EReal :=
  View.ld (Val := Elt Ideal) (e' := .bf16) X (Rect.unit ![0, 0, 0] ![1, 128, 128] inb_S4x128x128_S1x128x128_0_0_0)
abbrev ws1 (X : S4x128x128.Idx → EReal) : S1x128x128.Idx → EReal :=
  View.ld (Val := Elt Ideal) (e' := .bf16) X (Rect.unit ![1, 0, 0] ![1, 128, 128] inb_S4x128x128_S1x128x128_1_0_0)
abbrev ws2 (X : S4x128x128.Idx → EReal) : S1x128x128.Idx → EReal :=
  View.ld (Val := Elt Ideal) (e' := .bf16) X (Rect.unit ![2, 0, 0] ![1, 128, 128] inb_S4x128x128_S1x128x128_2_0_0)
abbrev ws3 (X : S4x128x128.Idx → EReal) : S1x128x128.Idx → EReal :=
  View.ld (Val := Elt Ideal) (e' := .bf16) X (Rect.unit ![3, 0, 0] ![1, 128, 128] inb_S4x128x128_S1x128x128_3_0_0)
/-- The mixed rows. -/
abbrev mixed (c : Dev nD) (t : Fin cfg0.N) : S256x512.Idx → EReal := eight (View.whole cc0_scratch0)
  (k0_pay37 (iblk m c 8 t) (ge m c t) (iblk m c 9 t) (iblk m c 12 t) (ws0 (iblk m c 10 t)))
  (k0_pay39 (k0_pay38 (iblk m c 8 t) (ge m c t) (iblk m c 9 t) (iblk m c 12 t) (ws1 (iblk m c 10 t))))
  (k0_pay40 (vv m c t) (bia m c t) (ws2 (iblk m c 10 t)))
  (k0_pay41 (vv m c t) (bia m c t) (ws3 (iblk m c 10 t)))
  (k0_pay42 (vv m c t) (bia m c t) (ws0 (iblk m c 10 t)))
  (k0_pay44 (vv m c t) (bia m c t) (k0_pay43 (ws1 (iblk m c 10 t))))
  (k0_pay45 (vv m c t) (bia m c t) (ws2 (iblk m c 10 t)))
  (k0_pay46 (vv m c t) (bia m c t) (ws3 (iblk m c 10 t)))
/-- What comes back to the mixed rows, and through the mixing. -/
abbrev dmix (c : Dev nD) (t : Fin cfg0.N) : FVec Ideal S256x512 .f32 := k0_pay51 (k0_pay9 (iblk m c 0 t)) (iblk m c 6 t)
abbrev dvv (c : Dev nD) (t : Fin cfg0.N) : S256x512.Idx → EReal := eight (View.whole cc0_scratch1)
  (k0_pay55 (k0_pay53 (k0_pay9 (iblk m c 0 t)) (iblk m c 6 t)) (ws0 (iblk m c 11 t)))
  (k0_pay58 (dmix m c t) (ws1 (iblk m c 11 t)))
  (k0_pay61 (dmix m c t) (ws2 (iblk m c 11 t)))
  (k0_pay65 (k0_pay64 (dmix m c t) (ws3 (iblk m c 11 t))))
  (k0_pay69 (dmix m c t) (ws0 (iblk m c 11 t)))
  (k0_pay73 (k0_pay70 (dmix m c t)) (ws1 (iblk m c 11 t)))
  (k0_pay76 (dmix m c t) (ws2 (iblk m c 11 t)))
  (k0_pay81 (k0_pay77 (dmix m c t)) (ws3 (iblk m c 11 t)))

/-! ### Their values -/

abbrev times (a b : EReal) : EReal := a * b

theorem qe_eq (c : Dev nD) (t : Fin cfg0.N) (q : ℕ) (hq : q < 258) (p : Fin 288) (hp : p.val = 15 + q) (l : Fin 512) :
    qe m c t (ix2 p l) = edge (BcCore.q (Z m c)) (t.val * 256 + q) l := by
  have hlt : 15 + q < 288 := by omega
  obtain rfl : p = ⟨15 + q, hlt⟩ := Fin.ext hp
  refine (pay13_eq _ _ _ _ _ l).trans (around (BcCore.q (Z m c)) t
    (fun r l => times (iblk m c 0 t (ix2 r ⟨512 + l.val, by omega⟩)) (iblk m c 0 t (ix2 r ⟨1024 + l.val, by omega⟩)))
    (fun r l => times (iblk m c 1 t (ix2 r ⟨512 + l.val, by omega⟩)) (iblk m c 1 t (ix2 r ⟨1024 + l.val, by omega⟩)))
    (fun r l => times (iblk m c 2 t (ix2 r ⟨512 + l.val, by omega⟩)) (iblk m c 2 t (ix2 r ⟨1024 + l.val, by omega⟩)))
    (fun r l => congrArg₂ times (blk0 m c t r _) (blk0 m c t r _)) (fun r l => congrArg₂ times (blk1 m c t r _) (blk1 m c t r _))
    (fun r l => congrArg₂ times (blk2 m c t r _) (blk2 m c t r _)) q hq l)

theorem de_eq (c : Dev nD) (t : Fin cfg0.N) (q : ℕ) (hq : q < 258) (p : Fin 288) (hp : p.val = 15 + q) (l : Fin 512) :
    de m c t (ix2 p l) = edge (BcCore.dcq (Z m c) (P m c)) (t.val * 256 + q) l := by
  have hlt : 15 + q < 288 := by omega
  obtain rfl : p = ⟨15 + q, hlt⟩ := Fin.ext hp
  refine (pay17_eq _ _ _ _ _ _ _ _ l).trans (around (BcCore.dcq (Z m c) (P m c)) t
    (fun r l => times (iblk m c 3 t (ix2 r l)) (iblk m c 0 t (ix2 r ⟨l.val, by omega⟩)))
    (fun r l => times (iblk m c 4 t (ix2 r l)) (iblk m c 1 t (ix2 r ⟨l.val, by omega⟩)))
    (fun r l => times (iblk m c 5 t (ix2 r l)) (iblk m c 2 t (ix2 r ⟨l.val, by omega⟩)))
    (fun r l => congrArg₂ times (blk3 m c t r _) (blk0 m c t r _)) (fun r l => congrArg₂ times (blk4 m c t r _) (blk1 m c t r _))
    (fun r l => congrArg₂ times (blk5 m c t r _) (blk2 m c t r _)) q hq l)

theorem own_eq (c : Dev nD) (t : Fin cfg0.N) (r : Fin 256) (l : Fin 512) : own m c t (ix2 r l) = BcCore.dcq (Z m c) (P m c) (row t r) l := by
  pointwise [k0_pay14, k0_pay6]
  rw [blk3, blk0]
  rfl

theorem za_eq (c : Dev nD) (t : Fin cfg0.N) (r : Fin 256) (l : Fin 512) :
    k0_pay10 (iblk m c 0 t) (ix2 r l) = Z m c (row t r) ⟨2048 + l.val, by omega⟩ := by
  pointwise [k0_pay10, k0_pay6]
  exact blk0 m c t r _
theorem zu_eq (c : Dev nD) (t : Fin cfg0.N) (r : Fin 256) (l : Fin 512) :
    k0_pay9 (iblk m c 0 t) (ix2 r l) = Z m c (row t r) ⟨1536 + l.val, by omega⟩ := by
  pointwise [k0_pay9, k0_pay6]
  exact blk0 m c t r _
theorem zb_eq (c : Dev nD) (t : Fin cfg0.N) (r : Fin 256) (l : Fin 512) :
    k0_pay8 (iblk m c 0 t) (ix2 r l) = Z m c (row t r) ⟨1024 + l.val, by omega⟩ := by
  pointwise [k0_pay8, k0_pay6]
  exact blk0 m c t r _
theorem zc_eq (c : Dev nD) (t : Fin cfg0.N) (r : Fin 256) (l : Fin 512) :
    k0_pay7 (iblk m c 0 t) (ix2 r l) = Z m c (row t r) ⟨512 + l.val, by omega⟩ := by
  pointwise [k0_pay7, k0_pay6]
  exact blk0 m c t r _

theorem ge_eq (c : Dev nD) (t : Fin cfg0.N) (r : Fin 256) (l : Fin 512) : ge m c t (ix2 r l) = BcCore.gv (Z m c) (row t r) l :=
  (pay31_eq _ r l).trans (congrArg gelu (za_eq m c t r l))
theorem ge_row (c : Dev nD) (t : Fin cfg0.N) (r : Fin 256) : (fun y => ge m c t (ix2 r y)) = BcCore.gv (Z m c) (row t r) :=
  funext fun y => ge_eq m c t r y
theorem vv_eq (c : Dev nD) (t : Fin cfg0.N) (r : Fin 256) (l : Fin 512) :
    vv m c t (ix2 r l) = BcCore.v2 (Z m c) (lg m c) (lb m c) (row t r) l := by
  refine (pay35_eq _ _ _ r l).trans ?_
  rw [ge_row, blk8, blk9]
  rfl
theorem bia_eq (c : Dev nD) (t : Fin cfg0.N) (p : Fin 128) (l : Fin 512) : bia m c t (ix2 p l) = bs m c (BcCore.head l) p := by
  pointwise [k0_pay36]
  exact blk12 m c t p l
theorem dmix_eq (c : Dev nD) (t : Fin cfg0.N) (r : Fin 256) (l : Fin 512) : dmix m c t (ix2 r l) = BcCore.dmix (Z m c) (Q m c) (row t r) l := by
  refine (pay51_eq _ _ r l).trans ?_
  rw [zu_eq, blk6]
  rfl

theorem ld_head (X : S4x128x128.Idx → EReal) (h : ℕ) (hh : h < 4) (inb) (a b : Fin 128) :
    View.ld (Val := Elt Ideal) (e' := .bf16) X (Rect.unit (s := S4x128x128) ![h, 0, 0] ![1, 128, 128] inb) (ix3 0 a b) = X (ix3 ⟨h, hh⟩ a b) :=
  View.ld_unit_apply_of (S := S4x128x128) (Val := Elt Ideal) (e := .bf16) X ![h, 0, 0] ![1, 128, 128] inb (ix3 0 a b) (ix3 ⟨h, hh⟩ a b)
    (Fin.forall_fin_succ.mpr ⟨rfl, Fin.forall_fin_two.mpr ⟨(Nat.zero_add _).symm, (Nat.zero_add _).symm⟩⟩)

/-- One chunk of one head, mixed. -/
theorem mix (c : Dev nD) (t : Fin cfg0.N) (k : Fin 2) (h : Fin 4) (a b : Fin 128) :
    ∑ x : Fin 128, ws m c h a x * BcCore.v2 (Z m c) (lg m c) (lb m c) (row t ⟨k.val * 128 + x.val, by omega⟩) ⟨h.val * 128 + b.val, by omega⟩ +
        bs m c h a =
      BcCore.mixed (Z m c) (lg m c) (lb m c) (ws m c) (bs m c) (row t ⟨k.val * 128 + a.val, by omega⟩) ⟨h.val * 128 + b.val, by omega⟩ := by
  have ht := t_lt t
  have hd : BcCore.head ⟨h.val * 128 + b.val, by omega⟩ = h := Fin.ext (by show (h.val * 128 + b.val) / 128 = h.val; omega)
  have hp : BcCore.place (row t ⟨k.val * 128 + a.val, by omega⟩) = a :=
    Fin.ext (by show (t.val * 256 + (k.val * 128 + a.val)) % 128 = a.val; omega)
  have hm (x : Fin 128) : BcCore.mate (row t ⟨k.val * 128 + a.val, by omega⟩) x = row t ⟨k.val * 128 + x.val, by omega⟩ :=
    Fin.ext (by show (t.val * 256 + (k.val * 128 + a.val)) / 128 * 128 + x.val = t.val * 256 + (k.val * 128 + x.val); omega)
  unfold BcCore.mixed
  rw [hd, hp]
  simp only [hm]
theorem unmix (c : Dev nD) (t : Fin cfg0.N) (k : Fin 2) (h : Fin 4) (a b : Fin 128) :
    ∑ x : Fin 128, ws m c h x a * BcCore.dmix (Z m c) (Q m c) (row t ⟨k.val * 128 + x.val, by omega⟩) ⟨h.val * 128 + b.val, by omega⟩ =
      BcCore.dv2 (Z m c) (Q m c) (ws m c) (row t ⟨k.val * 128 + a.val, by omega⟩) ⟨h.val * 128 + b.val, by omega⟩ := by
  have ht := t_lt t
  have hd : BcCore.head ⟨h.val * 128 + b.val, by omega⟩ = h := Fin.ext (by show (h.val * 128 + b.val) / 128 = h.val; omega)
  have hp : BcCore.place (row t ⟨k.val * 128 + a.val, by omega⟩) = a :=
    Fin.ext (by show (t.val * 256 + (k.val * 128 + a.val)) % 128 = a.val; omega)
  have hm (x : Fin 128) : BcCore.mate (row t ⟨k.val * 128 + a.val, by omega⟩) x = row t ⟨k.val * 128 + x.val, by omega⟩ :=
    Fin.ext (by show (t.val * 256 + (k.val * 128 + a.val)) / 128 * 128 + x.val = t.val * 256 + (k.val * 128 + x.val); omega)
  unfold BcCore.dv2
  rw [hd, hp]
  simp only [hm]

/-- The same at the places a stored block names. -/
theorem mixAt (c : Dev nD) (t : Fin cfg0.N) (k : Fin 2) (h : Fin 4) (a b : Fin 128) (f : Fin 128 → EReal) (i : Fin 128 → Fin 256) (j : Fin 512)
    (hf : ∀ x, f x = ws m c h a x) (hi : ∀ x, (i x).val = k.val * 128 + x.val) (hj : j.val = h.val * 128 + b.val) :
    (∑ x : Fin 128, f x * vv m c t (ix2 (i x) j) + bia m c t (ix2 a j) : EReal) =
      BcCore.mixed (Z m c) (lg m c) (lb m c) (ws m c) (bs m c) (row t ⟨k.val * 128 + a.val, by omega⟩) ⟨h.val * 128 + b.val, by omega⟩ := by
  have hd : BcCore.head j = h := Fin.ext (by show j.val / 128 = h.val; omega)
  rw [← mix, bia_eq, hd]
  congr 1
  refine Finset.sum_congr rfl fun x _ => ?_
  rw [vv_eq, hf, show i x = ⟨k.val * 128 + x.val, by omega⟩ from Fin.ext (hi x),
    show j = ⟨h.val * 128 + b.val, by omega⟩ from Fin.ext hj]
theorem unmixAt (c : Dev nD) (t : Fin cfg0.N) (k : Fin 2) (h : Fin 4) (a b : Fin 128) (f : Fin 128 → EReal) (i : Fin 128 → Fin 256) (j : Fin 512)
    (hf : ∀ x, f x = ws m c h x a) (hi : ∀ x, (i x).val = k.val * 128 + x.val) (hj : j.val = h.val * 128 + b.val) :
    (∑ x : Fin 128, f x * dmix m c t (ix2 (i x) j) : EReal) =
      BcCore.dv2 (Z m c) (Q m c) (ws m c) (row t ⟨k.val * 128 + a.val, by omega⟩) ⟨h.val * 128 + b.val, by omega⟩ := by
  rw [← unmix]
  refine Finset.sum_congr rfl fun x _ => ?_
  rw [dmix_eq, hf, show i x = ⟨k.val * 128 + x.val, by omega⟩ from Fin.ext (hi x),
    show j = ⟨h.val * 128 + b.val, by omega⟩ from Fin.ext hj]

theorem wsAt (c : Dev nD) (t : Fin cfg0.N) (h : ℕ) (hh : h < 4) (inb) (a b : Fin 128) :
    View.ld (Val := Elt Ideal) (e' := .bf16) (iblk m c 10 t) (Rect.unit (s := S4x128x128) ![h, 0, 0] ![1, 128, 128] inb) (ix3 0 a b) =
      ws m c ⟨h, hh⟩ a b := (ld_head _ h hh inb a b).trans (blk10 m c t _ a b)
theorem wstAt (c : Dev nD) (t : Fin cfg0.N) (h : ℕ) (hh : h < 4) (inb) (a b : Fin 128) :
    View.ld (Val := Elt Ideal) (e' := .bf16) (iblk m c 11 t) (Rect.unit (s := S4x128x128) ![h, 0, 0] ![1, 128, 128] inb) (ix3 0 a b) =
      ws m c ⟨h, hh⟩ b a := (ld_head _ h hh inb a b).trans (blk11 m c t _ a b)

theorem mixed_eq (c : Dev nD) (t : Fin cfg0.N) (r : Fin 256) (l : Fin 512) :
    mixed m c t (ix2 r l) = BcCore.mixed (Z m c) (lg m c) (lb m c) (ws m c) (bs m c) (row t r) l := by
  refine eight_eq _ _ _ _ _ _ _ _ _ (fun r l => BcCore.mixed (Z m c) (lg m c) (lb m c) (ws m c) (bs m c) (row t r) l)
    (fun a b => ?_) (fun a b => ?_) (fun a b => ?_) (fun a b => ?_) (fun a b => ?_) (fun a b => ?_) (fun a b => ?_) (fun a b => ?_) r l
  · refine Eq.trans ?_ (mixAt m c t 0 0 a b (fun x => ws0 (iblk m c 10 t) (ix3 0 a x)) (fun x => ⟨x.val, by omega⟩)
      ⟨b.val, by omega⟩ (fun x => wsAt m c t 0 (by decide) _ a x) (fun x => by simp) (by simp))
    pointwise [k0_pay37]
  · refine Eq.trans ?_ (mixAt m c t 0 1 a b (fun x => ws1 (iblk m c 10 t) (ix3 0 a x)) (fun x => ⟨x.val, by omega⟩)
      ⟨128 + b.val, by omega⟩ (fun x => wsAt m c t 1 (by decide) _ a x) (fun x => by simp) (by simp))
    pointwise [k0_pay39, k0_pay38]
  · refine Eq.trans ?_ (mixAt m c t 0 2 a b (fun x => ws2 (iblk m c 10 t) (ix3 0 a x)) (fun x => ⟨x.val, by omega⟩)
      ⟨256 + b.val, by omega⟩ (fun x => wsAt m c t 2 (by decide) _ a x) (fun x => by simp) (by simp))
    pointwise [k0_pay40]
  · refine Eq.trans ?_ (mixAt m c t 0 3 a b (fun x => ws3 (iblk m c 10 t) (ix3 0 a x)) (fun x => ⟨x.val, by omega⟩)
      ⟨384 + b.val, by omega⟩ (fun x => wsAt m c t 3 (by decide) _ a x) (fun x => by simp) (by simp))
    pointwise [k0_pay41]
  · refine Eq.trans ?_ (mixAt m c t 1 0 a b (fun x => ws0 (iblk m c 10 t) (ix3 0 a x)) (fun x => ⟨128 + x.val, by omega⟩)
      ⟨b.val, by omega⟩ (fun x => wsAt m c t 0 (by decide) _ a x) (fun x => by simp) (by simp))
    pointwise [k0_pay42]
  · refine Eq.trans ?_ (mixAt m c t 1 1 a b (fun x => ws1 (iblk m c 10 t) (ix3 0 a x)) (fun x => ⟨128 + x.val, by omega⟩)
      ⟨128 + b.val, by omega⟩ (fun x => wsAt m c t 1 (by decide) _ a x) (fun x => by simp) (by simp))
    pointwise [k0_pay44, k0_pay43]
  · refine Eq.trans ?_ (mixAt m c t 1 2 a b (fun x => ws2 (iblk m c 10 t) (ix3 0 a x)) (fun x => ⟨128 + x.val, by omega⟩)
      ⟨256 + b.val, by omega⟩ (fun x => wsAt m c t 2 (by decide) _ a x) (fun x => by simp) (by simp))
    pointwise [k0_pay45]
  · refine Eq.trans ?_ (mixAt m c t 1 3 a b (fun x => ws3 (iblk m c 10 t) (ix3 0 a x)) (fun x => ⟨128 + x.val, by omega⟩)
      ⟨384 + b.val, by omega⟩ (fun x => wsAt m c t 3 (by decide) _ a x) (fun x => by simp) (by simp))
    pointwise [k0_pay46]

theorem dvv_eq (c : Dev nD) (t : Fin cfg0.N) (r : Fin 256) (l : Fin 512) :
    dvv m c t (ix2 r l) = BcCore.dv2 (Z m c) (Q m c) (ws m c) (row t r) l := by
  refine eight_eq _ _ _ _ _ _ _ _ _ (fun r l => BcCore.dv2 (Z m c) (Q m c) (ws m c) (row t r) l)
    (fun a b => ?_) (fun a b => ?_) (fun a b => ?_) (fun a b => ?_) (fun a b => ?_) (fun a b => ?_) (fun a b => ?_) (fun a b => ?_) r l
  · refine Eq.trans ?_ (unmixAt m c t 0 0 a b (fun x => ws0 (iblk m c 11 t) (ix3 0 a x)) (fun x => ⟨x.val, by omega⟩)
      ⟨b.val, by omega⟩ (fun x => wstAt m c t 0 (by decide) _ a x) (fun x => by simp) (by simp))
    pointwise [k0_pay55, k0_pay53]
  · refine Eq.trans ?_ (unmixAt m c t 0 1 a b (fun x => ws1 (iblk m c 11 t) (ix3 0 a x)) (fun x => ⟨x.val, by omega⟩)
      ⟨128 + b.val, by omega⟩ (fun x => wstAt m c t 1 (by decide) _ a x) (fun x => by simp) (by simp))
    pointwise [k0_pay58, k0_pay56]
  · refine Eq.trans ?_ (unmixAt m c t 0 2 a b (fun x => ws2 (iblk m c 11 t) (ix3 0 a x)) (fun x => ⟨x.val, by omega⟩)
      ⟨256 + b.val, by omega⟩ (fun x => wstAt m c t 2 (by decide) _ a x) (fun x => by simp) (by simp))
    pointwise [k0_pay61, k0_pay59]
  · refine Eq.trans ?_ (unmixAt m c t 0 3 a b (fun x => ws3 (iblk m c 11 t) (ix3 0 a x)) (fun x => ⟨x.val, by omega⟩)
      ⟨384 + b.val, by omega⟩ (fun x => wstAt m c t 3 (by decide) _ a x) (fun x => by simp) (by simp))
    pointwise [k0_pay65, k0_pay64, k0_pay62]
  · refine Eq.trans ?_ (unmixAt m c t 1 0 a b (fun x => ws0 (iblk m c 11 t) (ix3 0 a x)) (fun x => ⟨128 + x.val, by omega⟩)
      ⟨b.val, by omega⟩ (fun x => wstAt m c t 0 (by decide) _ a x) (fun x => by simp) (by simp))
    pointwise [k0_pay69, k0_pay67]
  · refine Eq.trans ?_ (unmixAt m c t 1 1 a b (fun x => ws1 (iblk m c 11 t) (ix3 0 a x)) (fun x => ⟨128 + x.val, by omega⟩)
      ⟨128 + b.val, by omega⟩ (fun x => wstAt m c t 1 (by decide) _ a x) (fun x => by simp) (by simp))
    pointwise [k0_pay73, k0_pay70]
  · refine Eq.trans ?_ (unmixAt m c t 1 2 a b (fun x => ws2 (iblk m c 11 t) (ix3 0 a x)) (fun x => ⟨128 + x.val, by omega⟩)
      ⟨256 + b.val, by omega⟩ (fun x => wstAt m c t 2 (by decide) _ a x) (fun x => by simp) (by simp))
    pointwise [k0_pay76, k0_pay74]
  · refine Eq.trans ?_ (unmixAt m c t 1 3 a b (fun x => ws3 (iblk m c 11 t) (ix3 0 a x)) (fun x => ⟨128 + x.val, by omega⟩)
      ⟨384 + b.val, by omega⟩ (fun x => wstAt m c t 3 (by decide) _ a x) (fun x => by simp) (by simp))
    pointwise [k0_pay81, k0_pay77]

end Cert.BcValue

end
-- ==== Proof.BcValOut.lean ====
module

public import proofs.«01_k».proof.Proof.Reals
public import proofs.«01_k».proof.Proof.BcVal

/-! The six results of the two short mixers' backward call, place by place. -/

@[expose] public section

set_option maxRecDepth 16384

noncomputable section

namespace Cert.BcValue

open Cert.KBcIdeal Cert.KBcIdeal.Gen Idealize.ShloMosaic Idealize.ShloMosaic.TcCoe Idealize.SL.Sem
open Idealize.ShloMosaic.Pipeline (Dat)
open Cert.BcGrad (gelu geluD nor rs lnBack)
open Cert.BcCore (edge)

variable (m : (ℓ : Loc nD τ sig) → Buf (Elt Ideal) ℓ)

/-! ### The gradient at the five lane groups -/

/-- The five stored column blocks. -/
abbrev c0 (c : Dev nD) (t : Fin cfg0.N) : S256x512.Idx → EReal :=
  k0_pay28 (iblk m c 3 t) (k0_pay21 (qe m c t) (iblk m c 7 t)) (k0_pay25 (qe m c t) (iblk m c 7 t))
abbrev c1 (c : Dev nD) (t : Fin cfg0.N) : S256x512.Idx → EReal :=
  k0_pay29 (k0_pay8 (iblk m c 0 t)) (de m c t) (iblk m c 7 t) (k0_pay22 (isLast t) (own m c t) (dAft m c t) (dBef m c t) zero0 (iblk m c 7 t))
abbrev c2 (c : Dev nD) (t : Fin cfg0.N) : S256x512.Idx → EReal :=
  k0_pay30 (k0_pay7 (iblk m c 0 t)) (de m c t) (iblk m c 7 t) (k0_pay22 (isLast t) (own m c t) (dAft m c t) (dBef m c t) zero0 (iblk m c 7 t))
abbrev c3 (c : Dev nD) (t : Fin cfg0.N) : S256x512.Idx → EReal :=
  k0_pay50 (k0_pay9 (iblk m c 0 t)) (k0_pay47 (mixed m c t) (iblk m c 6 t)) (k0_pay48 (k0_pay9 (iblk m c 0 t))) (k0_pay49 (k0_pay9 (iblk m c 0 t)))
abbrev c4 (c : Dev nD) (t : Fin cfg0.N) : S256x512.Idx → EReal :=
  k0_pay86 (k0_pay10 (iblk m c 0 t)) (k0_pay33 (ge m c t)) (k0_pay34 (ge m c t)) (k0_pay84 (iblk m c 8 t) (dvv m c t))
    (k0_pay85 (iblk m c 8 t) (dvv m c t))

/-- They are stored side by side. -/
abbrev five (p0 p1 p2 p3 p4 : S256x512.Idx → EReal) : S256x2560.Idx → EReal :=
  View.canon (Val := Elt Ideal) (s := S256x2560) (e := .bf16)
    [⟨Rect.unit ![0, 2048] ![256, 512] inb_S256x2560_S256x512_0_2048, p4⟩, ⟨Rect.unit ![0, 1536] ![256, 512] inb_S256x2560_S256x512_0_1536, p3⟩,
      ⟨Rect.unit ![0, 1024] ![256, 512] inb_S256x2560_S256x512_0_1024, p2⟩, ⟨Rect.unit ![0, 512] ![256, 512] inb_S256x2560_S256x512_0_512, p1⟩,
      ⟨Rect.unit ![0, 0] ![256, 512] inb_S256x2560_S256x512_0_0, p0⟩]

theorem five_congr (p0 p1 p2 p3 p4 q0 q1 q2 q3 q4 : S256x512.Idx → EReal) (h0 : p0 = q0) (h1 : p1 = q1) (h2 : p2 = q2) (h3 : p3 = q3) (h4 : p4 = q4) :
    five p0 p1 p2 p3 p4 = five q0 q1 q2 q3 q4 := by
  rw [h0, h1, h2, h3, h4]
theorem out13 (c : Dev nD) (t : Fin cfg0.N) : (outsAt0 m c t.val t.isLt).1 = five (c0 m c t) (c1 m c t) (c2 m c t) (c3 m c t) (c4 m c t) := by
  by_cases h0 : t.val % 64 = 0
  · rw [outsAt0_A m c t h0]
    frame_out
    repeat rw [Memref.IsWhole.read_unread]
    repeat rw [View.ld_unit_lit']
    · exact five_congr _ _ _ _ _ _ _ _ _ _ rfl rfl rfl rfl rfl
    all_goals decide
  · rw [outsAt0_B m c t h0]
    frame_out
    repeat rw [Memref.IsWhole.read_unread]
    repeat rw [View.ld_unit_lit']
    · exact five_congr _ _ _ _ _ _ _ _ _ _ rfl rfl rfl rfl rfl
    all_goals decide

theorem c0_eq (c : Dev nD) (t : Fin cfg0.N) (r : Fin 256) (l : Fin 512) :
    c0 m c t (ix2 r l) = BcCore.dz0 (Z m c) (P m c) (W m c) (row t r) l := by
  refine (pay28_eq _ _ _ r l).trans ?_
  rw [blk3, blk7, blk7, blk7, qe_eq m c t r.val (by omega) _ (by show (16 + r.val + 288 - 1) % 288 = _; omega),
    qe_eq m c t (r.val + 1) (by omega) _ (by show 16 + r.val = _; omega),
    qe_eq m c t (r.val + 2) (by omega) _ (by show (16 + r.val + 288 - 287) % 288 = _; omega)]
  rfl
theorem back_eq (c : Dev nD) (t : Fin cfg0.N) (r : Fin 256) (l : Fin 512) :
    back (de m c t) (iblk m c 7 t) r l = BcCore.dq (Z m c) (P m c) (W m c) (row t r) l := by
  unfold back
  rw [blk7, blk7, blk7, de_eq m c t (r.val + 2) (by omega) _ (by show (16 + r.val + 288 - 287) % 288 = _; omega),
    de_eq m c t (r.val + 1) (by omega) _ (by show 16 + r.val = _; omega),
    de_eq m c t r.val (by omega) _ (by show (16 + r.val + 288 - 1) % 288 = _; omega)]
  rfl
theorem c1_eq (c : Dev nD) (t : Fin cfg0.N) (r : Fin 256) (l : Fin 512) :
    c1 m c t (ix2 r l) = BcCore.dz1 (Z m c) (P m c) (W m c) (row t r) l := by
  refine (pay29_eq (de m c t) _ _ _ _ _ rfl _ _ r l).trans ?_
  rw [back_eq, zb_eq]
  rfl
theorem c2_eq (c : Dev nD) (t : Fin cfg0.N) (r : Fin 256) (l : Fin 512) :
    c2 m c t (ix2 r l) = BcCore.dz2 (Z m c) (P m c) (W m c) (row t r) l := by
  refine (pay30_eq (de m c t) _ _ _ _ _ rfl _ _ r l).trans ?_
  rw [back_eq, zc_eq]
  rfl
theorem c3_eq (c : Dev nD) (t : Fin cfg0.N) (r : Fin 256) (l : Fin 512) :
    c3 m c t (ix2 r l) = BcCore.dz3 (Z m c) (Q m c) (lg m c) (lb m c) (ws m c) (bs m c) (row t r) l := by
  refine (pay50_eq _ _ _ r l).trans ?_
  rw [mixed_eq, zu_eq, blk6]
  rfl
theorem c4_eq (c : Dev nD) (t : Fin cfg0.N) (r : Fin 256) (l : Fin 512) :
    c4 m c t (ix2 r l) = BcCore.dz4 (Z m c) (Q m c) (lg m c) (ws m c) (row t r) l := by
  refine (pay86_eq _ _ _ _ r l).trans ?_
  rw [ge_row, za_eq]
  simp only [dvv_eq, blk8]
  rfl

/-- The gradient at the lanes the call reads. -/
def dz (c : Dev nD) (r : Fin 16384) (l : Fin 2560) : EReal :=
  BcCore.dz (Z m c) (P m c) (Q m c) (W m c) (lg m c) (lb m c) (ws m c) (bs m c) r l

theorem five_eq (p0 p1 p2 p3 p4 : S256x512.Idx → EReal) (G : Fin 256 → Fin 2560 → EReal)
    (h0 : ∀ r l, p0 (ix2 r l) = G r ⟨l.val, by omega⟩) (h1 : ∀ r l, p1 (ix2 r l) = G r ⟨512 + l.val, by omega⟩)
    (h2 : ∀ r l, p2 (ix2 r l) = G r ⟨1024 + l.val, by omega⟩) (h3 : ∀ r l, p3 (ix2 r l) = G r ⟨1536 + l.val, by omega⟩)
    (h4 : ∀ r l, p4 (ix2 r l) = G r ⟨2048 + l.val, by omega⟩) (r : Fin 256) (l : Fin 2560) : five p0 p1 p2 p3 p4 (ix2 r l) = G r l := by
  have piece (p : S256x512.Idx → EReal) (j : ℕ) (hj : j ≤ 2048) (hp : ∀ r l, p (ix2 r l) = G r ⟨j + l.val, by omega⟩) (inb) (x : S256x512.Idx) :
      p x = (fun y : S256x2560.Idx => G (y 0) (y 1)) ((Rect.unit (s := S256x2560) ![0, j] ![256, 512] inb).emb x) := by
    obtain ⟨r, l, rfl⟩ := at2 x
    have e : (Rect.unit (s := S256x2560) ![0, j] ![256, 512] inb).emb (ix2 r l) = (ix2 r ⟨j + l.val, by omega⟩ : S256x2560.Idx) := by
      blk_ext []
    rw [e]
    exact hp r l
  refine View.canon_apply_of_pieces (Val := Elt Ideal) (S := S256x2560) (e := .bf16) (fun y : S256x2560.Idx => G (y 0) (y 1)) _ ?_ (ix2 r l) ?_
  · intro p hp x
    simp only [List.mem_cons, List.not_mem_nil, or_false] at hp
    rcases hp with rfl | rfl | rfl | rfl | rfl
    · exact piece p4 2048 (by decide) h4 inb_S256x2560_S256x512_0_2048 x
    · exact piece p3 1536 (by decide) h3 inb_S256x2560_S256x512_0_1536 x
    · exact piece p2 1024 (by decide) h2 inb_S256x2560_S256x512_0_1024 x
    · exact piece p1 512 (by decide) h1 inb_S256x2560_S256x512_0_512 x
    · exact piece p0 0 (by decide) (fun r l => (h0 r l).trans (congrArg (G r) (Fin.ext (Nat.zero_add _).symm))) inb_S256x2560_S256x512_0_0 x
  · simp only [List.mem_cons, List.not_mem_nil, or_false, exists_eq_or_imp, exists_eq_left, Rect.mem_set_unit, Fin.forall_fin_two]
    have hr := r.isLt
    have hl := l.isLt
    change ((0 ≤ r.val ∧ r.val < 0 + 256) ∧ 2048 ≤ l.val ∧ l.val < 2048 + 512) ∨ ((0 ≤ r.val ∧ r.val < 0 + 256) ∧ 1536 ≤ l.val ∧ l.val < 1536 + 512) ∨
      ((0 ≤ r.val ∧ r.val < 0 + 256) ∧ 1024 ≤ l.val ∧ l.val < 1024 + 512) ∨ ((0 ≤ r.val ∧ r.val < 0 + 256) ∧ 512 ≤ l.val ∧ l.val < 512 + 512) ∨
      (0 ≤ r.val ∧ r.val < 0 + 256) ∧ 0 ≤ l.val ∧ l.val < 0 + 512
    omega

theorem left13 (c : Dev nD) (t : Fin cfg0.N) (r : Fin 256) (l : Fin 2560) : (outsAt0 m c t.val t.isLt).1 (ix2 r l) = dz m c (row t r) l := by
  rw [out13]
  refine five_eq _ _ _ _ _ (fun r l => dz m c (row t r) l) (fun r l => ?_) (fun r l => ?_) (fun r l => ?_) (fun r l => ?_) (fun r l => ?_) r l
  · simp only [dz, BcCore.dz]
    rw [dif_pos l.isLt]
    exact c0_eq m c t r l
  · simp only [dz, BcCore.dz]
    rw [dif_neg (by omega), dif_pos (by omega)]
    simp only [Nat.add_sub_cancel_left]
    exact c1_eq m c t r l
  · simp only [dz, BcCore.dz]
    rw [dif_neg (by omega), dif_neg (by omega), dif_pos (by omega)]
    simp only [Nat.add_sub_cancel_left]
    exact c2_eq m c t r l
  · simp only [dz, BcCore.dz]
    rw [dif_neg (by omega), dif_neg (by omega), dif_neg (by omega), dif_pos (by omega)]
    simp only [Nat.add_sub_cancel_left]
    exact c3_eq m c t r l
  · simp only [dz, BcCore.dz]
    rw [dif_neg (by omega), dif_neg (by omega), dif_neg (by omega), dif_neg (by omega)]
    simp only [Nat.add_sub_cancel_left]
    exact c4_eq m c t r l

theorem final13 (c : Dev nD) : (dats m 0 c).arrAt 13 cfg0.N = fun i : S16384x2560.Idx => dz m c (i 0) (i 1) := by
  refine (dats m 0 c).arrAt_eq_of_covers 13 _ (by decide +kernel) fun t hf y => ?_
  blk_simp
  obtain ⟨r, l, rfl⟩ := at2 y
  have e : ((View.whole main_v6_0).slice (win0_13.rect t)).emb (ix2 r l) = ix2 (row t r) l := by
    blk_ext [(idx t).2.2.2.2.2.2.2.2.2.2.2.2.2]
  rw [after0_13, e]
  exact left13 m c t r l

end Cert.BcValue

end
-- ==== Proof.BcValAcc.lean ====
module

public import proofs.«01_k».proof.Proof.Reals
public import proofs.«01_k».proof.Proof.BcVal

/-! The five gradients the two short mixers' backward call adds up over its points, place by place. -/

@[expose] public section

set_option maxRecDepth 16384

noncomputable section

namespace Cert.BcValue

open Cert.KBcIdeal Cert.KBcIdeal.Gen Idealize.ShloMosaic Idealize.ShloMosaic.TcCoe Idealize.SL.Sem
open Idealize.ShloMosaic.Pipeline (Dat)
open Cert.BcGrad (gelu geluD nor rs lnBack)
open Cert.BcCore (edge)

variable (m : (ℓ : Loc nD τ sig) → Buf (Elt Ideal) ℓ)

/-- The last point. -/
def tlast : Fin cfg0.N := ⟨63, by decide⟩

/-! ### The gradient at the taps -/

def dsc (c : Dev nD) (k : Fin 3) (l : Fin 512) : EReal := BcCore.dsc (Z m c) (P m c) k l
/-- One row's share of it, and what point `t` adds. -/
def dscRow (c : Dev nD) (k : Fin 3) (l : Fin 512) (r : Fin 16384) : EReal := BcCore.dcq (Z m c) (P m c) r l * edge (BcCore.q (Z m c)) (r.val + k.val) l
def termS (c : Dev nD) (t : Fin cfg0.N) (j : S3x512.Idx) : EReal := ∑ r : Fin 256, dscRow m c (j 0) (j 1) (row t r)

/-- Three rows stored one by one: each is found where it was stored. -/
theorem rows3 (p0 p1 p2 : FVec Ideal S1x512 .f32) (L : List (View.Piece (Elt Ideal) S3x512 .f32)) (k : Fin 3) (l : Fin 512) :
    View.canon ((⟨Rect.unit ![2, 0] ![1, 512] inb_S3x512_S1x512_2_0, p2⟩ : View.Piece (Elt Ideal) S3x512 .f32) ::
      ⟨Rect.unit ![1, 0] ![1, 512] inb_S3x512_S1x512_1_0, p1⟩ :: ⟨Rect.unit ![0, 0] ![1, 512] inb_S3x512_S1x512_0_0, p0⟩ :: L) (ix2 k l) =
      (![p0, p1, p2] k) (ix2 0 l) := by
  have on (k : ℕ) (hk : k < 3) (inb) (p : FVec Ideal S1x512 .f32) (L : List (View.Piece (Elt Ideal) S3x512 .f32)) :
      View.canon ((⟨Rect.unit ![k, 0] ![1, 512] inb, p⟩ : View.Piece (Elt Ideal) S3x512 .f32) :: L) (ix2 ⟨k, hk⟩ l) = p (ix2 0 l) := by
    have e : (ix2 ⟨k, hk⟩ l : S3x512.Idx) = (Rect.unit (s := S3x512) ![k, 0] ![1, 512] inb).emb (ix2 0 l) := by
      blk_ext []
    rw [e]
    exact View.canon_cons_emb (Val := Elt Ideal) (e := .f32) (Rect.unit (s := S3x512) ![k, 0] ![1, 512] inb) p L (ix2 0 l)
  have off (k k' : ℕ) (hk : k < 3) (h : k ≠ k') (inb) (p : FVec Ideal S1x512 .f32) (L : List (View.Piece (Elt Ideal) S3x512 .f32)) :
      View.canon ((⟨Rect.unit ![k', 0] ![1, 512] inb, p⟩ : View.Piece (Elt Ideal) S3x512 .f32) :: L) (ix2 ⟨k, hk⟩ l) =
        View.canon L (ix2 ⟨k, hk⟩ l) := by
    refine View.canon_cons_of_not_mem _ _ fun hm => h ?_
    have h0 := Rect.mem_set_unit (inb := inb).mp hm 0
    change k' ≤ k ∧ k < k' + 1 at h0
    omega
  obtain ⟨k, hk⟩ := k
  match k, hk with
  | 0, hk =>
    rw [off 0 2 hk (by decide), off 0 1 hk (by decide), on 0 hk]
    rfl
  | 1, hk =>
    rw [off 1 2 hk (by decide), on 1 hk]
    rfl
  | 2, hk =>
    rw [on 2 hk]
    rfl

theorem stepS (c : Dev nD) (t : Fin cfg0.N) (v0 v1 v2 : FVec Ideal S1x512 .f32) (k : Fin 3) (l : Fin 512) :
    (![k0_pay19 (qe m c t) (own m c t) v0, k0_pay23 (qe m c t) (own m c t) v1, k0_pay27 (own m c t) (k0_pay24 (qe m c t)) v2] k) (ix2 0 l) =
      ((![v0, v1, v2] k) (ix2 0 l) + termS m c t (ix2 k l) : EReal) := by
  fin_cases k
  · refine (pay19_eq _ _ _ l).trans (congrArg (_ + ·) (Finset.sum_congr rfl fun r _ => congrArg₂ (· * ·) (own_eq m c t r l)
      (qe_eq m c t r.val (by omega) _ (by show (16 + r.val + 288 - 1) % 288 = _; omega) l)))
  · refine (pay23_eq _ _ _ l).trans (congrArg (_ + ·) (Finset.sum_congr rfl fun r _ => congrArg₂ (· * ·) (own_eq m c t r l)
      (qe_eq m c t (r.val + 1) (by omega) _ (by show 16 + r.val = _; omega) l)))
  · refine (pay27_eq _ _ _ l).trans (congrArg (_ + ·) (Finset.sum_congr rfl fun r _ => congrArg₂ (· * ·) (own_eq m c t r l)
      (qe_eq m c t (r.val + 2) (by omega) _ (by show (16 + r.val + 288 - 287) % 288 = _; omega) l)))

theorem load3 (X : S3x512.Idx → EReal) (k : Fin 3) (l : Fin 512) :
    (![View.ld (Val := Elt Ideal) (e' := .f32) X (Rect.unit ![0, 0] ![1, 512] inb_S3x512_S1x512_0_0),
      View.ld (Val := Elt Ideal) (e' := .f32) X (Rect.unit ![1, 0] ![1, 512] inb_S3x512_S1x512_1_0),
      View.ld (Val := Elt Ideal) (e' := .f32) X (Rect.unit ![2, 0] ![1, 512] inb_S3x512_S1x512_2_0)] k) (ix2 0 l) = X (ix2 k l) := by
  have row (k : ℕ) (hk : k < 3) (inb) :
      View.ld (Val := Elt Ideal) (e' := .f32) X (Rect.unit (s := S3x512) ![k, 0] ![1, 512] inb) (ix2 0 l) = X (ix2 ⟨k, hk⟩ l) :=
    View.ld_unit_apply_of (S := S3x512) (Val := Elt Ideal) (e := .f32) X ![k, 0] ![1, 512] inb (ix2 0 l) (ix2 ⟨k, hk⟩ l)
      (Fin.forall_fin_two.mpr ⟨rfl, (Nat.zero_add _).symm⟩)
  obtain ⟨k, hk⟩ := k
  match k, hk with
  | 0, hk => exact row 0 hk _
  | 1, hk => exact row 1 hk _
  | 2, hk => exact row 2 hk _

theorem final14 (c : Dev nD) : (dats m 0 c).arrAt 14 cfg0.N = fun i : S3x512.Idx => dsc m c (i 0) (i 1) := by
  refine (dats m 0 c).arrAt_eq_of_after_last 14 tlast (by decide +kernel) _ fun j => ?_
  blk_simp
  rw [after0_14, Pipeline.eq_sum_fin_of_reset_step_apply_last (fun n h => (outsAt0 m c n h).2.1) 64 (fun _ => 0)
    (termS m c) (fun t h j => ?_) (fun t h j => ?_) (le_of_eq N_0) tlast rfl, zero_add]
  · exact Fin.sum_mul_add_congr (f := fun r : Fin 16384 => dscRow m c (j 0) (j 1) r) (fun s k hl => rfl) (by rw [show cfg0.N = 64 from N_0])
  · obtain ⟨k, l, rfl⟩ := at2 j
    rw [outsAt0_A m c t h]
    frame_open
    simp (disch := decide) only [↓ View.readCov_skip, ↓ View.readCov_cons_toLoadRect, ↓ View.readCov_fill]
    frame_out
    repeat rw [Memref.IsWhole.read_unread]
    repeat rw [View.ld_unit_lit']
    · refine (rows3 _ _ _ _ k l).trans ((stepS m c t _ _ _ k l).trans ?_)
      rw [load3]
      congr 1
      pointwise [k0_pay1]
    all_goals decide
  · obtain ⟨k, l, rfl⟩ := at2 j
    rw [outsAt0_B m c t h]
    frame_out
    repeat rw [Memref.IsWhole.read_unread]
    repeat rw [View.ld_unit_lit']
    · refine (rows3 _ _ _ _ k l).trans ((stepS m c t _ _ _ k l).trans ?_)
      rw [load3]
    all_goals decide

/-! ### The gradients at the normalisation's weight and bias -/

def dlg (c : Dev nD) (l : Fin 512) : EReal := BcCore.dlg (Z m c) (Q m c) (ws m c) l
def dlb (c : Dev nD) (l : Fin 512) : EReal := BcCore.dlb (Z m c) (Q m c) (ws m c) l
def dlgRow (c : Dev nD) (l : Fin 512) (r : Fin 16384) : EReal := BcCore.dv2 (Z m c) (Q m c) (ws m c) r l * nor (BcCore.gv (Z m c) r) l
def dlbRow (c : Dev nD) (l : Fin 512) (r : Fin 16384) : EReal := BcCore.dv2 (Z m c) (Q m c) (ws m c) r l
def termG (c : Dev nD) (t : Fin cfg0.N) (j : S1x512.Idx) : EReal := ∑ r : Fin 256, dlgRow m c (j 1) (row t r)
def termB (c : Dev nD) (t : Fin cfg0.N) (j : S1x512.Idx) : EReal := ∑ r : Fin 256, dlbRow m c (j 1) (row t r)

theorem pay82_eq (n d : S256x512.Idx → EReal) (v : S1x512.Idx → EReal) (l : Fin 512) :
    k0_pay82 (F := Ideal) n d v (ix2 0 l) = v (ix2 0 l) + ∑ r : Fin 256, d (ix2 r l) * n (ix2 r l) := by
  pointwise [k0_pay82]
theorem pay83_eq (d : S256x512.Idx → EReal) (v : S1x512.Idx → EReal) (l : Fin 512) :
    k0_pay83 (F := Ideal) d v (ix2 0 l) = v (ix2 0 l) + ∑ r : Fin 256, d (ix2 r l) := by
  pointwise [k0_pay83]

theorem stepG (c : Dev nD) (t : Fin cfg0.N) (v : FVec Ideal S1x512 .f32) (j : S1x512.Idx) :
    k0_pay82 (F := Ideal) (k0_pay34 (ge m c t)) (dvv m c t) v j = v j + termG m c t j := by
  obtain ⟨l, rfl⟩ : ∃ (l : Fin 512), j = ix2 0 l := ⟨j 1, by rw [eq_ix2 j]; congr 1; exact Subsingleton.elim _ _⟩
  refine (pay82_eq _ _ _ l).trans (congrArg (_ + ·) (Finset.sum_congr rfl fun r _ => congrArg₂ (· * ·) (dvv_eq m c t r l) ?_))
  rw [pay34_eq, ge_row]
  rfl
theorem stepB (c : Dev nD) (t : Fin cfg0.N) (v : FVec Ideal S1x512 .f32) (j : S1x512.Idx) :
    k0_pay83 (F := Ideal) (dvv m c t) v j = v j + termB m c t j := by
  obtain ⟨l, rfl⟩ : ∃ (l : Fin 512), j = ix2 0 l := ⟨j 1, by rw [eq_ix2 j]; congr 1; exact Subsingleton.elim _ _⟩
  exact (pay83_eq _ _ l).trans (congrArg (_ + ·) (Finset.sum_congr rfl fun r _ => dvv_eq m c t r l))

theorem final15 (c : Dev nD) : (dats m 0 c).arrAt 15 cfg0.N = fun i : S1x512.Idx => dlg m c (i 1) := by
  refine (dats m 0 c).arrAt_eq_of_after_last 15 tlast (by decide +kernel) _ fun j => ?_
  blk_simp
  rw [after0_15, Pipeline.eq_sum_fin_of_reset_step_apply_last (fun n h => (outsAt0 m c n h).2.2.1) 64 (fun _ => 0)
    (termG m c) (fun t h j => ?_) (fun t h j => ?_) (le_of_eq N_0) tlast rfl, zero_add]
  · exact Fin.sum_mul_add_congr (f := fun r : Fin 16384 => dlgRow m c (j 1) r) (fun s k hl => rfl) (by rw [show cfg0.N = 64 from N_0])
  · rw [outsAt0_A m c t h]
    frame_open
    simp (disch := decide) only [↓ View.readCov_skip, ↓ View.readCov_cons_toLoadRect, ↓ View.readCov_fill]
    frame_out
    refine (stepG m c t _ j).trans ?_
    congr 1
    pointwise [k0_pay2]
  · rw [outsAt0_B m c t h]
    frame_out
    exact stepG m c t _ j

theorem final16 (c : Dev nD) : (dats m 0 c).arrAt 16 cfg0.N = fun i : S1x512.Idx => dlb m c (i 1) := by
  refine (dats m 0 c).arrAt_eq_of_after_last 16 tlast (by decide +kernel) _ fun j => ?_
  blk_simp
  rw [after0_16, Pipeline.eq_sum_fin_of_reset_step_apply_last (fun n h => (outsAt0 m c n h).2.2.2.1) 64 (fun _ => 0)
    (termB m c) (fun t h j => ?_) (fun t h j => ?_) (le_of_eq N_0) tlast rfl, zero_add]
  · exact Fin.sum_mul_add_congr (f := fun r : Fin 16384 => dlbRow m c (j 1) r) (fun s k hl => rfl) (by rw [show cfg0.N = 64 from N_0])
  · rw [outsAt0_A m c t h]
    frame_open
    simp (disch := decide) only [↓ View.readCov_skip, ↓ View.readCov_cons_toLoadRect, ↓ View.readCov_fill]
    frame_out
    refine (stepB m c t _ j).trans ?_
    congr 1
    pointwise [k0_pay3]
  · rw [outsAt0_B m c t h]
    frame_out
    exact stepB m c t _ j

end Cert.BcValue

end
-- ==== Proof.BcValSum.lean ====
module

public import proofs.«01_k».proof.Proof.Reals
public import proofs.«01_k».proof.Proof.BcValAcc

/-! The gradients at the mixing weights and at their bias, which the two short mixers' backward call adds up over its points. -/

@[expose] public section

set_option maxRecDepth 16384

noncomputable section

namespace Cert.BcValue

open Cert.KBcIdeal Cert.KBcIdeal.Gen Idealize.ShloMosaic Idealize.ShloMosaic.TcCoe Idealize.SL.Sem
open Idealize.ShloMosaic.Pipeline (Dat)
open Cert.BcGrad (gelu geluD nor rs lnBack)
open Cert.BcCore (edge)

variable (m : (ℓ : Loc nD τ sig) → Buf (Elt Ideal) ℓ)

/-! ### The gradient at the mixing weights -/

def dws (c : Dev nD) (h : Fin 4) (p x : Fin 128) : EReal := BcCore.dws (Z m c) (Q m c) (lg m c) (lb m c) h p x
/-- One chunk's share of it, and what point `t` adds. -/
def dwsAt (c : Dev nD) (h : Fin 4) (p x n : Fin 128) : EReal := BcCore.dwsAt (Z m c) (Q m c) (lg m c) (lb m c) h p x n
abbrev chunk (t : Fin cfg0.N) (k : Fin 2) : Fin 128 := ⟨t.val * 2 + k.val, by have := t_lt t; omega⟩
def termW (c : Dev nD) (t : Fin cfg0.N) (j : S4x128x128.Idx) : EReal := ∑ k : Fin 2, dwsAt m c (j 0) (j 1) (j 2) (chunk t k)

/-- Four heads stored one by one: each is found where it was stored. -/
theorem heads4 (p0 p1 p2 p3 : FVec Ideal S1x128x128 .f32) (L : List (View.Piece (Elt Ideal) S4x128x128 .f32)) (h : Fin 4) (a b : Fin 128) :
    View.canon ((⟨Rect.unit ![3, 0, 0] ![1, 128, 128] inb_S4x128x128_S1x128x128_3_0_0, p3⟩ : View.Piece (Elt Ideal) S4x128x128 .f32) ::
      ⟨Rect.unit ![2, 0, 0] ![1, 128, 128] inb_S4x128x128_S1x128x128_2_0_0, p2⟩ ::
      ⟨Rect.unit ![1, 0, 0] ![1, 128, 128] inb_S4x128x128_S1x128x128_1_0_0, p1⟩ ::
      ⟨Rect.unit ![0, 0, 0] ![1, 128, 128] inb_S4x128x128_S1x128x128_0_0_0, p0⟩ :: L) (ix3 h a b) = (![p0, p1, p2, p3] h) (ix3 0 a b) := by
  have on (k : ℕ) (hk : k < 4) (inb) (p : FVec Ideal S1x128x128 .f32) (L : List (View.Piece (Elt Ideal) S4x128x128 .f32)) :
      View.canon ((⟨Rect.unit ![k, 0, 0] ![1, 128, 128] inb, p⟩ : View.Piece (Elt Ideal) S4x128x128 .f32) :: L) (ix3 ⟨k, hk⟩ a b) = p (ix3 0 a b) := by
    have e : (ix3 ⟨k, hk⟩ a b : S4x128x128.Idx) = (Rect.unit (s := S4x128x128) ![k, 0, 0] ![1, 128, 128] inb).emb (ix3 0 a b) := by
      blk_ext []
    rw [e]
    exact View.canon_cons_emb (Val := Elt Ideal) (e := .f32) (Rect.unit (s := S4x128x128) ![k, 0, 0] ![1, 128, 128] inb) p L (ix3 0 a b)
  have off (k k' : ℕ) (hk : k < 4) (h : k ≠ k') (inb) (p : FVec Ideal S1x128x128 .f32) (L : List (View.Piece (Elt Ideal) S4x128x128 .f32)) :
      View.canon ((⟨Rect.unit ![k', 0, 0] ![1, 128, 128] inb, p⟩ : View.Piece (Elt Ideal) S4x128x128 .f32) :: L) (ix3 ⟨k, hk⟩ a b) =
        View.canon L (ix3 ⟨k, hk⟩ a b) := by
    refine View.canon_cons_of_not_mem _ _ fun hm => h ?_
    have h0 := Rect.mem_set_unit (inb := inb).mp hm 0
    change k' ≤ k ∧ k < k' + 1 at h0
    omega
  obtain ⟨h, hh⟩ := h
  match h, hh with
  | 0, hh =>
    rw [off 0 3 hh (by decide), off 0 2 hh (by decide), off 0 1 hh (by decide), on 0 hh]
    rfl
  | 1, hh =>
    rw [off 1 3 hh (by decide), off 1 2 hh (by decide), on 1 hh]
    rfl
  | 2, hh =>
    rw [off 2 3 hh (by decide), on 2 hh]
    rfl
  | 3, hh =>
    rw [on 3 hh]
    rfl

/-- What a point leaves of a head, over what it found. -/
abbrev s0 (c : Dev nD) (t : Fin cfg0.N) (v : FVec Ideal S1x128x128 .f32) : FVec Ideal S1x128x128 .f32 :=
  k0_pay68 (vv m c t) (dmix m c t) (k0_pay54 (vv m c t) (k0_pay53 (k0_pay9 (iblk m c 0 t)) (iblk m c 6 t)) v)
abbrev s1 (c : Dev nD) (t : Fin cfg0.N) (v : FVec Ideal S1x128x128 .f32) : FVec Ideal S1x128x128 .f32 :=
  k0_pay72 (k0_pay71 (vv m c t) (dmix m c t) (k0_pay57 (vv m c t) (dmix m c t) v))
abbrev s2 (c : Dev nD) (t : Fin cfg0.N) (v : FVec Ideal S1x128x128 .f32) : FVec Ideal S1x128x128 .f32 :=
  k0_pay75 (vv m c t) (dmix m c t) (k0_pay60 (vv m c t) (dmix m c t) v)
abbrev s3 (c : Dev nD) (t : Fin cfg0.N) (v : FVec Ideal S1x128x128 .f32) : FVec Ideal S1x128x128 .f32 :=
  k0_pay80 (k0_pay77 (dmix m c t)) (k0_pay78 (k0_pay63 (vv m c t) (dmix m c t) v)) (k0_pay79 (vv m c t))

/-- One chunk of one head. -/
theorem dwsIn (c : Dev nD) (t : Fin cfg0.N) (k : Fin 2) (h : Fin 4) (a b : Fin 128) (i i' : Fin 256) (j : Fin 128 → Fin 512)
    (hi : i.val = k.val * 128 + a.val) (hi' : i'.val = k.val * 128 + b.val) (hj : ∀ x, (j x).val = h.val * 128 + x.val) :
    (∑ x : Fin 128, dmix m c t (ix2 i (j x)) * vv m c t (ix2 i' (j x)) : EReal) = dwsAt m c h a b (chunk t k) := by
  have e1 : row t i = BcCore.at' (chunk t k) a := Fin.ext (by show t.val * 256 + i.val = (t.val * 2 + k.val) * 128 + a.val; omega)
  have e2 : row t i' = BcCore.at' (chunk t k) b := Fin.ext (by show t.val * 256 + i'.val = (t.val * 2 + k.val) * 128 + b.val; omega)
  unfold dwsAt BcCore.dwsAt
  refine Finset.sum_congr rfl fun x _ => ?_
  rw [dmix_eq, vv_eq, e1, e2, show j x = BcCore.lane h x from Fin.ext (hj x)]

theorem stepW (c : Dev nD) (t : Fin cfg0.N) (v0 v1 v2 v3 : FVec Ideal S1x128x128 .f32) (h : Fin 4) (a b : Fin 128) :
    (![s0 m c t v0, s1 m c t v1, s2 m c t v2, s3 m c t v3] h) (ix3 0 a b) =
      ((![v0, v1, v2, v3] h) (ix3 0 a b) + termW m c t (ix3 h a b) : EReal) := by
  have e (h : Fin 4) : termW m c t (ix3 h a b) = dwsAt m c h a b (chunk t 0) + dwsAt m c h a b (chunk t 1) := Fin.sum_univ_two _
  rw [e, ← add_assoc]
  fin_cases h
  · refine Eq.trans ?_ (congrArg₂ (fun p q : EReal => v0 (ix3 0 a b) + p + q)
      (dwsIn m c t 0 0 a b ⟨a.val, by omega⟩ ⟨b.val, by omega⟩ (fun x => ⟨x.val, by omega⟩) (by simp) (by simp) (fun x => by simp))
      (dwsIn m c t 1 0 a b ⟨128 + a.val, by omega⟩ ⟨128 + b.val, by omega⟩ (fun x => ⟨x.val, by omega⟩) (by simp) (by simp) (fun x => by simp)))
    show k0_pay68 _ _ _ _ = _
    pointwise [k0_pay68, k0_pay67, k0_pay54, k0_pay53]
  · refine Eq.trans ?_ (congrArg₂ (fun p q : EReal => v1 (ix3 0 a b) + p + q)
      (dwsIn m c t 0 1 a b ⟨a.val, by omega⟩ ⟨b.val, by omega⟩ (fun x => ⟨128 + x.val, by omega⟩) (by simp) (by simp) (fun x => by simp))
      (dwsIn m c t 1 1 a b ⟨128 + a.val, by omega⟩ ⟨128 + b.val, by omega⟩ (fun x => ⟨128 + x.val, by omega⟩) (by simp) (by simp) (fun x => by simp)))
    show s1 m c t v1 (ix3 0 a b) = _
    pointwise [k0_pay72, k0_pay71, k0_pay70, k0_pay57, k0_pay56]
  · refine Eq.trans ?_ (congrArg₂ (fun p q : EReal => v2 (ix3 0 a b) + p + q)
      (dwsIn m c t 0 2 a b ⟨a.val, by omega⟩ ⟨b.val, by omega⟩ (fun x => ⟨256 + x.val, by omega⟩) (by simp) (by simp) (fun x => by simp))
      (dwsIn m c t 1 2 a b ⟨128 + a.val, by omega⟩ ⟨128 + b.val, by omega⟩ (fun x => ⟨256 + x.val, by omega⟩) (by simp) (by simp) (fun x => by simp)))
    show k0_pay75 _ _ _ _ = _
    pointwise [k0_pay75, k0_pay74, k0_pay60, k0_pay59]
  · refine Eq.trans ?_ (congrArg₂ (fun p q : EReal => v3 (ix3 0 a b) + p + q)
      (dwsIn m c t 0 3 a b ⟨a.val, by omega⟩ ⟨b.val, by omega⟩ (fun x => ⟨384 + x.val, by omega⟩) (by simp) (by simp) (fun x => by simp))
      (dwsIn m c t 1 3 a b ⟨128 + a.val, by omega⟩ ⟨128 + b.val, by omega⟩ (fun x => ⟨384 + x.val, by omega⟩) (by simp) (by simp) (fun x => by simp)))
    show k0_pay80 _ _ _ _ = _
    pointwise [k0_pay80, k0_pay79, k0_pay78, k0_pay77, k0_pay63, k0_pay62]

theorem load4 (X : S4x128x128.Idx → EReal) (h : Fin 4) (a b : Fin 128) :
    (![View.ld (Val := Elt Ideal) (e' := .f32) X (Rect.unit ![0, 0, 0] ![1, 128, 128] inb_S4x128x128_S1x128x128_0_0_0),
      View.ld (Val := Elt Ideal) (e' := .f32) X (Rect.unit ![1, 0, 0] ![1, 128, 128] inb_S4x128x128_S1x128x128_1_0_0),
      View.ld (Val := Elt Ideal) (e' := .f32) X (Rect.unit ![2, 0, 0] ![1, 128, 128] inb_S4x128x128_S1x128x128_2_0_0),
      View.ld (Val := Elt Ideal) (e' := .f32) X (Rect.unit ![3, 0, 0] ![1, 128, 128] inb_S4x128x128_S1x128x128_3_0_0)] h) (ix3 0 a b) =
      X (ix3 h a b) := by
  have one (h : ℕ) (hh : h < 4) (inb) : View.ld (Val := Elt Ideal) (e' := .f32) X (Rect.unit (s := S4x128x128) ![h, 0, 0] ![1, 128, 128] inb)
      (ix3 0 a b) = X (ix3 ⟨h, hh⟩ a b) :=
    View.ld_unit_apply_of (S := S4x128x128) (Val := Elt Ideal) (e := .f32) X ![h, 0, 0] ![1, 128, 128] inb (ix3 0 a b) (ix3 ⟨h, hh⟩ a b)
      (Fin.forall_fin_succ.mpr ⟨rfl, Fin.forall_fin_two.mpr ⟨(Nat.zero_add _).symm, (Nat.zero_add _).symm⟩⟩)
  obtain ⟨h, hh⟩ := h
  match h, hh with
  | 0, hh => exact one 0 hh _
  | 1, hh => exact one 1 hh _
  | 2, hh => exact one 2 hh _
  | 3, hh => exact one 3 hh _

theorem final17 (c : Dev nD) : (dats m 0 c).arrAt 17 cfg0.N = fun i : S4x128x128.Idx => dws m c (i 0) (i 1) (i 2) := by
  refine (dats m 0 c).arrAt_eq_of_after_last 17 tlast (by decide +kernel) _ fun j => ?_
  blk_simp
  rw [after0_17, Pipeline.eq_sum_fin_of_reset_step_apply_last (fun n h => (outsAt0 m c n h).2.2.2.2.1) 64 (fun _ => 0)
    (termW m c) (fun t h j => ?_) (fun t h j => ?_) (le_of_eq N_0) tlast rfl, zero_add]
  · exact Fin.sum_mul_add_congr (f := fun n : Fin 128 => dwsAt m c (j 0) (j 1) (j 2) n) (fun s k hl => rfl) (by rw [show cfg0.N = 64 from N_0])
  · obtain ⟨h', a, b, rfl⟩ : ∃ (h' : Fin 4) (a b : Fin 128), j = ix3 h' a b := ⟨j 0, j 1, j 2, eq_ix3 j⟩
    rw [outsAt0_A m c t h]
    frame_open
    simp (disch := decide) only [↓ View.readCov_skip, ↓ View.readCov_cons_toLoadRect, ↓ View.readCov_fill]
    frame_out
    refine (heads4 _ _ _ _ _ h' a b).trans ((stepW m c t _ _ _ _ h' a b).trans ?_)
    rw [load4]
    congr 1
    pointwise [k0_pay4]
  · obtain ⟨h', a, b, rfl⟩ : ∃ (h' : Fin 4) (a b : Fin 128), j = ix3 h' a b := ⟨j 0, j 1, j 2, eq_ix3 j⟩
    rw [outsAt0_B m c t h]
    frame_open
    simp (disch := decide) only [↓ View.readCov_skip, ↓ View.readCov_cons_toLoadRect, ↓ View.readCov_fill]
    frame_out
    refine (heads4 _ _ _ _ _ h' a b).trans ((stepW m c t _ _ _ _ h' a b).trans ?_)
    rw [load4]

/-! ### The gradient at the repeated bias -/

def dbias (c : Dev nD) (p : Fin 128) (l : Fin 512) : EReal := BcCore.dbias (Z m c) (Q m c) p l
def dbAt (c : Dev nD) (p : Fin 128) (l : Fin 512) (n : Fin 128) : EReal := BcCore.dmix (Z m c) (Q m c) (BcCore.at' n p) l
def termD (c : Dev nD) (t : Fin cfg0.N) (j : S128x512.Idx) : EReal := ∑ k : Fin 2, dbAt m c (j 0) (j 1) (chunk t k)

theorem pay66_eq (d z q : S256x512.Idx → EReal) (he : k0_pay51 (F := Ideal) z q = d) (v : S128x512.Idx → EReal) (p : Fin 128) (l : Fin 512) :
    k0_pay66 (F := Ideal) d (k0_pay52 (F := Ideal) z q v) (ix2 p l) = v (ix2 p l) + d (ix2 ⟨p.val, by omega⟩ l) + d (ix2 ⟨128 + p.val, by omega⟩ l) := by
  subst he
  pointwise [k0_pay66, k0_pay52]

theorem stepD (c : Dev nD) (t : Fin cfg0.N) (v : FVec Ideal S128x512 .f32) (j : S128x512.Idx) :
    k0_pay66 (F := Ideal) (dmix m c t) (k0_pay52 (k0_pay9 (iblk m c 0 t)) (iblk m c 6 t) v) j = v j + termD m c t j := by
  obtain ⟨p, l, rfl⟩ := at2 j
  have e : termD m c t (ix2 p l) = dbAt m c p l (chunk t 0) + dbAt m c p l (chunk t 1) := Fin.sum_univ_two _
  have e0 : row t ⟨p.val, by omega⟩ = BcCore.at' (chunk t 0) p := Fin.ext (by show t.val * 256 + p.val = (t.val * 2 + 0) * 128 + p.val; omega)
  have e1 : row t ⟨128 + p.val, by omega⟩ = BcCore.at' (chunk t 1) p :=
    Fin.ext (by show t.val * 256 + (128 + p.val) = (t.val * 2 + 1) * 128 + p.val; omega)
  refine (pay66_eq (dmix m c t) _ _ rfl v p l).trans ?_
  rw [e, ← add_assoc, dmix_eq, dmix_eq, e0, e1]
  rfl

theorem final18 (c : Dev nD) : (dats m 0 c).arrAt 18 cfg0.N = fun i : S128x512.Idx => dbias m c (i 0) (i 1) := by
  refine (dats m 0 c).arrAt_eq_of_after_last 18 tlast (by decide +kernel) _ fun j => ?_
  blk_simp
  rw [after0_18, Pipeline.eq_sum_fin_of_reset_step_apply_last (fun n h => (outsAt0 m c n h).2.2.2.2.2) 64 (fun _ => 0)
    (termD m c) (fun t h j => ?_) (fun t h j => ?_) (le_of_eq N_0) tlast rfl, zero_add]
  · exact Fin.sum_mul_add_congr (f := fun n : Fin 128 => dbAt m c (j 0) (j 1) n) (fun s k hl => rfl) (by rw [show cfg0.N = 64 from N_0])
  · rw [outsAt0_A m c t h]
    frame_open
    simp (disch := decide) only [↓ View.readCov_skip, ↓ View.readCov_cons_toLoadRect, ↓ View.readCov_fill]
    frame_out
    refine (stepD m c t _ j).trans ?_
    congr 1
    pointwise [k0_pay5]
  · rw [outsAt0_B m c t h]
    frame_out
    exact stepD m c t _ j

end Cert.BcValue

end
-- ==== Proof.BcRef.lean ====
module

public import proofs.«01_k».proof.Proof.Reals
public import proofs.«01_k».proof.Proof.Gen.RBcIdeal.Read
public import proofs.«01_k».proof.Proof.BcCore
public import Idealize.ShloMosaic.Lib.Pipeline.ValueKit

/-! What differentiating the two short mixers' own lines leaves, place by place. -/

@[expose] public section

set_option maxRecDepth 16384

noncomputable section

namespace Cert.BcReference

open Cert.RBcIdeal Cert.RBcIdeal.Read Idealize.ShloMosaic Idealize.ShloMosaic.TcCoe Idealize.SL.Sem
open Cert.BcGrad Cert.BcCore

variable (x0 : (⟨S16384x2560, .bf16⟩ : BufTy).Contents (Elt Ideal)) (x1 x2 : (⟨S16384x512, .f32⟩ : BufTy).Contents (Elt Ideal))
  (x3 : (⟨S3x512, .f32⟩ : BufTy).Contents (Elt Ideal)) (x4 x5 : (⟨S1x512, .f32⟩ : BufTy).Contents (Elt Ideal))
  (x6 : (⟨S4x128x128, .f32⟩ : BufTy).Contents (Elt Ideal)) (x7 : (⟨S4x128, .f32⟩ : BufTy).Contents (Elt Ideal))

/-- The arguments as plain functions. -/
abbrev Z : Fin 16384 → Fin 2560 → EReal := fun r l => x0 (ix2 r l)
abbrev P : Fin 16384 → Fin 512 → EReal := fun r l => x1 (ix2 r l)
abbrev W : Fin 3 → Fin 512 → EReal := fun k l => x3 (ix2 k l)
abbrev lg : Fin 512 → EReal := fun l => x4 (ix2 0 l)
abbrev ws : Fin 4 → Fin 128 → Fin 128 → EReal := fun h p x => x6 (ix3 h p x)
abbrev bs : Fin 4 → Fin 128 → EReal := fun h p => x7 (ix2 h p)

theorem v4_eq (r : Fin 16384) (l : Fin 512) : val_main_v4 (F := Ideal) x0 (ix2 r l) = x0 (ix2 r ⟨l.val, by omega⟩) := by
  pointwise [val_main_v4, val_main_v3]
theorem v5_eq (r : Fin 16384) (l : Fin 512) : val_main_v5 (F := Ideal) x0 (ix2 r l) = x0 (ix2 r ⟨512 + l.val, by omega⟩) := by
  pointwise [val_main_v5, val_main_v3]
theorem v6_eq (r : Fin 16384) (l : Fin 512) : val_main_v6 (F := Ideal) x0 (ix2 r l) = x0 (ix2 r ⟨1024 + l.val, by omega⟩) := by
  pointwise [val_main_v6, val_main_v3]
theorem v7_eq (r : Fin 16384) (l : Fin 512) : val_main_v7 (F := Ideal) x0 (ix2 r l) = x0 (ix2 r ⟨1536 + l.val, by omega⟩) := by
  pointwise [val_main_v7, val_main_v3]
theorem v8_eq (r : Fin 16384) (l : Fin 512) : val_main_v8 (F := Ideal) x0 (ix2 r l) = x0 (ix2 r ⟨2048 + l.val, by omega⟩) := by
  pointwise [val_main_v8, val_main_v3]

/-! ### The convolved gate -/

theorem v12_eq (n : Fin 16386) (l : Fin 512) : val_main_v12 (F := Ideal) x0 (ix2 n l) = edge (q (Z x0)) n.val l := by
  pointwise [val_main_v12, val_main_v11, val_main_v10, val_main_v9, val_main_cst, val_main_cst_0]
  have hn : n.val < 16386 := n.isLt
  by_cases h0 : n.val < 1
  · rw [dif_pos h0, edge_outside _ _ _ (by omega)]
  · by_cases h1 : n.val - 1 < 16384
    · rw [dif_neg h0, dif_pos h1, v5_eq, v6_eq, edge_inside _ n.val l ⟨n.val - 1, h1⟩ (by show n.val - 1 + 1 = n.val; omega)]
      rfl
    · rw [dif_neg h0, dif_neg h1, edge_outside _ _ _ (by omega)]

theorem v34_eq (r : Fin 16384) (l : Fin 512) : val_main_v34 (F := Ideal) x0 x3 (ix2 r l) = cq (Z x0) (W x3) r l := by
  pointwise [val_main_v34, val_main_v33, val_main_v32, val_main_v31, val_main_v30, val_main_v29, val_main_v28, val_main_v27,
    val_main_v26, val_main_v25, val_main_v24, val_main_v23, val_main_v22, val_main_v21, val_main_v20, val_main_v19, val_main_v18,
    val_main_v17, val_main_v16, val_main_v15]
  simp only [v12_eq]
  unfold cq
  rw [Nat.add_comm 1 r.val, Nat.add_comm 2 r.val]

theorem v181_eq (r : Fin 16384) (l : Fin 512) : val_main_v181 (F := Ideal) x0 x1 (ix2 r l) = dcq (Z x0) (P x1) r l := by
  pointwise [val_main_v181]
  rw [v4_eq, mul_comm]
  rfl

theorem v215_eq (r : Fin 16384) (l : Fin 512) : val_main_v215 (F := Ideal) x0 x1 x3 (ix2 r l) = dq (Z x0) (P x1) (W x3) r l := by
  pointwise [val_main_v215, val_main_v213, val_main_v212, val_main_v207, val_main_v206, val_main_v202, val_main_v201, val_main_v196,
    val_main_v195, val_main_v191, val_main_v187, val_main_v186, val_main_v31, val_main_v30, val_main_v29, val_main_v24, val_main_v23,
    val_main_v22, val_main_v18, val_main_v17, val_main_v16, val_main_cst_44, val_main_cst_48, val_main_cst_52]
  simp only [v181_eq]
  unfold dq
  have hr : r.val < 16384 := r.isLt
  have e2 : (if h : 2 ≤ 1 + r.val ∧ 1 + r.val - 2 < 16384 then dcq (Z x0) (P x1) ⟨1 + r.val - 2, h.2⟩ l * x3 (ix2 2 l) else 0) =
      edge (dcq (Z x0) (P x1)) r.val l * W x3 2 l := by
    by_cases h : 2 ≤ 1 + r.val ∧ 1 + r.val - 2 < 16384
    · rw [dif_pos h, edge_inside _ r.val l ⟨1 + r.val - 2, h.2⟩ (by show 1 + r.val - 2 + 1 = r.val; omega)]
    · rw [dif_neg h, edge_outside _ _ _ (by omega), zero_mul]
  have e0 : (if h : 1 + r.val < 16384 then dcq (Z x0) (P x1) ⟨1 + r.val, h⟩ l * x3 (ix2 0 l) else 0) =
      edge (dcq (Z x0) (P x1)) (r.val + 2) l * W x3 0 l := by
    by_cases h : 1 + r.val < 16384
    · rw [dif_pos h, edge_inside _ (r.val + 2) l ⟨1 + r.val, h⟩ (by show 1 + r.val + 1 = r.val + 2; omega)]
    · rw [dif_neg h, edge_outside _ _ _ (by omega), zero_mul]
  rw [e2, e0, edge_inside _ (r.val + 1) l r rfl]
  ac_rfl

/-! ### The smooth gate -/

theorem v56_eq (r : Fin 16384) (l : Fin 512) : val_main_v56 (F := Ideal) x0 (ix2 r l) = gelu' (x0 (ix2 r ⟨1536 + l.val, by omega⟩)) := by
  refine Eq.trans ?_ (congrArg gelu' (v7_eq x0 r l))
  pointwise [val_main_v56, val_main_v55, val_main_v54, val_main_v53, val_main_v52, val_main_v46, val_main_v45, val_main_v44, val_main_v43,
    val_main_v42, val_main_v41, val_main_v37, val_main_v36, val_main_cst_4, val_main_cst_5, val_main_cst_8, val_main_cst_9]
  rfl

theorem v77_eq (r : Fin 16384) (l : Fin 512) : val_main_v77 (F := Ideal) x0 (ix2 r l) = gelu' (x0 (ix2 r ⟨2048 + l.val, by omega⟩)) := by
  refine Eq.trans ?_ (congrArg gelu' (v8_eq x0 r l))
  pointwise [val_main_v77, val_main_v76, val_main_v75, val_main_v74, val_main_v73, val_main_v67, val_main_v66, val_main_v65, val_main_v64,
    val_main_v63, val_main_v62, val_main_v58, val_main_v57, val_main_cst_11, val_main_cst_12, val_main_cst_15, val_main_cst_16]
  rfl

theorem v180_eq (r : Fin 16384) (l : Fin 512) : val_main_v180 (F := Ideal) x0 x2 x4 x5 x6 x7 (ix2 r l) =
    geluBack (x0 (ix2 r ⟨1536 + l.val, by omega⟩)) (val_main_v115 (F := Ideal) x0 x2 x4 x5 x6 x7 (ix2 r l)) := by
  refine Eq.trans ?_ (congrArg (geluBack · (val_main_v115 (F := Ideal) x0 x2 x4 x5 x6 x7 (ix2 r l))) (v7_eq x0 r l))
  pointwise [val_main_v180, val_main_v179, val_main_v178, val_main_v177, val_main_v176, val_main_v175, val_main_v174, val_main_v173,
    val_main_v172, val_main_v171, val_main_v170, val_main_v169, val_main_v55, val_main_v54, val_main_v53, val_main_v52, val_main_v51,
    val_main_v50, val_main_v49, val_main_v48, val_main_v47, val_main_v46,
    val_main_v45, val_main_v44, val_main_v43, val_main_v42, val_main_v41, val_main_v40, val_main_v39, val_main_v38, val_main_v37,
    val_main_v36, val_main_cst_3, val_main_cst_4, val_main_cst_5, val_main_cst_6, val_main_cst_7, val_main_cst_8, val_main_cst_9,
    val_main_cst_38, val_main_cst_39, val_main_cst_40]
  rfl

theorem v168_eq (r : Fin 16384) (l : Fin 512) : val_main_v168 (F := Ideal) x0 x2 x4 x6 (ix2 r l) =
    geluBack (x0 (ix2 r ⟨2048 + l.val, by omega⟩)) (val_main_v156 (F := Ideal) x0 x2 x4 x6 (ix2 r l)) := by
  refine Eq.trans ?_ (congrArg (geluBack · (val_main_v156 (F := Ideal) x0 x2 x4 x6 (ix2 r l))) (v8_eq x0 r l))
  pointwise [val_main_v168, val_main_v167, val_main_v166, val_main_v165, val_main_v164, val_main_v163, val_main_v162, val_main_v161,
    val_main_v160, val_main_v159, val_main_v158, val_main_v157, val_main_v76, val_main_v75, val_main_v74, val_main_v73, val_main_v72,
    val_main_v71, val_main_v70, val_main_v69, val_main_v68, val_main_v67,
    val_main_v66, val_main_v65, val_main_v64, val_main_v63, val_main_v62, val_main_v61, val_main_v60, val_main_v59, val_main_v58,
    val_main_v57, val_main_cst_10, val_main_cst_11, val_main_cst_12, val_main_cst_13, val_main_cst_14, val_main_cst_15, val_main_cst_16,
    val_main_cst_35, val_main_cst_36, val_main_cst_37]
  rfl

/-! ### The row's normalisation -/

/-- The row that is normalised. -/
abbrev row (r : Fin 16384) : Fin 512 → EReal := fun l => gelu' (x0 (ix2 r ⟨2048 + l.val, by omega⟩))

theorem v81_eq (r : Fin 16384) : val_main_v81 (F := Ideal) x0 (ix2 r 0) = mean (row x0 r) := by
  pointwise [val_main_v81, val_main_v80, val_main_v79, val_main_v78, val_main_cst_17, val_main_cst_18]
  simp only [v77_eq]
  rfl
theorem v83_eq (r : Fin 16384) (l : Fin 512) : val_main_v83 (F := Ideal) x0 (ix2 r l) = cen (row x0 r) l := by
  pointwise [val_main_v83, val_main_v82]
  rw [v81_eq, v77_eq]
  rfl
theorem v92_eq (r : Fin 16384) (l : Fin 512) : val_main_v92 (F := Ideal) x0 (ix2 r l) = cen (row x0 r) l := by
  pointwise [val_main_v92, val_main_v91]
  rw [v81_eq, v77_eq]
  rfl
theorem v94_eq (r : Fin 16384) : val_main_v94 (F := Ideal) x0 (ix2 r 0) = var (row x0 r) := by
  pointwise [val_main_v94, val_main_v93, val_main_v90, val_main_v89, val_main_v88, val_main_v87, val_main_v84, val_main_cst_20,
    val_main_cst_21, val_main_cst_22]
  simp only [v83_eq]
  rfl
theorem v95_eq (r : Fin 16384) : val_main_v95 (F := Ideal) x0 (ix2 r 0) = rs (row x0 r) := by
  pointwise [val_main_v95]
  rw [v94_eq]
  rfl
theorem v100_eq (r : Fin 16384) (l : Fin 512) : val_main_v100 (F := Ideal) x0 (ix2 r l) = nor (row x0 r) l := by
  pointwise [val_main_v100, val_main_v99]
  rw [v92_eq, v95_eq]
  rfl
theorem v132_eq (r : Fin 16384) (l : Fin 512) : val_main_v132 (F := Ideal) x0 x2 x4 x6 (ix2 r l) =
    val_main_v125 (F := Ideal) x0 x2 x6 (ix2 r l) * x4 (ix2 0 l) := by
  pointwise [val_main_v132, val_main_v131]
theorem v156_eq (r : Fin 16384) (l : Fin 512) : val_main_v156 (F := Ideal) x0 x2 x4 x6 (ix2 r l) =
    lnBack' (row x0 r) (fun x => val_main_v125 (F := Ideal) x0 x2 x6 (ix2 r x) * x4 (ix2 0 x)) l := by
  pointwise [val_main_v156, val_main_v155, val_main_v154, val_main_v153, val_main_v152, val_main_v151, val_main_v150, val_main_v149,
    val_main_v148, val_main_v147, val_main_v146, val_main_v145, val_main_v144, val_main_v143, val_main_v142, val_main_v141,
    val_main_v140, val_main_v139, val_main_v138, val_main_v137, val_main_v136, val_main_v135, val_main_v134, val_main_v133,
    val_main_v98, val_main_v97, val_main_v96, val_main_v86, val_main_v85, val_main_cst_19, val_main_cst_23, val_main_cst_28,
    val_main_cst_29, val_main_cst_30, val_main_cst_31, val_main_cst_32, val_main_cst_33, val_main_cst_34]
  simp only [v132_eq, v83_eq, v92_eq, v94_eq, v95_eq, Finset.univ_unique, Finset.sum_singleton]
  rw [show (default : Fin 1) = 0 from rfl, v94_eq, v95_eq]
  rfl

/-! ### The mixing -/

theorem v104_eq (r : Fin 16384) (l : Fin 512) : val_main_v104 (F := Ideal) x0 x4 x5 (ix2 r l) =
    nor (row x0 r) l * x4 (ix2 0 l) + x5 (ix2 0 l) := by
  pointwise [val_main_v104, val_main_v103, val_main_v102, val_main_v101]
  rw [v100_eq]

theorem v105_eq (n x : Fin 128) (h : Fin 4) (c : Fin 128) : val_main_v105 (F := Ideal) x0 x4 x5 (ix4 n x h c) =
    val_main_v104 (F := Ideal) x0 x4 x5 (ix2 (at' n x) (lane h c)) := by
  pointwise [val_main_v105]

theorem v116_eq (n x : Fin 128) (h : Fin 4) (c : Fin 128) : val_main_v116 (F := Ideal) x0 x2 (ix4 n x h c) =
    val_main_v114 (F := Ideal) x0 x2 (ix2 (at' n x) (lane h c)) := by
  pointwise [val_main_v116]

theorem v112_eq (r : Fin 16384) (l : Fin 512) : val_main_v112 (F := Ideal) x0 x4 x5 x6 x7 (ix2 r l) =
    ∑ x : Fin 128, x6 (ix3 (head l) (place r) x) * val_main_v104 (F := Ideal) x0 x4 x5 (ix2 (mate r x) l) + x7 (ix2 (head l) (place r)) := by
  pointwise [val_main_v112, val_main_v111, val_main_v110, val_main_v109, val_main_v108, val_main_v107, val_main_v106, val_main_v2, val_main_v1,
    val_main_v0]
  refine congrArg₂ (· + ·) (Finset.sum_congr rfl fun x _ => ?_) rfl
  rw [v105_eq, mul_comm]
  congr 3
  exact Fin.ext (by show l.val / 128 * 128 + l.val % 128 = l.val; omega)

theorem v125_eq (r : Fin 16384) (l : Fin 512) : val_main_v125 (F := Ideal) x0 x2 x6 (ix2 r l) =
    ∑ x : Fin 128, x6 (ix3 (head l) x (place r)) * val_main_v114 (F := Ideal) x0 x2 (ix2 (mate r x) l) := by
  pointwise [val_main_v125, val_main_v124, val_main_v123, val_main_v121]
  refine Finset.sum_congr rfl fun x _ => ?_
  rw [v116_eq, mul_comm]
  congr 3
  exact Fin.ext (by show l.val / 128 * 128 + l.val % 128 = l.val; omega)

theorem v122_eq (h : Fin 4) (p x : Fin 128) : val_main_v122 (F := Ideal) x0 x2 x4 x5 (ix3 h p x) =
    ∑ n : Fin 128, ∑ c : Fin 128, val_main_v114 (F := Ideal) x0 x2 (ix2 (at' n p) (lane h c)) *
      val_main_v104 (F := Ideal) x0 x4 x5 (ix2 (at' n x) (lane h c)) := by
  pointwise [val_main_v122, val_main_v121]
  simp only [v116_eq, v105_eq]

/-! ### Where the arguments are reals -/

theorem real_add {a b : EReal} (ha : ∃ r : ℝ, a = r) (hb : ∃ r : ℝ, b = r) : ∃ r : ℝ, a + b = r := by
  obtain ⟨r, rfl⟩ := ha
  obtain ⟨s, rfl⟩ := hb
  exact ⟨r + s, (EReal.coe_add r s).symm⟩
theorem real_mul {a b : EReal} (ha : ∃ r : ℝ, a = r) (hb : ∃ r : ℝ, b = r) : ∃ r : ℝ, a * b = r := by
  obtain ⟨r, rfl⟩ := ha
  obtain ⟨s, rfl⟩ := hb
  exact ⟨r * s, (EReal.coe_mul r s).symm⟩
theorem real_sum {n : ℕ} {f : Fin n → EReal} (h : ∀ x, ∃ r : ℝ, f x = r) : ∃ r : ℝ, ∑ x, f x = r := by
  choose g hg using h
  exact ⟨∑ x, g x, by simp only [hg]; exact coe_sum _ g⟩
theorem nor_real {f : Fin 512 → EReal} (h : ∀ x, ∃ r : ℝ, f x = r) (l : Fin 512) : ∃ r : ℝ, nor f l = r := by
  choose g hg using h
  obtain rfl : f = fun x => (g x : EReal) := funext hg
  obtain ⟨v, -, -, hr⟩ := rs_coe g
  exact real_mul ⟨_, cen_coe g l⟩ ⟨_, hr⟩

section

variable {x0 x2 x4 x5 x6 x7} (h0 : ∀ i, ∃ r : ℝ, x0 i = r)

include h0

theorem gelu_at (r : Fin 16384) (l : Fin 2560) : gelu' (x0 (ix2 r l)) = gelu (x0 (ix2 r l)) := by
  obtain ⟨u, hu⟩ := h0 (ix2 r l)
  rw [hu, gelu_eq]
theorem gelu_at_real (r : Fin 16384) (l : Fin 2560) : ∃ g : ℝ, gelu (x0 (ix2 r l)) = g := by
  obtain ⟨u, hu⟩ := h0 (ix2 r l)
  rw [hu]
  exact gelu_real u
theorem back_at (r : Fin 16384) (l : Fin 2560) {d : EReal} (hd : ∃ q : ℝ, d = q) :
    geluBack (x0 (ix2 r l)) d = d * geluD (x0 (ix2 r l)) := by
  obtain ⟨u, hu⟩ := h0 (ix2 r l)
  obtain ⟨q, rfl⟩ := hd
  rw [hu, geluBack_eq]

theorem row_eq (r : Fin 16384) : row x0 r = gv (Z x0) r := funext fun _ => gelu_at h0 _ _
theorem v2_eq (r : Fin 16384) (l : Fin 512) : val_main_v104 (F := Ideal) x0 x4 x5 (ix2 r l) = v2 (Z x0) (lg x4) (lg x5) r l := by
  rw [v104_eq, row_eq h0]
  rfl
theorem dmix_eq (r : Fin 16384) (l : Fin 512) : val_main_v114 (F := Ideal) x0 x2 (ix2 r l) = dmix (Z x0) (P x2) r l := by
  pointwise [val_main_v114]
  rw [v56_eq, gelu_at h0, mul_comm]
  rfl
theorem mixed_eq (r : Fin 16384) (l : Fin 512) : val_main_v112 (F := Ideal) x0 x4 x5 x6 x7 (ix2 r l) =
    mixed (Z x0) (lg x4) (lg x5) (ws x6) (bs x7) r l := by
  rw [v112_eq]
  simp only [v2_eq h0]
  rfl
theorem dv2_eq (r : Fin 16384) (l : Fin 512) : val_main_v125 (F := Ideal) x0 x2 x6 (ix2 r l) = dv2 (Z x0) (P x2) (ws x6) r l := by
  rw [v125_eq]
  simp only [dmix_eq h0]
  rfl

variable (h2 : ∀ i, ∃ r : ℝ, x2 i = r) (h4 : ∀ i, ∃ r : ℝ, x4 i = r) (h5 : ∀ i, ∃ r : ℝ, x5 i = r) (h6 : ∀ i, ∃ r : ℝ, x6 i = r)
  (h7 : ∀ i, ∃ r : ℝ, x7 i = r)

omit h0 in
theorem gv_real (h0 : ∀ i, ∃ r : ℝ, x0 i = r) (r : Fin 16384) (l : Fin 512) : ∃ q : ℝ, gv (Z x0) r l = q := gelu_at_real h0 _ _

include h4 h5 h6 h7 in
theorem mixed_real (r : Fin 16384) (l : Fin 512) : ∃ q : ℝ, mixed (Z x0) (lg x4) (lg x5) (ws x6) (bs x7) r l = q :=
  real_add (real_sum fun _ => real_mul (h6 _) (real_add (real_mul (nor_real (gv_real h0 _) _) (h4 _)) (h5 _))) (h7 _)

include h2 h6 in
theorem dv2_real (r : Fin 16384) (l : Fin 512) : ∃ q : ℝ, dv2 (Z x0) (P x2) (ws x6) r l = q :=
  real_sum fun _ => real_mul (h6 _) (real_mul (h2 _) (gelu_at_real h0 _ _))

/-! ### The six results -/

include h2 h4 h5 h6 h7 in
theorem dz3_eq (r : Fin 16384) (l : Fin 512) : val_main_v180 (F := Ideal) x0 x2 x4 x5 x6 x7 (ix2 r l) =
    dz3 (Z x0) (P x2) (lg x4) (lg x5) (ws x6) (bs x7) r l := by
  have e : val_main_v115 (F := Ideal) x0 x2 x4 x5 x6 x7 (ix2 r l) = x2 (ix2 r l) * mixed (Z x0) (lg x4) (lg x5) (ws x6) (bs x7) r l := by
    pointwise [val_main_v115]
    rw [mixed_eq h0]
  rw [v180_eq, e, back_at h0 r _ (real_mul (h2 _) (mixed_real h0 h4 h5 h6 h7 r l))]
  rfl

include h2 h4 h6 in
theorem dz4_eq (r : Fin 16384) (l : Fin 512) : val_main_v168 (F := Ideal) x0 x2 x4 x6 (ix2 r l) =
    dz4 (Z x0) (P x2) (lg x4) (ws x6) r l := by
  obtain ⟨q, hq, hq'⟩ := lnBack_eq (gv_real h0 r) (fun x => real_mul (dv2_real h0 h2 h6 r x) (h4 (ix2 0 x))) l
  rw [v168_eq, v156_eq, row_eq h0]
  simp only [dv2_eq h0]
  unfold dz4
  rw [hq', back_at h0 r _ ⟨q, rfl⟩, hq]

include h2 h4 h5 h6 h7 in
/-- The five lane groups of the gradient. -/
theorem ref220 : val_main_v220 (F := Ideal) x0 x1 x2 x3 x4 x5 x6 x7 = fun i =>
    dz (Z x0) (P x1) (P x2) (W x3) (lg x4) (lg x5) (ws x6) (bs x7) (i 0) (i 1) := by
  refine ext2 fun r l => ?_
  pointwise [val_main_v220, val_main_v219, val_main_v218, val_main_v217, val_main_v182]
  simp only [v34_eq, v215_eq, v5_eq, v6_eq, dz3_eq h0 h2 h4 h5 h6 h7, dz4_eq h0 h2 h4 h6]
  have hl : l.val < 2560 := l.isLt
  unfold dz
  by_cases a : l.val < 512
  · rw [dif_pos a, dif_pos a]
    rfl
  rw [dif_neg a, dif_neg a]
  by_cases b : l.val < 1024
  · rw [dif_pos (by omega), dif_pos b]
    rfl
  rw [dif_neg (by omega), dif_neg b]
  by_cases c : l.val < 1536
  · rw [dif_pos (by omega), dif_pos c, mul_comm]
    exact congrArg (dz2 (Z x0) (P x1) (W x3) r) (Fin.ext (by show l.val - 512 - 512 = l.val - 1024; omega))
  rw [dif_neg (by omega), dif_neg c]
  by_cases d : l.val < 2048
  · rw [dif_pos (by omega), dif_pos d]
    exact congrArg (dz3 (Z x0) (P x2) (lg x4) (lg x5) (ws x6) (bs x7) r) (Fin.ext (by show l.val - 512 - 512 - 512 = l.val - 1536; omega))
  rw [dif_neg (by omega), dif_neg d]
  exact congrArg (dz4 (Z x0) (P x2) (lg x4) (ws x6) r) (Fin.ext (by show l.val - 512 - 512 - 512 - 512 = l.val - 2048; omega))

omit h0 in
/-- The taps' gradient. -/
theorem ref211 : val_main_v211 (F := Ideal) x0 x1 = fun i => dsc (Z x0) (P x1) (i 0) (i 1) := by
  refine ext2 fun k l => ?_
  pointwise [val_main_v211, val_main_v210, val_main_v209, val_main_v208, val_main_v205, val_main_v204, val_main_v203, val_main_v200,
    val_main_v199, val_main_v198, val_main_v197, val_main_v194, val_main_v193, val_main_v192, val_main_v190, val_main_v189,
    val_main_v188, val_main_v185, val_main_v184, val_main_v183, val_main_v28, val_main_v21, val_main_v15, val_main_cst_41,
    val_main_cst_42, val_main_cst_43, val_main_cst_45, val_main_cst_46, val_main_cst_47, val_main_cst_49, val_main_cst_50,
    val_main_cst_51]
  simp only [v12_eq, v181_eq, Finset.univ_unique, Finset.sum_singleton]
  have key (k : ℕ) : ∑ x : Fin 16384, edge (q (Z x0)) (k + x.val) l * dcq (Z x0) (P x1) x l =
      ∑ x : Fin 16384, dcq (Z x0) (P x1) x l * edge (q (Z x0)) (x.val + k) l :=
    Finset.sum_congr rfl fun x _ => by rw [mul_comm, Nat.add_comm]
  have key0 := key 0
  simp only [Nat.zero_add] at key0
  rw [key, key, key0]
  fin_cases k
  · simp [dsc]
  · simp [dsc]
  · simp [dsc]

/-- The normalisation's weight. -/
theorem ref130 : val_main_v130 (F := Ideal) x0 x2 x6 = fun i => dlg (Z x0) (P x2) (ws x6) (i 1) := by
  funext i
  obtain ⟨l, rfl⟩ : ∃ l : Fin 512, i = ix2 0 l := ⟨i 1, by rw [eq_ix2 i]; congr 1; exact Subsingleton.elim _ _⟩
  pointwise [val_main_v130, val_main_v129, val_main_v128, val_main_cst_27]
  simp only [v100_eq, row_eq h0, dv2_eq h0]
  exact Finset.sum_congr rfl fun _ _ => mul_comm _ _

/-- The normalisation's bias. -/
theorem ref127 : val_main_v127 (F := Ideal) x0 x2 x6 = fun i => dlb (Z x0) (P x2) (ws x6) (i 1) := by
  funext i
  obtain ⟨l, rfl⟩ : ∃ l : Fin 512, i = ix2 0 l := ⟨i 1, by rw [eq_ix2 i]; congr 1; exact Subsingleton.elim _ _⟩
  pointwise [val_main_v127, val_main_v126, val_main_cst_26]
  simp only [dv2_eq h0]
  rfl

/-- The mixing weights. -/
theorem ref122 : val_main_v122 (F := Ideal) x0 x2 x4 x5 = fun i => dws (Z x0) (P x2) (lg x4) (lg x5) (i 0) (i 1) (i 2) := by
  funext i
  obtain ⟨h, p, x, rfl⟩ : ∃ (h : Fin 4) (p x : Fin 128), i = ix3 h p x := ⟨i 0, i 1, i 2, eq_ix3 i⟩
  rw [v122_eq]
  simp only [dmix_eq h0, v2_eq h0]
  rfl

/-- The mixing bias, repeated along its head's lanes. -/
theorem ref120 : val_main_v120 (F := Ideal) x0 x2 = fun i => dbias (Z x0) (P x2) (i 0) (i 1) := by
  refine ext2 fun p l => ?_
  pointwise [val_main_v120, val_main_v119, val_main_v118, val_main_v117, val_main_cst_24, val_main_cst_25]
  simp only [v116_eq, dmix_eq h0, Finset.univ_unique, Finset.sum_singleton]
  refine Finset.sum_congr rfl fun x _ => congrArg (dmix (Z x0) (P x2) (at' x p)) (Fin.ext ?_)
  show l.val / 128 * 128 + l.val % 128 = l.val
  omega

end

end Cert.BcReference

end
-- ==== Proof.BcClaim.lean ====
module

public import proofs.«01_k».proof.Proof.BcValOut
public import proofs.«01_k».proof.Proof.BcValSum
public import proofs.«01_k».proof.Proof.BcRef
public import proofs.«01_k».proof.Proof.Finite
public import proofs.«01_k».proof.Proof.Gen.RBcIdeal.Run
public import proofs.«01_k».proof.Defs
public import Idealize.ShloMosaic.Lib.Quiescent

/-! The short mixers' backward call and the derivative of their lines: the two runs put beside each other. -/

@[expose] public section

set_option maxRecDepth 16384

noncomputable section

namespace Cert.BcClaim

open Idealize.ShloMosaic Idealize.SL.Sem
open BcReference (Z P W lg ws bs)

/-- The precondition's shape relations. -/
instance preFacts : Cert.Pre_finite_bc.Facts := ⟨by decide, by decide, by decide, by decide, by decide, by decide⟩

/-- The two named products of constants. -/
theorem preserves : Cert.preserves_KBc_KBcIdeal :=
  ⟨IdealRules.named_const.statement Cert.KBcIdeal.κ "gelu_kc" .f32 0x3D122279#32 ((80338380498831 / 2251799813685248 : ℝ) : EReal) rfl,
    IdealRules.named_const.statement Cert.KBcIdeal.κ "gelu_3kc" .f32 0x3DDB33B6#32 ((241015141496493 / 2251799813685248 : ℝ) : EReal) rfl⟩

/-- The reference runs and leaves its arguments. -/
theorem refFrame : Cert.quiescent_RBcIdeal (hRBcIdeal := Cert.RBcIdeal.Gen.facts) := fun m ρ _ =>
  (θ_run _ _ _).mono (fun r h => ⟨fun c => (h c).2.2.2.2.2.2, sem_eq_zero_of_no_sems (by decide) r.2⟩)
    (Cert.RBcIdeal.Value.run (F := Ideal) m ρ)

/-- What the precondition says of the six arguments it names. -/
theorem real_of_pre (x0 x1 x2 x3 x4 x5 x6 x7)
    (h : (Cert.Pre_finite_bc.fn (F := Ideal) x0 x1 x2 x3 x4 x5 x6 x7).1 = (fun _ => 1#1) ∧
      (Cert.Pre_finite_bc.fn (F := Ideal) x0 x1 x2 x3 x4 x5 x6 x7).2.1 = (fun _ => 1#1) ∧
      (Cert.Pre_finite_bc.fn (F := Ideal) x0 x1 x2 x3 x4 x5 x6 x7).2.2.1 = (fun _ => 1#1) ∧
      (Cert.Pre_finite_bc.fn (F := Ideal) x0 x1 x2 x3 x4 x5 x6 x7).2.2.2.1 = (fun _ => 1#1) ∧
      (Cert.Pre_finite_bc.fn (F := Ideal) x0 x1 x2 x3 x4 x5 x6 x7).2.2.2.2.1 = (fun _ => 1#1) ∧
      (Cert.Pre_finite_bc.fn (F := Ideal) x0 x1 x2 x3 x4 x5 x6 x7).2.2.2.2.2 = (fun _ => 1#1)) :
    (∀ i, ∃ r : ℝ, x0 i = r) ∧ (∀ i, ∃ r : ℝ, x2 i = r) ∧ (∀ i, ∃ r : ℝ, x4 i = r) ∧ (∀ i, ∃ r : ℝ, x5 i = r) ∧
      (∀ i, ∃ r : ℝ, x6 i = r) ∧ ∀ i, ∃ r : ℝ, x7 i = r := by
  obtain ⟨h0, h2, h4, h5, h6, h7⟩ := h
  exact ⟨fun i => Finite.real_of_abs (of_decide_eq_true (Finite.of_bit.mp (congrFun h0 i))),
    fun i => Finite.real_of_abs (of_decide_eq_true (Finite.of_bit.mp (congrFun h2 i))),
    fun i => Finite.real_of_abs (of_decide_eq_true (Finite.of_bit.mp (congrFun h4 i))),
    fun i => Finite.real_of_abs (of_decide_eq_true (Finite.of_bit.mp (congrFun h5 i))),
    fun i => Finite.real_of_abs (of_decide_eq_true (Finite.of_bit.mp (congrFun h6 i))),
    fun i => Finite.real_of_abs (of_decide_eq_true (Finite.of_bit.mp (congrFun h7 i)))⟩

set_option maxHeartbeats 1600000 in
/-- Kernel and reference end with the same six results. -/
theorem algebraic : Cert.algebraic_KBcIdeal_RBcIdeal_pre_finite_bc (hKBcIdeal := Cert.KBcIdeal.Gen.facts)
    (hRBcIdeal := Cert.RBcIdeal.Gen.facts) (hPre_finite_bc := preFacts) := by
  intro m g m' g' hp hag
  refine ⟨fun c i => BcValue.dz m c (i 0) (i 1), fun c i => BcValue.dsc m c (i 0) (i 1), fun c i => BcValue.dlg m c (i 1),
    fun c i => BcValue.dlb m c (i 1), fun c i => BcValue.dws m c (i 0) (i 1) (i 2), fun c i => BcValue.dbias m c (i 0) (i 1), ?_, ?_⟩
  · refine (θ_run _ _ _).mono (fun r h c => ?_) (Cert.KBcIdeal.Value.run_blocks (F := Ideal) m g)
    obtain ⟨h0, h1, h2, h3, h4, h5, ha⟩ := h c
    exact ⟨h0.trans (BcValue.final13 m c), h1.trans (BcValue.final14 m c), h2.trans (BcValue.final15 m c),
      h3.trans (BcValue.final16 m c), h4.trans (BcValue.final17 m c), h5.trans (BcValue.final18 m c), ha⟩
  · refine (θ_run _ _ _).mono (fun r h c => ?_) (Cert.RBcIdeal.Value.run (F := Ideal) m' g')
    obtain ⟨h0, h1, h2, h3, h4, h5, ha⟩ := h c
    obtain ⟨e0, e1, e2, e3, e4, e5, e6, e7⟩ := hag c
    obtain ⟨r0, r2, r4, r5, r6, r7⟩ := real_of_pre _ _ _ _ _ _ _ _ (hp c)
    have s0 : ∀ i, ∃ r : ℝ, (StableHlo.launchContents m' c (Proc.tc.devRef Cert.RBcIdeal.main_arg0) i : EReal) = (r : EReal) := fun i =>
      let ⟨q, hq⟩ := r0 i
      ⟨q, (congrFun e0 i).trans hq⟩
    have s2 : ∀ i, ∃ r : ℝ, (StableHlo.launchContents m' c (Proc.tc.devRef Cert.RBcIdeal.main_arg2) i : EReal) = (r : EReal) := fun i =>
      let ⟨q, hq⟩ := r2 i
      ⟨q, (congrFun e2 i).trans hq⟩
    have s4 : ∀ i, ∃ r : ℝ, (StableHlo.launchContents m' c (Proc.tc.devRef Cert.RBcIdeal.main_arg4) i : EReal) = (r : EReal) := fun i =>
      let ⟨q, hq⟩ := r4 i
      ⟨q, (congrFun e4 i).trans hq⟩
    have s5 : ∀ i, ∃ r : ℝ, (StableHlo.launchContents m' c (Proc.tc.devRef Cert.RBcIdeal.main_arg5) i : EReal) = (r : EReal) := fun i =>
      let ⟨q, hq⟩ := r5 i
      ⟨q, (congrFun e5 i).trans hq⟩
    have s6 : ∀ i, ∃ r : ℝ, (StableHlo.launchContents m' c (Proc.tc.devRef Cert.RBcIdeal.main_arg6) i : EReal) = (r : EReal) := fun i =>
      let ⟨q, hq⟩ := r6 i
      ⟨q, (congrFun e6 i).trans hq⟩
    have s7 : ∀ i, ∃ r : ℝ, (StableHlo.launchContents m' c (Proc.tc.devRef Cert.RBcIdeal.main_arg7) i : EReal) = (r : EReal) := fun i =>
      let ⟨q, hq⟩ := r7 i
      ⟨q, (congrFun e7 i).trans hq⟩
    refine ⟨h0.trans ?_, h1.trans ?_, h2.trans ?_, h3.trans ?_, h4.trans ?_, h5.trans ?_, ha⟩
    · rw [Cert.RBcIdeal.Read.val_main_v220_eq, BcReference.ref220 _ _ s0 s2 s4 s5 s6 s7]
      exact congr (congr (congr (congr (congr (congr (congr (congrArg (fun a0 a1 a2 a3 a4 a5 a6 a7 => fun i : Cert.RBcIdeal.S16384x2560.Idx => BcCore.dz (Z a0) (P a1) (P a2) (W a3) (lg a4) (lg a5) (ws a6) (bs a7) (i 0) (i 1)) e0) e1) e2) e3) e4) e5) e6) e7
    · rw [Cert.RBcIdeal.Read.val_main_v211_eq, BcReference.ref211]
      exact congr (congrArg (fun a0 a1 => fun i : Cert.RBcIdeal.S3x512.Idx => BcCore.dsc (Z a0) (P a1) (i 0) (i 1)) e0) e1
    · rw [Cert.RBcIdeal.Read.val_main_v130_eq, BcReference.ref130 s0]
      exact congr (congr (congrArg (fun a0 a2 a6 => fun i : Cert.RBcIdeal.S1x512.Idx => BcCore.dlg (Z a0) (P a2) (ws a6) (i 1)) e0) e2) e6
    · rw [Cert.RBcIdeal.Read.val_main_v127_eq, BcReference.ref127 s0]
      exact congr (congr (congrArg (fun a0 a2 a6 => fun i : Cert.RBcIdeal.S1x512.Idx => BcCore.dlb (Z a0) (P a2) (ws a6) (i 1)) e0) e2) e6
    · rw [Cert.RBcIdeal.Read.val_main_v122_eq, BcReference.ref122 s0]
      exact congr (congr (congr (congrArg (fun a0 a2 a4 a5 => fun i : Cert.RBcIdeal.S4x128x128.Idx => BcCore.dws (Z a0) (P a2) (lg a4) (lg a5) (i 0) (i 1) (i 2)) e0) e2) e4) e5
    · rw [Cert.RBcIdeal.Read.val_main_v120_eq, BcReference.ref120 s0]
      exact congr (congrArg (fun a0 a2 => fun i : Cert.RBcIdeal.S128x512.Idx => BcCore.dbias (Z a0) (P a2) (i 0) (i 1)) e0) e2

end Cert.BcClaim

end
-- ==== Proof.MixVal.lean ====
module

public import proofs.«01_k».proof.Proof.Reals
public import proofs.«01_k».proof.Proof.Gen.KMixIdeal.Value
public import proofs.«01_k».proof.Proof.BcValPay

/-! The two results of the two short mixers' forward call, place by place. -/

@[expose] public section

set_option maxRecDepth 16384

noncomputable section

namespace Cert.MixValue

open Cert.KMixIdeal Cert.KMixIdeal.Gen Idealize.ShloMosaic Idealize.ShloMosaic.TcCoe Idealize.SL.Sem
open Idealize.ShloMosaic.Pipeline (Dat)
open Cert.BcGrad (gelu nor kc)
open Cert.BcCore (edge)
open Cert.BcValue (row before_lt after_lt t_lt around eight eight_eq)

variable (m : (ℓ : Loc nD τ sig) → Buf (Elt Ideal) ℓ)

/-! ### The blocks a point reads -/

theorem idx : ∀ t : Fin cfg0.N, win0_0.index t = ![t.val, 0] ∧ win0_1.index t = ![t.val * 16 - 1, 0] ∧
    win0_2.index t = ![min (t.val * 16 + 16) 1023, 0] ∧ win0_3.index t = ![0, 0] ∧ win0_4.index t = ![0, 0] ∧ win0_5.index t = ![0, 0] ∧
    win0_6.index t = ![0, 0, 0] ∧ win0_7.index t = ![0, 0] ∧ win0_8.index t = ![t.val, 0] ∧ win0_9.index t = ![t.val, 0] := by
  show ∀ t : Fin grid0.N, _
  decide +kernel

/-- The arguments, as functions of their places. -/
abbrev A0 (c : Dev nD) : S16384x2560.Idx → EReal := m ((c : Thread nD τ).loc main_arg0)
abbrev A1 (c : Dev nD) : S3x512.Idx → EReal := m ((c : Thread nD τ).loc main_arg1)
abbrev A2 (c : Dev nD) : S1x512.Idx → EReal := m ((c : Thread nD τ).loc main_arg2)
abbrev A3 (c : Dev nD) : S1x512.Idx → EReal := m ((c : Thread nD τ).loc main_arg3)
abbrev A4 (c : Dev nD) : S4x128x128.Idx → EReal := m ((c : Thread nD τ).loc main_arg4)
abbrev A5 (c : Dev nD) : S4x128.Idx → EReal := m ((c : Thread nD τ).loc main_arg5)
abbrev Z (c : Dev nD) (r : Fin 16384) (l : Fin 2560) : EReal := A0 m c (ix2 r l)
abbrev W (c : Dev nD) (k : Fin 3) (l : Fin 512) : EReal := A1 m c (ix2 k l)
abbrev lg (c : Dev nD) (l : Fin 512) : EReal := A2 m c (ix2 0 l)
abbrev lb (c : Dev nD) (l : Fin 512) : EReal := A3 m c (ix2 0 l)
abbrev ws (c : Dev nD) (h : Fin 4) (p x : Fin 128) : EReal := A4 m c (ix3 h p x)
abbrev bs (c : Dev nD) (h : Fin 4) (p : Fin 128) : EReal := A5 m c (ix2 h p)

/-- The mixing weights and the repeated bias are prepared on the host. -/
theorem V_ws (c : Dev nD) (h : Fin 4) (p x : Fin 128) : V m c main_v3 (ix3 h p x) = ws m c h p x := by
  simp only [V, hostOps0]
  after_results_simp
  pointwise []
theorem V_bias (c : Dev nD) (p : Fin 128) (l : Fin 512) : V m c main_v2 (ix2 p l) = bs m c (Cert.BcCore.head l) p := by
  simp only [V, hostOps0]
  after_results_simp
  pointwise []

theorem blk0 (c : Dev nD) (t : Fin cfg0.N) (r : Fin 256) (l : Fin 2560) : iblk m c 0 t (ix2 r l) = Z m c (row t r) l := by
  blk_simp [iblk]
  rw [V_main_arg0]
  refine congrArg (A0 m c) ?_
  blk_ext [(idx t).1]
theorem blk1 (c : Dev nD) (t : Fin cfg0.N) (r : Fin 16) (l : Fin 2560) : iblk m c 1 t (ix2 r l) = Z m c ⟨_, before_lt t r⟩ l := by
  blk_simp [iblk]
  rw [V_main_arg0]
  refine congrArg (A0 m c) ?_
  blk_ext [(idx t).2.1]
theorem blk2 (c : Dev nD) (t : Fin cfg0.N) (r : Fin 16) (l : Fin 2560) : iblk m c 2 t (ix2 r l) = Z m c ⟨_, after_lt t r⟩ l := by
  blk_simp [iblk]
  rw [V_main_arg0]
  refine congrArg (A0 m c) ?_
  blk_ext [(idx t).2.2.1]
theorem blk3 (c : Dev nD) (t : Fin cfg0.N) (r : Fin 3) (l : Fin 512) : iblk m c 3 t (ix2 r l) = W m c r l := by
  blk_simp [iblk]
  rw [V_main_arg1]
  refine congrArg (A1 m c) ?_
  blk_ext [(idx t).2.2.2.1]
theorem blk4 (c : Dev nD) (t : Fin cfg0.N) (l : Fin 512) : iblk m c 4 t (ix2 0 l) = lg m c l := by
  blk_simp [iblk]
  rw [V_main_arg2]
  refine congrArg (A2 m c) ?_
  blk_ext [(idx t).2.2.2.2.1]
theorem blk5 (c : Dev nD) (t : Fin cfg0.N) (l : Fin 512) : iblk m c 5 t (ix2 0 l) = lb m c l := by
  blk_simp [iblk]
  rw [V_main_arg3]
  refine congrArg (A3 m c) ?_
  blk_ext [(idx t).2.2.2.2.2.1]
theorem blk6 (c : Dev nD) (t : Fin cfg0.N) (h : Fin 4) (p x : Fin 128) : iblk m c 6 t (ix3 h p x) = ws m c h p x := by
  blk_simp [iblk]
  refine Eq.trans (congrArg (V m c main_v3) ?_) (V_ws m c h p x)
  blk_ext [(idx t).2.2.2.2.2.2.1]
theorem blk7 (c : Dev nD) (t : Fin cfg0.N) (p : Fin 128) (l : Fin 512) : iblk m c 7 t (ix2 p l) = bs m c (Cert.BcCore.head l) p := by
  blk_simp [iblk]
  refine Eq.trans (congrArg (V m c main_v2) ?_) (V_bias m c p l)
  blk_ext [(idx t).2.2.2.2.2.2.2.1]

/-! ### What a point computes, over arbitrary operands -/

theorem name_kc : Named.named (F := Ideal) Cert.KMixIdeal.κ "gelu_kc" (φ := .f32) 0x3D122279#32 = kc :=
  IdealRules.named_const.ideal_named_scalar _ _ _ _ rfl

/-- A place of the gated rows with their neighbours: those before, the block, those behind. -/
abbrev near (i : grid0.Coords) (z : S256x2560.Idx → EReal) (b d : S16x2560.Idx → EReal) (p : Fin 288) (l : Fin 512) : EReal :=
  if h : p.val < 16 then Scalar.select (Scalar.cmpi .eq (BitVec.ofNat 32 (i 0).val) 0#32) 0
    (b (ix2 ⟨p.val, h⟩ ⟨512 + l.val, by omega⟩) * b (ix2 ⟨p.val, h⟩ ⟨1024 + l.val, by omega⟩))
  else if h' : p.val - 16 < 256 then z (ix2 ⟨p.val - 16, h'⟩ ⟨512 + l.val, by omega⟩) * z (ix2 ⟨p.val - 16, h'⟩ ⟨1024 + l.val, by omega⟩)
  else Scalar.select (Scalar.cmpi .eq (BitVec.ofNat 32 (i 0).val) 63#32) 0
    (d (ix2 ⟨p.val - 16 - 256, by omega⟩ ⟨512 + l.val, by omega⟩) * d (ix2 ⟨p.val - 16 - 256, by omega⟩ ⟨1024 + l.val, by omega⟩))

theorem pay6_eq (i : grid0.Coords) (z : S256x2560.Idx → EReal) (b d : S16x2560.Idx → EReal) (w : S3x512.Idx → EReal) (r : Fin 256) (l : Fin 512) :
    k0_pay6 (F := Ideal) i z b d w (ix2 r l) = z (ix2 r ⟨l.val, by omega⟩) *
      (near i z b d ⟨(16 + r.val + 288 - 1) % 288, by omega⟩ l * w (ix2 0 l) + near i z b d ⟨16 + r.val, by omega⟩ l * w (ix2 1 l) +
        near i z b d ⟨(16 + r.val + 288 - 287) % 288, by omega⟩ l * w (ix2 2 l)) := by
  have e : near i z b d ⟨16 + r.val, by omega⟩ l = z (ix2 r ⟨512 + l.val, by omega⟩) * z (ix2 r ⟨1024 + l.val, by omega⟩) := by
    have hr : (⟨16 + r.val - 16, by omega⟩ : Fin 256) = r := Fin.ext (Nat.add_sub_cancel_left 16 r.val)
    unfold near
    rw [dif_neg (by show ¬16 + r.val < 16; omega), dif_pos (by show 16 + r.val - 16 < 256; omega)]
    exact congrArg (fun x : Fin 256 => z (ix2 x ⟨512 + l.val, by omega⟩) * z (ix2 x ⟨1024 + l.val, by omega⟩)) hr
  rw [e]
  pointwise [k0_pay6, k0_pay3]

theorem pay7_eq (x : S256x512.Idx → EReal) (g b : S1x512.Idx → EReal) (r : Fin 256) (l : Fin 512) :
    k0_pay7 (F := Ideal) x g b (ix2 r l) = nor (fun y => gelu (x (ix2 r y))) l * g (ix2 0 l) + b (ix2 0 l) := by
  pointwise [k0_pay7]
  simp only [name_kc]
  rfl

theorem pay2_eq (x y : S256x512.Idx → EReal) (r : Fin 256) (l : Fin 512) :
    k0_pay2 (F := Ideal) x y (ix2 r l) = gelu (x (ix2 r l)) * y (ix2 r l) := by
  pointwise [k0_pay2]
  simp only [name_kc]
  rfl

/-! ### A point's intermediate values -/

/-- The two gates' operands, the normalised rows, and the bias. -/
abbrev zu (c : Dev nD) (t : Fin cfg0.N) : FVec Ideal S256x512 .f32 := k0_pay4 (iblk m c 0 t)
abbrev zv (c : Dev nD) (t : Fin cfg0.N) : FVec Ideal S256x512 .f32 := k0_pay5 (iblk m c 0 t)
abbrev vv (c : Dev nD) (t : Fin cfg0.N) : FVec Ideal S256x512 .f32 := k0_pay7 (zv m c t) (iblk m c 4 t) (iblk m c 5 t)
abbrev bia (c : Dev nD) (t : Fin cfg0.N) : FVec Ideal S128x512 .f32 := k0_pay8 (iblk m c 7 t)
/-- A head's mixing weights. -/
abbrev ws0 (X : S4x128x128.Idx → EReal) : S1x128x128.Idx → EReal :=
  View.ld (Val := Elt Ideal) (e' := .bf16) X (Rect.unit ![0, 0, 0] ![1, 128, 128] inb_S4x128x128_S1x128x128_0_0_0)
abbrev ws1 (X : S4x128x128.Idx → EReal) : S1x128x128.Idx → EReal :=
  View.ld (Val := Elt Ideal) (e' := .bf16) X (Rect.unit ![1, 0, 0] ![1, 128, 128] inb_S4x128x128_S1x128x128_1_0_0)
abbrev ws2 (X : S4x128x128.Idx → EReal) : S1x128x128.Idx → EReal :=
  View.ld (Val := Elt Ideal) (e' := .bf16) X (Rect.unit ![2, 0, 0] ![1, 128, 128] inb_S4x128x128_S1x128x128_2_0_0)
abbrev ws3 (X : S4x128x128.Idx → EReal) : S1x128x128.Idx → EReal :=
  View.ld (Val := Elt Ideal) (e' := .bf16) X (Rect.unit ![3, 0, 0] ![1, 128, 128] inb_S4x128x128_S1x128x128_3_0_0)
/-- The mixed rows. -/
abbrev mixed (c : Dev nD) (t : Fin cfg0.N) : S256x512.Idx → EReal := eight (View.whole cc0_scratch0)
  (k0_pay11 (bia m c t) (k0_pay9 (ws0 (iblk m c 6 t))) (k0_pay10 (zv m c t) (iblk m c 4 t) (iblk m c 5 t)))
  (k0_pay12 (vv m c t) (bia m c t) (ws1 (iblk m c 6 t)))
  (k0_pay13 (vv m c t) (bia m c t) (ws2 (iblk m c 6 t)))
  (k0_pay15 (k0_pay14 (vv m c t) (bia m c t) (ws3 (iblk m c 6 t))))
  (k0_pay16 (vv m c t) (bia m c t) (ws0 (iblk m c 6 t)))
  (k0_pay17 (vv m c t) (bia m c t) (ws1 (iblk m c 6 t)))
  (k0_pay18 (vv m c t) (bia m c t) (ws2 (iblk m c 6 t)))
  (k0_pay1 (bia m c t) (k0_pay19 (ws3 (iblk m c 6 t))) (k0_pay20 (vv m c t)))

theorem out8 (c : Dev nD) (t : Fin cfg0.N) :
    (outsAt0 m c t).1 = k0_pay6 (grid0.coords t) (iblk m c 0 t) (iblk m c 1 t) (iblk m c 2 t) (iblk m c 3 t) := by
  unfold outsAt0
  frame_out
theorem out9 (c : Dev nD) (t : Fin cfg0.N) : (outsAt0 m c t).2 = k0_pay2 (zu m c t) (mixed m c t) := by
  unfold outsAt0
  frame_out
  repeat rw [Memref.IsWhole.read_unread]
  repeat rw [View.ld_unit_lit']
  · rfl
  all_goals decide

/-! ### Their values -/

abbrev times (a b : EReal) : EReal := a * b

theorem near_eq (c : Dev nD) (t : Fin cfg0.N) (q : ℕ) (hq : q < 258) (p : Fin 288) (hp : p.val = 15 + q) (l : Fin 512) :
    near (grid0.coords t) (iblk m c 0 t) (iblk m c 1 t) (iblk m c 2 t) p l = edge (BcCore.q (Z m c)) (t.val * 256 + q) l := by
  have hlt : 15 + q < 288 := by omega
  obtain rfl : p = ⟨15 + q, hlt⟩ := Fin.ext hp
  exact around (BcCore.q (Z m c)) t
    (fun r l => times (iblk m c 0 t (ix2 r ⟨512 + l.val, by omega⟩)) (iblk m c 0 t (ix2 r ⟨1024 + l.val, by omega⟩)))
    (fun r l => times (iblk m c 1 t (ix2 r ⟨512 + l.val, by omega⟩)) (iblk m c 1 t (ix2 r ⟨1024 + l.val, by omega⟩)))
    (fun r l => times (iblk m c 2 t (ix2 r ⟨512 + l.val, by omega⟩)) (iblk m c 2 t (ix2 r ⟨1024 + l.val, by omega⟩)))
    (fun r l => congrArg₂ times (blk0 m c t r _) (blk0 m c t r _)) (fun r l => congrArg₂ times (blk1 m c t r _) (blk1 m c t r _))
    (fun r l => congrArg₂ times (blk2 m c t r _) (blk2 m c t r _)) q hq l

theorem zu_eq (c : Dev nD) (t : Fin cfg0.N) (r : Fin 256) (l : Fin 512) : zu m c t (ix2 r l) = Z m c (row t r) ⟨1536 + l.val, by omega⟩ := by
  pointwise [k0_pay4, k0_pay3]
  exact blk0 m c t r _
theorem zv_eq (c : Dev nD) (t : Fin cfg0.N) (r : Fin 256) (l : Fin 512) : zv m c t (ix2 r l) = Z m c (row t r) ⟨2048 + l.val, by omega⟩ := by
  pointwise [k0_pay5, k0_pay3]
  exact blk0 m c t r _
theorem vv_eq (c : Dev nD) (t : Fin cfg0.N) (r : Fin 256) (l : Fin 512) :
    vv m c t (ix2 r l) = BcCore.v2 (Z m c) (lg m c) (lb m c) (row t r) l := by
  refine (pay7_eq _ _ _ r l).trans ?_
  simp only [zv_eq, blk4, blk5]
  rfl
theorem bia_eq (c : Dev nD) (t : Fin cfg0.N) (p : Fin 128) (l : Fin 512) : bia m c t (ix2 p l) = bs m c (BcCore.head l) p := by
  pointwise [k0_pay8]
  exact blk7 m c t p l

/-- One chunk of one head, mixed, at the places a stored block names. -/
theorem mixAt (c : Dev nD) (t : Fin cfg0.N) (k : Fin 2) (h : Fin 4) (a b : Fin 128) (f : Fin 128 → EReal) (i : Fin 128 → Fin 256) (j : Fin 512)
    (hf : ∀ x, f x = ws m c h a x) (hi : ∀ x, (i x).val = k.val * 128 + x.val) (hj : j.val = h.val * 128 + b.val) :
    (∑ x : Fin 128, f x * vv m c t (ix2 (i x) j) + bia m c t (ix2 a j) : EReal) =
      BcCore.mixed (Z m c) (lg m c) (lb m c) (ws m c) (bs m c) (row t ⟨k.val * 128 + a.val, by omega⟩) ⟨h.val * 128 + b.val, by omega⟩ := by
  have ht := t_lt t
  have hd : BcCore.head j = h := Fin.ext (by show j.val / 128 = h.val; omega)
  have hp : BcCore.place (row t ⟨k.val * 128 + a.val, by omega⟩) = a :=
    Fin.ext (by show (t.val * 256 + (k.val * 128 + a.val)) % 128 = a.val; omega)
  have hm (x : Fin 128) : row t (i x) = BcCore.mate (row t ⟨k.val * 128 + a.val, by omega⟩) x :=
    Fin.ext (by show t.val * 256 + (i x).val = (t.val * 256 + (k.val * 128 + a.val)) / 128 * 128 + x.val; rw [hi]; omega)
  rw [bia_eq, show (⟨h.val * 128 + b.val, by omega⟩ : Fin 512) = j from Fin.ext hj.symm]
  unfold BcCore.mixed
  rw [hd, hp]
  simp only [hf, vv_eq, hm]

theorem wsAt (c : Dev nD) (t : Fin cfg0.N) (h : ℕ) (hh : h < 4) (inb) (a b : Fin 128) :
    View.ld (Val := Elt Ideal) (e' := .bf16) (iblk m c 6 t) (Rect.unit (s := S4x128x128) ![h, 0, 0] ![1, 128, 128] inb) (ix3 0 a b) =
      ws m c ⟨h, hh⟩ a b :=
  (View.ld_unit_apply_of (S := S4x128x128) (Val := Elt Ideal) (e := .bf16) (iblk m c 6 t) ![h, 0, 0] ![1, 128, 128] inb (ix3 0 a b)
    (ix3 ⟨h, hh⟩ a b) (Fin.forall_fin_succ.mpr ⟨rfl, Fin.forall_fin_two.mpr ⟨(Nat.zero_add _).symm, (Nat.zero_add _).symm⟩⟩)).trans
    (blk6 m c t _ a b)

theorem mixed_eq (c : Dev nD) (t : Fin cfg0.N) (r : Fin 256) (l : Fin 512) :
    mixed m c t (ix2 r l) = BcCore.mixed (Z m c) (lg m c) (lb m c) (ws m c) (bs m c) (row t r) l := by
  refine eight_eq _ _ _ _ _ _ _ _ _ (fun r l => BcCore.mixed (Z m c) (lg m c) (lb m c) (ws m c) (bs m c) (row t r) l)
    (fun a b => ?_) (fun a b => ?_) (fun a b => ?_) (fun a b => ?_) (fun a b => ?_) (fun a b => ?_) (fun a b => ?_) (fun a b => ?_) r l
  · refine Eq.trans ?_ (mixAt m c t 0 0 a b (fun x => ws0 (iblk m c 6 t) (ix3 0 a x)) (fun x => ⟨x.val, by omega⟩)
      ⟨b.val, by omega⟩ (fun x => wsAt m c t 0 (by decide) _ a x) (fun x => by simp) (by simp))
    pointwise [k0_pay11, k0_pay10, k0_pay9]
  · refine Eq.trans ?_ (mixAt m c t 0 1 a b (fun x => ws1 (iblk m c 6 t) (ix3 0 a x)) (fun x => ⟨x.val, by omega⟩)
      ⟨128 + b.val, by omega⟩ (fun x => wsAt m c t 1 (by decide) _ a x) (fun x => by simp) (by simp))
    pointwise [k0_pay12]
  · refine Eq.trans ?_ (mixAt m c t 0 2 a b (fun x => ws2 (iblk m c 6 t) (ix3 0 a x)) (fun x => ⟨x.val, by omega⟩)
      ⟨256 + b.val, by omega⟩ (fun x => wsAt m c t 2 (by decide) _ a x) (fun x => by simp) (by simp))
    pointwise [k0_pay13]
  · refine Eq.trans ?_ (mixAt m c t 0 3 a b (fun x => ws3 (iblk m c 6 t) (ix3 0 a x)) (fun x => ⟨x.val, by omega⟩)
      ⟨384 + b.val, by omega⟩ (fun x => wsAt m c t 3 (by decide) _ a x) (fun x => by simp) (by simp))
    pointwise [k0_pay15, k0_pay14]
  · refine Eq.trans ?_ (mixAt m c t 1 0 a b (fun x => ws0 (iblk m c 6 t) (ix3 0 a x)) (fun x => ⟨128 + x.val, by omega⟩)
      ⟨b.val, by omega⟩ (fun x => wsAt m c t 0 (by decide) _ a x) (fun x => by simp) (by simp))
    pointwise [k0_pay16]
  · refine Eq.trans ?_ (mixAt m c t 1 1 a b (fun x => ws1 (iblk m c 6 t) (ix3 0 a x)) (fun x => ⟨128 + x.val, by omega⟩)
      ⟨128 + b.val, by omega⟩ (fun x => wsAt m c t 1 (by decide) _ a x) (fun x => by simp) (by simp))
    pointwise [k0_pay17]
  · refine Eq.trans ?_ (mixAt m c t 1 2 a b (fun x => ws2 (iblk m c 6 t) (ix3 0 a x)) (fun x => ⟨128 + x.val, by omega⟩)
      ⟨256 + b.val, by omega⟩ (fun x => wsAt m c t 2 (by decide) _ a x) (fun x => by simp) (by simp))
    pointwise [k0_pay18]
  · refine Eq.trans ?_ (mixAt m c t 1 3 a b (fun x => ws3 (iblk m c 6 t) (ix3 0 a x)) (fun x => ⟨128 + x.val, by omega⟩)
      ⟨384 + b.val, by omega⟩ (fun x => wsAt m c t 3 (by decide) _ a x) (fun x => by simp) (by simp))
    pointwise [k0_pay1, k0_pay20, k0_pay19]

/-! ### The two results -/

/-- The convolved gate and the mixed gate. -/
def pb (c : Dev nD) (r : Fin 16384) (l : Fin 512) : EReal := Z m c r ⟨l.val, by omega⟩ * BcCore.cq (Z m c) (W m c) r l
def pc (c : Dev nD) (r : Fin 16384) (l : Fin 512) : EReal :=
  BcCore.gu (Z m c) r l * BcCore.mixed (Z m c) (lg m c) (lb m c) (ws m c) (bs m c) r l

theorem left8 (c : Dev nD) (t : Fin cfg0.N) (r : Fin 256) (l : Fin 512) : (outsAt0 m c t).1 (ix2 r l) = pb m c (row t r) l := by
  rw [out8]
  refine (pay6_eq _ _ _ _ _ r l).trans ?_
  rw [blk0, blk3, blk3, blk3, near_eq m c t r.val (by omega) _ (by show (16 + r.val + 288 - 1) % 288 = _; omega),
    near_eq m c t (r.val + 1) (by omega) _ (by show 16 + r.val = _; omega),
    near_eq m c t (r.val + 2) (by omega) _ (by show (16 + r.val + 288 - 287) % 288 = _; omega)]
  rfl
theorem left9 (c : Dev nD) (t : Fin cfg0.N) (r : Fin 256) (l : Fin 512) : (outsAt0 m c t).2 (ix2 r l) = pc m c (row t r) l := by
  rw [out9]
  refine (pay2_eq _ _ r l).trans ?_
  rw [mixed_eq, zu_eq]
  rfl

theorem final8 (c : Dev nD) : (dats m 0 c).arrAt 8 cfg0.N = fun i : S16384x512.Idx => pb m c (i 0) (i 1) := by
  refine (dats m 0 c).arrAt_eq_of_covers 8 _ (by decide +kernel) fun t hf y => ?_
  blk_simp
  obtain ⟨r, l, rfl⟩ := at2 y
  have e : ((View.whole main_v4_0).slice (win0_8.rect t)).emb (ix2 r l) = ix2 (row t r) l := by
    blk_ext [(idx t).2.2.2.2.2.2.2.2.1]
  rw [after0_8, e]
  exact left8 m c t r l

theorem final9 (c : Dev nD) : (dats m 0 c).arrAt 9 cfg0.N = fun i : S16384x512.Idx => pc m c (i 0) (i 1) := by
  refine (dats m 0 c).arrAt_eq_of_covers 9 _ (by decide +kernel) fun t hf y => ?_
  blk_simp
  obtain ⟨r, l, rfl⟩ := at2 y
  have e : ((View.whole main_v4_1).slice (win0_9.rect t)).emb (ix2 r l) = ix2 (row t r) l := by
    blk_ext [(idx t).2.2.2.2.2.2.2.2.2]
  rw [after0_9, e]
  exact left9 m c t r l

end Cert.MixValue

end
-- ==== Proof.Gate.lean ====
module

public import proofs.«01_k».proof.Proof.BcGrad
public import proofs.«01_k».proof.Proof.Norm

/-! The smooth gate at every extended real. -/

@[expose] public section

noncomputable section

namespace Cert.Gate

open Idealize.ShloMosaic

/-- The gate is the same written either way, also at the two infinities. -/
theorem gelu_eq (z : EReal) : Cert.BcGrad.gelu' z = Cert.BcGrad.gelu z := by
  induction z using EReal.rec with
  | bot =>
    have c : Cert.BcGrad.th' ⊥ = -1 ∧ Cert.BcGrad.th ⊥ = -1 := by
      unfold Cert.BcGrad.th Cert.BcGrad.th' Cert.BcGrad.kc
      rw [Cert.BcGrad.word_k, Cert.BcGrad.word_c, EReal.bot_mul_bot, EReal.top_mul_bot, EReal.coe_mul_bot_of_pos (by norm_num), EReal.bot_add,
        EReal.coe_mul_bot_of_pos (by norm_num), EReal.coe_mul_top_of_pos (by norm_num), EReal.coe_add_top, EReal.bot_mul_top]
      exact ⟨rfl, rfl⟩
    have z : (1 + -1 : EReal) = 0 := by
      show ((1 : ℝ) : EReal) + -((1 : ℝ) : EReal) = 0
      rw [← EReal.coe_neg, ← EReal.coe_add]
      norm_num
    unfold Cert.BcGrad.gelu Cert.BcGrad.gelu'
    rw [c.1, c.2, z, mul_zero, mul_zero, mul_zero]
  | coe u => exact Cert.BcGrad.gelu_eq u
  | top =>
    have c : Cert.BcGrad.th' ⊤ = 1 ∧ Cert.BcGrad.th ⊤ = 1 := by
      unfold Cert.BcGrad.th Cert.BcGrad.th' Cert.BcGrad.kc
      rw [Cert.BcGrad.word_k, Cert.BcGrad.word_c, EReal.top_mul_top, EReal.top_mul_top, EReal.coe_mul_top_of_pos (by norm_num),
        EReal.top_add_top, EReal.coe_mul_top_of_pos (by norm_num), EReal.coe_mul_top_of_pos (by norm_num), EReal.coe_add_top, EReal.top_mul_top]
      exact ⟨rfl, rfl⟩
    have z : (1 + 1 : EReal) = ((2 : ℝ) : EReal) := by norm_cast
    unfold Cert.BcGrad.gelu Cert.BcGrad.gelu'
    rw [c.1, c.2, z, Cert.Reals.word_half, EReal.coe_mul_top_of_pos (by norm_num), EReal.top_mul_coe_of_pos (by norm_num), ← EReal.coe_mul,
      EReal.top_mul_coe_of_pos (by norm_num)]

end Cert.Gate

end
-- ==== Proof.MixRef.lean ====
module

public import proofs.«01_k».proof.Proof.Reals
public import proofs.«01_k».proof.Proof.Gen.RMixIdeal.Read
public import proofs.«01_k».proof.Proof.BcCore
public import proofs.«01_k».proof.Proof.Gate
public import Idealize.ShloMosaic.Lib.Pipeline.ValueKit

/-! What the two short mixers' own lines compute, place by place. -/

@[expose] public section

set_option maxRecDepth 16384

noncomputable section

namespace Cert.MixReference

open Cert.RMixIdeal Cert.RMixIdeal.Read Idealize.ShloMosaic Idealize.ShloMosaic.TcCoe Idealize.SL.Sem
open Cert.BcGrad Cert.BcCore

variable (x0 : (⟨S16384x2560, .bf16⟩ : BufTy).Contents (Elt Ideal)) (x1 : (⟨S3x512, .f32⟩ : BufTy).Contents (Elt Ideal))
  (x2 x3 : (⟨S1x512, .f32⟩ : BufTy).Contents (Elt Ideal)) (x4 : (⟨S4x128x128, .f32⟩ : BufTy).Contents (Elt Ideal))
  (x5 : (⟨S4x128, .f32⟩ : BufTy).Contents (Elt Ideal))

/-- The arguments as plain functions. -/
abbrev Z : Fin 16384 → Fin 2560 → EReal := fun r l => x0 (ix2 r l)
abbrev W : Fin 3 → Fin 512 → EReal := fun k l => x1 (ix2 k l)
abbrev lg : Fin 512 → EReal := fun l => x2 (ix2 0 l)
abbrev ws : Fin 4 → Fin 128 → Fin 128 → EReal := fun h p x => x4 (ix3 h p x)
abbrev bs : Fin 4 → Fin 128 → EReal := fun h p => x5 (ix2 h p)

theorem v4_eq (r : Fin 16384) (l : Fin 512) : val_main_v4 (F := Ideal) x0 (ix2 r l) = x0 (ix2 r ⟨l.val, by omega⟩) := by
  pointwise [val_main_v4, val_main_v3]
theorem v5_eq (r : Fin 16384) (l : Fin 512) : val_main_v5 (F := Ideal) x0 (ix2 r l) = x0 (ix2 r ⟨512 + l.val, by omega⟩) := by
  pointwise [val_main_v5, val_main_v3]
theorem v6_eq (r : Fin 16384) (l : Fin 512) : val_main_v6 (F := Ideal) x0 (ix2 r l) = x0 (ix2 r ⟨1024 + l.val, by omega⟩) := by
  pointwise [val_main_v6, val_main_v3]
theorem v7_eq (r : Fin 16384) (l : Fin 512) : val_main_v7 (F := Ideal) x0 (ix2 r l) = x0 (ix2 r ⟨1536 + l.val, by omega⟩) := by
  pointwise [val_main_v7, val_main_v3]
theorem v8_eq (r : Fin 16384) (l : Fin 512) : val_main_v8 (F := Ideal) x0 (ix2 r l) = x0 (ix2 r ⟨2048 + l.val, by omega⟩) := by
  pointwise [val_main_v8, val_main_v3]

theorem v12_eq (n : Fin 16386) (l : Fin 512) : val_main_v12 (F := Ideal) x0 (ix2 n l) = edge (q (Z x0)) n.val l := by
  pointwise [val_main_v12, val_main_v11, val_main_v10, val_main_v9, val_main_cst, val_main_cst_0]
  have hn : n.val < 16386 := n.isLt
  by_cases h0 : n.val < 1
  · rw [dif_pos h0, edge_outside _ _ _ (by omega)]
  · by_cases h1 : n.val - 1 < 16384
    · rw [dif_neg h0, dif_pos h1, v5_eq, v6_eq, edge_inside _ n.val l ⟨n.val - 1, h1⟩ (by show n.val - 1 + 1 = n.val; omega)]
      rfl
    · rw [dif_neg h0, dif_neg h1, edge_outside _ _ _ (by omega)]

/-- The convolved gate. -/
theorem v91_eq (r : Fin 16384) (l : Fin 512) : val_main_v91 (F := Ideal) x0 x1 (ix2 r l) =
    Z x0 r ⟨l.val, by omega⟩ * cq (Z x0) (W x1) r l := by
  pointwise [val_main_v91, val_main_v33, val_main_v32, val_main_v31, val_main_v30, val_main_v29, val_main_v28, val_main_v27,
    val_main_v26, val_main_v25, val_main_v24, val_main_v23, val_main_v22, val_main_v21, val_main_v20, val_main_v19, val_main_v18,
    val_main_v17, val_main_v16, val_main_v15, val_main_v14, val_main_v13]
  simp only [v12_eq, v4_eq]
  unfold cq
  rw [Nat.add_comm 1 r.val, Nat.add_comm 2 r.val]

/-! ### The mixed gate -/

theorem v46_eq (r : Fin 16384) (l : Fin 512) : val_main_v46 (F := Ideal) x0 (ix2 r l) = gu (Z x0) r l := by
  refine Eq.trans ?_ ((congrArg gelu' (v7_eq x0 r l)).trans (Cert.Gate.gelu_eq _))
  pointwise [val_main_v46, val_main_v45, val_main_v44, val_main_v43, val_main_v42, val_main_v41, val_main_v40, val_main_v39,
    val_main_v38, val_main_v37, val_main_v36, val_main_v35, val_main_v34, val_main_cst_1, val_main_cst_2, val_main_cst_3, val_main_cst_4]
  rfl
theorem v59_eq (r : Fin 16384) (l : Fin 512) : val_main_v59 (F := Ideal) x0 (ix2 r l) = gv (Z x0) r l := by
  refine Eq.trans ?_ ((congrArg gelu' (v8_eq x0 r l)).trans (Cert.Gate.gelu_eq _))
  pointwise [val_main_v59, val_main_v58, val_main_v57, val_main_v56, val_main_v55, val_main_v54, val_main_v53, val_main_v52,
    val_main_v51, val_main_v50, val_main_v49, val_main_v48, val_main_v47, val_main_cst_5, val_main_cst_6, val_main_cst_7, val_main_cst_8]
  rfl

theorem v63_eq (r : Fin 16384) : val_main_v63 (F := Ideal) x0 (ix2 r 0) = mean (gv (Z x0) r) := by
  pointwise [val_main_v63, val_main_v62, val_main_v61, val_main_v60, val_main_cst_9, val_main_cst_10]
  simp only [v59_eq]
  rfl
theorem v65_eq (r : Fin 16384) (l : Fin 512) : val_main_v65 (F := Ideal) x0 (ix2 r l) = cen (gv (Z x0) r) l := by
  pointwise [val_main_v65, val_main_v64]
  rw [v63_eq, v59_eq]
  rfl
theorem v72_eq (r : Fin 16384) (l : Fin 512) : val_main_v72 (F := Ideal) x0 (ix2 r l) = cen (gv (Z x0) r) l := by
  pointwise [val_main_v72, val_main_v71]
  rw [v63_eq, v59_eq]
  rfl
theorem v75_eq (r : Fin 16384) : val_main_v75 (F := Ideal) x0 (ix2 r 0) = rs (gv (Z x0) r) := by
  pointwise [val_main_v75, val_main_v74, val_main_v73, val_main_v70, val_main_v69, val_main_v68, val_main_v67, val_main_v66,
    val_main_cst_11, val_main_cst_12, val_main_cst_13]
  simp only [v65_eq]
  rfl
theorem v81_eq (r : Fin 16384) (l : Fin 512) : val_main_v81 (F := Ideal) x0 x2 x3 (ix2 r l) = v2 (Z x0) (lg x2) (lg x3) r l := by
  pointwise [val_main_v81, val_main_v80, val_main_v79, val_main_v78, val_main_v77, val_main_v76]
  rw [v72_eq, v75_eq]
  rfl
theorem v82_eq (n x : Fin 128) (h : Fin 4) (c : Fin 128) : val_main_v82 (F := Ideal) x0 x2 x3 (ix4 n x h c) =
    val_main_v81 (F := Ideal) x0 x2 x3 (ix2 (at' n x) (lane h c)) := by
  pointwise [val_main_v82]

theorem v89_eq (r : Fin 16384) (l : Fin 512) : val_main_v89 (F := Ideal) x0 x2 x3 x4 x5 (ix2 r l) =
    mixed (Z x0) (lg x2) (lg x3) (ws x4) (bs x5) r l := by
  pointwise [val_main_v89, val_main_v88, val_main_v87, val_main_v86, val_main_v85, val_main_v84, val_main_v83, val_main_v2, val_main_v1,
    val_main_v0]
  refine congrArg₂ (· + ·) (Finset.sum_congr rfl fun x _ => ?_) rfl
  rw [v82_eq, v81_eq, mul_comm]
  congr 2
  exact Fin.ext (by show l.val / 128 * 128 + l.val % 128 = l.val; omega)

theorem v92_eq (r : Fin 16384) (l : Fin 512) : val_main_v92 (F := Ideal) x0 x2 x3 x4 x5 (ix2 r l) =
    gu (Z x0) r l * mixed (Z x0) (lg x2) (lg x3) (ws x4) (bs x5) r l := by
  pointwise [val_main_v92, val_main_v90]
  rw [v46_eq, v89_eq]

/-! ### The two results as whole arrays -/

def pb (Z : Fin 16384 → Fin 2560 → EReal) (W : Fin 3 → Fin 512 → EReal) (r : Fin 16384) (l : Fin 512) : EReal :=
  Z r ⟨l.val, by omega⟩ * cq Z W r l
def pc (Z : Fin 16384 → Fin 2560 → EReal) (lg lb : Fin 512 → EReal) (ws : Fin 4 → Fin 128 → Fin 128 → EReal) (bs : Fin 4 → Fin 128 → EReal)
    (r : Fin 16384) (l : Fin 512) : EReal := gu Z r l * mixed Z lg lb ws bs r l

theorem ref91 : val_main_v91 (F := Ideal) x0 x1 = fun i => pb (Z x0) (W x1) (i 0) (i 1) := by
  exact ext2 fun r l => v91_eq x0 x1 r l
theorem ref92 : val_main_v92 (F := Ideal) x0 x2 x3 x4 x5 = fun i => pc (Z x0) (lg x2) (lg x3) (ws x4) (bs x5) (i 0) (i 1) := by
  exact ext2 fun r l => v92_eq x0 x2 x3 x4 x5 r l

end Cert.MixReference

end
-- ==== Proof.MixClaim.lean ====
module

public import proofs.«01_k».proof.Proof.MixVal
public import proofs.«01_k».proof.Proof.MixRef
public import proofs.«01_k».proof.Proof.Gen.RMixIdeal.Run
public import proofs.«01_k».proof.Defs
public import Idealize.ShloMosaic.Lib.Quiescent

/-! The short mixers' forward call and their own lines: the two runs put beside each other. -/

@[expose] public section

set_option maxRecDepth 16384

noncomputable section

namespace Cert.MixClaim

open Idealize.ShloMosaic Idealize.SL.Sem
open MixReference (Z W lg ws bs)

/-- The named product of constants. -/
theorem preserves : Cert.preserves_KMix_KMixIdeal :=
  IdealRules.named_const.statement Cert.KMixIdeal.κ "gelu_kc" .f32 0x3D122279#32 ((80338380498831 / 2251799813685248 : ℝ) : EReal) rfl

/-- The reference runs and leaves its arguments. -/
theorem refFrame : Cert.quiescent_RMixIdeal (hRMixIdeal := Cert.RMixIdeal.Gen.facts) := fun m ρ _ =>
  (θ_run _ _ _).mono (fun r h => ⟨fun c => (h c).2.2, sem_eq_zero_of_no_sems (by decide) r.2⟩)
    (Cert.RMixIdeal.Value.run (F := Ideal) m ρ)

set_option maxHeartbeats 1600000 in
/-- Kernel and reference end with the same two results. -/
theorem algebraic : Cert.algebraic_KMixIdeal_RMixIdeal (hKMixIdeal := Cert.KMixIdeal.Gen.facts) (hRMixIdeal := Cert.RMixIdeal.Gen.facts) := by
  intro m g m' g' _ hag
  refine ⟨fun c i => MixValue.pb m c (i 0) (i 1), fun c i => MixValue.pc m c (i 0) (i 1), ?_, ?_⟩
  · refine (θ_run _ _ _).mono (fun r h c => ?_) (Cert.KMixIdeal.Value.run_blocks (F := Ideal) m g)
    obtain ⟨h0, h1, ha⟩ := h c
    exact ⟨h0.trans (MixValue.final8 m c), h1.trans (MixValue.final9 m c), ha⟩
  · refine (θ_run _ _ _).mono (fun r h c => ?_) (Cert.RMixIdeal.Value.run (F := Ideal) m' g')
    obtain ⟨h0, h1, ha⟩ := h c
    obtain ⟨e0, e1, e2, e3, e4, e5⟩ := hag c
    refine ⟨h0.trans ?_, h1.trans ?_, ha⟩
    · rw [Cert.RMixIdeal.Read.val_main_v91_eq, MixReference.ref91]
      exact congr (congrArg (fun a0 a1 => fun i : Cert.RMixIdeal.S16384x512.Idx => MixReference.pb (Z a0) (W a1) (i 0) (i 1)) e0) e1
    · rw [Cert.RMixIdeal.Read.val_main_v92_eq, MixReference.ref92]
      exact congr (congr (congr (congr (congrArg (fun a0 a2 a3 a4 a5 => fun i : Cert.RMixIdeal.S16384x512.Idx =>
        MixReference.pc (Z a0) (lg a2) (lg a3) (ws a4) (bs a5) (i 0) (i 1)) e0) e2) e3) e4) e5

end Cert.MixClaim

end
-- ==== Proof.UpVal.lean ====
module

public import proofs.«01_k».proof.Proof.Gen.KUpIdeal.Value
public import proofs.«01_k».proof.Proof.Norm
public import Idealize.ShloMosaic.Lib.Pipeline.ValueKit
public import Idealize.ShloMosaic.Lib.Pipeline.ReadBack
public import Idealize.ShloMosaic.Lib.VecWindow

/-! What the first forward call of the feed-forward block leaves in its four results, place by place. -/

@[expose] public section

set_option maxRecDepth 16384

noncomputable section

namespace Cert.UpValue

open Cert.KUpIdeal Cert.KUpIdeal.Gen Idealize.ShloMosaic Idealize.ShloMosaic.TcCoe Idealize.SL.Sem
open Idealize.ShloMosaic.Pipeline (Dat)
open Cert.Reals (sig invRms)

variable (m : (ℓ : Loc nD τ sig) → Buf (Elt Ideal) ℓ)

/-- The arguments, as arrays of the launch. -/
abbrev X (c : Dev nD) : S16384x1024.Idx → EReal := m ((c : Thread nD τ).loc main_arg0)
abbrev G (c : Dev nD) : S1x1024.Idx → EReal := m ((c : Thread nD τ).loc main_arg1)
abbrev Wa (c : Dev nD) : S1024x2816.Idx → EReal := m ((c : Thread nD τ).loc main_arg2)
abbrev Wb (c : Dev nD) : S1024x2816.Idx → EReal := m ((c : Thread nD τ).loc main_arg3)

/-- The normalised row, and its product with a weight. -/
def hn (X : S16384x1024.Idx → EReal) (G : S1x1024.Idx → EReal) (r : Fin 16384) (l : Fin 1024) : EReal :=
  X (ix2 r l) * invRms (fun k => X (ix2 r k)) * G (ix2 0 l)
def up (X : S16384x1024.Idx → EReal) (G : S1x1024.Idx → EReal) (W : S1024x2816.Idx → EReal) (r : Fin 16384) (j : Fin 2816) : EReal :=
  ∑ l : Fin 1024, hn X G r l * W (ix2 l j)

/-! ### The blocks a point reads and writes -/

/-- Every window but the norm's weight moves down with the points. -/
theorem idx : ∀ t : Fin cfg0.N, win0_0.index t = ![t.val, 0] ∧ win0_1.index t = ![0, 0] ∧ win0_2.index t = ![t.val, 0] ∧
    win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0] ∧
    win0_3.index t = ![t.val, 0] ∧ win0_4.index t = ![t.val, 0] ∧ win0_5.index t = ![t.val, 0])

/-- Row `r` of point `t`'s block. -/
abbrev row (t : Fin cfg0.N) (r : Fin 512) : Fin 16384 := ⟨t.val * 512 + r.val, by have h : t.val < 32 := t.isLt; omega⟩

theorem blk0 (c : Dev nD) (t : Fin cfg0.N) (r : Fin 512) (l : Fin 1024) : iblk m c 0 t (ix2 r l) = X m c (ix2 (row t r) l) := by
  blk_simp [iblk]
  refine congrArg (X m c) ?_
  blk_ext [(idx t).1]

theorem blk1 (c : Dev nD) (t : Fin cfg0.N) (r : Fin 1) (l : Fin 1024) : iblk m c 1 t (ix2 r l) = G m c (ix2 0 l) := by
  blk_simp [iblk]
  refine congrArg (G m c) ?_
  blk_ext [(idx t).2.1]

/-! ### What a point leaves -/

/-- The two weight scratches hold the weights after every point: the first copies them, the others leave them. -/
theorem scr (c : Dev nD) (n : ℕ) : ∀ hn : n < cfg0.N,
    (outsAt0 m c n hn).2.2.2.2.1 = V m c main_arg2 ∧ (outsAt0 m c n hn).2.2.2.2.2 = V m c main_arg3 := by
  induction n using Nat.strong_induction_on with
  | _ n ih =>
    intro hn
    by_cases h0 : n % 32 = 0
    · rw [outsAt0_A m c ⟨n, hn⟩ h0]
      frame_out
      exact ⟨View.canon_unit_zero rfl _ _, View.canon_unit_zero rfl _ _⟩
    · rw [outsAt0_B m c ⟨n, hn⟩ h0]
      simp only [sout0_B_0, sout0_B_1]
      exact ih (n - 1) (by omega) _

theorem scr0 (c : Dev nD) (n : ℕ) (hn : n < cfg0.N) : (outsAt0 m c n hn).2.2.2.2.1 = V m c main_arg2 := (scr m c n hn).1
theorem scr1 (c : Dev nD) (n : ℕ) (hn : n < cfg0.N) : (outsAt0 m c n hn).2.2.2.2.2 = V m c main_arg3 := (scr m c n hn).2

theorem outs (c : Dev nD) (t : Fin cfg0.N) : let O := outsAt0 m c t.val t.isLt
    O.1 = k0_pay2 (iblk m c 0 t) (iblk m c 1 t) ∧ O.2.1 = k0_pay5 (iblk m c 0 t) (iblk m c 1 t) (V m c main_arg2) ∧
    O.2.2.1 = k0_pay6 (iblk m c 0 t) (iblk m c 1 t) (V m c main_arg3) ∧
    O.2.2.2.1 = k0_pay1 (k0_pay3 (iblk m c 0 t) (iblk m c 1 t) (V m c main_arg2)) (k0_pay4 (iblk m c 0 t) (iblk m c 1 t) (V m c main_arg3))
      (k0_pay7 (iblk m c 0 t) (iblk m c 1 t) (V m c main_arg2)) := by
  dsimp only
  by_cases h0 : t.val % 32 = 0
  · rw [outsAt0_A m c t h0]
    frame_open
    simp (disch := decide) only [↓ View.readCov_skip, ↓ View.readCov_cons_toLoadRect, ↓ View.readCov_fill]
    frame_out
    exact ⟨trivial, congrArg (k0_pay5 _ _) (View.readCov_full _ _ _ _ _), congrArg (k0_pay6 _ _) (View.readCov_full _ _ _ _ _),
      congrArg₂ (fun w w' => k0_pay1 (k0_pay3 _ _ w) (k0_pay4 _ _ w') (k0_pay7 _ _ w)) (View.readCov_full _ _ _ _ _) (View.readCov_full _ _ _ _ _)⟩
  · rw [outsAt0_B m c t h0]
    frame_out
    simp only [read_unread_whole, scr0 m c, scr1 m c, and_self]

/-! ### The values, place by place -/

theorem pay2 (c : Dev nD) (t : Fin cfg0.N) (r : Fin 512) (l : Fin 1024) :
    k0_pay2 (F := Ideal) (iblk m c 0 t) (iblk m c 1 t) (ix2 r l) = hn (X m c) (G m c) (row t r) l := by
  pointwise [k0_pay2]
  simp only [blk0, blk1]
  rfl

theorem pay3 (c : Dev nD) (t : Fin cfg0.N) (r : Fin 512) (j : Fin 2816) :
    k0_pay3 (F := Ideal) (iblk m c 0 t) (iblk m c 1 t) (V m c main_arg2) (ix2 r j) = up (X m c) (G m c) (Wa m c) (row t r) j := by
  pointwise [k0_pay3]
  simp only [pay2]
  rfl

theorem pay4 (c : Dev nD) (t : Fin cfg0.N) (r : Fin 512) (j : Fin 2816) :
    k0_pay4 (F := Ideal) (iblk m c 0 t) (iblk m c 1 t) (V m c main_arg3) (ix2 r j) = up (X m c) (G m c) (Wb m c) (row t r) j := by
  pointwise [k0_pay4]
  simp only [pay2]
  rfl

/-! ### The four arrays after the run -/

theorem final2 (c : Dev nD) : (dats m 0 c).arrAt 2 cfg0.N = fun i : S16384x1024.Idx => hn (X m c) (G m c) (i 0) (i 1) := by
  refine (dats m 0 c).arrAt_eq_of_covers 2 _ (by decide +kernel) fun t hf y => ?_
  blk_simp
  obtain ⟨r, l, rfl⟩ := at2 y
  have e : ((View.whole main_v0_0).slice (win0_2.rect t)).emb (ix2 r l) = ix2 (row t r) l := by
    blk_ext [(idx t).2.2.1]
  rw [after0_2, (outs m c t).1, e]
  exact pay2 m c t r l

theorem final3 (c : Dev nD) : (dats m 0 c).arrAt 3 cfg0.N = fun i : S16384x2816.Idx => up (X m c) (G m c) (Wa m c) (i 0) (i 1) := by
  refine (dats m 0 c).arrAt_eq_of_covers 3 _ (by decide +kernel) fun t hf y => ?_
  blk_simp
  obtain ⟨r, l, rfl⟩ := at2 y
  have e : ((View.whole main_v0_1).slice (win0_3.rect t)).emb (ix2 r l) = ix2 (row t r) l := by
    blk_ext [(idx t).2.2.2.1]
  rw [after0_3, (outs m c t).2.1, e]
  exact pay3 m c t r l

theorem final4 (c : Dev nD) : (dats m 0 c).arrAt 4 cfg0.N = fun i : S16384x2816.Idx => up (X m c) (G m c) (Wb m c) (i 0) (i 1) := by
  refine (dats m 0 c).arrAt_eq_of_covers 4 _ (by decide +kernel) fun t hf y => ?_
  blk_simp
  obtain ⟨r, l, rfl⟩ := at2 y
  have e : ((View.whole main_v0_2).slice (win0_4.rect t)).emb (ix2 r l) = ix2 (row t r) l := by
    blk_ext [(idx t).2.2.2.2.1]
  rw [after0_4, (outs m c t).2.2.1, e]
  exact pay4 m c t r l

/-- The gated product. -/
def gated (X : S16384x1024.Idx → EReal) (G : S1x1024.Idx → EReal) (Wa Wb : S1024x2816.Idx → EReal) (r : Fin 16384) (j : Fin 2816) : EReal :=
  up X G Wa r j * sig (up X G Wa r j) * up X G Wb r j

theorem final5 (c : Dev nD) : (dats m 0 c).arrAt 5 cfg0.N = fun i : S16384x2816.Idx => gated (X m c) (G m c) (Wa m c) (Wb m c) (i 0) (i 1) := by
  refine (dats m 0 c).arrAt_eq_of_covers 5 _ (by decide +kernel) fun t hf y => ?_
  blk_simp
  obtain ⟨r, l, rfl⟩ := at2 y
  have e : ((View.whole main_v0_3).slice (win0_5.rect t)).emb (ix2 r l) = ix2 (row t r) l := by
    blk_ext [(idx t).2.2.2.2.2]
  rw [after0_5, (outs m c t).2.2.2, e]
  pointwise [k0_pay1, k0_pay7]
  simp only [pay3, pay4]
  rfl

end Cert.UpValue

end
-- ==== Proof.UpClaim.lean ====
module

public import proofs.«01_k».proof.Proof.UpVal
public import proofs.«01_k».proof.Proof.Gen.RUpIdeal.Read
public import proofs.«01_k».proof.Proof.Gen.RUpIdeal.Run
public import proofs.«01_k».proof.Defs
public import Idealize.ShloMosaic.Lib.Quiescent

/-! The first forward call of the feed-forward block and its own lines: what the lines compute, and the two runs beside
each other. -/

@[expose] public section

set_option maxRecDepth 16384

noncomputable section

namespace Cert.UpClaim

open Cert.RUpIdeal Cert.RUpIdeal.Read Idealize.ShloMosaic Idealize.ShloMosaic.TcCoe Idealize.SL.Sem
open UpValue (X G Wa Wb hn up gated)

variable (x0 : (⟨S16384x1024, .f32⟩ : BufTy).Contents (Elt Ideal)) (x1 : (⟨S1x1024, .f32⟩ : BufTy).Contents (Elt Ideal))
  (x2 x3 : (⟨S1024x2816, .bf16⟩ : BufTy).Contents (Elt Ideal))

theorem v11_eq (r : Fin 16384) (l : Fin 1024) : val_main_v11 (F := Ideal) x0 x1 (ix2 r l) = hn x0 x1 r l := by
  pointwise [val_main_v11, val_main_v10, val_main_v9, val_main_v8, val_main_v7, val_main_v6, val_main_v5, val_main_v4, val_main_v3,
    val_main_v2, val_main_v1, val_main_v0, val_main_cst, val_main_cst_0, val_main_cst_1]
  rfl

theorem v13_eq (r : Fin 16384) (j : Fin 2816) : val_main_v13 (F := Ideal) x0 x1 x2 (ix2 r j) = up x0 x1 x2 r j := by
  pointwise [val_main_v13, val_main_v12]
  simp only [v11_eq]
  rfl

theorem v15_eq (r : Fin 16384) (j : Fin 2816) : val_main_v15 (F := Ideal) x0 x1 x3 (ix2 r j) = up x0 x1 x3 r j := by
  pointwise [val_main_v15, val_main_v14]
  simp only [v11_eq]
  rfl

theorem v17_eq (r : Fin 16384) (j : Fin 2816) : val_main_v17 (F := Ideal) x0 x1 x2 x3 (ix2 r j) = gated x0 x1 x2 x3 r j := by
  unfold gated
  rw [Cert.Reals.sig_eq_logistic]
  pointwise [val_main_v17, val_main_v16, val_main_call0_v5, val_main_call0_v4, val_main_call0_v3, val_main_call0_v2, val_main_call0_v1,
    val_main_call0_v0, val_main_call0_cst, val_main_call0_cst_0]
  rw [v13_eq, v15_eq]
  rfl

/-- The reference runs and leaves its arguments. -/
theorem refFrame : Cert.quiescent_RUpIdeal (hRUpIdeal := Cert.RUpIdeal.Gen.facts) := fun m ρ _ =>
  (θ_run _ _ _).mono (fun r h => ⟨fun c => (h c).2.2.2.2, sem_eq_zero_of_no_sems (by decide) r.2⟩)
    (Cert.RUpIdeal.Value.run (F := Ideal) m ρ)

/-- Kernel and reference end with the same four results. -/
theorem algebraic : Cert.algebraic_KUpIdeal_RUpIdeal (hKUpIdeal := Cert.KUpIdeal.Gen.facts) (hRUpIdeal := Cert.RUpIdeal.Gen.facts) := by
  intro m g m' g' _ hag
  refine ⟨fun c i => hn (X m c) (G m c) (i 0) (i 1), fun c i => up (X m c) (G m c) (Wa m c) (i 0) (i 1),
    fun c i => up (X m c) (G m c) (Wb m c) (i 0) (i 1), fun c i => gated (X m c) (G m c) (Wa m c) (Wb m c) (i 0) (i 1), ?_, ?_⟩
  · refine (θ_run _ _ _).mono (fun r h c => ?_) (Cert.KUpIdeal.Value.run_blocks (F := Ideal) m g)
    obtain ⟨h0, h1, h2, h3, ha⟩ := h c
    exact ⟨h0.trans (UpValue.final2 m c), h1.trans (UpValue.final3 m c), h2.trans (UpValue.final4 m c), h3.trans (UpValue.final5 m c), ha⟩
  · refine (θ_run _ _ _).mono (fun r h c => ?_) (Cert.RUpIdeal.Value.run (F := Ideal) m' g')
    obtain ⟨h0, h1, h2, h3, ha⟩ := h c
    obtain ⟨e0, e1, e2, e3⟩ := hag c
    refine ⟨h0.trans ?_, h1.trans ?_, h2.trans ?_, h3.trans ?_, ha⟩
    · rw [val_main_v18_eq, e0, e1]
      exact ext2 fun r l => v11_eq _ _ r l
    · rw [val_main_v19_eq, e0, e1, e2]
      exact ext2 fun r j => v13_eq _ _ _ r j
    · rw [val_main_v20_eq, e0, e1, e3]
      exact ext2 fun r j => v15_eq _ _ _ r j
    · rw [val_main_v21_eq, e0, e1, e2, e3]
      exact ext2 fun r j => v17_eq _ _ _ _ r j

end Cert.UpClaim

end
-- ==== Proof.DownVal.lean ====
module

public import proofs.«01_k».proof.Proof.Gen.KDownIdeal.Value
public import proofs.«01_k».proof.Proof.Norm
public import Idealize.ShloMosaic.Lib.Pipeline.ValueKit
public import Idealize.ShloMosaic.Lib.Pipeline.ReadBack
public import Idealize.ShloMosaic.Lib.VecWindow

/-! What the second forward call of the feed-forward block leaves in its two results, place by place. -/

@[expose] public section

set_option maxRecDepth 16384

noncomputable section

namespace Cert.DownValue

open Cert.KDownIdeal Cert.KDownIdeal.Gen Idealize.ShloMosaic Idealize.ShloMosaic.TcCoe Idealize.SL.Sem
open Idealize.ShloMosaic.Pipeline (Dat)
open Cert.Reals (invRms)

variable (m : (ℓ : Loc nD τ sig) → Buf (Elt Ideal) ℓ)

/-- The arguments, as arrays of the launch. -/
abbrev S (c : Dev nD) : S16384x2816.Idx → EReal := m ((c : Thread nD τ).loc main_arg0)
abbrev X (c : Dev nD) : S16384x1024.Idx → EReal := m ((c : Thread nD τ).loc main_arg1)
abbrev G (c : Dev nD) : S1x1024.Idx → EReal := m ((c : Thread nD τ).loc main_arg2)
abbrev Wd (c : Dev nD) : S2816x1024.Idx → EReal := m ((c : Thread nD τ).loc main_arg3)

/-- The product, and half its normalised row beside the residual. -/
def down (S : S16384x2816.Idx → EReal) (W : S2816x1024.Idx → EReal) (r : Fin 16384) (l : Fin 1024) : EReal :=
  ∑ j : Fin 2816, S (ix2 r j) * W (ix2 j l)
def res (S : S16384x2816.Idx → EReal) (X : S16384x1024.Idx → EReal) (G : S1x1024.Idx → EReal) (W : S2816x1024.Idx → EReal)
    (r : Fin 16384) (l : Fin 1024) : EReal :=
  X (ix2 r l) + Ideal.ofBits .f32 1056964608#32 * (down S W r l * invRms (down S W r) * G (ix2 0 l))

/-! ### The blocks a point reads and writes -/

/-- Every window but the norm's weight moves down with the points. -/
theorem idx : ∀ t : Fin cfg0.N, win0_0.index t = ![t.val, 0] ∧ win0_1.index t = ![t.val, 0] ∧ win0_2.index t = ![0, 0] ∧
    win0_3.index t = ![t.val, 0] ∧ win0_4.index t = ![t.val, 0] :=
  (by decide +kernel : ∀ t : Fin grid0.N, win0_0.index t = ![t.val, 0] ∧ win0_1.index t = ![t.val, 0] ∧ win0_2.index t = ![0, 0] ∧
    win0_3.index t = ![t.val, 0] ∧ win0_4.index t = ![t.val, 0])

/-- Row `r` of point `t`'s block. -/
abbrev row (t : Fin cfg0.N) (r : Fin 512) : Fin 16384 := ⟨t.val * 512 + r.val, by have h : t.val < 32 := t.isLt; omega⟩

theorem blk0 (c : Dev nD) (t : Fin cfg0.N) (r : Fin 512) (l : Fin 2816) : iblk m c 0 t (ix2 r l) = S m c (ix2 (row t r) l) := by
  blk_simp [iblk]
  refine congrArg (S m c) ?_
  blk_ext [(idx t).1]

theorem blk1 (c : Dev nD) (t : Fin cfg0.N) (r : Fin 512) (l : Fin 1024) : iblk m c 1 t (ix2 r l) = X m c (ix2 (row t r) l) := by
  blk_simp [iblk]
  refine congrArg (X m c) ?_
  blk_ext [(idx t).2.1]

theorem blk2 (c : Dev nD) (t : Fin cfg0.N) (r : Fin 1) (l : Fin 1024) : iblk m c 2 t (ix2 r l) = G m c (ix2 0 l) := by
  blk_simp [iblk]
  refine congrArg (G m c) ?_
  blk_ext [(idx t).2.2.1]

/-! ### What a point leaves -/

/-- The weights' scratch holds the weights after every point: the first copies them, the others leave them. -/
theorem scr (c : Dev nD) (n : ℕ) : ∀ hn : n < cfg0.N, (outsAt0 m c n hn).2.2 = V m c main_arg3 := by
  induction n using Nat.strong_induction_on with
  | _ n ih =>
    intro hn
    by_cases h0 : n % 32 = 0
    · rw [outsAt0_A m c ⟨n, hn⟩ h0]
      frame_out
      exact View.canon_unit_zero rfl _ _
    · rw [outsAt0_B m c ⟨n, hn⟩ h0]
      simp only [sout0_B_0]
      exact ih (n - 1) (by omega) _

theorem outs (c : Dev nD) (t : Fin cfg0.N) : let O := outsAt0 m c t.val t.isLt
    O.1 = k0_pay1 (iblk m c 0 t) (V m c main_arg3) ∧ O.2.1 = k0_pay2 (iblk m c 0 t) (V m c main_arg3) (iblk m c 1 t) (iblk m c 2 t) := by
  dsimp only
  by_cases h0 : t.val % 32 = 0
  · rw [outsAt0_A m c t h0]
    frame_open
    simp (disch := decide) only [↓ View.readCov_skip, ↓ View.readCov_cons_toLoadRect, ↓ View.readCov_fill]
    frame_out
    exact ⟨congrArg (k0_pay1 _) (View.readCov_full _ _ _ _ _), congrArg (fun w => k0_pay2 _ w _ _) (View.readCov_full _ _ _ _ _)⟩
  · rw [outsAt0_B m c t h0]
    frame_out
    simp only [read_unread_whole, scr m c, and_self]

theorem pay1 (c : Dev nD) (t : Fin cfg0.N) (r : Fin 512) (l : Fin 1024) :
    k0_pay1 (F := Ideal) (iblk m c 0 t) (V m c main_arg3) (ix2 r l) = down (S m c) (Wd m c) (row t r) l := by
  pointwise [k0_pay1]
  simp only [blk0]
  rfl

/-! ### The two arrays after the run -/

theorem final3 (c : Dev nD) : (dats m 0 c).arrAt 3 cfg0.N = fun i : S16384x1024.Idx => down (S m c) (Wd m c) (i 0) (i 1) := by
  refine (dats m 0 c).arrAt_eq_of_covers 3 _ (by decide +kernel) fun t hf y => ?_
  blk_simp
  obtain ⟨r, l, rfl⟩ := at2 y
  have e : ((View.whole main_v0_0).slice (win0_3.rect t)).emb (ix2 r l) = ix2 (row t r) l := by
    blk_ext [(idx t).2.2.2.1]
  rw [after0_3, (outs m c t).1, e]
  exact pay1 m c t r l

theorem final4 (c : Dev nD) : (dats m 0 c).arrAt 4 cfg0.N = fun i : S16384x1024.Idx => res (S m c) (X m c) (G m c) (Wd m c) (i 0) (i 1) := by
  refine (dats m 0 c).arrAt_eq_of_covers 4 _ (by decide +kernel) fun t hf y => ?_
  blk_simp
  obtain ⟨r, l, rfl⟩ := at2 y
  have e : ((View.whole main_v0_1).slice (win0_4.rect t)).emb (ix2 r l) = ix2 (row t r) l := by
    blk_ext [(idx t).2.2.2.2]
  rw [after0_4, (outs m c t).2, e]
  pointwise [k0_pay2]
  simp only [pay1, blk1, blk2]
  rfl

end Cert.DownValue

end
-- ==== Proof.DownClaim.lean ====
module

public import proofs.«01_k».proof.Proof.DownVal
public import proofs.«01_k».proof.Proof.Gen.RDownIdeal.Read
public import proofs.«01_k».proof.Proof.Gen.RDownIdeal.Run
public import proofs.«01_k».proof.Defs
public import Idealize.ShloMosaic.Lib.Quiescent

/-! The second forward call of the feed-forward block and its own lines: what the lines compute, and the two runs beside
each other. -/

@[expose] public section

set_option maxRecDepth 16384

noncomputable section

namespace Cert.DownClaim

open Cert.RDownIdeal Cert.RDownIdeal.Read Idealize.ShloMosaic Idealize.ShloMosaic.TcCoe Idealize.SL.Sem
open DownValue (down res)

variable (x0 : (⟨S16384x2816, .bf16⟩ : BufTy).Contents (Elt Ideal)) (x1 : (⟨S16384x1024, .f32⟩ : BufTy).Contents (Elt Ideal))
  (x2 : (⟨S1x1024, .f32⟩ : BufTy).Contents (Elt Ideal)) (x3 : (⟨S2816x1024, .bf16⟩ : BufTy).Contents (Elt Ideal))

theorem v2_eq (r : Fin 16384) (l : Fin 1024) : val_main_v2 (F := Ideal) x0 x3 (ix2 r l) = down x0 x3 r l := by
  pointwise [val_main_v2, val_main_v1, val_main_v0]
  rfl

theorem v17_eq (r : Fin 16384) (l : Fin 1024) : val_main_v17 (F := Ideal) x0 x1 x2 x3 (ix2 r l) = res x0 x1 x2 x3 r l := by
  pointwise [val_main_v17, val_main_v16, val_main_v15, val_main_v14, val_main_v13, val_main_v12, val_main_v11, val_main_v10, val_main_v9,
    val_main_v8, val_main_v7, val_main_v6, val_main_v5, val_main_v4, val_main_v3, val_main_cst, val_main_cst_0, val_main_cst_1, val_main_cst_2]
  simp only [v2_eq]
  rfl

/-- The reference runs and leaves its arguments. -/
theorem refFrame : Cert.quiescent_RDownIdeal (hRDownIdeal := Cert.RDownIdeal.Gen.facts) := fun m ρ _ =>
  (θ_run _ _ _).mono (fun r h => ⟨fun c => (h c).2.2, sem_eq_zero_of_no_sems (by decide) r.2⟩)
    (Cert.RDownIdeal.Value.run (F := Ideal) m ρ)

/-- Kernel and reference end with the same two results. -/
theorem algebraic : Cert.algebraic_KDownIdeal_RDownIdeal (hKDownIdeal := Cert.KDownIdeal.Gen.facts) (hRDownIdeal := Cert.RDownIdeal.Gen.facts) := by
  intro m g m' g' _ hag
  refine ⟨fun c i => down (DownValue.S m c) (DownValue.Wd m c) (i 0) (i 1),
    fun c i => res (DownValue.S m c) (DownValue.X m c) (DownValue.G m c) (DownValue.Wd m c) (i 0) (i 1), ?_, ?_⟩
  · refine (θ_run _ _ _).mono (fun r h c => ?_) (Cert.KDownIdeal.Value.run_blocks (F := Ideal) m g)
    obtain ⟨h0, h1, ha⟩ := h c
    exact ⟨h0.trans (DownValue.final3 m c), h1.trans (DownValue.final4 m c), ha⟩
  · refine (θ_run _ _ _).mono (fun r h c => ?_) (Cert.RDownIdeal.Value.run (F := Ideal) m' g')
    obtain ⟨h0, h1, ha⟩ := h c
    obtain ⟨e0, e1, e2, e3⟩ := hag c
    refine ⟨h0.trans ?_, h1.trans ?_, ha⟩
    · rw [val_main_v2_eq, e0, e3]
      exact ext2 fun r l => v2_eq _ _ r l
    · rw [val_main_v17_eq, e0, e1, e2, e3]
      exact ext2 fun r l => v17_eq _ _ _ _ r l

end Cert.DownClaim

end
-- ==== Proof.InVal.lean ====
module

public import proofs.«01_k».proof.Proof.Gen.KInIdeal.Value
public import proofs.«01_k».proof.Proof.Norm
public import Idealize.ShloMosaic.Lib.StableHlo.Run
public import Idealize.ShloMosaic.Lib.Pipeline.ValueKit
public import Idealize.ShloMosaic.Lib.Pipeline.ReadBack
public import Idealize.ShloMosaic.Lib.VecWindow

/-! What the call of the mixers' input projection leaves in its five results, place by place. -/

@[expose] public section

set_option maxRecDepth 16384

noncomputable section

namespace Cert.InValue

open Cert.KInIdeal Cert.KInIdeal.Gen Idealize.ShloMosaic Idealize.ShloMosaic.TcCoe Idealize.SL.Sem
open Idealize.ShloMosaic.Pipeline (Dat)
open Cert.Reals (invRms)

variable (m : (ℓ : Loc nD τ sig) → Buf (Elt Ideal) ℓ)

/-- The arguments, as arrays of the launch. -/
abbrev X (c : Dev nD) : S16384x1024.Idx → EReal := m ((c : Thread nD τ).loc main_arg0)
abbrev G (c : Dev nD) : S1x1024.Idx → EReal := m ((c : Thread nD τ).loc main_arg1)
abbrev W (c : Dev nD) : S1024x7680.Idx → EReal := m ((c : Thread nD τ).loc main_arg2)

/-- The normalised row, and its product with the columns of the weight from `o` on. -/
def hn (X : S16384x1024.Idx → EReal) (G : S1x1024.Idx → EReal) (r : Fin 16384) (l : Fin 1024) : EReal :=
  X (ix2 r l) * invRms (fun k => X (ix2 r k)) * G (ix2 0 l)
def part (X : S16384x1024.Idx → EReal) (G : S1x1024.Idx → EReal) (W : S1024x7680.Idx → EReal) (o : ℕ) {w : ℕ} (h : o + w ≤ 7680)
    (r : Fin 16384) (j : Fin w) : EReal :=
  ∑ l : Fin 1024, hn X G r l * W (ix2 l ⟨o + j.val, by omega⟩)

/-! ### The blocks a point reads and writes -/

/-- Every window but the norm's weight moves down with the points. -/
theorem idx : ∀ t : Fin cfg0.N, win0_0.index t = ![t.val, 0] ∧ win0_1.index t = ![0, 0] ∧ win0_2.index t = ![t.val, 0] ∧
    win0_3.index t = ![t.val, 0] ∧ win0_4.index t = ![t.val, 0] ∧ win0_5.index t = ![t.val, 0] ∧
    win0_6.index t = ![t.val, 0] := by
  show ∀ t : Fin grid0.N, _
  decide +kernel

/-- Row `r` of point `t`'s block. -/
abbrev row (t : Fin cfg0.N) (r : Fin 512) : Fin 16384 := ⟨t.val * 512 + r.val, by have h : t.val < 32 := t.isLt; omega⟩

theorem blk0 (c : Dev nD) (t : Fin cfg0.N) (r : Fin 512) (l : Fin 1024) : iblk m c 0 t (ix2 r l) = X m c (ix2 (row t r) l) := by
  blk_simp [iblk]
  rw [V_main_arg0]
  refine congrArg (X m c) ?_
  blk_ext [(idx t).1]

theorem blk1 (c : Dev nD) (t : Fin cfg0.N) (r : Fin 1) (l : Fin 1024) : iblk m c 1 t (ix2 r l) = G m c (ix2 0 l) := by
  blk_simp [iblk]
  rw [V_main_arg1]
  refine congrArg (G m c) ?_
  blk_ext [(idx t).2.1]

/-! ### The four column blocks of the weight -/

theorem V_v0 (c : Dev nD) (l : Fin 1024) (j : Fin 1024) : V m c main_v0 (ix2 l j) = W m c (ix2 l ⟨0 + j.val, by omega⟩) := by
  simp only [V, hostOps0]
  after_results_simp
  pointwise []

theorem V_v1 (c : Dev nD) (l : Fin 1024) (j : Fin 1024) : V m c main_v1 (ix2 l j) = W m c (ix2 l ⟨1024 + j.val, by omega⟩) := by
  simp only [V, hostOps0]
  after_results_simp
  pointwise []

theorem V_v2 (c : Dev nD) (l : Fin 1024) (j : Fin 2560) : V m c main_v2 (ix2 l j) = W m c (ix2 l ⟨2048 + j.val, by omega⟩) := by
  simp only [V, hostOps0]
  after_results_simp
  pointwise []

theorem V_v3 (c : Dev nD) (l : Fin 1024) (j : Fin 3072) : V m c main_v3 (ix2 l j) = W m c (ix2 l ⟨4608 + j.val, by omega⟩) := by
  simp only [V, hostOps0]
  after_results_simp
  pointwise []

/-! ### What a point leaves -/

/-- The weights' scratches hold the weights after every point: the first copies them, the others leave them. -/
theorem scr (c : Dev nD) (n : ℕ) : ∀ hn : n < cfg0.N, let O := outsAt0 m c n hn
    O.2.2.2.2.2.1 = V m c main_v0 ∧ O.2.2.2.2.2.2.1 = V m c main_v1 ∧ O.2.2.2.2.2.2.2.1 = V m c main_v2 ∧ O.2.2.2.2.2.2.2.2 = V m c main_v3 := by
  induction n using Nat.strong_induction_on with
  | _ n ih =>
    intro hn
    dsimp only
    by_cases h0 : n % 32 = 0
    · rw [outsAt0_A m c ⟨n, hn⟩ h0]
      frame_out
      exact ⟨View.canon_unit_zero rfl _ _, View.canon_unit_zero rfl _ _, View.canon_unit_zero rfl _ _, View.canon_unit_zero rfl _ _⟩
    · rw [outsAt0_B m c ⟨n, hn⟩ h0]
      simp only [sout0_B_0, sout0_B_1, sout0_B_2, sout0_B_3]
      exact ih (n - 1) (by omega) _

theorem scr0 (c : Dev nD) (n : ℕ) (hn : n < cfg0.N) : (outsAt0 m c n hn).2.2.2.2.2.1 = V m c main_v0 := (scr m c n hn).1
theorem scr1 (c : Dev nD) (n : ℕ) (hn : n < cfg0.N) : (outsAt0 m c n hn).2.2.2.2.2.2.1 = V m c main_v1 := (scr m c n hn).2.1
theorem scr2 (c : Dev nD) (n : ℕ) (hn : n < cfg0.N) : (outsAt0 m c n hn).2.2.2.2.2.2.2.1 = V m c main_v2 := (scr m c n hn).2.2.1
theorem scr3 (c : Dev nD) (n : ℕ) (hn : n < cfg0.N) : (outsAt0 m c n hn).2.2.2.2.2.2.2.2 = V m c main_v3 := (scr m c n hn).2.2.2

theorem outs (c : Dev nD) (t : Fin cfg0.N) : let O := outsAt0 m c t.val t.isLt
    O.1 = k0_pay2 (iblk m c 0 t) (iblk m c 1 t) ∧ O.2.1 = k0_pay3 (iblk m c 0 t) (iblk m c 1 t) (V m c main_v0) ∧
    O.2.2.1 = k0_pay4 (iblk m c 0 t) (iblk m c 1 t) (V m c main_v1) ∧ O.2.2.2.1 = k0_pay5 (iblk m c 0 t) (iblk m c 1 t) (V m c main_v2) ∧
    O.2.2.2.2.1 = k0_pay1 (k0_pay2 (iblk m c 0 t) (iblk m c 1 t)) (V m c main_v3) := by
  dsimp only
  by_cases h0 : t.val % 32 = 0
  · rw [outsAt0_A m c t h0]
    frame_open
    simp (disch := decide) only [↓ View.readCov_skip, ↓ View.readCov_cons_toLoadRect, ↓ View.readCov_fill]
    frame_out
    exact ⟨trivial, congrArg (k0_pay3 _ _) (View.readCov_full _ _ _ _ _), congrArg (k0_pay4 _ _) (View.readCov_full _ _ _ _ _),
      congrArg (k0_pay5 _ _) (View.readCov_full _ _ _ _ _), congrArg (k0_pay1 _) (View.readCov_full _ _ _ _ _)⟩
  · rw [outsAt0_B m c t h0]
    frame_out
    simp only [read_unread_whole, scr0 m c, scr1 m c, scr2 m c, scr3 m c, and_self]

/-! ### The five arrays after the run -/

theorem pay2 (c : Dev nD) (t : Fin cfg0.N) (r : Fin 512) (l : Fin 1024) :
    k0_pay2 (F := Ideal) (iblk m c 0 t) (iblk m c 1 t) (ix2 r l) = hn (X m c) (G m c) (row t r) l := by
  pointwise [k0_pay2]
  simp only [blk0, blk1]
  rfl

theorem final2 (c : Dev nD) : (dats m 0 c).arrAt 2 cfg0.N = fun i : S16384x1024.Idx => hn (X m c) (G m c) (i 0) (i 1) := by
  refine (dats m 0 c).arrAt_eq_of_covers 2 _ (by decide +kernel) fun t hf y => ?_
  blk_simp
  obtain ⟨r, l, rfl⟩ := at2 y
  have e : ((View.whole main_v4_0).slice (win0_2.rect t)).emb (ix2 r l) = ix2 (row t r) l := by
    blk_ext [(idx t).2.2.1]
  rw [after0_2, (outs m c t).1, e]
  exact pay2 m c t r l

theorem final3 (c : Dev nD) : (dats m 0 c).arrAt 3 cfg0.N = fun i : S16384x1024.Idx => part (X m c) (G m c) (W m c) 0 (w := 1024) (by decide) (i 0) (i 1) := by
  refine (dats m 0 c).arrAt_eq_of_covers 3 _ (by decide +kernel) fun t hf y => ?_
  blk_simp
  obtain ⟨r, l, rfl⟩ := at2 y
  have e : ((View.whole main_v4_1).slice (win0_3.rect t)).emb (ix2 r l) = ix2 (row t r) l := by
    blk_ext [(idx t).2.2.2.1]
  rw [after0_3, (outs m c t).2.1, e]
  pointwise [k0_pay3]
  simp only [pay2]
  change @Eq EReal _ _
  exact Finset.sum_congr rfl fun x _ => congrArg (hn _ _ _ x * ·) (V_v0 m c x l)

theorem final4 (c : Dev nD) : (dats m 0 c).arrAt 4 cfg0.N = fun i : S16384x1024.Idx => part (X m c) (G m c) (W m c) 1024 (w := 1024) (by decide) (i 0) (i 1) := by
  refine (dats m 0 c).arrAt_eq_of_covers 4 _ (by decide +kernel) fun t hf y => ?_
  blk_simp
  obtain ⟨r, l, rfl⟩ := at2 y
  have e : ((View.whole main_v4_2).slice (win0_4.rect t)).emb (ix2 r l) = ix2 (row t r) l := by
    blk_ext [(idx t).2.2.2.2.1]
  rw [after0_4, (outs m c t).2.2.1, e]
  pointwise [k0_pay4]
  simp only [pay2]
  change @Eq EReal _ _
  exact Finset.sum_congr rfl fun x _ => congrArg (hn _ _ _ x * ·) (V_v1 m c x l)

theorem final5 (c : Dev nD) : (dats m 0 c).arrAt 5 cfg0.N = fun i : S16384x2560.Idx => part (X m c) (G m c) (W m c) 2048 (w := 2560) (by decide) (i 0) (i 1) := by
  refine (dats m 0 c).arrAt_eq_of_covers 5 _ (by decide +kernel) fun t hf y => ?_
  blk_simp
  obtain ⟨r, l, rfl⟩ := at2 y
  have e : ((View.whole main_v4_3).slice (win0_5.rect t)).emb (ix2 r l) = ix2 (row t r) l := by
    blk_ext [(idx t).2.2.2.2.2.1]
  rw [after0_5, (outs m c t).2.2.2.1, e]
  pointwise [k0_pay5]
  simp only [pay2]
  change @Eq EReal _ _
  exact Finset.sum_congr rfl fun x _ => congrArg (hn _ _ _ x * ·) (V_v2 m c x l)

theorem final6 (c : Dev nD) : (dats m 0 c).arrAt 6 cfg0.N = fun i : S16384x3072.Idx => part (X m c) (G m c) (W m c) 4608 (w := 3072) (by decide) (i 0) (i 1) := by
  refine (dats m 0 c).arrAt_eq_of_covers 6 _ (by decide +kernel) fun t hf y => ?_
  blk_simp
  obtain ⟨r, l, rfl⟩ := at2 y
  have e : ((View.whole main_v4_4).slice (win0_6.rect t)).emb (ix2 r l) = ix2 (row t r) l := by
    blk_ext [(idx t).2.2.2.2.2.2]
  rw [after0_6, (outs m c t).2.2.2.2, e]
  pointwise [k0_pay1]
  simp only [pay2]
  change @Eq EReal _ _
  exact Finset.sum_congr rfl fun x _ => congrArg (hn _ _ _ x * ·) (V_v3 m c x l)

end Cert.InValue

end
-- ==== Proof.InClaim.lean ====
module

public import proofs.«01_k».proof.Proof.InVal
public import proofs.«01_k».proof.Proof.Gen.RInIdeal.Read
public import proofs.«01_k».proof.Proof.Gen.RInIdeal.Run
public import proofs.«01_k».proof.Defs
public import Idealize.ShloMosaic.Lib.Quiescent

/-! The call of the mixers' input projection and its own lines: what the lines compute, and the
two runs beside each other. -/

@[expose] public section

set_option maxRecDepth 16384

noncomputable section

namespace Cert.InClaim

open Cert.RInIdeal Cert.RInIdeal.Read Idealize.ShloMosaic Idealize.ShloMosaic.TcCoe Idealize.SL.Sem
open InValue (X G W hn part final2 final3 final4 final5 final6)

variable (x0 : (⟨S16384x1024, .f32⟩ : BufTy).Contents (Elt Ideal)) (x1 : (⟨S1x1024, .f32⟩ : BufTy).Contents (Elt Ideal))
  (x2 : (⟨S1024x7680, .bf16⟩ : BufTy).Contents (Elt Ideal))

theorem v11_eq (r : Fin 16384) (l : Fin 1024) : val_main_v11 (F := Ideal) x0 x1 (ix2 r l) = hn x0 x1 r l := by
  pointwise [val_main_v11, val_main_v10, val_main_v9, val_main_v8, val_main_v7, val_main_v6, val_main_v5, val_main_v4, val_main_v3,
    val_main_v2, val_main_v1, val_main_v0, val_main_cst, val_main_cst_0, val_main_cst_1]
  rfl

/-- One column of the whole product. -/
theorem v15_eq (r : Fin 16384) (j : Fin 7680) :
    val_main_v15 (F := Ideal) x0 x1 x2 (ix2 r j) = ∑ l : Fin 1024, hn x0 x1 r l * x2 (ix2 l j) := by
  pointwise [val_main_v15, val_main_v14, val_main_v13]
  simp only [v11_eq]

theorem v16_eq (r : Fin 16384) (j : Fin 1024) : val_main_v16 (F := Ideal) x0 x1 x2 (ix2 r j) = part x0 x1 x2 0 (by decide) r j := by
  pointwise [val_main_v16]
  simp only [v15_eq]
  exact Finset.sum_congr rfl fun x _ => congrArg (fun k => hn x0 x1 r x * x2 (ix2 x k)) (Fin.ext (Nat.zero_add _).symm)

theorem v17_eq (r : Fin 16384) (j : Fin 1024) : val_main_v17 (F := Ideal) x0 x1 x2 (ix2 r j) = part x0 x1 x2 1024 (by decide) r j := by
  pointwise [val_main_v17]
  simp only [v15_eq]
  rfl

theorem v18_eq (r : Fin 16384) (j : Fin 2560) : val_main_v18 (F := Ideal) x0 x1 x2 (ix2 r j) = part x0 x1 x2 2048 (by decide) r j := by
  pointwise [val_main_v18]
  simp only [v15_eq]
  rfl

theorem v19_eq (r : Fin 16384) (j : Fin 3072) : val_main_v19 (F := Ideal) x0 x1 x2 (ix2 r j) = part x0 x1 x2 4608 (by decide) r j := by
  pointwise [val_main_v19]
  simp only [v15_eq]
  rfl

/-- The reference runs and leaves its arguments. -/
theorem refFrame : Cert.quiescent_RInIdeal (hRInIdeal := Cert.RInIdeal.Gen.facts) := fun m ρ _ =>
  (θ_run _ _ _).mono (fun r h => ⟨fun c => (h c).2.2.2.2.2, sem_eq_zero_of_no_sems (by decide) r.2⟩)
    (Cert.RInIdeal.Value.run (F := Ideal) m ρ)

/-- Kernel and reference end with the same five results. -/
theorem algebraic : Cert.algebraic_KInIdeal_RInIdeal (hKInIdeal := Cert.KInIdeal.Gen.facts) (hRInIdeal := Cert.RInIdeal.Gen.facts) := by
  intro m g m' g' _ hag
  refine ⟨fun c i => hn (X m c) (G m c) (i 0) (i 1),
    fun c i => part (X m c) (G m c) (W m c) 0 (w := 1024) (by decide) (i 0) (i 1),
    fun c i => part (X m c) (G m c) (W m c) 1024 (w := 1024) (by decide) (i 0) (i 1),
    fun c i => part (X m c) (G m c) (W m c) 2048 (w := 2560) (by decide) (i 0) (i 1),
    fun c i => part (X m c) (G m c) (W m c) 4608 (w := 3072) (by decide) (i 0) (i 1), ?_, ?_⟩
  · refine (θ_run _ _ _).mono (fun r h c => ?_) (Cert.KInIdeal.Value.run_blocks (F := Ideal) m g)
    obtain ⟨h0, h1, h2, h3, h4, ha⟩ := h c
    exact ⟨h0.trans (final2 m c), h1.trans (final3 m c), h2.trans (final4 m c), h3.trans (final5 m c), h4.trans (final6 m c), ha⟩
  · refine (θ_run _ _ _).mono (fun r h c => ?_) (Cert.RInIdeal.Value.run (F := Ideal) m' g')
    obtain ⟨h0, h1, h2, h3, h4, ha⟩ := h c
    obtain ⟨e0, e1, e2⟩ := hag c
    refine ⟨h0.trans ?_, h1.trans ?_, h2.trans ?_, h3.trans ?_, h4.trans ?_, ha⟩
    · rw [val_main_v12_eq, e0, e1]
      exact ext2 fun r l => v11_eq _ _ r l
    · rw [val_main_v16_eq, e0, e1, e2]
      exact ext2 fun r l => v16_eq _ _ _ r l
    · rw [val_main_v17_eq, e0, e1, e2]
      exact ext2 fun r l => v17_eq _ _ _ r l
    · rw [val_main_v18_eq, e0, e1, e2]
      exact ext2 fun r l => v18_eq _ _ _ r l
    · rw [val_main_v19_eq, e0, e1, e2]
      exact ext2 fun r l => v19_eq _ _ _ r l

end Cert.InClaim

end
-- ==== Proof.ProjVal.lean ====
module

public import proofs.«01_k».proof.Proof.Gen.KProjIdeal.Value
public import proofs.«01_k».proof.Proof.Norm
public import Idealize.ShloMosaic.Lib.Pipeline.ValueKit
public import Idealize.ShloMosaic.Lib.Pipeline.ReadBack
public import Idealize.ShloMosaic.Lib.VecWindow

/-! What the call of the three mixers' down projections leaves in its four results, place by place. -/

@[expose] public section

set_option maxRecDepth 16384

noncomputable section

namespace Cert.ProjValue

open Cert.KProjIdeal Cert.KProjIdeal.Gen Idealize.ShloMosaic Idealize.ShloMosaic.TcCoe Idealize.SL.Sem
open Idealize.ShloMosaic.Pipeline (Dat)
open Cert.Reals (sig)

variable (m : (ℓ : Loc nD τ sig) → Buf (Elt Ideal) ℓ)

/-- The arguments, as arrays of the launch. -/
abbrev Pa (c : Dev nD) : S16384x1024.Idx → EReal := m ((c : Thread nD τ).loc main_arg0)
abbrev Pb (c : Dev nD) : S16384x512.Idx → EReal := m ((c : Thread nD τ).loc main_arg1)
abbrev Pc (c : Dev nD) : S16384x512.Idx → EReal := m ((c : Thread nD τ).loc main_arg2)
abbrev Z (c : Dev nD) : S16384x3072.Idx → EReal := m ((c : Thread nD τ).loc main_arg3)
abbrev Wa (c : Dev nD) : S1024x1024.Idx → EReal := m ((c : Thread nD τ).loc main_arg4)
abbrev Wb (c : Dev nD) : S512x1024.Idx → EReal := m ((c : Thread nD τ).loc main_arg5)
abbrev Wc (c : Dev nD) : S512x1024.Idx → EReal := m ((c : Thread nD τ).loc main_arg6)

/-- The product of the wide mixer, that of a narrow one, and the merged row. -/
def ya (P : S16384x1024.Idx → EReal) (W : S1024x1024.Idx → EReal) (r : Fin 16384) (l : Fin 1024) : EReal :=
  ∑ j : Fin 1024, P (ix2 r j) * W (ix2 j l)
def yn (P : S16384x512.Idx → EReal) (W : S512x1024.Idx → EReal) (r : Fin 16384) (l : Fin 1024) : EReal :=
  ∑ j : Fin 512, P (ix2 r j) * W (ix2 j l)
def merged (Z : S16384x3072.Idx → EReal) (a b d : Fin 16384 → Fin 1024 → EReal) (r : Fin 16384) (l : Fin 1024) : EReal :=
  sig (Z (ix2 r ⟨l.val, by omega⟩)) * a r l + sig (Z (ix2 r ⟨1024 + l.val, by omega⟩)) * b r l +
    sig (Z (ix2 r ⟨2048 + l.val, by omega⟩)) * d r l

/-! ### The blocks a point reads and writes -/

/-- Every window moves down with the points. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧
    win0_6.index t = ![t.val, 0] ∧ win0_7.index t = ![t.val, 0] := by
  show ∀ t : Fin grid0.N, _
  decide +kernel

/-- Row `r` of point `t`'s block. -/
abbrev row (t : Fin cfg0.N) (r : Fin 512) : Fin 16384 := ⟨t.val * 512 + r.val, by have h : t.val < 32 := t.isLt; omega⟩

theorem blk0 (c : Dev nD) (t : Fin cfg0.N) (r : Fin 512) (l : Fin 1024) : iblk m c 0 t (ix2 r l) = Pa m c (ix2 (row t r) l) := by
  blk_simp [iblk]
  refine congrArg (Pa m c) ?_
  blk_ext [(idx t).1]

theorem blk1 (c : Dev nD) (t : Fin cfg0.N) (r : Fin 512) (l : Fin 512) : iblk m c 1 t (ix2 r l) = Pb m c (ix2 (row t r) l) := by
  blk_simp [iblk]
  refine congrArg (Pb m c) ?_
  blk_ext [(idx t).2.1]

theorem blk2 (c : Dev nD) (t : Fin cfg0.N) (r : Fin 512) (l : Fin 512) : iblk m c 2 t (ix2 r l) = Pc m c (ix2 (row t r) l) := by
  blk_simp [iblk]
  refine congrArg (Pc m c) ?_
  blk_ext [(idx t).2.2.1]

theorem blk3 (c : Dev nD) (t : Fin cfg0.N) (r : Fin 512) (l : Fin 3072) : iblk m c 3 t (ix2 r l) = Z m c (ix2 (row t r) l) := by
  blk_simp [iblk]
  refine congrArg (Z m c) ?_
  blk_ext [(idx t).2.2.2.1]

/-! ### What a point leaves -/

/-- The weights' scratches hold the weights after every point: the first copies them, the others leave them. -/
theorem scr (c : Dev nD) (n : ℕ) : ∀ hn : n < cfg0.N, let O := outsAt0 m c n hn
    O.2.2.2.2.1 = V m c main_arg4 ∧ O.2.2.2.2.2.1 = V m c main_arg5 ∧ O.2.2.2.2.2.2 = V m c main_arg6 := by
  induction n using Nat.strong_induction_on with
  | _ n ih =>
    intro hn
    dsimp only
    by_cases h0 : n % 32 = 0
    · rw [outsAt0_A m c ⟨n, hn⟩ h0]
      frame_out
      exact ⟨View.canon_unit_zero rfl _ _, View.canon_unit_zero rfl _ _, View.canon_unit_zero rfl _ _⟩
    · rw [outsAt0_B m c ⟨n, hn⟩ h0]
      simp only [sout0_B_0, sout0_B_1, sout0_B_2]
      exact ih (n - 1) (by omega) _

theorem scr0 (c : Dev nD) (n : ℕ) (hn : n < cfg0.N) : (outsAt0 m c n hn).2.2.2.2.1 = V m c main_arg4 := (scr m c n hn).1
theorem scr1 (c : Dev nD) (n : ℕ) (hn : n < cfg0.N) : (outsAt0 m c n hn).2.2.2.2.2.1 = V m c main_arg5 := (scr m c n hn).2.1
theorem scr2 (c : Dev nD) (n : ℕ) (hn : n < cfg0.N) : (outsAt0 m c n hn).2.2.2.2.2.2 = V m c main_arg6 := (scr m c n hn).2.2

theorem outs (c : Dev nD) (t : Fin cfg0.N) : let O := outsAt0 m c t.val t.isLt
    O.1 = k0_pay7 (iblk m c 0 t) (V m c main_arg4) ∧ O.2.1 = k0_pay8 (iblk m c 1 t) (V m c main_arg5) ∧
    O.2.2.1 = k0_pay1 (k0_pay5 (iblk m c 2 t) (V m c main_arg6)) ∧
    O.2.2.2.1 = k0_pay2 (k0_pay5 (iblk m c 2 t) (V m c main_arg6)) (k0_pay6 (iblk m c 3 t))
      (k0_pay9 (iblk m c 0 t) (V m c main_arg4) (iblk m c 1 t) (V m c main_arg5) (iblk m c 3 t)) := by
  dsimp only
  by_cases h0 : t.val % 32 = 0
  · rw [outsAt0_A m c t h0]
    frame_open
    simp (disch := decide) only [↓ View.readCov_skip, ↓ View.readCov_cons_toLoadRect, ↓ View.readCov_fill]
    frame_out
    have key : ∀ w w' w'', w = V m c main_arg6 → w' = V m c main_arg4 → w'' = V m c main_arg5 →
        k0_pay2 (k0_pay5 (iblk m c 2 t) w) (k0_pay6 (iblk m c 3 t)) (k0_pay9 (iblk m c 0 t) w' (iblk m c 1 t) w'' (iblk m c 3 t)) =
        k0_pay2 (k0_pay5 (iblk m c 2 t) (V m c main_arg6)) (k0_pay6 (iblk m c 3 t))
          (k0_pay9 (iblk m c 0 t) (V m c main_arg4) (iblk m c 1 t) (V m c main_arg5) (iblk m c 3 t)) := by
      rintro _ _ _ rfl rfl rfl
      rfl
    exact ⟨congrArg (k0_pay7 _) (View.readCov_full _ _ _ _ _), congrArg (k0_pay8 _) (View.readCov_full _ _ _ _ _),
      congrArg (fun w => k0_pay1 (k0_pay5 _ w)) (View.readCov_full _ _ _ _ _),
      key _ _ _ (View.readCov_full _ _ _ _ _) (View.readCov_full _ _ _ _ _) (View.readCov_full _ _ _ _ _)⟩
  · rw [outsAt0_B m c t h0]
    frame_out
    simp only [read_unread_whole, scr0 m c, scr1 m c, scr2 m c, and_self]

/-! ### The values, place by place -/

theorem pay3 (c : Dev nD) (t : Fin cfg0.N) (r : Fin 512) (l : Fin 1024) :
    k0_pay3 (F := Ideal) (iblk m c 0 t) (V m c main_arg4) (ix2 r l) = ya (Pa m c) (Wa m c) (row t r) l := by
  pointwise [k0_pay3]
  simp only [blk0]
  rfl

theorem pay4 (c : Dev nD) (t : Fin cfg0.N) (r : Fin 512) (l : Fin 1024) :
    k0_pay4 (F := Ideal) (iblk m c 1 t) (V m c main_arg5) (ix2 r l) = yn (Pb m c) (Wb m c) (row t r) l := by
  pointwise [k0_pay4]
  simp only [blk1]
  rfl

theorem pay5 (c : Dev nD) (t : Fin cfg0.N) (r : Fin 512) (l : Fin 1024) :
    k0_pay5 (F := Ideal) (iblk m c 2 t) (V m c main_arg6) (ix2 r l) = yn (Pc m c) (Wc m c) (row t r) l := by
  pointwise [k0_pay5]
  simp only [blk2]
  rfl

/-! ### The four arrays after the run -/

theorem final4 (c : Dev nD) : (dats m 0 c).arrAt 4 cfg0.N = fun i : S16384x1024.Idx => ya (Pa m c) (Wa m c) (i 0) (i 1) := by
  refine (dats m 0 c).arrAt_eq_of_covers 4 _ (by decide +kernel) fun t hf y => ?_
  blk_simp
  obtain ⟨r, l, rfl⟩ := at2 y
  have e : ((View.whole main_v0_0).slice (win0_4.rect t)).emb (ix2 r l) = ix2 (row t r) l := by
    blk_ext [(idx t).2.2.2.2.1]
  rw [after0_4, (outs m c t).1, e]
  exact pay3 m c t r l

theorem final5 (c : Dev nD) : (dats m 0 c).arrAt 5 cfg0.N = fun i : S16384x1024.Idx => yn (Pb m c) (Wb m c) (i 0) (i 1) := by
  refine (dats m 0 c).arrAt_eq_of_covers 5 _ (by decide +kernel) fun t hf y => ?_
  blk_simp
  obtain ⟨r, l, rfl⟩ := at2 y
  have e : ((View.whole main_v0_1).slice (win0_5.rect t)).emb (ix2 r l) = ix2 (row t r) l := by
    blk_ext [(idx t).2.2.2.2.2.1]
  rw [after0_5, (outs m c t).2.1, e]
  exact pay4 m c t r l

theorem final6 (c : Dev nD) : (dats m 0 c).arrAt 6 cfg0.N = fun i : S16384x1024.Idx => yn (Pc m c) (Wc m c) (i 0) (i 1) := by
  refine (dats m 0 c).arrAt_eq_of_covers 6 _ (by decide +kernel) fun t hf y => ?_
  blk_simp
  obtain ⟨r, l, rfl⟩ := at2 y
  have e : ((View.whole main_v0_2).slice (win0_6.rect t)).emb (ix2 r l) = ix2 (row t r) l := by
    blk_ext [(idx t).2.2.2.2.2.2.1]
  rw [after0_6, (outs m c t).2.2.1, e]
  exact pay5 m c t r l

/-- The merged row of the launch. -/
abbrev mg (c : Dev nD) : Fin 16384 → Fin 1024 → EReal :=
  merged (Z m c) (ya (Pa m c) (Wa m c)) (yn (Pb m c) (Wb m c)) (yn (Pc m c) (Wc m c))

theorem final7 (c : Dev nD) : (dats m 0 c).arrAt 7 cfg0.N = fun i : S16384x1024.Idx => mg m c (i 0) (i 1) := by
  refine (dats m 0 c).arrAt_eq_of_covers 7 _ (by decide +kernel) fun t hf y => ?_
  blk_simp
  obtain ⟨r, l, rfl⟩ := at2 y
  have e : ((View.whole main_v0_3).slice (win0_7.rect t)).emb (ix2 r l) = ix2 (row t r) l := by
    blk_ext [(idx t).2.2.2.2.2.2.2]
  rw [after0_7, (outs m c t).2.2.2, e]
  pointwise [k0_pay2, k0_pay6, k0_pay9]
  simp only [pay3, pay4, pay5, blk3]
  rfl

end Cert.ProjValue

end
-- ==== Proof.ProjClaim.lean ====
module

public import proofs.«01_k».proof.Proof.ProjVal
public import proofs.«01_k».proof.Proof.Gen.RProjIdeal.Read
public import proofs.«01_k».proof.Proof.Gen.RProjIdeal.Run
public import proofs.«01_k».proof.Defs
public import Idealize.ShloMosaic.Lib.Quiescent

/-! The call of the three mixers' down projections and its own lines: what the lines compute, and the
two runs beside each other. -/

@[expose] public section

set_option maxRecDepth 16384

noncomputable section

namespace Cert.ProjClaim

open Cert.RProjIdeal Cert.RProjIdeal.Read Idealize.ShloMosaic Idealize.ShloMosaic.TcCoe Idealize.SL.Sem
open ProjValue (Pa Pb Pc Z Wa Wb Wc ya yn merged mg final4 final5 final6 final7)

open Cert.Reals (sig)

variable (x0 : (⟨S16384x1024, .bf16⟩ : BufTy).Contents (Elt Ideal)) (x1 x2 : (⟨S16384x512, .bf16⟩ : BufTy).Contents (Elt Ideal))
  (x3 : (⟨S16384x3072, .bf16⟩ : BufTy).Contents (Elt Ideal)) (x4 : (⟨S1024x1024, .bf16⟩ : BufTy).Contents (Elt Ideal))
  (x5 x6 : (⟨S512x1024, .bf16⟩ : BufTy).Contents (Elt Ideal))

theorem v2_eq (r : Fin 16384) (l : Fin 1024) : val_main_v2 (F := Ideal) x0 x4 (ix2 r l) = ya x0 x4 r l := by
  pointwise [val_main_v2, val_main_v1, val_main_v0]
  rfl

theorem v5_eq (r : Fin 16384) (l : Fin 1024) : val_main_v5 (F := Ideal) x1 x5 (ix2 r l) = yn x1 x5 r l := by
  pointwise [val_main_v5, val_main_v4, val_main_v3]
  rfl

theorem v8_eq (r : Fin 16384) (l : Fin 1024) : val_main_v8 (F := Ideal) x2 x6 (ix2 r l) = yn x2 x6 r l := by
  pointwise [val_main_v8, val_main_v7, val_main_v6]
  rfl

/-- A gate of the lines is a gate of the kernel. -/
theorem v15_eq (r : Fin 16384) (l : Fin 3072) : val_main_v15 (F := Ideal) x3 (ix2 r l) = sig (x3 (ix2 r l)) := by
  rw [Cert.Reals.sig_eq_logistic]
  pointwise [val_main_v15, val_main_v14, val_main_v13, val_main_v12, val_main_v11, val_main_v10, val_main_v9, val_main_cst, val_main_cst_0]
  rfl

theorem v27_eq (r : Fin 16384) (l : Fin 1024) : val_main_v27 (F := Ideal) x0 x1 x2 x3 x4 x5 x6 (ix2 r l) =
    merged x3 (ya x0 x4) (yn x1 x5) (yn x2 x6) r l := by
  pointwise [val_main_v27, val_main_v26, val_main_v25, val_main_v24, val_main_v23, val_main_v22, val_main_v21, val_main_v20,
    val_main_v19, val_main_v18, val_main_v17, val_main_v16]
  simp only [v15_eq, v2_eq, v5_eq, v8_eq]
  rfl

/-- The reference runs and leaves its arguments. -/
theorem refFrame : Cert.quiescent_RProjIdeal (hRProjIdeal := Cert.RProjIdeal.Gen.facts) := fun m ρ _ =>
  (θ_run _ _ _).mono (fun r h => ⟨fun c => (h c).2.2.2.2, sem_eq_zero_of_no_sems (by decide) r.2⟩)
    (Cert.RProjIdeal.Value.run (F := Ideal) m ρ)

/-- Kernel and reference end with the same four results. -/
theorem algebraic : Cert.algebraic_KProjIdeal_RProjIdeal (hKProjIdeal := Cert.KProjIdeal.Gen.facts) (hRProjIdeal := Cert.RProjIdeal.Gen.facts) := by
  intro m g m' g' _ hag
  refine ⟨fun c i => ya (Pa m c) (Wa m c) (i 0) (i 1), fun c i => yn (Pb m c) (Wb m c) (i 0) (i 1),
    fun c i => yn (Pc m c) (Wc m c) (i 0) (i 1), fun c i => mg m c (i 0) (i 1), ?_, ?_⟩
  · refine (θ_run _ _ _).mono (fun r h c => ?_) (Cert.KProjIdeal.Value.run_blocks (F := Ideal) m g)
    obtain ⟨h0, h1, h2, h3, ha⟩ := h c
    exact ⟨h0.trans (final4 m c), h1.trans (final5 m c), h2.trans (final6 m c), h3.trans (final7 m c), ha⟩
  · refine (θ_run _ _ _).mono (fun r h c => ?_) (Cert.RProjIdeal.Value.run (F := Ideal) m' g')
    obtain ⟨h0, h1, h2, h3, ha⟩ := h c
    obtain ⟨e0, e1, e2, e3, e4, e5, e6⟩ := hag c
    refine ⟨h0.trans ?_, h1.trans ?_, h2.trans ?_, h3.trans ?_, ha⟩
    · rw [val_main_v28_eq, e0, e4]
      exact ext2 fun r l => v2_eq _ _ r l
    · rw [val_main_v29_eq, e1, e5]
      exact ext2 fun r l => v5_eq _ _ r l
    · rw [val_main_v30_eq, e2, e6]
      exact ext2 fun r l => v8_eq _ _ r l
    · rw [val_main_v31_eq, e0, e1, e2, e3, e4, e5, e6]
      exact ext2 fun r l => v27_eq _ _ _ _ _ _ _ r l

end Cert.ProjClaim

end
-- ==== Proof.OutVal.lean ====
module

public import proofs.«01_k».proof.Proof.Gen.KOutIdeal.Value
public import proofs.«01_k».proof.Proof.Norm
public import Idealize.ShloMosaic.Lib.Pipeline.ValueKit
public import Idealize.ShloMosaic.Lib.Pipeline.ReadBack
public import Idealize.ShloMosaic.Lib.VecWindow

/-! What the call of the mixers' output projection leaves in its two results, place by place. -/

@[expose] public section

set_option maxRecDepth 16384

noncomputable section

namespace Cert.OutValue

open Cert.KOutIdeal Cert.KOutIdeal.Gen Idealize.ShloMosaic Idealize.ShloMosaic.TcCoe Idealize.SL.Sem
open Idealize.ShloMosaic.Pipeline (Dat)
open Cert.Reals (invRms)

variable (m : (ℓ : Loc nD τ sig) → Buf (Elt Ideal) ℓ)

/-- The arguments, as arrays of the launch. -/
abbrev S (c : Dev nD) : S16384x1024.Idx → EReal := m ((c : Thread nD τ).loc main_arg0)
abbrev X (c : Dev nD) : S16384x1024.Idx → EReal := m ((c : Thread nD τ).loc main_arg1)
abbrev G (c : Dev nD) : S1x1024.Idx → EReal := m ((c : Thread nD τ).loc main_arg2)
abbrev Wd (c : Dev nD) : S1024x1024.Idx → EReal := m ((c : Thread nD τ).loc main_arg3)

/-- The product, and its normalised row beside the residual. -/
def down (S : S16384x1024.Idx → EReal) (W : S1024x1024.Idx → EReal) (r : Fin 16384) (l : Fin 1024) : EReal :=
  ∑ j : Fin 1024, S (ix2 r j) * W (ix2 j l)
def res (S : S16384x1024.Idx → EReal) (X : S16384x1024.Idx → EReal) (G : S1x1024.Idx → EReal) (W : S1024x1024.Idx → EReal)
    (r : Fin 16384) (l : Fin 1024) : EReal :=
  X (ix2 r l) + down S W r l * invRms (down S W r) * G (ix2 0 l)

/-! ### The blocks a point reads and writes -/

/-- Every window but the norm's weight moves down with the points. -/
theorem idx : ∀ t : Fin cfg0.N, win0_0.index t = ![t.val, 0] ∧ win0_1.index t = ![t.val, 0] ∧ win0_2.index t = ![0, 0] ∧
    win0_3.index t = ![t.val, 0] ∧ win0_4.index t = ![t.val, 0] :=
  (by decide +kernel : ∀ t : Fin grid0.N, win0_0.index t = ![t.val, 0] ∧ win0_1.index t = ![t.val, 0] ∧ win0_2.index t = ![0, 0] ∧
    win0_3.index t = ![t.val, 0] ∧ win0_4.index t = ![t.val, 0])

/-- Row `r` of point `t`'s block. -/
abbrev row (t : Fin cfg0.N) (r : Fin 512) : Fin 16384 := ⟨t.val * 512 + r.val, by have h : t.val < 32 := t.isLt; omega⟩

theorem blk0 (c : Dev nD) (t : Fin cfg0.N) (r : Fin 512) (l : Fin 1024) : iblk m c 0 t (ix2 r l) = S m c (ix2 (row t r) l) := by
  blk_simp [iblk]
  refine congrArg (S m c) ?_
  blk_ext [(idx t).1]

theorem blk1 (c : Dev nD) (t : Fin cfg0.N) (r : Fin 512) (l : Fin 1024) : iblk m c 1 t (ix2 r l) = X m c (ix2 (row t r) l) := by
  blk_simp [iblk]
  refine congrArg (X m c) ?_
  blk_ext [(idx t).2.1]

theorem blk2 (c : Dev nD) (t : Fin cfg0.N) (r : Fin 1) (l : Fin 1024) : iblk m c 2 t (ix2 r l) = G m c (ix2 0 l) := by
  blk_simp [iblk]
  refine congrArg (G m c) ?_
  blk_ext [(idx t).2.2.1]

/-! ### What a point leaves -/

/-- The weights' scratch holds the weights after every point: the first copies them, the others leave them. -/
theorem scr (c : Dev nD) (n : ℕ) : ∀ hn : n < cfg0.N, (outsAt0 m c n hn).2.2 = V m c main_arg3 := by
  induction n using Nat.strong_induction_on with
  | _ n ih =>
    intro hn
    by_cases h0 : n % 32 = 0
    · rw [outsAt0_A m c ⟨n, hn⟩ h0]
      frame_out
      exact View.canon_unit_zero rfl _ _
    · rw [outsAt0_B m c ⟨n, hn⟩ h0]
      simp only [sout0_B_0]
      exact ih (n - 1) (by omega) _

theorem outs (c : Dev nD) (t : Fin cfg0.N) : let O := outsAt0 m c t.val t.isLt
    O.1 = k0_pay1 (iblk m c 0 t) (V m c main_arg3) ∧ O.2.1 = k0_pay2 (iblk m c 0 t) (V m c main_arg3) (iblk m c 1 t) (iblk m c 2 t) := by
  dsimp only
  by_cases h0 : t.val % 32 = 0
  · rw [outsAt0_A m c t h0]
    frame_open
    simp (disch := decide) only [↓ View.readCov_skip, ↓ View.readCov_cons_toLoadRect, ↓ View.readCov_fill]
    frame_out
    exact ⟨congrArg (k0_pay1 _) (View.readCov_full _ _ _ _ _), congrArg (fun w => k0_pay2 _ w _ _) (View.readCov_full _ _ _ _ _)⟩
  · rw [outsAt0_B m c t h0]
    frame_out
    simp only [read_unread_whole, scr m c, and_self]

theorem pay1 (c : Dev nD) (t : Fin cfg0.N) (r : Fin 512) (l : Fin 1024) :
    k0_pay1 (F := Ideal) (iblk m c 0 t) (V m c main_arg3) (ix2 r l) = down (S m c) (Wd m c) (row t r) l := by
  pointwise [k0_pay1]
  simp only [blk0]
  rfl

/-! ### The two arrays after the run -/

theorem final3 (c : Dev nD) : (dats m 0 c).arrAt 3 cfg0.N = fun i : S16384x1024.Idx => down (S m c) (Wd m c) (i 0) (i 1) := by
  refine (dats m 0 c).arrAt_eq_of_covers 3 _ (by decide +kernel) fun t hf y => ?_
  blk_simp
  obtain ⟨r, l, rfl⟩ := at2 y
  have e : ((View.whole main_v0_0).slice (win0_3.rect t)).emb (ix2 r l) = ix2 (row t r) l := by
    blk_ext [(idx t).2.2.2.1]
  rw [after0_3, (outs m c t).1, e]
  exact pay1 m c t r l

theorem final4 (c : Dev nD) : (dats m 0 c).arrAt 4 cfg0.N = fun i : S16384x1024.Idx => res (S m c) (X m c) (G m c) (Wd m c) (i 0) (i 1) := by
  refine (dats m 0 c).arrAt_eq_of_covers 4 _ (by decide +kernel) fun t hf y => ?_
  blk_simp
  obtain ⟨r, l, rfl⟩ := at2 y
  have e : ((View.whole main_v0_1).slice (win0_4.rect t)).emb (ix2 r l) = ix2 (row t r) l := by
    blk_ext [(idx t).2.2.2.2]
  rw [after0_4, (outs m c t).2, e]
  pointwise [k0_pay2]
  simp only [pay1, blk1, blk2]
  rfl

end Cert.OutValue

end
-- ==== Proof.OutClaim.lean ====
module

public import proofs.«01_k».proof.Proof.OutVal
public import proofs.«01_k».proof.Proof.Gen.ROutIdeal.Read
public import proofs.«01_k».proof.Proof.Gen.ROutIdeal.Run
public import proofs.«01_k».proof.Defs
public import Idealize.ShloMosaic.Lib.Quiescent

/-! The call of the mixers' output projection and its own lines: what the lines compute, and the two runs beside
each other. -/

@[expose] public section

set_option maxRecDepth 16384

noncomputable section

namespace Cert.OutClaim

open Cert.ROutIdeal Cert.ROutIdeal.Read Idealize.ShloMosaic Idealize.ShloMosaic.TcCoe Idealize.SL.Sem
open OutValue (down res)

variable (x0 : (⟨S16384x1024, .bf16⟩ : BufTy).Contents (Elt Ideal)) (x1 : (⟨S16384x1024, .f32⟩ : BufTy).Contents (Elt Ideal))
  (x2 : (⟨S1x1024, .f32⟩ : BufTy).Contents (Elt Ideal)) (x3 : (⟨S1024x1024, .bf16⟩ : BufTy).Contents (Elt Ideal))

theorem v2_eq (r : Fin 16384) (l : Fin 1024) : val_main_v2 (F := Ideal) x0 x3 (ix2 r l) = down x0 x3 r l := by
  pointwise [val_main_v2, val_main_v1, val_main_v0]
  rfl

theorem v15_eq (r : Fin 16384) (l : Fin 1024) : val_main_v15 (F := Ideal) x0 x1 x2 x3 (ix2 r l) = res x0 x1 x2 x3 r l := by
  pointwise [val_main_v15, val_main_v14, val_main_v13, val_main_v12, val_main_v11, val_main_v10, val_main_v9,
    val_main_v8, val_main_v7, val_main_v6, val_main_v5, val_main_v4, val_main_v3, val_main_cst, val_main_cst_0, val_main_cst_1]
  simp only [v2_eq]
  rfl

/-- The reference runs and leaves its arguments. -/
theorem refFrame : Cert.quiescent_ROutIdeal (hROutIdeal := Cert.ROutIdeal.Gen.facts) := fun m ρ _ =>
  (θ_run _ _ _).mono (fun r h => ⟨fun c => (h c).2.2, sem_eq_zero_of_no_sems (by decide) r.2⟩)
    (Cert.ROutIdeal.Value.run (F := Ideal) m ρ)

/-- Kernel and reference end with the same two results. -/
theorem algebraic : Cert.algebraic_KOutIdeal_ROutIdeal (hKOutIdeal := Cert.KOutIdeal.Gen.facts) (hROutIdeal := Cert.ROutIdeal.Gen.facts) := by
  intro m g m' g' _ hag
  refine ⟨fun c i => down (OutValue.S m c) (OutValue.Wd m c) (i 0) (i 1),
    fun c i => res (OutValue.S m c) (OutValue.X m c) (OutValue.G m c) (OutValue.Wd m c) (i 0) (i 1), ?_, ?_⟩
  · refine (θ_run _ _ _).mono (fun r h c => ?_) (Cert.KOutIdeal.Value.run_blocks (F := Ideal) m g)
    obtain ⟨h0, h1, ha⟩ := h c
    exact ⟨h0.trans (OutValue.final3 m c), h1.trans (OutValue.final4 m c), ha⟩
  · refine (θ_run _ _ _).mono (fun r h c => ?_) (Cert.ROutIdeal.Value.run (F := Ideal) m' g')
    obtain ⟨h0, h1, ha⟩ := h c
    obtain ⟨e0, e1, e2, e3⟩ := hag c
    refine ⟨h0.trans ?_, h1.trans ?_, ha⟩
    · rw [val_main_v2_eq, e0, e3]
      exact ext2 fun r l => v2_eq _ _ r l
    · rw [val_main_v15_eq, e0, e1, e2, e3]
      exact ext2 fun r l => v15_eq _ _ _ _ r l

end Cert.OutClaim

end
-- ==== Proof.LruAScan.lean ====
module

public import Idealize.ShloMosaic.Lib.Pipeline.ValueKit

/-! A linear recurrence along the rows, and eight of its rows at once by doubling. -/

@[expose] public section

noncomputable section

namespace Cert.LruAScan

open Idealize.ShloMosaic

/-- The recurrence `h ↦ a h + u`, row after row. -/
def chain (A U : ℕ → EReal) (h : EReal) : ℕ → EReal
  | 0 => h
  | n + 1 => A n * chain A U h n + U n

/-- Starting the recurrence at row `k` with what the rows before left. -/
theorem chain_add (A U : ℕ → EReal) (h : EReal) (k n : ℕ) :
    chain (fun i => A (k + i)) (fun i => U (k + i)) (chain A U h k) n = chain A U h (k + n) := by
  induction n with
  | zero => rfl
  | succ n ih => show A (k + n) * _ + U (k + n) = _; rw [ih]; rfl

theorem chain_congr {A A' U U' : ℕ → EReal} {h h' : EReal} (hh : h = h') (n : ℕ) (e : ∀ i < n, A i = A' i ∧ U i = U' i) :
    chain A U h n = chain A' U' h' n := by
  induction n with
  | zero => exact hh
  | succ n ih =>
    show A n * _ + U n = A' n * _ + U' n
    rw [ih fun i hi => e i (Nat.lt_succ_of_lt hi), (e n (Nat.lt_succ_self n)).1, (e n (Nat.lt_succ_self n)).2]

/-- The row `n` before, of eight. -/
abbrev back (n : ℕ) (r : Fin 8) : Fin 8 := ⟨(r.val + 8 - n) % 8, Nat.mod_lt _ (by decide)⟩

/-- The products over twice as many rows, -/
def twiceA (n : ℕ) (A : Fin 8 → EReal) (r : Fin 8) : EReal := A r * (if n ≤ r.val then A (back n r) else 1)
/-- and what the same rows add. -/
def twiceU (n : ℕ) (A U : Fin 8 → EReal) (r : Fin 8) : EReal := A r * (if n ≤ r.val then U (back n r) else 0) + U r

/-- `A` and `U` carry the recurrence over the last `n` rows. -/
def Carries (H : ℕ → EReal) (n : ℕ) (A U : Fin 8 → EReal) : Prop :=
  ∀ r : Fin 8, (∃ q : ℝ, 0 ≤ q ∧ A r = q) ∧ U r + A r * H (r.val + 1 - n) = H (r.val + 1)

theorem Carries.twice {H : ℕ → EReal} {n : ℕ} {A U : Fin 8 → EReal} (h : Carries H n A U) :
    Carries H (n + n) (twiceA n A) (twiceU n A U) := by
  intro r
  obtain ⟨⟨q, hq, eq⟩, hr⟩ := h r
  unfold twiceA twiceU
  have hr8 := r.isLt
  by_cases hn : n ≤ r.val
  · obtain ⟨⟨p, hp, ep⟩, hb⟩ := h (back n r)
    have e : (back n r).val = r.val - n := by show (r.val + 8 - n) % 8 = _; omega
    rw [e] at hb
    rw [if_pos hn, if_pos hn]
    refine ⟨⟨q * p, mul_nonneg hq hp, by rw [eq, ep]; push_cast; rfl⟩, ?_⟩
    rw [show r.val + 1 - (n + n) = r.val - n + 1 - n by omega, mul_assoc, add_comm (A r * U _) (U r), add_assoc, eq,
      ← EReal.left_distrib_of_nonneg_of_ne_top (EReal.coe_nonneg.mpr hq) (EReal.coe_ne_top q), hb, ← eq,
      show r.val - n + 1 = r.val + 1 - n by omega]
    exact hr
  · rw [if_neg hn, if_neg hn, mul_one, mul_zero, zero_add, show r.val + 1 - (n + n) = r.val + 1 - n by omega]
    exact ⟨⟨q, hq, eq⟩, hr⟩

/-- Three doublings carry it over all eight rows. -/
theorem eight (H : ℕ → EReal) (A U : Fin 8 → EReal) (hA : ∀ r, ∃ q : ℝ, 0 ≤ q ∧ A r = q)
    (hH : ∀ r : Fin 8, H (r.val + 1) = A r * H r.val + U r) (r : Fin 8) :
    twiceU 4 (twiceA 2 (twiceA 1 A)) (twiceU 2 (twiceA 1 A) (twiceU 1 A U)) r + twiceA 4 (twiceA 2 (twiceA 1 A)) r * H 0 = H (r.val + 1) := by
  have h1 : Carries H 1 A U := fun r => ⟨hA r, by rw [hH r, add_comm]; rfl⟩
  have h8 := (h1.twice.twice.twice r).2
  have hr := r.isLt
  rwa [show r.val + 1 - (1 + 1 + (1 + 1) + (1 + 1 + (1 + 1))) = 0 by omega] at h8

end Cert.LruAScan

end
-- ==== Proof.LruALoop.lean ====
module

public import proofs.«01_k».proof.Proof.LruAScan
public import proofs.«01_k».proof.Proof.Gen.KLruAIdeal.Loops
public import Idealize.ShloMosaic.Lib.Pipeline.ValueKit

/-! The loop over a tile's rows: what its trips have written, and the state they hand on. -/

@[expose] public section

set_option maxRecDepth 16384

noncomputable section

namespace Cert.LruALoop

open Cert.KLruAIdeal Cert.KLruAIdeal.Gen Cert.LruAScan
open Idealize.ShloMosaic Idealize.SL.Sem Idealize.ShloMosaic.TcCoe

/-- Each place's row among eight. -/
abbrev places : IVec S8x1024 32 := iota .tc S8x1024 32 [0] iota_S8x1024_d0_w32

theorem row_ge1 : ∀ r : Fin 8, Scalar.cmpi .sge (BitVec.ofNat 32 r.val) 1#32 = if 1 ≤ r.val then 1#1 else 0#1 := by decide
theorem row_ge2 : ∀ r : Fin 8, Scalar.cmpi .sge (BitVec.ofNat 32 r.val) 2#32 = if 2 ≤ r.val then 1#1 else 0#1 := by decide
theorem row_ge4 : ∀ r : Fin 8, Scalar.cmpi .sge (BitVec.ofNat 32 r.val) 4#32 = if 4 ≤ r.val then 1#1 else 0#1 := by decide

theorem choose {c : BitVec 1} {P : Prop} [Decidable P] (h : c = if P then 1#1 else 0#1) (x y : EReal) :
    Scalar.select c x y = if P then x else y := by
  subst h
  by_cases hP : P
  · rw [if_pos hP, if_pos hP]; rfl
  · rw [if_neg hP, if_neg hP]; rfl

theorem choose_mul {c : BitVec 1} {P : Prop} [Decidable P] (h : c = if P then 1#1 else 0#1) (a x : EReal) :
    Scalar.select c (a * x) 0 = a * if P then x else 0 := by
  rw [choose h]
  by_cases hP : P
  · rw [if_pos hP, if_pos hP]
  · rw [if_neg hP, if_neg hP, mul_zero]

/-- One doubling of the kernel: the products, -/
def stepA (n : BitVec 32) (A : Vec Ideal S8x1024 .f32) : Vec Ideal S8x1024 .f32 :=
  mulf A (select (cmpi .sge places (broadcast S8x1024 n)) (dynamicRotate 0 n none A rotates_S8x1024_d0)
    (broadcast S8x1024 (Scalar.ofBits (F := Ideal) .f32 0x3F800000#32)))
/-- and what the rows add. -/
def stepU (n : BitVec 32) (A U : Vec Ideal S8x1024 .f32) : Vec Ideal S8x1024 .f32 :=
  addf (mulf A (select (cmpi .sge places (broadcast S8x1024 n)) (dynamicRotate 0 n none U rotates_S8x1024_d0)
    (broadcast S8x1024 (Scalar.ofBits (F := Ideal) .f32 0x00000000#32)))) U

theorem stepA1 (A : Vec Ideal S8x1024 .f32) (r : Fin 8) (l : Fin 1024) :
    stepA 1#32 A (ix2 r l) = twiceA 1 (fun q => A (ix2 q l)) r := by
  pointwise [stepA, places]
  exact congrArg (A (ix2 r l) * ·) (choose (row_ge1 r) _ _)
theorem stepU1 (A U : Vec Ideal S8x1024 .f32) (r : Fin 8) (l : Fin 1024) :
    stepU 1#32 A U (ix2 r l) = twiceU 1 (fun q => A (ix2 q l)) (fun q => U (ix2 q l)) r := by
  pointwise [stepU, places]
  exact congrArg (· + U (ix2 r l)) (choose_mul (row_ge1 r) _ _)
theorem stepA2 (A : Vec Ideal S8x1024 .f32) (r : Fin 8) (l : Fin 1024) :
    stepA 2#32 A (ix2 r l) = twiceA 2 (fun q => A (ix2 q l)) r := by
  pointwise [stepA, places]
  exact congrArg (A (ix2 r l) * ·) (choose (row_ge2 r) _ _)
theorem stepU2 (A U : Vec Ideal S8x1024 .f32) (r : Fin 8) (l : Fin 1024) :
    stepU 2#32 A U (ix2 r l) = twiceU 2 (fun q => A (ix2 q l)) (fun q => U (ix2 q l)) r := by
  pointwise [stepU, places]
  exact congrArg (· + U (ix2 r l)) (choose_mul (row_ge2 r) _ _)
theorem stepA4 (A : Vec Ideal S8x1024 .f32) (r : Fin 8) (l : Fin 1024) :
    stepA 4#32 A (ix2 r l) = twiceA 4 (fun q => A (ix2 q l)) r := by
  pointwise [stepA, places]
  exact congrArg (A (ix2 r l) * ·) (choose (row_ge4 r) _ _)
theorem stepU4 (A U : Vec Ideal S8x1024 .f32) (r : Fin 8) (l : Fin 1024) :
    stepU 4#32 A U (ix2 r l) = twiceU 4 (fun q => A (ix2 q l)) (fun q => U (ix2 q l)) r := by
  pointwise [stepU, places]
  exact congrArg (· + U (ix2 r l)) (choose_mul (row_ge4 r) _ _)

/-- Eight rows of the kernel, at one place. -/
theorem pay27_eq (h : Vec Ideal S1x1024 .f32) (a u : Vec Ideal S8x1024 .f32) (r : Fin 8) (l : Fin 1024) :
    k0_pay27 (F := Ideal) (k0_pay7 places a u) (k0_pay8 places h a) (ix2 r l) =
      twiceU 4 (twiceA 2 (twiceA 1 fun q => a (ix2 q l))) (twiceU 2 (twiceA 1 fun q => a (ix2 q l)) (twiceU 1 (fun q => a (ix2 q l)) fun q => u (ix2 q l))) r +
        twiceA 4 (twiceA 2 (twiceA 1 fun q => a (ix2 q l))) r * h (ix2 0 l) := by
  have e : k0_pay27 (F := Ideal) (k0_pay7 places a u) (k0_pay8 places h a) =
      addf (stepU 4#32 (stepA 2#32 (stepA 1#32 a)) (stepU 2#32 (stepA 1#32 a) (stepU 1#32 a u)))
        (mulf (stepA 4#32 (stepA 2#32 (stepA 1#32 a))) (broadcastTo S8x1024 h broadcasts_S1x1024_S8x1024)) := rfl
  rw [e]
  pointwise
  simp only [stepU4, stepA4, stepU2, stepA2, stepU1, stepA1]

theorem trips_eq : k0_t1_loop.trips = 64 := by decide

theorem at_lt (k : Fin k0_t1_loop.trips) (q : Fin 8) : 8 * k.val + q.val < 512 := by
  have := k0_t1_abs.2.1
  omega

/-- A trip's rows among the tile's. -/
theorem rect_row (k : Fin k0_t1_loop.trips) (q : Fin 8) (l : Fin 1024) :
    (Rect.unit (s := S512x1024) (k0_off1 k) S8x1024.size (k0_off1_inb k)).emb (ix2 q l) = ix2 ⟨8 * k.val + q.val, at_lt k q⟩ l := by
  refine funext fun a => Fin.ext ?_
  rw [ValueKit.rect_emb_unit_val]
  refine (congrArg (· + _) (congrFun (k0_off1_eq k) a)).trans ?_
  match a with
  | 0 => rfl
  | 1 => exact Nat.zero_add _

theorem not_row (k : Fin k0_t1_loop.trips) (r : Fin 512) (l : Fin 1024) (h : r.val < 8 * k.val) :
    ix2 r l ∉ (Rect.unit (s := S512x1024) (k0_off1 k) S8x1024.size (k0_off1_inb k)).set := by
  rw [Rect.mem_set_unit, k0_off1_eq]
  intro hh
  exact absurd (hh 0).1 (Nat.not_le_of_lt h)

/-- Reading through the rows a trip has written, above them and among them. -/
theorem canon_above (k : Fin k0_t1_loop.trips) (P : Vec Ideal S8x1024 .f32) (L : List (View.Piece (Elt Ideal) S512x1024 .f32)) (r : Fin 512) (l : Fin 1024)
    (h : r.val < 8 * k.val) :
    View.canon (⟨Rect.unit (s := S512x1024) (k0_off1 k) S8x1024.size (k0_off1_inb k), P⟩ :: L) (ix2 r l) = View.canon L (ix2 r l) :=
  View.canon_cons_of_not_mem ⟨Rect.unit (s := S512x1024) (k0_off1 k) S8x1024.size (k0_off1_inb k), P⟩ L (not_row k r l h)

theorem canon_among (k : Fin k0_t1_loop.trips) (P : Vec Ideal S8x1024 .f32) (L : List (View.Piece (Elt Ideal) S512x1024 .f32)) (q : Fin 8) (l : Fin 1024) :
    View.canon (⟨Rect.unit (s := S512x1024) (k0_off1 k) S8x1024.size (k0_off1_inb k), P⟩ :: L) (ix2 ⟨8 * k.val + q.val, at_lt k q⟩ l) = P (ix2 q l) := by
  rw [← rect_row]
  exact View.canon_cons_emb _ _ _ _

/-- Row `n` of a tile, for any number. -/
def rowN (A : Vec Ideal S512x1024 .f32) (l : Fin 1024) (n : ℕ) : EReal := if h : n < 512 then A (ix2 ⟨n, h⟩ l) else 0

theorem rowN_of (A : Vec Ideal S512x1024 .f32) (l : Fin 1024) (r : Fin 512) : rowN A l r.val = A (ix2 r l) := dif_pos r.isLt

/-- What a trip leaves in its rows, when it is handed the recurrence's value at the row above. -/
theorem trip_rows (A U : Vec Ideal S512x1024 .f32) (hA : ∀ i, ∃ q : ℝ, 0 ≤ q ∧ A i = q) (k : Fin k0_t1_loop.trips) (h : Vec Ideal S1x1024 .f32)
    (l : Fin 1024) (h0 : EReal) (hh : h (ix2 0 l) = chain (rowN A l) (rowN U l) h0 (8 * k.val)) (a u : Vec Ideal S8x1024 .f32)
    (ha : ∀ q l, a (ix2 q l) = A (ix2 ⟨8 * k.val + q.val, at_lt k q⟩ l)) (hu : ∀ q l, u (ix2 q l) = U (ix2 ⟨8 * k.val + q.val, at_lt k q⟩ l)) (q : Fin 8) :
    k0_pay27 (F := Ideal) (k0_pay7 places a u) (k0_pay8 places h a) (ix2 q l) = chain (rowN A l) (rowN U l) h0 (8 * k.val + (q.val + 1)) := by
  rw [pay27_eq, hh]
  refine eight (fun n => chain (rowN A l) (rowN U l) h0 (8 * k.val + n)) _ _ (fun r => ?_) (fun r => ?_) q
  · rw [ha]; exact hA _
  · show chain _ _ _ (8 * k.val + r.val + 1) = _
    rw [ha, hu, ← rowN_of A, ← rowN_of U]
    rfl

theorem pay28_eq (x y : FVec Ideal S8x1024 .f32) (l : Fin 1024) : k0_pay28 (F := Ideal) x y (ix2 0 l) = k0_pay27 x y (ix2 (7 : Fin 8) l) := by
  unfold k0_pay28
  generalize k0_pay27 (F := Ideal) x y = z
  pointwise

section

variable (𝒱 : Variants) (c : Dev nD) (bd : Option 𝒱.V) (i : grid0.Coords) (arg1 : Memref sig .tc .vmem S512x1024 .bf16) (harg1 : arg1.IsWhole) (arg2 : Memref
  sig .tc .vmem S16x1024 .bf16) (harg2 : arg2.IsWhole) (arg3 : Memref sig .tc .vmem S16x1024 .bf16) (harg3 : arg3.IsWhole) (arg4 : Memref sig .tc .vmem
  S4x1024 .f32) (harg4 : arg4.IsWhole) (arg5 : Memref sig .tc .vmem S1x1024 .f32) (harg5 : arg5.IsWhole) (arg6 : Memref sig .tc .vmem S4x256x256 .bf16)
  (harg6 : arg6.IsWhole) (arg7 : Memref sig .tc .vmem S4x256x256 .bf16) (harg7 : arg7.IsWhole) (arg8 : Memref sig .tc .vmem S1x1024 .f32) (harg8 :
  arg8.IsWhole) (arg9 : Memref sig .tc .vmem S1x1024 .f32) (harg9 : arg9.IsWhole) (arg10 : Memref sig .tc .vmem S1x1024 .f32) (harg10 : arg10.IsWhole)
  (arg11 : Memref sig .tc .vmem S512x1024 .f32) (harg11 : arg11.IsWhole) (arg12 : Memref sig .tc .vmem S512x1024 .f32) (harg12 : arg12.IsWhole) (arg13 :
  Memref sig .tc .vmem S512x1024 .f32) (harg13 : arg13.IsWhole) (arg14 : Memref sig .tc .vmem S1x1024 .f32) (harg14 : arg14.IsWhole) (arg0 : BitVec 32)
  (v38 : FVec Ideal S512x1024 .f32) (v67 : FVec Ideal S1x1024 .f32) (v69 : Vec Ideal S1x1024 .f32) (v77 : FVec Ideal S512x256 .f32) (v85 : FVec Ideal
  S512x256 .f32) (v93 : FVec Ideal S512x256 .f32) (v101 : FVec Ideal S512x256 .f32) (v109 : FVec Ideal S512x1024 .f32) (v110 : FVec Ideal S512x1024
  .f32) (X_arg12 : BufTy.Contents (Elt Ideal) arg12.view.ty) (X_arg13 : BufTy.Contents (Elt Ideal) arg13.view.ty) (init : Vec Ideal S1x1024 .f32)

/-- The loop's state before trip `k`. -/
abbrev st (k : ℕ) := st_k0_t1 (F := Ideal) 𝒱 c bd i arg1 harg1 arg2 harg2 arg3 harg3 arg4 harg4 arg5 harg5 arg6 harg6 arg7 harg7 arg8 harg8 arg9 harg9 arg10 harg10 arg11 harg11 arg12 harg12
    arg13 harg13 arg14 harg14 arg0 v38 v67 v69 v77 v85 v93 v101 v109 v110 places X_arg12 X_arg13 init k

theorem st_succ (k : Fin k0_t1_loop.trips) (S : Vec Ideal S1x1024 .f32 × List (View.Piece (Elt Ideal) S512x1024 .f32)) (hS : st 𝒱 c bd i arg1 harg1 arg2 harg2 arg3 harg3 arg4 harg4 arg5 harg5 arg6 harg6 arg7 harg7 arg8 harg8 arg9 harg9 arg10 harg10 arg11 harg11 arg12 harg12
    arg13 harg13 arg14 harg14 arg0 v38 v67 v69 v77 v85 v93 v101 v109 v110 X_arg12 X_arg13 init k.val = S) (a u : Vec Ideal S8x1024 .f32)
    (ha : View.readAt (Elt Ideal) arg12.view (Rect.unit (s := S512x1024) (k0_off1 k) S8x1024.size (k0_off1_inb k)).toLoadRect X_arg12 = a)
    (hu : View.readAt (Elt Ideal) arg13.view (Rect.unit (s := S512x1024) (k0_off1 k) S8x1024.size (k0_off1_inb k)).toLoadRect X_arg13 = u) :
    st 𝒱 c bd i arg1 harg1 arg2 harg2 arg3 harg3 arg4 harg4 arg5 harg5 arg6 harg6 arg7 harg7 arg8 harg8 arg9 harg9 arg10 harg10 arg11 harg11 arg12 harg12
    arg13 harg13 arg14 harg14 arg0 v38 v67 v69 v77 v85 v93 v101 v109 v110 X_arg12 X_arg13 init (k.val + 1) =
      (k0_pay28 (k0_pay7 places a u) (k0_pay8 places S.1 a),
        ⟨Rect.unit (s := S512x1024) (k0_off1 k) S8x1024.size (k0_off1_inb k), k0_pay27 (k0_pay7 places a u) (k0_pay8 places S.1 a)⟩ :: S.2) := by
  subst hS ha hu
  unfold st
  rw [st_k0_t1_succ]
  unfold tripR_k0_t1 tripL_k0_t1 trip_k0_t1
  frame_open
  rfl

variable (A U : Vec Ideal S512x1024 .f32)

/-- The tile's recurrence down column `l`. -/
abbrev H (l : Fin 1024) : ℕ → EReal := chain (rowN A l) (rowN U l) (init (ix2 0 l))

variable (hX12 : arg12.view.read (Elt Ideal) X_arg12 = A) (hX13 : arg13.view.read (Elt Ideal) X_arg13 = U)
  (hA : ∀ i, ∃ q : ℝ, 0 ≤ q ∧ A i = q)

include hX12 hX13 hA in
/-- Before trip `k` the rows above hold the recurrence, and the state is its value at the last of them. -/
theorem st_holds (k : ℕ) (hk : k ≤ 64) :
    (∀ l, (st 𝒱 c bd i arg1 harg1 arg2 harg2 arg3 harg3 arg4 harg4 arg5 harg5 arg6 harg6 arg7 harg7 arg8 harg8 arg9 harg9 arg10 harg10 arg11 harg11 arg12 harg12
    arg13 harg13 arg14 harg14 arg0 v38 v67 v69 v77 v85 v93 v101 v109 v110 X_arg12 X_arg13 init k).1 (ix2 0 l) = H init A U l (8 * k)) ∧
      ∀ (r : Fin 512) (l : Fin 1024), r.val < 8 * k →
        View.canon (st 𝒱 c bd i arg1 harg1 arg2 harg2 arg3 harg3 arg4 harg4 arg5 harg5 arg6 harg6 arg7 harg7 arg8 harg8 arg9 harg9 arg10 harg10 arg11 harg11 arg12 harg12
    arg13 harg13 arg14 harg14 arg0 v38 v67 v69 v77 v85 v93 v101 v109 v110 X_arg12 X_arg13 init k).2 (ix2 r l) = H init A U l (r.val + 1) := by
  induction k with
  | zero => exact ⟨fun l => rfl, fun r l h => absurd h (by omega)⟩
  | succ k ih =>
    obtain ⟨ih1, ih2⟩ := ih (by omega)
    have hk' : k < k0_t1_loop.trips := by rw [trips_eq]; omega
    obtain ⟨S, hS⟩ : ∃ S, st 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v38 v67 v69 v77 v85 v93 v101 v109 v110 X_arg12 X_arg13 init k = S := ⟨_, rfl⟩
    rw [hS] at ih1 ih2
    obtain ⟨kk, hkk⟩ : ∃ kk : Fin k0_t1_loop.trips, kk.val = k := ⟨⟨k, hk'⟩, rfl⟩
    subst hkk
    obtain ⟨a, ha0⟩ : ∃ a, View.readAt (Elt Ideal) arg12.view (Rect.unit (s := S512x1024) (k0_off1 kk) S8x1024.size (k0_off1_inb kk)).toLoadRect X_arg12 = a := ⟨_, rfl⟩
    obtain ⟨u, hu0⟩ : ∃ u, View.readAt (Elt Ideal) arg13.view (Rect.unit (s := S512x1024) (k0_off1 kk) S8x1024.size (k0_off1_inb kk)).toLoadRect X_arg13 = u := ⟨_, rfl⟩
    have e := st_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v38 v67 v69 v77 v85 v93 v101 v109 v110 X_arg12 X_arg13 init kk S hS a u ha0 hu0
    have ha : ∀ (q : Fin 8) (l : Fin 1024), a (ix2 q l) = A (ix2 ⟨8 * kk.val + q.val, at_lt kk q⟩ l) :=
      fun q l => by rw [← rect_row, ← hX12, ← ha0]; rfl
    have hu : ∀ (q : Fin 8) (l : Fin 1024), u (ix2 q l) = U (ix2 ⟨8 * kk.val + q.val, at_lt kk q⟩ l) :=
      fun q l => by rw [← rect_row, ← hX13, ← hu0]; rfl
    have key := fun l => trip_rows A U hA kk S.1 l (init (ix2 0 l)) (ih1 l) a u ha hu
    have last : ∀ l, H init A U l (8 * kk.val + ((7 : Fin 8).val + 1)) = H init A U l (8 * (kk.val + 1)) := fun l =>
      congrArg (H init A U l) (by show 8 * kk.val + 8 = _; omega)
    clear ha hu ha0 hu0
    rw [e]
    clear e
    have low : ∀ l, k0_pay28 (F := Ideal) (k0_pay7 places a u) (k0_pay8 places S.1 a) (ix2 0 l) = H init A U l (8 * (kk.val + 1)) :=
      fun l => ((pay28_eq _ _ l).trans (key l 7)).trans (last l)
    generalize k0_pay27 (F := Ideal) (k0_pay7 places a u) (k0_pay8 places S.1 a) = P at key ⊢
    refine ⟨low, fun r l hr => ?_⟩
    by_cases hlt : r.val < 8 * kk.val
    · exact (canon_above kk P S.2 r l hlt).trans (ih2 r l hlt)
    · obtain ⟨q, hq⟩ : ∃ q : Fin 8, r = ⟨8 * kk.val + q.val, at_lt kk q⟩ :=
        ⟨⟨r.val - 8 * kk.val, by omega⟩, Fin.ext (by show r.val = 8 * kk.val + (r.val - 8 * kk.val); omega)⟩
      subst hq
      exact (canon_among kk P S.2 q l).trans ((key l q).trans (congrArg (H init A U l) (by show _ = 8 * kk.val + q.val + 1; omega)))

end

end Cert.LruALoop
-- ==== Proof.LruAVal.lean ====
module

public import proofs.«01_k».proof.Proof.LruAFRun
public import proofs.«01_k».proof.Proof.LruALoop
public import proofs.«01_k».proof.Proof.Halo
public import Idealize.ShloMosaic.Lib.Pipeline.ValueKit
public import Idealize.ShloMosaic.Lib.Pipeline.ReadBack
public import Idealize.ShloMosaic.Lib.VecWindow

/-! What the forward call of the recurrence leaves in its result, place by place. -/

@[expose] public section

set_option maxRecDepth 16384

noncomputable section

namespace Cert.LruAValue

open Cert.KLruAIdeal Cert.KLruAIdeal.Gen Cert.LruAFrame Cert.LruALoop Cert.LruAScan
open Idealize.ShloMosaic Idealize.ShloMosaic.TcCoe Idealize.SL.Sem
open Idealize.ShloMosaic.Pipeline (Dat)

variable (m : (ℓ : Loc nD τ sig) → Buf (Elt Ideal) ℓ)

/-- The convolved rows of a tile. -/
abbrev Xt (c : Dev nD) (t : Fin cfg0.N) : FVec Ideal S512x1024 .f32 :=
  k0_pay9 (grid0.coords t) (iblk m c 0 t) (iblk m c 1 t) (iblk m c 2 t) (iblk m c 3 t) (iblk m c 4 t)
/-- The gates' weights, head by head. -/
abbrev Wa (c : Dev nD) (t : Fin cfg0.N) (h : ℕ) (inb : ∀ a, ![h, 0, 0] a + ![1, 256, 256] a ≤ S4x256x256.size a) : Vec Ideal S1x256x256 .bf16 :=
  View.ld (Val := Elt Ideal) (e' := .bf16) (iblk m c 5 t) (Rect.unit (s := S4x256x256) ![h, 0, 0] ![1, 256, 256] inb)
abbrev Wx (c : Dev nD) (t : Fin cfg0.N) (h : ℕ) (inb : ∀ a, ![h, 0, 0] a + ![1, 256, 256] a ≤ S4x256x256.size a) : Vec Ideal S1x256x256 .bf16 :=
  View.ld (Val := Elt Ideal) (e' := .bf16) (iblk m c 6 t) (Rect.unit (s := S4x256x256) ![h, 0, 0] ![1, 256, 256] inb)
/-- The decay gate before its last addition. -/
abbrev Gt (c : Dev nD) (t : Fin cfg0.N) : FVec Ideal S512x1024 .f32 :=
  k0_pay20 (Xt m c t) (iblk m c 7 t) (k0_pay12 (Xt m c t) (Wa m c t 0 inb_S4x256x256_S1x256x256_0_0_0)) (Wa m c t 1 inb_S4x256x256_S1x256x256_1_0_0)
    (Wa m c t 2 inb_S4x256x256_S1x256x256_2_0_0) (Wa m c t 3 inb_S4x256x256_S1x256x256_3_0_0)
/-- The decays of a tile. -/
def At (c : Dev nD) (t : Fin cfg0.N) : Vec Ideal S512x1024 .f32 := k0_pay25 (k0_pay10 (iblk m c 9 t)) (Gt m c t) k0_pay21
/-- The loads of a tile. -/
def Ut (c : Dev nD) (t : Fin cfg0.N) : Vec Ideal S512x1024 .f32 :=
  k0_pay26 (Xt m c t) (k0_pay10 (iblk m c 9 t)) (iblk m c 8 t) (k0_pay13 (Xt m c t) (Wx m c t 0 inb_S4x256x256_S1x256x256_0_0_0))
    (k0_pay15 (Xt m c t) (Wx m c t 1 inb_S4x256x256_S1x256x256_1_0_0)) (k0_pay17 (Xt m c t) (Wx m c t 2 inb_S4x256x256_S1x256x256_2_0_0))
    (k0_pay19 (Xt m c t) (Wx m c t 3 inb_S4x256x256_S1x256x256_3_0_0)) (Gt m c t) k0_pay21

theorem pay1_eq (x : FVec Ideal S1x1024 .f32) (j) : k0_pay1 (F := Ideal) x j = x j := by
  pointwise [k0_pay1]

theorem readA (c : Dev nD) (t : Fin cfg0.N) : (View.whole cc0_scratch0).read (Elt Ideal) ((View.whole cc0_scratch0).writes (Elt Ideal) (View.whole cc0_scratch0).junk
    [⟨Rect.unit ![0, 0] ![512, 1024] inb_S512x1024_S512x1024_0_0, At m c t⟩]) = At m c t := by
  frame_out
  exact View.canon_cons_unit_zero (S := S512x1024) (funext fun a => by fin_cases a <;> rfl) _ _ _
theorem readU (c : Dev nD) (t : Fin cfg0.N) : (View.whole cc0_scratch1).read (Elt Ideal) ((View.whole cc0_scratch1).writes (Elt Ideal) (View.whole cc0_scratch1).junk
    [⟨Rect.unit ![0, 0] ![512, 1024] inb_S512x1024_S512x1024_0_0, Ut m c t⟩]) = Ut m c t := by
  frame_out
  exact View.canon_cons_unit_zero (S := S512x1024) (funext fun a => by fin_cases a <;> rfl) _ _ _

/-- What a tile leaves, of the state it is handed: the recurrence along its rows. -/
abbrev Left (c : Dev nD) (t : Fin cfg0.N) (init : Vec Ideal S1x1024 .f32) (o : Outs Ideal) : Prop :=
  (∀ l, o.2 (ix2 0 l) = H init (At m c t) (Ut m c t) l 512) ∧ ∀ (r : Fin 512) l, o.1 (ix2 r l) = H init (At m c t) (Ut m c t) l (r.val + 1)

/-- The two scratch buffers as the loop finds them. -/
abbrev writtenA (c : Dev nD) (t : Fin cfg0.N) := (View.whole cc0_scratch0).writes (Elt Ideal) (View.whole cc0_scratch0).junk
    [⟨Rect.unit ![0, 0] ![512, 1024] inb_S512x1024_S512x1024_0_0, At m c t⟩]
abbrev writtenU (c : Dev nD) (t : Fin cfg0.N) := (View.whole cc0_scratch1).writes (Elt Ideal) (View.whole cc0_scratch1).junk
    [⟨Rect.unit ![0, 0] ![512, 1024] inb_S512x1024_S512x1024_0_0, Ut m c t⟩]

/-- The loop's state at a tile. -/
abbrev stT (c : Dev nD) (t : Fin cfg0.N) (init : Vec Ideal S1x1024 .f32) (k : ℕ) :=
  st Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (BitVec.ofNat 32 (grid0.coords t 0).val) (Xt m c t) (k0_pay10 (iblk m c 9 t)) (iblk m c 8 t) (k0_pay13 (Xt m c t) (Wx m c t 0 inb_S4x256x256_S1x256x256_0_0_0)) (k0_pay15 (Xt m c t) (Wx m c t 1 inb_S4x256x256_S1x256x256_1_0_0)) (k0_pay17 (Xt m c t) (Wx m c t 2 inb_S4x256x256_S1x256x256_2_0_0)) (k0_pay19 (Xt m c t) (Wx m c t 3 inb_S4x256x256_S1x256x256_3_0_0)) (Gt m c t) k0_pay21 (writtenA m c t) (writtenU m c t) init k

theorem stT_holds (c : Dev nD) (t : Fin cfg0.N) (hA : ∀ i, ∃ q : ℝ, 0 ≤ q ∧ At m c t i = q) (init : Vec Ideal S1x1024 .f32) :
    (∀ l, (stT m c t init 64).1 (ix2 0 l) = H init (At m c t) (Ut m c t) l 512) ∧
      ∀ (r : Fin 512) l, View.canon (stT m c t init 64).2 (ix2 r l) = H init (At m c t) (Ut m c t) l (r.val + 1) := by
  have e := st_holds Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (BitVec.ofNat 32 (grid0.coords t 0).val) (Xt m c t) (k0_pay10 (iblk m c 9 t)) (iblk m c 8 t) (k0_pay13 (Xt m c t) (Wx m c t 0 inb_S4x256x256_S1x256x256_0_0_0)) (k0_pay15 (Xt m c t) (Wx m c t 1 inb_S4x256x256_S1x256x256_1_0_0)) (k0_pay17 (Xt m c t) (Wx m c t 2 inb_S4x256x256_S1x256x256_2_0_0)) (k0_pay19 (Xt m c t) (Wx m c t 3 inb_S4x256x256_S1x256x256_3_0_0)) (Gt m c t) k0_pay21 (writtenA m c t) (writtenU m c t) init (At m c t) (Ut m c t) (readA m c t) (readU m c t) hA 64 le_rfl
  exact ⟨e.1, fun r l => e.2 r l r.isLt⟩

theorem leftB (c : Dev nD) (t : Fin cfg0.N) (hA : ∀ i, ∃ q : ℝ, 0 ≤ q ∧ At m c t i = q) (h0 : ¬ t.val % 32 = 0) (p : Outs Ideal) :
    Left m c t p.2 (leaveB m c t h0 p) := by
  constructor
  · intro l
    unfold leaveB atB tileB
    dsimp only
    frame_out
    frame_open
    rw [read_unread_whole]
    refine (pay1_eq _ _).trans ?_
    exact (stT_holds m c t hA p.2).1 l
  · intro r l
    unfold leaveB atB tileB
    dsimp only
    frame_out
    frame_open
    rw [read_unread_whole]
    exact (stT_holds m c t hA p.2).2 r l

theorem leftA (c : Dev nD) (t : Fin cfg0.N) (hA : ∀ i, ∃ q : ℝ, 0 ≤ q ∧ At m c t i = q) (h0 : t.val % 32 = 0) :
    Left m c t (k0_pay24 (F := Ideal)) (leaveA m c t h0) := by
  constructor
  · intro l
    unfold leaveA atA tileA
    dsimp only
    frame_open
    simp (disch := decide) only [↓ View.readCov_skip, ↓ View.readCov_cons_toLoadRect, ↓ View.readCov_fill]
    frame_out
    refine (pay1_eq _ _).trans ?_
    exact (stT_holds m c t hA (k0_pay24 (F := Ideal))).1 l
  · intro r l
    unfold leaveA atA tileA
    dsimp only
    frame_open
    simp (disch := decide) only [↓ View.readCov_skip, ↓ View.readCov_cons_toLoadRect, ↓ View.readCov_fill]
    frame_out
    exact (stT_holds m c t hA (k0_pay24 (F := Ideal))).2 r l

end Cert.LruAValue

end
-- ==== Proof.LruAForm.lean ====
module

public import proofs.«01_k».proof.Proof.Halo
public import proofs.«01_k».proof.Proof.Norm
public import proofs.«01_k».proof.Proof.LruAScan

/-! The gated recurrence in plain sums: the convolved rows, the two gates, the decay, the load. -/

@[expose] public section

noncomputable section

namespace Cert.LruAForm

open Idealize.ShloMosaic Cert.LruAScan
open Cert.Halo (past Rows)
open Cert.Reals (sig sig_eq_logistic word_half)

abbrev Taps : Type := (⟨2, ![4, 1024]⟩ : Shape).Idx → EReal
abbrev Line : Type := (⟨2, ![1, 1024]⟩ : Shape).Idx → EReal
abbrev Heads : Type := (⟨3, ![4, 256, 256]⟩ : Shape).Idx → EReal

/-- The arguments. -/
structure Args where
  z : Rows
  taps : Taps
  bias : Line
  wa : Heads
  wx : Heads
  ba : Line
  bx : Line
  lam : Line

variable (a : Args)

/-- The convolved rows. -/
def conv (n : ℕ) (l : Fin 1024) : EReal :=
  past a.z n l * a.taps (ix2 0 l) + past a.z (n + 1) l * a.taps (ix2 1 l) + past a.z (n + 2) l * a.taps (ix2 2 l) +
    past a.z (n + 3) l * a.taps (ix2 3 l) + a.bias (ix2 0 l)

theorem head_lt (l : Fin 1024) : l.val / 256 < 4 := by omega
theorem lane_lt (l : Fin 1024) : l.val % 256 < 256 := by omega
theorem col_lt (l : Fin 1024) (k : Fin 256) : l.val / 256 * 256 + k.val < 1024 := by omega

/-- One head's product, at a column. -/
def mix (x : Fin 1024 → EReal) (w : Heads) (l : Fin 1024) : EReal :=
  ∑ k : Fin 256, w (ix3 ⟨l.val / 256, head_lt l⟩ k ⟨l.val % 256, lane_lt l⟩) * x ⟨l.val / 256 * 256 + k.val, col_lt l k⟩

/-- A gate. -/
def gate (w : Heads) (b : Line) (n : ℕ) (l : Fin 1024) : EReal := Ideal.logistic (mix (conv a n) w l + b (ix2 0 l))

/-- The decay's rate. -/
def rate (lam : EReal) : EReal :=
  Ideal.ofBits .f32 3238002688#32 * (max (-lam) 0 + Ideal.log1p (Ideal.exp (-FloatOps.absf (F := Ideal) (φ := .f32) (-lam))))

def logDecay (n : ℕ) (l : Fin 1024) : EReal := rate (a.lam (ix2 0 l)) * gate a a.wa a.ba n l
def decay (n : ℕ) (l : Fin 1024) : EReal := Ideal.exp (logDecay a n l)
def load (n : ℕ) (l : Fin 1024) : EReal :=
  gate a a.wx a.bx n l * conv a n l * Ideal.sqrt (-(Ideal.exp (Ideal.ofBits .f32 1073741824#32 * logDecay a n l) - 1))

/-- The recurrence down a column. -/
def hidden (l : Fin 1024) : ℕ → EReal := chain (fun n => decay a n l) (fun n => load a n l) 0

/-! ### Where the rate's exponential is not small -/

theorem real_of_wide (lam : EReal) (h : Ideal.ofBits .f32 1008981770#32 ≤ Ideal.exp (-FloatOps.absf (F := Ideal) (φ := .f32) lam)) : ∃ r : ℝ, lam = r := by
  have h0 : (0 : EReal) < Ideal.ofBits .f32 1008981770#32 := by
    simp [Ideal.ofBits, Ideal.ieee]
    rw [← EReal.coe_mul]
    norm_num
  rw [Ideal.absf_def] at h
  induction lam with
  | bot => exact absurd (lt_of_lt_of_le h0 h) (by simp)
  | coe r => exact ⟨r, rfl⟩
  | top => exact absurd (lt_of_lt_of_le h0 h) (by simp)

theorem abs_neg_eq (lam : EReal) : FloatOps.absf (F := Ideal) (φ := .f32) (-lam) = FloatOps.absf (F := Ideal) (φ := .f32) lam := by
  rw [Ideal.absf_def, Ideal.absf_def, neg_neg, max_comm]

theorem rate_real {lam : EReal} (h : ∃ r : ℝ, lam = r) : ∃ q : ℝ, rate lam = q := by
  obtain ⟨r, rfl⟩ := h
  unfold rate
  rw [Ideal.absf_def]
  have e : max (-(r : EReal)) (- -(r : EReal)) = ((max (-r) r : ℝ) : EReal) := by
    rw [neg_neg, ← EReal.coe_neg]
    exact (EReal.coe_strictMono.monotone.map_max).symm
  have e' : max (-(r : EReal)) 0 = ((max (-r) 0 : ℝ) : EReal) := by
    rw [← EReal.coe_neg, ← EReal.coe_zero]
    exact (EReal.coe_strictMono.monotone.map_max).symm
  have hp := Real.exp_pos (-(max (-r) r))
  have e'' : Ideal.log1p (Ideal.exp (-((max (-r) r : ℝ) : EReal))) = ((Real.log (1 + Real.exp (-(max (-r) r))) : ℝ) : EReal) := by
    rw [← EReal.coe_neg, Ideal.exp_coe]
    show Ideal.log (1 + _) = _
    rw [← EReal.coe_one, ← EReal.coe_add, Ideal.log_coe, if_neg (by linarith)]
  have w : Ideal.ofBits .f32 3238002688#32 = ((-8 : ℝ) : EReal) := by
    simp [Ideal.ofBits, Ideal.ieee]
    rw [← EReal.coe_mul]
    norm_num
  rw [e, e', e'', w, ← EReal.coe_add, ← EReal.coe_mul]
  exact ⟨_, rfl⟩

theorem logistic_real (x : EReal) : ∃ q : ℝ, Ideal.logistic x = q := by
  induction x with
  | bot => exact ⟨0, Ideal.logistic_bot⟩
  | coe x => exact ⟨_, Ideal.logistic_coe x⟩
  | top => exact ⟨1, Ideal.logistic_top⟩

theorem logDecay_real (h : ∀ l, ∃ r : ℝ, a.lam (ix2 0 l) = r) (n : ℕ) (l : Fin 1024) : ∃ q : ℝ, logDecay a n l = q := by
  obtain ⟨x, hx⟩ := rate_real (h l)
  obtain ⟨y, hy⟩ := logistic_real (mix (conv a n) a.wa l + a.ba (ix2 0 l))
  exact ⟨x * y, by rw [logDecay, gate, hx, hy, EReal.coe_mul]⟩

theorem decay_real (h : ∀ l, ∃ r : ℝ, a.lam (ix2 0 l) = r) (n : ℕ) (l : Fin 1024) : ∃ q : ℝ, 0 ≤ q ∧ decay a n l = q := by
  obtain ⟨x, hx⟩ := logDecay_real a h n l
  exact ⟨Real.exp x, (Real.exp_pos x).le, by rw [decay, hx, Ideal.exp_coe]⟩

/-- One minus the squared decay, through the hyperbolic tangent. -/
theorem rest_eq {x : EReal} (h : ∃ q : ℝ, x = q) :
    (0 - Ideal.tanh x) * (Ideal.exp x * Ideal.exp x + 1) = -(Ideal.exp (Ideal.ofBits .f32 1073741824#32 * x) - 1) := by
  obtain ⟨q, rfl⟩ := h
  have w : Ideal.ofBits .f32 1073741824#32 = ((2 : ℝ) : EReal) := by
    simp [Ideal.ofBits, Ideal.ieee]
    rw [← EReal.coe_mul]
    norm_num
  rw [w, Ideal.tanh_coe, Ideal.exp_coe, ← EReal.coe_mul, ← EReal.coe_mul, Ideal.exp_coe, zero_sub, ← EReal.coe_neg, ← EReal.coe_one, ← EReal.coe_add,
    ← EReal.coe_mul, ← EReal.coe_sub, ← EReal.coe_neg]
  congr 1
  have h1 : Real.exp (2 * q) = Real.exp q * Real.exp q := by rw [← Real.exp_add]; congr 1; ring
  have h2 : Real.exp q * Real.exp (-q) = 1 := by rw [← Real.exp_add]; simp
  rw [Real.tanh_eq_sinh_div_cosh, Real.sinh_eq, Real.cosh_eq, h1]
  have p1 := Real.exp_pos q
  have p2 := Real.exp_pos (-q)
  generalize Real.exp q = u at *
  generalize Real.exp (-q) = v at *
  have : u + v ≠ 0 := by positivity
  field_simp
  linear_combination (2 * u) * h2

/-- The rate as the kernel writes it, where it does not take its series. -/
theorem rate_eq (lam s : EReal) (h : Ideal.ofBits .f32 1008981770#32 ≤ Ideal.exp (-FloatOps.absf (F := Ideal) (φ := .f32) lam)) :
    Ideal.ofBits .f32 3238002688#32 * (max (0 - lam) 0 + if Ideal.exp (0 - FloatOps.absf (F := Ideal) (φ := .f32) lam) < Ideal.ofBits .f32 1008981770#32 then s
      else Ideal.log (1 + Ideal.exp (0 - FloatOps.absf (F := Ideal) (φ := .f32) lam))) = rate lam := by
  rw [zero_sub, zero_sub, if_neg (not_lt.mpr h), rate, abs_neg_eq]
  rfl

theorem ix3_congr (w : Heads) {p p' : Fin 4} {q q' : Fin 256} (hp : p = p') (hq : q = q') (k : Fin 256) : w (ix3 p k q) = w (ix3 p' k q') := by
  rw [hp, hq]

/-- The four heads' products side by side. -/
theorem heads (x : Fin 1024 → EReal) (w : Heads) (w0 w1 w2 w3 : (⟨3, ![1, 256, 256]⟩ : Shape).Idx → EReal)
    (h0 : ∀ k q, w0 (ix3 0 k q) = w (ix3 0 k q)) (h1 : ∀ k q, w1 (ix3 0 k q) = w (ix3 1 k q))
    (h2 : ∀ k q, w2 (ix3 0 k q) = w (ix3 2 k q)) (h3 : ∀ k q, w3 (ix3 0 k q) = w (ix3 3 k q)) (l : Fin 1024) :
    (if h : l.val < 256 then ∑ k : Fin 256, x ⟨k.val, by omega⟩ * w0 (ix3 0 k ⟨l.val, h⟩)
      else if h' : l.val - 256 < 256 then ∑ k : Fin 256, x ⟨256 + k.val, by omega⟩ * w1 (ix3 0 k ⟨l.val - 256, h'⟩)
      else if h'' : l.val - 256 - 256 < 256 then ∑ k : Fin 256, x ⟨512 + k.val, by omega⟩ * w2 (ix3 0 k ⟨l.val - 256 - 256, h''⟩)
      else ∑ k : Fin 256, x ⟨768 + k.val, by omega⟩ * w3 (ix3 0 k ⟨l.val - 256 - 256 - 256, by omega⟩)) = mix x w l := by
  have at_head : ∀ (p : Fin 4) (q : Fin 256) (k : Fin 256) (n : ℕ) (hn : n < 1024), l.val = 256 * p.val + q.val → n = 256 * p.val + k.val →
      x ⟨n, hn⟩ * w (ix3 p k q) = w (ix3 ⟨l.val / 256, head_lt l⟩ k ⟨l.val % 256, lane_lt l⟩) * x ⟨l.val / 256 * 256 + k.val, col_lt l k⟩ := by
    intro p q k n hn hl hk
    rw [mul_comm]
    exact congrArg₂ (· * ·) (ix3_congr w (Fin.ext (by show p.val = l.val / 256; omega)) (Fin.ext (by show q.val = l.val % 256; omega)) k)
      (congrArg x (Fin.ext (by show n = l.val / 256 * 256 + k.val; omega)))
  unfold mix
  by_cases c0 : l.val < 256
  · rw [dif_pos c0]
    exact Finset.sum_congr rfl fun k _ => by rw [h0]; exact at_head 0 _ k _ _ (by show l.val = 256 * 0 + l.val; omega) (by show k.val = 256 * 0 + k.val; omega)
  · rw [dif_neg c0]
    by_cases c1 : l.val - 256 < 256
    · rw [dif_pos c1]
      exact Finset.sum_congr rfl fun k _ => by rw [h1]; exact at_head 1 _ k _ _ (by show l.val = 256 * 1 + (l.val - 256); omega) (by show 256 + k.val = 256 * 1 + k.val; omega)
    · rw [dif_neg c1]
      by_cases c2 : l.val - 256 - 256 < 256
      · rw [dif_pos c2]
        exact Finset.sum_congr rfl fun k _ => by rw [h2]; exact at_head 2 _ k _ _ (by show l.val = 256 * 2 + (l.val - 256 - 256); omega) (by show 512 + k.val = 256 * 2 + k.val; omega)
      · rw [dif_neg c2]
        exact Finset.sum_congr rfl fun k _ => by rw [h3]; exact at_head 3 _ k _ _ (by show l.val = 256 * 3 + (l.val - 256 - 256 - 256); omega) (by show 768 + k.val = 256 * 3 + k.val; omega)

end Cert.LruAForm

end
-- ==== Proof.LruATile.lean ====
module

public import proofs.«01_k».proof.Proof.Reals
public import proofs.«01_k».proof.Proof.LruAVal
public import proofs.«01_k».proof.Proof.LruAForm

/-! The tiles' decays and loads, place by place, and what the tiles leave one after the other. -/

@[expose] public section

set_option maxRecDepth 16384

noncomputable section

namespace Cert.LruATile

open Cert.KLruAIdeal Cert.KLruAIdeal.Gen Cert.LruAFrame Cert.LruALoop Cert.LruAScan Cert.LruAValue
open Idealize.ShloMosaic Idealize.ShloMosaic.TcCoe Idealize.SL.Sem
open Idealize.ShloMosaic.Pipeline (Dat)
open Cert.Halo (past past_inside past_outside)
open Cert.LruAForm (conv mix gate rate logDecay decay load hidden)

variable (m : (ℓ : Loc nD τ sig) → Buf (Elt Ideal) ℓ)

/-! ### The blocks a point reads -/

theorem idx : ∀ t : Fin cfg0.N, win0_0.index t = ![t.val, 0] ∧ win0_1.index t = ![t.val * 32 - 1, 0] ∧
    win0_2.index t = ![min (t.val * 32 + 32) 1023, 0] ∧ win0_3.index t = ![0, 0] ∧ win0_4.index t = ![0, 0] ∧
    win0_5.index t = ![0, 0, 0] ∧ win0_6.index t = ![0, 0, 0] ∧ win0_7.index t = ![0, 0] ∧ win0_8.index t = ![0, 0] ∧
    win0_9.index t = ![0, 0] ∧ win0_10.index t = ![t.val, 0] := by
  show ∀ t : Fin grid0.N, _
  decide +kernel

/-- Is the point the first one? -/
theorem first : ∀ t : Fin cfg0.N, Scalar.cmpi .eq (BitVec.ofNat 32 ((grid0.coords t) 0).val) 0#32 = if t.val = 0 then 1#1 else 0#1 :=
  (by decide +kernel : ∀ t : Fin grid0.N, Scalar.cmpi .eq (BitVec.ofNat 32 ((grid0.coords t) 0).val) 0#32 = if t.val = 0 then 1#1 else 0#1)
/-- Is it the last one? -/
theorem last : ∀ t : Fin cfg0.N, Scalar.cmpi .eq (BitVec.ofNat 32 ((grid0.coords t) 0).val) 31#32 = if t.val = 31 then 1#1 else 0#1 :=
  (by decide +kernel : ∀ t : Fin grid0.N, Scalar.cmpi .eq (BitVec.ofNat 32 ((grid0.coords t) 0).val) 31#32 = if t.val = 31 then 1#1 else 0#1)

/-- The arguments, as arrays of the launch. -/
def arg (c : Dev nD) : Cert.LruAForm.Args where
  z := m ((c : Thread nD τ).loc main_arg0)
  taps := m ((c : Thread nD τ).loc main_arg1)
  bias := m ((c : Thread nD τ).loc main_arg2)
  wa := m ((c : Thread nD τ).loc main_arg3)
  wx := m ((c : Thread nD τ).loc main_arg4)
  ba := m ((c : Thread nD τ).loc main_arg5)
  bx := m ((c : Thread nD τ).loc main_arg6)
  lam := m ((c : Thread nD τ).loc main_arg7)

theorem row_lt (t : Fin cfg0.N) (r : Fin 512) : t.val * 512 + r.val < 16384 := by
  have h : t.val < 32 := t.isLt
  omega

/-- Row `r` of point `t`'s block. -/
abbrev row (t : Fin cfg0.N) (r : Fin 512) : Fin 16384 := ⟨t.val * 512 + r.val, row_lt t r⟩

theorem before_lt (t : Fin cfg0.N) (r : Fin 16) : (t.val * 32 - 1) * 16 + r.val < 16384 := by
  have h : t.val < 32 := t.isLt
  omega
theorem after_lt (t : Fin cfg0.N) (r : Fin 16) : min (t.val * 32 + 32) 1023 * 16 + r.val < 16384 := by
  omega

theorem blk0 (c : Dev nD) (t : Fin cfg0.N) (r : Fin 512) (l : Fin 1024) : iblk m c 0 t (ix2 r l) = (arg m c).z (ix2 (row t r) l) := by
  blk_simp [iblk]
  refine congrArg ((arg m c).z) ?_
  blk_ext [(idx t).1]
theorem blk1 (c : Dev nD) (t : Fin cfg0.N) (r : Fin 16) (l : Fin 1024) : iblk m c 1 t (ix2 r l) = (arg m c).z (ix2 ⟨_, before_lt t r⟩ l) := by
  blk_simp [iblk]
  refine congrArg ((arg m c).z) ?_
  blk_ext [(idx t).2.1]
theorem blk2 (c : Dev nD) (t : Fin cfg0.N) (r : Fin 16) (l : Fin 1024) : iblk m c 2 t (ix2 r l) = (arg m c).z (ix2 ⟨_, after_lt t r⟩ l) := by
  blk_simp [iblk]
  refine congrArg ((arg m c).z) ?_
  blk_ext [(idx t).2.2.1]
theorem blk3 (c : Dev nD) (t : Fin cfg0.N) (r : Fin 4) (l : Fin 1024) : iblk m c 3 t (ix2 r l) = (arg m c).taps (ix2 r l) := by
  blk_simp [iblk]
  refine congrArg ((arg m c).taps) ?_
  blk_ext [(idx t).2.2.2.1]
theorem blk4 (c : Dev nD) (t : Fin cfg0.N) (l : Fin 1024) : iblk m c 4 t (ix2 0 l) = (arg m c).bias (ix2 0 l) := by
  blk_simp [iblk]
  refine congrArg ((arg m c).bias) ?_
  blk_ext [(idx t).2.2.2.2.1]
theorem blk7 (c : Dev nD) (t : Fin cfg0.N) (l : Fin 1024) : iblk m c 7 t (ix2 0 l) = (arg m c).ba (ix2 0 l) := by
  blk_simp [iblk]
  refine congrArg ((arg m c).ba) ?_
  blk_ext [(idx t).2.2.2.2.2.2.2.1]
theorem blk8 (c : Dev nD) (t : Fin cfg0.N) (l : Fin 1024) : iblk m c 8 t (ix2 0 l) = (arg m c).bx (ix2 0 l) := by
  blk_simp [iblk]
  refine congrArg ((arg m c).bx) ?_
  blk_ext [(idx t).2.2.2.2.2.2.2.2.1]
theorem blk9 (c : Dev nD) (t : Fin cfg0.N) (l : Fin 1024) : iblk m c 9 t (ix2 0 l) = (arg m c).lam (ix2 0 l) := by
  blk_simp [iblk]
  refine congrArg ((arg m c).lam) ?_
  blk_ext [(idx t).2.2.2.2.2.2.2.2.2.1]
theorem blk5 (c : Dev nD) (t : Fin cfg0.N) (h : Fin 4) (k q : Fin 256) : iblk m c 5 t (ix3 h k q) = (arg m c).wa (ix3 h k q) := by
  blk_simp [iblk]
  refine congrArg ((arg m c).wa) ?_
  blk_ext [(idx t).2.2.2.2.2.1]
theorem blk6 (c : Dev nD) (t : Fin cfg0.N) (h : Fin 4) (k q : Fin 256) : iblk m c 6 t (ix3 h k q) = (arg m c).wx (ix3 h k q) := by
  blk_simp [iblk]
  refine congrArg ((arg m c).wx) ?_
  blk_ext [(idx t).2.2.2.2.2.2.1]

/-! ### The convolved rows -/

/-- A block `a` with the rows `b` before it and `d` behind it, all cut from one array. -/
theorem around (A : Cert.Halo.Rows) (t : Fin cfg0.N) (a : S512x1024.Idx → EReal) (b d : S16x1024.Idx → EReal)
    (ha : ∀ r l, a (ix2 r l) = A (ix2 (row t r) l)) (hb : ∀ r l, b (ix2 r l) = A (ix2 ⟨_, before_lt t r⟩ l))
    (hd : ∀ r l, d (ix2 r l) = A (ix2 ⟨_, after_lt t r⟩ l)) (p q : ℕ) (hq : q < 516) (hp : p = 14 + q) (l : Fin 1024) :
    (if h : p < 16 then Scalar.select (Scalar.cmpi .eq (BitVec.ofNat 32 ((grid0.coords t) 0).val) 0#32) 0 (b (ix2 ⟨p, h⟩ l))
      else if h' : p - 16 < 512 then a (ix2 ⟨p - 16, h'⟩ l)
      else Scalar.select (Scalar.cmpi .eq (BitVec.ofNat 32 ((grid0.coords t) 0).val) 31#32) 0 (d (ix2 ⟨p - 16 - 512, by omega⟩ l))) =
    past A (t.val * 512 + q) l := by
  have ht : t.val < 32 := t.isLt
  rw [first t, last t]
  by_cases h : p < 16
  · rw [dif_pos h]
    by_cases h0 : t.val = 0
    · rw [if_pos h0, past_outside _ _ _ (by omega)]
      rfl
    · rw [if_neg h0, past_inside A _ l ⟨_, before_lt t ⟨p, h⟩⟩ (by show (t.val * 32 - 1) * 16 + p + 2 = _; omega)]
      exact hb _ _
  · rw [dif_neg h]
    by_cases h' : p - 16 < 512
    · rw [dif_pos h', ha, past_inside A _ l (row t ⟨p - 16, h'⟩) (by show t.val * 512 + (p - 16) + 2 = _; omega)]
    · rw [dif_neg h']
      by_cases h0 : t.val = 31
      · rw [if_pos h0, past_outside _ _ _ (by omega)]
        rfl
      · rw [if_neg h0, past_inside A _ l ⟨_, after_lt t ⟨p - 16 - 512, by omega⟩⟩
          (by show min (t.val * 32 + 32) 1023 * 16 + (p - 16 - 512) + 2 = _; omega)]
        exact hd _ _

theorem first_last (z a b d e : EReal) : z + a + b + d + e = a + b + d + e + z := by abel

theorem pay9_eq (A : Cert.Halo.Rows) (t : Fin cfg0.N) (a : FVec Ideal S512x1024 .bf16) (b d : FVec Ideal S16x1024 .bf16) (w : FVec Ideal S4x1024 .f32)
    (z : FVec Ideal S1x1024 .f32) (ha : ∀ r l, a (ix2 r l) = A (ix2 (row t r) l)) (hb : ∀ r l, b (ix2 r l) = A (ix2 ⟨_, before_lt t r⟩ l))
    (hd : ∀ r l, d (ix2 r l) = A (ix2 ⟨_, after_lt t r⟩ l)) (r : Fin 512) (l : Fin 1024) :
    k0_pay9 (F := Ideal) (grid0.coords t) a b d w z (ix2 r l) = z (ix2 0 l) + past A (t.val * 512 + r.val) l * w (ix2 0 l) +
      past A (t.val * 512 + r.val + 1) l * w (ix2 1 l) + past A (t.val * 512 + r.val + 2) l * w (ix2 2 l) + past A (t.val * 512 + r.val + 3) l * w (ix2 3 l) := by
  pointwise [k0_pay9]
  exact congrArg₂ (· + ·) (congrArg₂ (· + ·) (congrArg₂ (· + ·) (congrArg (z (ix2 0 l) + ·)
    (congrArg (· * w (ix2 0 l)) (around A t a b d ha hb hd ((16 + r.val + 544 - 2) % 544) r.val (by omega) (by omega) l)))
    (congrArg (· * w (ix2 1 l)) (around A t a b d ha hb hd ((16 + r.val + 544 - 1) % 544) (r.val + 1) (by omega) (by omega) l)))
    (congrArg (· * w (ix2 2 l)) ((ha r l).trans (past_inside A _ l (row t r) rfl).symm)))
    (congrArg (· * w (ix2 3 l)) (around A t a b d ha hb hd ((16 + r.val + 544 - 543) % 544) (r.val + 3) (by omega) (by omega) l))

theorem Xt_eq (c : Dev nD) (t : Fin cfg0.N) (r : Fin 512) (l : Fin 1024) : Xt m c t (ix2 r l) = conv (arg m c) (t.val * 512 + r.val) l := by
  refine (pay9_eq (arg m c).z t _ _ _ _ _ (blk0 m c t) (blk1 m c t) (blk2 m c t) r l).trans ?_
  rw [blk3, blk3, blk3, blk3, blk4, first_last]
  rfl

/-! ### The gates -/

theorem Wa_eq (c : Dev nD) (t : Fin cfg0.N) (h : Fin 4) (inb) (k q : Fin 256) : Wa m c t h.val inb (ix3 0 k q) = (arg m c).wa (ix3 h k q) :=
  (View.ld_unit_apply_of (iblk m c 5 t) ![h.val, 0, 0] ![1, 256, 256] inb (ix3 0 k q) (ix3 h k q) (fun a => by
    fin_cases a
    · show h.val = h.val + 0; omega
    · show k.val = 0 + k.val; omega
    · show q.val = 0 + q.val; omega)).trans (blk5 m c t h k q)
theorem Wx_eq (c : Dev nD) (t : Fin cfg0.N) (h : Fin 4) (inb) (k q : Fin 256) : Wx m c t h.val inb (ix3 0 k q) = (arg m c).wx (ix3 h k q) :=
  (View.ld_unit_apply_of (iblk m c 6 t) ![h.val, 0, 0] ![1, 256, 256] inb (ix3 0 k q) (ix3 h k q) (fun a => by
    fin_cases a
    · show h.val = h.val + 0; omega
    · show k.val = 0 + k.val; omega
    · show q.val = 0 + q.val; omega)).trans (blk6 m c t h k q)

/-- The number one half, as the gates write it. -/
abbrev half : EReal := Ideal.ofBits .f32 1056964608#32

theorem pay20_eq (x : S512x1024.Idx → EReal) (ba : Vec Ideal S1x1024 .f32) (w0 w1 w2 w3 : Vec Ideal S1x256x256 .bf16) (w : Cert.LruAForm.Heads)
    (h0 : ∀ k q, w0 (ix3 0 k q) = w (ix3 0 k q)) (h1 : ∀ k q, w1 (ix3 0 k q) = w (ix3 1 k q))
    (h2 : ∀ k q, w2 (ix3 0 k q) = w (ix3 2 k q)) (h3 : ∀ k q, w3 (ix3 0 k q) = w (ix3 3 k q)) (r : Fin 512) (l : Fin 1024) :
    (k0_pay20 (F := Ideal) x ba (k0_pay12 x w0) w1 w2 w3 (ix2 r l) + k0_pay21 (F := Ideal) (ix2 r l) : EReal) =
      Ideal.logistic (mix (fun q => x (ix2 r q)) w l + ba (ix2 0 l)) := by
  pointwise [k0_pay20, k0_pay12, k0_pay11, k0_pay14, k0_pay16, k0_pay18, k0_pay21]
  exact (congrArg (fun s : EReal => half * Ideal.tanh (half * (s + ba (ix2 0 l))) + half)
    (Cert.LruAForm.heads (fun q => x (ix2 r q)) w w0 w1 w2 w3 h0 h1 h2 h3 l)).trans (Cert.Reals.sig_eq_logistic _)

theorem pay25_eq (c8 : Vec Ideal S1x1024 .f32) (y z : S512x1024.Idx → EReal) (r : Fin 512) (l : Fin 1024) :
    k0_pay25 (F := Ideal) c8 y z (ix2 r l) = Ideal.exp (c8 (ix2 0 l) * (y (ix2 r l) + z (ix2 r l))) := by
  pointwise [k0_pay25, k0_pay22, k0_pay23]

theorem pay26_eq (x : S512x1024.Idx → EReal) (bx c8 : Vec Ideal S1x1024 .f32) (w0 w1 w2 w3 : Vec Ideal S1x256x256 .bf16) (w : Cert.LruAForm.Heads)
    (h0 : ∀ k q, w0 (ix3 0 k q) = w (ix3 0 k q)) (h1 : ∀ k q, w1 (ix3 0 k q) = w (ix3 1 k q))
    (h2 : ∀ k q, w2 (ix3 0 k q) = w (ix3 2 k q)) (h3 : ∀ k q, w3 (ix3 0 k q) = w (ix3 3 k q)) (y z : S512x1024.Idx → EReal) (r : Fin 512) (l : Fin 1024) :
    k0_pay26 (F := Ideal) x c8 bx (k0_pay13 x w0) (k0_pay15 x w1) (k0_pay17 x w2) (k0_pay19 x w3) y z (ix2 r l) =
      Ideal.logistic (mix (fun q => x (ix2 r q)) w l + bx (ix2 0 l)) * x (ix2 r l) *
        Ideal.sqrt ((0 - Ideal.tanh (c8 (ix2 0 l) * (y (ix2 r l) + z (ix2 r l)))) *
          (Ideal.exp (c8 (ix2 0 l) * (y (ix2 r l) + z (ix2 r l))) * Ideal.exp (c8 (ix2 0 l) * (y (ix2 r l) + z (ix2 r l))) + 1)) := by
  pointwise [k0_pay26, k0_pay12, k0_pay11, k0_pay14, k0_pay16, k0_pay18, k0_pay13, k0_pay15, k0_pay17, k0_pay19, k0_pay22, k0_pay23]
  refine congrArg (fun s : EReal => s * x (ix2 r l) * Ideal.sqrt ((0 - Ideal.tanh (c8 (ix2 0 l) * (y (ix2 r l) + z (ix2 r l)))) *
          (Ideal.exp (c8 (ix2 0 l) * (y (ix2 r l) + z (ix2 r l))) * Ideal.exp (c8 (ix2 0 l) * (y (ix2 r l) + z (ix2 r l))) + 1))) ?_
  exact (congrArg (fun s : EReal => half * Ideal.tanh (half * (s + bx (ix2 0 l))) + half)
    (Cert.LruAForm.heads (fun q => x (ix2 r q)) w w0 w1 w2 w3 h0 h1 h2 h3 l)).trans (Cert.Reals.sig_eq_logistic _)

/-- The parameter's exponential is not small. -/
abbrev Wide (c : Dev nD) : Prop :=
  ∀ l, Ideal.ofBits .f32 1008981770#32 ≤ Ideal.exp (-FloatOps.absf (F := Ideal) (φ := .f32) ((arg m c).lam (ix2 0 l)))

theorem rate_eq (c : Dev nD) (hw : Wide m c) (t : Fin cfg0.N) (l : Fin 1024) : k0_pay10 (F := Ideal) (iblk m c 9 t) (ix2 0 l) = rate ((arg m c).lam (ix2 0 l)) := by
  have e : ∀ x : Vec Ideal S1x1024 .f32, x (ix2 0 l) = (arg m c).lam (ix2 0 l) → k0_pay10 (F := Ideal) x (ix2 0 l) = rate ((arg m c).lam (ix2 0 l)) := by
    intro x hx
    pointwise [k0_pay10]
    have h := hw l
    rw [← hx] at h ⊢
    exact Cert.LruAForm.rate_eq _ _ h
  exact e _ (blk9 m c t l)

theorem gateA (c : Dev nD) (t : Fin cfg0.N) (r : Fin 512) (l : Fin 1024) :
    (Gt m c t (ix2 r l) + k0_pay21 (F := Ideal) (ix2 r l) : EReal) = gate (arg m c) (arg m c).wa (arg m c).ba (t.val * 512 + r.val) l := by
  refine (pay20_eq (Xt m c t) _ _ _ _ _ (arg m c).wa (Wa_eq m c t 0 _) (Wa_eq m c t 1 _) (Wa_eq m c t 2 _) (Wa_eq m c t 3 _) r l).trans ?_
  rw [blk7, gate, funext (fun q => Xt_eq m c t r q)]

theorem logDecay_eq (c : Dev nD) (hw : Wide m c) (t : Fin cfg0.N) (r : Fin 512) (l : Fin 1024) :
    (k0_pay10 (F := Ideal) (iblk m c 9 t) (ix2 0 l) * (Gt m c t (ix2 r l) + k0_pay21 (F := Ideal) (ix2 r l)) : EReal) =
      logDecay (arg m c) (t.val * 512 + r.val) l :=
  congrArg₂ (· * ·) (rate_eq m c hw t l) (gateA m c t r l)

theorem At_eq (c : Dev nD) (hw : Wide m c) (t : Fin cfg0.N) (r : Fin 512) (l : Fin 1024) : At m c t (ix2 r l) = decay (arg m c) (t.val * 512 + r.val) l :=
  (pay25_eq _ _ _ r l).trans (congrArg Ideal.exp (logDecay_eq m c hw t r l))

theorem lam_real (c : Dev nD) (hw : Wide m c) (l : Fin 1024) : ∃ r : ℝ, (arg m c).lam (ix2 0 l) = r := Cert.LruAForm.real_of_wide _ (hw l)

theorem At_real (c : Dev nD) (hw : Wide m c) (t : Fin cfg0.N) (i : S512x1024.Idx) : ∃ q : ℝ, 0 ≤ q ∧ At m c t i = q := by
  obtain ⟨r, l, rfl⟩ := at2 i
  rw [At_eq m c hw t r l]
  exact Cert.LruAForm.decay_real _ (lam_real m c hw) _ l

theorem Ut_eq (c : Dev nD) (hw : Wide m c) (t : Fin cfg0.N) (r : Fin 512) (l : Fin 1024) : Ut m c t (ix2 r l) = load (arg m c) (t.val * 512 + r.val) l := by
  refine (pay26_eq (Xt m c t) _ _ _ _ _ _ (arg m c).wx (Wx_eq m c t 0 _) (Wx_eq m c t 1 _) (Wx_eq m c t 2 _) (Wx_eq m c t 3 _) _ _ r l).trans ?_
  rw [logDecay_eq m c hw t r l, Cert.LruAForm.rest_eq (Cert.LruAForm.logDecay_real _ (lam_real m c hw) _ l), blk8, Xt_eq, funext (fun q => Xt_eq m c t r q)]
  rfl

/-! ### The tiles, one after the other -/

theorem H_eq (c : Dev nD) (hw : Wide m c) (t : Fin cfg0.N) (init : Vec Ideal S1x1024 .f32) (l : Fin 1024)
    (h : init (ix2 0 l) = hidden (arg m c) l (t.val * 512)) (n : ℕ) (hn : n ≤ 512) :
    H init (At m c t) (Ut m c t) l n = hidden (arg m c) l (t.val * 512 + n) := by
  refine (chain_congr h n fun i hi => ?_).trans (chain_add (fun n => decay (arg m c) n l) (fun n => load (arg m c) n l) 0 (t.val * 512) n)
  exact ⟨(rowN_of (At m c t) l ⟨i, by omega⟩).trans (At_eq m c hw t ⟨i, by omega⟩ l), (rowN_of (Ut m c t) l ⟨i, by omega⟩).trans (Ut_eq m c hw t ⟨i, by omega⟩ l)⟩

/-- What a tile leaves, when it is handed the recurrence's row before it. -/
theorem left_rows (c : Dev nD) (hw : Wide m c) (t : Fin cfg0.N) (init : Vec Ideal S1x1024 .f32) (o : Outs Ideal)
    (hi : ∀ l, init (ix2 0 l) = hidden (arg m c) l (t.val * 512)) (h : Left m c t init o) :
    (∀ l, o.2 (ix2 0 l) = hidden (arg m c) l (t.val * 512 + 512)) ∧ ∀ (r : Fin 512) l, o.1 (ix2 r l) = hidden (arg m c) l (t.val * 512 + r.val + 1) :=
  ⟨fun l => (h.1 l).trans (H_eq m c hw t init l (hi l) 512 le_rfl), fun r l => (h.2 r l).trans (H_eq m c hw t init l (hi l) (r.val + 1) (by omega))⟩

theorem pay24_eq (l : Fin 1024) : k0_pay24 (F := Ideal) (ix2 0 l) = 0 := by
  pointwise [k0_pay24]

theorem tiles (c : Dev nD) (hw : Wide m c) (n : ℕ) (hn : n < cfg0.N) :
    (∀ l, (outsAt0 m c n hn).2 (ix2 0 l) = hidden (arg m c) l (n * 512 + 512)) ∧
      ∀ (r : Fin 512) l, (outsAt0 m c n hn).1 (ix2 r l) = hidden (arg m c) l (n * 512 + r.val + 1) := by
  induction n with
  | zero =>
    rw [outsAt0_A m c ⟨0, hn⟩ (Nat.zero_mod _)]
    exact left_rows m c hw ⟨0, hn⟩ _ _ (fun l => (pay24_eq l).trans (by rw [Nat.zero_mul]; rfl)) (leftA m c ⟨0, hn⟩ (At_real m c hw _) _)
  | succ n ih =>
    have hN : n + 1 < 32 := hn
    have h0 : ¬ (n + 1) % 32 = 0 := by omega
    rw [outsAt0_B m c ⟨n + 1, hn⟩ h0]
    exact left_rows m c hw ⟨n + 1, hn⟩ _ _ (fun l => ((ih (Nat.lt_of_succ_lt hn)).1 l).trans (by show hidden _ l (n * 512 + 512) = hidden _ l ((n + 1) * 512); congr 1; omega))
      (leftB m c ⟨n + 1, hn⟩ (At_real m c hw _) h0 _)

/-- The result. -/
def res (c : Dev nD) : S16384x1024.Idx → EReal := fun i => hidden (arg m c) (i 1) ((i 0).val + 1)

theorem left10 (c : Dev nD) (hw : Wide m c) (t : Fin cfg0.N) (r : Fin 512) (l : Fin 1024) :
    (outsAt0 m c t.val t.isLt).1 (ix2 r l) = res m c (ix2 (row t r) l) := (tiles m c hw t.val t.isLt).2 r l

theorem final (c : Dev nD) (hw : Wide m c) : (dats m 0 c).arrAt 10 cfg0.N = res m c := by
  have key := left10 m c hw
  generalize res m c = R at key ⊢
  refine (dats m 0 c).arrAt_eq_of_covers 10 _ (by decide +kernel) fun t hf y => ?_
  blk_simp
  obtain ⟨r, l, rfl⟩ := at2 y
  have e : ((View.whole main_v0).slice (win0_10.rect t)).emb (ix2 r l) = ix2 (row t r) l := by
    blk_ext [(idx t).2.2.2.2.2.2.2.2.2.2]
  rw [after0_10, e]
  exact key t r l

end Cert.LruATile

end
-- ==== Proof.LruARef.lean ====
module

public import proofs.«01_k».proof.Proof.Gen.RLruAIdeal.Step
public import proofs.«01_k».proof.Proof.LruAForm
public import proofs.«01_k».proof.Proof.Halo
public import proofs.«01_k».proof.Proof.Norm
public import Idealize.ShloMosaic.Lib.Pipeline.ValueKit
public import Idealize.ShloMosaic.Lib.WordCmp

/-! What the recurrence's plain lines leave, place by place. -/

@[expose] public section

set_option maxRecDepth 16384

noncomputable section

namespace Cert.LruAReference

open Cert.RLruAIdeal Cert.RLruAIdeal.Step Cert.LruAScan Idealize.ShloMosaic Idealize.ShloMosaic.TcCoe Idealize.SL.Sem
open Cert.Halo (past past_inside past_outside)
open Cert.LruAForm (conv mix gate rate logDecay decay load hidden)

variable (x0 : (⟨S16384x1024, .bf16⟩ : BufTy).Contents (Elt Ideal)) (x1 : (⟨S4x1024, .f32⟩ : BufTy).Contents (Elt Ideal))
  (x2 : (⟨S1x1024, .f32⟩ : BufTy).Contents (Elt Ideal)) (x3 x4 : (⟨S4x256x256, .bf16⟩ : BufTy).Contents (Elt Ideal))
  (x5 x6 x7 : (⟨S1x1024, .f32⟩ : BufTy).Contents (Elt Ideal))

/-- The forward lines' padded array. -/
theorem v3_eq (p : Fin 16387) (l : Fin 1024) : A_main_v3 (F := Ideal) x0 x1 x2 x3 x4 x5 x6 x7 (ix2 p l) = past x0 p.val l := by
  pointwise [A_main_v3, A_main_v0, K_main_v1, K_main_v2, K_main_cst, K_main_cst_0]
  rw [past]
  by_cases h : p.val < 2
  · rw [dif_pos h, dif_neg (by omega)]
  · by_cases h' : p.val - 2 < 16384
    · rw [dif_neg h, dif_pos h', dif_pos ⟨by omega, by omega⟩]
    · rw [dif_neg h, dif_neg h', dif_neg (by omega)]

/-- The arguments, together. -/
abbrev args : Cert.LruAForm.Args := ⟨x0, x1, x2, x3, x4, x5, x6, x7⟩

theorem v3_at (k r : ℕ) (h : k + r < 16387) (l : Fin 1024) : A_main_v3 (F := Ideal) x0 x1 x2 x3 x4 x5 x6 x7 (ix2 ⟨k + r, h⟩ l) = past x0 (r + k) l :=
  (v3_eq x0 x1 x2 x3 x4 x5 x6 x7 ⟨k + r, h⟩ l).trans (congrArg (fun n => past x0 n l) (Nat.add_comm k r))

theorem v32_eq (r : Fin 16384) (l : Fin 1024) :
    A_main_v32 (F := Ideal) x0 x1 x2 x3 x4 x5 x6 x7 (ix2 r l) = conv (args x0 x1 x2 x3 x4 x5 x6 x7) r.val l := by
  pointwise [A_main_v32, A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, A_main_v11, A_main_v10, A_main_v9, A_main_v8, A_main_v7, A_main_v6, A_main_v5, A_main_v4]
  exact congrArg (· + x2 (ix2 0 l)) (congrArg₂ (· + ·) (congrArg₂ (· + ·) (congrArg₂ (· + ·)
    (congrArg (· * x1 (ix2 0 l)) (v3_eq x0 x1 x2 x3 x4 x5 x6 x7 ⟨r.val, by omega⟩ l))
    (congrArg (· * x1 (ix2 1 l)) (v3_at x0 x1 x2 x3 x4 x5 x6 x7 1 r.val (by omega) l)))
    (congrArg (· * x1 (ix2 2 l)) (v3_at x0 x1 x2 x3 x4 x5 x6 x7 2 r.val (by omega) l)))
    (congrArg (· * x1 (ix2 3 l)) (v3_at x0 x1 x2 x3 x4 x5 x6 x7 3 r.val (by omega) l)))

theorem v45_eq (r : Fin 16384) (l : Fin 1024) :
    A_main_v45 (F := Ideal) x0 x1 x2 x3 x4 x5 x6 x7 (ix2 r l) = gate (args x0 x1 x2 x3 x4 x5 x6 x7) x3 x5 r.val l := by
  pointwise [A_main_v45, A_main_v43, A_main_v41, A_main_v40, A_main_v39, A_main_v38, A_main_v37, A_main_v36, A_main_v35, A_main_v34, A_main_v33, K_main_v44, K_main_cst_2, K_main_v42, K_main_cst_1]
  exact congrArg Ideal.logistic (congrArg (· + x5 (ix2 0 l)) (Finset.sum_congr rfl fun k _ =>
    congrArg (x3 (ix3 ⟨l.val / 256, Cert.LruAForm.head_lt l⟩ k ⟨l.val % 256, Cert.LruAForm.lane_lt l⟩) * ·) (v32_eq x0 x1 x2 x3 x4 x5 x6 x7 r ⟨l.val / 256 * 256 + k.val, Cert.LruAForm.col_lt l k⟩)))

theorem v57_eq (r : Fin 16384) (l : Fin 1024) :
    A_main_v57 (F := Ideal) x0 x1 x2 x3 x4 x5 x6 x7 (ix2 r l) = gate (args x0 x1 x2 x3 x4 x5 x6 x7) x4 x6 r.val l := by
  pointwise [A_main_v57, A_main_v55, A_main_v53, A_main_v52, A_main_v51, A_main_v50, A_main_v49, A_main_v48, A_main_v47, A_main_v46, A_main_v33, K_main_v56, K_main_cst_4, K_main_v54, K_main_cst_3]
  exact congrArg Ideal.logistic (congrArg (· + x6 (ix2 0 l)) (Finset.sum_congr rfl fun k _ =>
    congrArg (x4 (ix3 ⟨l.val / 256, Cert.LruAForm.head_lt l⟩ k ⟨l.val % 256, Cert.LruAForm.lane_lt l⟩) * ·) (v32_eq x0 x1 x2 x3 x4 x5 x6 x7 r ⟨l.val / 256 * 256 + k.val, Cert.LruAForm.col_lt l k⟩)))

theorem v61_eq (l : Fin 1024) : A_main_v61 (F := Ideal) x0 x1 x2 x3 x4 x5 x6 x7 (ix2 0 l) = rate (x7 (ix2 0 l)) := by
  pointwise [A_main_v61, A_main_v59, A_main_v58, A_main_call0_v1, A_main_call0_v3, A_main_call0_v4, A_main_call0_v6, A_main_call0_v7, A_main_call0_v8, A_main_call0_v9, A_main_call0_v10, A_main_call0_v11, K_main_call0_v0, K_main_call0_v2, K_main_call0_v5, K_main_call0_cst, K_main_v60, K_main_cst_5]
  exact congrArg (Ideal.ofBits .f32 3238002688#32 * ·) (if_neg (not_not.mpr rfl))

theorem v62_eq (r : Fin 16384) (l : Fin 1024) :
    A_main_v61 (F := Ideal) x0 x1 x2 x3 x4 x5 x6 x7 (ix2 0 l) * A_main_v45 (F := Ideal) x0 x1 x2 x3 x4 x5 x6 x7 (ix2 r l) =
      logDecay (args x0 x1 x2 x3 x4 x5 x6 x7) r.val l := by
  rw [v61_eq, v45_eq]
  rfl

theorem v64_eq (r : Fin 16384) (l : Fin 1024) :
    A_main_v64 (F := Ideal) x0 x1 x2 x3 x4 x5 x6 x7 (ix2 r l) = decay (args x0 x1 x2 x3 x4 x5 x6 x7) r.val l := by
  pointwise [A_main_v64, A_main_v63, A_main_v62]
  exact congrArg Ideal.exp (v62_eq x0 x1 x2 x3 x4 x5 x6 x7 r l)

theorem v71_eq (r : Fin 16384) (l : Fin 1024) :
    A_main_v71 (F := Ideal) x0 x1 x2 x3 x4 x5 x6 x7 (ix2 r l) = load (args x0 x1 x2 x3 x4 x5 x6 x7) r.val l := by
  pointwise [A_main_v71, A_main_v70, A_main_v69, A_main_v68, A_main_v67, A_main_v65, A_main_v63, A_main_v62, K_main_v66, K_main_cst_6]
  exact congrArg₂ (· * ·) (congrArg₂ (· * ·) (v57_eq x0 x1 x2 x3 x4 x5 x6 x7 r l) (v32_eq x0 x1 x2 x3 x4 x5 x6 x7 r l))
    (congrArg (fun x => Ideal.sqrt (-(Ideal.exp (Ideal.ofBits .f32 1073741824#32 * x) - 1))) (v62_eq x0 x1 x2 x3 x4 x5 x6 x7 r l))

/-! ### The trips -/

theorem word_row (n : ℕ) (h : n < 16384) : (BitVec.ofNat 32 n).toInt = (n : ℤ) := Idealize.ShloMosaic.WordCmp.toInt_ofNat_of_lt (by omega)

theorem clamp_row (n : ℕ) (h : n < 16384) : (min (max (BitVec.ofNat 32 n).toInt 0) ((16384 - 1 : ℕ) : ℤ)).toNat = n := by
  rw [word_row n h]
  omega

/-- The rows a trip reads. -/
theorem b2_eq (n : ℕ) (h : n < 16384) (s : State Ideal) (l : Fin 1024) : b2 n s (ix1 l) = s.main_v74_0 (ix2 ⟨n, h⟩ l) := by
  pointwise [b2]
  unfold b1 Host.dynamicSlice
  refine congrArg s.main_v74_0 (funext fun a => Fin.ext ?_)
  match a with
  | ⟨0, _⟩ =>
    show (min (max (BitVec.ofNat 32 n).toInt 0) ((16384 - 1 : ℕ) : ℤ)).toNat + 0 = n
    rw [clamp_row n h, Nat.add_zero]
  | ⟨1, _⟩ =>
    show (min (max (BitVec.toInt (0#32 : BitVec 32)) 0) ((1024 - 1024 : Nat) : Int)).toNat + l.val = l.val
    simp
theorem b5_eq (n : ℕ) (h : n < 16384) (s : State Ideal) (l : Fin 1024) : b5 n s (ix1 l) = s.main_v74_1 (ix2 ⟨n, h⟩ l) := by
  pointwise [b5]
  unfold b4 Host.dynamicSlice
  refine congrArg s.main_v74_1 (funext fun a => Fin.ext ?_)
  match a with
  | ⟨0, _⟩ =>
    show (min (max (BitVec.ofNat 32 n).toInt 0) ((16384 - 1 : ℕ) : ℤ)).toNat + 0 = n
    rw [clamp_row n h, Nat.add_zero]
  | ⟨1, _⟩ =>
    show (min (max (BitVec.toInt (0#32 : BitVec 32)) 0) ((1024 - 1024 : Nat) : Int)).toNat + l.val = l.val
    simp

theorem b7_eq (n : ℕ) (h : n < 16384) (s : State Ideal) (l : Fin 1024) :
    b7 n s (ix1 l) = s.main_v74_0 (ix2 ⟨n, h⟩ l) * s.main_v74_3 (ix1 l) + s.main_v74_1 (ix2 ⟨n, h⟩ l) := by
  pointwise [b7, b6]
  exact congrArg₂ (· + ·) (congrArg (· * s.main_v74_3 (ix1 l)) (b2_eq n h s l)) (b5_eq n h s l)

theorem slices_row (n : ℕ) (h : n < 16384) : S16384x1024.Slices ![n, 0] S1x1024 := ⟨rfl, fun a => by
  fin_cases a
  · show n + 1 ≤ 16384; omega
  · show 0 + 1024 ≤ 1024; omega⟩

/-- The result with the trip's row written. -/
theorem b10_eq (n : ℕ) (h : n < 16384) (s : State Ideal) (r : Fin 16384) (l : Fin 1024) :
    b10 n s (ix2 r l) = if r.val = n then b7 n s (ix1 l) else s.main_v74_4 (ix2 r l) := by
  unfold b10
  rw [Idealize.ShloMosaic.WordCmp.dynamicUpdateSlice_eq_update _ _ _ _ ![n, 0] (slices_row n h) (by
    intro a
    fin_cases a
    · exact word_row n h
    · rfl)]
  unfold updateSlice
  by_cases e : r.val = n
  · rw [if_pos e, dif_pos (by
      intro a
      fin_cases a
      · show n ≤ r.val ∧ r.val < n + 1; omega
      · show 0 ≤ l.val ∧ l.val < 0 + 1024; omega)]
    unfold b8 broadcastInDim
    refine congrArg (b7 n s) (funext fun a => Fin.ext ?_)
    fin_cases a
    rfl
  · rw [if_neg e, dif_neg (by
      intro hh
      have h0 : n ≤ r.val ∧ r.val < n + 1 := hh 0
      omega)]

/-- The states of the arguments, trip after trip. -/
theorem trips (s : ℕ → State Ideal) (s0 : s 0 = init x0 x1 x2 x3 x4 x5 x6 x7) (next : ∀ n, s (n + 1) = step n (s n)) (n : ℕ) (h : n ≤ 16384) :
    (s n).main_v74_0 = A_main_v64 x0 x1 x2 x3 x4 x5 x6 x7 ∧ (s n).main_v74_1 = A_main_v71 x0 x1 x2 x3 x4 x5 x6 x7 ∧
      (∀ l, (s n).main_v74_3 (ix1 l) = hidden (args x0 x1 x2 x3 x4 x5 x6 x7) l n) ∧
      ∀ (r : Fin 16384) l, r.val < n → (s n).main_v74_4 (ix2 r l) = hidden (args x0 x1 x2 x3 x4 x5 x6 x7) l (r.val + 1) := by
  induction n with
  | zero =>
    rw [s0]
    refine ⟨rfl, rfl, fun l => ?_, fun r l hr => absurd hr (by omega)⟩
    show K_main_v72 (F := Ideal) (ix1 l) = 0
    pointwise [K_main_v72, K_main_cst_7]
  | succ n ih =>
    obtain ⟨e0, e1, e3, e4⟩ := ih (by omega)
    have hn : n < 16384 := by omega
    have row : ∀ l, b7 n (s n) (ix1 l) = hidden (args x0 x1 x2 x3 x4 x5 x6 x7) l (n + 1) := by
      intro l
      rw [b7_eq n hn, e0, e1, e3, v64_eq, v71_eq]
      rfl
    rw [next]
    refine ⟨e0, e1, fun l => ?_, fun r l hr => ?_⟩
    · rw [step_main_v74_3]
      exact row l
    · rw [step_main_v74_4, b10_eq n hn]
      by_cases e : r.val = n
      · rw [if_pos e, row, e]
      · rw [if_neg e]
        exact e4 r l (by omega)

/-- The reference's result. -/
theorem result (s : ℕ → State Ideal) (s0 : s 0 = init x0 x1 x2 x3 x4 x5 x6 x7) (next : ∀ n, s (n + 1) = step n (s n)) :
    (s 16384).main_v74_4 = fun i => hidden (args x0 x1 x2 x3 x4 x5 x6 x7) (i 1) ((i 0).val + 1) := by
  exact ext2 fun r l => (trips x0 x1 x2 x3 x4 x5 x6 x7 s s0 next 16384 le_rfl).2.2.2 r l r.isLt

end Cert.LruAReference

end
-- ==== Proof.LruARefRun.lean ====
module

public import proofs.«01_k».proof.Proof.Gen.RLruAIdeal.Run
public import proofs.«01_k».proof.Proof.Gen.RLruAIdeal.Step

/-! The recurrence's plain lines run: their result is the loop's last state. -/

@[expose] public section

noncomputable section

namespace Cert.LruARefRun

open Idealize.ShloMosaic Idealize.ShloMosaic.TcCoe Idealize.SL.Sem Idealize.ShloMosaic.StableHlo
open Cert.RLruAIdeal Cert.RLruAIdeal.Gen Cert.RLruAIdeal.Value
open Cert.RLruAIdeal.Step (State step init b0 b1 b2 b3 b4 b5 b6 b7 b8 b9 b10)

variable {F : FTy → Type} [FloatOps F]

/-- The host's buffers before trip `j`: the state `s` and the trip's number. -/
structure Hosts (V : Valuation τ sig (Elt F)) (s : State F) (j : ℕ) : Prop where
  carry : V (Proc.devRef .tc main_v74_3) = s.main_v74_3
  out : V (Proc.devRef .tc main_v74_4) = s.main_v74_4
  decays : V (Proc.devRef .tc main_v74_0) = s.main_v74_0
  loads : V (Proc.devRef .tc main_v74_1) = s.main_v74_1
  count : V (Proc.devRef .tc main_v74_2) = constantI S_ 32 (BitVec.ofNat 32 j)

theorem Hosts.next {V : Valuation τ sig (Elt F)} {s : State F} {j : ℕ} (h : Hosts V s j) : Hosts (STEP V) (step j s) (j + 1) := by
  obtain ⟨s3, s4, s0, s1⟩ := s
  obtain ⟨h3, h4, h0, h1, hn⟩ := h
  dsimp only at h3 h4 h0 h1
  subst h3 h4 h0 h1
  constructor
  · refine (STEP_main_v74_3 V).trans ?_
    unfold step_main_v74_3 res_main_while0b_v78
    simp only [hn]
    rfl
  · refine (STEP_main_v74_4 V).trans ?_
    unfold step_main_v74_4 res_main_while0b_v78
    simp only [hn]
    rfl
  · exact STEP_main_v74_0 V
  · exact STEP_main_v74_1 V
  · refine (STEP_main_v74_2 V).trans ?_
    unfold step_main_v74_2
    rw [hn]
    funext i
    show BitVec.ofNat 32 j + 1#32 = BitVec.ofNat 32 (j + 1)
    simp only [BitVec.ofNat_add]

/-- The states, trip after trip, of the arguments the run starts from. -/
def states (m : (ℓ : Loc nD τ sig) → Buf (Elt F) ℓ) (c : Dev nD) : ℕ → State F
  | 0 => init (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7))
  | n + 1 => step n (states m c n)

set_option maxRecDepth 65536 in
set_option maxHeartbeats 1000000 in
theorem entry (m : (ℓ : Loc nD τ sig) → Buf (Elt F) ℓ) (c : Dev nD) : Hosts (entryContents preI m c) (states m c 0) 0 := by
  constructor <;> (simp only [entryContents, afterL_cons, afterL_nil]; after_reads_simp) <;> rfl

theorem hosts (m : (ℓ : Loc nD τ sig) → Buf (Elt F) ℓ) (c : Dev nD) (k : ℕ) : Hosts (STEP^[k] (entryContents preI m c)) (states m c k) k := by
  induction k with
  | zero => exact entry m c
  | succ k ih =>
    rw [Function.iterate_succ_apply']
    exact ih.next

/-- The run: the result is the last state's, the arguments are kept. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v74_4) = (states m c 16384).main_v74_4 ∧
        (r.2.mem ((c.tc : Thread nD τ).loc main_arg0) = m ((c.tc : Thread nD τ).loc main_arg0) ∧
          r.2.mem ((c.tc : Thread nD τ).loc main_arg1) = m ((c.tc : Thread nD τ).loc main_arg1) ∧
          r.2.mem ((c.tc : Thread nD τ).loc main_arg2) = m ((c.tc : Thread nD τ).loc main_arg2) ∧
          r.2.mem ((c.tc : Thread nD τ).loc main_arg3) = m ((c.tc : Thread nD τ).loc main_arg3) ∧
          r.2.mem ((c.tc : Thread nD τ).loc main_arg4) = m ((c.tc : Thread nD τ).loc main_arg4) ∧
          r.2.mem ((c.tc : Thread nD τ).loc main_arg5) = m ((c.tc : Thread nD τ).loc main_arg5) ∧
          r.2.mem ((c.tc : Thread nD τ).loc main_arg6) = m ((c.tc : Thread nD τ).loc main_arg6) ∧
          r.2.mem ((c.tc : Thread nD τ).loc main_arg7) = m ((c.tc : Thread nD τ).loc main_arg7)) :=
  (θ_run defs _ _).mono (fun _ h c => ⟨(h c).1.trans (hosts m c 16384).out, (h c).2⟩) (Value.run m ρ)

end Cert.LruARefRun

end
-- ==== Proof.LruAClaim.lean ====
module

public import proofs.«01_k».proof.Proof.LruATile
public import proofs.«01_k».proof.Proof.LruARef
public import proofs.«01_k».proof.Proof.LruARefRun
public import proofs.«01_k».proof.Proof.Finite
public import proofs.«01_k».proof.Defs
public import Idealize.ShloMosaic.Lib.Quiescent

/-! The gated recurrence's forward call and its plain lines: the two runs put beside each other. -/

@[expose] public section

set_option maxRecDepth 16384

noncomputable section

namespace Cert.LruAClaim

open Idealize.ShloMosaic Idealize.SL.Sem

/-- The precondition's shape relation. -/
instance preFacts : Cert.Pre_wide_lrua.Facts := ⟨by decide⟩

/-- The reference runs and leaves its arguments. -/
theorem refFrame : Cert.quiescent_RLruAIdeal (hRLruAIdeal := Cert.RLruAIdeal.Gen.facts) := fun m ρ _ =>
  (θ_run _ _ _).mono (fun r h => ⟨fun c => (h c).2, sem_eq_zero_of_no_sems (by decide) r.2⟩) (LruARefRun.run (F := Ideal) m ρ)

/-- What the precondition says of the recurrence's parameter. -/
theorem wide_of_pre (x0 x1 x2 x3 x4 x5 x6 x7) (h : Cert.Pre_wide_lrua.fn (F := Ideal) x0 x1 x2 x3 x4 x5 x6 x7 = fun _ => 1#1) (l : Fin 1024) :
    Ideal.ofBits .f32 1008981770#32 ≤ Ideal.exp (-FloatOps.absf (F := Ideal) (φ := .f32) (x7 (ix2 0 l))) := by
  have := congrFun h (ix2 0 l)
  revert this
  pointwise [Cert.Pre_wide_lrua.fn]
  intro h
  exact of_decide_eq_true (Finite.of_bit.mp h)

/-- Kernel and reference end with the same result. -/
theorem algebraic : Cert.algebraic_KLruAIdeal_RLruAIdeal_pre_wide_lrua (hKLruAIdeal := Cert.KLruAIdeal.Gen.facts)
    (hRLruAIdeal := Cert.RLruAIdeal.Gen.facts) (hPre_wide_lrua := preFacts) := by
  intro m g m' g' hp hag
  refine ⟨fun c => LruATile.res m c, ?_, ?_⟩
  · refine (θ_run _ _ _).mono (fun r h c => ?_) (LruAFrame.run_blocks (F := Ideal) m g)
    obtain ⟨h0, ha⟩ := h c
    exact ⟨h0.trans (LruATile.final m c (wide_of_pre _ _ _ _ _ _ _ _ (hp c))), ha⟩
  · refine (θ_run _ _ _).mono (fun r h c => ?_) (LruARefRun.run (F := Ideal) m' g')
    obtain ⟨h0, ha⟩ := h c
    obtain ⟨e0, e1, e2, e3, e4, e5, e6, e7⟩ := hag c
    refine ⟨h0.trans ?_, ha⟩
    rw [LruAReference.result _ _ _ _ _ _ _ _ (LruARefRun.states m' c) rfl fun n => rfl, e0, e1, e2, e3, e4, e5, e6, e7]
    rfl

end Cert.LruAClaim

end
-- ==== Proof.LruDLoop.lean ====
module

public import proofs.«01_k».proof.Proof.LruAScan
public import proofs.«01_k».proof.Proof.Gen.KLruDIdeal.Loops
public import Idealize.ShloMosaic.Lib.Pipeline.ValueKit

/-! The loop over a tile's rows: what its trips have written, and the state they hand on. -/

@[expose] public section

set_option maxRecDepth 16384

noncomputable section

namespace Cert.LruDLoop

open Cert.KLruDIdeal Cert.KLruDIdeal.Gen Cert.LruAScan
open Idealize.ShloMosaic Idealize.SL.Sem Idealize.ShloMosaic.TcCoe

/-- Each place's row among eight. -/
abbrev places : IVec S8x1024 32 := iota .tc S8x1024 32 [0] iota_S8x1024_d0_w32

theorem row_ge1 : ∀ r : Fin 8, Scalar.cmpi .slt (BitVec.ofNat 32 r.rev.val) 7#32 = if 1 ≤ r.val then 1#1 else 0#1 := by decide
theorem row_ge2 : ∀ r : Fin 8, Scalar.cmpi .slt (BitVec.ofNat 32 r.rev.val) 6#32 = if 2 ≤ r.val then 1#1 else 0#1 := by decide
theorem row_ge4 : ∀ r : Fin 8, Scalar.cmpi .slt (BitVec.ofNat 32 r.rev.val) 4#32 = if 4 ≤ r.val then 1#1 else 0#1 := by decide

/-- The row a rotation brings, counted from below. -/
theorem from1 : ∀ r : Fin 8, (⟨(r.rev.val + 8 - 7) % 8, Nat.mod_lt _ (by decide)⟩ : Fin 8) = (back 1 r).rev := by decide
theorem from2 : ∀ r : Fin 8, (⟨(r.rev.val + 8 - 6) % 8, Nat.mod_lt _ (by decide)⟩ : Fin 8) = (back 2 r).rev := by decide
theorem from4 : ∀ r : Fin 8, (⟨(r.rev.val + 8 - 4) % 8, Nat.mod_lt _ (by decide)⟩ : Fin 8) = (back 4 r).rev := by decide

theorem choose {c : BitVec 1} {P : Prop} [Decidable P] (h : c = if P then 1#1 else 0#1) (x y : EReal) :
    Scalar.select c x y = if P then x else y := by
  subst h
  by_cases hP : P
  · rw [if_pos hP, if_pos hP]; rfl
  · rw [if_neg hP, if_neg hP]; rfl

theorem choose_mul {c : BitVec 1} {P : Prop} [Decidable P] (h : c = if P then 1#1 else 0#1) (a x : EReal) :
    Scalar.select c (a * x) 0 = a * if P then x else 0 := by
  rw [choose h]
  by_cases hP : P
  · rw [if_pos hP, if_pos hP]
  · rw [if_neg hP, if_neg hP, mul_zero]

/-- One doubling of the kernel: the products, -/
def stepA (n : BitVec 32) (A : Vec Ideal S8x1024 .f32) : Vec Ideal S8x1024 .f32 :=
  mulf A (select (cmpi .slt places (broadcast S8x1024 n)) (dynamicRotate 0 n none A rotates_S8x1024_d0)
    (broadcast S8x1024 (Scalar.ofBits (F := Ideal) .f32 0x3F800000#32)))
/-- and what the rows add. -/
def stepU (n : BitVec 32) (A U : Vec Ideal S8x1024 .f32) : Vec Ideal S8x1024 .f32 :=
  addf (mulf A (select (cmpi .slt places (broadcast S8x1024 n)) (dynamicRotate 0 n none U rotates_S8x1024_d0)
    (broadcast S8x1024 (Scalar.ofBits (F := Ideal) .f32 0x00000000#32)))) U

theorem stepA1 (A : Vec Ideal S8x1024 .f32) (r : Fin 8) (l : Fin 1024) :
    stepA 7#32 A (ix2 r.rev l) = twiceA 1 (fun q => A (ix2 q.rev l)) r := by
  pointwise [stepA, places]
  exact congrArg (A (ix2 r.rev l) * ·) ((choose (row_ge1 r) _ _).trans (congrArg (fun q : Fin 8 => if 1 ≤ r.val then A (ix2 q l) else 1) (from1 r)))
theorem stepU1 (A U : Vec Ideal S8x1024 .f32) (r : Fin 8) (l : Fin 1024) :
    stepU 7#32 A U (ix2 r.rev l) = twiceU 1 (fun q => A (ix2 q.rev l)) (fun q => U (ix2 q.rev l)) r := by
  pointwise [stepU, places]
  exact congrArg (· + U (ix2 r.rev l)) ((choose_mul (row_ge1 r) _ _).trans
    (congrArg (fun q : Fin 8 => A (ix2 r.rev l) * if 1 ≤ r.val then U (ix2 q l) else 0) (from1 r)))
theorem stepA2 (A : Vec Ideal S8x1024 .f32) (r : Fin 8) (l : Fin 1024) :
    stepA 6#32 A (ix2 r.rev l) = twiceA 2 (fun q => A (ix2 q.rev l)) r := by
  pointwise [stepA, places]
  exact congrArg (A (ix2 r.rev l) * ·) ((choose (row_ge2 r) _ _).trans (congrArg (fun q : Fin 8 => if 2 ≤ r.val then A (ix2 q l) else 1) (from2 r)))
theorem stepU2 (A U : Vec Ideal S8x1024 .f32) (r : Fin 8) (l : Fin 1024) :
    stepU 6#32 A U (ix2 r.rev l) = twiceU 2 (fun q => A (ix2 q.rev l)) (fun q => U (ix2 q.rev l)) r := by
  pointwise [stepU, places]
  exact congrArg (· + U (ix2 r.rev l)) ((choose_mul (row_ge2 r) _ _).trans
    (congrArg (fun q : Fin 8 => A (ix2 r.rev l) * if 2 ≤ r.val then U (ix2 q l) else 0) (from2 r)))
theorem stepA4 (A : Vec Ideal S8x1024 .f32) (r : Fin 8) (l : Fin 1024) :
    stepA 4#32 A (ix2 r.rev l) = twiceA 4 (fun q => A (ix2 q.rev l)) r := by
  pointwise [stepA, places]
  exact congrArg (A (ix2 r.rev l) * ·) ((choose (row_ge4 r) _ _).trans (congrArg (fun q : Fin 8 => if 4 ≤ r.val then A (ix2 q l) else 1) (from4 r)))
theorem stepU4 (A U : Vec Ideal S8x1024 .f32) (r : Fin 8) (l : Fin 1024) :
    stepU 4#32 A U (ix2 r.rev l) = twiceU 4 (fun q => A (ix2 q.rev l)) (fun q => U (ix2 q.rev l)) r := by
  pointwise [stepU, places]
  exact congrArg (· + U (ix2 r.rev l)) ((choose_mul (row_ge4 r) _ _).trans
    (congrArg (fun q : Fin 8 => A (ix2 r.rev l) * if 4 ≤ r.val then U (ix2 q l) else 0) (from4 r)))

/-- Eight rows of the kernel, at one place, counted from below. -/
theorem pay28_eq (h : Vec Ideal S1x1024 .f32) (a u : Vec Ideal S8x1024 .f32) (r : Fin 8) (l : Fin 1024) :
    k0_pay28 (F := Ideal) h (k0_pay8 places a u) (k0_pay9 places a) (ix2 r.rev l) =
      twiceU 4 (twiceA 2 (twiceA 1 fun q => a (ix2 q.rev l))) (twiceU 2 (twiceA 1 fun q => a (ix2 q.rev l)) (twiceU 1 (fun q => a (ix2 q.rev l)) fun q => u (ix2 q.rev l))) r +
        twiceA 4 (twiceA 2 (twiceA 1 fun q => a (ix2 q.rev l))) r * h (ix2 0 l) := by
  have e : k0_pay28 (F := Ideal) h (k0_pay8 places a u) (k0_pay9 places a) =
      addf (stepU 4#32 (stepA 6#32 (stepA 7#32 a)) (stepU 6#32 (stepA 7#32 a) (stepU 7#32 a u)))
        (mulf (stepA 4#32 (stepA 6#32 (stepA 7#32 a))) (broadcastTo S8x1024 h broadcasts_S1x1024_S8x1024)) := rfl
  rw [e]
  pointwise
  simp only [stepU4, stepA4, stepU2, stepA2, stepU1, stepA1]

theorem trips_eq : k0_t1_loop.trips = 64 := by decide

theorem at_lt (k : Fin k0_t1_loop.trips) (q : Fin 8) : 504 - 8 * k.val + q.val < 512 := by
  omega

/-- A trip's rows among the tile's. -/
theorem rect_row (k : Fin k0_t1_loop.trips) (q : Fin 8) (l : Fin 1024) :
    (Rect.unit (s := S512x1024) (k0_off1 k) S8x1024.size (k0_off1_inb k)).emb (ix2 q l) = ix2 ⟨504 - 8 * k.val + q.val, at_lt k q⟩ l := by
  refine funext fun a => Fin.ext ?_
  rw [ValueKit.rect_emb_unit_val]
  refine (congrArg (· + _) (congrFun (k0_off1_eq k) a)).trans ?_
  match a with
  | 0 => rfl
  | 1 => exact Nat.zero_add _

theorem not_row (k : Fin k0_t1_loop.trips) (r : Fin 512) (l : Fin 1024) (h : 512 - 8 * k.val ≤ r.val) :
    ix2 r l ∉ (Rect.unit (s := S512x1024) (k0_off1 k) S8x1024.size (k0_off1_inb k)).set := by
  rw [Rect.mem_set_unit, k0_off1_eq]
  intro hh
  have h1 : r.val < 504 - 8 * k.val + 8 := (hh 0).2
  have := k0_t1_abs.2.1
  have := k.isLt
  omega

/-- Reading through the rows a trip has written, below them and among them. -/
theorem canon_below (k : Fin k0_t1_loop.trips) (P : Vec Ideal S8x1024 .f32) (L : List (View.Piece (Elt Ideal) S512x1024 .f32)) (r : Fin 512) (l : Fin 1024)
    (h : 512 - 8 * k.val ≤ r.val) :
    View.canon (⟨Rect.unit (s := S512x1024) (k0_off1 k) S8x1024.size (k0_off1_inb k), P⟩ :: L) (ix2 r l) = View.canon L (ix2 r l) :=
  View.canon_cons_of_not_mem ⟨Rect.unit (s := S512x1024) (k0_off1 k) S8x1024.size (k0_off1_inb k), P⟩ L (not_row k r l h)

theorem canon_among (k : Fin k0_t1_loop.trips) (P : Vec Ideal S8x1024 .f32) (L : List (View.Piece (Elt Ideal) S512x1024 .f32)) (q : Fin 8) (l : Fin 1024) :
    View.canon (⟨Rect.unit (s := S512x1024) (k0_off1 k) S8x1024.size (k0_off1_inb k), P⟩ :: L) (ix2 ⟨504 - 8 * k.val + q.val, at_lt k q⟩ l) = P (ix2 q l) := by
  rw [← rect_row]
  exact View.canon_cons_emb _ _ _ _

theorem up_lt (n : ℕ) : 511 - n < 512 := by omega

/-- Row `n` of a tile counted from below, for any number. -/
def rowR (A : Vec Ideal S512x1024 .f32) (l : Fin 1024) (n : ℕ) : EReal := A (ix2 ⟨511 - n, up_lt n⟩ l)

/-- What a trip leaves in its rows, when it is handed the recurrence's value at the row below. -/
theorem trip_rows (A U : Vec Ideal S512x1024 .f32) (hA : ∀ i, ∃ q : ℝ, 0 ≤ q ∧ A i = q) (k : Fin k0_t1_loop.trips) (h : Vec Ideal S1x1024 .f32)
    (l : Fin 1024) (h0 : EReal) (hh : h (ix2 0 l) = chain (rowR A l) (rowR U l) h0 (8 * k.val)) (a u : Vec Ideal S8x1024 .f32)
    (ha : ∀ q l, a (ix2 q l) = A (ix2 ⟨504 - 8 * k.val + q.val, at_lt k q⟩ l)) (hu : ∀ q l, u (ix2 q l) = U (ix2 ⟨504 - 8 * k.val + q.val, at_lt k q⟩ l)) (q : Fin 8) :
    k0_pay28 (F := Ideal) h (k0_pay8 places a u) (k0_pay9 places a) (ix2 q.rev l) = chain (rowR A l) (rowR U l) h0 (8 * k.val + (q.val + 1)) := by
  have row : ∀ (B : Vec Ideal S512x1024 .f32) (r : Fin 8), B (ix2 ⟨504 - 8 * k.val + r.rev.val, at_lt k r.rev⟩ l) = rowR B l (8 * k.val + r.val) := fun B r =>
    congrArg (fun n => B (ix2 n l)) (Fin.ext (by
      have := k0_t1_abs.2.1
      have := k.isLt
      show 504 - 8 * k.val + r.rev.val = 511 - (8 * k.val + r.val)
      rw [Fin.val_rev]
      omega))
  rw [pay28_eq, hh]
  refine eight (fun n => chain (rowR A l) (rowR U l) h0 (8 * k.val + n)) _ _ (fun r => ?_) (fun r => ?_) q
  · rw [ha]; exact hA _
  · show chain _ _ _ (8 * k.val + r.val + 1) = _
    rw [ha, hu, row A, row U]
    rfl

theorem pay29_eq (h : Vec Ideal S1x1024 .f32) (x y : FVec Ideal S8x1024 .f32) (l : Fin 1024) :
    k0_pay29 (F := Ideal) h x y (ix2 0 l) = k0_pay28 h x y (ix2 (7 : Fin 8).rev l) := by
  unfold k0_pay29
  generalize k0_pay28 (F := Ideal) h x y = z
  pointwise
  rfl

section

variable (𝒱 : Variants) (c : Dev nD) (bd : Option 𝒱.V) (i : grid0.Coords) (arg1 : Memref sig .tc .vmem S512x1024 .bf16) (harg1 : arg1.IsWhole) (arg2 : Memref
  sig .tc .vmem S16x1024 .bf16) (harg2 : arg2.IsWhole) (arg3 : Memref sig .tc .vmem S16x1024 .bf16) (harg3 : arg3.IsWhole) (arg4 : Memref sig .tc .vmem
  S4x1024 .f32) (harg4 : arg4.IsWhole) (arg5 : Memref sig .tc .vmem S1x1024 .f32) (harg5 : arg5.IsWhole) (arg6 : Memref sig .tc .vmem S4x256x256 .bf16)
  (harg6 : arg6.IsWhole) (arg7 : Memref sig .tc .vmem S4x256x256 .bf16) (harg7 : arg7.IsWhole) (arg8 : Memref sig .tc .vmem S1x1024 .f32) (harg8 :
  arg8.IsWhole) (arg9 : Memref sig .tc .vmem S1x1024 .f32) (harg9 : arg9.IsWhole) (arg10 : Memref sig .tc .vmem S1x1024 .f32) (harg10 : arg10.IsWhole)
  (arg11 : Memref sig .tc .vmem S512x1024 .f32) (harg11 : arg11.IsWhole) (arg12 : Memref sig .tc .vmem S512x1024 .bf16) (harg12 : arg12.IsWhole) (arg13
  : Memref sig .tc .vmem S512x1024 .f32) (harg13 : arg13.IsWhole) (arg14 : Memref sig .tc .vmem S512x1024 .bf16) (harg14 : arg14.IsWhole) (arg15 :
  Memref sig .tc .vmem S512x1024 .f32) (harg15 : arg15.IsWhole) (arg16 : Memref sig .tc .vmem S512x1024 .f32) (harg16 : arg16.IsWhole) (arg17 : Memref
  sig .tc .vmem S1x1024 .f32) (harg17 : arg17.IsWhole) (arg0 : BitVec 32) (v39 : FVec Ideal S512x1024 .f32) (v68 : FVec Ideal S1x1024 .f32) (v70 : Vec
  Ideal S1x1024 .f32) (v78 : FVec Ideal S512x256 .f32) (v86 : FVec Ideal S512x256 .f32) (v94 : FVec Ideal S512x256 .f32) (v102 : FVec Ideal S512x256
  .f32) (v110 : FVec Ideal S512x1024 .f32) (X_arg15 : BufTy.Contents (Elt Ideal) arg15.view.ty) (X_arg16 : BufTy.Contents (Elt Ideal) arg16.view.ty)
  (init : Vec Ideal S1x1024 .f32)

/-- The loop's state before trip `k`. -/
abbrev st (k : ℕ) := st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v39 v68 v70 v78 v86 v94 v102 v110 places X_arg15 X_arg16 init k

theorem st_succ (k : Fin k0_t1_loop.trips) (S : Vec Ideal S1x1024 .f32 × List (View.Piece (Elt Ideal) S512x1024 .f32)) (hS : st 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v39 v68 v70 v78 v86 v94 v102 v110 X_arg15 X_arg16 init k.val = S) (a u : Vec Ideal S8x1024 .f32)
    (ha : View.readAt (Elt Ideal) arg15.view (Rect.unit (s := S512x1024) (k0_off1 k) S8x1024.size (k0_off1_inb k)).toLoadRect X_arg15 = a)
    (hu : View.readAt (Elt Ideal) arg16.view (Rect.unit (s := S512x1024) (k0_off1 k) S8x1024.size (k0_off1_inb k)).toLoadRect X_arg16 = u) :
    st 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v39 v68 v70 v78 v86 v94 v102 v110 X_arg15 X_arg16 init (k.val + 1) =
      (k0_pay29 S.1 (k0_pay8 places a u) (k0_pay9 places a),
        ⟨Rect.unit (s := S512x1024) (k0_off1 k) S8x1024.size (k0_off1_inb k), k0_pay28 S.1 (k0_pay8 places a u) (k0_pay9 places a)⟩ :: S.2) := by
  subst hS ha hu
  unfold st
  rw [st_k0_t1_succ]
  unfold tripR_k0_t1 tripL_k0_t1 trip_k0_t1
  frame_open
  rfl

variable (A U : Vec Ideal S512x1024 .f32)

/-- The tile's recurrence up column `l`. -/
abbrev H (l : Fin 1024) : ℕ → EReal := chain (rowR A l) (rowR U l) (init (ix2 0 l))

variable (hX15 : arg15.view.read (Elt Ideal) X_arg15 = A) (hX16 : arg16.view.read (Elt Ideal) X_arg16 = U)
  (hA : ∀ i, ∃ q : ℝ, 0 ≤ q ∧ A i = q)

include hX15 hX16 hA in
/-- Before trip `k` the rows below hold the recurrence, and the state is its value at the last of them. -/
theorem st_holds (k : ℕ) (hk : k ≤ 64) :
    (∀ l, (st 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v39 v68 v70 v78 v86 v94 v102 v110 X_arg15 X_arg16 init k).1 (ix2 0 l) = H init A U l (8 * k)) ∧
      ∀ (r : Fin 512) (l : Fin 1024), 512 - 8 * k ≤ r.val →
        View.canon (st 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v39 v68 v70 v78 v86 v94 v102 v110 X_arg15 X_arg16 init k).2 (ix2 r l) = H init A U l (512 - r.val) := by
  induction k with
  | zero => exact ⟨fun l => rfl, fun r l h => absurd h (by omega)⟩
  | succ k ih =>
    obtain ⟨ih1, ih2⟩ := ih (by omega)
    have hk' : k < k0_t1_loop.trips := by rw [trips_eq]; omega
    obtain ⟨S, hS⟩ : ∃ S, st 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v39 v68 v70 v78 v86 v94 v102 v110 X_arg15 X_arg16 init k = S := ⟨_, rfl⟩
    rw [hS] at ih1 ih2
    obtain ⟨kk, hkk⟩ : ∃ kk : Fin k0_t1_loop.trips, kk.val = k := ⟨⟨k, hk'⟩, rfl⟩
    subst hkk
    obtain ⟨a, ha0⟩ : ∃ a, View.readAt (Elt Ideal) arg15.view (Rect.unit (s := S512x1024) (k0_off1 kk) S8x1024.size (k0_off1_inb kk)).toLoadRect X_arg15 = a := ⟨_, rfl⟩
    obtain ⟨u, hu0⟩ : ∃ u, View.readAt (Elt Ideal) arg16.view (Rect.unit (s := S512x1024) (k0_off1 kk) S8x1024.size (k0_off1_inb kk)).toLoadRect X_arg16 = u := ⟨_, rfl⟩
    have e := st_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg0 v39 v68 v70 v78 v86 v94 v102 v110 X_arg15 X_arg16 init kk S hS a u ha0 hu0
    have ha : ∀ (q : Fin 8) (l : Fin 1024), a (ix2 q l) = A (ix2 ⟨504 - 8 * kk.val + q.val, at_lt kk q⟩ l) :=
      fun q l => by rw [← rect_row, ← hX15, ← ha0]; rfl
    have hu : ∀ (q : Fin 8) (l : Fin 1024), u (ix2 q l) = U (ix2 ⟨504 - 8 * kk.val + q.val, at_lt kk q⟩ l) :=
      fun q l => by rw [← rect_row, ← hX16, ← hu0]; rfl
    have key := fun l => trip_rows A U hA kk S.1 l (init (ix2 0 l)) (ih1 l) a u ha hu
    have last : ∀ l, H init A U l (8 * kk.val + ((7 : Fin 8).val + 1)) = H init A U l (8 * (kk.val + 1)) := fun l =>
      congrArg (H init A U l) (by show 8 * kk.val + 8 = _; omega)
    clear ha hu ha0 hu0
    rw [e]
    clear e
    have low : ∀ l, k0_pay29 (F := Ideal) S.1 (k0_pay8 places a u) (k0_pay9 places a) (ix2 0 l) = H init A U l (8 * (kk.val + 1)) :=
      fun l => ((pay29_eq _ _ _ l).trans (key l 7)).trans (last l)
    generalize k0_pay28 (F := Ideal) S.1 (k0_pay8 places a u) (k0_pay9 places a) = P at key ⊢
    refine ⟨low, fun r l hr => ?_⟩
    have hkk : kk.val < 64 := by omega
    by_cases hlt : 512 - 8 * kk.val ≤ r.val
    · exact (canon_below kk P S.2 r l hlt).trans (ih2 r l hlt)
    · obtain ⟨q, hq⟩ : ∃ q : Fin 8, r = ⟨504 - 8 * kk.val + q.rev.val, at_lt kk q.rev⟩ :=
        ⟨⟨511 - 8 * kk.val - r.val, by omega⟩, Fin.ext (by
          show r.val = 504 - 8 * kk.val + (Fin.rev _).val
          rw [Fin.val_rev]
          show r.val = 504 - 8 * kk.val + (8 - (511 - 8 * kk.val - r.val + 1))
          omega)⟩
      subst hq
      have hv : q.rev.val = 8 - (q.val + 1) := Fin.val_rev q
      exact (canon_among kk P S.2 q.rev l).trans ((key l q).trans (congrArg (H init A U l) (by
        show _ = 512 - (504 - 8 * kk.val + q.rev.val)
        omega)))

end

end Cert.LruDLoop
-- ==== Proof.LruDVal.lean ====
module

public import proofs.«01_k».proof.Proof.LruDFRun
public import proofs.«01_k».proof.Proof.LruDLoop
public import proofs.«01_k».proof.Proof.Halo
public import proofs.«01_k».proof.Proof.BcGrad
public import Idealize.ShloMosaic.Lib.Pipeline.ValueKit
public import Idealize.ShloMosaic.Lib.Pipeline.ReadBack
public import Idealize.ShloMosaic.Lib.VecWindow

/-! What the second call of the recurrence leaves in its two results, place by place. -/

@[expose] public section

set_option maxRecDepth 16384

noncomputable section

namespace Cert.LruDValue

open Cert.KLruDIdeal Cert.KLruDIdeal.Gen Cert.LruDFrame Cert.LruDLoop Cert.LruAScan
open Idealize.ShloMosaic Idealize.ShloMosaic.TcCoe Idealize.SL.Sem
open Idealize.ShloMosaic.Pipeline (Dat)

variable (m : (ℓ : Loc nD τ sig) → Buf (Elt Ideal) ℓ)

/-- The convolved rows of a tile. -/
abbrev Xt (c : Dev nD) (t : Fin cfg0.N) : FVec Ideal S512x1024 .f32 :=
  k0_pay10 (grid0.coords t) (iblk m c 0 t) (iblk m c 1 t) (iblk m c 2 t) (iblk m c 3 t) (iblk m c 4 t)
/-- The gates' weights, head by head. -/
abbrev Wa (c : Dev nD) (t : Fin cfg0.N) (h : ℕ) (inb : ∀ a, ![h, 0, 0] a + ![1, 256, 256] a ≤ S4x256x256.size a) : Vec Ideal S1x256x256 .bf16 :=
  View.ld (Val := Elt Ideal) (e' := .bf16) (iblk m c 5 t) (Rect.unit (s := S4x256x256) ![h, 0, 0] ![1, 256, 256] inb)
abbrev Wx (c : Dev nD) (t : Fin cfg0.N) (h : ℕ) (inb : ∀ a, ![h, 0, 0] a + ![1, 256, 256] a ≤ S4x256x256.size a) : Vec Ideal S1x256x256 .bf16 :=
  View.ld (Val := Elt Ideal) (e' := .bf16) (iblk m c 6 t) (Rect.unit (s := S4x256x256) ![h, 0, 0] ![1, 256, 256] inb)
/-- The decay gate before its last addition. -/
abbrev Gt (c : Dev nD) (t : Fin cfg0.N) : FVec Ideal S512x1024 .f32 :=
  k0_pay22 (Xt m c t) (iblk m c 7 t) (k0_pay13 (Xt m c t) (Wa m c t 0 inb_S4x256x256_S1x256x256_0_0_0)) (Wa m c t 1 inb_S4x256x256_S1x256x256_1_0_0)
    (Wa m c t 2 inb_S4x256x256_S1x256x256_2_0_0) (Wa m c t 3 inb_S4x256x256_S1x256x256_3_0_0)
/-- The decays of a tile. -/
def At (c : Dev nD) (t : Fin cfg0.N) : Vec Ideal S512x1024 .f32 := k0_pay26 (k0_pay11 (iblk m c 9 t)) (Gt m c t)
/-- The loads of a tile. -/
def Ut (c : Dev nD) (t : Fin cfg0.N) : Vec Ideal S512x1024 .f32 :=
  k0_pay27 (Xt m c t) (k0_pay11 (iblk m c 9 t)) (iblk m c 8 t) (k0_pay15 (k0_pay12 (Xt m c t)) (k0_pay14 (Wx m c t 0 inb_S4x256x256_S1x256x256_0_0_0)))
    (k0_pay17 (Xt m c t) (Wx m c t 1 inb_S4x256x256_S1x256x256_1_0_0)) (k0_pay19 (Xt m c t) (Wx m c t 2 inb_S4x256x256_S1x256x256_2_0_0))
    (k0_pay21 (Xt m c t) (Wx m c t 3 inb_S4x256x256_S1x256x256_3_0_0)) (Gt m c t)

theorem pay1_eq (x : FVec Ideal S1x1024 .f32) (j) : k0_pay1 (F := Ideal) x j = x j := by
  pointwise [k0_pay1]

theorem readA (c : Dev nD) (t : Fin cfg0.N) : (View.whole cc0_scratch0).read (Elt Ideal) ((View.whole cc0_scratch0).writes (Elt Ideal) (View.whole cc0_scratch0).junk
    [⟨Rect.unit ![0, 0] ![512, 1024] inb_S512x1024_S512x1024_0_0, At m c t⟩]) = At m c t := by
  frame_out
  exact View.canon_cons_unit_zero (S := S512x1024) (funext fun a => by fin_cases a <;> rfl) _ _ _
theorem readU (c : Dev nD) (t : Fin cfg0.N) : (View.whole cc0_scratch1).read (Elt Ideal) ((View.whole cc0_scratch1).writes (Elt Ideal) (View.whole cc0_scratch1).junk
    [⟨Rect.unit ![0, 0] ![512, 1024] inb_S512x1024_S512x1024_0_0, Ut m c t⟩]) = Ut m c t := by
  frame_out
  exact View.canon_cons_unit_zero (S := S512x1024) (funext fun a => by fin_cases a <;> rfl) _ _ _

theorem name_kc : Named.named (F := Ideal) Cert.KLruDIdeal.κ "gelu_kc" (φ := .f32) 0x3D122279#32 = Cert.BcGrad.kc := rfl

/-- The sum of the two recurrences, gated. -/
def both (x y z : EReal) : EReal := (x + y) * Cert.BcGrad.gelu z

/-- The kernel's gated sum, at one place. -/
theorem pay2_eq (x y : S512x1024.Idx → EReal) (z : S512x1024.Idx → EReal) (r : Fin 512) (l : Fin 1024) :
    k0_pay2 (F := Ideal) x y z (ix2 r l) = both (x (ix2 r l)) (y (ix2 r l)) (z (ix2 r l)) := by
  pointwise [k0_pay2]
  rfl

/-- What a tile leaves, of the state it is handed: the recurrence up its rows, and its gated sum with the other one. -/
abbrev Left (c : Dev nD) (t : Fin cfg0.N) (init : Vec Ideal S1x1024 .f32) (o : Outs Ideal) : Prop :=
  (∀ l, o.2.2 (ix2 0 l) = H init (At m c t) (Ut m c t) l 512) ∧ (∀ (r : Fin 512) l, o.1 (ix2 r l) = H init (At m c t) (Ut m c t) l (512 - r.val)) ∧
    ∀ (r : Fin 512) l, o.2.1 (ix2 r l) =
      both (iblk m c 10 t (ix2 r l)) (H init (At m c t) (Ut m c t) l (512 - r.val)) (iblk m c 11 t (ix2 r l))

/-- The two scratch buffers as the loop finds them. -/
abbrev writtenA (c : Dev nD) (t : Fin cfg0.N) := (View.whole cc0_scratch0).writes (Elt Ideal) (View.whole cc0_scratch0).junk
    [⟨Rect.unit ![0, 0] ![512, 1024] inb_S512x1024_S512x1024_0_0, At m c t⟩]
abbrev writtenU (c : Dev nD) (t : Fin cfg0.N) := (View.whole cc0_scratch1).writes (Elt Ideal) (View.whole cc0_scratch1).junk
    [⟨Rect.unit ![0, 0] ![512, 1024] inb_S512x1024_S512x1024_0_0, Ut m c t⟩]

/-- The loop's state at a tile. -/
abbrev stT (c : Dev nD) (t : Fin cfg0.N) (init : Vec Ideal S1x1024 .f32) (k : ℕ) :=
  st Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (BitVec.ofNat 32 (grid0.coords t 0).val) (Xt m c t) (k0_pay11 (iblk m c 9 t)) (iblk m c 8 t) (k0_pay15 (k0_pay12 (Xt m c t)) (k0_pay14 (Wx m c t 0 inb_S4x256x256_S1x256x256_0_0_0))) (k0_pay17 (Xt m c t) (Wx m c t 1 inb_S4x256x256_S1x256x256_1_0_0)) (k0_pay19 (Xt m c t) (Wx m c t 2 inb_S4x256x256_S1x256x256_2_0_0)) (k0_pay21 (Xt m c t) (Wx m c t 3 inb_S4x256x256_S1x256x256_3_0_0)) (Gt m c t) (writtenA m c t) (writtenU m c t) init k

theorem stT_holds (c : Dev nD) (t : Fin cfg0.N) (hA : ∀ i, ∃ q : ℝ, 0 ≤ q ∧ At m c t i = q) (init : Vec Ideal S1x1024 .f32) :
    (∀ l, (stT m c t init 64).1 (ix2 0 l) = H init (At m c t) (Ut m c t) l 512) ∧
      ∀ (r : Fin 512) l, View.canon (stT m c t init 64).2 (ix2 r l) = H init (At m c t) (Ut m c t) l (512 - r.val) := by
  have e := st_holds Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (BitVec.ofNat 32 (grid0.coords t 0).val) (Xt m c t) (k0_pay11 (iblk m c 9 t)) (iblk m c 8 t) (k0_pay15 (k0_pay12 (Xt m c t)) (k0_pay14 (Wx m c t 0 inb_S4x256x256_S1x256x256_0_0_0))) (k0_pay17 (Xt m c t) (Wx m c t 1 inb_S4x256x256_S1x256x256_1_0_0)) (k0_pay19 (Xt m c t) (Wx m c t 2 inb_S4x256x256_S1x256x256_2_0_0)) (k0_pay21 (Xt m c t) (Wx m c t 3 inb_S4x256x256_S1x256x256_3_0_0)) (Gt m c t) (writtenA m c t) (writtenU m c t) init (At m c t) (Ut m c t) (readA m c t) (readU m c t) hA 64 le_rfl
  exact ⟨e.1, fun r l => e.2 r l (Nat.le_trans (le_of_eq (Nat.sub_self 512)) (Nat.zero_le _))⟩

/-- Reading back a whole tile written piece by piece. -/
theorem whole_back {κ : Kind} {sp : Space} (v : View sig κ sp S512x1024 .f32) (L : List (View.Piece (Elt Ideal) S512x1024 .f32)) (inb) (r : Fin 512) (l : Fin 1024) :
    v.readCov L (Rect.unit (s := S512x1024) ![0, 0] ![512, 1024] inb).toLoadRect (ix2 r l) = View.canon L (ix2 r l) := by
  have e : (Rect.unit (s := S512x1024) ![0, 0] ![512, 1024] inb).emb (ix2 r l) = ix2 r l := Rect.emb_unit_full (s := S512x1024) inb (ix2 r l)
  rw [View.readCov_eq_canon']
  exact congrArg (View.canon L) e

/-- The gated sum, of the rows the loop wrote. -/
theorem gated (c : Dev nD) (t : Fin cfg0.N) (hA : ∀ i, ∃ q : ℝ, 0 ≤ q ∧ At m c t i = q) (init : Vec Ideal S1x1024 .f32) (y : Vec Ideal S512x1024 .f32)
    (hy : ∀ (r : Fin 512) l, y (ix2 r l) = View.canon (stT m c t init 64).2 (ix2 r l)) (r : Fin 512) (l : Fin 1024) :
    k0_pay2 (F := Ideal) (iblk m c 10 t) y (iblk m c 11 t) (ix2 r l) =
      both (iblk m c 10 t (ix2 r l)) (H init (At m c t) (Ut m c t) l (512 - r.val)) (iblk m c 11 t (ix2 r l)) := by
  refine (pay2_eq _ _ _ r l).trans ?_
  exact congrArg (fun h => both _ h _) ((hy r l).trans ((stT_holds m c t hA init).2 r l))

theorem leftB (c : Dev nD) (t : Fin cfg0.N) (hA : ∀ i, ∃ q : ℝ, 0 ≤ q ∧ At m c t i = q) (h0 : ¬ t.val % 32 = 0) (p : Outs Ideal) :
    Left m c t p.2.2 (leaveB m c t h0 p) := by
  refine ⟨fun l => ?_, fun r l => ?_, fun r l => ?_⟩
  · unfold leaveB atB tileB
    dsimp only
    frame_out
    frame_open
    rw [read_unread_whole]
    refine (pay1_eq _ _).trans ?_
    exact (stT_holds m c t hA p.2.2).1 l
  · unfold leaveB atB tileB
    dsimp only
    frame_out
    frame_open
    rw [read_unread_whole]
    exact (stT_holds m c t hA p.2.2).2 r l
  · unfold leaveB atB tileB
    dsimp only
    frame_out
    frame_open
    rw [read_unread_whole]
    exact gated m c t hA p.2.2 _ (whole_back _ _ _) r l

theorem leftA (c : Dev nD) (t : Fin cfg0.N) (hA : ∀ i, ∃ q : ℝ, 0 ≤ q ∧ At m c t i = q) (h0 : t.val % 32 = 0) :
    Left m c t (k0_pay25 (F := Ideal)) (leaveA m c t h0) := by
  refine ⟨fun l => ?_, fun r l => ?_, fun r l => ?_⟩
  · unfold leaveA atA tileA
    dsimp only
    frame_open
    simp (disch := decide) only [↓ View.readCov_skip, ↓ View.readCov_cons_toLoadRect, ↓ View.readCov_fill]
    frame_out
    refine (pay1_eq _ _).trans ?_
    exact (stT_holds m c t hA (k0_pay25 (F := Ideal))).1 l
  · unfold leaveA atA tileA
    dsimp only
    frame_open
    simp (disch := decide) only [↓ View.readCov_skip, ↓ View.readCov_cons_toLoadRect, ↓ View.readCov_fill]
    frame_out
    exact (stT_holds m c t hA (k0_pay25 (F := Ideal))).2 r l
  · unfold leaveA atA tileA
    dsimp only
    frame_open
    simp (disch := decide) only [↓ View.readCov_skip, ↓ View.readCov_cons_toLoadRect, ↓ View.readCov_fill]
    frame_out
    exact gated m c t hA (k0_pay25 (F := Ideal)) _ (whole_back _ _ _) r l

end Cert.LruDValue

end
-- ==== Proof.LruDTile.lean ====
module

public import proofs.«01_k».proof.Proof.Reals
public import proofs.«01_k».proof.Proof.LruDVal
public import proofs.«01_k».proof.Proof.LruAForm

/-! The tiles' decays and loads, place by place, and what the tiles leave one after the other. -/

@[expose] public section

set_option maxRecDepth 16384

noncomputable section

namespace Cert.LruDTile

open Cert.KLruDIdeal Cert.KLruDIdeal.Gen Cert.LruDFrame Cert.LruDLoop Cert.LruAScan Cert.LruDValue
open Idealize.ShloMosaic Idealize.ShloMosaic.TcCoe Idealize.SL.Sem
open Idealize.ShloMosaic.Pipeline (Dat)
open Cert.Halo (past past_inside past_outside)
open Cert.LruAForm (conv mix gate rate logDecay decay load)

variable (m : (ℓ : Loc nD τ sig) → Buf (Elt Ideal) ℓ)

/-! ### The blocks a point reads -/

theorem idx : ∀ t : Fin cfg0.N, win0_0.index t = ![31 - t.val, 0] ∧ win0_1.index t = ![(31 - t.val) * 32 - 1, 0] ∧
    win0_2.index t = ![min ((31 - t.val) * 32 + 32) 1023, 0] ∧ win0_3.index t = ![0, 0] ∧ win0_4.index t = ![0, 0] ∧
    win0_5.index t = ![0, 0, 0] ∧ win0_6.index t = ![0, 0, 0] ∧ win0_7.index t = ![0, 0] ∧ win0_8.index t = ![0, 0] ∧
    win0_9.index t = ![0, 0] ∧ win0_10.index t = ![31 - t.val, 0] ∧ win0_11.index t = ![31 - t.val, 0] ∧
    win0_12.index t = ![31 - t.val, 0] ∧ win0_13.index t = ![31 - t.val, 0] := by
  show ∀ t : Fin grid0.N, _
  decide +kernel

/-- Is the point's tile the first one of the array? -/
theorem first : ∀ t : Fin cfg0.N, Scalar.cmpi .eq (Scalar.subi 31#32 (BitVec.ofNat 32 ((grid0.coords t) 0).val)) 0#32 = if 31 - t.val = 0 then 1#1 else 0#1 :=
  (by decide +kernel : ∀ t : Fin grid0.N, Scalar.cmpi .eq (Scalar.subi 31#32 (BitVec.ofNat 32 ((grid0.coords t) 0).val)) 0#32 = if 31 - t.val = 0 then 1#1 else 0#1)
/-- Is it the last one? -/
theorem last : ∀ t : Fin cfg0.N, Scalar.cmpi .eq (Scalar.subi 31#32 (BitVec.ofNat 32 ((grid0.coords t) 0).val)) 31#32 = if 31 - t.val = 31 then 1#1 else 0#1 :=
  (by decide +kernel : ∀ t : Fin grid0.N, Scalar.cmpi .eq (Scalar.subi 31#32 (BitVec.ofNat 32 ((grid0.coords t) 0).val)) 31#32 = if 31 - t.val = 31 then 1#1 else 0#1)

/-- The arguments, as arrays of the launch. -/
def arg (c : Dev nD) : Cert.LruAForm.Args where
  z := m ((c : Thread nD τ).loc main_arg0)
  taps := m ((c : Thread nD τ).loc main_arg1)
  bias := m ((c : Thread nD τ).loc main_arg2)
  wa := m ((c : Thread nD τ).loc main_arg3)
  wx := m ((c : Thread nD τ).loc main_arg4)
  ba := m ((c : Thread nD τ).loc main_arg5)
  bx := m ((c : Thread nD τ).loc main_arg6)
  lam := m ((c : Thread nD τ).loc main_arg7)

/-- The first recurrence's values, and what the gate is of. -/
abbrev other (c : Dev nD) : S16384x1024.Idx → EReal := m ((c : Thread nD τ).loc main_arg8)
abbrev gateArg (c : Dev nD) : S16384x1024.Idx → EReal := m ((c : Thread nD τ).loc main_arg9)

theorem row_lt (t : Fin cfg0.N) (r : Fin 512) : (31 - t.val) * 512 + r.val < 16384 := by
  have h : t.val < 32 := t.isLt
  omega

/-- Row `r` of point `t`'s block. -/
abbrev row (t : Fin cfg0.N) (r : Fin 512) : Fin 16384 := ⟨(31 - t.val) * 512 + r.val, row_lt t r⟩

theorem before_lt (t : Fin cfg0.N) (r : Fin 16) : ((31 - t.val) * 32 - 1) * 16 + r.val < 16384 := by
  have h : t.val < 32 := t.isLt
  omega
theorem after_lt (t : Fin cfg0.N) (r : Fin 16) : min ((31 - t.val) * 32 + 32) 1023 * 16 + r.val < 16384 := by
  omega

theorem blk0 (c : Dev nD) (t : Fin cfg0.N) (r : Fin 512) (l : Fin 1024) : iblk m c 0 t (ix2 r l) = (arg m c).z (ix2 (row t r) l) := by
  blk_simp [iblk]
  refine congrArg ((arg m c).z) ?_
  blk_ext [(idx t).1]
theorem blk1 (c : Dev nD) (t : Fin cfg0.N) (r : Fin 16) (l : Fin 1024) : iblk m c 1 t (ix2 r l) = (arg m c).z (ix2 ⟨_, before_lt t r⟩ l) := by
  blk_simp [iblk]
  refine congrArg ((arg m c).z) ?_
  blk_ext [(idx t).2.1]
theorem blk2 (c : Dev nD) (t : Fin cfg0.N) (r : Fin 16) (l : Fin 1024) : iblk m c 2 t (ix2 r l) = (arg m c).z (ix2 ⟨_, after_lt t r⟩ l) := by
  blk_simp [iblk]
  refine congrArg ((arg m c).z) ?_
  blk_ext [(idx t).2.2.1]
theorem blk3 (c : Dev nD) (t : Fin cfg0.N) (r : Fin 4) (l : Fin 1024) : iblk m c 3 t (ix2 r l) = (arg m c).taps (ix2 r l) := by
  blk_simp [iblk]
  refine congrArg ((arg m c).taps) ?_
  blk_ext [(idx t).2.2.2.1]
theorem blk4 (c : Dev nD) (t : Fin cfg0.N) (l : Fin 1024) : iblk m c 4 t (ix2 0 l) = (arg m c).bias (ix2 0 l) := by
  blk_simp [iblk]
  refine congrArg ((arg m c).bias) ?_
  blk_ext [(idx t).2.2.2.2.1]
theorem blk7 (c : Dev nD) (t : Fin cfg0.N) (l : Fin 1024) : iblk m c 7 t (ix2 0 l) = (arg m c).ba (ix2 0 l) := by
  blk_simp [iblk]
  refine congrArg ((arg m c).ba) ?_
  blk_ext [(idx t).2.2.2.2.2.2.2.1]
theorem blk8 (c : Dev nD) (t : Fin cfg0.N) (l : Fin 1024) : iblk m c 8 t (ix2 0 l) = (arg m c).bx (ix2 0 l) := by
  blk_simp [iblk]
  refine congrArg ((arg m c).bx) ?_
  blk_ext [(idx t).2.2.2.2.2.2.2.2.1]
theorem blk9 (c : Dev nD) (t : Fin cfg0.N) (l : Fin 1024) : iblk m c 9 t (ix2 0 l) = (arg m c).lam (ix2 0 l) := by
  blk_simp [iblk]
  refine congrArg ((arg m c).lam) ?_
  blk_ext [(idx t).2.2.2.2.2.2.2.2.2.1]
theorem blk5 (c : Dev nD) (t : Fin cfg0.N) (h : Fin 4) (k q : Fin 256) : iblk m c 5 t (ix3 h k q) = (arg m c).wa (ix3 h k q) := by
  blk_simp [iblk]
  refine congrArg ((arg m c).wa) ?_
  blk_ext [(idx t).2.2.2.2.2.1]
theorem blk6 (c : Dev nD) (t : Fin cfg0.N) (h : Fin 4) (k q : Fin 256) : iblk m c 6 t (ix3 h k q) = (arg m c).wx (ix3 h k q) := by
  blk_simp [iblk]
  refine congrArg ((arg m c).wx) ?_
  blk_ext [(idx t).2.2.2.2.2.2.1]

theorem blk10 (c : Dev nD) (t : Fin cfg0.N) (r : Fin 512) (l : Fin 1024) : iblk m c 10 t (ix2 r l) = other m c (ix2 (row t r) l) := by
  blk_simp [iblk]
  refine congrArg (other m c) ?_
  blk_ext [(idx t).2.2.2.2.2.2.2.2.2.2.1]
theorem blk11 (c : Dev nD) (t : Fin cfg0.N) (r : Fin 512) (l : Fin 1024) : iblk m c 11 t (ix2 r l) = gateArg m c (ix2 (row t r) l) := by
  blk_simp [iblk]
  refine congrArg (gateArg m c) ?_
  blk_ext [(idx t).2.2.2.2.2.2.2.2.2.2.2.1]

/-! ### The convolved rows -/

/-- A block `a` with the rows `b` before it and `d` behind it, all cut from one array. -/
theorem around (A : Cert.Halo.Rows) (t : Fin cfg0.N) (a : S512x1024.Idx → EReal) (b d : S16x1024.Idx → EReal)
    (ha : ∀ r l, a (ix2 r l) = A (ix2 (row t r) l)) (hb : ∀ r l, b (ix2 r l) = A (ix2 ⟨_, before_lt t r⟩ l))
    (hd : ∀ r l, d (ix2 r l) = A (ix2 ⟨_, after_lt t r⟩ l)) (p q : ℕ) (hq : q < 516) (hp : p = 14 + q) (l : Fin 1024) :
    (if h : p < 16 then Scalar.select (Scalar.cmpi .eq (Scalar.subi 31#32 (BitVec.ofNat 32 ((grid0.coords t) 0).val)) 0#32) 0 (b (ix2 ⟨p, h⟩ l))
      else if h' : p - 16 < 512 then a (ix2 ⟨p - 16, h'⟩ l)
      else Scalar.select (Scalar.cmpi .eq (Scalar.subi 31#32 (BitVec.ofNat 32 ((grid0.coords t) 0).val)) 31#32) 0 (d (ix2 ⟨p - 16 - 512, by omega⟩ l))) =
    past A ((31 - t.val) * 512 + q) l := by
  have ht : t.val < 32 := t.isLt
  rw [first t, last t]
  by_cases h : p < 16
  · rw [dif_pos h]
    by_cases h0 : 31 - t.val = 0
    · rw [if_pos h0, past_outside _ _ _ (by omega)]
      rfl
    · rw [if_neg h0, past_inside A _ l ⟨_, before_lt t ⟨p, h⟩⟩ (by show ((31 - t.val) * 32 - 1) * 16 + p + 2 = _; omega)]
      exact hb _ _
  · rw [dif_neg h]
    by_cases h' : p - 16 < 512
    · rw [dif_pos h', ha, past_inside A _ l (row t ⟨p - 16, h'⟩) (by show (31 - t.val) * 512 + (p - 16) + 2 = _; omega)]
    · rw [dif_neg h']
      by_cases h0 : 31 - t.val = 31
      · rw [if_pos h0, past_outside _ _ _ (by omega)]
        rfl
      · rw [if_neg h0, past_inside A _ l ⟨_, after_lt t ⟨p - 16 - 512, by omega⟩⟩
          (by show min ((31 - t.val) * 32 + 32) 1023 * 16 + (p - 16 - 512) + 2 = _; omega)]
        exact hd _ _

theorem first_last (z a b d e : EReal) : z + a + b + d + e = a + b + d + e + z := by abel

theorem pay10_eq (A : Cert.Halo.Rows) (t : Fin cfg0.N) (a : FVec Ideal S512x1024 .bf16) (b d : FVec Ideal S16x1024 .bf16) (w : FVec Ideal S4x1024 .f32)
    (z : FVec Ideal S1x1024 .f32) (ha : ∀ r l, a (ix2 r l) = A (ix2 (row t r) l)) (hb : ∀ r l, b (ix2 r l) = A (ix2 ⟨_, before_lt t r⟩ l))
    (hd : ∀ r l, d (ix2 r l) = A (ix2 ⟨_, after_lt t r⟩ l)) (r : Fin 512) (l : Fin 1024) :
    k0_pay10 (F := Ideal) (grid0.coords t) a b d w z (ix2 r l) = z (ix2 0 l) + past A ((31 - t.val) * 512 + r.val) l * w (ix2 0 l) +
      past A ((31 - t.val) * 512 + r.val + 1) l * w (ix2 1 l) + past A ((31 - t.val) * 512 + r.val + 2) l * w (ix2 2 l) + past A ((31 - t.val) * 512 + r.val + 3) l * w (ix2 3 l) := by
  pointwise [k0_pay10]
  exact congrArg₂ (· + ·) (congrArg₂ (· + ·) (congrArg₂ (· + ·) (congrArg (z (ix2 0 l) + ·)
    (congrArg (· * w (ix2 0 l)) (around A t a b d ha hb hd ((16 + r.val + 544 - 2) % 544) r.val (by omega) (by omega) l)))
    (congrArg (· * w (ix2 1 l)) (around A t a b d ha hb hd ((16 + r.val + 544 - 1) % 544) (r.val + 1) (by omega) (by omega) l)))
    (congrArg (· * w (ix2 2 l)) ((ha r l).trans (past_inside A _ l (row t r) rfl).symm)))
    (congrArg (· * w (ix2 3 l)) (around A t a b d ha hb hd ((16 + r.val + 544 - 543) % 544) (r.val + 3) (by omega) (by omega) l))

theorem Xt_eq (c : Dev nD) (t : Fin cfg0.N) (r : Fin 512) (l : Fin 1024) : Xt m c t (ix2 r l) = conv (arg m c) ((31 - t.val) * 512 + r.val) l := by
  refine (pay10_eq (arg m c).z t _ _ _ _ _ (blk0 m c t) (blk1 m c t) (blk2 m c t) r l).trans ?_
  rw [blk3, blk3, blk3, blk3, blk4, first_last]
  rfl

/-! ### The gates -/

theorem Wa_eq (c : Dev nD) (t : Fin cfg0.N) (h : Fin 4) (inb) (k q : Fin 256) : Wa m c t h.val inb (ix3 0 k q) = (arg m c).wa (ix3 h k q) :=
  (View.ld_unit_apply_of (iblk m c 5 t) ![h.val, 0, 0] ![1, 256, 256] inb (ix3 0 k q) (ix3 h k q) (fun a => by
    fin_cases a
    · show h.val = h.val + 0; omega
    · show k.val = 0 + k.val; omega
    · show q.val = 0 + q.val; omega)).trans (blk5 m c t h k q)
theorem Wx_eq (c : Dev nD) (t : Fin cfg0.N) (h : Fin 4) (inb) (k q : Fin 256) : Wx m c t h.val inb (ix3 0 k q) = (arg m c).wx (ix3 h k q) :=
  (View.ld_unit_apply_of (iblk m c 6 t) ![h.val, 0, 0] ![1, 256, 256] inb (ix3 0 k q) (ix3 h k q) (fun a => by
    fin_cases a
    · show h.val = h.val + 0; omega
    · show k.val = 0 + k.val; omega
    · show q.val = 0 + q.val; omega)).trans (blk6 m c t h k q)

/-- The number one half, as the gates write it. -/
abbrev half : EReal := Ideal.ofBits .f32 1056964608#32

theorem pay22_eq (x : S512x1024.Idx → EReal) (ba : Vec Ideal S1x1024 .f32) (w0 w1 w2 w3 : Vec Ideal S1x256x256 .bf16) (w : Cert.LruAForm.Heads)
    (h0 : ∀ k q, w0 (ix3 0 k q) = w (ix3 0 k q)) (h1 : ∀ k q, w1 (ix3 0 k q) = w (ix3 1 k q))
    (h2 : ∀ k q, w2 (ix3 0 k q) = w (ix3 2 k q)) (h3 : ∀ k q, w3 (ix3 0 k q) = w (ix3 3 k q)) (r : Fin 512) (l : Fin 1024) :
    (k0_pay22 (F := Ideal) x ba (k0_pay13 x w0) w1 w2 w3 (ix2 r l) + half : EReal) =
      Ideal.logistic (mix (fun q => x (ix2 r q)) w l + ba (ix2 0 l)) := by
  pointwise [k0_pay22, k0_pay13, k0_pay12, k0_pay16, k0_pay18, k0_pay20]
  exact (congrArg (fun s : EReal => half * Ideal.tanh (half * (s + ba (ix2 0 l))) + half)
    (Cert.LruAForm.heads (fun q => x (ix2 r q)) w w0 w1 w2 w3 h0 h1 h2 h3 l)).trans (Cert.Reals.sig_eq_logistic _)

theorem pay26_eq (c8 : Vec Ideal S1x1024 .f32) (y : S512x1024.Idx → EReal) (r : Fin 512) (l : Fin 1024) :
    k0_pay26 (F := Ideal) c8 y (ix2 r l) = Ideal.exp (c8 (ix2 0 l) * (y (ix2 r l) + half)) := by
  pointwise [k0_pay26, k0_pay24, k0_pay23]

theorem pay27_eq (x : S512x1024.Idx → EReal) (bx c8 : Vec Ideal S1x1024 .f32) (w0 w1 w2 w3 : Vec Ideal S1x256x256 .bf16) (w : Cert.LruAForm.Heads)
    (h0 : ∀ k q, w0 (ix3 0 k q) = w (ix3 0 k q)) (h1 : ∀ k q, w1 (ix3 0 k q) = w (ix3 1 k q))
    (h2 : ∀ k q, w2 (ix3 0 k q) = w (ix3 2 k q)) (h3 : ∀ k q, w3 (ix3 0 k q) = w (ix3 3 k q)) (y : S512x1024.Idx → EReal) (r : Fin 512) (l : Fin 1024) :
    k0_pay27 (F := Ideal) x c8 bx (k0_pay15 (k0_pay12 x) (k0_pay14 w0)) (k0_pay17 x w1) (k0_pay19 x w2) (k0_pay21 x w3) y (ix2 r l) =
      Ideal.logistic (mix (fun q => x (ix2 r q)) w l + bx (ix2 0 l)) * x (ix2 r l) *
        Ideal.sqrt ((0 - Ideal.tanh (c8 (ix2 0 l) * (y (ix2 r l) + half))) *
          (Ideal.exp (c8 (ix2 0 l) * (y (ix2 r l) + half)) * Ideal.exp (c8 (ix2 0 l) * (y (ix2 r l) + half)) + 1)) := by
  pointwise [k0_pay27, k0_pay12, k0_pay14, k0_pay15, k0_pay16, k0_pay17, k0_pay18, k0_pay19, k0_pay20, k0_pay21, k0_pay23, k0_pay24]
  refine congrArg (fun s : EReal => s * x (ix2 r l) * Ideal.sqrt ((0 - Ideal.tanh (c8 (ix2 0 l) * (y (ix2 r l) + half))) *
          (Ideal.exp (c8 (ix2 0 l) * (y (ix2 r l) + half)) * Ideal.exp (c8 (ix2 0 l) * (y (ix2 r l) + half)) + 1))) ?_
  exact (congrArg (fun s : EReal => half * Ideal.tanh (half * (s + bx (ix2 0 l))) + half)
    (Cert.LruAForm.heads (fun q => x (ix2 r q)) w w0 w1 w2 w3 h0 h1 h2 h3 l)).trans (Cert.Reals.sig_eq_logistic _)

/-- The parameter's exponential is not small. -/
abbrev Wide (c : Dev nD) : Prop :=
  ∀ l, Ideal.ofBits .f32 1008981770#32 ≤ Ideal.exp (-FloatOps.absf (F := Ideal) (φ := .f32) ((arg m c).lam (ix2 0 l)))

theorem rate_eq (c : Dev nD) (hw : Wide m c) (t : Fin cfg0.N) (l : Fin 1024) : k0_pay11 (F := Ideal) (iblk m c 9 t) (ix2 0 l) = rate ((arg m c).lam (ix2 0 l)) := by
  have e : ∀ x : Vec Ideal S1x1024 .f32, x (ix2 0 l) = (arg m c).lam (ix2 0 l) → k0_pay11 (F := Ideal) x (ix2 0 l) = rate ((arg m c).lam (ix2 0 l)) := by
    intro x hx
    pointwise [k0_pay11]
    have h := hw l
    rw [← hx] at h ⊢
    exact Cert.LruAForm.rate_eq _ _ h
  exact e _ (blk9 m c t l)

theorem gateA (c : Dev nD) (t : Fin cfg0.N) (r : Fin 512) (l : Fin 1024) :
    (Gt m c t (ix2 r l) + half : EReal) = gate (arg m c) (arg m c).wa (arg m c).ba ((31 - t.val) * 512 + r.val) l := by
  refine (pay22_eq (Xt m c t) _ _ _ _ _ (arg m c).wa (Wa_eq m c t 0 _) (Wa_eq m c t 1 _) (Wa_eq m c t 2 _) (Wa_eq m c t 3 _) r l).trans ?_
  rw [blk7, gate, funext (fun q => Xt_eq m c t r q)]

theorem logDecay_eq (c : Dev nD) (hw : Wide m c) (t : Fin cfg0.N) (r : Fin 512) (l : Fin 1024) :
    (k0_pay11 (F := Ideal) (iblk m c 9 t) (ix2 0 l) * (Gt m c t (ix2 r l) + half) : EReal) =
      logDecay (arg m c) ((31 - t.val) * 512 + r.val) l :=
  congrArg₂ (· * ·) (rate_eq m c hw t l) (gateA m c t r l)

theorem At_eq (c : Dev nD) (hw : Wide m c) (t : Fin cfg0.N) (r : Fin 512) (l : Fin 1024) : At m c t (ix2 r l) = decay (arg m c) ((31 - t.val) * 512 + r.val) l :=
  (pay26_eq _ _ r l).trans (congrArg Ideal.exp (logDecay_eq m c hw t r l))

theorem lam_real (c : Dev nD) (hw : Wide m c) (l : Fin 1024) : ∃ r : ℝ, (arg m c).lam (ix2 0 l) = r := Cert.LruAForm.real_of_wide _ (hw l)

theorem At_real (c : Dev nD) (hw : Wide m c) (t : Fin cfg0.N) (i : S512x1024.Idx) : ∃ q : ℝ, 0 ≤ q ∧ At m c t i = q := by
  obtain ⟨r, l, rfl⟩ := at2 i
  rw [At_eq m c hw t r l]
  exact Cert.LruAForm.decay_real _ (lam_real m c hw) _ l

theorem Ut_eq (c : Dev nD) (hw : Wide m c) (t : Fin cfg0.N) (r : Fin 512) (l : Fin 1024) : Ut m c t (ix2 r l) = load (arg m c) ((31 - t.val) * 512 + r.val) l := by
  refine (pay27_eq (Xt m c t) _ _ _ _ _ _ (arg m c).wx (Wx_eq m c t 0 _) (Wx_eq m c t 1 _) (Wx_eq m c t 2 _) (Wx_eq m c t 3 _) _ r l).trans ?_
  rw [logDecay_eq m c hw t r l, Cert.LruAForm.rest_eq (Cert.LruAForm.logDecay_real _ (lam_real m c hw) _ l), blk8, Xt_eq, funext (fun q => Xt_eq m c t r q)]
  rfl

/-! ### The tiles, one after the other, from the last -/

/-- The hidden row after `n` steps up from the last row. -/
def climb (a : Cert.LruAForm.Args) (l : Fin 1024) : ℕ → EReal :=
  chain (fun n => decay a (16383 - n) l) (fun n => load a (16383 - n) l) 0

theorem H_eq (c : Dev nD) (hw : Wide m c) (t : Fin cfg0.N) (init : Vec Ideal S1x1024 .f32) (l : Fin 1024)
    (h : init (ix2 0 l) = climb (arg m c) l (t.val * 512)) (n : ℕ) (hn : n ≤ 512) :
    H init (At m c t) (Ut m c t) l n = climb (arg m c) l (t.val * 512 + n) := by
  have ht : t.val < 32 := t.isLt
  refine (chain_congr h n fun i hi => ?_).trans
    (chain_add (fun n => decay (arg m c) (16383 - n) l) (fun n => load (arg m c) (16383 - n) l) 0 (t.val * 512) n)
  have e : (31 - t.val) * 512 + (511 - i) = 16383 - (t.val * 512 + i) := by omega
  exact ⟨(At_eq m c hw t ⟨511 - i, up_lt i⟩ l).trans (congrArg (fun k => decay (arg m c) k l) e),
    (Ut_eq m c hw t ⟨511 - i, up_lt i⟩ l).trans (congrArg (fun k => load (arg m c) k l) e)⟩

/-- The two results. -/
def res0 (c : Dev nD) : S16384x1024.Idx → EReal := fun i => climb (arg m c) (i 1) (16384 - (i 0).val)
def res1 (c : Dev nD) : S16384x1024.Idx → EReal := fun i => both (other m c i) (res0 m c i) (gateArg m c i)

/-- What a tile leaves, when it is handed the recurrence's row below it. -/
theorem left_rows (c : Dev nD) (hw : Wide m c) (t : Fin cfg0.N) (init : Vec Ideal S1x1024 .f32) (o : Outs Ideal)
    (hi : ∀ l, init (ix2 0 l) = climb (arg m c) l (t.val * 512)) (h : Left m c t init o) :
    (∀ l, o.2.2 (ix2 0 l) = climb (arg m c) l (t.val * 512 + 512)) ∧ (∀ (r : Fin 512) l, o.1 (ix2 r l) = res0 m c (ix2 (row t r) l)) ∧
      ∀ (r : Fin 512) l, o.2.1 (ix2 r l) = res1 m c (ix2 (row t r) l) := by
  have ht : t.val < 32 := t.isLt
  have up : ∀ (r : Fin 512) l, H init (At m c t) (Ut m c t) l (512 - r.val) = res0 m c (ix2 (row t r) l) := fun r l =>
    (H_eq m c hw t init l (hi l) (512 - r.val) (by omega)).trans (congrArg (climb (arg m c) l) (by
      show t.val * 512 + (512 - r.val) = 16384 - ((31 - t.val) * 512 + r.val)
      omega))
  refine ⟨fun l => (h.1 l).trans (H_eq m c hw t init l (hi l) 512 le_rfl), fun r l => (h.2.1 r l).trans (up r l), fun r l => (h.2.2 r l).trans ?_⟩
  rw [up r l, blk10, blk11]
  rfl

theorem pay25_eq (l : Fin 1024) : k0_pay25 (F := Ideal) (ix2 0 l) = 0 := by
  pointwise [k0_pay25]

theorem tiles (c : Dev nD) (hw : Wide m c) (n : ℕ) (hn : n < cfg0.N) :
    (∀ l, (outsAt0 m c n hn).2.2 (ix2 0 l) = climb (arg m c) l (n * 512 + 512)) ∧
      (∀ (r : Fin 512) l, (outsAt0 m c n hn).1 (ix2 r l) = res0 m c (ix2 (row ⟨n, hn⟩ r) l)) ∧
      ∀ (r : Fin 512) l, (outsAt0 m c n hn).2.1 (ix2 r l) = res1 m c (ix2 (row ⟨n, hn⟩ r) l) := by
  induction n with
  | zero =>
    rw [outsAt0_A m c ⟨0, hn⟩ (Nat.zero_mod _)]
    exact left_rows m c hw ⟨0, hn⟩ _ _ (fun l => (pay25_eq l).trans (by rw [Nat.zero_mul]; rfl)) (leftA m c ⟨0, hn⟩ (At_real m c hw _) _)
  | succ n ih =>
    have hN : n + 1 < 32 := hn
    have h0 : ¬ (n + 1) % 32 = 0 := by omega
    rw [outsAt0_B m c ⟨n + 1, hn⟩ h0]
    exact left_rows m c hw ⟨n + 1, hn⟩ _ _ (fun l => ((ih (Nat.lt_of_succ_lt hn)).1 l).trans (by show climb _ l (n * 512 + 512) = climb _ l ((n + 1) * 512); congr 1; omega))
      (leftB m c ⟨n + 1, hn⟩ (At_real m c hw _) h0 _)

theorem final0 (c : Dev nD) (hw : Wide m c) : (dats m 0 c).arrAt 12 cfg0.N = res0 m c := by
  have key := fun (t : Fin cfg0.N) => (tiles m c hw t.val t.isLt).2.1
  generalize res0 m c = R at key ⊢
  refine (dats m 0 c).arrAt_eq_of_covers 12 _ (by decide +kernel) fun t hf y => ?_
  blk_simp
  obtain ⟨r, l, rfl⟩ := at2 y
  have e : ((View.whole main_v0_0).slice (win0_12.rect t)).emb (ix2 r l) = ix2 (row t r) l := by
    blk_ext [(idx t).2.2.2.2.2.2.2.2.2.2.2.2.1]
  rw [after0_12, e]
  exact key t r l

theorem final1 (c : Dev nD) (hw : Wide m c) : (dats m 0 c).arrAt 13 cfg0.N = res1 m c := by
  have key := fun (t : Fin cfg0.N) => (tiles m c hw t.val t.isLt).2.2
  generalize res1 m c = R at key ⊢
  refine (dats m 0 c).arrAt_eq_of_covers 13 _ (by decide +kernel) fun t hf y => ?_
  blk_simp
  obtain ⟨r, l, rfl⟩ := at2 y
  have e : ((View.whole main_v0_1).slice (win0_13.rect t)).emb (ix2 r l) = ix2 (row t r) l := by
    blk_ext [(idx t).2.2.2.2.2.2.2.2.2.2.2.2.2]
  rw [after0_13, e]
  exact key t r l

end Cert.LruDTile

end
-- ==== Proof.LruDRefRun.lean ====
module

public import proofs.«01_k».proof.Proof.Reals
public import proofs.«01_k».proof.Proof.Gen.RLruDIdeal.Run
public import proofs.«01_k».proof.Proof.LruARef
public import proofs.«01_k».proof.Proof.BcGrad

/-! The plain lines of the recurrence from the last row up run: what they leave, place by place. The decays and the loads
are the other direction's. -/

@[expose] public section

set_option maxRecDepth 16384

noncomputable section

namespace Cert.LruDRefRun

open Idealize.ShloMosaic Idealize.ShloMosaic.TcCoe Idealize.SL.Sem Idealize.ShloMosaic.StableHlo
open Cert.RLruDIdeal Cert.RLruDIdeal.Gen Cert.RLruDIdeal.Value
open Cert.LruAScan (chain)
open Cert.LruAReference (word_row clamp_row slices_row)

abbrev Row := FVec Ideal S1024 .f32
abbrev Rows := FVec Ideal S16384x1024 .f32
abbrev Word := IVec S_ 32

/-! ### One row read, one row written -/

/-- The row the word `w` names, kept as a row and flat. -/
def slice (A : Rows) (w : Word) : FVec Ideal S1x1024 .f32 :=
  Host.dynamicSlice S1x1024 A (fun k => (((![w, constantI S_ 32 0#32] : Fin 2 → (⟨S_, .i32⟩ : BufTy).Contents (Elt Ideal))) k (Shape.Idx.first h_S_)).toInt)
    sliceFits_S16384x1024_S1x1024
def row (A : Rows) (w : Word) : Row := shapeCast S1024 (slice A w) shapeCasts_S1x1024_S1024

/-- One step of the recurrence. -/
def stepRow (D U : Rows) (h : Row) (w : Word) : Row := addf (F := Ideal) (φ := .f32) (mulf (row D w) h) (row U w)

/-- The rows with one of them written. -/
def written (O : Rows) (h : Row) (w : Word) : Rows :=
  Host.dynamicUpdateSlice O (broadcastInDim S1x1024 ![1] bcast_S1024_S1x1024_1 h)
    (fun k => (((![w, constantI S_ 32 0#32] : Fin 2 → (⟨S_, .i32⟩ : BufTy).Contents (Elt Ideal))) k (Shape.Idx.first h_S_)).toInt)
    updateFits_S16384x1024_S1x1024

theorem slice_eq (A : Rows) (n : ℕ) (h : n < 16384) (l : Fin 1024) : slice A (constantI S_ 32 (BitVec.ofNat 32 n)) (ix2 0 l) = A (ix2 ⟨n, h⟩ l) := by
  unfold slice Host.dynamicSlice
  refine congrArg A (funext fun a => Fin.ext ?_)
  match a with
  | ⟨0, _⟩ =>
    show (min (max (BitVec.ofNat 32 n).toInt 0) ((16384 - 1 : ℕ) : ℤ)).toNat + 0 = n
    rw [clamp_row n h, Nat.add_zero]
  | ⟨1, _⟩ =>
    show (min (max (BitVec.toInt (0#32 : BitVec 32)) 0) ((1024 - 1024 : Nat) : Int)).toNat + l.val = l.val
    simp

theorem row_eq (A : Rows) (n : ℕ) (h : n < 16384) (l : Fin 1024) : row A (constantI S_ 32 (BitVec.ofNat 32 n)) (ix1 l) = A (ix2 ⟨n, h⟩ l) := by
  refine Eq.trans ?_ (slice_eq A n h l)
  unfold row
  generalize slice A (constantI S_ 32 (BitVec.ofNat 32 n)) = R
  pointwise

theorem stepRow_eq (D U : Rows) (h : Row) (n : ℕ) (hn : n < 16384) (l : Fin 1024) :
    stepRow D U h (constantI S_ 32 (BitVec.ofNat 32 n)) (ix1 l) = (D (ix2 ⟨n, hn⟩ l) * h (ix1 l) + U (ix2 ⟨n, hn⟩ l) : EReal) :=
  congrArg₂ (fun x y : EReal => x * h (ix1 l) + y) (row_eq D n hn l) (row_eq U n hn l)

theorem written_eq (O : Rows) (h : Row) (n : ℕ) (hn : n < 16384) (r : Fin 16384) (l : Fin 1024) :
    written O h (constantI S_ 32 (BitVec.ofNat 32 n)) (ix2 r l) = if r.val = n then h (ix1 l) else O (ix2 r l) := by
  unfold written
  rw [Idealize.ShloMosaic.WordCmp.dynamicUpdateSlice_eq_update _ _ _ _ ![n, 0] (slices_row n hn) (by
    intro a
    fin_cases a
    · exact word_row n hn
    · rfl)]
  unfold updateSlice
  by_cases e : r.val = n
  · rw [if_pos e, dif_pos (by
      intro a
      fin_cases a
      · show n ≤ r.val ∧ r.val < n + 1; omega
      · show 0 ≤ l.val ∧ l.val < 0 + 1024; omega)]
    unfold broadcastInDim
    refine congrArg h (funext fun a => Fin.ext ?_)
    fin_cases a
    rfl
  · rw [if_neg e, dif_neg (by
      intro hh
      have h0 : n ≤ r.val ∧ r.val < n + 1 := hh 0
      omega)]

/-! ### The trips -/

theorem up_lt (n : ℕ) : 16383 - n < 16384 := by omega

theorem words (n : ℕ) (h : n < 16384) : 16384#32 - BitVec.ofNat 32 n - 1#32 = BitVec.ofNat 32 (16383 - n) := by
  refine BitVec.eq_of_toNat_eq ?_
  simp only [BitVec.toNat_sub, BitVec.toNat_ofNat]
  omega

/-- The row a trip turns to. -/
theorem turn (V : Valuation τ sig (Elt Ideal)) (n : ℕ) (h : n < 16384) (hV : V (Proc.devRef .tc main_v74_2) = constantI S_ 32 (BitVec.ofNat 32 n)) :
    res_main_while0b_v93 V = constantI S_ 32 (BitVec.ofNat 32 (16383 - n)) := by
  unfold res_main_while0b_v93
  rw [hV]
  exact funext fun _ => words n h

/-- The hidden row after `n` steps up from the last row. -/
abbrev climb (D U : Rows) (l : Fin 1024) : ℕ → EReal :=
  chain (fun n => D (ix2 ⟨16383 - n, up_lt n⟩ l)) (fun n => U (ix2 ⟨16383 - n, up_lt n⟩ l)) 0

/-- The host's buffers before trip `j`. -/
structure Hosts (D U : Rows) (V : Valuation τ sig (Elt Ideal)) (j : ℕ) : Prop where
  decays : V (Proc.devRef .tc main_v74_0) = D
  loads : V (Proc.devRef .tc main_v74_1) = U
  count : V (Proc.devRef .tc main_v74_2) = constantI S_ 32 (BitVec.ofNat 32 j)
  carry : ∀ l, (V (Proc.devRef .tc main_v74_3) : Row) (ix1 l) = climb D U l j
  out : ∀ (r : Fin 16384) l, 16384 ≤ r.val + j → (V (Proc.devRef .tc main_v74_4) : Rows) (ix2 r l) = climb D U l (16384 - r.val)

theorem Hosts.next {D U : Rows} {V : Valuation τ sig (Elt Ideal)} {j : ℕ} (hj : j < 16384) (h : Hosts D U V j) : Hosts D U (STEP V) (j + 1) := by
  obtain ⟨h0, h1, hn, h3, h4⟩ := h
  have w := turn V j hj hn
  have made : ∀ l, (res_main_while0b_v97 V : Row) (ix1 l) = climb D U l (j + 1) := by
    intro l
    have e : res_main_while0b_v97 V = stepRow D U (V (Proc.devRef .tc main_v74_3)) (constantI S_ 32 (BitVec.ofNat 32 (16383 - j))) := by
      unfold res_main_while0b_v97
      rw [w, h0, h1]
      rfl
    rw [e, stepRow_eq _ _ _ _ (up_lt j), h3]
    rfl
  constructor
  · exact (STEP_main_v74_0 V).trans h0
  · exact (STEP_main_v74_1 V).trans h1
  · refine (STEP_main_v74_2 V).trans ?_
    unfold step_main_v74_2
    rw [hn]
    funext i
    show BitVec.ofNat 32 j + 1#32 = BitVec.ofNat 32 (j + 1)
    simp only [BitVec.ofNat_add]
  · intro l
    rw [STEP_main_v74_3]
    exact made l
  · intro r l hr
    rw [STEP_main_v74_4]
    have e : step_main_v74_4 V = written (V (Proc.devRef .tc main_v74_4)) (res_main_while0b_v97 V) (constantI S_ 32 (BitVec.ofNat 32 (16383 - j))) := by
      unfold step_main_v74_4
      rw [w]
      rfl
    rw [e, written_eq _ _ _ (up_lt j)]
    by_cases q : r.val = 16383 - j
    · rw [if_pos q, made]
      exact congrArg (climb D U l) (by omega)
    · rw [if_neg q]
      exact h4 r l (by omega)

/-! ### The run -/

variable (m : (ℓ : Loc nD τ sig) → Buf (Elt Ideal) ℓ) (c : Dev nD)

/-- The decays and the loads, of the arguments the run starts from. -/
def D : Rows := Cert.RLruAIdeal.Step.A_main_v64 (F := Ideal) (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7))
def U : Rows := Cert.RLruAIdeal.Step.A_main_v71 (F := Ideal) (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7))

set_option maxRecDepth 65536 in
set_option maxHeartbeats 1000000 in
theorem entry0 : entryContents preI m c (Proc.devRef .tc main_v74_0) = D m c := by
  simp only [entryContents, afterL_cons, afterL_nil]; after_reads_simp; rfl
set_option maxRecDepth 65536 in
set_option maxHeartbeats 1000000 in
theorem entry1 : entryContents preI m c (Proc.devRef .tc main_v74_1) = U m c := by
  simp only [entryContents, afterL_cons, afterL_nil]; after_reads_simp; rfl
set_option maxRecDepth 65536 in
set_option maxHeartbeats 1000000 in
theorem entry2 : entryContents preI m c (Proc.devRef .tc main_v74_2) = constantI S_ 32 (BitVec.ofNat 32 0) := by
  simp only [entryContents, afterL_cons, afterL_nil]; after_reads_simp; rfl
set_option maxRecDepth 65536 in
set_option maxHeartbeats 1000000 in
theorem entry3 : entryContents preI m c (Proc.devRef .tc main_v74_3) = (Cert.RLruAIdeal.Step.K_main_v72 (F := Ideal) : Row) := by
  simp only [entryContents, afterL_cons, afterL_nil]; after_reads_simp; rfl

theorem hosts (k : ℕ) (hk : k ≤ 16384) : Hosts (D m c) (U m c) (STEP^[k] (entryContents preI m c)) k := by
  induction k with
  | zero =>
    refine ⟨entry0 m c, entry1 m c, entry2 m c, fun l => ?_, fun r l hr => absurd hr (by omega)⟩
    rw [Function.iterate_zero, id_eq, entry3]
    pointwise [Cert.RLruAIdeal.Step.K_main_v72, Cert.RLruAIdeal.Step.K_main_cst_7]
    rfl
  | succ k ih =>
    rw [Function.iterate_succ_apply']
    exact (ih (by omega)).next (by omega)

/-- The sum of the two recurrences, gated. -/
def both (x y z : EReal) : EReal := (x + y) * Cert.BcGrad.gelu' z

/-- The two results. -/
def out0 : Rows := fun i => climb (D m c) (U m c) (i 1) (16384 - (i 0).val)
def out1 : FVec Ideal S16384x1024 .bf16 := fun i => both (m ((c.tc : Thread nD τ).loc main_arg8) i) (out0 m c i) (m ((c.tc : Thread nD τ).loc main_arg9) i)

theorem rows : (STEP^[16384] (entryContents preI m c)) (Proc.devRef .tc main_v74_4) = out0 m c := by
  exact ext2 fun r l => (hosts m c 16384 le_rfl).out r l (Nat.le_add_left _ _)

/-- What the lines after the loop make. -/
def gateLines (x y : Rows) (z : FVec Ideal S16384x1024 .bf16) : FVec Ideal S16384x1024 .bf16 :=
  truncf .bf16 (mulf (addf x y) (mulf (extf .f32 z bitsLt_bf16_f32) (mulf (broadcastInDim S16384x1024 ![] bcast_S_S16384x1024 (constant S_ .f32 0x3F000000#32))
    (addf (broadcastInDim S16384x1024 ![] bcast_S_S16384x1024 (constant S_ .f32 0x3F800000#32)) (Host.tanh (mulf (broadcastInDim S16384x1024 ![] bcast_S_S16384x1024 (constant S_ .f32 0x3F4C422A#32))
      (addf (extf .f32 z bitsLt_bf16_f32) (mulf (broadcastInDim S16384x1024 ![] bcast_S_S16384x1024 (constant S_ .f32 0x3D372713#32))
        (mulf (mulf (extf .f32 z bitsLt_bf16_f32) (extf .f32 z bitsLt_bf16_f32)) (extf .f32 z bitsLt_bf16_f32)))))))))) bitsLt_bf16_f32

theorem gateLines_eq (x y : Rows) (z : FVec Ideal S16384x1024 .bf16) (r : Fin 16384) (l : Fin 1024) :
    gateLines x y z (ix2 r l) = both (x (ix2 r l)) (y (ix2 r l)) (z (ix2 r l)) := by
  pointwise [gateLines]
  rfl

theorem after : out_main_v91 (STEP^[16384] (entryContents preI m c)) = out1 m c := by
  have e : out_main_v91 (STEP^[16384] (entryContents preI m c)) = gateLines (m ((c.tc : Thread nD τ).loc main_arg8)) (out0 m c) (m ((c.tc : Thread nD τ).loc main_arg9)) := by
    unfold out_main_v91
    rw [iter_main_arg8 m c 16384, iter_main_arg9 m c 16384, rows]
    rfl
  rw [e]
  exact ext2 fun r l => gateLines_eq _ _ _ r l

/-- The run: the two results, and the arguments kept. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v74_4) = out0 m c ∧ r.2.mem ((c.tc : Thread nD τ).loc main_v91) = out1 m c ∧
        (r.2.mem ((c.tc : Thread nD τ).loc main_arg0) = m ((c.tc : Thread nD τ).loc main_arg0) ∧
          r.2.mem ((c.tc : Thread nD τ).loc main_arg1) = m ((c.tc : Thread nD τ).loc main_arg1) ∧
          r.2.mem ((c.tc : Thread nD τ).loc main_arg2) = m ((c.tc : Thread nD τ).loc main_arg2) ∧
          r.2.mem ((c.tc : Thread nD τ).loc main_arg3) = m ((c.tc : Thread nD τ).loc main_arg3) ∧
          r.2.mem ((c.tc : Thread nD τ).loc main_arg4) = m ((c.tc : Thread nD τ).loc main_arg4) ∧
          r.2.mem ((c.tc : Thread nD τ).loc main_arg5) = m ((c.tc : Thread nD τ).loc main_arg5) ∧
          r.2.mem ((c.tc : Thread nD τ).loc main_arg6) = m ((c.tc : Thread nD τ).loc main_arg6) ∧
          r.2.mem ((c.tc : Thread nD τ).loc main_arg7) = m ((c.tc : Thread nD τ).loc main_arg7) ∧
          r.2.mem ((c.tc : Thread nD τ).loc main_arg8) = m ((c.tc : Thread nD τ).loc main_arg8) ∧
          r.2.mem ((c.tc : Thread nD τ).loc main_arg9) = m ((c.tc : Thread nD τ).loc main_arg9)) :=
  (θ_run defs _ _).mono (fun _ h c => ⟨(h c).1.trans (rows m c), (h c).2.1.trans (after m c), (h c).2.2⟩) (Value.run m ρ)

end Cert.LruDRefRun

end
-- ==== Proof.LruDClaim.lean ====
module

public import proofs.«01_k».proof.Proof.LruDTile
public import proofs.«01_k».proof.Proof.LruDRefRun
public import proofs.«01_k».proof.Proof.Finite
public import proofs.«01_k».proof.Proof.Gate
public import proofs.«01_k».proof.Defs
public import Idealize.ShloMosaic.Lib.Quiescent

/-! The gated recurrence's second forward call and its plain lines: the two runs put beside each other. -/

@[expose] public section

set_option maxRecDepth 16384

noncomputable section

namespace Cert.LruDClaim

open Idealize.ShloMosaic Idealize.SL.Sem
open Cert.LruAScan (chain_congr)
open Cert.Gate (gelu_eq)

/-- The precondition's shape relation. -/
instance preFacts : Cert.Pre_wide_lrud.Facts := ⟨by decide⟩

/-- The named product of constants. -/
theorem preserves : Cert.preserves_KLruD_KLruDIdeal :=
  IdealRules.named_const.statement Cert.KLruDIdeal.κ "gelu_kc" .f32 0x3D122279#32 ((80338380498831 / 2251799813685248 : ℝ) : EReal) rfl

/-- The reference runs and leaves its arguments. -/
theorem refFrame : Cert.quiescent_RLruDIdeal (hRLruDIdeal := Cert.RLruDIdeal.Gen.facts) := fun m ρ _ =>
  (θ_run _ _ _).mono (fun r h => ⟨fun c => (h c).2.2, sem_eq_zero_of_no_sems (by decide) r.2⟩) (LruDRefRun.run m ρ)

/-- What the precondition says of the recurrence's parameter. -/
theorem wide_of_pre (x0 x1 x2 x3 x4 x5 x6 x7 x8 x9) (h : Cert.Pre_wide_lrud.fn (F := Ideal) x0 x1 x2 x3 x4 x5 x6 x7 x8 x9 = fun _ => 1#1) (l : Fin 1024) :
    Ideal.ofBits .f32 1008981770#32 ≤ Ideal.exp (-FloatOps.absf (F := Ideal) (φ := .f32) (x7 (ix2 0 l))) := by
  have := congrFun h (ix2 0 l)
  revert this
  pointwise [Cert.Pre_wide_lrud.fn]
  intro h
  exact of_decide_eq_true (Finite.of_bit.mp h)

/-- Kernel and reference end with the same two results. -/
theorem algebraic : Cert.algebraic_KLruDIdeal_RLruDIdeal_pre_wide_lrud (hKLruDIdeal := Cert.KLruDIdeal.Gen.facts)
    (hRLruDIdeal := Cert.RLruDIdeal.Gen.facts) (hPre_wide_lrud := preFacts) := by
  intro m g m' g' hp hag
  refine ⟨fun c => LruDTile.res0 m c, fun c => LruDTile.res1 m c, ?_, ?_⟩
  · refine (θ_run _ _ _).mono (fun r h c => ?_) (LruDFrame.run_blocks (F := Ideal) m g)
    obtain ⟨h0, h1, ha⟩ := h c
    have hw := wide_of_pre _ _ _ _ _ _ _ _ _ _ (hp c)
    exact ⟨h0.trans (LruDTile.final0 m c hw), h1.trans (LruDTile.final1 m c hw), ha⟩
  · refine (θ_run _ _ _).mono (fun r h c => ?_) (LruDRefRun.run m' g')
    obtain ⟨h0, h1, ha⟩ := h c
    obtain ⟨e0, e1, e2, e3, e4, e5, e6, e7, e8, e9⟩ := hag c
    have climbs : ∀ l n, LruDRefRun.climb (LruDRefRun.D m' c) (LruDRefRun.U m' c) l n = LruDTile.climb (LruDTile.arg m c) l n := by
      intro l n
      unfold LruDRefRun.D LruDRefRun.U
      rw [e0, e1, e2, e3, e4, e5, e6, e7]
      exact chain_congr rfl n fun k _ =>
        ⟨LruAReference.v64_eq _ _ _ _ _ _ _ _ ⟨16383 - k, LruDRefRun.up_lt k⟩ l, LruAReference.v71_eq _ _ _ _ _ _ _ _ ⟨16383 - k, LruDRefRun.up_lt k⟩ l⟩
    have first : LruDRefRun.out0 m' c = LruDTile.res0 m c := funext fun i => climbs (i 1) (16384 - (i 0).val)
    refine ⟨h0.trans first, h1.trans ?_, ha⟩
    unfold LruDRefRun.out1
    rw [first, e8, e9]
    exact funext fun i => congrArg ((LruDTile.other m c i + LruDTile.res0 m c i) * ·) (gelu_eq _)

end Cert.LruDClaim

end
-- ==== Proof.lean ====
module

public import proofs.«01_k».proof.Defs
public import proofs.«01_k».proof.Proof.Gen.KLoss.Frame
public import proofs.«01_k».proof.Proof.Gen.KFfn.Frame
public import proofs.«01_k».proof.Proof.Gen.KInNorm.Frame
public import proofs.«01_k».proof.Proof.Gen.KInNorm4.Frame
public import proofs.«01_k».proof.Proof.Gen.KMerge.Frame
public import proofs.«01_k».proof.Proof.Gen.KConv.Frame
public import proofs.«01_k».proof.Proof.Gen.KBc.Frame
public import proofs.«01_k».proof.Proof.Gen.KMix.Frame
public import proofs.«01_k».proof.Proof.Gen.KUp.Frame
public import proofs.«01_k».proof.Proof.Gen.KDown.Frame
public import proofs.«01_k».proof.Proof.Gen.KIn.Frame
public import proofs.«01_k».proof.Proof.Gen.KProj.Frame
public import proofs.«01_k».proof.Proof.Gen.KOut.Frame
public import proofs.«01_k».proof.Proof.Gen.RLruAIdeal.Run
public import proofs.«01_k».proof.Proof.Gen.RLruAIdeal.Step
public import proofs.«01_k».proof.Proof.LruABits
public import proofs.«01_k».proof.Proof.Gen.RLruDIdeal.Run
public import proofs.«01_k».proof.Proof.LruDBits
public import proofs.«01_k».proof.Proof.LruCFrame
public import proofs.«01_k».proof.Proof.LossClaim
public import proofs.«01_k».proof.Proof.FfnClaim
public import proofs.«01_k».proof.Proof.InNormClaim
public import proofs.«01_k».proof.Proof.InNorm4Claim
public import proofs.«01_k».proof.Proof.MergeClaim
public import proofs.«01_k».proof.Proof.ConvClaim
public import proofs.«01_k».proof.Proof.BcClaim
public import proofs.«01_k».proof.Proof.MixClaim
public import proofs.«01_k».proof.Proof.UpClaim
public import proofs.«01_k».proof.Proof.DownClaim
public import proofs.«01_k».proof.Proof.InClaim
public import proofs.«01_k».proof.Proof.ProjClaim
public import proofs.«01_k».proof.Proof.OutClaim
public import proofs.«01_k».proof.Proof.LruAClaim
public import proofs.«01_k».proof.Proof.LruDClaim

/-! The claims of the statement, each from its module. -/

@[expose] public section

noncomputable section

namespace Cert.Proof

open Idealize.ShloMosaic Idealize.SL.Sem

theorem claim : Cert.Claim := ⟨Cert.KLoss.Gen.facts, Cert.KLossIdeal.Gen.facts, Cert.RLossIdeal.Gen.facts, Cert.KFfn.Gen.facts, Cert.KFfnIdeal.Gen.facts, Cert.RFfnIdeal.Gen.facts, Cert.KInNorm.Gen.facts, Cert.KInNormIdeal.Gen.facts, Cert.RInNormIdeal.Gen.facts, Cert.KInNorm4.Gen.facts, Cert.KInNorm4Ideal.Gen.facts, Cert.RInNorm4Ideal.Gen.facts, Cert.KMerge.Gen.facts, Cert.KMergeIdeal.Gen.facts, Cert.RMergeIdeal.Gen.facts, Cert.KConv.Gen.facts, Cert.KConvIdeal.Gen.facts, Cert.RConvIdeal.Gen.facts, Cert.KBc.Gen.facts, Cert.KBcIdeal.Gen.facts, Cert.RBcIdeal.Gen.facts, Cert.KMix.Gen.facts, Cert.KMixIdeal.Gen.facts, Cert.RMixIdeal.Gen.facts, Cert.KUp.Gen.facts, Cert.KUpIdeal.Gen.facts, Cert.RUpIdeal.Gen.facts, Cert.KDown.Gen.facts, Cert.KDownIdeal.Gen.facts, Cert.RDownIdeal.Gen.facts, Cert.KIn.Gen.facts, Cert.KInIdeal.Gen.facts, Cert.RInIdeal.Gen.facts, Cert.KProj.Gen.facts, Cert.KProjIdeal.Gen.facts, Cert.RProjIdeal.Gen.facts, Cert.KOut.Gen.facts, Cert.KOutIdeal.Gen.facts, Cert.ROutIdeal.Gen.facts, Cert.KLruA.Gen.facts, Cert.KLruAIdeal.Gen.facts, Cert.RLruAIdeal.Gen.facts, Cert.KLruD.Gen.facts, Cert.KLruDIdeal.Gen.facts, Cert.RLruDIdeal.Gen.facts, Cert.KLruC.Gen.facts, Cert.KLruCIdeal.Gen.facts, Cert.FfnClaim.preFacts, Cert.BcClaim.preFacts, Cert.LruAClaim.preFacts, Cert.LruDClaim.preFacts,
  fun m ρ _ => Cert.KLoss.Gen.frame m ρ,
  fun m ρ _ => Cert.KLossIdeal.Gen.frame m ρ,
  LossClaim.refFrame,
  fun m ρ _ => Cert.KFfn.Gen.frame m ρ,
  fun m ρ _ => Cert.KFfnIdeal.Gen.frame m ρ,
  fun m ρ _ => Cert.KFfnIdeal.Gen.frame m ρ,
  FfnClaim.refFrame,
  fun m ρ _ => FfnClaim.refFrame m ρ trivial,
  fun m ρ _ => Cert.KInNorm.Gen.frame m ρ,
  fun m ρ _ => Cert.KInNormIdeal.Gen.frame m ρ,
  InNormClaim.refFrame,
  fun m ρ _ => Cert.KInNorm4.Gen.frame m ρ,
  fun m ρ _ => Cert.KInNorm4Ideal.Gen.frame m ρ,
  InNorm4Claim.refFrame,
  fun m ρ _ => Cert.KMerge.Gen.frame m ρ,
  fun m ρ _ => Cert.KMergeIdeal.Gen.frame m ρ,
  MergeClaim.refFrame,
  fun m ρ _ => Cert.KConv.Gen.frame m ρ,
  fun m ρ _ => Cert.KConvIdeal.Gen.frame m ρ,
  ConvClaim.refFrame,
  fun m ρ _ => Cert.KBc.Gen.frame m ρ,
  fun m ρ _ => Cert.KBcIdeal.Gen.frame m ρ,
  fun m ρ _ => Cert.KBcIdeal.Gen.frame m ρ,
  BcClaim.refFrame,
  fun m ρ _ => BcClaim.refFrame m ρ trivial,
  fun m ρ _ => Cert.KMix.Gen.frame m ρ,
  fun m ρ _ => Cert.KMixIdeal.Gen.frame m ρ,
  MixClaim.refFrame,
  fun m ρ _ => Cert.KUp.Gen.frame m ρ,
  fun m ρ _ => Cert.KUpIdeal.Gen.frame m ρ,
  UpClaim.refFrame,
  fun m ρ _ => Cert.KDown.Gen.frame m ρ,
  fun m ρ _ => Cert.KDownIdeal.Gen.frame m ρ,
  DownClaim.refFrame,
  fun m ρ _ => Cert.KIn.Gen.frame m ρ,
  fun m ρ _ => Cert.KInIdeal.Gen.frame m ρ,
  InClaim.refFrame,
  fun m ρ _ => Cert.KProj.Gen.frame m ρ,
  fun m ρ _ => Cert.KProjIdeal.Gen.frame m ρ,
  ProjClaim.refFrame,
  fun m ρ _ => Cert.KOut.Gen.frame m ρ,
  fun m ρ _ => Cert.KOutIdeal.Gen.frame m ρ,
  OutClaim.refFrame,
  Cert.LruABits.frame,
  fun m ρ _ => Cert.LruAFrame.frame_all m ρ,
  fun m ρ _ => Cert.LruAFrame.frame_all m ρ,
  LruAClaim.refFrame,
  fun m ρ _ => LruAClaim.refFrame m ρ trivial,
  Cert.LruDBits.frame,
  fun m ρ _ => Cert.LruDFrame.frame_all m ρ,
  fun m ρ _ => Cert.LruDFrame.frame_all m ρ,
  LruDClaim.refFrame,
  fun m ρ _ => LruDClaim.refFrame m ρ trivial,
  Cert.LruCFrame.frame,
  Cert.LruCFrame.frameIdeal,
  trivial,
  LossClaim.algebraic,
  trivial,
  FfnClaim.algebraic,
  trivial,
  InNormClaim.algebraic,
  trivial,
  InNorm4Claim.algebraic,
  trivial,
  MergeClaim.algebraic,
  trivial,
  ConvClaim.algebraic,
  BcClaim.preserves,
  BcClaim.algebraic,
  MixClaim.preserves,
  MixClaim.algebraic,
  trivial,
  UpClaim.algebraic,
  trivial,
  DownClaim.algebraic,
  trivial,
  InClaim.algebraic,
  trivial,
  ProjClaim.algebraic,
  trivial,
  OutClaim.algebraic,
  trivial,
  LruAClaim.algebraic,
  LruDClaim.preserves,
  LruDClaim.algebraic,
  trivial⟩

end Cert.Proof

end
